-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S6x256x18432 : Shape := ⟨3, ![6, 256, 18432]⟩
abbrev S6x256 : Shape := ⟨2, ![6, 256]⟩
abbrev S_ : Shape := ⟨0, ![]⟩

class Facts : Prop where
  bcast_S_S6x256 : S_.BroadcastsInDim S6x256 (![] : Fin 0 → Fin S6x256.rank)

variable [Facts]

def fn {F : FTy → Type} [FloatOps F] (main_arg0 : IVec S6x256x18432 8) (main_arg1 : FVec F S6x256 .f32) (main_arg2 : IVec S6x256 32) (main_arg3 : IVec S6x256 32) : IVec S6x256 1 :=
  let main_c : IVec S_ 32 := constantI S_ 32 0#32
  let main_v0 : IVec S6x256 32 := broadcastInDim S6x256 ![] bcast_S_S6x256 main_c
  let main_v1 : IVec S6x256 1 := cmpi .sge main_arg3 main_v0
  let main_c_0 : IVec S_ 32 := constantI S_ 32 1536#32
  let main_v2 : IVec S6x256 32 := broadcastInDim S6x256 ![] bcast_S_S6x256 main_c_0
  let main_v3 : IVec S6x256 1 := cmpi .slt main_arg3 main_v2
  let main_v4 : IVec S6x256 1 := andi main_v1 main_v3
  main_v4
-- ==== Kernel.lean ====
abbrev S6x256x18432 : Shape := ⟨3, ![6, 256, 18432]⟩
abbrev S6x256 : Shape := ⟨2, ![6, 256]⟩
abbrev S384x4x18432 : Shape := ⟨3, ![384, 4, 18432]⟩
abbrev S384x18432x4 : Shape := ⟨3, ![384, 18432, 4]⟩
abbrev S384x18432 : Shape := ⟨2, ![384, 18432]⟩
abbrev S192x144x8x128 : Shape := ⟨4, ![192, 144, 8, 128]⟩
abbrev S144x392x128 : Shape := ⟨3, ![144, 392, 128]⟩
abbrev S24x144x8x128 : Shape := ⟨4, ![24, 144, 8, 128]⟩
abbrev S144x8x128 : Shape := ⟨3, ![144, 8, 128]⟩
abbrev S1537 : Shape := ⟨1, ![1537]⟩
abbrev S193 : Shape := ⟨1, ![193]⟩
abbrev S_ : Shape := ⟨0, ![]⟩
abbrev S24 : Shape := ⟨1, ![24]⟩
abbrev S1x384x128 : Shape := ⟨3, ![1, 384, 128]⟩
abbrev S384x128 : Shape := ⟨2, ![384, 128]⟩
abbrev S1 : Shape := ⟨1, ![1]⟩
abbrev S1x1 : Shape := ⟨2, ![1, 1]⟩
abbrev S1x144x8x128 : Shape := ⟨4, ![1, 144, 8, 128]⟩
abbrev S56448x128 : Shape := ⟨2, ![56448, 128]⟩
abbrev S8x128 : Shape := ⟨2, ![8, 128]⟩
abbrev S32x128 : Shape := ⟨2, ![32, 128]⟩
abbrev S27648x128 : Shape := ⟨2, ![27648, 128]⟩
abbrev S16x128 : Shape := ⟨2, ![16, 128]⟩
abbrev S192x8x144x128 : Shape := ⟨4, ![192, 8, 144, 128]⟩
abbrev S1536x18432 : Shape := ⟨2, ![1536, 18432]⟩

abbrev nBuf : Space → Nat
  | .hbm => 10
  | .vmem => 3
  | .smem => 6
  | _ => 0

abbrev bufTy : (tb : Table) → Fin (tcTables nBuf tb) → BufTy
  | .hbm, ⟨0, _⟩ => ⟨S6x256x18432, .i8⟩
  | .hbm, ⟨1, _⟩ => ⟨S6x256, .f32⟩
  | .hbm, ⟨2, _⟩ => ⟨S6x256, .i32⟩
  | .hbm, ⟨3, _⟩ => ⟨S6x256, .i32⟩
  | .hbm, ⟨4, _⟩ => ⟨S384x4x18432, .i8⟩
  | .hbm, ⟨5, _⟩ => ⟨S384x18432x4, .i8⟩
  | .hbm, ⟨6, _⟩ => ⟨S384x18432, .i32⟩
  | .hbm, ⟨7, _⟩ => ⟨S192x144x8x128, .f32⟩
  | .hbm, ⟨8, _⟩ => ⟨S192x8x144x128, .f32⟩
  | .hbm, ⟨9, _⟩ => ⟨S1536x18432, .f32⟩
  | .local _ .vmem, ⟨0, _⟩ => ⟨S144x392x128, .i32⟩
  | .local _ .vmem, ⟨1, _⟩ => ⟨S24x144x8x128, .f32⟩
  | .local _ .vmem, ⟨2, _⟩ => ⟨S144x8x128, .f32⟩
  | .local _ .smem, ⟨0, _⟩ => ⟨S6x256, .f32⟩
  | .local _ .smem, ⟨1, _⟩ => ⟨S6x256, .i32⟩
  | .local _ .smem, ⟨2, _⟩ => ⟨S6x256, .i32⟩
  | .local _ .smem, ⟨3, _⟩ => ⟨S1537, .i32⟩
  | .local _ .smem, ⟨4, _⟩ => ⟨S193, .i32⟩
  | .local _ .smem, ⟨5, _⟩ => ⟨S1537, .i32⟩
  | _, _ => ⟨S6x256x18432, .i8⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.smem, 0, rfl⟩
abbrev cc0_scratch4 : Ref sig .tc := ⟨.smem, 1, rfl⟩
abbrev cc0_scratch5 : Ref sig .tc := ⟨.smem, 2, rfl⟩
abbrev cc0_scratch6 : Ref sig .tc := ⟨.smem, 3, rfl⟩
abbrev cc0_scratch7 : Ref sig .tc := ⟨.smem, 4, rfl⟩
abbrev cc0_scratch8 : Ref sig .tc := ⟨.smem, 5, rfl⟩

abbrev nD : Nat := 1
abbrev τ : Topo := Topo.v7x

variable {F : FTy → Type} [FloatOps F]

abbrev grid0 : Pipeline.Grid := .none

@[reducible] def k0_t1_loop : Scf.Loop 32 :=
  let c0_i32_436 : BitVec 32 := 0#32
  let c1537_i32 : BitVec 32 := 1537#32
  let v436 : BitVec 32 := Scalar.addi c0_i32_436 c1537_i32
  let c1_i32_437 : BitVec 32 := 1#32
  ⟨c0_i32_436, v436, c1_i32_437⟩
def k0_off1 (k0_t1 : Fin k0_t1_loop.trips) : Fin 1 → Nat :=
  let c0_i32_436 : BitVec 32 := 0#32
  let c1_i32_437 : BitVec 32 := 1#32
  let arg20 : BitVec 32 := Scf.iv c0_i32_436 c1_i32_437 k0_t1
  let v901 : Index := Scalar.indexCast arg20
  ![v901.toNat]
@[reducible] def k0_t2_loop : Scf.Loop 32 :=
  let c0_i32_439 : BitVec 32 := 0#32
  let c193_i32 : BitVec 32 := 193#32
  let v437 : BitVec 32 := Scalar.addi c0_i32_439 c193_i32
  let c1_i32_440 : BitVec 32 := 1#32
  ⟨c0_i32_439, v437, c1_i32_440⟩
def k0_off2 (k0_t2 : Fin k0_t2_loop.trips) : Fin 1 → Nat :=
  let c0_i32_439 : BitVec 32 := 0#32
  let c1_i32_440 : BitVec 32 := 1#32
  let arg20 : BitVec 32 := Scf.iv c0_i32_439 c1_i32_440 k0_t2
  let v901 : Index := Scalar.indexCast arg20
  ![v901.toNat]
@[reducible] def k0_t3_loop : Scf.Loop 32 :=
  let c0_i32_443 : BitVec 32 := 0#32
  let c1536_i32_444 : BitVec 32 := 1536#32
  let v438 : BitVec 32 := Scalar.addi c0_i32_443 c1536_i32_444
  let c1_i32_445 : BitVec 32 := 1#32
  ⟨c0_i32_443, v438, c1_i32_445⟩
def k0_off3 (k0_t3 : Fin k0_t3_loop.trips) : Fin 2 → Nat :=
  let c1535_i32 : BitVec 32 := 1535#32
  let c0_i32_443 : BitVec 32 := 0#32
  let c1_i32_445 : BitVec 32 := 1#32
  let arg20 : BitVec 32 := Scf.iv c0_i32_443 c1_i32_445 k0_t3
  let v901 : BitVec 32 := Scalar.subi c1535_i32 arg20
  let c0_i32_1188 : BitVec 32 := 0#32
  let v903 : BitVec 1 := Scalar.cmpi .sgt v901 c0_i32_1188
  let v904 : BitVec 32 := Scalar.extui v903
  let c0_i32_1189 : BitVec 32 := 0#32
  let v905 : BitVec 1 := Scalar.cmpi .slt v901 c0_i32_1189
  let v906 : BitVec 32 := Scalar.extui v905
  let v907 : BitVec 32 := Scalar.subi v904 v906
  let c256_i32_1187 : BitVec 32 := 256#32
  let c0_i32_1190 : BitVec 32 := 0#32
  let v908 : BitVec 1 := Scalar.cmpi .sgt c256_i32_1187 c0_i32_1190
  let v909 : BitVec 32 := Scalar.extui v908
  let c0_i32_1191 : BitVec 32 := 0#32
  let v910 : BitVec 1 := Scalar.cmpi .slt c256_i32_1187 c0_i32_1191
  let v911 : BitVec 32 := Scalar.extui v910
  let v912 : BitVec 32 := Scalar.subi v909 v911
  let v913 : BitVec 1 := Scalar.cmpi .ne v907 v912
  let v914 : BitVec 32 := Scalar.remsi v901 c256_i32_1187
  let c0_i32_1192 : BitVec 32 := 0#32
  let v915 : BitVec 1 := Scalar.cmpi .ne v914 c0_i32_1192
  let v916 : BitVec 1 := Scalar.andi v913 v915
  let v902 : BitVec 32 := Scalar.divsi v901 c256_i32_1187
  let c1_i32_1193 : BitVec 32 := 1#32
  let v917 : BitVec 32 := Scalar.subi v902 c1_i32_1193
  let v918 : BitVec 32 := Scalar.select v916 v917 v902
  let v929 : Index := Scalar.indexCast v918
  let c256_i32_1194 : BitVec 32 := 256#32
  let c0_i32_1195 : BitVec 32 := 0#32
  let v919 : BitVec 1 := Scalar.cmpi .eq c256_i32_1194 c0_i32_1195
  let c1_i32_1196 : BitVec 32 := 1#32
  let v920 : BitVec 32 := Scalar.select v919 c1_i32_1196 c256_i32_1194
  let v921 : BitVec 32 := Scalar.remsi v901 v920
  let c0_i32_1198 : BitVec 32 := 0#32
  let v923 : BitVec 1 := Scalar.cmpi .slt v921 c0_i32_1198
  let c0_i32_1199 : BitVec 32 := 0#32
  let v924 : BitVec 1 := Scalar.cmpi .slt v920 c0_i32_1199
  let v925 : BitVec 1 := Scalar.xori v923 v924
  let c0_i32_1197 : BitVec 32 := 0#32
  let v922 : BitVec 1 := Scalar.cmpi .ne v921 c0_i32_1197
  let v926 : BitVec 1 := Scalar.andi v925 v922
  let v927 : BitVec 32 := Scalar.addi v921 v920
  let v928 : BitVec 32 := Scalar.select v926 v927 v921
  let v930 : Index := Scalar.indexCast v928
  ![v929.toNat, v930.toNat]
def k0_off4 (v931 : BitVec 32) (v934 : BitVec 32) : Fin 1 → Nat :=
  let c0_i32_1200 : BitVec 32 := 0#32
  let v935 : BitVec 1 := Scalar.cmpi .ne v934 c0_i32_1200
  let c1536_i32_1201 : BitVec 32 := 1536#32
  let v936 : BitVec 32 := Scalar.select v935 v931 c1536_i32_1201
  let v937 : Index := Scalar.indexCast v936
  ![v937.toNat]

def k0_chk1 (v931 : BitVec 32) (v934 : BitVec 32) : Prop :=
  (∀ a, (k0_off4 v931 v934) a + S1.size a ≤ S1537.size a)
theorem k0_off4_inb : ∀ (v931 : BitVec 32) (v934 : BitVec 32) (k0_hw1 : k0_chk1 v931 v934), ∀ a, (k0_off4 v931 v934) a + S1.size a ≤ S1537.size a := fun v931 v934 k0_hw1 => k0_hw1

def k0_off5 (v931 : BitVec 32) (v934 : BitVec 32) (v938 : BitVec 32) : Fin 1 → Nat :=
  let c0_i32_1200 : BitVec 32 := 0#32
  let v935 : BitVec 1 := Scalar.cmpi .ne v934 c0_i32_1200
  let c0_i32_1202 : BitVec 32 := 0#32
  let v941 : BitVec 1 := Scalar.cmpi .sge v938 c0_i32_1202
  let v942 : BitVec 1 := Scalar.andi v935 v941
  let c3_i32_1203 : BitVec 32 := 3#32
  let v943 : BitVec 32 := Scalar.shrsi v931 c3_i32_1203
  let c192_i32_1204 : BitVec 32 := 192#32
  let v944 : BitVec 32 := Scalar.select v942 v943 c192_i32_1204
  let v946 : Index := Scalar.indexCast v944
  ![v946.toNat]

def k0_off6 (v934 : BitVec 32) (v938 : BitVec 32) : Fin 1 → Nat :=
  let c0_i32_1200 : BitVec 32 := 0#32
  let v935 : BitVec 1 := Scalar.cmpi .ne v934 c0_i32_1200
  let c0_i32_1202 : BitVec 32 := 0#32
  let v941 : BitVec 1 := Scalar.cmpi .sge v938 c0_i32_1202
  let v942 : BitVec 1 := Scalar.andi v935 v941
  let c1536_i32_1205 : BitVec 32 := 1536#32
  let v945 : BitVec 32 := Scalar.select v942 v938 c1536_i32_1205
  let v948 : Index := Scalar.indexCast v945
  ![v948.toNat]

def k0_chk2 (v931 : BitVec 32) (v934 : BitVec 32) (v938 : BitVec 32) : Prop :=
  (∀ a, (k0_off5 v931 v934 v938) a + S1.size a ≤ S193.size a) ∧
  (∀ a, (k0_off6 v934 v938) a + S1.size a ≤ S1537.size a)
theorem k0_off5_inb : ∀ (v931 : BitVec 32) (v934 : BitVec 32) (v938 : BitVec 32) (k0_hw2 : k0_chk2 v931 v934 v938), ∀ a, (k0_off5 v931 v934 v938) a + S1.size a ≤ S193.size a := fun v931 v934 v938 k0_hw2 => k0_hw2.1
theorem k0_off6_inb : ∀ (v931 : BitVec 32) (v934 : BitVec 32) (v938 : BitVec 32) (k0_hw2 : k0_chk2 v931 v934 v938), ∀ a, (k0_off6 v934 v938) a + S1.size a ≤ S1537.size a := fun v931 v934 v938 k0_hw2 => k0_hw2.2

def k0_off7 (arg20 : BitVec 32) : Fin 1 → Nat :=
  let c24_i32_2114 : BitVec 32 := 24#32
  let v3432 : BitVec 32 := Scalar.subi arg20 c24_i32_2114
  let c24_i32_2115 : BitVec 32 := 24#32
  let v3433 : BitVec 32 := Scalar.remsi v3432 c24_i32_2115
  ![v3433.toNat]
def k0_cond1 (arg20 : BitVec 32) : BitVec 1 :=
  let c24_i32_1188 : BitVec 32 := 24#32
  let v902 : BitVec 1 := Scalar.cmpi .sge arg20 c24_i32_1188
  let v903 : BitVec 32 := Scalar.extui v902
  let c0_i32_1189 : BitVec 32 := 0#32
  let v904 : BitVec 1 := Scalar.cmpi .ne v903 c0_i32_1189
  v904

def k0_off8 (arg20 : BitVec 32) : Fin 4 → Nat :=
  let c24_i32_2114 : BitVec 32 := 24#32
  let v3432 : BitVec 32 := Scalar.subi arg20 c24_i32_2114
  let c0_i32_2116 : BitVec 32 := 0#32
  let c0_i32_2117 : BitVec 32 := 0#32
  let c0_i32_2118 : BitVec 32 := 0#32
  ![v3432.toNat, 0, 0, 0]
def k0_off9 (arg20 : BitVec 32) : Fin 4 → Nat :=
  let c24_i32_2114 : BitVec 32 := 24#32
  let v3432 : BitVec 32 := Scalar.subi arg20 c24_i32_2114
  let c24_i32_2115 : BitVec 32 := 24#32
  let v3433 : BitVec 32 := Scalar.remsi v3432 c24_i32_2115
  let c0_i32_2119 : BitVec 32 := 0#32
  let c0_i32_2120 : BitVec 32 := 0#32
  let c0_i32_2121 : BitVec 32 := 0#32
  ![v3433.toNat, 0, 0, 0]
def k0_off10 (arg20 : BitVec 32) : Fin 1 → Nat :=
  let c8_i32_1190 : BitVec 32 := 8#32
  let v905 : BitVec 32 := Scalar.muli arg20 c8_i32_1190
  let c0_i32_1191 : BitVec 32 := 0#32
  let v906 : BitVec 32 := Scalar.addi v905 c0_i32_1191
  let v907 : Index := Scalar.indexCast v906
  ![v907.toNat]
def k0_off11 (v908 : BitVec 32) : Fin 2 → Nat :=
  let c0_i32_1192 : BitVec 32 := 0#32
  let v909 : BitVec 32 := Scalar.maxsi v908 c0_i32_1192
  let c8_i32_1194 : BitVec 32 := 8#32
  let v911 : BitVec 32 := Scalar.shrsi v909 c8_i32_1194
  let v913 : Index := Scalar.indexCast v911
  let c255_i32 : BitVec 32 := 255#32
  let v912 : BitVec 32 := Scalar.andi v909 c255_i32
  let v914 : Index := Scalar.indexCast v912
  ![v913.toNat, v914.toNat]

def k0_off12 (v908 : BitVec 32) (c0_i32_1199 : BitVec 32) : Fin 2 → Nat :=
  let c0_i32_1192 : BitVec 32 := 0#32
  let v909 : BitVec 32 := Scalar.maxsi v908 c0_i32_1192
  let c2_i32_1196 : BitVec 32 := 2#32
  let v917 : BitVec 32 := Scalar.shrsi v909 c2_i32_1196
  let v920 : BitVec 32 := Scalar.addi v917 c0_i32_1199
  let v922 : Index := Scalar.indexCast v920
  let c0_1200 : Index := 0#32
  ![v922.toNat, 0]

def k0_chk4 (v908 : BitVec 32) : Prop :=
  (∀ a, (k0_off11 v908) a + S1x1.size a ≤ S6x256.size a) ∧
  (∀ (r : Fin 18), ∀ a, S8x128.size a = 0 ∨ (k0_off12 v908 (BitVec.ofNat 32 (3136 * r.val))) a + (![392, 1] : Fin 2 → Nat) a * (S8x128.size a - 1) < S56448x128.size a)
theorem k0_off11_inb : ∀ (v908 : BitVec 32) (k0_hw4 : k0_chk4 v908), ∀ a, (k0_off11 v908) a + S1x1.size a ≤ S6x256.size a := fun v908 k0_hw4 => k0_hw4.1
theorem k0_off12_inb : ∀ (v908 : BitVec 32) (k0_hw4 : k0_chk4 v908), ∀ (r : Fin 18), ∀ a, S8x128.size a = 0 ∨ (k0_off12 v908 (BitVec.ofNat 32 (3136 * r.val))) a + (![392, 1] : Fin 2 → Nat) a * (S8x128.size a - 1) < S56448x128.size a := fun v908 k0_hw4 r => k0_hw4.2 r

def k0_off13 (arg20 : BitVec 32) (c0_i32_1206 : BitVec 32) : Fin 2 → Nat :=
  let c24_i32_1187 : BitVec 32 := 24#32
  let v901 : BitVec 32 := Scalar.remsi arg20 c24_i32_1187
  let c1152_i32_1205 : BitVec 32 := 1152#32
  let v945 : BitVec 32 := Scalar.muli v901 c1152_i32_1205
  let v946 : BitVec 32 := Scalar.addi v945 c0_i32_1206
  let c0_i32_1207 : BitVec 32 := 0#32
  let v947 : BitVec 32 := Scalar.addi v946 c0_i32_1207
  let v949 : Index := Scalar.indexCast v947
  let c0_1208 : Index := 0#32
  ![v949.toNat, 0]
def k0_off14 (arg20 : BitVec 32) : Fin 1 → Nat :=
  let c8_i32_1285 : BitVec 32 := 8#32
  let v1220 : BitVec 32 := Scalar.muli arg20 c8_i32_1285
  let c1_i32_1286 : BitVec 32 := 1#32
  let v1221 : BitVec 32 := Scalar.addi v1220 c1_i32_1286
  let v1222 : Index := Scalar.indexCast v1221
  ![v1222.toNat]
def k0_off15 (v1223 : BitVec 32) : Fin 2 → Nat :=
  let c0_i32_1287 : BitVec 32 := 0#32
  let v1224 : BitVec 32 := Scalar.maxsi v1223 c0_i32_1287
  let c8_i32_1289 : BitVec 32 := 8#32
  let v1226 : BitVec 32 := Scalar.shrsi v1224 c8_i32_1289
  let v1228 : Index := Scalar.indexCast v1226
  let c255_i32_1290 : BitVec 32 := 255#32
  let v1227 : BitVec 32 := Scalar.andi v1224 c255_i32_1290
  let v1229 : Index := Scalar.indexCast v1227
  ![v1228.toNat, v1229.toNat]

def k0_off16 (v1223 : BitVec 32) (c0_i32_1295 : BitVec 32) : Fin 2 → Nat :=
  let c0_i32_1287 : BitVec 32 := 0#32
  let v1224 : BitVec 32 := Scalar.maxsi v1223 c0_i32_1287
  let c2_i32_1292 : BitVec 32 := 2#32
  let v1232 : BitVec 32 := Scalar.shrsi v1224 c2_i32_1292
  let v1235 : BitVec 32 := Scalar.addi v1232 c0_i32_1295
  let v1237 : Index := Scalar.indexCast v1235
  let c0_1296 : Index := 0#32
  ![v1237.toNat, 0]

def k0_chk5 (v1223 : BitVec 32) : Prop :=
  (∀ a, (k0_off15 v1223) a + S1x1.size a ≤ S6x256.size a) ∧
  (∀ (r : Fin 18), ∀ a, S8x128.size a = 0 ∨ (k0_off16 v1223 (BitVec.ofNat 32 (3136 * r.val))) a + (![392, 1] : Fin 2 → Nat) a * (S8x128.size a - 1) < S56448x128.size a)
theorem k0_off15_inb : ∀ (v1223 : BitVec 32) (k0_hw5 : k0_chk5 v1223), ∀ a, (k0_off15 v1223) a + S1x1.size a ≤ S6x256.size a := fun v1223 k0_hw5 => k0_hw5.1
theorem k0_off16_inb : ∀ (v1223 : BitVec 32) (k0_hw5 : k0_chk5 v1223), ∀ (r : Fin 18), ∀ a, S8x128.size a = 0 ∨ (k0_off16 v1223 (BitVec.ofNat 32 (3136 * r.val))) a + (![392, 1] : Fin 2 → Nat) a * (S8x128.size a - 1) < S56448x128.size a := fun v1223 k0_hw5 r => k0_hw5.2 r

def k0_off17 (arg20 : BitVec 32) (c0_i32_1304 : BitVec 32) : Fin 2 → Nat :=
  let c24_i32_1187 : BitVec 32 := 24#32
  let v901 : BitVec 32 := Scalar.remsi arg20 c24_i32_1187
  let c1152_i32_1303 : BitVec 32 := 1152#32
  let v1260 : BitVec 32 := Scalar.muli v901 c1152_i32_1303
  let v1261 : BitVec 32 := Scalar.addi v1260 c0_i32_1304
  let c1_i32_1305 : BitVec 32 := 1#32
  let v1262 : BitVec 32 := Scalar.addi v1261 c1_i32_1305
  let v1264 : Index := Scalar.indexCast v1262
  let c0_1306 : Index := 0#32
  ![v1264.toNat, 0]
def k0_off18 (arg20 : BitVec 32) : Fin 1 → Nat :=
  let c8_i32_1403 : BitVec 32 := 8#32
  let v1535 : BitVec 32 := Scalar.muli arg20 c8_i32_1403
  let c2_i32_1404 : BitVec 32 := 2#32
  let v1536 : BitVec 32 := Scalar.addi v1535 c2_i32_1404
  let v1537 : Index := Scalar.indexCast v1536
  ![v1537.toNat]
def k0_off19 (v1538 : BitVec 32) : Fin 2 → Nat :=
  let c0_i32_1405 : BitVec 32 := 0#32
  let v1539 : BitVec 32 := Scalar.maxsi v1538 c0_i32_1405
  let c8_i32_1407 : BitVec 32 := 8#32
  let v1541 : BitVec 32 := Scalar.shrsi v1539 c8_i32_1407
  let v1543 : Index := Scalar.indexCast v1541
  let c255_i32_1408 : BitVec 32 := 255#32
  let v1542 : BitVec 32 := Scalar.andi v1539 c255_i32_1408
  let v1544 : Index := Scalar.indexCast v1542
  ![v1543.toNat, v1544.toNat]

def k0_off20 (v1538 : BitVec 32) (c0_i32_1413 : BitVec 32) : Fin 2 → Nat :=
  let c0_i32_1405 : BitVec 32 := 0#32
  let v1539 : BitVec 32 := Scalar.maxsi v1538 c0_i32_1405
  let c2_i32_1410 : BitVec 32 := 2#32
  let v1547 : BitVec 32 := Scalar.shrsi v1539 c2_i32_1410
  let v1550 : BitVec 32 := Scalar.addi v1547 c0_i32_1413
  let v1552 : Index := Scalar.indexCast v1550
  let c0_1414 : Index := 0#32
  ![v1552.toNat, 0]

def k0_chk6 (v1538 : BitVec 32) : Prop :=
  (∀ a, (k0_off19 v1538) a + S1x1.size a ≤ S6x256.size a) ∧
  (∀ (r : Fin 18), ∀ a, S8x128.size a = 0 ∨ (k0_off20 v1538 (BitVec.ofNat 32 (3136 * r.val))) a + (![392, 1] : Fin 2 → Nat) a * (S8x128.size a - 1) < S56448x128.size a)
theorem k0_off19_inb : ∀ (v1538 : BitVec 32) (k0_hw6 : k0_chk6 v1538), ∀ a, (k0_off19 v1538) a + S1x1.size a ≤ S6x256.size a := fun v1538 k0_hw6 => k0_hw6.1
theorem k0_off20_inb : ∀ (v1538 : BitVec 32) (k0_hw6 : k0_chk6 v1538), ∀ (r : Fin 18), ∀ a, S8x128.size a = 0 ∨ (k0_off20 v1538 (BitVec.ofNat 32 (3136 * r.val))) a + (![392, 1] : Fin 2 → Nat) a * (S8x128.size a - 1) < S56448x128.size a := fun v1538 k0_hw6 r => k0_hw6.2 r

def k0_off21 (arg20 : BitVec 32) (c0_i32_1422 : BitVec 32) : Fin 2 → Nat :=
  let c24_i32_1187 : BitVec 32 := 24#32
  let v901 : BitVec 32 := Scalar.remsi arg20 c24_i32_1187
  let c1152_i32_1421 : BitVec 32 := 1152#32
  let v1575 : BitVec 32 := Scalar.muli v901 c1152_i32_1421
  let v1576 : BitVec 32 := Scalar.addi v1575 c0_i32_1422
  let c2_i32_1423 : BitVec 32 := 2#32
  let v1577 : BitVec 32 := Scalar.addi v1576 c2_i32_1423
  let v1579 : Index := Scalar.indexCast v1577
  let c0_1424 : Index := 0#32
  ![v1579.toNat, 0]
def k0_off22 (arg20 : BitVec 32) : Fin 1 → Nat :=
  let c8_i32_1521 : BitVec 32 := 8#32
  let v1850 : BitVec 32 := Scalar.muli arg20 c8_i32_1521
  let c3_i32_1522 : BitVec 32 := 3#32
  let v1851 : BitVec 32 := Scalar.addi v1850 c3_i32_1522
  let v1852 : Index := Scalar.indexCast v1851
  ![v1852.toNat]
def k0_off23 (v1853 : BitVec 32) : Fin 2 → Nat :=
  let c0_i32_1523 : BitVec 32 := 0#32
  let v1854 : BitVec 32 := Scalar.maxsi v1853 c0_i32_1523
  let c8_i32_1525 : BitVec 32 := 8#32
  let v1856 : BitVec 32 := Scalar.shrsi v1854 c8_i32_1525
  let v1858 : Index := Scalar.indexCast v1856
  let c255_i32_1526 : BitVec 32 := 255#32
  let v1857 : BitVec 32 := Scalar.andi v1854 c255_i32_1526
  let v1859 : Index := Scalar.indexCast v1857
  ![v1858.toNat, v1859.toNat]

def k0_off24 (v1853 : BitVec 32) (c0_i32_1531 : BitVec 32) : Fin 2 → Nat :=
  let c0_i32_1523 : BitVec 32 := 0#32
  let v1854 : BitVec 32 := Scalar.maxsi v1853 c0_i32_1523
  let c2_i32_1528 : BitVec 32 := 2#32
  let v1862 : BitVec 32 := Scalar.shrsi v1854 c2_i32_1528
  let v1865 : BitVec 32 := Scalar.addi v1862 c0_i32_1531
  let v1867 : Index := Scalar.indexCast v1865
  let c0_1532 : Index := 0#32
  ![v1867.toNat, 0]

def k0_chk7 (v1853 : BitVec 32) : Prop :=
  (∀ a, (k0_off23 v1853) a + S1x1.size a ≤ S6x256.size a) ∧
  (∀ (r : Fin 18), ∀ a, S8x128.size a = 0 ∨ (k0_off24 v1853 (BitVec.ofNat 32 (3136 * r.val))) a + (![392, 1] : Fin 2 → Nat) a * (S8x128.size a - 1) < S56448x128.size a)
theorem k0_off23_inb : ∀ (v1853 : BitVec 32) (k0_hw7 : k0_chk7 v1853), ∀ a, (k0_off23 v1853) a + S1x1.size a ≤ S6x256.size a := fun v1853 k0_hw7 => k0_hw7.1
theorem k0_off24_inb : ∀ (v1853 : BitVec 32) (k0_hw7 : k0_chk7 v1853), ∀ (r : Fin 18), ∀ a, S8x128.size a = 0 ∨ (k0_off24 v1853 (BitVec.ofNat 32 (3136 * r.val))) a + (![392, 1] : Fin 2 → Nat) a * (S8x128.size a - 1) < S56448x128.size a := fun v1853 k0_hw7 r => k0_hw7.2 r

def k0_off25 (arg20 : BitVec 32) (c0_i32_1540 : BitVec 32) : Fin 2 → Nat :=
  let c24_i32_1187 : BitVec 32 := 24#32
  let v901 : BitVec 32 := Scalar.remsi arg20 c24_i32_1187
  let c1152_i32_1539 : BitVec 32 := 1152#32
  let v1890 : BitVec 32 := Scalar.muli v901 c1152_i32_1539
  let v1891 : BitVec 32 := Scalar.addi v1890 c0_i32_1540
  let c3_i32_1541 : BitVec 32 := 3#32
  let v1892 : BitVec 32 := Scalar.addi v1891 c3_i32_1541
  let v1894 : Index := Scalar.indexCast v1892
  let c0_1542 : Index := 0#32
  ![v1894.toNat, 0]
def k0_off26 (arg20 : BitVec 32) : Fin 1 → Nat :=
  let c8_i32_1639 : BitVec 32 := 8#32
  let v2165 : BitVec 32 := Scalar.muli arg20 c8_i32_1639
  let c4_i32_1640 : BitVec 32 := 4#32
  let v2166 : BitVec 32 := Scalar.addi v2165 c4_i32_1640
  let v2167 : Index := Scalar.indexCast v2166
  ![v2167.toNat]
def k0_off27 (v2168 : BitVec 32) : Fin 2 → Nat :=
  let c0_i32_1641 : BitVec 32 := 0#32
  let v2169 : BitVec 32 := Scalar.maxsi v2168 c0_i32_1641
  let c8_i32_1643 : BitVec 32 := 8#32
  let v2171 : BitVec 32 := Scalar.shrsi v2169 c8_i32_1643
  let v2173 : Index := Scalar.indexCast v2171
  let c255_i32_1644 : BitVec 32 := 255#32
  let v2172 : BitVec 32 := Scalar.andi v2169 c255_i32_1644
  let v2174 : Index := Scalar.indexCast v2172
  ![v2173.toNat, v2174.toNat]

def k0_off28 (v2168 : BitVec 32) (c0_i32_1649 : BitVec 32) : Fin 2 → Nat :=
  let c0_i32_1641 : BitVec 32 := 0#32
  let v2169 : BitVec 32 := Scalar.maxsi v2168 c0_i32_1641
  let c2_i32_1646 : BitVec 32 := 2#32
  let v2177 : BitVec 32 := Scalar.shrsi v2169 c2_i32_1646
  let v2180 : BitVec 32 := Scalar.addi v2177 c0_i32_1649
  let v2182 : Index := Scalar.indexCast v2180
  let c0_1650 : Index := 0#32
  ![v2182.toNat, 0]

def k0_chk8 (v2168 : BitVec 32) : Prop :=
  (∀ a, (k0_off27 v2168) a + S1x1.size a ≤ S6x256.size a) ∧
  (∀ (r : Fin 18), ∀ a, S8x128.size a = 0 ∨ (k0_off28 v2168 (BitVec.ofNat 32 (3136 * r.val))) a + (![392, 1] : Fin 2 → Nat) a * (S8x128.size a - 1) < S56448x128.size a)
theorem k0_off27_inb : ∀ (v2168 : BitVec 32) (k0_hw8 : k0_chk8 v2168), ∀ a, (k0_off27 v2168) a + S1x1.size a ≤ S6x256.size a := fun v2168 k0_hw8 => k0_hw8.1
theorem k0_off28_inb : ∀ (v2168 : BitVec 32) (k0_hw8 : k0_chk8 v2168), ∀ (r : Fin 18), ∀ a, S8x128.size a = 0 ∨ (k0_off28 v2168 (BitVec.ofNat 32 (3136 * r.val))) a + (![392, 1] : Fin 2 → Nat) a * (S8x128.size a - 1) < S56448x128.size a := fun v2168 k0_hw8 r => k0_hw8.2 r

def k0_off29 (arg20 : BitVec 32) (c0_i32_1658 : BitVec 32) : Fin 2 → Nat :=
  let c24_i32_1187 : BitVec 32 := 24#32
  let v901 : BitVec 32 := Scalar.remsi arg20 c24_i32_1187
  let c1152_i32_1657 : BitVec 32 := 1152#32
  let v2205 : BitVec 32 := Scalar.muli v901 c1152_i32_1657
  let v2206 : BitVec 32 := Scalar.addi v2205 c0_i32_1658
  let c4_i32_1659 : BitVec 32 := 4#32
  let v2207 : BitVec 32 := Scalar.addi v2206 c4_i32_1659
  let v2209 : Index := Scalar.indexCast v2207
  let c0_1660 : Index := 0#32
  ![v2209.toNat, 0]
def k0_off30 (arg20 : BitVec 32) : Fin 1 → Nat :=
  let c8_i32_1757 : BitVec 32 := 8#32
  let v2480 : BitVec 32 := Scalar.muli arg20 c8_i32_1757
  let c5_i32_1758 : BitVec 32 := 5#32
  let v2481 : BitVec 32 := Scalar.addi v2480 c5_i32_1758
  let v2482 : Index := Scalar.indexCast v2481
  ![v2482.toNat]
def k0_off31 (v2483 : BitVec 32) : Fin 2 → Nat :=
  let c0_i32_1759 : BitVec 32 := 0#32
  let v2484 : BitVec 32 := Scalar.maxsi v2483 c0_i32_1759
  let c8_i32_1761 : BitVec 32 := 8#32
  let v2486 : BitVec 32 := Scalar.shrsi v2484 c8_i32_1761
  let v2488 : Index := Scalar.indexCast v2486
  let c255_i32_1762 : BitVec 32 := 255#32
  let v2487 : BitVec 32 := Scalar.andi v2484 c255_i32_1762
  let v2489 : Index := Scalar.indexCast v2487
  ![v2488.toNat, v2489.toNat]

def k0_off32 (v2483 : BitVec 32) (c0_i32_1767 : BitVec 32) : Fin 2 → Nat :=
  let c0_i32_1759 : BitVec 32 := 0#32
  let v2484 : BitVec 32 := Scalar.maxsi v2483 c0_i32_1759
  let c2_i32_1764 : BitVec 32 := 2#32
  let v2492 : BitVec 32 := Scalar.shrsi v2484 c2_i32_1764
  let v2495 : BitVec 32 := Scalar.addi v2492 c0_i32_1767
  let v2497 : Index := Scalar.indexCast v2495
  let c0_1768 : Index := 0#32
  ![v2497.toNat, 0]

def k0_chk9 (v2483 : BitVec 32) : Prop :=
  (∀ a, (k0_off31 v2483) a + S1x1.size a ≤ S6x256.size a) ∧
  (∀ (r : Fin 18), ∀ a, S8x128.size a = 0 ∨ (k0_off32 v2483 (BitVec.ofNat 32 (3136 * r.val))) a + (![392, 1] : Fin 2 → Nat) a * (S8x128.size a - 1) < S56448x128.size a)
theorem k0_off31_inb : ∀ (v2483 : BitVec 32) (k0_hw9 : k0_chk9 v2483), ∀ a, (k0_off31 v2483) a + S1x1.size a ≤ S6x256.size a := fun v2483 k0_hw9 => k0_hw9.1
theorem k0_off32_inb : ∀ (v2483 : BitVec 32) (k0_hw9 : k0_chk9 v2483), ∀ (r : Fin 18), ∀ a, S8x128.size a = 0 ∨ (k0_off32 v2483 (BitVec.ofNat 32 (3136 * r.val))) a + (![392, 1] : Fin 2 → Nat) a * (S8x128.size a - 1) < S56448x128.size a := fun v2483 k0_hw9 r => k0_hw9.2 r

def k0_off33 (arg20 : BitVec 32) (c0_i32_1776 : BitVec 32) : Fin 2 → Nat :=
  let c24_i32_1187 : BitVec 32 := 24#32
  let v901 : BitVec 32 := Scalar.remsi arg20 c24_i32_1187
  let c1152_i32_1775 : BitVec 32 := 1152#32
  let v2520 : BitVec 32 := Scalar.muli v901 c1152_i32_1775
  let v2521 : BitVec 32 := Scalar.addi v2520 c0_i32_1776
  let c5_i32_1777 : BitVec 32 := 5#32
  let v2522 : BitVec 32 := Scalar.addi v2521 c5_i32_1777
  let v2524 : Index := Scalar.indexCast v2522
  let c0_1778 : Index := 0#32
  ![v2524.toNat, 0]
def k0_off34 (arg20 : BitVec 32) : Fin 1 → Nat :=
  let c8_i32_1875 : BitVec 32 := 8#32
  let v2795 : BitVec 32 := Scalar.muli arg20 c8_i32_1875
  let c6_i32_1876 : BitVec 32 := 6#32
  let v2796 : BitVec 32 := Scalar.addi v2795 c6_i32_1876
  let v2797 : Index := Scalar.indexCast v2796
  ![v2797.toNat]
def k0_off35 (v2798 : BitVec 32) : Fin 2 → Nat :=
  let c0_i32_1877 : BitVec 32 := 0#32
  let v2799 : BitVec 32 := Scalar.maxsi v2798 c0_i32_1877
  let c8_i32_1879 : BitVec 32 := 8#32
  let v2801 : BitVec 32 := Scalar.shrsi v2799 c8_i32_1879
  let v2803 : Index := Scalar.indexCast v2801
  let c255_i32_1880 : BitVec 32 := 255#32
  let v2802 : BitVec 32 := Scalar.andi v2799 c255_i32_1880
  let v2804 : Index := Scalar.indexCast v2802
  ![v2803.toNat, v2804.toNat]

def k0_off36 (v2798 : BitVec 32) (c0_i32_1885 : BitVec 32) : Fin 2 → Nat :=
  let c0_i32_1877 : BitVec 32 := 0#32
  let v2799 : BitVec 32 := Scalar.maxsi v2798 c0_i32_1877
  let c2_i32_1882 : BitVec 32 := 2#32
  let v2807 : BitVec 32 := Scalar.shrsi v2799 c2_i32_1882
  let v2810 : BitVec 32 := Scalar.addi v2807 c0_i32_1885
  let v2812 : Index := Scalar.indexCast v2810
  let c0_1886 : Index := 0#32
  ![v2812.toNat, 0]

def k0_chk10 (v2798 : BitVec 32) : Prop :=
  (∀ a, (k0_off35 v2798) a + S1x1.size a ≤ S6x256.size a) ∧
  (∀ (r : Fin 18), ∀ a, S8x128.size a = 0 ∨ (k0_off36 v2798 (BitVec.ofNat 32 (3136 * r.val))) a + (![392, 1] : Fin 2 → Nat) a * (S8x128.size a - 1) < S56448x128.size a)
theorem k0_off35_inb : ∀ (v2798 : BitVec 32) (k0_hw10 : k0_chk10 v2798), ∀ a, (k0_off35 v2798) a + S1x1.size a ≤ S6x256.size a := fun v2798 k0_hw10 => k0_hw10.1
theorem k0_off36_inb : ∀ (v2798 : BitVec 32) (k0_hw10 : k0_chk10 v2798), ∀ (r : Fin 18), ∀ a, S8x128.size a = 0 ∨ (k0_off36 v2798 (BitVec.ofNat 32 (3136 * r.val))) a + (![392, 1] : Fin 2 → Nat) a * (S8x128.size a - 1) < S56448x128.size a := fun v2798 k0_hw10 r => k0_hw10.2 r

def k0_off37 (arg20 : BitVec 32) (c0_i32_1894 : BitVec 32) : Fin 2 → Nat :=
  let c24_i32_1187 : BitVec 32 := 24#32
  let v901 : BitVec 32 := Scalar.remsi arg20 c24_i32_1187
  let c1152_i32_1893 : BitVec 32 := 1152#32
  let v2835 : BitVec 32 := Scalar.muli v901 c1152_i32_1893
  let v2836 : BitVec 32 := Scalar.addi v2835 c0_i32_1894
  let c6_i32_1895 : BitVec 32 := 6#32
  let v2837 : BitVec 32 := Scalar.addi v2836 c6_i32_1895
  let v2839 : Index := Scalar.indexCast v2837
  let c0_1896 : Index := 0#32
  ![v2839.toNat, 0]
def k0_off38 (arg20 : BitVec 32) : Fin 1 → Nat :=
  let c8_i32_1993 : BitVec 32 := 8#32
  let v3110 : BitVec 32 := Scalar.muli arg20 c8_i32_1993
  let c7_i32_1994 : BitVec 32 := 7#32
  let v3111 : BitVec 32 := Scalar.addi v3110 c7_i32_1994
  let v3112 : Index := Scalar.indexCast v3111
  ![v3112.toNat]
def k0_off39 (v3113 : BitVec 32) : Fin 2 → Nat :=
  let c0_i32_1995 : BitVec 32 := 0#32
  let v3114 : BitVec 32 := Scalar.maxsi v3113 c0_i32_1995
  let c8_i32_1997 : BitVec 32 := 8#32
  let v3116 : BitVec 32 := Scalar.shrsi v3114 c8_i32_1997
  let v3118 : Index := Scalar.indexCast v3116
  let c255_i32_1998 : BitVec 32 := 255#32
  let v3117 : BitVec 32 := Scalar.andi v3114 c255_i32_1998
  let v3119 : Index := Scalar.indexCast v3117
  ![v3118.toNat, v3119.toNat]

def k0_off40 (v3113 : BitVec 32) (c0_i32_2003 : BitVec 32) : Fin 2 → Nat :=
  let c0_i32_1995 : BitVec 32 := 0#32
  let v3114 : BitVec 32 := Scalar.maxsi v3113 c0_i32_1995
  let c2_i32_2000 : BitVec 32 := 2#32
  let v3122 : BitVec 32 := Scalar.shrsi v3114 c2_i32_2000
  let v3125 : BitVec 32 := Scalar.addi v3122 c0_i32_2003
  let v3127 : Index := Scalar.indexCast v3125
  let c0_2004 : Index := 0#32
  ![v3127.toNat, 0]

def k0_chk11 (v3113 : BitVec 32) : Prop :=
  (∀ a, (k0_off39 v3113) a + S1x1.size a ≤ S6x256.size a) ∧
  (∀ (r : Fin 18), ∀ a, S8x128.size a = 0 ∨ (k0_off40 v3113 (BitVec.ofNat 32 (3136 * r.val))) a + (![392, 1] : Fin 2 → Nat) a * (S8x128.size a - 1) < S56448x128.size a)
theorem k0_off39_inb : ∀ (v3113 : BitVec 32) (k0_hw11 : k0_chk11 v3113), ∀ a, (k0_off39 v3113) a + S1x1.size a ≤ S6x256.size a := fun v3113 k0_hw11 => k0_hw11.1
theorem k0_off40_inb : ∀ (v3113 : BitVec 32) (k0_hw11 : k0_chk11 v3113), ∀ (r : Fin 18), ∀ a, S8x128.size a = 0 ∨ (k0_off40 v3113 (BitVec.ofNat 32 (3136 * r.val))) a + (![392, 1] : Fin 2 → Nat) a * (S8x128.size a - 1) < S56448x128.size a := fun v3113 k0_hw11 r => k0_hw11.2 r

def k0_off41 (arg20 : BitVec 32) (c0_i32_2012 : BitVec 32) : Fin 2 → Nat :=
  let c24_i32_1187 : BitVec 32 := 24#32
  let v901 : BitVec 32 := Scalar.remsi arg20 c24_i32_1187
  let c1152_i32_2011 : BitVec 32 := 1152#32
  let v3150 : BitVec 32 := Scalar.muli v901 c1152_i32_2011
  let v3151 : BitVec 32 := Scalar.addi v3150 c0_i32_2012
  let c7_i32_2013 : BitVec 32 := 7#32
  let v3152 : BitVec 32 := Scalar.addi v3151 c7_i32_2013
  let v3154 : Index := Scalar.indexCast v3152
  let c0_2014 : Index := 0#32
  ![v3154.toNat, 0]
def k0_off42 (arg20 : BitVec 32) : Fin 1 → Nat :=
  let v3425 : Index := Scalar.indexCast arg20
  ![v3425.toNat]
def k0_off43 (arg21 : BitVec 32) : Fin 2 → Nat :=
  let c8_i32_2114 : BitVec 32 := 8#32
  let v3432 : BitVec 32 := Scalar.shrsi arg21 c8_i32_2114
  let v3434 : Index := Scalar.indexCast v3432
  let c255_i32_2115 : BitVec 32 := 255#32
  let v3433 : BitVec 32 := Scalar.andi arg21 c255_i32_2115
  let v3435 : Index := Scalar.indexCast v3433
  ![v3434.toNat, v3435.toNat]

def k0_off44 (arg21 : BitVec 32) (c0_i32_2122 : BitVec 32) : Fin 2 → Nat :=
  let c2_i32_2119 : BitVec 32 := 2#32
  let v3443 : BitVec 32 := Scalar.shrsi arg21 c2_i32_2119
  let v3446 : BitVec 32 := Scalar.addi v3443 c0_i32_2122
  let v3448 : Index := Scalar.indexCast v3446
  let c0_2123 : Index := 0#32
  ![v3448.toNat, 0]
def k0_off45 (arg20 : BitVec 32) (v3436 : BitVec 32) (c0_i32_2131 : BitVec 32) : Fin 2 → Nat :=
  let c24_i32_1187 : BitVec 32 := 24#32
  let v901 : BitVec 32 := Scalar.remsi arg20 c24_i32_1187
  let c1152_i32_2130 : BitVec 32 := 1152#32
  let v3471 : BitVec 32 := Scalar.muli v901 c1152_i32_2130
  let v3472 : BitVec 32 := Scalar.addi v3471 c0_i32_2131
  let c7_i32_2116 : BitVec 32 := 7#32
  let v3437 : BitVec 32 := Scalar.andi v3436 c7_i32_2116
  let v3473 : BitVec 32 := Scalar.addi v3472 v3437
  let v3475 : Index := Scalar.indexCast v3473
  let c0_2132 : Index := 0#32
  ![v3475.toNat, 0]

def k0_chk13 (arg20 : BitVec 32) (v3436 : BitVec 32) : Prop :=
  (∀ (r : Fin 18), ∀ a, S8x128.size a = 0 ∨ (k0_off45 arg20 v3436 (BitVec.ofNat 32 (64 * r.val))) a + (![8, 1] : Fin 2 → Nat) a * (S8x128.size a - 1) < S27648x128.size a)
theorem k0_off45_inb : ∀ (arg20 : BitVec 32) (v3436 : BitVec 32) (k0_hw13 : k0_chk13 arg20 v3436), ∀ (r : Fin 18), ∀ a, S8x128.size a = 0 ∨ (k0_off45 arg20 v3436 (BitVec.ofNat 32 (64 * r.val))) a + (![8, 1] : Fin 2 → Nat) a * (S8x128.size a - 1) < S27648x128.size a := fun arg20 v3436 k0_hw13 r => k0_hw13 r

def k0_off46 (arg21 : BitVec 32) (c12544_i32_2146 : BitVec 32) : Fin 2 → Nat :=
  let c2_i32_2119 : BitVec 32 := 2#32
  let v3443 : BitVec 32 := Scalar.shrsi arg21 c2_i32_2119
  let v3528 : BitVec 32 := Scalar.addi v3443 c12544_i32_2146
  let v3530 : Index := Scalar.indexCast v3528
  let c0_2147 : Index := 0#32
  ![v3530.toNat, 0]
def k0_off47 (arg21 : BitVec 32) : Fin 1 → Nat :=
  let v3818 : Index := Scalar.indexCast arg21
  ![v3818.toNat]

def k0_chk12 (arg21 : BitVec 32) : Prop :=
  (∀ a, (k0_off43 arg21) a + S1x1.size a ≤ S6x256.size a) ∧
  (∀ (r : Fin 4), ∀ a, S8x128.size a = 0 ∨ (k0_off44 arg21 (BitVec.ofNat 32 (3136 * r.val))) a + (![392, 1] : Fin 2 → Nat) a * (S8x128.size a - 1) < S56448x128.size a) ∧
  (∀ (r : Fin 14), ∀ a, S8x128.size a = 0 ∨ (k0_off46 arg21 (BitVec.ofNat 32 (12544 + 3136 * r.val))) a + (![392, 1] : Fin 2 → Nat) a * (S8x128.size a - 1) < S56448x128.size a) ∧
  (∀ a, (k0_off47 arg21) a + S1.size a ≤ S1537.size a)
theorem k0_off43_inb : ∀ (arg21 : BitVec 32) (k0_hw12 : k0_chk12 arg21), ∀ a, (k0_off43 arg21) a + S1x1.size a ≤ S6x256.size a := fun arg21 k0_hw12 => k0_hw12.1
theorem k0_off44_inb : ∀ (arg21 : BitVec 32) (k0_hw12 : k0_chk12 arg21), ∀ (r : Fin 4), ∀ a, S8x128.size a = 0 ∨ (k0_off44 arg21 (BitVec.ofNat 32 (3136 * r.val))) a + (![392, 1] : Fin 2 → Nat) a * (S8x128.size a - 1) < S56448x128.size a := fun arg21 k0_hw12 r => k0_hw12.2.1 r
theorem k0_off46_inb : ∀ (arg21 : BitVec 32) (k0_hw12 : k0_chk12 arg21), ∀ (r : Fin 14), ∀ a, S8x128.size a = 0 ∨ (k0_off46 arg21 (BitVec.ofNat 32 (12544 + 3136 * r.val))) a + (![392, 1] : Fin 2 → Nat) a * (S8x128.size a - 1) < S56448x128.size a := fun arg21 k0_hw12 r => k0_hw12.2.2.1 r
theorem k0_off47_inb : ∀ (arg21 : BitVec 32) (k0_hw12 : k0_chk12 arg21), ∀ a, (k0_off47 arg21) a + S1.size a ≤ S1537.size a := fun arg21 k0_hw12 => k0_hw12.2.2.2

def k0_off48 (arg20 : BitVec 32) : Fin 1 → Nat :=
  let c1_i32_2114 : BitVec 32 := 1#32
  let v3432 : BitVec 32 := Scalar.subi arg20 c1_i32_2114
  let c24_i32_2115 : BitVec 32 := 24#32
  let v3433 : BitVec 32 := Scalar.remsi v3432 c24_i32_2115
  ![v3433.toNat]
def k0_cond2 (arg20 : BitVec 32) : BitVec 1 :=
  let c0_i32_2111 : BitVec 32 := 0#32
  let v3428 : BitVec 1 := Scalar.cmpi .sgt arg20 c0_i32_2111
  let v3429 : BitVec 32 := Scalar.extui v3428
  let c0_i32_2112 : BitVec 32 := 0#32
  let v3430 : BitVec 1 := Scalar.cmpi .ne v3429 c0_i32_2112
  v3430

def k0_off49 (arg20 : BitVec 32) : Fin 4 → Nat :=
  let c1_i32_2114 : BitVec 32 := 1#32
  let v3432 : BitVec 32 := Scalar.subi arg20 c1_i32_2114
  let c0_i32_2116 : BitVec 32 := 0#32
  let c0_i32_2117 : BitVec 32 := 0#32
  let c0_i32_2118 : BitVec 32 := 0#32
  ![v3432.toNat, 0, 0, 0]
def k0_off50 (arg20 : BitVec 32) : Fin 4 → Nat :=
  let c1_i32_2114 : BitVec 32 := 1#32
  let v3432 : BitVec 32 := Scalar.subi arg20 c1_i32_2114
  let c24_i32_2115 : BitVec 32 := 24#32
  let v3433 : BitVec 32 := Scalar.remsi v3432 c24_i32_2115
  let c0_i32_2119 : BitVec 32 := 0#32
  let c0_i32_2120 : BitVec 32 := 0#32
  let c0_i32_2121 : BitVec 32 := 0#32
  ![v3433.toNat, 0, 0, 0]

def k0_chk3 (arg20 : BitVec 32) : Prop :=
  (∀ (k0_h1 : k0_cond1 arg20 = 1#1), ∀ a, (k0_off7 arg20) a + S1.size a ≤ S24.size a) ∧
  (∀ (k0_h1 : k0_cond1 arg20 = 1#1), ∀ a, (k0_off8 arg20) a + S1x144x8x128.size a ≤ S192x144x8x128.size a) ∧
  (∀ (k0_h1 : k0_cond1 arg20 = 1#1), ∀ a, (k0_off9 arg20) a + S1x144x8x128.size a ≤ S24x144x8x128.size a) ∧
  (∀ a, (k0_off10 arg20) a + S1.size a ≤ S1537.size a) ∧
  (∀ (r : Fin 18), ∀ a, S8x128.size a = 0 ∨ (k0_off13 arg20 (BitVec.ofNat 32 (64 * r.val))) a + (![8, 1] : Fin 2 → Nat) a * (S8x128.size a - 1) < S27648x128.size a) ∧
  (∀ a, (k0_off14 arg20) a + S1.size a ≤ S1537.size a) ∧
  (∀ (r : Fin 18), ∀ a, S8x128.size a = 0 ∨ (k0_off17 arg20 (BitVec.ofNat 32 (64 * r.val))) a + (![8, 1] : Fin 2 → Nat) a * (S8x128.size a - 1) < S27648x128.size a) ∧
  (∀ a, (k0_off18 arg20) a + S1.size a ≤ S1537.size a) ∧
  (∀ (r : Fin 18), ∀ a, S8x128.size a = 0 ∨ (k0_off21 arg20 (BitVec.ofNat 32 (64 * r.val))) a + (![8, 1] : Fin 2 → Nat) a * (S8x128.size a - 1) < S27648x128.size a) ∧
  (∀ a, (k0_off22 arg20) a + S1.size a ≤ S1537.size a) ∧
  (∀ (r : Fin 18), ∀ a, S8x128.size a = 0 ∨ (k0_off25 arg20 (BitVec.ofNat 32 (64 * r.val))) a + (![8, 1] : Fin 2 → Nat) a * (S8x128.size a - 1) < S27648x128.size a) ∧
  (∀ a, (k0_off26 arg20) a + S1.size a ≤ S1537.size a) ∧
  (∀ (r : Fin 18), ∀ a, S8x128.size a = 0 ∨ (k0_off29 arg20 (BitVec.ofNat 32 (64 * r.val))) a + (![8, 1] : Fin 2 → Nat) a * (S8x128.size a - 1) < S27648x128.size a) ∧
  (∀ a, (k0_off30 arg20) a + S1.size a ≤ S1537.size a) ∧
  (∀ (r : Fin 18), ∀ a, S8x128.size a = 0 ∨ (k0_off33 arg20 (BitVec.ofNat 32 (64 * r.val))) a + (![8, 1] : Fin 2 → Nat) a * (S8x128.size a - 1) < S27648x128.size a) ∧
  (∀ a, (k0_off34 arg20) a + S1.size a ≤ S1537.size a) ∧
  (∀ (r : Fin 18), ∀ a, S8x128.size a = 0 ∨ (k0_off37 arg20 (BitVec.ofNat 32 (64 * r.val))) a + (![8, 1] : Fin 2 → Nat) a * (S8x128.size a - 1) < S27648x128.size a) ∧
  (∀ a, (k0_off38 arg20) a + S1.size a ≤ S1537.size a) ∧
  (∀ (r : Fin 18), ∀ a, S8x128.size a = 0 ∨ (k0_off41 arg20 (BitVec.ofNat 32 (64 * r.val))) a + (![8, 1] : Fin 2 → Nat) a * (S8x128.size a - 1) < S27648x128.size a) ∧
  (∀ a, (k0_off42 arg20) a + S1.size a ≤ S193.size a) ∧
  (∀ (k0_h2 : k0_cond2 arg20 = 1#1), ∀ a, (k0_off48 arg20) a + S1.size a ≤ S24.size a) ∧
  (∀ (k0_h2 : k0_cond2 arg20 = 1#1), ∀ a, (k0_off49 arg20) a + S1x144x8x128.size a ≤ S192x144x8x128.size a) ∧
  (∀ (k0_h2 : k0_cond2 arg20 = 1#1), ∀ a, (k0_off50 arg20) a + S1x144x8x128.size a ≤ S24x144x8x128.size a)
theorem k0_off7_inb : ∀ (arg20 : BitVec 32) (k0_hw3 : k0_chk3 arg20), ∀ (k0_h1 : k0_cond1 arg20 = 1#1), ∀ a, (k0_off7 arg20) a + S1.size a ≤ S24.size a := fun arg20 k0_hw3 k0_h1 => k0_hw3.1 k0_h1
theorem k0_off8_inb : ∀ (arg20 : BitVec 32) (k0_hw3 : k0_chk3 arg20), ∀ (k0_h1 : k0_cond1 arg20 = 1#1), ∀ a, (k0_off8 arg20) a + S1x144x8x128.size a ≤ S192x144x8x128.size a := fun arg20 k0_hw3 k0_h1 => k0_hw3.2.1 k0_h1
theorem k0_off9_inb : ∀ (arg20 : BitVec 32) (k0_hw3 : k0_chk3 arg20), ∀ (k0_h1 : k0_cond1 arg20 = 1#1), ∀ a, (k0_off9 arg20) a + S1x144x8x128.size a ≤ S24x144x8x128.size a := fun arg20 k0_hw3 k0_h1 => k0_hw3.2.2.1 k0_h1
theorem k0_off10_inb : ∀ (arg20 : BitVec 32) (k0_hw3 : k0_chk3 arg20), ∀ a, (k0_off10 arg20) a + S1.size a ≤ S1537.size a := fun arg20 k0_hw3 => k0_hw3.2.2.2.1
theorem k0_off13_inb : ∀ (arg20 : BitVec 32) (k0_hw3 : k0_chk3 arg20), ∀ (r : Fin 18), ∀ a, S8x128.size a = 0 ∨ (k0_off13 arg20 (BitVec.ofNat 32 (64 * r.val))) a + (![8, 1] : Fin 2 → Nat) a * (S8x128.size a - 1) < S27648x128.size a := fun arg20 k0_hw3 r => k0_hw3.2.2.2.2.1 r
theorem k0_off14_inb : ∀ (arg20 : BitVec 32) (k0_hw3 : k0_chk3 arg20), ∀ a, (k0_off14 arg20) a + S1.size a ≤ S1537.size a := fun arg20 k0_hw3 => k0_hw3.2.2.2.2.2.1
theorem k0_off17_inb : ∀ (arg20 : BitVec 32) (k0_hw3 : k0_chk3 arg20), ∀ (r : Fin 18), ∀ a, S8x128.size a = 0 ∨ (k0_off17 arg20 (BitVec.ofNat 32 (64 * r.val))) a + (![8, 1] : Fin 2 → Nat) a * (S8x128.size a - 1) < S27648x128.size a := fun arg20 k0_hw3 r => k0_hw3.2.2.2.2.2.2.1 r
theorem k0_off18_inb : ∀ (arg20 : BitVec 32) (k0_hw3 : k0_chk3 arg20), ∀ a, (k0_off18 arg20) a + S1.size a ≤ S1537.size a := fun arg20 k0_hw3 => k0_hw3.2.2.2.2.2.2.2.1
theorem k0_off21_inb : ∀ (arg20 : BitVec 32) (k0_hw3 : k0_chk3 arg20), ∀ (r : Fin 18), ∀ a, S8x128.size a = 0 ∨ (k0_off21 arg20 (BitVec.ofNat 32 (64 * r.val))) a + (![8, 1] : Fin 2 → Nat) a * (S8x128.size a - 1) < S27648x128.size a := fun arg20 k0_hw3 r => k0_hw3.2.2.2.2.2.2.2.2.1 r
theorem k0_off22_inb : ∀ (arg20 : BitVec 32) (k0_hw3 : k0_chk3 arg20), ∀ a, (k0_off22 arg20) a + S1.size a ≤ S1537.size a := fun arg20 k0_hw3 => k0_hw3.2.2.2.2.2.2.2.2.2.1
theorem k0_off25_inb : ∀ (arg20 : BitVec 32) (k0_hw3 : k0_chk3 arg20), ∀ (r : Fin 18), ∀ a, S8x128.size a = 0 ∨ (k0_off25 arg20 (BitVec.ofNat 32 (64 * r.val))) a + (![8, 1] : Fin 2 → Nat) a * (S8x128.size a - 1) < S27648x128.size a := fun arg20 k0_hw3 r => k0_hw3.2.2.2.2.2.2.2.2.2.2.1 r
theorem k0_off26_inb : ∀ (arg20 : BitVec 32) (k0_hw3 : k0_chk3 arg20), ∀ a, (k0_off26 arg20) a + S1.size a ≤ S1537.size a := fun arg20 k0_hw3 => k0_hw3.2.2.2.2.2.2.2.2.2.2.2.1
theorem k0_off29_inb : ∀ (arg20 : BitVec 32) (k0_hw3 : k0_chk3 arg20), ∀ (r : Fin 18), ∀ a, S8x128.size a = 0 ∨ (k0_off29 arg20 (BitVec.ofNat 32 (64 * r.val))) a + (![8, 1] : Fin 2 → Nat) a * (S8x128.size a - 1) < S27648x128.size a := fun arg20 k0_hw3 r => k0_hw3.2.2.2.2.2.2.2.2.2.2.2.2.1 r
theorem k0_off30_inb : ∀ (arg20 : BitVec 32) (k0_hw3 : k0_chk3 arg20), ∀ a, (k0_off30 arg20) a + S1.size a ≤ S1537.size a := fun arg20 k0_hw3 => k0_hw3.2.2.2.2.2.2.2.2.2.2.2.2.2.1
theorem k0_off33_inb : ∀ (arg20 : BitVec 32) (k0_hw3 : k0_chk3 arg20), ∀ (r : Fin 18), ∀ a, S8x128.size a = 0 ∨ (k0_off33 arg20 (BitVec.ofNat 32 (64 * r.val))) a + (![8, 1] : Fin 2 → Nat) a * (S8x128.size a - 1) < S27648x128.size a := fun arg20 k0_hw3 r => k0_hw3.2.2.2.2.2.2.2.2.2.2.2.2.2.2.1 r
theorem k0_off34_inb : ∀ (arg20 : BitVec 32) (k0_hw3 : k0_chk3 arg20), ∀ a, (k0_off34 arg20) a + S1.size a ≤ S1537.size a := fun arg20 k0_hw3 => k0_hw3.2.2.2.2.2.2.2.2.2.2.2.2.2.2.2.1
theorem k0_off37_inb : ∀ (arg20 : BitVec 32) (k0_hw3 : k0_chk3 arg20), ∀ (r : Fin 18), ∀ a, S8x128.size a = 0 ∨ (k0_off37 arg20 (BitVec.ofNat 32 (64 * r.val))) a + (![8, 1] : Fin 2 → Nat) a * (S8x128.size a - 1) < S27648x128.size a := fun arg20 k0_hw3 r => k0_hw3.2.2.2.2.2.2.2.2.2.2.2.2.2.2.2.2.1 r
theorem k0_off38_inb : ∀ (arg20 : BitVec 32) (k0_hw3 : k0_chk3 arg20), ∀ a, (k0_off38 arg20) a + S1.size a ≤ S1537.size a := fun arg20 k0_hw3 => k0_hw3.2.2.2.2.2.2.2.2.2.2.2.2.2.2.2.2.2.1
theorem k0_off41_inb : ∀ (arg20 : BitVec 32) (k0_hw3 : k0_chk3 arg20), ∀ (r : Fin 18), ∀ a, S8x128.size a = 0 ∨ (k0_off41 arg20 (BitVec.ofNat 32 (64 * r.val))) a + (![8, 1] : Fin 2 → Nat) a * (S8x128.size a - 1) < S27648x128.size a := fun arg20 k0_hw3 r => k0_hw3.2.2.2.2.2.2.2.2.2.2.2.2.2.2.2.2.2.2.1 r
theorem k0_off42_inb : ∀ (arg20 : BitVec 32) (k0_hw3 : k0_chk3 arg20), ∀ a, (k0_off42 arg20) a + S1.size a ≤ S193.size a := fun arg20 k0_hw3 => k0_hw3.2.2.2.2.2.2.2.2.2.2.2.2.2.2.2.2.2.2.2.1
theorem k0_off48_inb : ∀ (arg20 : BitVec 32) (k0_hw3 : k0_chk3 arg20), ∀ (k0_h2 : k0_cond2 arg20 = 1#1), ∀ a, (k0_off48 arg20) a + S1.size a ≤ S24.size a := fun arg20 k0_hw3 k0_h2 => k0_hw3.2.2.2.2.2.2.2.2.2.2.2.2.2.2.2.2.2.2.2.2.1 k0_h2
theorem k0_off49_inb : ∀ (arg20 : BitVec 32) (k0_hw3 : k0_chk3 arg20), ∀ (k0_h2 : k0_cond2 arg20 = 1#1), ∀ a, (k0_off49 arg20) a + S1x144x8x128.size a ≤ S192x144x8x128.size a := fun arg20 k0_hw3 k0_h2 => k0_hw3.2.2.2.2.2.2.2.2.2.2.2.2.2.2.2.2.2.2.2.2.2.1 k0_h2
theorem k0_off50_inb : ∀ (arg20 : BitVec 32) (k0_hw3 : k0_chk3 arg20), ∀ (k0_h2 : k0_cond2 arg20 = 1#1), ∀ a, (k0_off50 arg20) a + S1x144x8x128.size a ≤ S24x144x8x128.size a := fun arg20 k0_hw3 k0_h2 => k0_hw3.2.2.2.2.2.2.2.2.2.2.2.2.2.2.2.2.2.2.2.2.2.2 k0_h2

@[reducible] def k0_t4_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c192_i32 : BitVec 32 := 192#32
  let v875 : BitVec 32 := Scalar.subi c192_i32 v441
  let c1_i32_1171 : BitVec 32 := 1#32
  let v877 : BitVec 32 := Scalar.divsi v875 c1_i32_1171
  let v878 : BitVec 32 := Scalar.muli v877 c1_i32_1171
  let v879 : BitVec 32 := Scalar.addi v441 v878
  let c1_i32_1172 : BitVec 32 := 1#32
  ⟨v441, v879, c1_i32_1172⟩

def k0_off51 (v439 : BitVec 32) (k0_t4 : Fin (k0_t4_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c1_i32_1172 : BitVec 32 := 1#32
  let arg20 : BitVec 32 := Scf.iv v441 c1_i32_1172 k0_t4
  let c0_i32_1187 : BitVec 32 := 0#32
  let c0_i32_1188 : BitVec 32 := 0#32
  let c0_i32_1189 : BitVec 32 := 0#32
  ![arg20.toNat, 0, 0, 0]
@[reducible] def k0_t5_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c192_i32 : BitVec 32 := 192#32
  let v875 : BitVec 32 := Scalar.subi c192_i32 v441
  let c1_i32_1171 : BitVec 32 := 1#32
  let v877 : BitVec 32 := Scalar.divsi v875 c1_i32_1171
  let v878 : BitVec 32 := Scalar.muli v877 c1_i32_1171
  let v879 : BitVec 32 := Scalar.addi v441 v878
  let v876 : BitVec 32 := Scalar.addi v441 v875
  let c1_i32_1173 : BitVec 32 := 1#32
  ⟨v879, v876, c1_i32_1173⟩
def k0_off52 (v439 : BitVec 32) (k0_t5 : Fin (k0_t5_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c192_i32 : BitVec 32 := 192#32
  let v875 : BitVec 32 := Scalar.subi c192_i32 v441
  let c1_i32_1171 : BitVec 32 := 1#32
  let v877 : BitVec 32 := Scalar.divsi v875 c1_i32_1171
  let v878 : BitVec 32 := Scalar.muli v877 c1_i32_1171
  let v879 : BitVec 32 := Scalar.addi v441 v878
  let c1_i32_1173 : BitVec 32 := 1#32
  let arg20 : BitVec 32 := Scf.iv v879 c1_i32_1173 k0_t5
  let c0_i32_1187 : BitVec 32 := 0#32
  let c0_i32_1188 : BitVec 32 := 0#32
  let c0_i32_1189 : BitVec 32 := 0#32
  ![arg20.toNat, 0, 0, 0]
def k0_off53 (v439 : BitVec 32) : Fin 1 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c1_i32_1187 : BitVec 32 := 1#32
  let v901 : BitVec 32 := Scalar.subi v441 c1_i32_1187
  let c24_i32_1188 : BitVec 32 := 24#32
  let v902 : BitVec 32 := Scalar.remsi v901 c24_i32_1188
  ![v902.toNat]
def k0_cond3 (v439 : BitVec 32) : BitVec 1 :=
  let c7_i32_447 : BitVec 32 := 7#32
  let v440 : BitVec 32 := Scalar.addi v439 c7_i32_447
  let c3_i32_448 : BitVec 32 := 3#32
  let v441 : BitVec 32 := Scalar.shrsi v440 c3_i32_448
  let c0_i32_1174 : BitVec 32 := 0#32
  let v882 : BitVec 1 := Scalar.cmpi .sgt v441 c0_i32_1174
  let v883 : BitVec 32 := Scalar.extui v882
  let c0_i32_1175 : BitVec 32 := 0#32
  let v884 : BitVec 1 := Scalar.cmpi .ne v883 c0_i32_1175
  v884

def k0_off54 (v439 : BitVec 32) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c1_i32_1187 : BitVec 32 := 1#32
  let v901 : BitVec 32 := Scalar.subi v441 c1_i32_1187
  let c0_i32_1189 : BitVec 32 := 0#32
  let c0_i32_1190 : BitVec 32 := 0#32
  let c0_i32_1191 : BitVec 32 := 0#32
  ![v901.toNat, 0, 0, 0]
def k0_off55 (v439 : BitVec 32) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c1_i32_1187 : BitVec 32 := 1#32
  let v901 : BitVec 32 := Scalar.subi v441 c1_i32_1187
  let c24_i32_1188 : BitVec 32 := 24#32
  let v902 : BitVec 32 := Scalar.remsi v901 c24_i32_1188
  let c0_i32_1192 : BitVec 32 := 0#32
  let c0_i32_1193 : BitVec 32 := 0#32
  let c0_i32_1194 : BitVec 32 := 0#32
  ![v902.toNat, 0, 0, 0]
@[reducible] def k0_t6_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let v887 : BitVec 32 := Scalar.subi v441 v886
  let c1_i32_1179 : BitVec 32 := 1#32
  let v889 : BitVec 32 := Scalar.divsi v887 c1_i32_1179
  let v890 : BitVec 32 := Scalar.muli v889 c1_i32_1179
  let v891 : BitVec 32 := Scalar.addi v886 v890
  let c1_i32_1180 : BitVec 32 := 1#32
  ⟨v886, v891, c1_i32_1180⟩
def k0_off56 (v439 : BitVec 32) (k0_t6 : Fin (k0_t6_loop v439).trips) : Fin 1 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let c1_i32_1180 : BitVec 32 := 1#32
  let arg20 : BitVec 32 := Scf.iv v886 c1_i32_1180 k0_t6
  let c24_i32_1187 : BitVec 32 := 24#32
  let v901 : BitVec 32 := Scalar.remsi arg20 c24_i32_1187
  ![v901.toNat]
def k0_off57 (v439 : BitVec 32) (k0_t6 : Fin (k0_t6_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let c1_i32_1180 : BitVec 32 := 1#32
  let arg20 : BitVec 32 := Scf.iv v886 c1_i32_1180 k0_t6
  let c0_i32_1188 : BitVec 32 := 0#32
  let c0_i32_1189 : BitVec 32 := 0#32
  let c0_i32_1190 : BitVec 32 := 0#32
  ![arg20.toNat, 0, 0, 0]
def k0_off58 (v439 : BitVec 32) (k0_t6 : Fin (k0_t6_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let c1_i32_1180 : BitVec 32 := 1#32
  let arg20 : BitVec 32 := Scf.iv v886 c1_i32_1180 k0_t6
  let c24_i32_1187 : BitVec 32 := 24#32
  let v901 : BitVec 32 := Scalar.remsi arg20 c24_i32_1187
  let c0_i32_1191 : BitVec 32 := 0#32
  let c0_i32_1192 : BitVec 32 := 0#32
  let c0_i32_1193 : BitVec 32 := 0#32
  ![v901.toNat, 0, 0, 0]
@[reducible] def k0_t7_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let v887 : BitVec 32 := Scalar.subi v441 v886
  let c1_i32_1179 : BitVec 32 := 1#32
  let v889 : BitVec 32 := Scalar.divsi v887 c1_i32_1179
  let v890 : BitVec 32 := Scalar.muli v889 c1_i32_1179
  let v891 : BitVec 32 := Scalar.addi v886 v890
  let v888 : BitVec 32 := Scalar.addi v886 v887
  let c1_i32_1181 : BitVec 32 := 1#32
  ⟨v891, v888, c1_i32_1181⟩
def k0_off59 (v439 : BitVec 32) (k0_t7 : Fin (k0_t7_loop v439).trips) : Fin 1 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let v887 : BitVec 32 := Scalar.subi v441 v886
  let c1_i32_1179 : BitVec 32 := 1#32
  let v889 : BitVec 32 := Scalar.divsi v887 c1_i32_1179
  let v890 : BitVec 32 := Scalar.muli v889 c1_i32_1179
  let v891 : BitVec 32 := Scalar.addi v886 v890
  let c1_i32_1181 : BitVec 32 := 1#32
  let arg20 : BitVec 32 := Scf.iv v891 c1_i32_1181 k0_t7
  let c24_i32_1187 : BitVec 32 := 24#32
  let v901 : BitVec 32 := Scalar.remsi arg20 c24_i32_1187
  ![v901.toNat]
def k0_off60 (v439 : BitVec 32) (k0_t7 : Fin (k0_t7_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let v887 : BitVec 32 := Scalar.subi v441 v886
  let c1_i32_1179 : BitVec 32 := 1#32
  let v889 : BitVec 32 := Scalar.divsi v887 c1_i32_1179
  let v890 : BitVec 32 := Scalar.muli v889 c1_i32_1179
  let v891 : BitVec 32 := Scalar.addi v886 v890
  let c1_i32_1181 : BitVec 32 := 1#32
  let arg20 : BitVec 32 := Scf.iv v891 c1_i32_1181 k0_t7
  let c0_i32_1188 : BitVec 32 := 0#32
  let c0_i32_1189 : BitVec 32 := 0#32
  let c0_i32_1190 : BitVec 32 := 0#32
  ![arg20.toNat, 0, 0, 0]
def k0_off61 (v439 : BitVec 32) (k0_t7 : Fin (k0_t7_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c24_i32_1176 : BitVec 32 := 24#32
  let v885 : BitVec 32 := Scalar.subi v441 c24_i32_1176
  let c0_i32_1177 : BitVec 32 := 0#32
  let v886 : BitVec 32 := Scalar.maxsi v885 c0_i32_1177
  let v887 : BitVec 32 := Scalar.subi v441 v886
  let c1_i32_1179 : BitVec 32 := 1#32
  let v889 : BitVec 32 := Scalar.divsi v887 c1_i32_1179
  let v890 : BitVec 32 := Scalar.muli v889 c1_i32_1179
  let v891 : BitVec 32 := Scalar.addi v886 v890
  let c1_i32_1181 : BitVec 32 := 1#32
  let arg20 : BitVec 32 := Scf.iv v891 c1_i32_1181 k0_t7
  let c24_i32_1187 : BitVec 32 := 24#32
  let v901 : BitVec 32 := Scalar.remsi arg20 c24_i32_1187
  let c0_i32_1191 : BitVec 32 := 0#32
  let c0_i32_1192 : BitVec 32 := 0#32
  let c0_i32_1193 : BitVec 32 := 0#32
  ![v901.toNat, 0, 0, 0]
@[reducible] def k0_t8_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c192_i32_1182 : BitVec 32 := 192#32
  let v894 : BitVec 32 := Scalar.subi c192_i32_1182 v441
  let c1_i32_1184 : BitVec 32 := 1#32
  let v896 : BitVec 32 := Scalar.divsi v894 c1_i32_1184
  let v897 : BitVec 32 := Scalar.muli v896 c1_i32_1184
  let v898 : BitVec 32 := Scalar.addi v441 v897
  let c1_i32_1185 : BitVec 32 := 1#32
  ⟨v441, v898, c1_i32_1185⟩
def k0_off62 (v439 : BitVec 32) (k0_t8 : Fin (k0_t8_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c1_i32_1185 : BitVec 32 := 1#32
  let arg20 : BitVec 32 := Scf.iv v441 c1_i32_1185 k0_t8
  let c0_i32_1187 : BitVec 32 := 0#32
  let c0_i32_1188 : BitVec 32 := 0#32
  let c0_i32_1189 : BitVec 32 := 0#32
  ![arg20.toNat, 0, 0, 0]
@[reducible] def k0_t9_loop (v439 : BitVec 32) : Scf.Loop 32 :=
  let c7_i32_447 : BitVec 32 := 7#32
  let v440 : BitVec 32 := Scalar.addi v439 c7_i32_447
  let c3_i32_448 : BitVec 32 := 3#32
  let v441 : BitVec 32 := Scalar.shrsi v440 c3_i32_448
  let c192_i32_1182 : BitVec 32 := 192#32
  let v894 : BitVec 32 := Scalar.subi c192_i32_1182 v441
  let c1_i32_1184 : BitVec 32 := 1#32
  let v896 : BitVec 32 := Scalar.divsi v894 c1_i32_1184
  let v897 : BitVec 32 := Scalar.muli v896 c1_i32_1184
  let v898 : BitVec 32 := Scalar.addi v441 v897
  let v895 : BitVec 32 := Scalar.addi v441 v894
  let c1_i32_1186 : BitVec 32 := 1#32
  ⟨v898, v895, c1_i32_1186⟩
def k0_off63 (v439 : BitVec 32) (k0_t9 : Fin (k0_t9_loop v439).trips) : Fin 4 → Nat :=
  let c7_i32_447 : BitVec 32 := 7#32
  let v440 : BitVec 32 := Scalar.addi v439 c7_i32_447
  let c3_i32_448 : BitVec 32 := 3#32
  let v441 : BitVec 32 := Scalar.shrsi v440 c3_i32_448
  let c192_i32_1182 : BitVec 32 := 192#32
  let v894 : BitVec 32 := Scalar.subi c192_i32_1182 v441
  let c1_i32_1184 : BitVec 32 := 1#32
  let v896 : BitVec 32 := Scalar.divsi v894 c1_i32_1184
  let v897 : BitVec 32 := Scalar.muli v896 c1_i32_1184
  let v898 : BitVec 32 := Scalar.addi v441 v897
  let c1_i32_1186 : BitVec 32 := 1#32
  let arg20 : BitVec 32 := Scf.iv v898 c1_i32_1186 k0_t9
  let c0_i32_1187 : BitVec 32 := 0#32
  let c0_i32_1188 : BitVec 32 := 0#32
  let c0_i32_1189 : BitVec 32 := 0#32
  ![arg20.toNat, 0, 0, 0]

def k0_chk14 (v439 : BitVec 32) : Prop :=
  ((k0_t4_loop v439).OK) ∧
  (∀ k0_t4 : Fin (k0_t4_loop v439).trips, ∀ a, (k0_off51 v439 k0_t4) a + S1x144x8x128.size a ≤ S192x144x8x128.size a) ∧
  ((k0_t5_loop v439).OK) ∧
  (∀ k0_t5 : Fin (k0_t5_loop v439).trips, ∀ a, (k0_off52 v439 k0_t5) a + S1x144x8x128.size a ≤ S192x144x8x128.size a) ∧
  (∀ (k0_h3 : k0_cond3 v439 = 1#1), ∀ a, (k0_off53 v439) a + S1.size a ≤ S24.size a) ∧
  (∀ (k0_h3 : k0_cond3 v439 = 1#1), ∀ a, (k0_off54 v439) a + S1x144x8x128.size a ≤ S192x144x8x128.size a) ∧
  (∀ (k0_h3 : k0_cond3 v439 = 1#1), ∀ a, (k0_off55 v439) a + S1x144x8x128.size a ≤ S24x144x8x128.size a) ∧
  ((k0_t6_loop v439).OK) ∧
  (∀ k0_t6 : Fin (k0_t6_loop v439).trips, ∀ a, (k0_off56 v439 k0_t6) a + S1.size a ≤ S24.size a) ∧
  (∀ k0_t6 : Fin (k0_t6_loop v439).trips, ∀ a, (k0_off57 v439 k0_t6) a + S1x144x8x128.size a ≤ S192x144x8x128.size a) ∧
  (∀ k0_t6 : Fin (k0_t6_loop v439).trips, ∀ a, (k0_off58 v439 k0_t6) a + S1x144x8x128.size a ≤ S24x144x8x128.size a) ∧
  ((k0_t7_loop v439).OK) ∧
  (∀ k0_t7 : Fin (k0_t7_loop v439).trips, ∀ a, (k0_off59 v439 k0_t7) a + S1.size a ≤ S24.size a) ∧
  (∀ k0_t7 : Fin (k0_t7_loop v439).trips, ∀ a, (k0_off60 v439 k0_t7) a + S1x144x8x128.size a ≤ S192x144x8x128.size a) ∧
  (∀ k0_t7 : Fin (k0_t7_loop v439).trips, ∀ a, (k0_off61 v439 k0_t7) a + S1x144x8x128.size a ≤ S24x144x8x128.size a) ∧
  ((k0_t8_loop v439).OK) ∧
  (∀ k0_t8 : Fin (k0_t8_loop v439).trips, ∀ a, (k0_off62 v439 k0_t8) a + S1x144x8x128.size a ≤ S192x144x8x128.size a) ∧
  ((k0_t9_loop v439).OK) ∧
  (∀ k0_t9 : Fin (k0_t9_loop v439).trips, ∀ a, (k0_off63 v439 k0_t9) a + S1x144x8x128.size a ≤ S192x144x8x128.size a)
theorem k0_t4_ok : ∀ (v439 : BitVec 32) (k0_hw14 : k0_chk14 v439), (k0_t4_loop v439).OK := fun v439 k0_hw14 => k0_hw14.1
theorem k0_off51_inb : ∀ (v439 : BitVec 32) (k0_hw14 : k0_chk14 v439) (k0_t4 : Fin (k0_t4_loop v439).trips), ∀ a, (k0_off51 v439 k0_t4) a + S1x144x8x128.size a ≤ S192x144x8x128.size a := fun v439 k0_hw14 k0_t4 => k0_hw14.2.1 k0_t4
theorem k0_t5_ok : ∀ (v439 : BitVec 32) (k0_hw14 : k0_chk14 v439), (k0_t5_loop v439).OK := fun v439 k0_hw14 => k0_hw14.2.2.1
theorem k0_off52_inb : ∀ (v439 : BitVec 32) (k0_hw14 : k0_chk14 v439) (k0_t5 : Fin (k0_t5_loop v439).trips), ∀ a, (k0_off52 v439 k0_t5) a + S1x144x8x128.size a ≤ S192x144x8x128.size a := fun v439 k0_hw14 k0_t5 => k0_hw14.2.2.2.1 k0_t5
theorem k0_off53_inb : ∀ (v439 : BitVec 32) (k0_hw14 : k0_chk14 v439), ∀ (k0_h3 : k0_cond3 v439 = 1#1), ∀ a, (k0_off53 v439) a + S1.size a ≤ S24.size a := fun v439 k0_hw14 k0_h3 => k0_hw14.2.2.2.2.1 k0_h3
theorem k0_off54_inb : ∀ (v439 : BitVec 32) (k0_hw14 : k0_chk14 v439), ∀ (k0_h3 : k0_cond3 v439 = 1#1), ∀ a, (k0_off54 v439) a + S1x144x8x128.size a ≤ S192x144x8x128.size a := fun v439 k0_hw14 k0_h3 => k0_hw14.2.2.2.2.2.1 k0_h3
theorem k0_off55_inb : ∀ (v439 : BitVec 32) (k0_hw14 : k0_chk14 v439), ∀ (k0_h3 : k0_cond3 v439 = 1#1), ∀ a, (k0_off55 v439) a + S1x144x8x128.size a ≤ S24x144x8x128.size a := fun v439 k0_hw14 k0_h3 => k0_hw14.2.2.2.2.2.2.1 k0_h3
theorem k0_t6_ok : ∀ (v439 : BitVec 32) (k0_hw14 : k0_chk14 v439), (k0_t6_loop v439).OK := fun v439 k0_hw14 => k0_hw14.2.2.2.2.2.2.2.1
theorem k0_off56_inb : ∀ (v439 : BitVec 32) (k0_hw14 : k0_chk14 v439) (k0_t6 : Fin (k0_t6_loop v439).trips), ∀ a, (k0_off56 v439 k0_t6) a + S1.size a ≤ S24.size a := fun v439 k0_hw14 k0_t6 => k0_hw14.2.2.2.2.2.2.2.2.1 k0_t6
theorem k0_off57_inb : ∀ (v439 : BitVec 32) (k0_hw14 : k0_chk14 v439) (k0_t6 : Fin (k0_t6_loop v439).trips), ∀ a, (k0_off57 v439 k0_t6) a + S1x144x8x128.size a ≤ S192x144x8x128.size a := fun v439 k0_hw14 k0_t6 => k0_hw14.2.2.2.2.2.2.2.2.2.1 k0_t6
theorem k0_off58_inb : ∀ (v439 : BitVec 32) (k0_hw14 : k0_chk14 v439) (k0_t6 : Fin (k0_t6_loop v439).trips), ∀ a, (k0_off58 v439 k0_t6) a + S1x144x8x128.size a ≤ S24x144x8x128.size a := fun v439 k0_hw14 k0_t6 => k0_hw14.2.2.2.2.2.2.2.2.2.2.1 k0_t6
theorem k0_t7_ok : ∀ (v439 : BitVec 32) (k0_hw14 : k0_chk14 v439), (k0_t7_loop v439).OK := fun v439 k0_hw14 => k0_hw14.2.2.2.2.2.2.2.2.2.2.2.1
theorem k0_off59_inb : ∀ (v439 : BitVec 32) (k0_hw14 : k0_chk14 v439) (k0_t7 : Fin (k0_t7_loop v439).trips), ∀ a, (k0_off59 v439 k0_t7) a + S1.size a ≤ S24.size a := fun v439 k0_hw14 k0_t7 => k0_hw14.2.2.2.2.2.2.2.2.2.2.2.2.1 k0_t7
theorem k0_off60_inb : ∀ (v439 : BitVec 32) (k0_hw14 : k0_chk14 v439) (k0_t7 : Fin (k0_t7_loop v439).trips), ∀ a, (k0_off60 v439 k0_t7) a + S1x144x8x128.size a ≤ S192x144x8x128.size a := fun v439 k0_hw14 k0_t7 => k0_hw14.2.2.2.2.2.2.2.2.2.2.2.2.2.1 k0_t7
theorem k0_off61_inb : ∀ (v439 : BitVec 32) (k0_hw14 : k0_chk14 v439) (k0_t7 : Fin (k0_t7_loop v439).trips), ∀ a, (k0_off61 v439 k0_t7) a + S1x144x8x128.size a ≤ S24x144x8x128.size a := fun v439 k0_hw14 k0_t7 => k0_hw14.2.2.2.2.2.2.2.2.2.2.2.2.2.2.1 k0_t7
theorem k0_t8_ok : ∀ (v439 : BitVec 32) (k0_hw14 : k0_chk14 v439), (k0_t8_loop v439).OK := fun v439 k0_hw14 => k0_hw14.2.2.2.2.2.2.2.2.2.2.2.2.2.2.2.1
theorem k0_off62_inb : ∀ (v439 : BitVec 32) (k0_hw14 : k0_chk14 v439) (k0_t8 : Fin (k0_t8_loop v439).trips), ∀ a, (k0_off62 v439 k0_t8) a + S1x144x8x128.size a ≤ S192x144x8x128.size a := fun v439 k0_hw14 k0_t8 => k0_hw14.2.2.2.2.2.2.2.2.2.2.2.2.2.2.2.2.1 k0_t8
theorem k0_t9_ok : ∀ (v439 : BitVec 32) (k0_hw14 : k0_chk14 v439), (k0_t9_loop v439).OK := fun v439 k0_hw14 => k0_hw14.2.2.2.2.2.2.2.2.2.2.2.2.2.2.2.2.2.1
theorem k0_off63_inb : ∀ (v439 : BitVec 32) (k0_hw14 : k0_chk14 v439) (k0_t9 : Fin (k0_t9_loop v439).trips), ∀ a, (k0_off63 v439 k0_t9) a + S1x144x8x128.size a ≤ S192x144x8x128.size a := fun v439 k0_hw14 k0_t9 => k0_hw14.2.2.2.2.2.2.2.2.2.2.2.2.2.2.2.2.2.2 k0_t9
-- ==== ReferenceIdeal.lean ====
abbrev S6x256x18432 : Shape := ⟨3, ![6, 256, 18432]⟩
abbrev S6x256 : Shape := ⟨2, ![6, 256]⟩
abbrev S1536x18432 : Shape := ⟨2, ![1536, 18432]⟩
abbrev S1536 : Shape := ⟨1, ![1536]⟩
abbrev S1536x1 : Shape := ⟨2, ![1536, 1]⟩
abbrev S_ : Shape := ⟨0, ![]⟩

abbrev nBuf : Space → Nat
  | .hbm => 29
  | .vmem => 3
  | .smem => 0
  | _ => 0

abbrev bufTy : (tb : Table) → Fin (tcTables nBuf tb) → BufTy
  | .hbm, ⟨0, _⟩ => ⟨S6x256x18432, .i8⟩
  | .hbm, ⟨1, _⟩ => ⟨S6x256, .f32⟩
  | .hbm, ⟨2, _⟩ => ⟨S6x256, .i32⟩
  | .hbm, ⟨3, _⟩ => ⟨S6x256, .i32⟩
  | .hbm, ⟨4, _⟩ => ⟨S1536x18432, .i8⟩
  | .hbm, ⟨5, _⟩ => ⟨S1536, .f32⟩
  | .hbm, ⟨6, _⟩ => ⟨S1536x1, .f32⟩
  | .hbm, ⟨7, _⟩ => ⟨S1536x18432, .f32⟩
  | .hbm, ⟨8, _⟩ => ⟨S1536, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S1536x1, .i1⟩
  | .hbm, ⟨13, _⟩ => ⟨S_, .f32⟩
  | .hbm, ⟨14, _⟩ => ⟨S1536x18432, .i1⟩
  | .hbm, ⟨15, _⟩ => ⟨S1536x18432, .f32⟩
  | .hbm, ⟨16, _⟩ => ⟨S1536x18432, .f32⟩
  | .hbm, ⟨17, _⟩ => ⟨S_, .f32⟩
  | .hbm, ⟨18, _⟩ => ⟨S1536x18432, .f32⟩
  | .hbm, ⟨19, _⟩ => ⟨S1536, .i32⟩
  | .hbm, ⟨20, _⟩ => ⟨S_, .i32⟩
  | .hbm, ⟨21, _⟩ => ⟨S1536, .i32⟩
  | .hbm, ⟨22, _⟩ => ⟨S1536, .i1⟩
  | .hbm, ⟨23, _⟩ => ⟨S_, .i32⟩
  | .hbm, ⟨24, _⟩ => ⟨S1536, .i32⟩
  | .hbm, ⟨25, _⟩ => ⟨S1536, .i32⟩
  | .hbm, ⟨26, _⟩ => ⟨S1536, .i32⟩
  | .hbm, ⟨27, _⟩ => ⟨S1536x1, .i32⟩
  | .hbm, ⟨28, _⟩ => ⟨S1536x18432, .f32⟩
  | .local _ .vmem, ⟨0, _⟩ => ⟨S1536x18432, .i8⟩
  | .local _ .vmem, ⟨1, _⟩ => ⟨S1536x1, .f32⟩
  | .local _ .vmem, ⟨2, _⟩ => ⟨S1536x18432, .f32⟩
  | _, _ => ⟨S6x256x18432, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x18432 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.RowsInRange.lean ====
/-
  The precondition read: every row number, as a natural number, is below 1536.
-/
module

public import proofs.«01_k».proof.Pre_rows_in_range

@[expose] public section

noncomputable section

namespace Cert.Proof

open Idealize.ShloMosaic

instance rowsInRangeFacts : Cert.Pre_rows_in_range.Facts where
  bcast_S_S6x256 := by decide

theorem lt_of_range (v : BitVec 32) (h0 : (0#32).sle v = true) (h1 : v.slt 1536#32 = true) : v.toNat < 1536 := by
  have e0 : (0#32).toInt ≤ v.toInt := by simpa [BitVec.sle] using h0
  have e1 : v.toInt < (1536#32).toInt := by simpa [BitVec.slt] using h1
  have z0 : (0#32).toInt = 0 := by decide
  have z1 : (1536#32).toInt = 1536 := by decide
  rw [z0] at e0; rw [z1] at e1
  rw [BitVec.toInt_eq_toNat_cond] at e0 e1
  have := v.isLt
  split at e0 <;> omega

theorem both_of_and (x y : Bool) (h : IntOp.andi (BitVec.ofBool x) (BitVec.ofBool y) = 1#1) : x = true ∧ y = true := by
  cases x <;> cases y <;> first | exact ⟨rfl, rfl⟩ | exact absurd h (by decide)

theorem rows_lt {F : FTy → Type} [FloatOps F] (a : IVec Cert.Pre_rows_in_range.S6x256x18432 8) (b : FVec F Cert.Pre_rows_in_range.S6x256 .f32)
    (d e : IVec Cert.Pre_rows_in_range.S6x256 32) (h : Cert.Pre_rows_in_range.fn a b d e = fun _ => 1#1) (y : Cert.Pre_rows_in_range.S6x256.Idx) :
    (e y).toNat < 1536 := by
  have hy := congrFun h y
  simp only [Cert.Pre_rows_in_range.fn, andi, cmpi, broadcastInDim, constantI, IntOp.cmpi] at hy
  have hy := both_of_and _ _ hy
  exact lt_of_range _ hy.1 hy.2

end Cert.Proof

end
-- ==== Proof.Seg.Prog.lean ====
/-
  The kernel's straight-line stretches written as recursions: one row of a block (its eighteen tiles of packed words
  read, unpacked, scaled and stored), one added row, the copies into the staging buffer and their waits. Each printed
  stretch is equal to the recursion by computation, so a proof about the recursion is a proof about the kernel.
-/
module

public import proofs.«01_k».proof.KernelIdeal
public import Idealize.ShloMosaic.Lib.Pipeline.Sound
public import proofs.«01_k».proof.Proof.Gen.KernelIdeal
public import proofs.«01_k».proof.Proof.Gen.KernelIdeal.Skeleton

@[expose] public section

noncomputable section

namespace Cert.Proof.Seg

open Cert.KernelIdeal
open Idealize.ShloMosaic Idealize.ShloMosaic.TcCoe
open Idealize.SL.Sem
open Facts₀ Facts

variable {F : FTy → Type} [FloatOps F]

/-! ## The buffers -/

/-- The packed rows in scratch memory, seen as one matrix of 128-word lines. -/
abbrev cV : Memref sig .tc .vmem S56448x128 .i32 :=
  (Memref.whole cc0_scratch0).reshape S56448x128 reshapes_S144x392x128_S56448x128.1
    reshapes_S144x392x128_S56448x128.2 (Memref.isWhole_whole _).contiguous

/-- The ring of output blocks, seen as one matrix of 128-element lines. -/
abbrev oV : Memref sig .tc .vmem S27648x128 .f32 :=
  (Memref.whole cc0_scratch1).reshape S27648x128 reshapes_S24x144x8x128_S27648x128.1
    reshapes_S24x144x8x128_S27648x128.2 (Memref.isWhole_whole _).contiguous

/-! ## The lines of a row -/

/-- First line of packed words that tile `c` of token `t` reads. -/
def cOff (t c : BitVec 32) : Fin 2 → ℕ :=
  ![(Scalar.indexCast (Scalar.addi (Scalar.shrsi t 2#32) c) : Index).toNat, 0]

/-- Every tile of token `t` lies inside the packed rows. -/
def CIn (t : BitVec 32) : Prop :=
  ∀ (r : Fin 18), ∀ a, S8x128.size a = 0 ∨
    (cOff t (BitVec.ofNat 32 (3136 * r.val))) a + (![392, 1] : Fin 2 → Nat) a * (S8x128.size a - 1) < S56448x128.size a

/-- The lines tile `r` of token `t` reads. -/
abbrev cR (t : BitVec 32) (h : CIn t) (r : Fin 18) : LoadRect S56448x128 :=
  ⟨cOff t (BitVec.ofNat 32 (3136 * r.val)), S8x128.size, ![392, 1], h r⟩

/-- First line of the ring that tile `c` of row `r` of slot `s` takes. -/
def oOff (s c r : BitVec 32) : Fin 2 → ℕ :=
  ![(Scalar.indexCast (Scalar.addi (Scalar.addi (Scalar.muli s 1152#32) c) r) : Index).toNat, 0]

/-- Every tile of row `r` of slot `s` lies inside the ring. -/
def OIn (s r : BitVec 32) : Prop :=
  ∀ (i : Fin 18), ∀ a, S8x128.size a = 0 ∨
    (oOff s (BitVec.ofNat 32 (64 * i.val)) r) a + (![8, 1] : Fin 2 → Nat) a * (S8x128.size a - 1) < S27648x128.size a

/-- The lines tile `i` of row `r` of slot `s` takes. -/
abbrev oR (s r : BitVec 32) (h : OIn s r) (i : Fin 18) : LoadRect S27648x128 :=
  ⟨oOff s (BitVec.ofNat 32 (64 * i.val)) r, S8x128.size, ![8, 1], h i⟩

/-! ## Unpacking -/

/-- Four tiles of packed words, the byte `sh` bits up of each read as a float. -/
def dec4 (w0 w1 w2 w3 : Vec F S8x128 .i32) (sh : BitVec 32) : FVec F S32x128 .f32 :=
  extf .f32 (bitcastToFloat .fp8e5m2 (trunci 8 (shrui
    (concatenate S32x128 0 [⟨S8x128, w0⟩, ⟨S8x128, w1⟩, ⟨S8x128, w2⟩, ⟨S8x128, w3⟩]
      concatenates_S8x128_S8x128_S8x128_S8x128_S32x128_d0 : IVec S32x128 32)
    (broadcast S32x128 sh)) natLt_8_32)) bitsLt_fp8e5m2_f32

/-- Two tiles of packed words, likewise. -/
def dec2 (w0 w1 : Vec F S8x128 .i32) (sh : BitVec 32) : FVec F S16x128 .f32 :=
  extf .f32 (bitcastToFloat .fp8e5m2 (trunci 8 (shrui
    (concatenate S16x128 0 [⟨S8x128, w0⟩, ⟨S8x128, w1⟩] concatenates_S8x128_S8x128_S16x128_d0 : IVec S16x128 32)
    (broadcast S16x128 sh)) natLt_8_32)) bitsLt_fp8e5m2_f32

/-- One tile of four, scaled. -/
def sl4 (i : Fin 4) (x : FVec F S32x128 .f32) (sc : F .f32) : FVec F S8x128 .f32 :=
  match i with
  | 0 => mulf (extractStridedSlice S8x128 ![0, 0] x slices_S32x128_o0_0_S8x128) (broadcast S8x128 sc)
  | 1 => mulf (extractStridedSlice S8x128 ![8, 0] x slices_S32x128_o8_0_S8x128) (broadcast S8x128 sc)
  | 2 => mulf (extractStridedSlice S8x128 ![16, 0] x slices_S32x128_o16_0_S8x128) (broadcast S8x128 sc)
  | 3 => mulf (extractStridedSlice S8x128 ![24, 0] x slices_S32x128_o24_0_S8x128) (broadcast S8x128 sc)

/-- One tile of two, scaled. -/
def sl2 (i : Fin 2) (x : FVec F S16x128 .f32) (sc : F .f32) : FVec F S8x128 .f32 :=
  match i with
  | 0 => mulf (extractStridedSlice S8x128 ![0, 0] x slices_S16x128_o0_0_S8x128) (broadcast S8x128 sc)
  | 1 => mulf (extractStridedSlice S8x128 ![8, 0] x slices_S16x128_o8_0_S8x128) (broadcast S8x128 sc)

/-! ## One row -/

/-- The kernel's programs. -/
abbrev TP (F : FTy → Type) [FloatOps F] (α : Type) := Prog (TpuEff nD τ sig (Elt F) (Λ₀ F) .tc) α

variable {α : Type}

/-- Store tile `i` of a row. -/
def putTile (s r : BitVec 32) (h : OIn s r) (i : Fin 18) (x : FVec F S8x128 .f32) (k : TP F α) : TP F α :=
  .op (.load oV (oR s r h i) (View.loadsAt_vmem h_S8x128)) fun _ =>
  .op (.store oV ⟨oR s r h i, spos_8_1⟩ (shapeCast S8x128 x shapeCasts_S8x128_S8x128) Finset.univ
    (View.stores_vmem_bits_univ h_S8x128 rfl) (.inl rfl)) fun _ => k

/-- Add to tile `i` of a row. -/
def addTile (s r : BitVec 32) (h : OIn s r) (i : Fin 18) (x : FVec F S8x128 .f32) (k : TP F α) : TP F α :=
  .op (.load oV (oR s r h i) (View.loadsAt_vmem h_S8x128)) fun (y : Vec F S8x128 .f32) =>
  .op (.load oV (oR s r h i) (View.loadsAt_vmem h_S8x128)) fun _ =>
  .op (.store oV ⟨oR s r h i, spos_8_1⟩ (shapeCast S8x128 (addf y x) shapeCasts_S8x128_S8x128) Finset.univ
    (View.stores_vmem_bits_univ h_S8x128 rfl) (.inl rfl)) fun _ => k

/-- Read tile `i` of a token. -/
def getTile (t : BitVec 32) (h : CIn t) (i : Fin 18) (k : Vec F S8x128 .i32 → TP F α) : TP F α :=
  .op (.load cV (cR t h i) (View.loadsAt_vmem h_S8x128)) fun w => k w

/-- What a row does with a tile: store it, or add it. -/
abbrev TileOp (F : FTy → Type) [FloatOps F] (α : Type) := Fin 18 → FVec F S8x128 .f32 → TP F α → TP F α

/-- Tiles `a`, `b`, `c`, `d` of a row: read, unpacked together, scaled, used. -/
def quad (t : BitVec 32) (h : CIn t) (sh : BitVec 32) (sc : F .f32) (op : TileOp F α) (a b c d : Fin 18) (k : TP F α) : TP F α :=
  getTile t h a fun w0 => getTile t h b fun w1 => getTile t h c fun w2 => getTile t h d fun w3 =>
  op a (sl4 0 (dec4 w0 w1 w2 w3 sh) sc) <| op b (sl4 1 (dec4 w0 w1 w2 w3 sh) sc) <|
  op c (sl4 2 (dec4 w0 w1 w2 w3 sh) sc) <| op d (sl4 3 (dec4 w0 w1 w2 w3 sh) sc) k

/-- Tiles `a` and `b` of a row, likewise. -/
def pair (t : BitVec 32) (h : CIn t) (sh : BitVec 32) (sc : F .f32) (op : TileOp F α) (a b : Fin 18) (k : TP F α) : TP F α :=
  getTile t h a fun w0 => getTile t h b fun w1 =>
  op a (sl2 0 (dec2 w0 w1 sh) sc) <| op b (sl2 1 (dec2 w0 w1 sh) sc) k

/-- A whole row: its eighteen tiles, four at a time. -/
def row (t : BitVec 32) (h : CIn t) (sh : BitVec 32) (sc : F .f32) (op : TileOp F α) (k : TP F α) : TP F α :=
  quad t h sh sc op 0 1 2 3 <| quad t h sh sc op 4 5 6 7 <| quad t h sh sc op 8 9 10 11 <|
  quad t h sh sc op 12 13 14 15 <| pair t h sh sc op 16 17 k

/-- How far up a word token `t`'s byte lies. -/
def shOf (t : BitVec 32) : BitVec 32 := Scalar.muli (Scalar.andi t 3#32) 8#32

/-- The place of token `t` in the scalar tables. -/
def sOff (t : BitVec 32) : Fin 2 → ℕ :=
  ![(Scalar.indexCast (Scalar.shrsi t 8#32) : Index).toNat, (Scalar.indexCast (Scalar.andi t 255#32) : Index).toNat]

/-- Read the scale of token `t`. -/
def getScale (t : BitVec 32) (h : ∀ a, (sOff t) a + S1x1.size a ≤ S6x256.size a) (k : F .f32 → TP F α) : TP F α :=
  smemLoadElt (Memref.whole cc0_scratch3) (Rect.unit (s := S6x256) (sOff t) S1x1.size h)
    (View.loads_smem_one rfl numel1_S1x1) (Shape.Idx.first (numel1_S1x1.symm ▸ Nat.one_pos)) fun (x : Elt F .f32) => k x

/-- Read the row number of token `t`. -/
def getRow (t : BitVec 32) (h : ∀ a, (sOff t) a + S1x1.size a ≤ S6x256.size a) (k : BitVec 32 → TP F α) : TP F α :=
  smemLoadElt (Memref.whole cc0_scratch5) (Rect.unit (s := S6x256) (sOff t) S1x1.size h)
    (View.loads_smem_one rfl numel1_S1x1) (Shape.Idx.first (numel1_S1x1.symm ▸ Nat.one_pos)) fun (x : Elt F .i32) => k x

/-! ## The walk over a block's further tokens -/

/-- The words the printed loop carries along unread. -/
structure Carried (b : BitVec 32) : Type where
  h3 : k0_chk3 b
  a4 : BitVec 32
  h4 : k0_chk4 a4
  a5 : BitVec 32
  h5 : k0_chk5 a5
  a6 : BitVec 32
  h6 : k0_chk6 a6
  a7 : BitVec 32
  h7 : k0_chk7 a7
  a8 : BitVec 32
  h8 : k0_chk8 a8
  a9 : BitVec 32
  h9 : k0_chk9 a9
  a10 : BitVec 32
  h10 : k0_chk10 a10
  a11 : BitVec 32
  h11 : k0_chk11 a11

/-- The argument of the walk's label: token `x` of block `b`. -/
def walkArg (b : BitVec 32) (w : Carried b) (x : BitVec 32) : Cc0While2 F :=
  ⟨b, w.h3, w.a4, w.h4, w.a5, w.h5, w.a6, w.h6, w.a7, w.h7, w.a8, w.h8, w.a9, w.h9, w.a10, w.h10, w.a11, w.h11,
    Memref.whole cc0_scratch5, Memref.isWhole_whole _, Memref.whole cc0_scratch3, Memref.isWhole_whole _,
    Memref.whole cc0_scratch0, Memref.isWhole_whole _, Scalar.remsi b 24#32, Memref.whole cc0_scratch1, Memref.isWhole_whole _,
    Memref.whole cc0_scratch8, Memref.isWhole_whole _, x⟩

/-- The lines token `t` reads, from what the walk checks. -/
theorem cIn_of_chk12 {t : BitVec 32} (h : k0_chk12 t) : CIn t := by
  intro r
  by_cases hr : r.val < 4
  · exact h.2.1 ⟨r.val, hr⟩
  · have h := h.2.2.1 ⟨r.val - 4, by omega⟩
    have e : 12544 + 3136 * (r.val - 4) = 3136 * r.val := by omega
    simp only [e] at h
    exact h

/-- One step of the walk. -/
def walkBody (b : BitVec 32) (w : Carried b) (t : BitVec 32) : TP F (BitVec 32) :=
  if Scalar.andi (Scalar.cmpi .sge t 0#32) (Scalar.cmpi .slt t 1536#32) = 1#1 then
    .op (.assume (k0_chk12 t) (k0_chk12.dec t)) fun h12 =>
    getRow t (k0_off43_inb t h12.down) fun v =>
    .op (.assume (k0_chk13 b v) (k0_chk13.dec b v)) fun h13 =>
    getScale t (k0_off43_inb t h12.down) fun sc =>
    row t (cIn_of_chk12 h12.down) (shOf t) sc (addTile (Scalar.remsi b 24#32) (Scalar.andi v 7#32) h13.down) <|
    smemLoadElt (Memref.whole cc0_scratch8) (Rect.unit (s := S1537) (k0_off47 t) S1.size (k0_off47_inb t h12.down))
      (View.loads_smem_one rfl numel1_S1) (Shape.Idx.first (numel1_S1.symm ▸ Nat.one_pos)) fun (x : Elt F .i32) =>
    .op (.call (2 : (Λ₀ F).Label) (walkArg b w x)) .ret
  else .ret t

/-- The body of the walk's label. -/
def while2Of (w : Cc0While2 F) : TP F (BitVec 32) :=
  cc0_while2 w.arg20 w.k0_hw3 w.v908 w.k0_hw4 w.v1223 w.k0_hw5 w.v1538 w.k0_hw6 w.v1853 w.k0_hw7 w.v2168 w.k0_hw8 w.v2483
    w.k0_hw9 w.v2798 w.k0_hw10 w.v3113 w.k0_hw11 w.arg10 w.harg10 w.arg8 w.harg8 w.arg5 w.harg5 w.v901 w.arg6 w.harg6
    w.arg13 w.harg13 w.arg21

/-- The printed walk is the step. -/
theorem while2_eq (b : BitVec 32) (w : Carried b) (t : BitVec 32) :
    while2Of (F := F) (walkArg b w t) = walkBody b w t := by
  rfl

/-! ## Copies -/

/-- A semaphore of the ring's. -/
abbrev SemIn (o : Fin 1 → ℕ) : Prop := ∀ a, o a + S1.size a ≤ S24.size a

/-- A block of the result. -/
abbrev PieceIn (o : Fin 4 → ℕ) : Prop := ∀ a, o a + S1x144x8x128.size a ≤ S192x144x8x128.size a

/-- A slot of the ring. -/
abbrev SlotIn (o : Fin 4 → ℕ) : Prop := ∀ a, o a + S1x144x8x128.size a ≤ S24x144x8x128.size a

/-- Semaphore `o` of the ring's. -/
abbrev outSem (o : Fin 1 → ℕ) (h : SemIn o) : DmaSem sig :=
  (((cc0_scratch13.slice (Rect.unit (s := S24) o S1.size h)).squeeze S_ squeezes_S1_S_) : DmaSems sig S_).sem

/-- Block `o` of the result. -/
abbrev outPiece (o : Fin 4 → ℕ) (h : PieceIn o) :
    Memref sig .tc .hbm S144x8x128 .f32 :=
  ((Memref.whole main_v3).slice (Rect.unit (s := S192x144x8x128) o S1x144x8x128.size h) (fun _ => rfl)).squeeze S144x8x128
    squeezes_S1x144x8x128_S144x8x128

/-- Slot `o` of the ring. -/
abbrev ringSlot (o : Fin 4 → ℕ) (h : SlotIn o) :
    Memref sig .tc .vmem S144x8x128 .f32 :=
  ((Memref.whole cc0_scratch1).slice (Rect.unit (s := S24x144x8x128) o S1x144x8x128.size h) (fun _ => rfl)).squeeze S144x8x128
    squeezes_S1x144x8x128_S144x8x128

/-- Start the copy of a slot to its block. -/
def startOut (o : Fin 1 → ℕ) (h : SemIn o) (p : Fin 4 → ℕ) (hp : PieceIn p) (q : Fin 4 → ℕ) (hq : SlotIn q) (k : TP F α) : TP F α :=
  Prog.bind (Prog.lift (.enqueueDma (ringSlot q hq) (.here (outPiece p hp)) (.dma (outSem o h)) ((View.wordExact_bits rfl).reshape _ _)
    ((View.wordExact_bits rfl).reshape _ _) ⟨Or.inl rfl, trivial⟩)) fun _ => k

/-- Wait for the copy of a slot. -/
def waitOut (o : Fin 1 → ℕ) (h : SemIn o) (p : Fin 4 → ℕ) (hp : PieceIn p) (q : Fin 4 → ℕ) (hq : SlotIn q) (k : TP F α) : TP F α :=
  Prog.bind (Prog.lift (.waitDma2 (outSem o h) (ringSlot q hq) (outPiece p hp) ((View.wordExact_bits rfl).reshape _ _)
    ((View.wordExact_bits rfl).reshape _ _))) fun _ => k

/-- Start the copy of zeros to a block. -/
def startZero (p : Fin 4 → ℕ) (hp : PieceIn p) (k : TP F α) : TP F α :=
  Prog.bind (Prog.lift (.enqueueDma (Memref.whole cc0_scratch2) (.here (outPiece p hp)) (.dma cc0_scratch14.sem)
    (Memref.isWhole_whole _).wordExact ((View.wordExact_bits rfl).reshape _ _) ⟨Or.inl rfl, trivial⟩)) fun _ => k

/-- Wait for a copy of zeros. -/
def waitZero (p : Fin 4 → ℕ) (hp : PieceIn p) (k : TP F α) : TP F α :=
  Prog.bind (Prog.lift (.waitDma2 cc0_scratch14.sem (Memref.whole cc0_scratch2) (outPiece p hp)
    (Memref.isWhole_whole _).wordExact ((View.wordExact_bits rfl).reshape _ _))) fun _ => k

/-! ## One block -/

/-- Where the first token of row `r` of block `b` is kept. -/
def hOff (b r : BitVec 32) : Fin 1 → ℕ := ![(Scalar.indexCast (Scalar.addi (Scalar.muli b 8#32) r) : Index).toNat]

/-- Row `r` of a block from its first token: none is a row of zeros. -/
def headRow (b r : BitVec 32) (hH : ∀ a, (hOff b r) a + S1.size a ≤ S1537.size a) (hO : OIn (Scalar.remsi b 24#32) r)
    (P : BitVec 32 → Prop) (d : ∀ v, Decidable (P v))
    (hS : ∀ v, P v → ∀ a, (sOff (Scalar.maxsi v 0#32)) a + S1x1.size a ≤ S6x256.size a)
    (hC : ∀ v, P v → CIn (Scalar.maxsi v 0#32)) (k : (v : BitVec 32) → P v → TP F α) : TP F α :=
  smemLoadElt (Memref.whole cc0_scratch6) (Rect.unit (s := S1537) (hOff b r) S1.size hH)
    (View.loads_smem_one rfl numel1_S1) (Shape.Idx.first (numel1_S1.symm ▸ Nat.one_pos)) fun (v : Elt F .i32) =>
  .op (.assume (P v) (d v)) fun hv =>
  getScale (Scalar.maxsi v 0#32) (hS v hv.down) fun sc =>
  row (Scalar.maxsi v 0#32) (hC v hv.down) (shOf (Scalar.maxsi v 0#32))
    (Scalar.select (Scalar.cmpi .slt v 0#32) (Scalar.ofBits .f32 0x00000000#32) sc)
    (putTile (Scalar.remsi b 24#32) r hO) (k v hv.down)

/-- The argument of the block loop's label. -/
def blockArg (n b : BitVec 32) : Cc0While1 F :=
  ⟨n, cc0_scratch13, Memref.whole main_v3, Memref.isWhole_whole _, Memref.whole cc0_scratch1, Memref.isWhole_whole _,
    Memref.whole cc0_scratch6, Memref.isWhole_whole _, Memref.whole cc0_scratch3, Memref.isWhole_whole _,
    Memref.whole cc0_scratch0, Memref.isWhole_whole _, Memref.whole cc0_scratch7, Memref.isWhole_whole _,
    Memref.whole cc0_scratch5, Memref.isWhole_whole _, Memref.whole cc0_scratch8, Memref.isWhole_whole _, b⟩

/-- The body of the block loop's label. -/
def while1Of (w : Cc0While1 F) : TP F (BitVec 32) :=
  cc0_while1 w.v441 w.arg18 w.arg4 w.harg4 w.arg6 w.harg6 w.arg11 w.harg11 w.arg8 w.harg8 w.arg5 w.harg5 w.arg12 w.harg12
    w.arg10 w.harg10 w.arg13 w.harg13 w.arg20

/-- The last rows of a block: the walk over its further tokens, the copy of the block before it, the next block. -/
def blockTail (n b : BitVec 32) (w : Carried b) : TP F (BitVec 32) :=
  smemLoadElt (Memref.whole cc0_scratch7) (Rect.unit (s := S193) (k0_off42 b) S1.size (k0_off42_inb b w.h3))
    (View.loads_smem_one rfl numel1_S1) (Shape.Idx.first (numel1_S1.symm ▸ Nat.one_pos)) fun (x : Elt F .i32) =>
  .op (.call (2 : (Λ₀ F).Label) (walkArg b w x)) fun (_ : BitVec 32) =>
  if h2 : k0_cond2 b = 1#1 then
    startOut (k0_off48 b) (k0_off48_inb b w.h3 h2) (k0_off49 b) (k0_off49_inb b w.h3 h2) (k0_off50 b) (k0_off50_inb b w.h3 h2)
      (.op (.call (1 : (Λ₀ F).Label) (blockArg n (Scalar.addi b 1#32))) .ret)
  else .op (.call (1 : (Λ₀ F).Label) (blockArg n (Scalar.addi b 1#32))) .ret

/-- The eight rows of a block, then the rest of it. -/
def blockRows (n b : BitVec 32) (h3 : k0_chk3 b) : TP F (BitVec 32) :=
  headRow b 0#32 (k0_off10_inb b h3) (k0_off13_inb b h3) k0_chk4 k0_chk4.dec (fun v h => h.1) (fun v h => h.2) fun a4 h4 =>
  headRow b 1#32 (k0_off14_inb b h3) (k0_off17_inb b h3) k0_chk5 k0_chk5.dec (fun v h => h.1) (fun v h => h.2) fun a5 h5 =>
  headRow b 2#32 (k0_off18_inb b h3) (k0_off21_inb b h3) k0_chk6 k0_chk6.dec (fun v h => h.1) (fun v h => h.2) fun a6 h6 =>
  headRow b 3#32 (k0_off22_inb b h3) (k0_off25_inb b h3) k0_chk7 k0_chk7.dec (fun v h => h.1) (fun v h => h.2) fun a7 h7 =>
  headRow b 4#32 (k0_off26_inb b h3) (k0_off29_inb b h3) k0_chk8 k0_chk8.dec (fun v h => h.1) (fun v h => h.2) fun a8 h8 =>
  headRow b 5#32 (k0_off30_inb b h3) (k0_off33_inb b h3) k0_chk9 k0_chk9.dec (fun v h => h.1) (fun v h => h.2) fun a9 h9 =>
  headRow b 6#32 (k0_off34_inb b h3) (k0_off37_inb b h3) k0_chk10 k0_chk10.dec (fun v h => h.1) (fun v h => h.2) fun a10 h10 =>
  headRow b 7#32 (k0_off38_inb b h3) (k0_off41_inb b h3) k0_chk11 k0_chk11.dec (fun v h => h.1) (fun v h => h.2) fun a11 h11 =>
  blockTail n b ⟨h3, a4, h4, a5, h5, a6, h6, a7, h7, a8, h8, a9, h9, a10, h10, a11, h11⟩

/-- One block. -/
def blockBody (n b : BitVec 32) : TP F (BitVec 32) :=
  if Scalar.cmpi .slt b n = 1#1 then
    .op (.assume (k0_chk3 b) (k0_chk3.dec b)) fun h3 =>
    if h1 : k0_cond1 b = 1#1 then
      waitOut (k0_off7 b) (k0_off7_inb b h3.down h1) (k0_off8 b) (k0_off8_inb b h3.down h1) (k0_off9 b)
        (k0_off9_inb b h3.down h1) (blockRows n b h3.down)
    else blockRows n b h3.down
  else .ret b

/-- The printed block loop is the step. -/
theorem while1_eq (n b : BitVec 32) : while1Of (F := F) (blockArg n b) = blockBody n b := by
  unfold while1Of blockArg cc0_while1 k0_part107 k0_part47 blockBody blockRows blockTail
  by_cases h0 : Scalar.cmpi .slt b n = 1#1
  · by_cases h1 : k0_cond1 b = 1#1 <;> by_cases h2 : k0_cond2 b = 1#1 <;>
      simp only [h0, h1, h2, ↓reduceDIte, ↓reduceIte] <;> rfl
  · simp only [if_neg h0, ↓reduceIte]; rfl

end Cert.Proof.Seg
-- ==== Proof.Seg.Words.lean ====
/-
  The kernel's integer arithmetic on small words, as natural numbers.
-/
module

public import proofs.«01_k».proof.Proof.Seg.Prog

@[expose] public section

namespace Cert.Proof.Seg

open Cert.KernelIdeal
open Idealize.ShloMosaic Idealize.ShloMosaic.TcCoe

/-- The word of a small number has that number back. -/
theorem toNat_ofNat {n : ℕ} (h : n < 2 ^ 32) : (BitVec.ofNat 32 n).toNat = n := by
  simp only [BitVec.toNat_ofNat]; exact Nat.mod_eq_of_lt h

theorem ofNat_toNat (x : BitVec 32) : BitVec.ofNat 32 x.toNat = x := by simp

theorem toInt_small {x : BitVec 32} (h : x.toNat < 2 ^ 31) : x.toInt = x.toNat := by
  rw [BitVec.toInt_eq_toNat_cond]; split <;> omega

theorem msb_small {x : BitVec 32} (h : x.toNat < 2 ^ 31) : x.msb = false := by
  rw [BitVec.msb_eq_false_iff_two_mul_lt]; omega

theorem addi_toNat {x y : BitVec 32} (h : x.toNat + y.toNat < 2 ^ 32) : (Scalar.addi x y).toNat = x.toNat + y.toNat := by
  show (x + y).toNat = _
  rw [BitVec.toNat_add, Nat.mod_eq_of_lt h]

theorem subi_toNat {x y : BitVec 32} (h : y.toNat ≤ x.toNat) : (Scalar.subi x y).toNat = x.toNat - y.toNat := by
  show (x - y).toNat = _
  have := x.isLt
  rw [BitVec.toNat_sub_of_le (by rwa [BitVec.le_def])]

theorem muli_toNat {x y : BitVec 32} (h : x.toNat * y.toNat < 2 ^ 32) : (Scalar.muli x y).toNat = x.toNat * y.toNat := by
  show (x * y).toNat = _
  rw [BitVec.toNat_mul, Nat.mod_eq_of_lt h]

theorem shrsi_toNat {x : BitVec 32} (h : x.toNat < 2 ^ 31) (k : ℕ) (hk : k < 32) :
    (Scalar.shrsi x (BitVec.ofNat 32 k)).toNat = x.toNat / 2 ^ k := by
  have hk' : (BitVec.ofNat 32 k).toNat = k := toNat_ofNat (by omega)
  unfold Scalar.shrsi IntOp.shrsi
  rw [if_pos (by rw [hk']; exact hk)]
  show (x.sshiftRight (BitVec.ofNat 32 k).toNat).toNat = _
  rw [hk', BitVec.sshiftRight_eq_of_msb_false (msb_small h), BitVec.toNat_ushiftRight, Nat.shiftRight_eq_div_pow]

theorem andi_toNat (x : BitVec 32) (k : ℕ) (hk : k < 32) :
    (Scalar.andi x (BitVec.ofNat 32 (2 ^ k - 1))).toNat = x.toNat % 2 ^ k := by
  show (x &&& _).toNat = _
  have h2 : 2 ^ k < 2 ^ 32 := Nat.pow_lt_pow_right (by omega) hk
  rw [BitVec.toNat_and, toNat_ofNat (by omega), Nat.and_two_pow_sub_one_eq_mod]

theorem remsi_toNat {x : BitVec 32} (h : x.toNat < 2 ^ 31) (n : ℕ) (hn : 0 < n) (hn' : n < 2 ^ 31) :
    (Scalar.remsi x (BitVec.ofNat 32 n)).toNat = x.toNat % n := by
  have hk' : (BitVec.ofNat 32 n).toNat = n := toNat_ofNat (by omega)
  have hm : (BitVec.ofNat 32 n).msb = false := msb_small (by rw [hk']; exact hn')
  unfold Scalar.remsi IntOp.remsi
  rw [if_neg ?_]
  · rw [BitVec.srem_eq, msb_small h, hm]
    show (x % BitVec.ofNat 32 n).toNat = _
    rw [BitVec.toNat_umod, hk']
  · rintro (h0 | ⟨h0, _⟩)
    · rw [h0] at hk'; simp at hk'; omega
    · rw [h0] at h; revert h; decide

theorem cmpi_slt_small {x y : BitVec 32} (hx : x.toNat < 2 ^ 31) (hy : y.toNat < 2 ^ 31) :
    Scalar.cmpi .slt x y = 1#1 ↔ x.toNat < y.toNat := by
  show BitVec.ofBool (x.slt y) = 1#1 ↔ _
  rw [show x.slt y = decide (x.toNat < y.toNat) by
    rw [BitVec.slt, toInt_small hx, toInt_small hy]; simp]
  by_cases hh : x.toNat < y.toNat <;> simp [hh]

theorem cmpi_sge_small {x y : BitVec 32} (hx : x.toNat < 2 ^ 31) (hy : y.toNat < 2 ^ 31) :
    Scalar.cmpi .sge x y = 1#1 ↔ y.toNat ≤ x.toNat := by
  show BitVec.ofBool (y.sle x) = 1#1 ↔ _
  rw [show y.sle x = decide (y.toNat ≤ x.toNat) by
    rw [BitVec.sle, toInt_small hx, toInt_small hy]; simp]
  by_cases hh : y.toNat ≤ x.toNat <;> simp [hh]

end Cert.Proof.Seg
-- ==== Proof.Seg.Rows.lean ====
/-
  What a row of the kernel does to a slot of the ring. A slot is held as a function of its eight rows, 144 column tiles
  and 128 lanes; a row read from the packed words and stored, or added, changes that function on the row alone
  (`wp_row`).
-/
module

public import proofs.«01_k».proof.Proof.Seg.Words
public import Idealize.ShloMosaic.Lib.Pipeline.Value
public import Idealize.ShloMosaic.Lib.Transfers

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-- The labels' variants: natural numbers. -/
abbrev 𝒱₀ : Variants := Variants.nat

/-- A weakest precondition of the kernel's programs, at bound `bd`. -/
abbrev W (c : Dev nD) (bd : Option ℕ) (p : TP F α) (Q : α → sProp 𝕄) : sProp 𝕄 :=
  wp frame (wpE (defs₀ (F := F)) 𝒱₀ (c : Thread nD τ) bd) Set.univ p Q

/-! ## A byte of a word -/

/-- The byte of `w` that lies `sh` bits up, read as a float. -/
def decW (w sh : BitVec 32) : F .f32 :=
  FloatOps.extf .f32 bitsLt_fp8e5m2_f32 (FloatOps.ofBits .fp8e5m2 ((IntOp.shrui .vector w sh).setWidth 8))

theorem sl4_apply (i : Fin 4) (w : Fin 4 → Vec F S8x128 .i32) (sh : BitVec 32) (sc : F .f32) (k : S8x128.Idx) :
    sl4 i (dec4 (w 0) (w 1) (w 2) (w 3) sh) sc k = FloatOps.mulf (decW (w i k) sh) sc := by
  have key : ∀ j : S32x128.Idx, (j 0).val = 8 * i.val + (k 0).val → (j 1).val = (k 1).val →
      dec4 (w 0) (w 1) (w 2) (w 3) sh j = decW (w i k) sh := by
    intro j h0 h1
    have e : (concatenate S32x128 0 [⟨S8x128, w 0⟩, ⟨S8x128, w 1⟩, ⟨S8x128, w 2⟩, ⟨S8x128, w 3⟩]
      concatenates_S8x128_S8x128_S8x128_S8x128_S32x128_d0 : IVec S32x128 32) j = w i k := by
      refine concatenate_apply_piece (t := S32x128) _ _ _ _ i.val ?_ S8x128 (w i) ?_ rfl (8 * i.val) ?_ k ?_ ?_
      · exact i.isLt
      · fin_cases i <;> rfl
      · fin_cases i <;> rfl
      · intro b hb
        have hb' : b = 1 := by
          rcases b with ⟨_ | _ | n, hn⟩
          · exact absurd rfl hb
          · rfl
          · exact absurd hn (by simp)
        subst hb'; exact h1.symm
      · exact h0.symm
    unfold dec4 decW
    show FloatOps.extf .f32 _ (FloatOps.ofBits .fp8e5m2 ((IntOp.shrui .vector _ _).setWidth 8)) = _
    rw [e]; rfl
  fin_cases i <;>
  · refine congrArg (fun z => FloatOps.mulf z sc) (key _ ?_ ?_)
    · show _ + (k 0).val = _; rfl
    · show 0 + (k 1).val = _; omega

theorem sl2_apply (i : Fin 2) (w : Fin 2 → Vec F S8x128 .i32) (sh : BitVec 32) (sc : F .f32) (k : S8x128.Idx) :
    sl2 i (dec2 (w 0) (w 1) sh) sc k = FloatOps.mulf (decW (w i k) sh) sc := by
  have key : ∀ j : S16x128.Idx, (j 0).val = 8 * i.val + (k 0).val → (j 1).val = (k 1).val →
      dec2 (w 0) (w 1) sh j = decW (w i k) sh := by
    intro j h0 h1
    have e : (concatenate S16x128 0 [⟨S8x128, w 0⟩, ⟨S8x128, w 1⟩]
      concatenates_S8x128_S8x128_S16x128_d0 : IVec S16x128 32) j = w i k := by
      refine concatenate_apply_piece (t := S16x128) _ _ _ _ i.val ?_ S8x128 (w i) ?_ rfl (8 * i.val) ?_ k ?_ ?_
      · exact i.isLt
      · fin_cases i <;> rfl
      · fin_cases i <;> rfl
      · intro b hb
        have hb' : b = 1 := by
          rcases b with ⟨_ | _ | n, hn⟩
          · exact absurd rfl hb
          · rfl
          · exact absurd hn (by simp)
        subst hb'; exact h1.symm
      · exact h0.symm
    unfold dec2 decW
    show FloatOps.extf .f32 _ (FloatOps.ofBits .fp8e5m2 ((IntOp.shrui .vector _ _).setWidth 8)) = _
    rw [e]; rfl
  fin_cases i <;>
  · refine congrArg (fun z => FloatOps.mulf z sc) (key _ ?_ ?_)
    · show _ + (k 0).val = _; rfl
    · show 0 + (k 1).val = _; omega

/-! ## Where the tiles lie -/

/-- The line of an element of a tile, -/
def kR (k : S8x128.Idx) : Fin 8 := k 0
/-- and its lane. -/
def kL (k : S8x128.Idx) : Fin 128 := k 1

/-- The slot of an element of the ring, -/
def eS (e : S24x144x8x128.Idx) : Fin 24 := e 0
/-- its column tile, -/
def eJ (e : S24x144x8x128.Idx) : Fin 144 := e 1
/-- its row, -/
def eR (e : S24x144x8x128.Idx) : Fin 8 := e 2
/-- and its lane. -/
def eL (e : S24x144x8x128.Idx) : Fin 128 := e 3

/-- An element of the ring. -/
def oIdx (s : Fin 24) (j : Fin 144) (r : Fin 8) (l : Fin 128) : S24x144x8x128.Idx := fun a => match a with
  | ⟨0, _⟩ => s | ⟨1, _⟩ => j | ⟨2, _⟩ => r | ⟨3, _⟩ => l

/-- An element of the packed rows. -/
def cIdx (j : Fin 144) (r : Fin 392) (l : Fin 128) : S144x392x128.Idx := fun a => match a with
  | ⟨0, _⟩ => j | ⟨1, _⟩ => r | ⟨2, _⟩ => l

theorem oIdx_eta (i : S24x144x8x128.Idx) : oIdx (eS i) (eJ i) (eR i) (eL i) = i := by
  funext a
  rcases a with ⟨_ | _ | _ | _ | n, hn⟩ <;> first | rfl | exact absurd hn (by simp)

theorem cIdx_eta (i : S144x392x128.Idx) : cIdx (i 0) (i 1) (i 2) = i := by
  funext a
  rcases a with ⟨_ | _ | _ | n, hn⟩ <;> first | rfl | exact absurd hn (by simp)

/-- Tile `i` (of eighteen), line `k` of it. -/
def tileAt (i : Fin 18) (k : Fin 8) : Fin 144 := ⟨8 * i.val + k.val, by omega⟩

theorem oOff_zero (s : Fin 24) (r : Fin 8) (i : Fin 18) (sw rw : BitVec 32) (hs : sw.toNat = s) (hr : rw.toNat = r) :
    oOff sw (BitVec.ofNat 32 (64 * i.val)) rw 0 = 1152 * s.val + 64 * i.val + r.val := by
  have hc : (BitVec.ofNat 32 (64 * i.val)).toNat = 64 * i.val := toNat_ofNat (by omega)
  have h1 : (Scalar.muli sw 1152#32).toNat = 1152 * s.val := by
    rw [muli_toNat (by rw [hs]; show s.val * 1152 < _; omega), hs]; show s.val * 1152 = _; omega
  have h2 : (Scalar.addi (Scalar.muli sw 1152#32) (BitVec.ofNat 32 (64 * i.val))).toNat = 1152 * s.val + 64 * i.val := by
    rw [addi_toNat (by rw [h1, hc]; omega), h1, hc]
  show (Scalar.addi _ rw).toNat = _
  rw [addi_toNat (by rw [h2, hr]; omega), h2, hr]

theorem cOff_zero (t : BitVec 32) (ht : t.toNat < 1536) (i : Fin 18) :
    cOff t (BitVec.ofNat 32 (3136 * i.val)) 0 = t.toNat / 4 + 3136 * i.val := by
  have hc : (BitVec.ofNat 32 (3136 * i.val)).toNat = 3136 * i.val := toNat_ofNat (by omega)
  have h1 : (Scalar.shrsi t 2#32).toNat = t.toNat / 4 := shrsi_toNat (by omega) 2 (by omega)
  show (Scalar.addi _ _).toNat = _
  rw [addi_toNat (by rw [h1, hc]; omega), h1, hc]

/-- Element `k` of a tile of the ring, as the buffer's element. -/
theorem oV_emb (s : Fin 24) (r : Fin 8) (i : Fin 18) (sw rw : BitVec 32) (hs : sw.toNat = s) (hr : rw.toNat = r)
    (h : OIn sw rw) (k : S8x128.Idx) :
    (oV.access ⟨oR sw rw h i, spos_8_1⟩).emb k = oIdx s (tileAt i (kR k)) r (kL k) := by
  have h0 := oOff_zero s r i sw rw hs hr
  show Shape.reshapeEquiv _ ((⟨oR sw rw h i, spos_8_1⟩ : Rect S27648x128).emb k) = _
  refine Shape.reshapeEquiv_eq_of_rowMajor _ ?_
  refine (Shape.rowMajor_val_four (d := ![24, 144, 8, 128]) _).trans (Eq.trans ?_ (Shape.rowMajor_val_two (d := ![27648, 128]) _).symm)
  show ((s.val * 144 + (8 * i.val + (kR k).val)) * 8 + r.val) * 128 + (kL k).val
    = (oOff sw (BitVec.ofNat 32 (64 * i.val)) rw 0 + 8 * (kR k).val) * 128 + (0 + 1 * (kL k).val)
  rw [h0]; omega

/-- What a tile of the packed rows reads. -/
theorem cV_read (t : BitVec 32) (ht : t.toNat < 1536) (h : CIn t) (i : Fin 18) (f : S144x392x128.Idx → BitVec 32)
    (k : S8x128.Idx) :
    (cV.view.readAt (Elt F) (cR t h i) f : Vec F S8x128 .i32) k
      = f (cIdx (tileAt i (kR k)) ⟨t.toNat / 4, by omega⟩ (kL k)) := by
  have h0 := cOff_zero t ht i
  rw [View.readAt_apply]
  refine congrArg f (Shape.reshapeEquiv_eq_of_rowMajor _ ?_)
  refine (Shape.rowMajor_val_three (d := ![144, 392, 128]) _).trans (Eq.trans ?_ (Shape.rowMajor_val_two (d := ![56448, 128]) _).symm)
  show ((8 * i.val + (kR k).val) * 392 + t.toNat / 4) * 128 + (kL k).val
    = (cOff t (BitVec.ofNat 32 (3136 * i.val)) 0 + 392 * (kR k).val) * 128 + (0 + 1 * (kL k).val)
  rw [h0]; omega

/-! ## A slot -/

/-- The contents of a slot: row, column tile, lane. -/
abbrev Slot (F : FTy → Type) := Fin 8 → Fin 144 → Fin 128 → F .f32

/-- The elements of slot `s`. -/
def slotSet (s : Fin 24) : Finset S24x144x8x128.Idx := Finset.univ.filter fun i => eS i = s

theorem mem_slotSet {s : Fin 24} {i : S24x144x8x128.Idx} : i ∈ slotSet s ↔ eS i = s := by simp [slotSet]

/-- Slot `s` of the ring holds `G`. -/
def slotPts (c : Dev nD) (s : Fin 24) (G : Slot F) : sProp 𝕄 :=
  ((c : Thread nD τ).loc cc0_scratch1) ↦[slotSet s]{fullShare} (fun i : S24x144x8x128.Idx => G (eR i) (eJ i) (eL i))

/-- A slot with tile `i` of row `r` changed by `u`, which is told the old element and the tile's. -/
def updTile (u : F .f32 → F .f32 → F .f32) (r : Fin 8) (i : Fin 18) (x : S8x128.Idx → F .f32) (G : Slot F) : Slot F :=
  fun r' j l => if r' = r ∧ j.val / 8 = i.val then u (G r' j l) (x (Shape.pair (⟨j.val % 8, Nat.mod_lt _ (by omega)⟩ : Fin 8) l)) else G r' j l

theorem setOn_slot (s : Fin 24) (r : Fin 8) (i : Fin 18) (sw rw : BitVec 32) (hs : sw.toNat = s) (hr : rw.toNat = r)
    (h : OIn sw rw) (M : Finset S8x128.Idx) : (oV.access ⟨oR sw rw h i, spos_8_1⟩).setOn M ⊆ slotSet s := by
  intro x hx
  obtain ⟨k, _, rfl⟩ := Finset.mem_map.mp hx
  rw [oV_emb s r i sw rw hs hr]
  exact mem_slotSet.mpr rfl

theorem load_slot (s : Fin 24) (r : Fin 8) (i : Fin 18) (sw rw : BitVec 32) (hs : sw.toNat = s) (hr : rw.toNat = r)
    (h : OIn sw rw) : oV.view.setOn (oR sw rw h i).set ⊆ slotSet s := by
  have := setOn_slot s r i sw rw hs hr h Finset.univ
  rwa [View.setOn_univ, View.set_slice] at this

/-- The written slot. -/
theorem write_slot (s : Fin 24) (r : Fin 8) (i : Fin 18) (sw rw : BitVec 32) (hs : sw.toNat = s) (hr : rw.toNat = r)
    (h : OIn sw rw) (G : Slot F) (x : S8x128.Idx → F .f32) (u : F .f32 → F .f32 → F .f32)
    (w : S8x128.Idx → F .f32) (hw : ∀ k, w k = u (G r (tileAt i (kR k)) (kL k)) (x k)) :
    ∀ e ∈ slotSet s, (oV.access ⟨oR sw rw h i, spos_8_1⟩).write (Elt F)
        (fun e : S24x144x8x128.Idx => G (eR e) (eJ e) (eL e)) w Finset.univ e
      = (fun e : S24x144x8x128.Idx => updTile u r i x G (eR e) (eJ e) (eL e)) e := by
  intro e he
  have hs0 : eS e = s := mem_slotSet.mp he
  by_cases hh : eR e = r ∧ (eJ e).val / 8 = i.val
  · obtain ⟨h2, h1⟩ := hh
    have hk : e = (oV.access ⟨oR sw rw h i, spos_8_1⟩).emb
        (Shape.pair (⟨(eJ e).val % 8, Nat.mod_lt _ (by omega)⟩ : Fin 8) (eL e)) := by
      rw [oV_emb s r i sw rw hs hr, ← oIdx_eta e]
      have : (eJ e) = tileAt i ⟨(eJ e).val % 8, Nat.mod_lt _ (by omega)⟩ := by
        apply Fin.ext; show _ = 8 * i.val + (eJ e).val % 8; have := Nat.div_add_mod (eJ e).val 8; omega
      show oIdx _ _ _ _ = oIdx s (tileAt i ⟨(eJ e).val % 8, _⟩) r (eL e)
      rw [hs0, h2, ← this]
    conv_lhs => rw [hk]
    rw [View.write_emb_of_mem (h := Finset.mem_univ _)]
    show w _ = _
    rw [hw]
    show _ = updTile u r i x G (eR e) (eJ e) (eL e)
    unfold updTile
    rw [if_pos ⟨h2, h1⟩]
    have : (eJ e) = tileAt i ⟨(eJ e).val % 8, Nat.mod_lt _ (by omega)⟩ := by
      apply Fin.ext; show _ = 8 * i.val + (eJ e).val % 8; have := Nat.div_add_mod (eJ e).val 8; omega
    congr 1
    show G r (tileAt i ⟨(eJ e).val % 8, _⟩) (e 3) = G (eR e) (eJ e) (eL e)
    rw [← this, h2]; rfl
  · rw [View.write_of_not_mem]
    · show _ = updTile u r i x G (eR e) (eJ e) (eL e)
      unfold updTile
      rw [if_neg hh]
    · intro hx
      obtain ⟨k, _, rfl⟩ := Finset.mem_map.mp hx
      apply hh
      rw [oV_emb s r i sw rw hs hr]
      refine ⟨rfl, ?_⟩
      show (8 * i.val + (kR k).val) / 8 = i.val
      have := (kR k).isLt
      omega

variable (c : Dev nD) (bd : Option ℕ)

theorem write_slot_pts (s : Fin 24) (r : Fin 8) (i : Fin 18) (sw rw : BitVec 32) (hs : sw.toNat = s) (hr : rw.toNat = r)
    (h : OIn sw rw) (G : Slot F) (x : S8x128.Idx → F .f32) (u : F .f32 → F .f32 → F .f32)
    (w : S8x128.Idx → F .f32) (hw : ∀ k, w k = u (G r (tileAt i (kR k)) (kL k)) (x k)) :
    (((oV.access ⟨oR sw rw h i, spos_8_1⟩).loc (c : Thread nD τ) ↦[slotSet s]{fullShare}
      ((oV.access ⟨oR sw rw h i, spos_8_1⟩).write (Elt F) (fun e : S24x144x8x128.Idx => G (eR e) (eJ e) (eL e)) w Finset.univ)) : sProp 𝕄)
      ⊢ (((c : Thread nD τ).loc cc0_scratch1) ↦[slotSet s]{fullShare} (fun e : S24x144x8x128.Idx => updTile u r i x G (eR e) (eJ e) (eL e))) :=
  Entails.of_eq (pointsTo_congr (write_slot s r i sw rw hs hr h G x u w hw))

/-- What the row rule asks of a tile's operation: it changes the tile by `u`. -/
def OpOk (op : TileOp F α) (s : Fin 24) (r : Fin 8) (u : F .f32 → F .f32 → F .f32) : Prop :=
  ∀ (i : Fin 18) (x : FVec F S8x128 .f32) (G : Slot F) (k : TP F α) (Q : α → sProp 𝕄),
    iprop(slotPts c s G ∗ (slotPts c s (updTile u r i x G) -∗ W c bd k Q)) ⊢ W c bd (op i x k) Q

theorem putTile_ok (s : Fin 24) (r : Fin 8) (sw rw : BitVec 32) (hs : sw.toNat = s) (hr : rw.toNat = r) (h : OIn sw rw) :
    OpOk (F := F) (α := α) c bd (putTile sw rw h) s r (fun _ y => y) := by
  intro i x G k Q
  unfold putTile slotPts W
  iintro ⟨H, Hk⟩
  iapply (wp_load 𝒱₀ (c : Thread nD τ) bd Set.univ (m := oV) (load_slot s r i sw rw hs hr h)) $$ H; iintro H
  iapply (wp_store 𝒱₀ (c : Thread nD τ) bd Set.univ (m := oV) (setOn_slot s r i sw rw hs hr h _)) $$ H; iintro H
  iapply Hk
  iapply (write_slot_pts c s r i sw rw hs hr h G x (fun _ y => y) _ (fun k => by
    show x _ = x k; rw [Shape.reshapeEquiv_self])) $$ H

theorem addTile_ok (s : Fin 24) (r : Fin 8) (sw rw : BitVec 32) (hs : sw.toNat = s) (hr : rw.toNat = r) (h : OIn sw rw) :
    OpOk (F := F) (α := α) c bd (addTile sw rw h) s r FloatOps.addf := by
  intro i x G k Q
  unfold addTile slotPts W
  iintro ⟨H, Hk⟩
  iapply (wp_load 𝒱₀ (c : Thread nD τ) bd Set.univ (m := oV) (load_slot s r i sw rw hs hr h)) $$ H; iintro H
  iapply (wp_load 𝒱₀ (c : Thread nD τ) bd Set.univ (m := oV) (load_slot s r i sw rw hs hr h)) $$ H; iintro H
  iapply (wp_store 𝒱₀ (c : Thread nD τ) bd Set.univ (m := oV) (setOn_slot s r i sw rw hs hr h _)) $$ H; iintro H
  iapply Hk
  iapply (write_slot_pts c s r i sw rw hs hr h G x FloatOps.addf _ (fun k => by
    show FloatOps.addf _ (x _) = _
    rw [Shape.reshapeEquiv_self]
    congr 1
    show (fun e : S24x144x8x128.Idx => G (eR e) (eJ e) (eL e)) ((oV.access ⟨oR sw rw h i, spos_8_1⟩).emb _) = _
    rw [oV_emb s r i sw rw hs hr]; rfl)) $$ H

/-! ## A row -/

/-- A slot with the first `n` tiles of row `r` changed. -/
def rowUpto (u : F .f32 → F .f32 → F .f32) (r : Fin 8) (y : Fin 144 → Fin 128 → F .f32) (n : ℕ) (G : Slot F) : Slot F :=
  fun r' j l => if r' = r ∧ j.val / 8 < n then u (G r' j l) (y j l) else G r' j l

/-- A slot with row `r` changed. -/
def updRow (u : F .f32 → F .f32 → F .f32) (r : Fin 8) (y : Fin 144 → Fin 128 → F .f32) (G : Slot F) : Slot F :=
  fun r' j l => if r' = r then u (G r' j l) (y j l) else G r' j l

omit [FloatOps F] in
theorem rowUpto_zero (u : F .f32 → F .f32 → F .f32) (r : Fin 8) (y : Fin 144 → Fin 128 → F .f32) (G : Slot F) :
    rowUpto u r y 0 G = G := by
  funext r' j l; simp [rowUpto]

omit [FloatOps F] in
theorem rowUpto_end (u : F .f32 → F .f32 → F .f32) (r : Fin 8) (y : Fin 144 → Fin 128 → F .f32) (G : Slot F) :
    rowUpto u r y 18 G = updRow u r y G := by
  funext r' j l
  have : j.val / 8 < 18 := by omega
  simp [rowUpto, updRow, this]

omit [FloatOps F] in
theorem rowUpto_succ (u : F .f32 → F .f32 → F .f32) (r : Fin 8) (y : Fin 144 → Fin 128 → F .f32) (G : Slot F) (i : Fin 18)
    (x : S8x128.Idx → F .f32) (hx : ∀ k, x k = y (tileAt i (kR k)) (kL k)) :
    updTile u r i x (rowUpto u r y i.val G) = rowUpto u r y (i.val + 1) G := by
  funext r' j l
  unfold updTile rowUpto
  by_cases h1 : r' = r
  · by_cases h2 : j.val / 8 = i.val
    · rw [if_pos ⟨h1, h2⟩, if_neg (by omega), if_pos ⟨h1, by omega⟩, hx]
      congr 2
      apply Fin.ext
      show 8 * i.val + j.val % 8 = j.val
      omega
    · rw [if_neg (by tauto)]
      by_cases h3 : j.val / 8 < i.val
      · rw [if_pos ⟨h1, h3⟩, if_pos ⟨h1, by omega⟩]
      · rw [if_neg (by tauto), if_neg (by rintro ⟨_, h⟩; omega)]
  · rw [if_neg (by tauto), if_neg (by tauto), if_neg (by tauto)]

/-- The packed rows hold `f`. -/
def cPts (f : S144x392x128.Idx → BitVec 32) : sProp 𝕄 :=
  ((c : Thread nD τ).loc cc0_scratch0) ↦{fullShare} (f : Buf (Elt F) ((c : Thread nD τ).loc cc0_scratch0))

/-- Column tile `j`, lane `l` of token `t`, scaled. -/
def tokW (f : S144x392x128.Idx → BitVec 32) (t : ℕ) (sh : BitVec 32) (sc : F .f32) (ht : t < 1536) : Fin 144 → Fin 128 → F .f32 :=
  fun j l => FloatOps.mulf (decW (f (cIdx j ⟨t / 4, by omega⟩ l)) sh) sc

/-- Tile `i` of the packed words of token `t`. -/
def cTile (f : S144x392x128.Idx → BitVec 32) (t : ℕ) (ht : t < 1536) (i : Fin 18) : Vec F S8x128 .i32 :=
  fun x => f (cIdx (tileAt i (kR x)) ⟨t / 4, by omega⟩ (kL x))

section Row

variable (f : S144x392x128.Idx → BitVec 32) (t : BitVec 32) (ht : t.toNat < 1536) (h : CIn t) (sh : BitVec 32) (sc : F .f32)
  (op : TileOp F α) (s : Fin 24) (r : Fin 8) (u : F .f32 → F .f32 → F .f32) (G : Slot F)

include ht in
theorem wp_getTile (i : Fin 18) (k : Vec F S8x128 .i32 → TP F α) (Q : α → sProp 𝕄) :
    iprop(cPts (F := F) c f ∗ (cPts (F := F) c f -∗ W c bd (k (cTile f t.toNat ht i)) Q))
      ⊢ W c bd (getTile t h i k) Q := by
  unfold getTile cPts W
  iintro ⟨H, Hk⟩
  iapply (wp_load 𝒱₀ (c : Thread nD τ) bd Set.univ (m := cV) (Finset.subset_univ _)) $$ H; iintro H
  have e : (cV.view.readAt (Elt F) (cR t h i) f : Vec F S8x128 .i32)
      = cTile f t.toNat ht i := funext fun x => cV_read t ht h i f x
  rw [e]
  iapply Hk; iexact H

theorem wp_quad (hop : OpOk c bd op s r u) (a b c' d : Fin 18) (hb : b.val = a.val + 1) (hc : c'.val = a.val + 2) (hd : d.val = a.val + 3)
    (k : TP F α) (Q : α → sProp 𝕄) :
    iprop(cPts (F := F) c f ∗ slotPts c s (rowUpto u r (tokW f t.toNat sh sc ht) a.val G)
      ∗ (cPts (F := F) c f -∗ slotPts c s (rowUpto u r (tokW f t.toNat sh sc ht) (a.val + 4) G) -∗ W c bd k Q))
      ⊢ W c bd (quad t h sh sc op a b c' d k) Q := by
  unfold quad
  have st : ∀ (n : ℕ) (e : Fin 18) (x : FVec F S8x128 .f32), e.val = n →
      (∀ k, x k = FloatOps.mulf (decW (f (cIdx (tileAt e (kR k)) ⟨t.toNat / 4, by omega⟩ (kL k))) sh) sc) →
      updTile u r e x (rowUpto u r (tokW f t.toNat sh sc ht) n G)
        = rowUpto u r (tokW f t.toNat sh sc ht) (n + 1) G := by
    intro n e x he hx
    rw [← he]
    exact rowUpto_succ u r _ G e x hx
  have e0 := st a.val a (sl4 0 (dec4 (cTile f t.toNat ht a) (cTile f t.toNat ht b) (cTile f t.toNat ht c') (cTile f t.toNat ht d) sh) sc) rfl (fun k => sl4_apply 0 ![cTile (F := F) f t.toNat ht a, cTile f t.toNat ht b, cTile f t.toNat ht c', cTile f t.toNat ht d] sh sc k)
  have e1 := st (a.val + 1) b (sl4 1 (dec4 (cTile f t.toNat ht a) (cTile f t.toNat ht b) (cTile f t.toNat ht c') (cTile f t.toNat ht d) sh) sc) hb (fun k => sl4_apply 1 ![cTile (F := F) f t.toNat ht a, cTile f t.toNat ht b, cTile f t.toNat ht c', cTile f t.toNat ht d] sh sc k)
  have e2 := st (a.val + 1 + 1) c' (sl4 2 (dec4 (cTile f t.toNat ht a) (cTile f t.toNat ht b) (cTile f t.toNat ht c') (cTile f t.toNat ht d) sh) sc) hc (fun k => sl4_apply 2 ![cTile (F := F) f t.toNat ht a, cTile f t.toNat ht b, cTile f t.toNat ht c', cTile f t.toNat ht d] sh sc k)
  have e3 := st (a.val + 1 + 1 + 1) d (sl4 3 (dec4 (cTile f t.toNat ht a) (cTile f t.toNat ht b) (cTile f t.toNat ht c') (cTile f t.toNat ht d) sh) sc) hd (fun k => sl4_apply 3 ![cTile (F := F) f t.toNat ht a, cTile f t.toNat ht b, cTile f t.toNat ht c', cTile f t.toNat ht d] sh sc k)
  iintro ⟨HC, HS, Hk⟩
  iapply (wp_getTile c bd f t ht h a); isplitl [HC]; · iexact HC
  iintro HC
  iapply (wp_getTile c bd f t ht h b); isplitl [HC]; · iexact HC
  iintro HC
  iapply (wp_getTile c bd f t ht h c'); isplitl [HC]; · iexact HC
  iintro HC
  iapply (wp_getTile c bd f t ht h d); isplitl [HC]; · iexact HC
  iintro HC
  iapply (hop _ _ _ _ _); isplitl [HS]; · iexact HS
  rw [e0]
  iintro HS
  iapply (hop _ _ _ _ _); isplitl [HS]; · iexact HS
  rw [e1]
  iintro HS
  iapply (hop _ _ _ _ _); isplitl [HS]; · iexact HS
  rw [e2]
  iintro HS
  iapply (hop _ _ _ _ _); isplitl [HS]; · iexact HS
  rw [e3]
  iintro HS
  iapply Hk $$ HC HS

theorem wp_pair (hop : OpOk c bd op s r u) (a b : Fin 18) (hb : b.val = a.val + 1) (n : ℕ) (hn : n = a.val + 2) (k : TP F α) (Q : α → sProp 𝕄) :
    iprop(cPts (F := F) c f ∗ slotPts c s (rowUpto u r (tokW f t.toNat sh sc ht) a.val G)
      ∗ (cPts (F := F) c f -∗ slotPts c s (rowUpto u r (tokW f t.toNat sh sc ht) n G) -∗ W c bd k Q))
      ⊢ W c bd (pair t h sh sc op a b k) Q := by
  unfold pair
  subst hn
  have st : ∀ (n : ℕ) (e : Fin 18) (x : FVec F S8x128 .f32), e.val = n →
      (∀ k, x k = FloatOps.mulf (decW (f (cIdx (tileAt e (kR k)) ⟨t.toNat / 4, by omega⟩ (kL k))) sh) sc) →
      updTile u r e x (rowUpto u r (tokW f t.toNat sh sc ht) n G)
        = rowUpto u r (tokW f t.toNat sh sc ht) (n + 1) G := by
    intro n e x he hx
    rw [← he]
    exact rowUpto_succ u r _ G e x hx
  have e0 := st a.val a (sl2 0 (dec2 (cTile f t.toNat ht a) (cTile f t.toNat ht b) sh) sc) rfl (fun k => sl2_apply 0 ![cTile (F := F) f t.toNat ht a, cTile f t.toNat ht b] sh sc k)
  have e1 := st (a.val + 1) b (sl2 1 (dec2 (cTile f t.toNat ht a) (cTile f t.toNat ht b) sh) sc) hb (fun k => sl2_apply 1 ![cTile (F := F) f t.toNat ht a, cTile f t.toNat ht b] sh sc k)
  iintro ⟨HC, HS, Hk⟩
  iapply (wp_getTile c bd f t ht h a); isplitl [HC]; · iexact HC
  iintro HC
  iapply (wp_getTile c bd f t ht h b); isplitl [HC]; · iexact HC
  iintro HC
  iapply (hop _ _ _ _ _); isplitl [HS]; · iexact HS
  rw [e0]
  iintro HS
  iapply (hop _ _ _ _ _); isplitl [HS]; · iexact HS
  rw [e1]
  iintro HS
  iapply Hk $$ HC HS

/-- A whole row: the slot's row `r` is changed, nothing else. -/
theorem wp_row (hop : OpOk c bd op s r u) (k : TP F α) (Q : α → sProp 𝕄) :
    iprop(cPts (F := F) c f ∗ slotPts c s G
      ∗ (cPts (F := F) c f -∗ slotPts c s (updRow u r (tokW f t.toNat sh sc ht) G) -∗ W c bd k Q))
      ⊢ W c bd (row t h sh sc op k) Q := by
  unfold row
  rw [← rowUpto_end]
  iintro ⟨HC, HS, Hk⟩
  iapply (wp_quad c bd f t ht h sh sc op s r u G hop 0 1 2 3 rfl rfl rfl)
  isplitl [HC]; · iexact HC
  isplitl [HS]
  · rw [show (0 : Fin 18).val = 0 from rfl, rowUpto_zero]; iexact HS
  iintro HC HS
  iapply (wp_quad c bd f t ht h sh sc op s r u G hop 4 5 6 7 rfl rfl rfl)
  isplitl [HC]; · iexact HC
  isplitl [HS]; · iexact HS
  iintro HC HS
  iapply (wp_quad c bd f t ht h sh sc op s r u G hop 8 9 10 11 rfl rfl rfl)
  isplitl [HC]; · iexact HC
  isplitl [HS]; · iexact HS
  iintro HC HS
  iapply (wp_quad c bd f t ht h sh sc op s r u G hop 12 13 14 15 rfl rfl rfl)
  isplitl [HC]; · iexact HC
  isplitl [HS]; · iexact HS
  iintro HC HS
  iapply (wp_pair c bd f t ht h sh sc op s r u G hop 16 17 rfl 18 rfl)
  isplitl [HC]; · iexact HC
  isplitl [HS]; · iexact HS
  iintro HC HS
  iapply Hk $$ HC HS

end Row

end Cert.Proof.Seg
-- ==== Proof.Seg.Body.lean ====
/-
  The kernel's body as a sequence of named stretches: the copies in, the tables cleared, the thread over the tokens, the
  block loop, the copies of zeros and the last copy out, the waits. The printed body is equal to it.
-/
module

public import proofs.«01_k».proof.Proof.Seg.Prog

@[expose] public section

noncomputable section

namespace Cert.Proof.Seg

open Cert.KernelIdeal
open Idealize.ShloMosaic Idealize.ShloMosaic.TcCoe
open Idealize.SL.Sem
open Facts₀ Facts

variable {F : FTy → Type} [FloatOps F] {α : Type}

/-! ## The copies into the staging buffer -/

/-- Where piece `j` of the staging buffer lies. -/
theorem dst_inb (j : Fin 144) : ∀ a, (![j.val, 0, 0] : Fin 3 → ℕ) a + S1x384x128.size a ≤ S144x392x128.size a := by
  intro a; fin_cases a
  · show j.val + 1 ≤ 144; omega
  · show 0 + 384 ≤ 392; omega
  · show 0 + 128 ≤ 128; omega

/-- Where piece `j` of the packed rows lies. -/
theorem src_inb (j : Fin 144) : ∀ a, (![0, 128 * j.val] : Fin 2 → ℕ) a + S384x128.size a ≤ S384x18432.size a := by
  intro a; fin_cases a
  · show 0 + 384 ≤ 384; omega
  · show 128 * j.val + 128 ≤ 18432; omega

/-- Piece `j` of the staging buffer. -/
abbrev stageM (j : Fin 144) : Memref sig .tc .vmem S384x128 .i32 :=
  ((Memref.whole cc0_scratch0).slice (Rect.unit (s := S144x392x128) ![j.val, 0, 0] S1x384x128.size (dst_inb j))
    (fun _ => rfl)).squeeze S384x128 squeezes_S1x384x128_S384x128

/-- Piece `j` of the packed rows. -/
abbrev codeM (j : Fin 144) : Memref sig .tc .hbm S384x128 .i32 :=
  (Memref.whole main_v2).slice (Rect.unit (s := S384x18432) ![0, 128 * j.val] S384x128.size (src_inb j)) (fun _ => rfl)

/-- Start the copies of `n` pieces from piece `j`. -/
def startReads : (j n : ℕ) → j + n ≤ 144 → TP F α → TP F α
  | _, 0, _, k => k
  | j, n + 1, h, k =>
    Prog.bind (Prog.lift (.enqueueDma (codeM ⟨j, by omega⟩) (.here (stageM ⟨j, by omega⟩)) (.dma cc0_scratch9.sem)
      (View.wordExact_bits rfl) ((View.wordExact_bits rfl).reshape _ _) ⟨Or.inl rfl, trivial⟩)) fun _ =>
    startReads (j + 1) n (by omega) k

/-- Wait for the copies of `n` pieces from piece `j`. -/
def waitReads : (j n : ℕ) → j + n ≤ 144 → TP F α → TP F α
  | _, 0, _, k => k
  | j, n + 1, h, k =>
    Prog.bind (Prog.lift (.waitDma2 cc0_scratch9.sem (codeM ⟨j, by omega⟩) (stageM ⟨j, by omega⟩)
      (View.wordExact_bits rfl) ((View.wordExact_bits rfl).reshape _ _))) fun _ =>
    waitReads (j + 1) n (by omega) k

theorem waitReads_bind {β : Type} (j n : ℕ) (h : j + n ≤ 144) (p : TP F α) (k : α → TP F β) :
    Prog.bind (waitReads j n h p) k = waitReads j n h (Prog.bind p k) := by
  induction n generalizing j with
  | zero => rfl
  | succ n ih => simp only [waitReads, Prog.lift, Prog.bind, ih]

/-! ## The tables -/

/-- Start the copies of the three tables. -/
def startTables (k : TP F α) : TP F α :=
  Prog.bind (Prog.lift (.enqueueDma (Memref.whole main_arg3) (.here (Memref.whole cc0_scratch5)) (.dma cc0_scratch10.sem)
    (Memref.isWhole_whole _).wordExact (Memref.isWhole_whole _).wordExact ⟨Or.inl rfl, trivial⟩)) fun _ =>
  Prog.bind (Prog.lift (.enqueueDma (Memref.whole main_arg2) (.here (Memref.whole cc0_scratch4)) (.dma cc0_scratch11.sem)
    (Memref.isWhole_whole _).wordExact (Memref.isWhole_whole _).wordExact ⟨Or.inl rfl, trivial⟩)) fun _ =>
  Prog.bind (Prog.lift (.enqueueDma (Memref.whole main_arg1) (.here (Memref.whole cc0_scratch3)) (.dma cc0_scratch12.sem)
    (Memref.isWhole_whole _).wordExact (Memref.isWhole_whole _).wordExact ⟨Or.inl rfl, trivial⟩)) fun _ => k

/-- Wait for the copies of the three tables. -/
def waitTables (k : TP F α) : TP F α :=
  Prog.bind (Prog.lift (.waitDma2 cc0_scratch10.sem (Memref.whole main_arg3) (Memref.whole cc0_scratch5)
    (Memref.isWhole_whole _).wordExact (Memref.isWhole_whole _).wordExact)) fun _ =>
  Prog.bind (Prog.lift (.waitDma2 cc0_scratch11.sem (Memref.whole main_arg2) (Memref.whole cc0_scratch4)
    (Memref.isWhole_whole _).wordExact (Memref.isWhole_whole _).wordExact)) fun _ =>
  Prog.bind (Prog.lift (.waitDma2 cc0_scratch12.sem (Memref.whole main_arg1) (Memref.whole cc0_scratch3)
    (Memref.isWhole_whole _).wordExact (Memref.isWhole_whole _).wordExact)) fun _ => k

/-- Read one word of a table and give it back unread: what the kernel does before each of its scalar stores. -/
abbrev peek {s : Shape} (m : Memref sig .tc .smem s .i32) (r : Rect s) (h : r.shape.numel = 1) (k : BitVec 32 → TP F α) : TP F α :=
  smemLoadElt m r (View.loads_smem_one rfl h) (Shape.Idx.first (h.symm ▸ Nat.one_pos)) fun (x : Elt F .i32) => k x

/-- Write one word of a table. -/
abbrev poke {s : Shape} (m : Memref sig .tc .smem s .i32) (r : Rect s) (h : r.shape.numel = 1) (v : BitVec 32) (k : TP F α) : TP F α :=
  .op (.store m r (fun _ => v) Finset.univ (View.stores_smem_one rfl h) (.inl rfl)) fun _ => k

/-- Zeros into the buffer of zeros. -/
def zeroBuf (k : TP F α) : TP F α :=
  .op (.load (Memref.whole cc0_scratch2) (Rect.unit (s := S144x8x128) ![0, 0, 0] S144x8x128.size
    inb_S144x8x128_S144x8x128_0_0_0).toLoadRect (View.loadsAt_vmem h_S144x8x128)) fun _ =>
  .op (.store (Memref.whole cc0_scratch2) (Rect.unit (s := S144x8x128) ![0, 0, 0] S144x8x128.size
    inb_S144x8x128_S144x8x128_0_0_0) (shapeCast S144x8x128 (broadcast S144x8x128 (Scalar.ofBits (F := F) .f32 0x00000000#32))
      shapeCasts_S144x8x128_S144x8x128) Finset.univ (View.stores_vmem_bits_univ h_S144x8x128 rfl) (.inl rfl)) fun _ => k

/-- The table of first tokens cleared. -/
def clearHeads : TP F PUnit :=
  Scf.Loop.for k0_t1_loop k0_t1_ok (⟨⟩ : PUnit) fun i _ =>
    peek (Memref.whole cc0_scratch6) (Rect.unit (s := S1537) (k0_off1 i) S1.size (k0_off1_inb i)) numel1_S1 fun _ =>
    poke (Memref.whole cc0_scratch6) (Rect.unit (s := S1537) (k0_off1 i) S1.size (k0_off1_inb i)) numel1_S1 4294967295#32
      (.ret ⟨⟩)

/-- The table of the blocks' further tokens cleared. -/
def clearChains : TP F PUnit :=
  Scf.Loop.for k0_t2_loop k0_t2_ok (⟨⟩ : PUnit) fun i _ =>
    peek (Memref.whole cc0_scratch7) (Rect.unit (s := S193) (k0_off2 i) S1.size (k0_off2_inb i)) numel1_S1 fun _ =>
    poke (Memref.whole cc0_scratch7) (Rect.unit (s := S193) (k0_off2 i) S1.size (k0_off2_inb i)) numel1_S1 4294967295#32
      (.ret ⟨⟩)

/-- Zeros into the buffer of zeros, and the two tables cleared. -/
def clearAll (k : TP F α) : TP F α :=
  zeroBuf <| Prog.bind clearHeads fun _ => Prog.bind clearChains fun _ => k

/-! ## The thread over the tokens -/

/-- The token step `i` of the thread is at. -/
def tokAt (i : Fin k0_t3_loop.trips) : BitVec 32 := Scalar.subi 1535#32 (Scf.iv 0#32 1#32 i)

/-- Whether a token is one of a row that already has one. -/
def isDup (id old : BitVec 32) : BitVec 1 := Scalar.andi (Scalar.cmpi .ne id 0#32) (Scalar.cmpi .sge old 0#32)

/-- One step of the thread. -/
def threadStep (i : Fin k0_t3_loop.trips) (acc : BitVec 32) : TP F (BitVec 32) :=
  peek (Memref.whole cc0_scratch5) (Rect.unit (s := S6x256) (k0_off3 i) S1x1.size (k0_off3_inb i)) numel1_S1x1 fun s =>
  peek (Memref.whole cc0_scratch4) (Rect.unit (s := S6x256) (k0_off3 i) S1x1.size (k0_off3_inb i)) numel1_S1x1 fun id =>
  .op (.assume (k0_chk1 s id) (k0_chk1.dec s id)) fun h1 =>
  peek (Memref.whole cc0_scratch6) (Rect.unit (s := S1537) (k0_off4 s id) S1.size (k0_off4_inb s id h1.down)) numel1_S1 fun old =>
  .op (.assume (k0_chk2 s id old) (k0_chk2.dec s id old)) fun h2 =>
  peek (Memref.whole cc0_scratch6) (Rect.unit (s := S1537) (k0_off4 s id) S1.size (k0_off4_inb s id h1.down)) numel1_S1 fun _ =>
  poke (Memref.whole cc0_scratch6) (Rect.unit (s := S1537) (k0_off4 s id) S1.size (k0_off4_inb s id h1.down)) numel1_S1 (tokAt i) <|
  peek (Memref.whole cc0_scratch7) (Rect.unit (s := S193) (k0_off5 s id old) S1.size (k0_off5_inb s id old h2.down)) numel1_S1 fun x =>
  peek (Memref.whole cc0_scratch8) (Rect.unit (s := S1537) (k0_off6 id old) S1.size (k0_off6_inb s id old h2.down)) numel1_S1 fun _ =>
  poke (Memref.whole cc0_scratch8) (Rect.unit (s := S1537) (k0_off6 id old) S1.size (k0_off6_inb s id old h2.down)) numel1_S1 x <|
  peek (Memref.whole cc0_scratch7) (Rect.unit (s := S193) (k0_off5 s id old) S1.size (k0_off5_inb s id old h2.down)) numel1_S1 fun _ =>
  poke (Memref.whole cc0_scratch7) (Rect.unit (s := S193) (k0_off5 s id old) S1.size (k0_off5_inb s id old h2.down)) numel1_S1
    (Scalar.select (isDup id old) old 1536#32) <|
  .ret (Scalar.maxsi acc (Scalar.addi s 1#32))

/-! ## After the blocks -/

/-- How many blocks have a row: what the kernel computes from one more than the last row. -/
def liveOf (n : BitVec 32) : BitVec 32 := Scalar.shrsi (Scalar.addi n 7#32) 3#32

/-- The waits at the end. -/
def waitAll (n : BitVec 32) (h : k0_chk14 n) (c₀ : BitVec 32) : TP F PUnit :=
  Prog.bind (Scf.Loop.for (k0_t6_loop n) (k0_t6_ok n h) c₀ fun i _ =>
    waitOut (k0_off56 n i) (k0_off56_inb n h i) (k0_off57 n i) (k0_off57_inb n h i) (k0_off58 n i) (k0_off58_inb n h i) (.ret 0#32))
    fun c =>
  Prog.bind (Scf.Loop.for (k0_t7_loop n) (k0_t7_ok n h) c fun i _ =>
    waitOut (k0_off59 n i) (k0_off59_inb n h i) (k0_off60 n i) (k0_off60_inb n h i) (k0_off61 n i) (k0_off61_inb n h i) (.ret 0#32))
    fun _ =>
  Prog.bind (Scf.Loop.for (k0_t8_loop n) (k0_t8_ok n h) 0#32 fun i _ =>
    waitZero (k0_off62 n i) (k0_off62_inb n h i) (.ret 0#32)) fun c =>
  Prog.bind (Scf.Loop.for (k0_t9_loop n) (k0_t9_ok n h) c fun i _ =>
    waitZero (k0_off63 n i) (k0_off63_inb n h i) (.ret 0#32)) fun _ => .ret ⟨⟩

/-- The copies of zeros, the copy of the last block, the waits. -/
def finish (n : BitVec 32) (h : k0_chk14 n) : TP F PUnit :=
  Prog.bind (Scf.Loop.for (k0_t4_loop n) (k0_t4_ok n h) 0#32 fun i _ =>
    startZero (k0_off51 n i) (k0_off51_inb n h i) (.ret 0#32)) fun c =>
  Prog.bind (Scf.Loop.for (k0_t5_loop n) (k0_t5_ok n h) c fun i _ =>
    startZero (k0_off52 n i) (k0_off52_inb n h i) (.ret 0#32)) fun _ =>
  if h3 : k0_cond3 n = 1#1 then
    startOut (k0_off53 n) (k0_off53_inb n h h3) (k0_off54 n) (k0_off54_inb n h h3) (k0_off55 n) (k0_off55_inb n h h3) (waitAll n h 0#32)
  else waitAll n h 0#32

/-- The kernel's body. -/
def body : TP F PUnit :=
  startTables <| startReads 0 144 (by omega) <| clearAll <| waitTables <|
  Prog.bind (Scf.Loop.for k0_t3_loop k0_t3_ok 0#32 threadStep) fun n =>
  .op (.assume (k0_chk14 n) (k0_chk14.dec n)) fun h =>
  waitReads 0 144 (by omega) <|
  .op (.call (1 : (Λ₀ F).Label) (blockArg (liveOf n) 0#32)) fun (_ : BitVec 32) => finish n h.down

/-- The printed body. -/
def printed : TP F PUnit :=
  cc0_segment_rows (Memref.whole main_v2) (Memref.isWhole_whole _) (Memref.whole main_arg1) (Memref.isWhole_whole _)
    (Memref.whole main_arg2) (Memref.isWhole_whole _) (Memref.whole main_arg3) (Memref.isWhole_whole _) (Memref.whole main_v3)
    (Memref.isWhole_whole _) (Memref.whole cc0_scratch0) (Memref.isWhole_whole _) (Memref.whole cc0_scratch1)
    (Memref.isWhole_whole _) (Memref.whole cc0_scratch2) (Memref.isWhole_whole _) (Memref.whole cc0_scratch3)
    (Memref.isWhole_whole _) (Memref.whole cc0_scratch4) (Memref.isWhole_whole _) (Memref.whole cc0_scratch5)
    (Memref.isWhole_whole _) (Memref.whole cc0_scratch6) (Memref.isWhole_whole _) (Memref.whole cc0_scratch7)
    (Memref.isWhole_whole _) (Memref.whole cc0_scratch8) (Memref.isWhole_whole _) cc0_scratch9 cc0_scratch10 cc0_scratch11
    cc0_scratch12 cc0_scratch13 cc0_scratch14

/-- What the printed body keeps between its last copy out and its waits. -/
abbrev Kept : Type := Σ' (n : BitVec 32) (_ : k0_chk14 n) (_ : BitVec 32) (_ : BitVec 32), BitVec 32

/-- The tables cleared, on their own. -/
def clear₀ : TP F PUnit :=
  Prog.bind clearHeads fun _ => Prog.bind clearChains fun _ => .ret ⟨⟩

/-- The thread and the first five waits, on their own. -/
def thread₀ : TP F (Σ' (n : BitVec 32) (_ : k0_chk14 n), BitVec 32) :=
  waitTables <|
  Prog.bind (Scf.Loop.for k0_t3_loop k0_t3_ok 0#32 threadStep) fun n =>
  .op (.assume (k0_chk14 n) (k0_chk14.dec n)) fun h => waitReads 0 5 (by omega) (.ret ⟨n, h.down, liveOf n⟩)

/-- From the tables cleared to the last copy out, on its own. -/
def middle₀ : TP F Kept :=
  Prog.bind clear₀ fun _ => Prog.bind thread₀ fun x =>
  waitReads 5 139 (by omega) <|
  .op (.call (1 : (Λ₀ F).Label) (blockArg x.2.2 0#32)) fun (_ : BitVec 32) =>
  Prog.bind (Scf.Loop.for (k0_t4_loop x.1) (k0_t4_ok x.1 x.2.1) 0#32 fun i _ =>
    startZero (k0_off51 x.1 i) (k0_off51_inb x.1 x.2.1 i) (.ret 0#32)) fun c =>
  Prog.bind (Scf.Loop.for (k0_t5_loop x.1) (k0_t5_ok x.1 x.2.1) c fun i _ =>
    startZero (k0_off52 x.1 i) (k0_off52_inb x.1 x.2.1 i) (.ret 0#32)) fun _ =>
  if h3 : k0_cond3 x.1 = 1#1 then
    startOut (k0_off53 x.1) (k0_off53_inb x.1 x.2.1 h3) (k0_off54 x.1) (k0_off54_inb x.1 x.2.1 h3) (k0_off55 x.1)
      (k0_off55_inb x.1 x.2.1 h3)
      (.ret ⟨x.1, x.2.1, x.2.2, Scalar.maxsi (Scalar.subi x.2.2 24#32) 0#32, 0#32⟩)
  else .ret ⟨x.1, x.2.1, x.2.2, Scalar.maxsi (Scalar.subi x.2.2 24#32) 0#32, 0#32⟩

/-- The body, nested as the printed one is. -/
def body₀ : TP F PUnit :=
  startTables <| startReads 0 144 (by omega) <| zeroBuf <|
  Prog.bind middle₀ fun x => waitAll x.1 x.2.1 x.2.2.2.2

theorem waitTables_bind {β : Type} (p : TP F α) (k : α → TP F β) :
    Prog.bind (waitTables p) k = waitTables (Prog.bind p k) := rfl

theorem op_bind {β γ : Type} (e : TpuEff nD τ sig (Elt F) (Λ₀ F) .tc γ) (p : γ → TP F α) (k : α → TP F β) :
    Prog.bind (.op e p) k = .op e fun x => Prog.bind (p x) k := rfl

theorem ret_bind {β : Type} (a : α) (k : α → TP F β) : Prog.bind (.ret a) k = k a := rfl

theorem assoc {β γ : Type} (p : TP F α) (f : α → TP F β) (k : β → TP F γ) :
    Prog.bind (Prog.bind p f) k = Prog.bind p fun a => Prog.bind (f a) k := Prog.bind_assoc p f k

theorem body₀_eq : body₀ (F := F) = body := by
  have hw : ∀ (k : TP F PUnit), waitReads 0 5 (by omega) (waitReads 5 139 (by omega) k) = waitReads 0 144 (by omega) k :=
    fun _ => rfl
  unfold body₀ middle₀ clear₀ thread₀ body clearAll
  simp only [assoc, waitTables_bind, op_bind, waitReads_bind, ret_bind, hw]
  refine congrArg (fun k => startTables (startReads 0 144 _ (zeroBuf k))) ?_
  refine congrArg (Prog.bind clearHeads) (funext fun _ => congrArg (Prog.bind clearChains) (funext fun _ =>
    congrArg (fun k => waitTables (Prog.bind _ k)) (funext fun n => congrArg (Prog.op _) (funext fun h =>
    congrArg (fun k => waitReads 0 144 _ (.op _ k)) (funext fun _ => ?_)))))
  unfold finish
  congr 1
  funext c
  congr 1
  funext _
  by_cases h3 : k0_cond3 n = 1#1
  · simp only [h3, ↓reduceDIte]; rfl
  · simp only [h3, ↓reduceDIte]; rfl

/-- The printed body is the sequence of its stretches. -/
theorem printed_eq : printed (F := F) = body := by
  have e : printed (F := F) = body₀ := rfl
  rw [e, body₀_eq]

end Cert.Proof.Seg
-- ==== Proof.Seg.Lists.lean ====
/-
  The lists the kernel threads through its scalar tables. After `k` tokens (from the last one down) the first table holds,
  for every row of the result, the smallest token so far that goes there, and for every block of eight rows a chain of
  words names the others (`Threaded`).
-/
module

public import proofs.«01_k».proof.Proof.Seg.Words
public import proofs.«01_k».proof.Proof.Seg.Body

@[expose] public section

namespace Cert.Proof.Seg

open Cert.KernelIdeal
open Idealize.ShloMosaic Idealize.ShloMosaic.TcCoe

/-! ## The tokens of a row -/

section Toks

variable (live : ℕ → Prop) [DecidablePred live] (slot : ℕ → ℕ)

/-- The tokens of row `s` among the last `k`, ascending. -/
def toks : ℕ → ℕ → List ℕ
  | 0, _ => []
  | k + 1, s => if live (1535 - k) ∧ slot (1535 - k) = s then (1535 - k) :: toks k s else toks k s

theorem mem_toks {k s t : ℕ} (hk : k ≤ 1536) (h : t ∈ toks live slot k s) :
    1536 - k ≤ t ∧ t < 1536 ∧ live t ∧ slot t = s := by
  induction k with
  | zero => simp [toks] at h
  | succ k ih =>
    unfold toks at h
    split at h
    · rcases List.mem_cons.mp h with rfl | h
      · rename_i hc; exact ⟨by omega, by omega, hc.1, hc.2⟩
      · have := ih (by omega) h; exact ⟨by omega, this.2⟩
    · have := ih (by omega) h; exact ⟨by omega, this.2⟩

/-- The first token of a row is not among the others. -/
theorem head_not_mem_tail {k s t : ℕ} {l : List ℕ} (hk : k ≤ 1536) (h : toks live slot k s = t :: l) : t ∉ l := by
  induction k with
  | zero => simp [toks] at h
  | succ k ih =>
    unfold toks at h
    split at h
    · obtain ⟨rfl, rfl⟩ := List.cons.inj h
      intro hm
      have := (mem_toks live slot (by omega) hm).1
      omega
    · exact ih (by omega) h

end Toks

/-! ## Chains of words -/

/-- The word that ends a chain. -/
abbrev none32 : BitVec 32 := 4294967295#32

/-- The first token's word, or the word that ends a chain. -/
def headOf : List ℕ → BitVec 32
  | [] => none32
  | t :: _ => BitVec.ofNat 32 t

/-- From word `x`, the chain `nx` visits the tokens `l`. -/
def Chain (nx : ℕ → BitVec 32) : BitVec 32 → List ℕ → Prop
  | x, [] => x = none32
  | x, t :: l => x = BitVec.ofNat 32 t ∧ Chain nx (nx t) l

theorem Chain.congr {nx nx' : ℕ → BitVec 32} {x : BitVec 32} {l : List ℕ} (h : Chain nx x l) (e : ∀ t ∈ l, nx' t = nx t) :
    Chain nx' x l := by
  induction l generalizing x with
  | nil => exact h
  | cons t l ih =>
    refine ⟨h.1, ?_⟩
    rw [e t List.mem_cons_self]
    exact ih h.2 fun t ht => e t (List.mem_cons_of_mem _ ht)

/-- Words from tables: what the threading of one token reads and writes. -/
abbrev dupW (id old : BitVec 32) : Prop := isDup id old = 1#1

/-- The row a token's word is kept under. -/
def rowW (v id : BitVec 32) : ℕ := if id = 0#32 then 1536 else v.toNat

/-- The block whose chain is pushed. -/
def blkW (v id old : BitVec 32) : ℕ := if dupW id old then v.toNat / 8 else 192

/-- The token that is pushed. -/
def pushW (id old : BitVec 32) : ℕ := if dupW id old then old.toNat else 1536

theorem dupW_iff (id old : BitVec 32) : dupW id old ↔ id ≠ 0#32 ∧ ¬ old.msb := by
  unfold dupW isDup Scalar.andi IntOp.andi Scalar.cmpi IntOp.cmpi
  show BitVec.ofBool (id != 0#32) &&& BitVec.ofBool ((0#32).sle old) = 1#1 ↔ _
  have : (0#32).sle old = !old.msb := by
    rw [BitVec.sle, BitVec.msb_eq_toInt]
    by_cases hn : old.toInt < 0
    · simp [hn]
    · simp [hn]; omega
  rw [this]
  by_cases h1 : id = 0#32
  · subst h1; cases old.msb <;> simp
  · rw [show (id != 0#32) = true from bne_iff_ne.mpr h1]
    cases old.msb <;> simp [h1]

theorem off4_zero (v id : BitVec 32) : k0_off4 v id 0 = rowW v id := by
  show (Scalar.select (Scalar.cmpi .ne id 0#32) v 1536#32).toNat = _
  unfold Scalar.select rowW Scalar.cmpi IntOp.cmpi
  by_cases h : id = 0#32
  · subst h; rfl
  · rw [if_neg h, if_pos]
    exact congrArg BitVec.ofBool (bne_iff_ne.mpr h)

theorem off6_zero (id old : BitVec 32) : k0_off6 id old 0 = pushW id old := by
  show (Scalar.select (isDup id old) old 1536#32).toNat = _
  unfold Scalar.select pushW
  by_cases h : isDup id old = 1#1
  · rw [if_pos h]; exact congrArg BitVec.toNat (if_pos h)
  · rw [if_neg h]; exact congrArg BitVec.toNat (if_neg h)

theorem off5_zero (v id old : BitVec 32) (hv : v.toNat < 1536) : k0_off5 v id old 0 = blkW v id old := by
  show (Scalar.select (isDup id old) (Scalar.shrsi v 3#32) 192#32).toNat = _
  unfold Scalar.select blkW
  by_cases h : isDup id old = 1#1
  · rw [if_pos h]; exact (congrArg BitVec.toNat (if_pos h)).trans (shrsi_toNat (by omega) 3 (by omega))
  · rw [if_neg h]; exact congrArg BitVec.toNat (if_neg h)

/-! ## The invariant -/

/-- The tables after `k` tokens. -/
structure Threaded (live : ℕ → Prop) [DecidablePred live] (slot : ℕ → ℕ) (k : ℕ) (h nx xh : ℕ → BitVec 32) : Prop where
  heads : ∀ s < 1536, h s = headOf (toks live slot k s)
  chains : ∀ b < 192, ∃ X : List ℕ, Chain nx (xh b) X ∧ X.length ≤ k ∧ (∀ t ∈ X, t < 1536 ∧ slot t / 8 = b)
    ∧ ∀ s, s / 8 = b → X.filter (fun t => slot t = s) = (toks live slot k s).tail

theorem msb_ofNat {t : ℕ} (h : t < 1536) : (BitVec.ofNat 32 t).msb = false :=
  msb_small (by rw [toNat_ofNat (by omega)]; omega)

theorem threaded_zero (live : ℕ → Prop) [DecidablePred live] (slot : ℕ → ℕ) (h nx xh : ℕ → BitVec 32)
    (hh : ∀ s < 1536, h s = none32) (hx : ∀ b < 192, xh b = none32) : Threaded live slot 0 h nx xh :=
  ⟨fun s hs => by rw [hh s hs]; rfl,
    fun b hb => ⟨[], hx b hb, le_refl _, by simp, fun s _ => rfl⟩⟩

/-- One more token. -/
theorem threaded_succ (live : ℕ → Prop) [DecidablePred live] (slot : ℕ → ℕ) (k : ℕ) (hk : k < 1536) (h nx xh : ℕ → BitVec 32)
    (v id : BitVec 32) (hv : v.toNat < 1536) (hsl : slot (1535 - k) = v.toNat) (hlv : live (1535 - k) ↔ id ≠ 0#32)
    (T : Threaded live slot k h nx xh) :
    Threaded live slot (k + 1) (Function.update h (rowW v id) (BitVec.ofNat 32 (1535 - k)))
      (Function.update nx (pushW id (h (rowW v id))) (xh (blkW v id (h (rowW v id)))))
      (Function.update xh (blkW v id (h (rowW v id))) (Scalar.select (isDup id (h (rowW v id))) (h (rowW v id)) 1536#32)) := by
  have keep : ∀ s, ¬ (live (1535 - k) ∧ slot (1535 - k) = s) → toks live slot (k + 1) s = toks live slot k s := fun s hs => by
    rw [toks, if_neg hs]
  by_cases hid : id = 0#32
  · -- a padding token: only the spare entries change
    have hnl : ¬ live (1535 - k) := fun hl => (hlv.mp hl) hid
    have hr : rowW v id = 1536 := by rw [rowW, if_pos hid]
    have hd : ∀ o, ¬ dupW id o := fun o ho => ((dupW_iff _ _).mp ho).1 hid
    have hb : ∀ o, blkW v id o = 192 := fun o => by rw [blkW, if_neg (hd o)]
    have hp : ∀ o, pushW id o = 1536 := fun o => by rw [pushW, if_neg (hd o)]
    rw [hr, hb, hp]
    refine ⟨fun s hs => ?_, fun b hb => ?_⟩
    · rw [Function.update_of_ne (by omega), keep s (fun hh => hnl hh.1)]; exact T.heads s hs
    · obtain ⟨X, hX, hl, hm, hf⟩ := T.chains b hb
      refine ⟨X, ?_, by omega, hm, fun s hs => ?_⟩
      · rw [Function.update_of_ne (by omega)]
        exact hX.congr fun t ht => Function.update_of_ne (by have := (hm t ht).1; omega) _ _
      · rw [keep s (fun hh => hnl hh.1)]; exact hf s hs
  · have hl : live (1535 - k) := hlv.mpr hid
    have hr : rowW v id = v.toNat := by rw [rowW, if_neg hid]
    rw [hr]
    have hh := T.heads v.toNat hv
    have hnew : ∀ s, toks live slot (k + 1) s = if s = v.toNat then (1535 - k) :: toks live slot k s else toks live slot k s := by
      intro s
      rw [toks, hsl]
      by_cases hs : s = v.toNat
      · rw [if_pos ⟨hl, hs.symm⟩, if_pos hs]
      · rw [if_neg (fun hh => hs hh.2.symm), if_neg hs]
    have heads : ∀ s < 1536, Function.update h v.toNat (BitVec.ofNat 32 (1535 - k)) s = headOf (toks live slot (k + 1) s) := by
      intro s hs
      rw [hnew]
      by_cases e : s = v.toNat
      · subst e; rw [Function.update_self, if_pos rfl]; rfl
      · rw [Function.update_of_ne e, if_neg e]; exact T.heads s hs
    cases hL : toks live slot k v.toNat with
    | nil =>
      -- the row's first token: only the first table changes
      rw [hL] at hh
      have hd : ¬ dupW id (h v.toNat) := by rw [dupW_iff, hh]; rintro ⟨_, hm⟩; exact hm (by decide)
      have hb : blkW v id (h v.toNat) = 192 := by rw [blkW, if_neg hd]
      have hp : pushW id (h v.toNat) = 1536 := by rw [pushW, if_neg hd]
      rw [hb, hp]
      refine ⟨heads, fun b hb => ?_⟩
      obtain ⟨X, hX, hlen, hm, hf⟩ := T.chains b hb
      refine ⟨X, ?_, by omega, hm, fun s hs => ?_⟩
      · rw [Function.update_of_ne (by omega)]
        exact hX.congr fun t ht => Function.update_of_ne (by have := (hm t ht).1; omega) _ _
      · rw [hnew, hf s hs]
        by_cases e : s = v.toNat
        · subst e; rw [if_pos rfl, hL]; rfl
        · rw [if_neg e]
    | cons o l =>
      -- a further token: the one kept so far is pushed on its block's chain
      rw [hL] at hh
      have ho := mem_toks live slot (by omega) (hL ▸ List.mem_cons_self : o ∈ toks live slot k v.toNat)
      have hd : dupW id (h v.toNat) := by
        rw [dupW_iff, hh]; refine ⟨hid, ?_⟩
        show ¬ (BitVec.ofNat 32 o).msb
        rw [msb_ofNat ho.2.1]; exact Bool.false_ne_true
      have hsel : Scalar.select (isDup id (h v.toNat)) (h v.toNat) 1536#32 = BitVec.ofNat 32 o := by
        exact (if_pos hd).trans hh
      have hb : blkW v id (h v.toNat) = v.toNat / 8 := by rw [blkW, if_pos hd]
      have hp : pushW id (h v.toNat) = o := by
        rw [pushW, if_pos hd, hh]; exact toNat_ofNat (by omega)
      rw [hsel, hb, hp]
      -- the pushed token is on no chain
      have fresh : ∀ b < 192, ∀ X : List ℕ, (∀ s, s / 8 = b → X.filter (fun t => slot t = s) = (toks live slot k s).tail) →
          (∀ t ∈ X, t < 1536 ∧ slot t / 8 = b) → o ∉ X := by
        intro b _ X hf hm hoX
        have hbo := (hm o hoX).2
        have : o ∈ X.filter (fun t => slot t = v.toNat) := List.mem_filter.mpr ⟨hoX, by simpa using ho.2.2.2⟩
        rw [hf v.toNat (by rw [← ho.2.2.2]; exact hbo), hL] at this
        exact head_not_mem_tail live slot (by omega) hL this
      refine ⟨heads, fun b hb => ?_⟩
      obtain ⟨X, hX, hlen, hm, hf⟩ := T.chains b hb
      have hoX := fresh b hb X hf hm
      have hX' : Chain (Function.update nx o (xh (v.toNat / 8))) (xh b) X :=
        hX.congr fun t ht => Function.update_of_ne (fun e => hoX (by rw [← e]; exact ht)) _ _
      by_cases e : b = v.toNat / 8
      · subst e
        refine ⟨o :: X, ⟨by rw [Function.update_self], by rw [Function.update_self]; exact hX'⟩, by simp; omega, ?_, fun s hs => ?_⟩
        · intro t ht
          rcases List.mem_cons.mp ht with rfl | ht
          · exact ⟨ho.2.1, by rw [ho.2.2.2]⟩
          · exact hm t ht
        · rw [hnew]
          by_cases es : s = v.toNat
          · subst es
            rw [if_pos rfl, List.filter_cons_of_pos (by simpa using ho.2.2.2), hf _ hs, hL]; rfl
          · rw [if_neg es, List.filter_cons_of_neg (by simp; rw [ho.2.2.2]; exact fun hh => es hh.symm), hf s hs]
      · refine ⟨X, by rw [Function.update_of_ne e]; exact hX', by omega, hm, fun s hs => ?_⟩
        rw [hnew, if_neg (by rintro rfl; exact e hs.symm)]
        exact hf s hs

end Cert.Proof.Seg
-- ==== Proof.Seg.Walk.lean ====
/-
  The walk over a block's further tokens: from the chain's first word it adds every token of the chain to its row of the
  block's slot (`wp_walk`).
-/
module

public import proofs.«01_k».proof.Proof.Seg.Rows
public import proofs.«01_k».proof.Proof.Seg.Lists

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## The tables -/

/-- A token's place in the tables of scales, ids and rows. -/
def tix (t : ℕ) : S6x256.Idx := Shape.pair (d := ![6, 256]) (⟨t / 256 % 6, Nat.mod_lt _ (by omega)⟩ : Fin 6) (⟨t % 256, Nat.mod_lt _ (by omega)⟩ : Fin 256)

variable (c : Dev nD) (bd : Option ℕ)

/-- The scales. -/
def scPts (S : S6x256.Idx → F .f32) : sProp 𝕄 :=
  ((c : Thread nD τ).loc cc0_scratch3) ↦{fullShare} (S : Buf (Elt F) ((c : Thread nD τ).loc cc0_scratch3))

/-- The ids. -/
def idPts (I : S6x256.Idx → BitVec 32) : sProp 𝕄 :=
  ((c : Thread nD τ).loc cc0_scratch4) ↦{fullShare} (I : Buf (Elt F) ((c : Thread nD τ).loc cc0_scratch4))

/-- The rows. -/
def rwPts (V : S6x256.Idx → BitVec 32) : sProp 𝕄 :=
  ((c : Thread nD τ).loc cc0_scratch5) ↦{fullShare} (V : Buf (Elt F) ((c : Thread nD τ).loc cc0_scratch5))

/-- The first tokens of the rows. -/
def hdPts (h : ℕ → BitVec 32) : sProp 𝕄 :=
  ((c : Thread nD τ).loc cc0_scratch6) ↦{fullShare} ((fun i : S1537.Idx => h (i 0).val) : Buf (Elt F) ((c : Thread nD τ).loc cc0_scratch6))

/-- The chains' first words. -/
def xhPts (h : ℕ → BitVec 32) : sProp 𝕄 :=
  ((c : Thread nD τ).loc cc0_scratch7) ↦{fullShare} ((fun i : S193.Idx => h (i 0).val) : Buf (Elt F) ((c : Thread nD τ).loc cc0_scratch7))

/-- The chains' links. -/
def nxPts (h : ℕ → BitVec 32) : sProp 𝕄 :=
  ((c : Thread nD τ).loc cc0_scratch8) ↦{fullShare} ((fun i : S1537.Idx => h (i 0).val) : Buf (Elt F) ((c : Thread nD τ).loc cc0_scratch8))

theorem sOff_tix (t : BitVec 32) (ht : t.toNat < 1536) (h : ∀ a, (sOff t) a + S1x1.size a ≤ S6x256.size a) (x : S1x1.Idx) :
    (Rect.unit (s := S6x256) (sOff t) S1x1.size h).emb x = tix t.toNat := by
  have e0 : sOff t 0 = t.toNat / 256 := shrsi_toNat (by omega) 8 (by omega)
  have e1 : sOff t 1 = t.toNat % 256 := andi_toNat t 8 (by omega)
  have x0 : (x 0).val = 0 := by have := (x 0).isLt; have e : S1x1.size 0 = 1 := rfl; omega
  have x1 : (x 1).val = 0 := by have := (x 1).isLt; have e : S1x1.size 1 = 1 := rfl; omega
  funext a
  apply Fin.ext
  rw [Rect.emb_apply]
  rcases a with ⟨_ | _ | n, hn⟩
  · show sOff t 0 + 1 * (x 0).val = t.toNat / 256 % 6
    omega
  · show sOff t 1 + 1 * (x 1).val = t.toNat % 256
    omega
  · exact absurd hn (by simp)

theorem wp_getScale (S : S6x256.Idx → F .f32) (t : BitVec 32) (ht : t.toNat < 1536)
    (h : ∀ a, (sOff t) a + S1x1.size a ≤ S6x256.size a) (k : F .f32 → TP F α) (Q : α → sProp 𝕄) :
    iprop(scPts c S ∗ (scPts c S -∗ W c bd (k (S (tix t.toNat))) Q)) ⊢ W c bd (getScale t h k) Q := by
  unfold getScale scPts W
  iintro ⟨H, Hk⟩
  iapply (wp_smemLoadElt 𝒱₀ (c : Thread nD τ) bd Set.univ (m := Memref.whole cc0_scratch3) (r := Rect.unit (s := S6x256) (sOff t) S1x1.size h) (Finset.subset_univ _)) $$ H; iintro H
  have e : (((Memref.whole cc0_scratch3).access (Rect.unit (s := S6x256) (sOff t) S1x1.size h)).read (Elt F) S
      (Shape.Idx.first (numel1_S1x1.symm ▸ Nat.one_pos)) : F .f32) = S (tix t.toNat) := congrArg S (sOff_tix t ht h _)
  rw [e]
  iapply Hk; iexact H

theorem wp_getRow (V : S6x256.Idx → BitVec 32) (t : BitVec 32) (ht : t.toNat < 1536)
    (h : ∀ a, (sOff t) a + S1x1.size a ≤ S6x256.size a) (k : BitVec 32 → TP F α) (Q : α → sProp 𝕄) :
    iprop(rwPts (F := F) c V ∗ (rwPts (F := F) c V -∗ W c bd (k (V (tix t.toNat))) Q)) ⊢ W c bd (getRow t h k) Q := by
  unfold getRow rwPts W
  iintro ⟨H, Hk⟩
  iapply (wp_smemLoadElt 𝒱₀ (c : Thread nD τ) bd Set.univ (m := Memref.whole cc0_scratch5) (r := Rect.unit (s := S6x256) (sOff t) S1x1.size h) (Finset.subset_univ _)) $$ H; iintro H
  have e : (((Memref.whole cc0_scratch5).access (Rect.unit (s := S6x256) (sOff t) S1x1.size h)).read (Elt F) V
      (Shape.Idx.first (numel1_S1x1.symm ▸ Nat.one_pos)) : BitVec 32) = V (tix t.toNat) := congrArg V (sOff_tix t ht h _)
  rw [e]
  iapply Hk; iexact H

theorem first_zero (x : S1.Idx) : (x 0).val = 0 := by
  have := (x 0).isLt; have e : S1.size 0 = 1 := rfl; omega

theorem wp_getHead (h : ℕ → BitVec 32) (o : Fin 1 → ℕ) (ho : ∀ a, o a + S1.size a ≤ S1537.size a) (k : BitVec 32 → TP F α) (Q : α → sProp 𝕄) :
    iprop(hdPts (F := F) c h ∗ (hdPts (F := F) c h -∗ W c bd (k (h (o 0))) Q))
      ⊢ W c bd (smemLoadElt (Memref.whole cc0_scratch6) (Rect.unit (s := S1537) o S1.size ho)
        (View.loads_smem_one rfl numel1_S1) (Shape.Idx.first (numel1_S1.symm ▸ Nat.one_pos)) fun (x : Elt F .i32) => k x) Q := by
  unfold hdPts W
  iintro ⟨H, Hk⟩
  iapply (wp_smemLoadElt 𝒱₀ (c : Thread nD τ) bd Set.univ (m := Memref.whole cc0_scratch6) (r := Rect.unit (s := S1537) o S1.size ho) (Finset.subset_univ _)) $$ H; iintro H
  have e : (((Memref.whole cc0_scratch6).access (Rect.unit (s := S1537) o S1.size ho)).read (Elt F) (fun i : S1537.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

theorem wp_getChain (h : ℕ → BitVec 32) (o : Fin 1 → ℕ) (ho : ∀ a, o a + S1.size a ≤ S193.size a) (k : BitVec 32 → TP F α) (Q : α → sProp 𝕄) :
    iprop(xhPts (F := F) c h ∗ (xhPts (F := F) c h -∗ W c bd (k (h (o 0))) Q))
      ⊢ W c bd (smemLoadElt (Memref.whole cc0_scratch7) (Rect.unit (s := S193) o S1.size ho)
        (View.loads_smem_one rfl numel1_S1) (Shape.Idx.first (numel1_S1.symm ▸ Nat.one_pos)) fun (x : Elt F .i32) => k x) Q := by
  unfold xhPts W
  iintro ⟨H, Hk⟩
  iapply (wp_smemLoadElt 𝒱₀ (c : Thread nD τ) bd Set.univ (m := Memref.whole cc0_scratch7) (r := Rect.unit (s := S193) o S1.size ho) (Finset.subset_univ _)) $$ H; iintro H
  have e : (((Memref.whole cc0_scratch7).access (Rect.unit (s := S193) o S1.size ho)).read (Elt F) (fun i : S193.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

theorem wp_getNext (h : ℕ → BitVec 32) (o : Fin 1 → ℕ) (ho : ∀ a, o a + S1.size a ≤ S1537.size a) (k : BitVec 32 → TP F α) (Q : α → sProp 𝕄) :
    iprop(nxPts (F := F) c h ∗ (nxPts (F := F) c h -∗ W c bd (k (h (o 0))) Q))
      ⊢ W c bd (smemLoadElt (Memref.whole cc0_scratch8) (Rect.unit (s := S1537) o S1.size ho)
        (View.loads_smem_one rfl numel1_S1) (Shape.Idx.first (numel1_S1.symm ▸ Nat.one_pos)) fun (x : Elt F .i32) => k x) Q := by
  unfold nxPts W
  iintro ⟨H, Hk⟩
  iapply (wp_smemLoadElt 𝒱₀ (c : Thread nD τ) bd Set.univ (m := Memref.whole cc0_scratch8) (r := Rect.unit (s := S1537) o S1.size ho) (Finset.subset_univ _)) $$ H; iintro H
  have e : (((Memref.whole cc0_scratch8).access (Rect.unit (s := S1537) o S1.size ho)).read (Elt F) (fun i : S1537.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

/-! ## The checks -/

theorem cIn_of (t : BitVec 32) (ht : t.toNat < 1536) : CIn t := by
  intro r a
  right
  rcases a with ⟨_ | _ | n, hn⟩
  · show cOff t (BitVec.ofNat 32 (3136 * r.val)) 0 + 392 * (8 - 1) < 56448
    rw [cOff_zero t ht]; omega
  · show 0 + 1 * (128 - 1) < 128
    omega
  · exact absurd hn (by simp)

theorem oIn_of (s : Fin 24) (r : Fin 8) (sw rw : BitVec 32) (hs : sw.toNat = s) (hr : rw.toNat = r) : OIn sw rw := by
  intro i a
  right
  rcases a with ⟨_ | _ | n, hn⟩
  · show oOff sw (BitVec.ofNat 32 (64 * i.val)) rw 0 + 8 * (8 - 1) < 27648
    rw [oOff_zero s r i sw rw hs hr]; omega
  · show 0 + 1 * (128 - 1) < 128
    omega
  · exact absurd hn (by simp)

theorem sOff_in (t : BitVec 32) (ht : t.toNat < 1536) : ∀ a, (sOff t) a + S1x1.size a ≤ S6x256.size a := by
  have e0 : sOff t 0 = t.toNat / 256 := shrsi_toNat (by omega) 8 (by omega)
  have e1 : sOff t 1 = t.toNat % 256 := andi_toNat t 8 (by omega)
  intro a
  rcases a with ⟨_ | _ | n, hn⟩
  · show sOff t 0 + 1 ≤ 6
    omega
  · show sOff t 1 + 1 ≤ 256
    omega
  · exact absurd hn (by simp)

theorem off1_in {N : ℕ} (o : Fin 1 → ℕ) (h : o 0 < N) : ∀ a, o a + S1.size a ≤ (⟨1, ![N]⟩ : Shape).size a := by
  intro a
  rcases a with ⟨_ | n, hn⟩
  · show o 0 + 1 ≤ N
    omega
  · exact absurd hn (by simp)

theorem chk12_of (t : BitVec 32) (ht : t.toNat < 1536) : k0_chk12 t := by
  refine ⟨sOff_in t ht, fun r => cIn_of t ht ⟨r.val, by omega⟩, fun r => ?_, off1_in (N := 1537) _ (by show t.toNat < 1537; omega)⟩
  have h := cIn_of t ht ⟨r.val + 4, by omega⟩
  have e : 12544 + 3136 * r.val = 3136 * (r.val + 4) := by omega
  simp only [e]
  exact h

/-! ## The walk -/

/-- How far up its word a token's byte lies, from the token's number. -/
abbrev shN (t : ℕ) : BitVec 32 := shOf (BitVec.ofNat 32 t)

/-- Column tile `j`, lane `l` of token `t`, scaled. -/
def tokV (f : S144x392x128.Idx → BitVec 32) (S : S6x256.Idx → F .f32) (t : ℕ) : Fin 144 → Fin 128 → F .f32 :=
  fun j l => FloatOps.mulf (decW (f (cIdx j ⟨t / 4 % 392, Nat.mod_lt _ (by omega)⟩ l)) (shN t)) (S (tix t))

theorem tokW_eq (f : S144x392x128.Idx → BitVec 32) (S : S6x256.Idx → F .f32) (t : BitVec 32) (ht : t.toNat < 1536) :
    tokW f t.toNat (shOf t) (S (tix t.toNat)) ht = tokV f S t.toNat := by
  funext j l
  unfold tokW tokV shN
  rw [ofNat_toNat]
  congr 4
  apply Fin.ext
  show t.toNat / 4 = t.toNat / 4 % 392
  omega

/-- A row number's row of its block. -/
def rowOf (V : S6x256.Idx → BitVec 32) (t : ℕ) : Fin 8 := ⟨(V (tix t)).toNat % 8, Nat.mod_lt _ (by omega)⟩

/-- A slot after the tokens `X` are added to it. -/
def walked (f : S144x392x128.Idx → BitVec 32) (S : S6x256.Idx → F .f32) (V : S6x256.Idx → BitVec 32) (X : List ℕ) (G : Slot F) : Slot F :=
  X.foldl (fun G t => updRow FloatOps.addf (rowOf V t) (tokV f S t) G) G

/-- What the walk holds. -/
def walkRes (f : S144x392x128.Idx → BitVec 32) (S : S6x256.Idx → F .f32) (V : S6x256.Idx → BitVec 32) (nx : ℕ → BitVec 32)
    (s : Fin 24) (G : Slot F) : sProp 𝕄 :=
  iprop(cPts (F := F) c f ∗ scPts c S ∗ rwPts (F := F) c V ∗ nxPts (F := F) c nx ∗ slotPts c s G)

theorem wp_walk (f : S144x392x128.Idx → BitVec 32) (S : S6x256.Idx → F .f32) (V : S6x256.Idx → BitVec 32) (nx : ℕ → BitVec 32)
    (b : BitVec 32) (hb : b.toNat < 2 ^ 31) (s : Fin 24) (hs : s.val = b.toNat % 24) (w : Carried b) (X : List ℕ) :
    ∀ (v : ℕ) (x : BitVec 32) (G : Slot F) (Q : BitVec 32 → sProp 𝕄), Chain nx x X → (∀ t ∈ X, t < 1536) → X.length ≤ v →
      iprop(walkRes c f S V nx s G ∗ (∀ r, walkRes c f S V nx s (walked f S V X G) -∗ Q r))
        ⊢ W c (some v) (defs₀ (F := F) .tc (2 : (Λ₀ F).Label) (walkArg b w x)) Q := by
  have hsw : (Scalar.remsi b 24#32).toNat = s := by rw [hs]; exact remsi_toNat hb 24 (by omega) (by omega)
  induction X with
  | nil =>
    intro v x G Q hX _ _
    show _ ⊢ W c (some v) (while2Of (walkArg b w x)) Q
    rw [while2_eq]; unfold walkBody
    rw [show x = none32 from hX, if_neg (by decide)]
    unfold W
    iintro ⟨H, Hk⟩
    rw [wp_ret]; imodintro
    iapply Hk; iexact H
  | cons t X ih =>
    intro v x G Q hX hm hv
    obtain ⟨rfl, hX⟩ := hX
    have ht : t < 1536 := hm t List.mem_cons_self
    have hn : (BitVec.ofNat 32 t).toNat = t := toNat_ofNat (by omega)
    have ht' : (BitVec.ofNat 32 t).toNat < 1536 := by rw [hn]; exact ht
    have hc : Scalar.andi (Scalar.cmpi .sge (BitVec.ofNat 32 t) 0#32) (Scalar.cmpi .slt (BitVec.ofNat 32 t) 1536#32) = 1#1 := by
      rw [(cmpi_sge_small (by omega) (by decide)).mpr (Nat.zero_le _), (cmpi_slt_small (by omega) (by decide)).mpr ht']
      rfl
    show _ ⊢ W c (some v) (while2Of (walkArg b w (BitVec.ofNat 32 t))) Q
    rw [while2_eq]; unfold walkBody
    rw [if_pos hc]
    have hr : ∀ u : BitVec 32, (Scalar.andi u 7#32).toNat = (⟨u.toNat % 8, Nat.mod_lt _ (by omega)⟩ : Fin 8) := fun u => andi_toNat u 3 (by omega)
    unfold walkRes
    iintro ⟨⟨HC, HS, HR, HN, HG⟩, Hk⟩
    iapply (wp_assume 𝒱₀ (c : Thread nD τ) (some v) Set.univ (chk12_of _ ht'))
    iapply (wp_getRow c (some v) V _ ht'); isplitl [HR]; · iexact HR
    iintro HR
    iapply (wp_assume 𝒱₀ (c : Thread nD τ) (some v) Set.univ (oIn_of s _ _ _ hsw (hr _)))
    iapply (wp_getScale c (some v) S _ ht'); isplitl [HS]; · iexact HS
    iintro HS
    iapply (wp_row c (some v) f _ ht' _ _ _ _ s _ FloatOps.addf G (addTile_ok c (some v) s _ _ _ hsw (hr _) _))
    isplitl [HC]; · iexact HC
    isplitl [HG]; · iexact HG
    rw [tokW_eq]
    iintro HC HG
    iapply (wp_getNext c (some v) nx); isplitl [HN]; · iexact HN
    iintro HN
    have hoff : k0_off47 (BitVec.ofNat 32 t) 0 = t := hn
    rw [hoff, hn]
    iapply (wp_call 𝒱₀ (c : Thread nD τ) (some v) Set.univ (ℓ := (2 : (Λ₀ F).Label)) (v - 1)
      (fun u hu => by cases hu; show v - 1 < v; simp at hv; omega))
    iapply (ih (v - 1) (nx t) _ _ hX (fun t ht => hm t (List.mem_cons_of_mem _ ht)) (by simp at hv; omega))
    unfold walkRes
    isplitl [HC HS HR HN HG]
    · isplitl [HC]; · iexact HC
      isplitl [HS]; · iexact HS
      isplitl [HR]; · iexact HR
      isplitl [HN]; · iexact HN
      iexact HG
    iintro %r H
    rw [wp_ret]; imodintro
    iapply Hk; iexact H

end Cert.Proof.Seg
-- ==== Proof.Seg.Block.lean ====
/-
  One block of rows: the eight head rows fill a slot with the first token of each row (`wp_headRow`), the walk adds the
  further tokens, and the slot then holds the block's rows (`wp_fill`).
-/
module

public import proofs.«01_k».proof.Proof.Seg.Walk

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## What a row holds -/

/-- A row's first value: its first token's, or a byte of token 0 scaled by zero. -/
def headV (f : S144x392x128.Idx → BitVec 32) (S : S6x256.Idx → F .f32) : List ℕ → Fin 144 → Fin 128 → F .f32
  | [] => fun j l => FloatOps.mulf (decW (f (cIdx j ⟨0, by omega⟩ l)) (shN 0)) (Scalar.ofBits .f32 0x00000000#32)
  | t :: _ => tokV f S t

/-- A row's value: its first token's, the others added in turn. -/
def outV (f : S144x392x128.Idx → BitVec 32) (S : S6x256.Idx → F .f32) (L : List ℕ) (j : Fin 144) (l : Fin 128) : F .f32 :=
  L.tail.foldl (fun acc t => FloatOps.addf acc (tokV f S t j l)) (headV f S L j l)

theorem walked_apply (f : S144x392x128.Idx → BitVec 32) (S : S6x256.Idx → F .f32) (V : S6x256.Idx → BitVec 32) (X : List ℕ) :
    ∀ (G : Slot F) (r : Fin 8) (j : Fin 144) (l : Fin 128),
      walked f S V X G r j l = (X.filter (fun t => rowOf V t = r)).foldl (fun acc t => FloatOps.addf acc (tokV f S t j l)) (G r j l) := by
  induction X with
  | nil => intro G r j l; rfl
  | cons t X ih =>
    intro G r j l
    show walked f S V X (updRow FloatOps.addf (rowOf V t) (tokV f S t) G) r j l = _
    rw [ih]
    by_cases h : rowOf V t = r
    · rw [List.filter_cons_of_pos (by simpa using h)]
      subst h
      show List.foldl _ (updRow FloatOps.addf (rowOf V t) (tokV f S t) G (rowOf V t) j l) _ = _
      unfold updRow
      simp
    · rw [List.filter_cons_of_neg (by simpa using h)]
      unfold updRow
      rw [if_neg (fun e => h e.symm)]

variable (c : Dev nD) (bd : Option ℕ)

/-- What the head rows hold. -/
def headRes (f : S144x392x128.Idx → BitVec 32) (S : S6x256.Idx → F .f32) (h : ℕ → BitVec 32) (s : Fin 24) (G : Slot F) : sProp 𝕄 :=
  iprop(cPts (F := F) c f ∗ scPts c S ∗ hdPts (F := F) c h ∗ slotPts c s G)

/-- A row's first word, no smaller than zero. -/
theorem maxsi_headOf (l : List ℕ) (hl : ∀ t ∈ l, t < 1536) : (Scalar.maxsi (headOf l) 0#32) = BitVec.ofNat 32 (l.headD 0) := by
  cases l with
  | nil => decide
  | cons t l =>
    have ht := hl t List.mem_cons_self
    show (if (0#32).slt (BitVec.ofNat 32 t) = true then BitVec.ofNat 32 t else 0#32) = BitVec.ofNat 32 t
    by_cases h0 : t = 0
    · subst h0; rfl
    · rw [if_pos]
      rw [BitVec.slt_eq_decide]
      have : (BitVec.ofNat 32 t).toNat = t := toNat_ofNat (by omega)
      have h2 := toInt_small (x := BitVec.ofNat 32 t) (by omega)
      rw [h2, this]
      simp; omega

theorem headD_lt (l : List ℕ) (hl : ∀ t ∈ l, t < 1536) : l.headD 0 < 1536 := by
  cases l with
  | nil => decide
  | cons t l => exact hl t List.mem_cons_self

theorem head_chk (l : List ℕ) (hl : ∀ t ∈ l, t < 1536) :
    (∀ a, (sOff (Scalar.maxsi (headOf l) 0#32)) a + S1x1.size a ≤ S6x256.size a) ∧ CIn (Scalar.maxsi (headOf l) 0#32) := by
  have hlt := headD_lt l hl
  have hm := maxsi_headOf l hl
  have h0 : (BitVec.ofNat 32 (l.headD 0)).toNat = l.headD 0 := toNat_ofNat (by omega)
  rw [hm]
  exact ⟨sOff_in _ (by omega), cIn_of _ (by omega)⟩

theorem tokW_head (f : S144x392x128.Idx → BitVec 32) (S : S6x256.Idx → F .f32) (l : List ℕ) (hl : ∀ t ∈ l, t < 1536)
    (ht : (Scalar.maxsi (headOf l) 0#32).toNat < 1536) :
    tokW f (Scalar.maxsi (headOf l) 0#32).toNat (shOf (Scalar.maxsi (headOf l) 0#32))
      (Scalar.select (Scalar.cmpi .slt (headOf l) 0#32) (Scalar.ofBits .f32 0x00000000#32) (S (tix (Scalar.maxsi (headOf l) 0#32).toNat))) ht
      = headV f S l := by
  cases l with
  | nil => rfl
  | cons t l =>
    have ht' := hl t List.mem_cons_self
    have hm : Scalar.maxsi (headOf (t :: l)) 0#32 = BitVec.ofNat 32 t := maxsi_headOf (t :: l) hl
    have hn : (BitVec.ofNat 32 t).toNat = t := toNat_ofNat (by omega)
    have hc : Scalar.cmpi .slt (headOf (t :: l)) 0#32 ≠ 1#1 := by
      intro e
      have := (cmpi_slt_small (x := BitVec.ofNat 32 t) (y := 0#32) (by omega) (by decide)).mp e
      simp at this
    have e1 : Scalar.select (Scalar.cmpi .slt (headOf (t :: l)) 0#32) (Scalar.ofBits .f32 0x00000000#32)
        (S (tix (Scalar.maxsi (headOf (t :: l)) 0#32).toNat)) = S (tix (Scalar.maxsi (headOf (t :: l)) 0#32).toNat) := if_neg hc
    rw [e1]
    rw [tokW_eq]
    rw [hm, hn]
    rfl

theorem wp_headRow (f : S144x392x128.Idx → BitVec 32) (S : S6x256.Idx → F .f32) (h : ℕ → BitVec 32) (s : Fin 24) (r : Fin 8)
    (b w : BitVec 32) (hs : (Scalar.remsi b 24#32).toNat = s) (hw : w.toNat = r) (l : List ℕ) (hl : ∀ t ∈ l, t < 1536)
    (hh : h (hOff b w 0) = headOf l) (hH : ∀ a, (hOff b w) a + S1.size a ≤ S1537.size a) (hO : OIn (Scalar.remsi b 24#32) w)
    (P : BitVec 32 → Prop) (d : ∀ v, Decidable (P v))
    (hS : ∀ v, P v → ∀ a, (sOff (Scalar.maxsi v 0#32)) a + S1x1.size a ≤ S6x256.size a)
    (hC : ∀ v, P v → CIn (Scalar.maxsi v 0#32)) (hP : P (headOf l)) (G : Slot F) (k : (v : BitVec 32) → P v → TP F α) (Q : α → sProp 𝕄) :
    iprop(headRes c f S h s G ∗ (headRes c f S h s (updRow (fun _ y => y) r (headV f S l) G) -∗ W c bd (k (headOf l) hP) Q))
      ⊢ W c bd (headRow b w hH hO P d hS hC k) Q := by
  unfold headRow headRes
  have ht : (Scalar.maxsi (headOf l) 0#32).toNat < 1536 := by
    rw [maxsi_headOf l hl, toNat_ofNat (by have := headD_lt l hl; omega)]; exact headD_lt l hl
  iintro ⟨⟨HC, HS, HH, HG⟩, Hk⟩
  iapply (wp_getHead c bd h _ hH); isplitl [HH]; · iexact HH
  iintro HH
  rw [hh]
  iapply (wp_assume 𝒱₀ (c : Thread nD τ) bd Set.univ hP)
  iapply (wp_getScale c bd S _ ht); isplitl [HS]; · iexact HS
  iintro HS
  iapply (wp_row c bd f _ ht _ _ _ _ s _ (fun _ y => y) G (putTile_ok c bd s r _ _ hs hw _))
  isplitl [HC]; · iexact HC
  isplitl [HG]; · iexact HG
  rw [tokW_head f S l hl]
  iintro HC HG
  iapply Hk
  isplitl [HC]; · iexact HC
  isplitl [HS]; · iexact HS
  isplitl [HH]; · iexact HH
  iexact HG

/-! ## A block's words -/

variable {b : BitVec 32}

theorem hOff_zero (hb : b.toNat < 192) (w : BitVec 32) (hw : w.toNat < 8) : hOff b w 0 = 8 * b.toNat + w.toNat := by
  have e : (Scalar.muli b 8#32).toNat = b.toNat * 8 := muli_toNat (by show b.toNat * 8 < _; omega)
  show (Scalar.addi (Scalar.muli b 8#32) w).toNat = _
  rw [addi_toNat (by omega)]; omega

theorem ne_zero_iff (x : BitVec 1) : Scalar.cmpi .ne (Scalar.extui x : BitVec 32) 0#32 = 1#1 ↔ x = 1#1 := by
  revert x; decide

theorem cond1_iff (hb : b.toNat < 192) : k0_cond1 b = 1#1 ↔ 24 ≤ b.toNat :=
  (ne_zero_iff _).trans (cmpi_sge_small (x := b) (y := 24#32) (by omega) (by decide))

theorem cond2_iff (hb : b.toNat < 192) : k0_cond2 b = 1#1 ↔ 0 < b.toNat := by
  refine (ne_zero_iff _).trans ?_
  exact cmpi_slt_small (x := 0#32) (y := b) (by decide) (by omega)

theorem sem_in (o : Fin 1 → ℕ) (h : o 0 < 24) : SemIn o := off1_in (N := 24) o h

theorem piece_in (p : ℕ) (h : p < 192) : PieceIn ![p, 0, 0, 0] := by
  intro a
  fin_cases a
  · show p + 1 ≤ 192; omega
  · show 0 + 144 ≤ 144; omega
  · show 0 + 8 ≤ 8; omega
  · show 0 + 128 ≤ 128; omega

theorem slot_in (s : ℕ) (h : s < 24) : SlotIn ![s, 0, 0, 0] := by
  intro a
  fin_cases a
  · show s + 1 ≤ 24; omega
  · show 0 + 144 ≤ 144; omega
  · show 0 + 8 ≤ 8; omega
  · show 0 + 128 ≤ 128; omega

theorem off7_eq (hb : b.toNat < 192) (h : 24 ≤ b.toNat) : k0_off7 b = ![b.toNat % 24] := by
  have e : (Scalar.subi b 24#32).toNat = b.toNat - 24 := subi_toNat (by show 24 ≤ _; omega)
  show ![(Scalar.remsi (Scalar.subi b 24#32) 24#32).toNat] = _
  rw [remsi_toNat (by omega) 24 (by omega) (by omega), e]
  congr 1; omega
theorem off8_eq (hb : b.toNat < 192) (h : 24 ≤ b.toNat) : k0_off8 b = ![b.toNat - 24, 0, 0, 0] := by
  have e : (Scalar.subi b 24#32).toNat = b.toNat - 24 := subi_toNat (by show 24 ≤ _; omega)
  show ![(Scalar.subi b 24#32).toNat, 0, 0, 0] = _
  rw [e]
theorem off9_eq (hb : b.toNat < 192) (h : 24 ≤ b.toNat) : k0_off9 b = ![b.toNat % 24, 0, 0, 0] := by
  have e : (Scalar.subi b 24#32).toNat = b.toNat - 24 := subi_toNat (by show 24 ≤ _; omega)
  show ![(Scalar.remsi (Scalar.subi b 24#32) 24#32).toNat, 0, 0, 0] = _
  rw [remsi_toNat (by omega) 24 (by omega) (by omega), e]
  congr 1; omega
theorem off48_eq (hb : b.toNat < 192) (h : 0 < b.toNat) : k0_off48 b = ![(b.toNat - 1) % 24] := by
  have e : (Scalar.subi b 1#32).toNat = b.toNat - 1 := subi_toNat (by show 1 ≤ _; omega)
  show ![(Scalar.remsi (Scalar.subi b 1#32) 24#32).toNat] = _
  rw [remsi_toNat (by omega) 24 (by omega) (by omega), e]
theorem off49_eq (hb : b.toNat < 192) (h : 0 < b.toNat) : k0_off49 b = ![b.toNat - 1, 0, 0, 0] := by
  have e : (Scalar.subi b 1#32).toNat = b.toNat - 1 := subi_toNat (by show 1 ≤ _; omega)
  show ![(Scalar.subi b 1#32).toNat, 0, 0, 0] = _
  rw [e]
theorem off50_eq (hb : b.toNat < 192) (h : 0 < b.toNat) : k0_off50 b = ![(b.toNat - 1) % 24, 0, 0, 0] := by
  have e : (Scalar.subi b 1#32).toNat = b.toNat - 1 := subi_toNat (by show 1 ≤ _; omega)
  show ![(Scalar.remsi (Scalar.subi b 1#32) 24#32).toNat, 0, 0, 0] = _
  rw [remsi_toNat (by omega) 24 (by omega) (by omega), e]

/-- The block's checks hold. -/
theorem chk3_of (hb : b.toNat < 192) : k0_chk3 b := by
  have hr : (Scalar.remsi b 24#32).toNat = (⟨b.toNat % 24, Nat.mod_lt _ (by omega)⟩ : Fin 24) := remsi_toNat (by omega) 24 (by omega) (by omega)
  have hh : ∀ w : BitVec 32, w.toNat < 8 → ∀ a, (hOff b w) a + S1.size a ≤ S1537.size a := fun w hw =>
    off1_in (N := 1537) _ (by rw [hOff_zero hb w hw]; omega)
  have ho : ∀ w : BitVec 32, (hw : w.toNat < 8) → OIn (Scalar.remsi b 24#32) w := fun w hw =>
    oIn_of _ ⟨w.toNat, hw⟩ _ _ hr rfl
  refine ⟨fun h => ?_, fun h => ?_, fun h => ?_, hh 0#32 (by decide), ho 0#32 (by decide), hh 1#32 (by decide), ho 1#32 (by decide),
    hh 2#32 (by decide), ho 2#32 (by decide), hh 3#32 (by decide), ho 3#32 (by decide), hh 4#32 (by decide), ho 4#32 (by decide),
    hh 5#32 (by decide), ho 5#32 (by decide), hh 6#32 (by decide), ho 6#32 (by decide), hh 7#32 (by decide), ho 7#32 (by decide),
    off1_in (N := 193) _ (by show b.toNat < 193; omega), fun h => ?_, fun h => ?_, fun h => ?_⟩
  · rw [off7_eq hb ((cond1_iff hb).mp h)]; exact sem_in _ (Nat.mod_lt _ (by omega))
  · rw [off8_eq hb ((cond1_iff hb).mp h)]; exact piece_in _ (by omega)
  · rw [off9_eq hb ((cond1_iff hb).mp h)]; exact slot_in _ (Nat.mod_lt _ (by omega))
  · rw [off48_eq hb ((cond2_iff hb).mp h)]; exact sem_in _ (Nat.mod_lt _ (by omega))
  · rw [off49_eq hb ((cond2_iff hb).mp h)]; exact piece_in _ (by omega)
  · rw [off50_eq hb ((cond2_iff hb).mp h)]; exact slot_in _ (Nat.mod_lt _ (by omega))

/-! ## Filling a slot -/

/-- What filling a block's slot holds. -/
def fillRes (f : S144x392x128.Idx → BitVec 32) (S : S6x256.Idx → F .f32) (V : S6x256.Idx → BitVec 32) (h xh nx : ℕ → BitVec 32)
    (s : Fin 24) (G : Slot F) : sProp 𝕄 :=
  iprop(cPts (F := F) c f ∗ scPts c S ∗ rwPts (F := F) c V ∗ hdPts (F := F) c h ∗ xhPts (F := F) c xh ∗ nxPts (F := F) c nx ∗ slotPts c s G)

/-- What follows the walk: the copy of the block before, then the next block. -/
def nextOf (n b : BitVec 32) (h3 : k0_chk3 b) : TP F (BitVec 32) :=
  if h2 : k0_cond2 b = 1#1 then
    startOut (k0_off48 b) (k0_off48_inb b h3 h2) (k0_off49 b) (k0_off49_inb b h3 h2) (k0_off50 b) (k0_off50_inb b h3 h2)
      (.op (.call (1 : (Λ₀ F).Label) (blockArg n (Scalar.addi b 1#32))) .ret)
  else .op (.call (1 : (Λ₀ F).Label) (blockArg n (Scalar.addi b 1#32))) .ret

theorem put8 (H : Fin 8 → Fin 144 → Fin 128 → F .f32) (G : Slot F) :
    updRow (fun _ y => y) 7 (H 7) (updRow (fun _ y => y) 6 (H 6) (updRow (fun _ y => y) 5 (H 5) (updRow (fun _ y => y) 4 (H 4)
      (updRow (fun _ y => y) 3 (H 3) (updRow (fun _ y => y) 2 (H 2) (updRow (fun _ y => y) 1 (H 1) (updRow (fun _ y => y) 0 (H 0) G))))))) = H := by
  funext r j l
  unfold updRow
  fin_cases r <;> simp

omit [FloatOps F] in
theorem row_filter (V : S6x256.Idx → BitVec 32) (b : ℕ) (X : List ℕ) (hXm : ∀ t ∈ X, t < 1536 ∧ (V (tix t)).toNat / 8 = b) (r : Fin 8) :
    X.filter (fun t => rowOf V t = r) = X.filter (fun t => (V (tix t)).toNat = 8 * b + r.val) := by
  refine List.filter_congr fun t ht => ?_
  have h := (hXm t ht).2
  have : rowOf V t = r ↔ (V (tix t)).toNat = 8 * b + r.val := by
    rw [Fin.ext_iff]
    show (V (tix t)).toNat % 8 = r.val ↔ _
    omega
  simp only [this]

theorem walked_out (f : S144x392x128.Idx → BitVec 32) (S : S6x256.Idx → F .f32) (V : S6x256.Idx → BitVec 32)
    (live : ℕ → Prop) [DecidablePred live] (b : BitVec 32) (hb : b.toNat < 192) (X : List ℕ) (hXm : ∀ t ∈ X, t < 1536 ∧ (V (tix t)).toNat / 8 = b.toNat)
    (hXf : ∀ s, s / 8 = b.toNat → X.filter (fun t => (V (tix t)).toNat = s) = (toks live (fun t => (V (tix t)).toNat) 1536 s).tail) :
    walked f S V X (fun r => headV f S (toks live (fun t => (V (tix t)).toNat) 1536 (8 * b.toNat + r.val)))
      = fun r j l => outV f S (toks live (fun t => (V (tix t)).toNat) 1536 (8 * b.toNat + r.val)) j l := by
  funext r j l
  rw [walked_apply, row_filter V b.toNat X hXm r, hXf _ (by omega)]
  rfl

theorem wp_fill (f : S144x392x128.Idx → BitVec 32) (S : S6x256.Idx → F .f32) (V : S6x256.Idx → BitVec 32)
    {live : ℕ → Prop} [DecidablePred live] {h nx xh : ℕ → BitVec 32} (T : Threaded live (fun t => (V (tix t)).toNat) 1536 h nx xh)
    (n : BitVec 32) (hb : b.toNat < 192) (h3 : k0_chk3 b) (s : Fin 24) (hs : s.val = b.toNat % 24) (v : ℕ) (hv : 1536 < v) (G : Slot F)
    (Q : BitVec 32 → sProp 𝕄) :
    iprop(fillRes c f S V h xh nx s G
        ∗ (fillRes c f S V h xh nx s (fun r j l => outV f S (toks live (fun t => (V (tix t)).toNat) 1536 (8 * b.toNat + r.val)) j l)
            -∗ W c (some v) (nextOf n b h3) Q))
      ⊢ W c (some v) (blockRows n b h3) Q := by
  have hr : (Scalar.remsi b 24#32).toNat = s := by rw [hs]; exact remsi_toNat (by omega) 24 (by omega) (by omega)
  have hl : ∀ u, ∀ t ∈ toks live (fun t => (V (tix t)).toNat) 1536 u, t < 1536 := fun u t ht => (mem_toks _ _ (le_refl _) ht).2.1
  have hh : ∀ w : BitVec 32, w.toNat < 8 → h (hOff b w 0) = headOf (toks live (fun t => (V (tix t)).toNat) 1536 (8 * b.toNat + w.toNat)) := fun w hw => by
    rw [hOff_zero hb w hw]; exact T.heads _ (by omega)
  obtain ⟨X, hX, hXl, hXm, hXf⟩ := T.chains b.toNat hb
  unfold blockRows fillRes
  iintro ⟨⟨HC, HS, HR, HH, HX, HN, HG⟩, Hk⟩
  ihave H : headRes c f S h s G $$ [HC HS HH HG]
  · unfold headRes
    isplitl [HC]; · iexact HC
    isplitl [HS]; · iexact HS
    isplitl [HH]; · iexact HH
    iexact HG
  iapply (wp_headRow c (some v) f S h s 0 b 0#32 hr rfl _ (hl (8 * b.toNat + 0)) (hh 0#32 (by decide)) _ _ _ _ _ _ (head_chk _ (hl (8 * b.toNat + 0))))
  isplitl [H]; · iexact H
  iintro H
  iapply (wp_headRow c (some v) f S h s 1 b 1#32 hr rfl _ (hl (8 * b.toNat + 1)) (hh 1#32 (by decide)) _ _ _ _ _ _ (head_chk _ (hl (8 * b.toNat + 1))))
  isplitl [H]; · iexact H
  iintro H
  iapply (wp_headRow c (some v) f S h s 2 b 2#32 hr rfl _ (hl (8 * b.toNat + 2)) (hh 2#32 (by decide)) _ _ _ _ _ _ (head_chk _ (hl (8 * b.toNat + 2))))
  isplitl [H]; · iexact H
  iintro H
  iapply (wp_headRow c (some v) f S h s 3 b 3#32 hr rfl _ (hl (8 * b.toNat + 3)) (hh 3#32 (by decide)) _ _ _ _ _ _ (head_chk _ (hl (8 * b.toNat + 3))))
  isplitl [H]; · iexact H
  iintro H
  iapply (wp_headRow c (some v) f S h s 4 b 4#32 hr rfl _ (hl (8 * b.toNat + 4)) (hh 4#32 (by decide)) _ _ _ _ _ _ (head_chk _ (hl (8 * b.toNat + 4))))
  isplitl [H]; · iexact H
  iintro H
  iapply (wp_headRow c (some v) f S h s 5 b 5#32 hr rfl _ (hl (8 * b.toNat + 5)) (hh 5#32 (by decide)) _ _ _ _ _ _ (head_chk _ (hl (8 * b.toNat + 5))))
  isplitl [H]; · iexact H
  iintro H
  iapply (wp_headRow c (some v) f S h s 6 b 6#32 hr rfl _ (hl (8 * b.toNat + 6)) (hh 6#32 (by decide)) _ _ _ _ _ _ (head_chk _ (hl (8 * b.toNat + 6))))
  isplitl [H]; · iexact H
  iintro H
  iapply (wp_headRow c (some v) f S h s 7 b 7#32 hr rfl _ (hl (8 * b.toNat + 7)) (hh 7#32 (by decide)) _ _ _ _ _ _ (head_chk _ (hl (8 * b.toNat + 7))))
  isplitl [H]; · iexact H
  iintro H
  ihave H := (Entails.of_eq (congrArg (headRes c f S h s) (put8 (fun r => headV f S (toks live (fun t => (V (tix t)).toNat) 1536 (8 * b.toNat + r.val))) G))) $$ H
  unfold headRes
  icases H with ⟨HC, HS, HH, HG⟩
  unfold blockTail
  iapply (wp_getChain c (some v) xh); isplitl [HX]; · iexact HX
  iintro HX
  iapply (wp_call 𝒱₀ (c : Thread nD τ) (some v) Set.univ (ℓ := (2 : (Λ₀ F).Label)) 1536 (fun u hu => by cases hu; exact hv))
  iapply (wp_walk c f S V nx b (by omega) s hs _ X 1536 _ _ _ hX (fun t ht => (hXm t ht).1) hXl)
  unfold walkRes
  isplitl [HC HS HR HN HG]
  · isplitl [HC]; · iexact HC
    isplitl [HS]; · iexact HS
    isplitl [HR]; · iexact HR
    isplitl [HN]; · iexact HN
    iexact HG
  iintro %r ⟨HC, HS, HR, HN, HG⟩
  ihave HG := (Entails.of_eq (congrArg (slotPts c s) (walked_out f S V live b hb X hXm hXf))) $$ HG
  iapply Hk
  isplitl [HC]; · iexact HC
  isplitl [HS]; · iexact HS
  isplitl [HR]; · iexact HR
  isplitl [HH]; · iexact HH
  isplitl [HX]; · iexact HX
  isplitl [HN]; · iexact HN
  iexact HG

end Cert.Proof.Seg
-- ==== Proof.Seg.Copies.lean ====
/-
  The copies of the ring: a slot is copied to its block of the result (`wp_startOut`), and a wait for the copy hands both
  back (`wp_waitOut`).
-/
module

public import proofs.«01_k».proof.Proof.Seg.Block
public import Idealize.ShloMosaic.Lib.Batch

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## Blocks of the result -/

/-- The block of an element of the result, -/
def pB (e : S192x144x8x128.Idx) : Fin 192 := e 0
/-- its column tile, -/
def pJ (e : S192x144x8x128.Idx) : Fin 144 := e 1
/-- its row, -/
def pR (e : S192x144x8x128.Idx) : Fin 8 := e 2
/-- and its lane. -/
def pL (e : S192x144x8x128.Idx) : Fin 128 := e 3

/-- An element of the result. -/
def pIdx (b : Fin 192) (j : Fin 144) (r : Fin 8) (l : Fin 128) : S192x144x8x128.Idx := fun a => match a with
  | ⟨0, _⟩ => b | ⟨1, _⟩ => j | ⟨2, _⟩ => r | ⟨3, _⟩ => l

theorem pIdx_eta (i : S192x144x8x128.Idx) : pIdx (pB i) (pJ i) (pR i) (pL i) = i := by
  funext a
  rcases a with ⟨_ | _ | _ | _ | n, hn⟩ <;> first | rfl | exact absurd hn (by simp)

/-- The elements of block `q`. -/
def pieceSet (q : Fin 192) : Finset S192x144x8x128.Idx := Finset.univ.filter fun i => pB i = q

theorem mem_pieceSet {q : Fin 192} {i : S192x144x8x128.Idx} : i ∈ pieceSet q ↔ pB i = q := by simp [pieceSet]

/-- Block `q` of the result holds `f`. -/
def piecePts (c : Dev nD) (q : Fin 192) (f : S192x144x8x128.Idx → F .f32) : sProp 𝕄 :=
  ((c : Thread nD τ).loc main_v3) ↦[pieceSet q]{fullShare} (f : Buf (Elt F) ((c : Thread nD τ).loc main_v3))

/-- A tile's column tile, row and lane. -/
def mJ (k : S144x8x128.Idx) : Fin 144 := k 0
def mR (k : S144x8x128.Idx) : Fin 8 := k 1
def mL (k : S144x8x128.Idx) : Fin 128 := k 2

/-- A tile from a column tile, a row and a lane. -/
def mIdx (j : Fin 144) (r : Fin 8) (l : Fin 128) : S144x8x128.Idx := fun a => match a with
  | ⟨0, _⟩ => j | ⟨1, _⟩ => r | ⟨2, _⟩ => l

/-- A tile's place in a piece of one block. -/
def uIdx (k : S144x8x128.Idx) : S1x144x8x128.Idx := fun a => match a with
  | ⟨0, _⟩ => (0 : Fin 1) | ⟨1, _⟩ => mJ k | ⟨2, _⟩ => mR k | ⟨3, _⟩ => mL k

theorem unsqueeze_eq (h : S144x8x128.numel = S1x144x8x128.numel) (k : S144x8x128.Idx) : Shape.reshapeEquiv h k = uIdx k := by
  refine Shape.reshapeEquiv_eq_of_rowMajor h ?_
  refine (Shape.rowMajor_val_four (d := ![1, 144, 8, 128]) (uIdx k)).trans ?_
  refine Eq.trans ?_ (Shape.rowMajor_val_three (d := ![144, 8, 128]) k).symm
  show ((0 * 144 + (mJ k).val) * 8 + (mR k).val) * 128 + (mL k).val = ((mJ k).val * 8 + (mR k).val) * 128 + (mL k).val
  omega

theorem outPiece_emb (q : Fin 192) (p : Fin 4 → ℕ) (hp : PieceIn p) (e : p = ![q.val, 0, 0, 0]) (k : S144x8x128.Idx) :
    (outPiece p hp).view.emb k = pIdx q (mJ k) (mR k) (mL k) := by
  subst e
  show (Rect.unit (s := S192x144x8x128) ![q.val, 0, 0, 0] S1x144x8x128.size hp).emb (Shape.reshapeEquiv _ k) = _
  rw [unsqueeze_eq]
  funext a
  apply Fin.ext
  rw [Rect.emb_apply]
  rcases a with ⟨_ | _ | _ | _ | n, hn⟩
  · show q.val + 1 * 0 = q.val; omega
  · show 0 + 1 * (mJ k).val = (mJ k).val; omega
  · show 0 + 1 * (mR k).val = (mR k).val; omega
  · show 0 + 1 * (mL k).val = (mL k).val; omega
  · exact absurd hn (by simp)

theorem ringSlot_emb (s : Fin 24) (p : Fin 4 → ℕ) (hp : SlotIn p) (e : p = ![s.val, 0, 0, 0]) (k : S144x8x128.Idx) :
    (ringSlot p hp).view.emb k = oIdx s (mJ k) (mR k) (mL k) := by
  subst e
  show (Rect.unit (s := S24x144x8x128) ![s.val, 0, 0, 0] S1x144x8x128.size hp).emb (Shape.reshapeEquiv _ k) = _
  rw [unsqueeze_eq]
  funext a
  apply Fin.ext
  rw [Rect.emb_apply]
  rcases a with ⟨_ | _ | _ | _ | n, hn⟩
  · show s.val + 1 * 0 = s.val; omega
  · show 0 + 1 * (mJ k).val = (mJ k).val; omega
  · show 0 + 1 * (mR k).val = (mR k).val; omega
  · show 0 + 1 * (mL k).val = (mL k).val; omega
  · exact absurd hn (by simp)

theorem outPiece_set (q : Fin 192) (p : Fin 4 → ℕ) (hp : PieceIn p) (e : p = ![q.val, 0, 0, 0]) :
    (outPiece p hp).view.set = pieceSet q := by
  ext i
  rw [mem_pieceSet]
  constructor
  · intro h
    obtain ⟨k, _, rfl⟩ := Finset.mem_map.mp h
    rw [outPiece_emb q p hp e]; rfl
  · intro h
    refine Finset.mem_map.mpr ⟨mIdx (pJ i) (pR i) (pL i), Finset.mem_univ _, ?_⟩
    rw [outPiece_emb q p hp e, ← h]
    exact pIdx_eta i

theorem ringSlot_set (s : Fin 24) (p : Fin 4 → ℕ) (hp : SlotIn p) (e : p = ![s.val, 0, 0, 0]) :
    (ringSlot p hp).view.set = slotSet s := by
  ext i
  rw [mem_slotSet]
  constructor
  · intro h
    obtain ⟨k, _, rfl⟩ := Finset.mem_map.mp h
    rw [ringSlot_emb s p hp e]; rfl
  · intro h
    refine Finset.mem_map.mpr ⟨mIdx (eJ i) (eR i) (eL i), Finset.mem_univ _, ?_⟩
    rw [ringSlot_emb s p hp e, ← h]
    exact oIdx_eta i

/-- What a copy of a tile counts for. -/
abbrev outN : ℕ := (outPiece ![0, 0, 0, 0] (piece_in 0 (by omega))).view.dmaCredit

theorem outN_pos : 0 < outN := by decide

/-- Semaphore `s` of the ring's. -/
def semS (s : Fin 24) : DmaSem sig := outSem ![s.val] (sem_in _ s.isLt)

theorem outSem_eq (s : Fin 24) (o : Fin 1 → ℕ) (h : SemIn o) (e : o = ![s.val]) : outSem o h = semS s := by
  subst e; rfl

variable (c : Dev nD) (bd : Option ℕ)

/-- The counters of the copies in flight. -/
abbrev EC : UEmb Counters 𝕄 := countersEmb (U := Pipeline.UD sig nD τ)

/-- The copy of slot `s` to block `q` is under way. -/
def flying (O : S192x144x8x128.Idx → F .f32) (q : Fin 192) (s : Fin 24) : sProp 𝕄 :=
  Transfers.Flight (EC (F := F)) (c : Thread nD τ) (.dma (semS s)) () outN
    iprop(piecePts c q O ∗ slotPts c s (fun r j l => O (pIdx q j r l)))

omit [FloatOps F] in
theorem write_piece (O : S192x144x8x128.Idx → F .f32) (q : Fin 192) (s : Fin 24) (p : Fin 4 → ℕ) (hp : PieceIn p) (ep : p = ![q.val, 0, 0, 0])
    (p' : Fin 4 → ℕ) (hp' : SlotIn p') (ep' : p' = ![s.val, 0, 0, 0]) (f : S192x144x8x128.Idx → F .f32) :
    ∀ i ∈ pieceSet q, (outPiece p hp).view.write (Elt F) f
      ((ringSlot p' hp').view.read (Elt F) (fun i : S24x144x8x128.Idx => (O (pIdx q (eJ i) (eR i) (eL i)) : Elt F .f32))) Finset.univ i = O i := by
  intro i hi
  rw [mem_pieceSet] at hi
  have hi' : i = (outPiece p hp).view.emb (mIdx (pJ i) (pR i) (pL i)) := by
    rw [outPiece_emb q p hp ep, ← hi]; exact (pIdx_eta i).symm
  conv_lhs => rw [hi']
  rw [View.write_emb_of_mem (h := Finset.mem_univ _)]
  show O _ = O i
  have : (ringSlot p' hp').view.emb (mIdx (pJ i) (pR i) (pL i)) = oIdx s (pJ i) (pR i) (pL i) := ringSlot_emb s p' hp' ep' _
  rw [this]
  congr 1
  rw [← hi]
  exact pIdx_eta i

theorem wp_startOut (O : S192x144x8x128.Idx → F .f32) (q : Fin 192) (s : Fin 24) (o : Fin 1 → ℕ) (h : SemIn o) (p : Fin 4 → ℕ) (hp : PieceIn p)
    (p' : Fin 4 → ℕ) (hp' : SlotIn p') (eo : o = ![s.val]) (ep : p = ![q.val, 0, 0, 0]) (ep' : p' = ![s.val, 0, 0, 0])
    (f : S192x144x8x128.Idx → F .f32) (k : TP F α) (Q : α → sProp 𝕄) :
    iprop(slotPts c s (fun r j l => O (pIdx q j r l)) ∗ piecePts c q f ∗ semVal ((c : Thread nD τ), .dma (semS s)) 0
        ∗ (flying c O q s -∗ W c bd k Q))
      ⊢ W c bd (startOut o h p hp p' hp' k) Q := by
  unfold slotPts piecePts flying W
  rw [← outPiece_set q p hp ep, ← ringSlot_set s p' hp' ep', ← outSem_eq s o h eo]
  iintro ⟨HS, HP, HV, Hk⟩
  iapply (Transfers.wp_dmaLocal (EC (F := F)) 𝒱₀ (c : Thread nD τ) bd (src := ringSlot p' hp') (dst := outPiece p hp) () outN rfl outN_pos (Finset.Subset.refl _)) $$ [HS HP HV]
  · isplitl [HS]; · iexact HS
    isplitl [HP]; · iexact HP
    iexact HV
  iintro HF
  iapply Hk
  refine Transfers.Flight_mono _ _ ?_
  unfold piecePts slotPts
  rw [← outPiece_set q p hp ep, ← ringSlot_set s p' hp' ep']
  refine BI.sep_mono (Entails.of_eq (pointsTo_congr ?_)) (Entails.refl _)
  rw [outPiece_set q p hp ep]
  exact write_piece O q s p hp ep p' hp' ep' f

theorem wp_waitOut (O : S192x144x8x128.Idx → F .f32) (q : Fin 192) (s : Fin 24) (o : Fin 1 → ℕ) (h : SemIn o) (p : Fin 4 → ℕ) (hp : PieceIn p)
    (p' : Fin 4 → ℕ) (hp' : SlotIn p') (eo : o = ![s.val]) (k : TP F α) (Q : α → sProp 𝕄) :
    iprop(flying c O q s ∗ (∃ V, owes (c : Thread nD τ) 0 V)
        ∗ ((piecePts c q O ∗ slotPts c s (fun r j l => O (pIdx q j r l)) ∗ semVal ((c : Thread nD τ), .dma (semS s)) 0 ∗ (∃ V, owes (c : Thread nD τ) 0 V)) -∗ W c bd k Q))
      ⊢ W c bd (waitOut o h p hp p' hp' k) Q := by
  unfold flying W
  rw [← outSem_eq s o h eo]
  iintro ⟨HF, ⟨%V, HV⟩, Hk⟩
  iapply (Transfers.wp_waitLocal (EC (F := F)) 𝒱₀ (c : Thread nD τ) bd () rfl) $$ [HF HV]
  · isplitl [HF]; · iexact HF
    iexact HV
  iintro ⟨⟨HP, HS⟩, HV, HO⟩
  iapply Hk
  isplitl [HP]; · iexact HP
  isplitl [HS]; · iexact HS
  isplitl [HV]; · iexact HV
  iexists _; iexact HO

end Cert.Proof.Seg
-- ==== Proof.Seg.Ring.lean ====
/-
  The block loop: each block waits for the copy out of its slot, fills the slot, and starts the copy of the block before
  (`wp_blocks`).
-/
module

public import proofs.«01_k».proof.Proof.Seg.Copies

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

omit [FloatOps F] in
theorem ico_head {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext i; simp only [Finset.mem_Ico, Finset.mem_insert]; omega
  rw [e]; exact bigSep_insert (by simp)

omit [FloatOps F] in
theorem ico_last {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext i; simp only [Finset.mem_Ico, Finset.mem_insert]; omega
  rw [e]; exact bigSep_insert (by simp)

omit [FloatOps F] in
theorem range_last (b : ℕ) (Φ : ℕ → sProp 𝕄) :
    bigSep (Finset.range (b + 1)) Φ = iprop(Φ b ∗ bigSep (Finset.range b) Φ) := by
  rw [Finset.range_add_one]; exact bigSep_insert (by simp)

/-- The slot of block `k`. -/
def slotN (k : ℕ) : Fin 24 := ⟨k % 24, Nat.mod_lt _ (by omega)⟩

/-- Block `q`. -/
def blkN (q : ℕ) : Fin 192 := ⟨q % 192, Nat.mod_lt _ (by omega)⟩

theorem blkN_val {q : ℕ} (h : q < 192) : (blkN q).val = q := Nat.mod_eq_of_lt h

variable (c : Dev nD)

/-- A slot nothing uses. -/
def freeAt (s : Fin 24) : sProp 𝕄 := iprop(∃ G, slotPts (F := F) c s G ∗ semVal ((c : Thread nD τ), .dma (semS s)) 0)

/-- A slot that holds its block, not yet copied. -/
def held (O : S192x144x8x128.Idx → F .f32) (q : ℕ) : sProp 𝕄 :=
  iprop(slotPts c (slotN q) (fun r j l => O (pIdx (blkN q) j r l)) ∗ semVal ((c : Thread nD τ), .dma (semS (slotN q))) 0)

/-- The slots before block `k - 24 + 24` comes round: unused, or being copied. -/
def mid (O : S192x144x8x128.Idx → F .f32) (k : ℕ) : sProp 𝕄 :=
  if k < 24 then freeAt c (slotN k) else flying c O (blkN (k - 24)) (slotN k)

/-- The slot of the block before `b`. -/
def last (O : S192x144x8x128.Idx → F .f32) (b : ℕ) : sProp 𝕄 :=
  if b = 0 then freeAt c (slotN 23) else held c O (b - 1)

/-- A block of the result at anything. -/
def anyPiece (q : ℕ) : sProp 𝕄 := iprop(∃ f, piecePts (F := F) c (blkN q) f)

/-- A block of the result as it is to be. -/
def donePiece (O : S192x144x8x128.Idx → F .f32) (q : ℕ) : sProp 𝕄 := piecePts c (blkN q) O

/-- Some waits recorded. -/
def anyOwes : sProp 𝕄 := iprop(∃ V, owes (c : Thread nD τ) 0 V)

/-- The ring before block `b`. -/
def ringRes (O : S192x144x8x128.Idx → F .f32) (b : ℕ) : sProp 𝕄 :=
  iprop(bigSep (Finset.Ico b (b + 23)) (mid c O) ∗ last c O b ∗ bigSep (Finset.Ico (b - 1) 192) (anyPiece (F := F) c)
    ∗ bigSep (Finset.range (b - 24)) (donePiece c O) ∗ anyOwes (F := F) c)

/-- The ring with block `b`'s slot taken out. -/
def ringRest (O : S192x144x8x128.Idx → F .f32) (b : ℕ) : sProp 𝕄 :=
  iprop(bigSep (Finset.Ico (b + 1) (b + 23)) (mid c O) ∗ last c O b ∗ bigSep (Finset.Ico (b - 1) 192) (anyPiece (F := F) c)
    ∗ bigSep (Finset.range (b + 1 - 24)) (donePiece c O) ∗ anyOwes (F := F) c)

/-- The tables the blocks read. -/
def tabRes (f : S144x392x128.Idx → BitVec 32) (S : S6x256.Idx → F .f32) (V : S6x256.Idx → BitVec 32) (h xh nx : ℕ → BitVec 32) : sProp 𝕄 :=
  iprop(cPts (F := F) c f ∗ scPts c S ∗ rwPts (F := F) c V ∗ hdPts (F := F) c h ∗ xhPts (F := F) c xh ∗ nxPts (F := F) c nx)

omit [FloatOps F] in
theorem mid_fly (O : S192x144x8x128.Idx → F .f32) {b : ℕ} (hb : 0 < b) :
    flying c O (blkN (b - 1)) (slotN (b - 1)) = mid c O (b + 23) := by
  unfold mid
  rw [if_neg (by omega : ¬ b + 23 < 24), show b + 23 - 24 = b - 1 by omega,
    show slotN (b + 23) = slotN (b - 1) from Fin.ext (by show (b + 23) % 24 = (b - 1) % 24; omega)]

omit [FloatOps F] in
theorem last_mid (O : S192x144x8x128.Idx → F .f32) {b : ℕ} (hb : b = 0) : last c O b = mid c O (b + 23) := by
  subst hb
  unfold mid last
  rw [if_pos rfl, if_pos (by omega)]

section

variable (f : S144x392x128.Idx → BitVec 32) (S : S6x256.Idx → F .f32) (V : S6x256.Idx → BitVec 32)
  {live : ℕ → Prop} [DecidablePred live] {h nx xh : ℕ → BitVec 32} (T : Threaded live (fun t => (V (tix t)).toNat) 1536 h nx xh)
  (O : S192x144x8x128.Idx → F .f32)

include T in
theorem wp_block_mid (n b : BitVec 32) (hb : b.toNat < 192) (h3 : k0_chk3 b)
    (hO : ∀ r j l, O (pIdx (blkN b.toNat) j r l) = outV f S (toks live (fun t => (V (tix t)).toNat) 1536 (8 * b.toNat + r.val)) j l)
    (v : ℕ) (hv : 1536 < v) (G : Slot F) (Q : BitVec 32 → sProp 𝕄) :
    iprop(tabRes c f S V h xh nx ∗ ringRest c O b.toNat ∗ slotPts c (slotN b.toNat) G ∗ semVal ((c : Thread nD τ), .dma (semS (slotN b.toNat))) 0
        ∗ ((tabRes c f S V h xh nx ∗ ringRes c O (b.toNat + 1))
            -∗ W c (some v) (.op (.call (1 : (Λ₀ F).Label) (blockArg n (Scalar.addi b 1#32))) .ret) Q))
      ⊢ W c (some v) (blockRows n b h3) Q := by
  have hG : (fun (r : Fin 8) j l => outV f S (toks live (fun t => (V (tix t)).toNat) 1536 (8 * b.toNat + r.val)) j l)
      = fun r j l => O (pIdx (blkN b.toNat) j r l) := by
    funext r j l; exact (hO r j l).symm
  iintro ⟨HT, HR, HG, HV, Hk⟩
  iapply (wp_fill c f S V T n hb h3 (slotN b.toNat) rfl v hv G)
  rw [hG]
  unfold tabRes fillRes
  icases HT with ⟨HC, HS, HW, HH, HX, HN⟩
  isplitl [HC HS HW HH HX HN HG]
  · isplitl [HC]; · iexact HC
    isplitl [HS]; · iexact HS
    isplitl [HW]; · iexact HW
    isplitl [HH]; · iexact HH
    isplitl [HX]; · iexact HX
    isplitl [HN]; · iexact HN
    iexact HG
  iintro ⟨HC, HS, HW, HH, HX, HN, HG⟩
  unfold ringRest nextOf
  icases HR with ⟨HM, HL, HP, HD, HO⟩
  by_cases h2 : k0_cond2 b = 1#1
  · have hb0 := (cond2_iff hb).mp h2
    rw [dif_pos h2]
    ihave HL := (Entails.of_eq (show last c O b.toNat = held c O (b.toNat - 1) from if_neg (by omega))) $$ HL
    ihave HP := (Entails.of_eq ((ico_head (a := b.toNat - 1) (b := 192) (by omega) (anyPiece (F := F) c)).trans
      (by rw [show b.toNat - 1 + 1 = b.toNat by omega]))) $$ HP
    unfold held
    icases HL with ⟨HL, HLV⟩
    icases HP with ⟨HP, HPs⟩
    ihave HP := (show anyPiece c (b.toNat - 1) ⊢ iprop(∃ f, piecePts (F := F) c (blkN (b.toNat - 1)) f) from Entails.refl _) $$ HP
    icases HP with ⟨%g, HP⟩
    iapply (wp_startOut c (some v) O (blkN (b.toNat - 1)) (slotN (b.toNat - 1)) _ _ _ _ _ _ (off48_eq hb hb0)
      (by rw [off49_eq hb hb0, blkN_val (by omega)]) (off50_eq hb hb0) g)
    isplitl [HL]; · iexact HL
    isplitl [HP]; · iexact HP
    isplitl [HLV]; · iexact HLV
    iintro HF
    iapply Hk
    isplitl [HC HS HW HH HX HN]
    · isplitl [HC]; · iexact HC
      isplitl [HS]; · iexact HS
      isplitl [HW]; · iexact HW
      isplitl [HH]; · iexact HH
      isplitl [HX]; · iexact HX
      iexact HN
    unfold ringRes
    rw [show b.toNat + 1 + 23 = (b.toNat + 23) + 1 by omega, ico_last (a := b.toNat + 1) (b := b.toNat + 23) (by omega)]
    isplitl [HF HM]
    · isplitl [HF]
      · iapply (Entails.of_eq (mid_fly c O (by omega : 0 < b.toNat))) $$ HF
      · iexact HM
    isplitl [HG HV]
    · unfold last held
      rw [if_neg (by omega : ¬ b.toNat + 1 = 0), Nat.add_sub_cancel]
      isplitl [HG]; · iexact HG
      iexact HV
    rw [Nat.add_sub_cancel]
    isplitl [HPs]; · iexact HPs
    isplitl [HD]; · iexact HD
    iexact HO
  · have hb0 : b.toNat = 0 := by
      by_contra h0; exact h2 ((cond2_iff hb).mpr (by omega))
    rw [dif_neg h2]
    iapply Hk
    isplitl [HC HS HW HH HX HN]
    · isplitl [HC]; · iexact HC
      isplitl [HS]; · iexact HS
      isplitl [HW]; · iexact HW
      isplitl [HH]; · iexact HH
      isplitl [HX]; · iexact HX
      iexact HN
    unfold ringRes
    rw [show b.toNat + 1 + 23 = (b.toNat + 23) + 1 by omega, ico_last (a := b.toNat + 1) (b := b.toNat + 23) (by omega)]
    isplitl [HL HM]
    · isplitl [HL]
      · iapply (Entails.of_eq (last_mid c O hb0)) $$ HL
      · iexact HM
    isplitl [HG HV]
    · unfold last held
      rw [if_neg (by omega : ¬ b.toNat + 1 = 0), Nat.add_sub_cancel]
      isplitl [HG]; · iexact HG
      iexact HV
    rw [Nat.add_sub_cancel, show b.toNat - 1 = b.toNat by omega]
    isplitl [HP]; · iexact HP
    isplitl [HD]; · iexact HD
    iexact HO

include T in
theorem wp_blocks (n : BitVec 32) (hn : n.toNat ≤ 192)
    (hO : ∀ q < n.toNat, ∀ r j l, O (pIdx (blkN q) j r l) = outV f S (toks live (fun t => (V (tix t)).toNat) 1536 (8 * q + r.val)) j l)
    (m : ℕ) : ∀ (b : BitVec 32) (v : ℕ) (Q : BitVec 32 → sProp 𝕄), b.toNat + m = n.toNat → 2000 * m ≤ v →
      iprop(tabRes c f S V h xh nx ∗ ringRes c O b.toNat ∗ (∀ r, (tabRes c f S V h xh nx ∗ ringRes c O n.toNat) -∗ Q r))
        ⊢ W c (some v) (defs₀ (F := F) .tc (1 : (Λ₀ F).Label) (blockArg n b)) Q := by
  induction m with
  | zero =>
    intro b v Q hbn _
    show _ ⊢ W c (some v) (while1Of (blockArg n b)) Q
    have e : b.toNat = n.toNat := by omega
    rw [while1_eq]; unfold blockBody
    rw [if_neg (fun hc => by have := (cmpi_slt_small (by omega) (by omega)).mp hc; omega)]
    unfold W
    rw [e]
    iintro ⟨HT, HR, Hk⟩
    rw [wp_ret]; imodintro
    iapply Hk
    isplitl [HT]; · iexact HT
    iexact HR
  | succ m ih =>
    intro b v Q hbn hv
    have hb : b.toNat < 192 := by omega
    have h3 := chk3_of hb
    have e1 : (Scalar.addi b 1#32).toNat = b.toNat + 1 := addi_toNat (by show b.toNat + 1 < _; omega)
    show _ ⊢ W c (some v) (while1Of (blockArg n b)) Q
    rw [while1_eq]; unfold blockBody
    rw [if_pos ((cmpi_slt_small (by omega) (by omega)).mpr (by omega))]
    have next : iprop((∀ r, (tabRes c f S V h xh nx ∗ ringRes c O n.toNat) -∗ Q r) ∗ (tabRes c f S V h xh nx ∗ ringRes c O (b.toNat + 1)))
        ⊢ W c (some v) (.op (.call (1 : (Λ₀ F).Label) (blockArg n (Scalar.addi b 1#32))) .ret) Q := by
      iintro ⟨Hk, HT, HR⟩
      iapply (wp_call 𝒱₀ (c : Thread nD τ) (some v) Set.univ (ℓ := (1 : (Λ₀ F).Label)) (v - 1)
        (fun u hu => by cases hu; show v - 1 < v; omega))
      iapply (ih (Scalar.addi b 1#32) (v - 1) _ (by omega) (by omega))
      rw [e1]
      isplitl [HT]; · iexact HT
      isplitl [HR]; · iexact HR
      iintro %r H
      rw [wp_ret]; imodintro
      iapply Hk; iexact H
    iintro ⟨HT, HR, Hk⟩
    iapply (wp_assume 𝒱₀ (c : Thread nD τ) (some v) Set.univ h3)
    unfold ringRes
    rw [ico_head (a := b.toNat) (b := b.toNat + 23) (by omega)]
    icases HR with ⟨⟨HM0, HM⟩, HL, HP, HD, HO⟩
    by_cases h1 : k0_cond1 b = 1#1
    · have hb0 := (cond1_iff hb).mp h1
      rw [dif_pos h1]
      ihave HM0 := (Entails.of_eq (show mid c O b.toNat = flying c O (blkN (b.toNat - 24)) (slotN b.toNat) from if_neg (by omega))) $$ HM0
      iapply (wp_waitOut c (some v) O (blkN (b.toNat - 24)) (slotN b.toNat) _ _ _ _ _ _ (off7_eq hb hb0))
      unfold anyOwes
      isplitl [HM0]; · iexact HM0
      isplitl [HO]; · iexact HO
      iintro ⟨HP0, HG, HV, HO⟩
      iapply (wp_block_mid c f S V T O n b hb h3 (hO b.toNat (by omega)) v (by omega) _)
      isplitl [HT]; · iexact HT
      isplitl [HM HL HP HD HO HP0]
      · unfold ringRest anyOwes
        rw [show b.toNat + 1 - 24 = (b.toNat - 24) + 1 by omega, range_last]
        isplitl [HM]; · iexact HM
        isplitl [HL]; · iexact HL
        isplitl [HP]; · iexact HP
        isplitl [HP0 HD]
        · isplitl [HP0]
          · iapply (show piecePts c (blkN (b.toNat - 24)) O ⊢ donePiece c O (b.toNat - 24) from Entails.refl _) $$ HP0
          iexact HD
        iexact HO
      isplitl [HG]; · iexact HG
      isplitl [HV]; · iexact HV
      iintro H
      iapply next
      isplitl [Hk]; · iexact Hk
      iexact H
    · have hb0 : b.toNat < 24 := by
        by_contra h0; exact h1 ((cond1_iff hb).mpr (by omega))
      rw [dif_neg h1]
      ihave HM0 := (Entails.of_eq (show mid c O b.toNat = freeAt c (slotN b.toNat) from if_pos hb0)) $$ HM0
      unfold freeAt
      icases HM0 with ⟨%G, HG, HV⟩
      iapply (wp_block_mid c f S V T O n b hb h3 (hO b.toNat (by omega)) v (by omega) G)
      isplitl [HT]; · iexact HT
      isplitl [HM HL HP HD HO]
      · unfold ringRest
        rw [show b.toNat + 1 - 24 = b.toNat - 24 by omega]
        isplitl [HM]; · iexact HM
        isplitl [HL]; · iexact HL
        isplitl [HP]; · iexact HP
        isplitl [HD]; · iexact HD
        iexact HO
      isplitl [HG]; · iexact HG
      isplitl [HV]; · iexact HV
      iintro H
      iapply next
      isplitl [Hk]; · iexact Hk
      iexact H

end

end Cert.Proof.Seg
-- ==== Proof.Seg.Nums.lean ====
/-
  The counts and places after the block loop (`chk14_of`).
-/
module

public import proofs.«01_k».proof.Proof.Seg.Block

@[expose] public section

noncomputable section

namespace Cert.Proof.Seg

open Cert.KernelIdeal
open Idealize.ShloMosaic Idealize.ShloMosaic.TcCoe

/-- How many blocks have a row. -/
def liveN (n : BitVec 32) : ℕ := (n.toNat + 7) / 8

theorem liveN_le {n : BitVec 32} (h : n.toNat ≤ 1536) : liveN n ≤ 192 := by unfold liveN; omega

theorem liveOf_toNat {n : BitVec 32} (h : n.toNat ≤ 1536) : (liveOf n).toNat = liveN n := by
  unfold liveOf liveN
  have e : (Scalar.addi n 7#32).toNat = n.toNat + 7 := addi_toNat (by show n.toNat + 7 < _; omega)
  rw [shrsi_toNat (by omega) 3 (by omega), e, show (2 : ℕ) ^ 3 = 8 from rfl]

theorem liveOf_eq {n : BitVec 32} (h : n.toNat ≤ 1536) : liveOf n = BitVec.ofNat 32 (liveN n) := by
  rw [← liveOf_toNat h, ofNat_toNat]

/-- A loop from `a` to `b` by ones. -/
structure Rng (L : Scf.Loop 32) (a b : ℕ) : Prop where
  lb : L.lb = BitVec.ofNat 32 a
  ub : L.ub = BitVec.ofNat 32 b
  st : L.st = 1#32
  le : a ≤ b
  top : b ≤ 192

theorem Rng.trips {L : Scf.Loop 32} {a b : ℕ} (h : Rng L a b) : L.trips = b - a := by
  have := h.le; have := h.top
  show Scf.trips L.lb L.ub L.st = _
  unfold Scf.trips
  rw [h.lb, h.ub, h.st, toInt_small (by rw [toNat_ofNat (by omega)]; omega), toInt_small (by rw [toNat_ofNat (by omega)]; omega),
    toNat_ofNat (by omega), toNat_ofNat (by omega)]
  show (((b : ℤ) - (a : ℤ) + 1 - 1) / 1).toNat = _
  rw [Int.ediv_one]; omega

theorem Rng.ok {L : Scf.Loop 32} {a b : ℕ} (h : Rng L a b) : L.OK := by
  have := h.le; have := h.top
  have ht : Scf.trips L.lb L.ub L.st = b - a := h.trips
  show Scf.OK L.lb L.ub L.st
  unfold Scf.OK
  have h1 : (1#32 : BitVec 32).toInt = 1 := by decide
  rw [ht, h.lb, h.st, h1, toInt_small (x := BitVec.ofNat 32 a) (by rw [toNat_ofNat (by omega)]; omega), toNat_ofNat (by omega)]
  refine ⟨by decide, ?_⟩
  omega

theorem iv_from (a k : ℕ) : Scf.iv (BitVec.ofNat 32 a) 1#32 k = BitVec.ofNat 32 (a + k) := by
  unfold Scf.iv
  rw [BitVec.mul_one, BitVec.ofNat_add]

theorem num1 : ∀ q : Fin 193, Scalar.addi (BitVec.ofNat 32 q.val) (Scalar.muli (Scalar.divsi (Scalar.subi 192#32 (BitVec.ofNat 32 q.val)) 1#32) 1#32) = 192#32 := by
  decide +kernel
theorem num2 : ∀ q : Fin 193, Scalar.addi (BitVec.ofNat 32 q.val) (Scalar.subi 192#32 (BitVec.ofNat 32 q.val)) = 192#32 := by
  decide +kernel
theorem num3 : ∀ q : Fin 193, Scalar.maxsi (Scalar.subi (BitVec.ofNat 32 q.val) 24#32) 0#32 = BitVec.ofNat 32 (q.val - 24) := by
  decide +kernel
theorem num4 : ∀ q : Fin 193, Scalar.addi (BitVec.ofNat 32 (q.val - 24)) (Scalar.muli (Scalar.divsi (Scalar.subi (BitVec.ofNat 32 q.val) (BitVec.ofNat 32 (q.val - 24))) 1#32) 1#32) = BitVec.ofNat 32 q.val := by
  decide +kernel
theorem num6 : ∀ q : Fin 193, (Scalar.remsi (BitVec.ofNat 32 q.val) 24#32).toNat = q.val % 24 := by
  decide +kernel
theorem num7 : ∀ q : Fin 193, 0 < q.val → Scalar.subi (BitVec.ofNat 32 q.val) 1#32 = BitVec.ofNat 32 (q.val - 1) := by
  decide +kernel
theorem num8 : ∀ q : Fin 193, 0 < q.val →  Scalar.cmpi .ne (Scalar.extui (Scalar.cmpi .sgt (BitVec.ofNat 32 q.val) 0#32) : BitVec 32) 0#32 = 1#1 := by
  decide +kernel
theorem num5 : ∀ q : Fin 193, Scalar.addi (BitVec.ofNat 32 (q.val - 24)) (Scalar.subi (BitVec.ofNat 32 q.val) (BitVec.ofNat 32 (q.val - 24))) = BitVec.ofNat 32 q.val := by
  decide +kernel

theorem top_all : ∀ q : Fin 193, Scalar.addi (BitVec.ofNat 32 q) (Scalar.muli (Scalar.divsi (Scalar.subi 192#32 (BitVec.ofNat 32 q)) 1#32) 1#32) = 192#32
    ∧ Scalar.addi (BitVec.ofNat 32 q) (Scalar.subi 192#32 (BitVec.ofNat 32 q)) = 192#32
    ∧ Scalar.maxsi (Scalar.subi (BitVec.ofNat 32 q) 24#32) 0#32 = BitVec.ofNat 32 (q - 24)
    ∧ Scalar.addi (BitVec.ofNat 32 (q - 24)) (Scalar.muli (Scalar.divsi (Scalar.subi (BitVec.ofNat 32 q) (BitVec.ofNat 32 (q - 24))) 1#32) 1#32) = BitVec.ofNat 32 q
    ∧ Scalar.addi (BitVec.ofNat 32 (q - 24)) (Scalar.subi (BitVec.ofNat 32 q) (BitVec.ofNat 32 (q - 24))) = BitVec.ofNat 32 q
    ∧ (Scalar.remsi (BitVec.ofNat 32 q) 24#32).toNat = q % 24
    ∧ (0 < q.val → Scalar.subi (BitVec.ofNat 32 q) 1#32 = BitVec.ofNat 32 (q - 1)
        ∧ Scalar.cmpi .ne (Scalar.extui (Scalar.cmpi .sgt (BitVec.ofNat 32 q) 0#32) : BitVec 32) 0#32 = 1#1) := by
  exact fun q => ⟨num1 q, num2 q, num3 q, num4 q, num5 q, num6 q, fun h => ⟨num7 q h, num8 q h⟩⟩

section

variable {n : BitVec 32} (h : n.toNat ≤ 1536)

include h

theorem t4_rng : Rng (k0_t4_loop n) (liveN n) 192 := by
  have e := liveOf_eq h
  have a := top_all ⟨liveN n, by have := liveN_le h; omega⟩
  refine ⟨e, ?_, rfl, liveN_le h, le_refl _⟩
  show Scalar.addi (liveOf n) (Scalar.muli (Scalar.divsi (Scalar.subi 192#32 (liveOf n)) 1#32) 1#32) = _
  rw [e]; exact a.1

theorem t5_rng : Rng (k0_t5_loop n) 192 192 := by
  have e := liveOf_eq h
  have a := top_all ⟨liveN n, by have := liveN_le h; omega⟩
  refine ⟨?_, ?_, rfl, le_refl _, le_refl _⟩
  · show Scalar.addi (liveOf n) (Scalar.muli (Scalar.divsi (Scalar.subi 192#32 (liveOf n)) 1#32) 1#32) = _
    rw [e]; exact a.1
  · show Scalar.addi (liveOf n) (Scalar.subi 192#32 (liveOf n)) = _
    rw [e]; exact a.2.1

theorem t8_rng : Rng (k0_t8_loop n) (liveN n) 192 := t4_rng h

theorem t9_rng : Rng (k0_t9_loop n) 192 192 := t5_rng h

theorem low_eq : Scalar.maxsi (Scalar.subi (liveOf n) 24#32) 0#32 = BitVec.ofNat 32 (liveN n - 24) := by
  rw [liveOf_eq h]
  exact (top_all ⟨liveN n, by have := liveN_le h; omega⟩).2.2.1

theorem t6_rng : Rng (k0_t6_loop n) (liveN n - 24) (liveN n) := by
  have a := top_all ⟨liveN n, by have := liveN_le h; omega⟩
  refine ⟨low_eq h, ?_, rfl, Nat.sub_le _ _, liveN_le h⟩
  show Scalar.addi (Scalar.maxsi (Scalar.subi (liveOf n) 24#32) 0#32) (Scalar.muli (Scalar.divsi (Scalar.subi (liveOf n)
    (Scalar.maxsi (Scalar.subi (liveOf n) 24#32) 0#32)) 1#32) 1#32) = _
  rw [low_eq h, liveOf_eq h]; exact a.2.2.2.1

theorem t7_rng : Rng (k0_t7_loop n) (liveN n) (liveN n) := by
  have a := top_all ⟨liveN n, by have := liveN_le h; omega⟩
  refine ⟨?_, ?_, rfl, le_refl _, liveN_le h⟩
  · show Scalar.addi (Scalar.maxsi (Scalar.subi (liveOf n) 24#32) 0#32) (Scalar.muli (Scalar.divsi (Scalar.subi (liveOf n)
      (Scalar.maxsi (Scalar.subi (liveOf n) 24#32) 0#32)) 1#32) 1#32) = _
    rw [low_eq h, liveOf_eq h]; exact a.2.2.2.1
  · show Scalar.addi (Scalar.maxsi (Scalar.subi (liveOf n) 24#32) 0#32) (Scalar.subi (liveOf n)
      (Scalar.maxsi (Scalar.subi (liveOf n) 24#32) 0#32)) = _
    rw [low_eq h, liveOf_eq h]; exact a.2.2.2.2.1

theorem off51_eq (i : Fin (k0_t4_loop n).trips) : k0_off51 n i = ![liveN n + i.val, 0, 0, 0] := by
  have hi := lt_of_lt_of_eq i.isLt (t4_rng h).trips
  show (![(Scf.iv (liveOf n) 1#32 i.val).toNat, 0, 0, 0] : Fin 4 → ℕ) = _
  rw [liveOf_eq h, iv_from, toNat_ofNat (by omega)]

theorem off62_eq (i : Fin (k0_t8_loop n).trips) : k0_off62 n i = ![liveN n + i.val, 0, 0, 0] := off51_eq h i

theorem off56_eq (i : Fin (k0_t6_loop n).trips) : k0_off56 n i = ![(liveN n - 24 + i.val) % 24] := by
  have hi := lt_of_lt_of_eq i.isLt (t6_rng h).trips
  have := liveN_le h
  show (![(Scalar.remsi (Scf.iv (Scalar.maxsi (Scalar.subi (liveOf n) 24#32) 0#32) 1#32 i.val) 24#32).toNat] : Fin 1 → ℕ) = _
  rw [low_eq h, iv_from]
  exact congrArg (fun x => (![x] : Fin 1 → ℕ)) (top_all ⟨liveN n - 24 + i.val, by omega⟩).2.2.2.2.2.1

theorem off57_eq (i : Fin (k0_t6_loop n).trips) : k0_off57 n i = ![liveN n - 24 + i.val, 0, 0, 0] := by
  have hi := lt_of_lt_of_eq i.isLt (t6_rng h).trips
  have := liveN_le h
  show (![(Scf.iv (Scalar.maxsi (Scalar.subi (liveOf n) 24#32) 0#32) 1#32 i.val).toNat, 0, 0, 0] : Fin 4 → ℕ) = _
  rw [low_eq h, iv_from, toNat_ofNat (by omega)]

theorem off58_eq (i : Fin (k0_t6_loop n).trips) : k0_off58 n i = ![(liveN n - 24 + i.val) % 24, 0, 0, 0] := by
  have hi := lt_of_lt_of_eq i.isLt (t6_rng h).trips
  have := liveN_le h
  show (![(Scalar.remsi (Scf.iv (Scalar.maxsi (Scalar.subi (liveOf n) 24#32) 0#32) 1#32 i.val) 24#32).toNat, 0, 0, 0] : Fin 4 → ℕ) = _
  rw [low_eq h, iv_from]
  exact congrArg (fun x => (![x, 0, 0, 0] : Fin 4 → ℕ)) (top_all ⟨liveN n - 24 + i.val, by omega⟩).2.2.2.2.2.1

theorem off53_eq (h0 : 0 < liveN n) : k0_off53 n = ![(liveN n - 1) % 24] := by
  have := liveN_le h
  show (![(Scalar.remsi (Scalar.subi (liveOf n) 1#32) 24#32).toNat] : Fin 1 → ℕ) = _
  rw [liveOf_eq h, ((top_all ⟨liveN n, by omega⟩).2.2.2.2.2.2 h0).1]
  exact congrArg (fun x => (![x] : Fin 1 → ℕ)) (top_all ⟨liveN n - 1, by omega⟩).2.2.2.2.2.1

theorem off54_eq (h0 : 0 < liveN n) : k0_off54 n = ![liveN n - 1, 0, 0, 0] := by
  have := liveN_le h
  show (![(Scalar.subi (liveOf n) 1#32).toNat, 0, 0, 0] : Fin 4 → ℕ) = _
  rw [liveOf_eq h, ((top_all ⟨liveN n, by omega⟩).2.2.2.2.2.2 h0).1]
  exact congrArg (fun x => (![x, 0, 0, 0] : Fin 4 → ℕ)) (toNat_ofNat (by show liveN n - 1 < _; omega))

theorem off55_eq (h0 : 0 < liveN n) : k0_off55 n = ![(liveN n - 1) % 24, 0, 0, 0] := by
  have := liveN_le h
  show (![(Scalar.remsi (Scalar.subi (liveOf n) 1#32) 24#32).toNat, 0, 0, 0] : Fin 4 → ℕ) = _
  rw [liveOf_eq h, ((top_all ⟨liveN n, by omega⟩).2.2.2.2.2.2 h0).1]
  exact congrArg (fun x => (![x, 0, 0, 0] : Fin 4 → ℕ)) (top_all ⟨liveN n - 1, by omega⟩).2.2.2.2.2.1

theorem cond3_of (h0 : 0 < liveN n) : k0_cond3 n = 1#1 := by
  have := liveN_le h
  show Scalar.cmpi .ne (Scalar.extui (Scalar.cmpi .sgt (liveOf n) 0#32) : BitVec 32) 0#32 = 1#1
  rw [liveOf_eq h]
  exact ((top_all ⟨liveN n, by omega⟩).2.2.2.2.2.2 h0).2

theorem chk14_of (h0 : 0 < liveN n) : k0_chk14 n := by
  have hl := liveN_le h
  have no : ∀ {L : Scf.Loop 32} {a : ℕ} (_ : Rng L a a), L.trips = 0 := fun r => by rw [r.trips]; omega
  refine ⟨(t4_rng h).ok, fun i => ?_, (t5_rng h).ok, fun i => ?_, fun _ => ?_, fun _ => ?_, fun _ => ?_, (t6_rng h).ok, fun i => ?_, fun i => ?_, fun i => ?_,
    (t7_rng h).ok, fun i => ?_, fun i => ?_, fun i => ?_, (t8_rng h).ok, fun i => ?_, (t9_rng h).ok, fun i => ?_⟩
  · have hi := lt_of_lt_of_eq i.isLt (t4_rng h).trips
    rw [off51_eq h]; exact piece_in _ (by omega)
  · exact absurd (lt_of_lt_of_eq i.isLt (no (t5_rng h))) (Nat.not_lt_zero _)
  · rw [off53_eq h h0]; exact sem_in _ (Nat.mod_lt _ (by omega))
  · rw [off54_eq h h0]; exact piece_in _ (by omega)
  · rw [off55_eq h h0]; exact slot_in _ (Nat.mod_lt _ (by omega))
  · rw [off56_eq h]; exact sem_in _ (Nat.mod_lt _ (by omega))
  · have hi := lt_of_lt_of_eq i.isLt (t6_rng h).trips
    rw [off57_eq h]; exact piece_in _ (by omega)
  · rw [off58_eq h]; exact slot_in _ (Nat.mod_lt _ (by omega))
  · exact absurd (lt_of_lt_of_eq i.isLt (no (t7_rng h))) (Nat.not_lt_zero _)
  · exact absurd (lt_of_lt_of_eq i.isLt (no (t7_rng h))) (Nat.not_lt_zero _)
  · exact absurd (lt_of_lt_of_eq i.isLt (no (t7_rng h))) (Nat.not_lt_zero _)
  · have hi := lt_of_lt_of_eq i.isLt (t8_rng h).trips
    rw [off62_eq h]; exact piece_in _ (by omega)
  · exact absurd (lt_of_lt_of_eq i.isLt (no (t9_rng h))) (Nat.not_lt_zero _)

end

end Cert.Proof.Seg
-- ==== Proof.Seg.Zero.lean ====
/-
  After the block loop: zeros into the blocks without rows, the last block's copy out, the waits (`wp_finish`).
-/
module

public import proofs.«01_k».proof.Proof.Seg.Ring
public import proofs.«01_k».proof.Proof.Seg.Nums

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-- Zero. -/
def zer : F .f32 := Scalar.ofBits .f32 0x00000000#32

/-- The buffer of zeros, at a share. -/
def zPts (q : PosShare TreeShare) : sProp 𝕄 :=
  ((c : Thread nD τ).loc cc0_scratch2) ↦[Finset.univ]{q} ((fun _ => zer (F := F)) : Buf (Elt F) ((c : Thread nD τ).loc cc0_scratch2))

/-- What copy `j` of zeros delivers, the first going to block `v`. -/
def zDel (O : S192x144x8x128.Idx → F .f32) (v j : ℕ) : sProp 𝕄 :=
  iprop(donePiece c O (v + j) ∗ zPts (F := F) c (Transfers.shareTokN fullShare j))

/-- The copies of zeros: `k` of `m` started, `u` units waited for. -/
def zBatch (O : S192x144x8x128.Idx → F .f32) (v m k u : ℕ) : sProp 𝕄 :=
  Transfers.Batch (EC (F := F)) (c : Thread nD τ) (.dma cc0_scratch14.sem) () outN (fun j : Fin m => zDel c O v j.val) k u

instance zDel_storable (O : S192x144x8x128.Idx → F .f32) (v j : ℕ) : Storable (upEmb : UEmb _ 𝕄) (zDel (F := F) c O v j) := by
  unfold zDel donePiece piecePts zPts; infer_instance

theorem zPts_src (q : PosShare TreeShare) : zPts (F := F) c q
    = ((Memref.whole cc0_scratch2).view.loc (c : Thread nD τ) ↦[(Memref.whole cc0_scratch2).view.set]{q}
        ((fun _ => zer (F := F)) : Buf (Elt F) ((Memref.whole cc0_scratch2).view.loc (c : Thread nD τ)))) := by
  unfold zPts
  rw [show (Memref.whole cc0_scratch2).view.set = Finset.univ from View.set_whole _]

theorem wp_startZero (O : S192x144x8x128.Idx → F .f32) (v m j : ℕ) (hj : j < m) (hO : ∀ i ∈ pieceSet (blkN (v + j)), O i = zer)
    (hv : v + j < 192) (p : Fin 4 → ℕ) (hp : PieceIn p) (ep : p = ![v + j, 0, 0, 0]) (k : TP F α) (Q : α → sProp 𝕄) :
    iprop(zPts (F := F) c (Transfers.shareTokN fullShare j) ∗ anyPiece (F := F) c (v + j) ∗ zBatch c O v m j 0
        ∗ (zBatch c O v m (j + 1) 0 -∗ W c bd k Q))
      ⊢ W c bd (startZero p hp k) Q := by
  have ep' : p = ![(blkN (v + j)).val, 0, 0, 0] := by rw [blkN_val hv]; exact ep
  unfold anyPiece piecePts zBatch W
  iintro ⟨HZ, ⟨%f, HP⟩, HB, Hk⟩
  ihave HZ := (Entails.of_eq (zPts_src (F := F) c (Transfers.shareTokN fullShare j))) $$ HZ
  iapply (Transfers.wp_dmaBatch (EC (F := F)) 𝒱₀ (c : Thread nD τ) bd (src := Memref.whole cc0_scratch2) (dst := outPiece p hp)
    (D := fun j : Fin m => zDel c O v j.val) (j := j) (u := 0) (q := Transfers.shareTokN fullShare j) (Sd := pieceSet (blkN (v + j))) (fd := f)
    (fs := fun _ => zer (F := F)) () outN rfl (by rw [outPiece_set _ p hp ep']) hj (Nat.zero_le _) ?_) $$ [HZ HP HB]
  · unfold zDel donePiece piecePts
    refine BI.sep_mono (Entails.of_eq (pointsTo_congr ?_)) (Entails.of_eq (zPts_src (F := F) c (Transfers.shareTokN fullShare j)).symm)
    intro i hi
    rw [hO i hi]
    rw [mem_pieceSet] at hi
    have hi' : i = (outPiece p hp).view.emb (mIdx (pJ i) (pR i) (pL i)) := by
      rw [outPiece_emb _ p hp ep', ← hi]; exact (pIdx_eta i).symm
    conv_lhs => rw [hi']
    rw [View.write_emb_of_mem (h := Finset.mem_univ _)]
    rfl
  · isplitl [HZ]; · iexact HZ
    isplitl [HP]; · iexact HP
    iexact HB
  iintro HB
  iapply Hk; iexact HB

/-- The waits for the zeros, `k` done. -/
def zWaits (O : S192x144x8x128.Idx → F .f32) (v m k : ℕ) : sProp 𝕄 :=
  if k < m then zBatch c O v m m (k * outN)
  else iprop(bigSep Finset.univ (fun j : Fin m => zDel c O v j.val) ∗ semVal ((c : Thread nD τ), .dma cc0_scratch14.sem) 0)

theorem wp_waitZero (O : S192x144x8x128.Idx → F .f32) (v m j : ℕ) (hj : j < m) (p : Fin 4 → ℕ) (hp : PieceIn p) (k : TP F α) (Q : α → sProp 𝕄) :
    iprop(zWaits c O v m j ∗ anyOwes (F := F) c ∗ ((zWaits c O v m (j + 1) ∗ anyOwes (F := F) c) -∗ W c bd k Q))
      ⊢ W c bd (waitZero p hp k) Q := by
  unfold zWaits
  rw [if_pos hj]
  have hN := outN_pos
  by_cases hl : j + 1 < m
  · rw [if_pos hl]
    unfold zBatch anyOwes W
    iintro ⟨HB, ⟨%V, HV⟩, Hk⟩
    iapply (Transfers.wp_waitBatch (EC (F := F)) 𝒱₀ (c : Thread nD τ) bd (srcw := Memref.whole cc0_scratch2) (dstw := outPiece p hp) () (N := outN) rfl (u := j * outN)
      (by rw [← Nat.succ_mul, Nat.mul_comm]; exact Nat.mul_lt_mul_of_pos_left hl hN)) $$ [HB HV]
    · isplitl [HB]; · iexact HB
      iexact HV
    iintro ⟨HB, HV⟩
    iapply Hk
    isplitl [HB]
    · iapply (Entails.of_eq (by rw [Nat.succ_mul])) $$ HB
    iexists _; iexact HV
  · rw [if_neg hl]
    unfold zBatch anyOwes W
    iintro ⟨HB, ⟨%V, HV⟩, Hk⟩
    iapply (Transfers.wp_waitBatchLast (EC (F := F)) 𝒱₀ (c : Thread nD τ) bd (srcw := Memref.whole cc0_scratch2) (dstw := outPiece p hp) () (N := outN) rfl hN (u := j * outN)
      (by rw [← Nat.succ_mul, Nat.mul_comm, show j.succ = m by omega])) $$ [HB HV]
    · isplitl [HB]; · iexact HB
      iexact HV
    iintro ⟨HB, HS, HV⟩
    iapply Hk
    isplitl [HB HS]
    · isplitl [HB]; · iexact HB
      iexact HS
    iexists _; iexact HV

omit [FloatOps F] in
theorem range_ico (v m : ℕ) (Φ : ℕ → sProp 𝕄) : bigSep (Finset.range m) (fun j => Φ (v + j)) = bigSep (Finset.Ico v (v + m)) Φ := by
  induction m with
  | zero => rw [Nat.add_zero, Finset.Ico_self]; rfl
  | succ m ih => rw [range_last, ih, ← Nat.add_assoc, ico_last (Nat.le_add_right _ _)]

theorem zDone (O : S192x144x8x128.Idx → F .f32) (v m : ℕ) :
    bigSep Finset.univ (fun j : Fin m => zDel c O v j.val)
      = iprop(bigSep (Finset.Ico v (v + m)) (donePiece c O) ∗ bigSep (Finset.range m) (fun j => zPts (F := F) c (Transfers.shareTokN fullShare j))) := by
  rw [show bigSep Finset.univ (fun j : Fin m => zDel c O v j.val) = bigSep (Finset.range m) (fun j => zDel c O v j) by
    rw [← Nat.Iio_eq_range, ← Fin.map_valEmbedding_univ, BI.bigSep_map]; rfl]
  unfold zDel
  rw [← range_ico v m (donePiece c O)]
  exact BI.bigSep_sep _ (fun j => donePiece (F := F) c O (v + j)) (fun j => zPts (F := F) c (Transfers.shareTokN fullShare j))

theorem zPts_split (m : ℕ) : zPts (F := F) c fullShare
    = iprop(zPts (F := F) c (Transfers.shareDrop fullShare m) ∗ bigSep (Finset.range m) (fun j => zPts (F := F) c (Transfers.shareTokN fullShare j))) :=
  BI.Entails.antisymm (Transfers.pointsTo_toks_range fullShare m).1 (Transfers.pointsTo_toks_range fullShare m).2

/-- All that is left once every copy has been waited for. -/
def endRes (O : S192x144x8x128.Idx → F .f32) (v : ℕ) : sProp 𝕄 :=
  iprop(bigSep (Finset.range 192) (donePiece c O) ∗ bigSep (Finset.Ico v (v + 24)) (fun k => freeAt (F := F) c (slotN k))
    ∗ zPts (F := F) c fullShare ∗ semVal ((c : Thread nD τ), .dma cc0_scratch14.sem) 0 ∗ anyOwes (F := F) c)

/-- The ring once its first `k` waits after the loop are done. -/
def drain (O : S192x144x8x128.Idx → F .f32) (v k : ℕ) : sProp 𝕄 :=
  iprop(bigSep (Finset.Ico (v - 24 + 24 + k) (v + 24)) (mid c O) ∗ bigSep (Finset.Ico v (v - 24 + 24 + k)) (fun k => freeAt (F := F) c (slotN k))
    ∗ bigSep (Finset.range (v - 24 + k)) (donePiece c O) ∗ anyOwes (F := F) c)

theorem drain_start (O : S192x144x8x128.Idx → F .f32) (v : ℕ) :
    iprop(bigSep (Finset.Ico v (v + 24)) (mid c O) ∗ bigSep (Finset.range (v - 24)) (donePiece c O) ∗ anyOwes (F := F) c) ⊢ drain (F := F) c O v 0 := by
  unfold drain
  have e : Finset.Ico v (v + 24) = Finset.Ico (v - 24 + 24 + 0) (v + 24) ∪ Finset.Ico v (v - 24 + 24 + 0) := by
    ext i; simp only [Finset.mem_union, Finset.mem_Ico]; omega
  have d : Disjoint (Finset.Ico (v - 24 + 24 + 0) (v + 24)) (Finset.Ico v (v - 24 + 24 + 0)) := by
    rw [Finset.disjoint_left]; intro i; simp only [Finset.mem_Ico]; omega
  rw [show bigSep (Finset.Ico v (v + 24)) (mid c O)
    = iprop(bigSep (Finset.Ico (v - 24 + 24 + 0) (v + 24)) (mid (F := F) c O) ∗ bigSep (Finset.Ico v (v - 24 + 24 + 0)) (mid (F := F) c O)) by
      rw [e]; exact BI.bigSep_union d]
  iintro ⟨⟨HA, HB⟩, HC, HD⟩
  isplitl [HA]; · iexact HA
  isplitl [HB]
  · iapply (Entails.of_eq (BI.bigSep_congr fun i hi => ?_)) $$ HB
    rw [Finset.mem_Ico] at hi
    unfold mid
    rw [if_pos (by omega)]
  isplitl [HC]; · iexact HC
  iexact HD

section

variable (O : S192x144x8x128.Idx → F .f32) (n : BitVec 32) (hn : n.toNat ≤ 1536) (h : k0_chk14 n)

include hn in
theorem wp_drain (c₀ : BitVec 32) (k : BitVec 32 → TP F α) (Q : α → sProp 𝕄) :
    iprop(drain (F := F) c O (liveN n) 0
        ∗ (∀ r, (bigSep (Finset.range (liveN n)) (donePiece c O) ∗ bigSep (Finset.Ico (liveN n) (liveN n + 24)) (fun k => freeAt (F := F) c (slotN k)) ∗ anyOwes (F := F) c)
            -∗ W c bd (k r) Q))
      ⊢ W c bd (Prog.bind (Scf.Loop.for (k0_t6_loop n) (k0_t6_ok n h) c₀ fun i _ =>
          waitOut (k0_off56 n i) (k0_off56_inb n h i) (k0_off57 n i) (k0_off57_inb n h i) (k0_off58 n i) (k0_off58_inb n h i) (.ret 0#32)) k) Q := by
  have hl := liveN_le hn
  have hb : ∀ (i : Fin (k0_t6_loop n).trips) (r : BitVec 32), drain (F := F) c O (liveN n) i.val
      ⊢ W c bd (waitOut (k0_off56 n i) (k0_off56_inb n h i) (k0_off57 n i) (k0_off57_inb n h i) (k0_off58 n i) (k0_off58_inb n h i) (.ret 0#32))
        (fun _ => drain (F := F) c O (liveN n) (i.val + 1)) := by
    intro i _
    have hi := lt_of_lt_of_eq i.isLt (t6_rng hn).trips
    have hs : (slotN (liveN n - 24 + i.val)).val = (liveN n - 24 + i.val) % 24 := rfl
    unfold drain
    rw [ico_head (show liveN n - 24 + 24 + i.val < liveN n + 24 by omega), ← Nat.add_assoc (liveN n - 24 + 24) i.val 1,
      ico_last (show liveN n ≤ liveN n - 24 + 24 + i.val by omega), ← Nat.add_assoc (liveN n - 24) i.val 1, range_last]
    have hm : mid (F := F) c O (liveN n - 24 + 24 + i.val) = flying c O (blkN (liveN n - 24 + i.val)) (slotN (liveN n - 24 + i.val)) := by
      unfold mid
      rw [if_neg (by omega), show liveN n - 24 + 24 + i.val - 24 = liveN n - 24 + i.val by omega,
        show slotN (liveN n - 24 + 24 + i.val) = slotN (liveN n - 24 + i.val) from Fin.ext (by show (_ + 24 + _) % 24 = _ % 24; omega)]
    rw [hm, show slotN (liveN n - 24 + 24 + i.val) = slotN (liveN n - 24 + i.val) from Fin.ext (by show (_ + 24 + _) % 24 = _ % 24; omega)]
    unfold anyOwes
    iintro ⟨⟨HF, HM⟩, HE, HD, HO⟩
    iapply (wp_waitOut c bd O (blkN (liveN n - 24 + i.val)) (slotN (liveN n - 24 + i.val)) _ _ _ _ _ _ (by rw [hs]; exact off56_eq hn i))
    isplitl [HF]; · iexact HF
    isplitl [HO]; · iexact HO
    iintro ⟨HP, HS, HV, HO⟩
    unfold W
    rw [wp_ret]; imodintro
    isplitl [HM]; · iexact HM
    isplitl [HE HS HV]
    · isplitl [HS HV]
      · unfold freeAt
        iexists _
        isplitl [HS]; · iexact HS
        iexact HV
      iexact HE
    isplitl [HD HP]
    · isplitl [HP]
      · unfold donePiece; iexact HP
      iexact HD
    iexact HO
  iintro ⟨H, Hk⟩
  iapply (Scf.wp_for_bind frame (wpE (defs₀ (F := F)) 𝒱₀ (c : Thread nD τ) bd) Set.univ _ _ _ (k0_t6_ok n h) c₀ _
    (fun k _ => drain (F := F) c O (liveN n) k) hb) $$ H
  iintro %r H
  ihave H := (show drain (F := F) c O (liveN n) (Scf.trips (k0_t6_loop n).lb (k0_t6_loop n).ub (k0_t6_loop n).st)
      ⊢ iprop(bigSep (Finset.range (liveN n)) (donePiece c O) ∗ bigSep (Finset.Ico (liveN n) (liveN n + 24)) (fun k => freeAt (F := F) c (slotN k)) ∗ anyOwes (F := F) c) by
    rw [show Scf.trips (k0_t6_loop n).lb (k0_t6_loop n).ub (k0_t6_loop n).st = liveN n - (liveN n - 24) from (t6_rng hn).trips]
    unfold drain
    rw [show liveN n - 24 + 24 + (liveN n - (liveN n - 24)) = liveN n + 24 by omega, show liveN n - 24 + (liveN n - (liveN n - 24)) = liveN n by omega]
    iintro ⟨-, HA, HB, HC⟩
    isplitl [HB]; · iexact HB
    isplitl [HA]; · iexact HA
    iexact HC) $$ H
  iapply Hk $$ H

/-- A loop of no steps. -/
theorem wp_none {L : Scf.Loop 32} (hL : L.trips = 0) (hok : L.OK) (c₀ : BitVec 32) (b : Fin L.trips → BitVec 32 → TP F (BitVec 32))
    (k : BitVec 32 → TP F α) (Q : α → sProp 𝕄) : W c bd (k c₀) Q ⊢ W c bd (Prog.bind (Scf.Loop.for L hok c₀ b) k) Q := by
  iintro H
  iapply (Scf.wp_for_bind frame (wpE (defs₀ (F := F)) 𝒱₀ (c : Thread nD τ) bd) Set.univ _ _ _ hok c₀ b
    (fun _ r => iprop(⌜r = c₀⌝)) (fun i _ => absurd (lt_of_lt_of_eq i.isLt hL) (Nat.not_lt_zero _))) $$ []
  · ipureintro; rfl
  iintro %r %e
  subst e
  iexact H

include hn in
theorem wp_waitZeros (c₀ : BitVec 32) (k : BitVec 32 → TP F α) (Q : α → sProp 𝕄) :
    iprop(zWaits c O (liveN n) (192 - liveN n) 0 ∗ anyOwes (F := F) c
        ∗ (∀ r, (zWaits c O (liveN n) (192 - liveN n) (192 - liveN n) ∗ anyOwes (F := F) c) -∗ W c bd (k r) Q))
      ⊢ W c bd (Prog.bind (Scf.Loop.for (k0_t8_loop n) (k0_t8_ok n h) c₀ fun i _ => waitZero (k0_off62 n i) (k0_off62_inb n h i) (.ret 0#32)) k) Q := by
  have hb : ∀ (i : Fin (k0_t8_loop n).trips) (r : BitVec 32), iprop(zWaits c O (liveN n) (192 - liveN n) i.val ∗ anyOwes (F := F) c)
      ⊢ W c bd (waitZero (k0_off62 n i) (k0_off62_inb n h i) (.ret 0#32))
        (fun _ => iprop(zWaits c O (liveN n) (192 - liveN n) (i.val + 1) ∗ anyOwes (F := F) c)) := by
    intro i _
    have hi := lt_of_lt_of_eq i.isLt (t8_rng hn).trips
    iintro ⟨HZ, HO⟩
    iapply (wp_waitZero c bd O (liveN n) (192 - liveN n) i.val hi)
    isplitl [HZ]; · iexact HZ
    isplitl [HO]; · iexact HO
    iintro H
    unfold W
    rw [wp_ret]; imodintro
    iexact H
  iintro ⟨HZ, HO, Hk⟩
  iapply (Scf.wp_for_bind frame (wpE (defs₀ (F := F)) 𝒱₀ (c : Thread nD τ) bd) Set.univ _ _ _ (k0_t8_ok n h) c₀ _
    (fun k _ => iprop(zWaits c O (liveN n) (192 - liveN n) k ∗ anyOwes (F := F) c)) hb) $$ [HZ HO]
  · isplitl [HZ]; · iexact HZ
    iexact HO
  iintro %r H
  ihave H := (Entails.of_eq (congrArg (fun t => iprop(zWaits c O (liveN n) (192 - liveN n) t ∗ anyOwes (F := F) c))
    (show Scf.trips (k0_t8_loop n).lb (k0_t8_loop n).ub (k0_t8_loop n).st = 192 - liveN n from (t8_rng hn).trips))) $$ H
  iapply Hk $$ H

/-- The copies of zeros, `k` of them started. -/
def zStarts (v m k : ℕ) : sProp 𝕄 :=
  if m = 0 then semVal ((c : Thread nD τ), .dma cc0_scratch14.sem) 0 else zBatch c O v m k 0

theorem zStarts_alloc (v m : ℕ) : (semVal ((c : Thread nD τ), .dma cc0_scratch14.sem) 0 : sProp 𝕄) ⊢ |={Set.univ}=> zStarts (F := F) c O v m 0 := by
  unfold zStarts
  by_cases e : m = 0
  · rw [if_pos e]
    iintro H
    imodintro
    iexact H
  · rw [if_neg e]
    unfold zBatch
    exact Transfers.batch_alloc' (EC (F := F)) (c : Thread nD τ) () outN (fun j : Fin m => zDel c O v j.val)

theorem zStarts_waits (v m : ℕ) : zStarts (F := F) c O v m m ⊢ zWaits c O v m 0 := by
  unfold zStarts zWaits
  by_cases e : m = 0
  · subst e
    rw [if_pos rfl, if_neg (by omega), Finset.univ_eq_empty, BI.bigSep_empty]
    iintro H
    isplitr; · iempintro
    iexact H
  · rw [if_neg e, if_pos (by omega), Nat.zero_mul]

include hn in
theorem wp_startZeros (hO : ∀ q, liveN n ≤ q → q < 192 → ∀ i ∈ pieceSet (blkN q), O i = zer)
    (c₀ : BitVec 32) (k : BitVec 32 → TP F α) (Q : α → sProp 𝕄) :
    iprop(zStarts (F := F) c O (liveN n) (192 - liveN n) 0 ∗ bigSep (Finset.Ico (liveN n) 192) (anyPiece (F := F) c)
        ∗ bigSep (Finset.range (192 - liveN n)) (fun j => zPts (F := F) c (Transfers.shareTokN fullShare j))
        ∗ (∀ r, zStarts (F := F) c O (liveN n) (192 - liveN n) (192 - liveN n) -∗ W c bd (k r) Q))
      ⊢ W c bd (Prog.bind (Scf.Loop.for (k0_t4_loop n) (k0_t4_ok n h) c₀ fun i _ => startZero (k0_off51 n i) (k0_off51_inb n h i) (.ret 0#32)) k) Q := by
  have hl := liveN_le hn
  have hb : ∀ (i : Fin (k0_t4_loop n).trips) (r : BitVec 32), iprop(zStarts (F := F) c O (liveN n) (192 - liveN n) i.val
          ∗ bigSep (Finset.Ico (liveN n + i.val) 192) (anyPiece (F := F) c)
          ∗ bigSep (Finset.Ico i.val (192 - liveN n)) (fun j => zPts (F := F) c (Transfers.shareTokN fullShare j)))
      ⊢ W c bd (startZero (k0_off51 n i) (k0_off51_inb n h i) (.ret 0#32))
        (fun _ => iprop(zStarts (F := F) c O (liveN n) (192 - liveN n) (i.val + 1)
          ∗ bigSep (Finset.Ico (liveN n + (i.val + 1)) 192) (anyPiece (F := F) c)
          ∗ bigSep (Finset.Ico (i.val + 1) (192 - liveN n)) (fun j => zPts (F := F) c (Transfers.shareTokN fullShare j)))) := by
    intro i _
    have hi := lt_of_lt_of_eq i.isLt (t4_rng hn).trips
    rw [ico_head (show liveN n + i.val < 192 by omega), ico_head hi]
    unfold zStarts
    rw [if_neg (by omega), if_neg (by omega)]
    iintro ⟨HB, ⟨HP, HA⟩, HZ, HR⟩
    iapply (wp_startZero c bd O (liveN n) (192 - liveN n) i.val hi (hO _ (by omega) (by omega)) (by omega) _ _ (off51_eq hn i))
    isplitl [HZ]; · iexact HZ
    isplitl [HP]; · iexact HP
    isplitl [HB]; · iexact HB
    iintro HB
    unfold W
    rw [wp_ret]; imodintro
    isplitl [HB]; · iexact HB
    isplitl [HA]; · iexact HA
    iexact HR
  iintro ⟨HB, HA, HZ, Hk⟩
  iapply (Scf.wp_for_bind frame (wpE (defs₀ (F := F)) 𝒱₀ (c : Thread nD τ) bd) Set.univ _ _ _ (k0_t4_ok n h) c₀ _
    (fun k _ => iprop(zStarts (F := F) c O (liveN n) (192 - liveN n) k
          ∗ bigSep (Finset.Ico (liveN n + k) 192) (anyPiece (F := F) c)
          ∗ bigSep (Finset.Ico k (192 - liveN n)) (fun j => zPts (F := F) c (Transfers.shareTokN fullShare j)))) hb) $$ [HB HA HZ]
  · isplitl [HB]; · iexact HB
    isplitl [HA]; · iexact HA
    iapply (Entails.of_eq (by rw [Finset.range_eq_Ico])) $$ HZ
  iintro %r ⟨H, -, -⟩
  ihave H := (Entails.of_eq (congrArg (fun t => zStarts (F := F) c O (liveN n) (192 - liveN n) t)
    (show Scf.trips (k0_t4_loop n).lb (k0_t4_loop n).ub (k0_t4_loop n).st = 192 - liveN n from (t4_rng hn).trips))) $$ H
  iapply Hk $$ H

include hn in
theorem wp_finish (h0 : 0 < liveN n) (hO : ∀ q, liveN n ≤ q → q < 192 → ∀ i ∈ pieceSet (blkN q), O i = zer) (Q : PUnit → sProp 𝕄) :
    iprop(ringRes c O (liveN n) ∗ zPts (F := F) c fullShare ∗ semVal ((c : Thread nD τ), .dma cc0_scratch14.sem) 0
        ∗ (endRes (F := F) c O (liveN n) -∗ Q ⟨⟩))
      ⊢ W c bd (finish n h) Q := by
  have hl := liveN_le hn
  have no : ∀ {L : Scf.Loop 32} {a : ℕ} (_ : Rng L a a), L.trips = 0 := fun r => by rw [r.trips]; omega
  unfold finish
  iintro ⟨HR, HZ, HS, Hk⟩
  ihave HZ := (Entails.of_eq (zPts_split (F := F) c (192 - liveN n))) $$ HZ
  icases HZ with ⟨HZd, HZ⟩
  unfold ringRes
  icases HR with ⟨HM, HL, HA, HD, HO⟩
  ihave HA := (Entails.of_eq (show bigSep (Finset.Ico (liveN n - 1) 192) (anyPiece (F := F) c)
    = iprop(anyPiece (F := F) c (liveN n - 1) ∗ bigSep (Finset.Ico (liveN n) 192) (anyPiece (F := F) c)) by
      rw [ico_head (show liveN n - 1 < 192 by omega), show liveN n - 1 + 1 = liveN n by omega])) $$ HA
  icases HA with ⟨HP, HA⟩
  ihave HL := (Entails.of_eq (show last c O (liveN n) = held c O (liveN n - 1) by unfold last; rw [if_neg (by omega)])) $$ HL
  unfold held
  icases HL with ⟨HL, HV⟩
  unfold anyPiece
  icases HP with ⟨%g, HP⟩
  iapply (fupd_wp frame (wpE (defs₀ (F := F)) 𝒱₀ (c : Thread nD τ) bd) Set.univ _ _)
  imod (zStarts_alloc (F := F) c O (liveN n) (192 - liveN n)) $$ HS with HS
  imodintro
  iapply (wp_startZeros c bd O n hn h hO 0#32)
  isplitl [HS]; · iexact HS
  isplitl [HA]; · unfold anyPiece; iexact HA
  isplitl [HZ]; · iexact HZ
  iintro %r HS
  iapply (wp_none c bd (no (t5_rng hn)))
  rw [dif_pos (cond3_of hn h0)]
  iapply (wp_startOut c bd O (blkN (liveN n - 1)) (slotN (liveN n - 1)) _ _ _ _ _ _ (off53_eq hn h0)
    (by rw [blkN_val (by omega)]; exact off54_eq hn h0) (off55_eq hn h0) g)
  isplitl [HL]; · iexact HL
  isplitl [HP]; · iexact HP
  isplitl [HV]; · iexact HV
  iintro HF
  ihave HF := (Entails.of_eq (mid_fly c O h0)) $$ HF
  unfold waitAll
  iapply (wp_drain c bd O n hn h)
  isplitl [HF HM HD HO]
  · iapply (drain_start (F := F) c O (liveN n))
    isplitl [HF HM]
    · iapply (Entails.of_eq (ico_last (show liveN n ≤ liveN n + 23 by omega) (mid c O)).symm)
      isplitl [HF]; · iexact HF
      iexact HM
    isplitl [HD]; · iexact HD
    iexact HO
  iintro %r ⟨HD, HE, HO⟩
  iapply (wp_none c bd (no (t7_rng hn)))
  ihave HS := (zStarts_waits (F := F) c O (liveN n) (192 - liveN n)) $$ HS
  iapply (wp_waitZeros c bd O n hn h)
  isplitl [HS]; · iexact HS
  isplitl [HO]; · iexact HO
  iintro %r ⟨HS, HO⟩
  iapply (wp_none c bd (no (t9_rng hn)))
  ihave HS := (Entails.of_eq (show zWaits c O (liveN n) (192 - liveN n) (192 - liveN n)
    = iprop((bigSep (Finset.Ico (liveN n) (liveN n + (192 - liveN n))) (donePiece c O) ∗ bigSep (Finset.range (192 - liveN n)) (fun j => zPts (F := F) c (Transfers.shareTokN fullShare j)))
        ∗ semVal ((c : Thread nD τ), .dma cc0_scratch14.sem) 0) by unfold zWaits; rw [if_neg (by omega), zDone])) $$ HS
  icases HS with ⟨⟨HB, HZ⟩, HS⟩
  unfold W
  rw [wp_ret]; imodintro
  iapply Hk
  unfold endRes
  isplitl [HD HB]
  · have e : Finset.range 192 = Finset.range (liveN n) ∪ Finset.Ico (liveN n) (liveN n + (192 - liveN n)) := by
      ext i; simp only [Finset.mem_union, Finset.mem_Ico, Finset.mem_range]; omega
    have d : Disjoint (Finset.range (liveN n)) (Finset.Ico (liveN n) (liveN n + (192 - liveN n))) := by
      rw [Finset.disjoint_left]; intro i; simp only [Finset.mem_Ico, Finset.mem_range]; omega
    iapply (Entails.of_eq (show iprop(bigSep (Finset.range (liveN n)) (donePiece c O) ∗ bigSep (Finset.Ico (liveN n) (liveN n + (192 - liveN n))) (donePiece c O))
      = bigSep (Finset.range 192) (donePiece c O) by rw [e]; exact (BI.bigSep_union d).symm))
    isplitl [HD]; · iexact HD
    iexact HB
  isplitl [HE]; · iexact HE
  isplitl [HZd HZ]
  · iapply (Entails.of_eq (zPts_split (F := F) c (192 - liveN n)).symm)
    isplitl [HZd]; · iexact HZd
    iexact HZ
  isplitl [HS]; · iexact HS
  iexact HO

end

end Cert.Proof.Seg
-- ==== Proof.Seg.Reads.lean ====
/-
  The copies in: the packed rows, in 144 pieces on one semaphore, and the three tables (`wp_startReads`, `wp_waitReads`,
  `wp_startTables`, `wp_waitTables`); the buffer of zeros (`wp_zeroBuf`).
-/
module

public import proofs.«01_k».proof.Proof.Seg.Zero
public import proofs.«01_k».proof.Proof.Seg.Walk

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## Places -/

/-- The row and the lane of a piece's element. -/
def rR (k : S384x128.Idx) : Fin 384 := k 0
def rL (k : S384x128.Idx) : Fin 128 := k 1

def rIdx (r : Fin 384) (l : Fin 128) : S384x128.Idx := fun a => match a with
  | ⟨0, _⟩ => r | ⟨1, _⟩ => l

/-- An element of the packed rows, as they come. -/
def wIdx (r : Fin 384) (x : Fin 18432) : S384x18432.Idx := fun a => match a with
  | ⟨0, _⟩ => r | ⟨1, _⟩ => x

def wR (i : S384x18432.Idx) : Fin 384 := i 0
def wX (i : S384x18432.Idx) : Fin 18432 := i 1

theorem wIdx_eta (i : S384x18432.Idx) : wIdx (wR i) (wX i) = i := by
  funext a
  rcases a with ⟨_ | _ | n, hn⟩ <;> first | rfl | exact absurd hn (by simp)

/-- Its place in the staging buffer, and the other way round. -/
def sJ (e : S144x392x128.Idx) : Fin 144 := e 0
def sR (e : S144x392x128.Idx) : Fin 392 := e 1
def sL (e : S144x392x128.Idx) : Fin 128 := e 2

def colOf (j : Fin 144) (l : Fin 128) : Fin 18432 := ⟨128 * j.val + l.val, by omega⟩

def rowIn (r : Fin 392) : Fin 384 := ⟨r.val % 384, Nat.mod_lt _ (by omega)⟩

def uR (k : S384x128.Idx) : S1x384x128.Idx := fun a => match a with
  | ⟨0, _⟩ => (0 : Fin 1) | ⟨1, _⟩ => rR k | ⟨2, _⟩ => rL k

theorem unsqueezeR_eq (h : S384x128.numel = S1x384x128.numel) (k : S384x128.Idx) : Shape.reshapeEquiv h k = uR k := by
  refine Shape.reshapeEquiv_eq_of_rowMajor h ?_
  refine (Shape.rowMajor_val_three (d := ![1, 384, 128]) (uR k)).trans ?_
  refine Eq.trans ?_ (Shape.rowMajor_val_two (d := ![384, 128]) k).symm
  show (0 * 384 + (rR k).val) * 128 + (rL k).val = (rR k).val * 128 + (rL k).val
  omega

theorem stageM_emb (j : Fin 144) (k : S384x128.Idx) :
    (stageM j).view.emb k = cIdx j ⟨(rR k).val, by have := (rR k).isLt; omega⟩ (rL k) := by
  show (Rect.unit (s := S144x392x128) ![j.val, 0, 0] S1x384x128.size (dst_inb j)).emb (Shape.reshapeEquiv _ k) = _
  rw [unsqueezeR_eq]
  funext a
  apply Fin.ext
  rw [Rect.emb_apply]
  rcases a with ⟨_ | _ | _ | n, hn⟩
  · show j.val + 1 * 0 = j.val; omega
  · show 0 + 1 * (rR k).val = (rR k).val; omega
  · show 0 + 1 * (rL k).val = (rL k).val; omega
  · exact absurd hn (by simp)

theorem codeM_emb (j : Fin 144) (k : S384x128.Idx) : (codeM j).view.emb k = wIdx (rR k) (colOf j (rL k)) := by
  show (Rect.unit (s := S384x18432) ![0, 128 * j.val] S384x128.size (src_inb j)).emb k = _
  funext a
  apply Fin.ext
  rw [Rect.emb_apply]
  rcases a with ⟨_ | _ | n, hn⟩
  · show 0 + 1 * (rR k).val = (rR k).val; omega
  · show 128 * j.val + 1 * (rL k).val = 128 * j.val + (rL k).val; omega
  · exact absurd hn (by simp)

/-- The elements of piece `j`, staged and as they come. -/
def stageSet (j : Fin 144) : Finset S144x392x128.Idx := Finset.univ.filter fun e => sJ e = j ∧ (sR e).val < 384
def codeSet (j : Fin 144) : Finset S384x18432.Idx := Finset.univ.filter fun i => (wX i).val / 128 = j.val

theorem mem_stageSet {j : Fin 144} {e : S144x392x128.Idx} : e ∈ stageSet j ↔ sJ e = j ∧ (sR e).val < 384 := by simp [stageSet]
theorem mem_codeSet {j : Fin 144} {i : S384x18432.Idx} : i ∈ codeSet j ↔ (wX i).val / 128 = j.val := by simp [codeSet]

theorem stage_emb {j : Fin 144} {e : S144x392x128.Idx} (h : e ∈ stageSet j) : e = (stageM j).view.emb (rIdx (rowIn (sR e)) (sL e)) := by
  rw [mem_stageSet] at h
  rw [stageM_emb, ← h.1]
  refine (cIdx_eta e).symm.trans ?_
  show cIdx (sJ e) (sR e) (sL e) = cIdx (sJ e) _ (sL e)
  congr 1
  apply Fin.ext
  show (sR e).val = (sR e).val % 384
  rw [Nat.mod_eq_of_lt h.2]

theorem stageM_set (j : Fin 144) : (stageM j).view.set = stageSet j := by
  ext e
  constructor
  · intro h
    obtain ⟨k, _, rfl⟩ := Finset.mem_map.mp h
    rw [stageM_emb, mem_stageSet]
    exact ⟨rfl, (rR k).isLt⟩
  · intro h
    exact Finset.mem_map.mpr ⟨_, Finset.mem_univ _, (stage_emb h).symm⟩

theorem codeM_set (j : Fin 144) : (codeM j).view.set = codeSet j := by
  ext i
  rw [mem_codeSet]
  constructor
  · intro h
    obtain ⟨k, _, rfl⟩ := Finset.mem_map.mp h
    rw [codeM_emb]
    show (128 * j.val + (rL k).val) / 128 = j.val
    have := (rL k).isLt
    omega
  · intro h
    refine Finset.mem_map.mpr ⟨rIdx (wR i) ⟨(wX i).val % 128, Nat.mod_lt _ (by omega)⟩, Finset.mem_univ _, ?_⟩
    rw [codeM_emb]
    refine Eq.trans ?_ (wIdx_eta i)
    show wIdx (wR i) _ = wIdx (wR i) (wX i)
    congr 1
    apply Fin.ext
    show 128 * j.val + (wX i).val % 128 = (wX i).val
    omega

/-- The staging buffer once all is in: the rows past the last hold what they held. -/
def staged (C : S384x18432.Idx → BitVec 32) (f : S144x392x128.Idx → BitVec 32) : S144x392x128.Idx → BitVec 32 := fun e =>
  if (sR e).val < 384 then C (wIdx (rowIn (sR e)) (colOf (sJ e) (sL e))) else f e

variable (c : Dev nD) (bd : Option ℕ)

/-- Piece `j`. -/
def jN (j : ℕ) : Fin 144 := ⟨j % 144, Nat.mod_lt _ (by omega)⟩

theorem jN_val {j : ℕ} (h : j < 144) : jN j = ⟨j, h⟩ := Fin.ext (Nat.mod_eq_of_lt h)

def stagePts (f : S144x392x128.Idx → BitVec 32) (j : ℕ) : sProp 𝕄 :=
  ((c : Thread nD τ).loc cc0_scratch0) ↦[stageSet (jN j)]{fullShare} (f : Buf (Elt F) ((c : Thread nD τ).loc cc0_scratch0))

def codePts (C : S384x18432.Idx → BitVec 32) (j : ℕ) : sProp 𝕄 :=
  ((c : Thread nD τ).loc main_v2) ↦[codeSet (jN j)]{fullShare} (C : Buf (Elt F) ((c : Thread nD τ).loc main_v2))

/-- What the copy of piece `j` delivers. -/
def rDel (C : S384x18432.Idx → BitVec 32) (f : S144x392x128.Idx → BitVec 32) (j : ℕ) : sProp 𝕄 :=
  iprop(stagePts (F := F) c (staged C f) j ∗ codePts (F := F) c C j)

instance rDel_storable (C : S384x18432.Idx → BitVec 32) (f : S144x392x128.Idx → BitVec 32) (j : ℕ) :
    Storable (upEmb : UEmb _ 𝕄) (rDel (F := F) c C f j) := by
  unfold rDel stagePts codePts; infer_instance

/-- What the copy of a piece counts for. -/
abbrev readN : ℕ := (stageM ⟨0, by omega⟩).view.dmaCredit

theorem readN_pos : 0 < readN := by decide

def rBatch (C : S384x18432.Idx → BitVec 32) (f : S144x392x128.Idx → BitVec 32) (k u : ℕ) : sProp 𝕄 :=
  Transfers.Batch (EC (F := F)) (c : Thread nD τ) (.dma cc0_scratch9.sem) () readN (fun j : Fin 144 => rDel c C f j.val) k u

theorem write_stage (C : S384x18432.Idx → BitVec 32) (f : S144x392x128.Idx → BitVec 32) (j : Fin 144) :
    ∀ e ∈ stageSet j, (stageM j).view.write (Elt F) f ((codeM j).view.read (Elt F) C) Finset.univ e = staged C f e := by
  intro e he
  conv_lhs => rw [stage_emb he]
  rw [View.write_emb_of_mem (h := Finset.mem_univ _)]
  rw [mem_stageSet] at he
  show C ((codeM j).view.emb (rIdx (rowIn (sR e)) (sL e))) = staged C f e
  rw [codeM_emb]
  unfold staged
  rw [if_pos he.2, he.1]
  rfl

theorem rDel_of (C : S384x18432.Idx → BitVec 32) (f : S144x392x128.Idx → BitVec 32) (j : Fin 144) :
    iprop(((stageM j).view.loc (c : Thread nD τ) ↦[(stageM j).view.set]{fullShare}
        (((stageM j).view.write (Elt F) f ((codeM j).view.read (Elt F) C) Finset.univ : S144x392x128.Idx → BitVec 32) : Buf (Elt F) ((stageM j).view.loc (c : Thread nD τ))))
        ∗ ((codeM j).view.loc (c : Thread nD τ) ↦[(codeM j).view.set]{fullShare} (C : Buf (Elt F) ((codeM j).view.loc (c : Thread nD τ)))))
      ⊢ rDel (F := F) c C f j.val := by
  unfold rDel stagePts codePts
  rw [show jN j.val = j from jN_val j.isLt, stageM_set, codeM_set]
  exact BI.sep_mono (Entails.of_eq (pointsTo_congr (write_stage (F := F) C f j))) (Entails.refl _)

theorem wp_startReads (C : S384x18432.Idx → BitVec 32) (f : S144x392x128.Idx → BitVec 32) (n : ℕ) :
    ∀ (j : ℕ) (h : j + n ≤ 144) (k : TP F α) (Q : α → sProp 𝕄),
      iprop(bigSep (Finset.Ico j (j + n)) (codePts (F := F) c C) ∗ bigSep (Finset.Ico j (j + n)) (stagePts (F := F) c f) ∗ rBatch (F := F) c C f j 0
          ∗ (rBatch (F := F) c C f (j + n) 0 -∗ W c bd k Q))
        ⊢ W c bd (startReads j n h k) Q := by
  induction n with
  | zero =>
    intro j h k Q
    iintro ⟨-, -, HB, Hk⟩
    iapply Hk; iexact HB
  | succ n ih =>
    intro j h k Q
    have hlt : j < 144 := by omega
    have hj : jN j = ⟨j, hlt⟩ := jN_val hlt
    rw [show j + (n + 1) = j + 1 + n by omega, ico_head (show j < j + 1 + n by omega), ico_head (show j < j + 1 + n by omega)]
    unfold startReads
    iintro ⟨⟨HC, HCs⟩, ⟨HS, HSs⟩, HB, Hk⟩
    ihave HC := (Entails.of_eq (show codePts (F := F) c C j
      = ((codeM ⟨j, hlt⟩).view.loc (c : Thread nD τ) ↦[(codeM ⟨j, hlt⟩).view.set]{fullShare} (C : Buf (Elt F) ((codeM ⟨j, hlt⟩).view.loc (c : Thread nD τ)))) by
        rw [codeM_set]; unfold codePts; rw [hj])) $$ HC
    ihave HS := (Entails.of_eq (show stagePts (F := F) c f j
      = ((stageM ⟨j, hlt⟩).view.loc (c : Thread nD τ) ↦[(stageM ⟨j, hlt⟩).view.set]{fullShare} (f : Buf (Elt F) ((stageM ⟨j, hlt⟩).view.loc (c : Thread nD τ)))) by
        rw [stageM_set]; unfold stagePts; rw [hj])) $$ HS
    unfold rBatch W
    iapply (Transfers.wp_dmaBatch (EC (F := F)) 𝒱₀ (c : Thread nD τ) bd (src := codeM ⟨j, hlt⟩) (dst := stageM ⟨j, hlt⟩)
      (D := fun j : Fin 144 => rDel c C f j.val) (j := j) (u := 0) (q := fullShare) (Sd := (stageM ⟨j, hlt⟩).view.set) (fd := f)
      (fs := C) () readN rfl (Finset.Subset.refl _) hlt (Nat.zero_le _) ?_) $$ [HC HS HB]
    · exact rDel_of (F := F) c C f ⟨j, hlt⟩
    · isplitl [HC]; · iexact HC
      isplitl [HS]; · iexact HS
      iexact HB
    iintro HB
    iapply (ih (j + 1) (by omega) k Q)
    isplitl [HCs]; · iexact HCs
    isplitl [HSs]; · iexact HSs
    unfold rBatch W
    isplitl [HB]; · iexact HB
    iexact Hk

/-- The waits for the pieces, `k` done. -/
def rWaits (C : S384x18432.Idx → BitVec 32) (f : S144x392x128.Idx → BitVec 32) (k : ℕ) : sProp 𝕄 :=
  if k < 144 then rBatch c C f 144 (k * readN)
  else iprop(bigSep Finset.univ (fun j : Fin 144 => rDel (F := F) c C f j.val) ∗ semVal ((c : Thread nD τ), .dma cc0_scratch9.sem) 0)

theorem wp_waitRead (C : S384x18432.Idx → BitVec 32) (f : S144x392x128.Idx → BitVec 32) (j : ℕ) (hj : j < 144) (k : TP F α) (Q : α → sProp 𝕄) :
    iprop(rWaits (F := F) c C f j ∗ anyOwes (F := F) c ∗ ((rWaits (F := F) c C f (j + 1) ∗ anyOwes (F := F) c) -∗ W c bd k Q))
      ⊢ W c bd (Prog.bind (Prog.lift (.waitDma2 cc0_scratch9.sem (codeM ⟨j, hj⟩) (stageM ⟨j, hj⟩)
          (View.wordExact_bits rfl) ((View.wordExact_bits rfl).reshape _ _))) fun _ => k) Q := by
  unfold rWaits
  rw [if_pos hj]
  have hN := readN_pos
  by_cases hl : j + 1 < 144
  · rw [if_pos hl]
    unfold rBatch anyOwes W
    iintro ⟨HB, ⟨%V, HV⟩, Hk⟩
    iapply (Transfers.wp_waitBatch (EC (F := F)) 𝒱₀ (c : Thread nD τ) bd (srcw := codeM ⟨j, hj⟩) (dstw := stageM ⟨j, hj⟩) () (N := readN) rfl (u := j * readN)
      (by rw [← Nat.succ_mul, Nat.mul_comm]; exact Nat.mul_lt_mul_of_pos_left hl hN)) $$ [HB HV]
    · isplitl [HB]; · iexact HB
      iexact HV
    iintro ⟨HB, HV⟩
    iapply Hk
    isplitl [HB]
    · iapply (Entails.of_eq (by rw [Nat.succ_mul])) $$ HB
    iexists _; iexact HV
  · rw [if_neg hl]
    unfold rBatch anyOwes W
    iintro ⟨HB, ⟨%V, HV⟩, Hk⟩
    iapply (Transfers.wp_waitBatchLast (EC (F := F)) 𝒱₀ (c : Thread nD τ) bd (srcw := codeM ⟨j, hj⟩) (dstw := stageM ⟨j, hj⟩) () (N := readN) rfl hN (u := j * readN)
      (by rw [← Nat.succ_mul, Nat.mul_comm, show j.succ = 144 by omega])) $$ [HB HV]
    · isplitl [HB]; · iexact HB
      iexact HV
    iintro ⟨HB, HS, HV⟩
    iapply Hk
    isplitl [HB HS]
    · isplitl [HB]; · iexact HB
      iexact HS
    iexists _; iexact HV

theorem wp_waitReads (C : S384x18432.Idx → BitVec 32) (f : S144x392x128.Idx → BitVec 32) (n : ℕ) :
    ∀ (j : ℕ) (h : j + n ≤ 144) (k : TP F α) (Q : α → sProp 𝕄),
      iprop(rWaits (F := F) c C f j ∗ anyOwes (F := F) c ∗ ((rWaits (F := F) c C f (j + n) ∗ anyOwes (F := F) c) -∗ W c bd k Q))
        ⊢ W c bd (waitReads j n h k) Q := by
  induction n with
  | zero =>
    intro j h k Q
    iintro ⟨HB, HO, Hk⟩
    iapply Hk
    isplitl [HB]; · iexact HB
    iexact HO
  | succ n ih =>
    intro j h k Q
    have h1 : j + 1 + n ≤ 144 := by omega
    rw [show j + (n + 1) = j + 1 + n by omega]
    iintro ⟨HB, HO, Hk⟩
    iapply (wp_waitRead c bd C f j (by omega) (waitReads (j + 1) n h1 k) Q)
    isplitl [HB]; · iexact HB
    isplitl [HO]; · iexact HO
    iintro ⟨HB, HO⟩
    iapply (ih (j + 1) h1 k Q)
    isplitl [HB]; · iexact HB
    isplitl [HO]; · iexact HO
    iexact Hk

omit [FloatOps F] in
/-- A buffer is its pieces. -/
theorem pts_pieces {ℓ : Loc nD τ sig} (f : Buf (Elt F) ℓ) {T : Type} [Fintype T] (K : T → Finset (Idx ℓ))
    (h : ∀ t t', t ≠ t' → Disjoint (K t) (K t')) (hc : ∀ i, ∃ t, i ∈ K t) :
    (ℓ ↦{fullShare} f : sProp 𝕄) = bigSep Finset.univ fun t => ℓ ↦[K t]{fullShare} f := by
  classical
  rw [← pointsTo_biUnion Finset.univ K fun t _ t' _ => h t t',
    Finset.eq_univ_iff_forall.mpr fun i => Finset.mem_biUnion.mpr ((hc i).imp fun t ht => ⟨Finset.mem_univ t, ht⟩)]

omit [FloatOps F] in
/-- A buffer is its pieces and the rest. -/
theorem pts_pieces_rest {ℓ : Loc nD τ sig} (f : Buf (Elt F) ℓ) {T : Type} [Fintype T] (K : T → Finset (Idx ℓ)) (P : Finset (Idx ℓ))
    (h : ∀ t t', t ≠ t' → Disjoint (K t) (K t')) (hP : ∀ i, i ∈ P ↔ ∀ t, i ∉ K t) :
    (ℓ ↦{fullShare} f : sProp 𝕄) = iprop(bigSep Finset.univ (fun t => ℓ ↦[K t]{fullShare} f) ∗ ℓ ↦[P]{fullShare} f) := by
  classical
  have d : Disjoint (Finset.univ.biUnion K) P := by
    rw [Finset.disjoint_left]
    intro i hi hi'
    obtain ⟨t, _, ht⟩ := Finset.mem_biUnion.mp hi
    exact (hP i).mp hi' t ht
  have e : Finset.univ.biUnion K ∪ P = Finset.univ := by
    rw [Finset.eq_univ_iff_forall]
    intro i
    rw [Finset.mem_union, Finset.mem_biUnion]
    by_cases hi : ∃ t, i ∈ K t
    · exact Or.inl (hi.imp fun t ht => ⟨Finset.mem_univ t, ht⟩)
    · exact Or.inr ((hP i).mpr (not_exists.mp hi))
  rw [← pointsTo_biUnion Finset.univ K fun t _ t' _ => h t t', ← e]
  exact BI.Entails.antisymm (pointsTo_union d).1 (pointsTo_union d).2

/-- All the packed rows, as they come. -/
def wPts (C : S384x18432.Idx → BitVec 32) : sProp 𝕄 :=
  ((c : Thread nD τ).loc main_v2) ↦{fullShare} (C : Buf (Elt F) ((c : Thread nD τ).loc main_v2))

omit [FloatOps F] in
theorem fin_range (n : ℕ) (Φ : ℕ → sProp 𝕄) : bigSep Finset.univ (fun j : Fin n => Φ j.val) = bigSep (Finset.range n) Φ := by
  rw [← Nat.Iio_eq_range, ← Fin.map_valEmbedding_univ, BI.bigSep_map]; rfl

omit [FloatOps F] in
theorem wPts_split (C : S384x18432.Idx → BitVec 32) : wPts (F := F) c C = bigSep (Finset.range 144) (codePts (F := F) c C) := by
  rw [← fin_range]
  have hc : ∀ i : S384x18432.Idx, ∃ t, i ∈ codeSet t := fun i =>
    ⟨⟨(wX i).val / 128, by have := (wX i).isLt; omega⟩, mem_codeSet.mpr rfl⟩
  unfold wPts codePts
  refine (pts_pieces (ℓ := (c : Thread nD τ).loc main_v2) C codeSet (fun t t' hne => ?_) hc).trans (BI.bigSep_congr fun j _ => ?_)
  · rw [Finset.disjoint_left]
    intro i h h'
    rw [mem_codeSet] at h h'
    exact hne (Fin.ext (h.symm.trans h'))
  · rw [show jN j.val = j from jN_val j.isLt]

/-- The elements of the staging buffer no piece covers. -/
def padSet : Finset S144x392x128.Idx := Finset.univ.filter fun e => ¬ (sR e).val < 384

def padPts (f : S144x392x128.Idx → BitVec 32) : sProp 𝕄 :=
  ((c : Thread nD τ).loc cc0_scratch0) ↦[padSet]{fullShare} (f : Buf (Elt F) ((c : Thread nD τ).loc cc0_scratch0))

omit [FloatOps F] in
theorem cPts_split (f : S144x392x128.Idx → BitVec 32) : cPts (F := F) c f
    = iprop(bigSep (Finset.range 144) (stagePts (F := F) c f) ∗ padPts (F := F) c f) := by
  rw [← fin_range]
  have hP : ∀ e : S144x392x128.Idx, e ∈ padSet ↔ ∀ t, e ∉ stageSet t := fun e =>
    ⟨fun h t ht => (Finset.mem_filter.mp h).2 (mem_stageSet.mp ht).2,
      fun h => Finset.mem_filter.mpr ⟨Finset.mem_univ _, fun hr => h (sJ e) (mem_stageSet.mpr ⟨rfl, hr⟩)⟩⟩
  unfold cPts padPts
  refine (pts_pieces_rest (ℓ := (c : Thread nD τ).loc cc0_scratch0) f stageSet padSet (fun t t' hne => ?_) hP).trans ?_
  · rw [Finset.disjoint_left]
    intro i h h'
    rw [mem_stageSet] at h h'
    exact hne (h.1.symm.trans h'.1)
  · refine congrArg (fun X : sProp 𝕄 => iprop(X ∗ ((c : Thread nD τ).loc cc0_scratch0) ↦[padSet]{fullShare} (f : Buf (Elt F) ((c : Thread nD τ).loc cc0_scratch0))))
      (BI.bigSep_congr fun j _ => ?_)
    unfold stagePts; rw [show jN j.val = j from jN_val j.isLt]

theorem rDone (C : S384x18432.Idx → BitVec 32) (f : S144x392x128.Idx → BitVec 32) :
    iprop(rWaits (F := F) c C f 144 ∗ padPts (F := F) c f)
      ⊢ iprop(cPts (F := F) c (staged C f) ∗ wPts (F := F) c C ∗ semVal ((c : Thread nD τ), .dma cc0_scratch9.sem) 0) := by
  unfold rWaits
  rw [if_neg (by omega), fin_range 144 (rDel (F := F) c C f), cPts_split, wPts_split,
    show padPts (F := F) c (staged C f) = padPts (F := F) c f from pointsTo_congr fun e he => if_neg (Finset.mem_filter.mp he).2]
  unfold rDel
  iintro ⟨⟨H, HS⟩, HP⟩
  ihave H := (Entails.of_eq (show bigSep (Finset.range 144) (fun j => iprop(stagePts (F := F) c (staged C f) j ∗ codePts (F := F) c C j))
    = iprop(bigSep (Finset.range 144) (stagePts (F := F) c (staged C f)) ∗ bigSep (Finset.range 144) (codePts (F := F) c C)) from
      BI.bigSep_sep _ (stagePts (F := F) c (staged C f)) (codePts (F := F) c C))) $$ H
  icases H with ⟨HA, HB⟩
  isplitl [HA HP]
  · isplitl [HA]; · iexact HA
    iexact HP
  isplitl [HB]; · iexact HB
  iexact HS

end Cert.Proof.Seg
-- ==== Proof.Seg.Tables.lean ====
/-
  The copies of the three tables (`wp_startTables`, `wp_waitTables`) and the buffer of zeros (`wp_zeroBuf`).
-/
module

public import proofs.«01_k».proof.Proof.Seg.Reads

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-! ## The tables -/

/-- The table as it comes, and what its copy delivers. -/
def srcRows (V : S6x256.Idx → BitVec 32) : sProp 𝕄 := ((c : Thread nD τ).loc main_arg3) ↦{fullShare} (V : Buf (Elt F) ((c : Thread nD τ).loc main_arg3))

def anyRows : sProp 𝕄 := iprop(∃ f : Buf (Elt F) ((c : Thread nD τ).loc cc0_scratch5), ((c : Thread nD τ).loc cc0_scratch5) ↦{fullShare} f)

def gotRows (V : S6x256.Idx → BitVec 32) : sProp 𝕄 := iprop(rwPts (F := F) c V ∗ srcRows (F := F) c V)

/-- What its copy counts for. -/
abbrev amtRows : ℕ := (Memref.whole cc0_scratch5 : Memref sig .tc .smem S6x256 _).view.dmaCredit

theorem amtRows_pos : 0 < amtRows := by decide

def flyRows (V : S6x256.Idx → BitVec 32) : sProp 𝕄 :=
  Transfers.Flight (EC (F := F)) (c : Thread nD τ) (.dma cc0_scratch10.sem) () amtRows (gotRows (F := F) c V)

theorem wp_startRows (V : S6x256.Idx → BitVec 32) (k : TP F α) (Q : α → sProp 𝕄) :
    iprop(srcRows (F := F) c V ∗ anyRows (F := F) c ∗ semVal ((c : Thread nD τ), .dma cc0_scratch10.sem) 0 ∗ (flyRows (F := F) c V -∗ W c bd k Q))
      ⊢ W c bd (Prog.bind (Prog.lift (.enqueueDma (Memref.whole main_arg3) (.here (Memref.whole cc0_scratch5)) (.dma cc0_scratch10.sem)
          (Memref.isWhole_whole _).wordExact (Memref.isWhole_whole _).wordExact ⟨Or.inl rfl, trivial⟩)) fun _ => k) Q := by
  have es : (Memref.whole main_arg3 : Memref sig .tc .hbm S6x256 _).view.set = Finset.univ := View.set_whole _
  have ed : (Memref.whole cc0_scratch5 : Memref sig .tc .smem S6x256 _).view.set = Finset.univ := View.set_whole _
  unfold srcRows anyRows flyRows W
  iintro ⟨HS, ⟨%f, HD⟩, HV, Hk⟩
  ihave HS := (Entails.of_eq (show (((c : Thread nD τ).loc main_arg3) ↦{fullShare} (V : Buf (Elt F) ((c : Thread nD τ).loc main_arg3)) : sProp 𝕄)
    = (((Memref.whole main_arg3 : Memref sig .tc .hbm S6x256 _).view.loc (c : Thread nD τ))
        ↦[(Memref.whole main_arg3 : Memref sig .tc .hbm S6x256 _).view.set]{fullShare} (V : Buf (Elt F) ((c : Thread nD τ).loc main_arg3))) by rw [es])) $$ HS
  iapply (Transfers.wp_dmaLocal (EC (F := F)) 𝒱₀ (c : Thread nD τ) bd (src := Memref.whole main_arg3) (dst := Memref.whole cc0_scratch5)
    () amtRows rfl amtRows_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotRows srcRows rwPts
  rw [es]
  refine BI.sep_mono (Entails.of_eq (pointsTo_congr fun i _ => ?_)) (Entails.refl _)
  exact congrFun (View.write_whole_univ (Val := Elt F) cc0_scratch5 f V) i

theorem wp_waitRows (V : S6x256.Idx → BitVec 32) (k : TP F α) (Q : α → sProp 𝕄) :
    iprop(flyRows (F := F) c V ∗ anyOwes (F := F) c
        ∗ ((rwPts (F := F) c V ∗ srcRows (F := F) c V ∗ semVal ((c : Thread nD τ), .dma cc0_scratch10.sem) 0 ∗ anyOwes (F := F) c) -∗ W c bd k Q))
      ⊢ W c bd (Prog.bind (Prog.lift (.waitDma2 cc0_scratch10.sem (Memref.whole main_arg3) (Memref.whole cc0_scratch5)
          (Memref.isWhole_whole _).wordExact (Memref.isWhole_whole _).wordExact)) fun _ => k) Q := by
  unfold flyRows anyOwes W
  iintro ⟨HF, ⟨%V', HV⟩, Hk⟩
  iapply (Transfers.wp_waitLocal (EC (F := F)) 𝒱₀ (c : Thread nD τ) bd (srcw := Memref.whole main_arg3) (dstw := Memref.whole cc0_scratch5) () rfl) $$ [HF HV]
  · isplitl [HF]; · iexact HF
    iexact HV
  unfold gotRows
  iintro ⟨⟨HA, HB⟩, HV, HO⟩
  iapply Hk
  isplitl [HA]; · iexact HA
  isplitl [HB]; · iexact HB
  isplitl [HV]; · iexact HV
  iexists _; iexact HO

/-- The table as it comes, and what its copy delivers. -/
def srcIds (I : S6x256.Idx → BitVec 32) : sProp 𝕄 := ((c : Thread nD τ).loc main_arg2) ↦{fullShare} (I : Buf (Elt F) ((c : Thread nD τ).loc main_arg2))

def anyIds : sProp 𝕄 := iprop(∃ f : Buf (Elt F) ((c : Thread nD τ).loc cc0_scratch4), ((c : Thread nD τ).loc cc0_scratch4) ↦{fullShare} f)

def gotIds (I : S6x256.Idx → BitVec 32) : sProp 𝕄 := iprop(idPts (F := F) c I ∗ srcIds (F := F) c I)

/-- What its copy counts for. -/
abbrev amtIds : ℕ := (Memref.whole cc0_scratch4 : Memref sig .tc .smem S6x256 _).view.dmaCredit

theorem amtIds_pos : 0 < amtIds := by decide

def flyIds (I : S6x256.Idx → BitVec 32) : sProp 𝕄 :=
  Transfers.Flight (EC (F := F)) (c : Thread nD τ) (.dma cc0_scratch11.sem) () amtIds (gotIds (F := F) c I)

theorem wp_startIds (I : S6x256.Idx → BitVec 32) (k : TP F α) (Q : α → sProp 𝕄) :
    iprop(srcIds (F := F) c I ∗ anyIds (F := F) c ∗ semVal ((c : Thread nD τ), .dma cc0_scratch11.sem) 0 ∗ (flyIds (F := F) c I -∗ W c bd k Q))
      ⊢ W c bd (Prog.bind (Prog.lift (.enqueueDma (Memref.whole main_arg2) (.here (Memref.whole cc0_scratch4)) (.dma cc0_scratch11.sem)
          (Memref.isWhole_whole _).wordExact (Memref.isWhole_whole _).wordExact ⟨Or.inl rfl, trivial⟩)) fun _ => k) Q := by
  have es : (Memref.whole main_arg2 : Memref sig .tc .hbm S6x256 _).view.set = Finset.univ := View.set_whole _
  have ed : (Memref.whole cc0_scratch4 : Memref sig .tc .smem S6x256 _).view.set = Finset.univ := View.set_whole _
  unfold srcIds anyIds flyIds W
  iintro ⟨HS, ⟨%f, HD⟩, HV, Hk⟩
  ihave HS := (Entails.of_eq (show (((c : Thread nD τ).loc main_arg2) ↦{fullShare} (I : Buf (Elt F) ((c : Thread nD τ).loc main_arg2)) : sProp 𝕄)
    = (((Memref.whole main_arg2 : Memref sig .tc .hbm S6x256 _).view.loc (c : Thread nD τ))
        ↦[(Memref.whole main_arg2 : Memref sig .tc .hbm S6x256 _).view.set]{fullShare} (I : Buf (Elt F) ((c : Thread nD τ).loc main_arg2))) by rw [es])) $$ HS
  iapply (Transfers.wp_dmaLocal (EC (F := F)) 𝒱₀ (c : Thread nD τ) bd (src := Memref.whole main_arg2) (dst := Memref.whole cc0_scratch4)
    () amtIds rfl amtIds_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotIds srcIds idPts
  rw [es]
  refine BI.sep_mono (Entails.of_eq (pointsTo_congr fun i _ => ?_)) (Entails.refl _)
  exact congrFun (View.write_whole_univ (Val := Elt F) cc0_scratch4 f I) i

theorem wp_waitIds (I : S6x256.Idx → BitVec 32) (k : TP F α) (Q : α → sProp 𝕄) :
    iprop(flyIds (F := F) c I ∗ anyOwes (F := F) c
        ∗ ((idPts (F := F) c I ∗ srcIds (F := F) c I ∗ semVal ((c : Thread nD τ), .dma cc0_scratch11.sem) 0 ∗ anyOwes (F := F) c) -∗ W c bd k Q))
      ⊢ W c bd (Prog.bind (Prog.lift (.waitDma2 cc0_scratch11.sem (Memref.whole main_arg2) (Memref.whole cc0_scratch4)
          (Memref.isWhole_whole _).wordExact (Memref.isWhole_whole _).wordExact)) fun _ => k) Q := by
  unfold flyIds anyOwes W
  iintro ⟨HF, ⟨%V', HV⟩, Hk⟩
  iapply (Transfers.wp_waitLocal (EC (F := F)) 𝒱₀ (c : Thread nD τ) bd (srcw := Memref.whole main_arg2) (dstw := Memref.whole cc0_scratch4) () rfl) $$ [HF HV]
  · isplitl [HF]; · iexact HF
    iexact HV
  unfold gotIds
  iintro ⟨⟨HA, HB⟩, HV, HO⟩
  iapply Hk
  isplitl [HA]; · iexact HA
  isplitl [HB]; · iexact HB
  isplitl [HV]; · iexact HV
  iexists _; iexact HO

/-- The table as it comes, and what its copy delivers. -/
def srcScales (S : S6x256.Idx → F .f32) : sProp 𝕄 := ((c : Thread nD τ).loc main_arg1) ↦{fullShare} (S : Buf (Elt F) ((c : Thread nD τ).loc main_arg1))

def anyScales : sProp 𝕄 := iprop(∃ f : Buf (Elt F) ((c : Thread nD τ).loc cc0_scratch3), ((c : Thread nD τ).loc cc0_scratch3) ↦{fullShare} f)

def gotScales (S : S6x256.Idx → F .f32) : sProp 𝕄 := iprop(scPts (F := F) c S ∗ srcScales (F := F) c S)

/-- What its copy counts for. -/
abbrev amtScales : ℕ := (Memref.whole cc0_scratch3 : Memref sig .tc .smem S6x256 _).view.dmaCredit

theorem amtScales_pos : 0 < amtScales := by decide

def flyScales (S : S6x256.Idx → F .f32) : sProp 𝕄 :=
  Transfers.Flight (EC (F := F)) (c : Thread nD τ) (.dma cc0_scratch12.sem) () amtScales (gotScales (F := F) c S)

theorem wp_startScales (S : S6x256.Idx → F .f32) (k : TP F α) (Q : α → sProp 𝕄) :
    iprop(srcScales (F := F) c S ∗ anyScales (F := F) c ∗ semVal ((c : Thread nD τ), .dma cc0_scratch12.sem) 0 ∗ (flyScales (F := F) c S -∗ W c bd k Q))
      ⊢ W c bd (Prog.bind (Prog.lift (.enqueueDma (Memref.whole main_arg1) (.here (Memref.whole cc0_scratch3)) (.dma cc0_scratch12.sem)
          (Memref.isWhole_whole _).wordExact (Memref.isWhole_whole _).wordExact ⟨Or.inl rfl, trivial⟩)) fun _ => k) Q := by
  have es : (Memref.whole main_arg1 : Memref sig .tc .hbm S6x256 _).view.set = Finset.univ := View.set_whole _
  have ed : (Memref.whole cc0_scratch3 : Memref sig .tc .smem S6x256 _).view.set = Finset.univ := View.set_whole _
  unfold srcScales anyScales flyScales W
  iintro ⟨HS, ⟨%f, HD⟩, HV, Hk⟩
  ihave HS := (Entails.of_eq (show (((c : Thread nD τ).loc main_arg1) ↦{fullShare} (S : Buf (Elt F) ((c : Thread nD τ).loc main_arg1)) : sProp 𝕄)
    = (((Memref.whole main_arg1 : Memref sig .tc .hbm S6x256 _).view.loc (c : Thread nD τ))
        ↦[(Memref.whole main_arg1 : Memref sig .tc .hbm S6x256 _).view.set]{fullShare} (S : Buf (Elt F) ((c : Thread nD τ).loc main_arg1))) by rw [es])) $$ HS
  iapply (Transfers.wp_dmaLocal (EC (F := F)) 𝒱₀ (c : Thread nD τ) bd (src := Memref.whole main_arg1) (dst := Memref.whole cc0_scratch3)
    () amtScales rfl amtScales_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotScales srcScales scPts
  rw [es]
  refine BI.sep_mono (Entails.of_eq (pointsTo_congr fun i _ => ?_)) (Entails.refl _)
  exact congrFun (View.write_whole_univ (Val := Elt F) cc0_scratch3 f S) i

theorem wp_waitScales (S : S6x256.Idx → F .f32) (k : TP F α) (Q : α → sProp 𝕄) :
    iprop(flyScales (F := F) c S ∗ anyOwes (F := F) c
        ∗ ((scPts (F := F) c S ∗ srcScales (F := F) c S ∗ semVal ((c : Thread nD τ), .dma cc0_scratch12.sem) 0 ∗ anyOwes (F := F) c) -∗ W c bd k Q))
      ⊢ W c bd (Prog.bind (Prog.lift (.waitDma2 cc0_scratch12.sem (Memref.whole main_arg1) (Memref.whole cc0_scratch3)
          (Memref.isWhole_whole _).wordExact (Memref.isWhole_whole _).wordExact)) fun _ => k) Q := by
  unfold flyScales anyOwes W
  iintro ⟨HF, ⟨%V', HV⟩, Hk⟩
  iapply (Transfers.wp_waitLocal (EC (F := F)) 𝒱₀ (c : Thread nD τ) bd (srcw := Memref.whole main_arg1) (dstw := Memref.whole cc0_scratch3) () rfl) $$ [HF HV]
  · isplitl [HF]; · iexact HF
    iexact HV
  unfold gotScales
  iintro ⟨⟨HA, HB⟩, HV, HO⟩
  iapply Hk
  isplitl [HA]; · iexact HA
  isplitl [HB]; · iexact HB
  isplitl [HV]; · iexact HV
  iexists _; iexact HO

/-! ## The buffer of zeros -/

def anyZeros : sProp 𝕄 := iprop(∃ f : Buf (Elt F) ((c : Thread nD τ).loc cc0_scratch2), ((c : Thread nD τ).loc cc0_scratch2) ↦{fullShare} f)

theorem wp_zeroBuf (k : TP F α) (Q : α → sProp 𝕄) :
    iprop(anyZeros (F := F) c ∗ (zPts (F := F) c fullShare -∗ W c bd k Q)) ⊢ W c bd (zeroBuf k) Q := by
  unfold zeroBuf anyZeros W
  iintro ⟨⟨%f, H⟩, Hk⟩
  iapply (wp_load 𝒱₀ (c : Thread nD τ) bd Set.univ (m := Memref.whole cc0_scratch2) (Finset.subset_univ _)) $$ H; iintro H
  iapply (wp_store 𝒱₀ (c : Thread nD τ) bd Set.univ (m := Memref.whole cc0_scratch2)
    (r := Rect.unit (s := S144x8x128) ![0, 0, 0] S144x8x128.size inb_S144x8x128_S144x8x128_0_0_0) (Finset.subset_univ _)) $$ H; iintro H
  iapply Hk
  unfold zPts
  iapply (Entails.of_eq (pointsTo_congr fun i _ => ?_)) $$ H
  have e : i = ((Memref.whole cc0_scratch2).access (Rect.unit (s := S144x8x128) ![0, 0, 0] S144x8x128.size inb_S144x8x128_S144x8x128_0_0_0)).emb i := by
    funext a
    apply Fin.ext
    refine Eq.trans ?_ (Rect.emb_apply _ _ _).symm
    rcases a with ⟨_ | _ | _ | n, hn⟩
    · show (i 0).val = 0 + 1 * (i 0).val; omega
    · show (i 1).val = 0 + 1 * (i 1).val; omega
    · show (i 2).val = 0 + 1 * (i 2).val; omega
    · exact absurd hn (show ¬ n + 3 < 3 by omega)
  conv_lhs => rw [e]
  rw [View.write_emb_of_mem (h := Finset.mem_univ _)]
  rfl

end Cert.Proof.Seg
-- ==== Proof.Seg.Thread.lean ====
/-
  The tables: they are cleared (`wp_clearHeads`, `wp_clearChains`) and threaded over the tokens, last to first
  (`wp_thread`).
-/
module

public import proofs.«01_k».proof.Proof.Seg.Walk

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-! ## Scalar stores -/

theorem unit1_emb {N : ℕ} (o : Fin 1 → ℕ) (ho : ∀ a, o a + S1.size a ≤ (⟨1, ![N]⟩ : Shape).size a) (x : S1.Idx) :
    ((Rect.unit (s := ⟨1, ![N]⟩) o S1.size ho).emb x 0).val = o 0 := by
  refine (Rect.emb_apply _ _ _).trans ?_
  have := first_zero x
  show o 0 + 1 * (x 0).val = o 0
  omega

theorem upd_of_eq (h : ℕ → BitVec 32) (a v : BitVec 32) (n k : ℕ) (hk : n = k → v = a) (hk' : n ≠ k → v = h k) : v = Function.update h n a k := by
  by_cases e : n = k
  · subst e; rw [Function.update_self]; exact hk rfl
  · rw [Function.update_of_ne (fun e' => e e'.symm)]; exact hk' e

theorem wp_pokeHead (h : ℕ → BitVec 32) (o : Fin 1 → ℕ) (ho : ∀ a, o a + S1.size a ≤ S1537.size a) (a : BitVec 32) (k : TP F α) (Q : α → sProp 𝕄) :
    iprop(hdPts (F := F) c h ∗ (hdPts (F := F) c (Function.update h (o 0) a) -∗ W c bd k Q))
      ⊢ W c bd (poke (Memref.whole cc0_scratch6) (Rect.unit (s := S1537) o S1.size ho) numel1_S1 a k) Q := by
  unfold hdPts W
  iintro ⟨H, Hk⟩
  iapply (wp_store 𝒱₀ (c : Thread nD τ) bd Set.univ (m := Memref.whole cc0_scratch6) (r := Rect.unit (s := S1537) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch6).access (Rect.unit (s := S1537) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

theorem wp_pokeChain (h : ℕ → BitVec 32) (o : Fin 1 → ℕ) (ho : ∀ a, o a + S1.size a ≤ S193.size a) (a : BitVec 32) (k : TP F α) (Q : α → sProp 𝕄) :
    iprop(xhPts (F := F) c h ∗ (xhPts (F := F) c (Function.update h (o 0) a) -∗ W c bd k Q))
      ⊢ W c bd (poke (Memref.whole cc0_scratch7) (Rect.unit (s := S193) o S1.size ho) numel1_S1 a k) Q := by
  unfold xhPts W
  iintro ⟨H, Hk⟩
  iapply (wp_store 𝒱₀ (c : Thread nD τ) bd Set.univ (m := Memref.whole cc0_scratch7) (r := Rect.unit (s := S193) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch7).access (Rect.unit (s := S193) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

theorem wp_pokeNext (h : ℕ → BitVec 32) (o : Fin 1 → ℕ) (ho : ∀ a, o a + S1.size a ≤ S1537.size a) (a : BitVec 32) (k : TP F α) (Q : α → sProp 𝕄) :
    iprop(nxPts (F := F) c h ∗ (nxPts (F := F) c (Function.update h (o 0) a) -∗ W c bd k Q))
      ⊢ W c bd (poke (Memref.whole cc0_scratch8) (Rect.unit (s := S1537) o S1.size ho) numel1_S1 a k) Q := by
  unfold nxPts W
  iintro ⟨H, Hk⟩
  iapply (wp_store 𝒱₀ (c : Thread nD τ) bd Set.univ (m := Memref.whole cc0_scratch8) (r := Rect.unit (s := S1537) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch8).access (Rect.unit (s := S1537) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

/-! ## The tables cleared -/

theorem iv_eq (k : ℕ) : Scf.iv 0#32 1#32 k = BitVec.ofNat 32 k := by simp [Scf.iv]

theorem t1_trips : k0_t1_loop.trips = 1537 := by decide
theorem t2_trips : k0_t2_loop.trips = 193 := by decide
theorem t3_trips : k0_t3_loop.trips = 1536 := by decide

theorem off1_zero (i : Fin k0_t1_loop.trips) : k0_off1 i 0 = i.val := by
  have := lt_of_lt_of_eq i.isLt t1_trips
  show (Scf.iv 0#32 1#32 i.val).toNat = _
  rw [iv_eq, toNat_ofNat (by omega)]
theorem off2_zero (i : Fin k0_t2_loop.trips) : k0_off2 i 0 = i.val := by
  have := lt_of_lt_of_eq i.isLt t2_trips
  show (Scf.iv 0#32 1#32 i.val).toNat = _
  rw [iv_eq, toNat_ofNat (by omega)]

theorem wp_clearHeads (h : ℕ → BitVec 32) (k : TP F α) (Q : α → sProp 𝕄) :
    iprop(hdPts (F := F) c h ∗ (∀ h, ⌜∀ s < 1537, h s = none32⌝ -∗ hdPts (F := F) c h -∗ W c bd k Q))
      ⊢ W c bd (Prog.bind clearHeads fun _ => k) Q := by
  have hb : ∀ (i : Fin k0_t1_loop.trips) (u : PUnit), iprop(∃ h, ⌜∀ s < i.val, h s = none32⌝ ∗ hdPts (F := F) c h)
      ⊢ W c bd (peek (Memref.whole cc0_scratch6) (Rect.unit (s := S1537) (k0_off1 i) S1.size (k0_off1_inb i)) numel1_S1 fun _ =>
          poke (Memref.whole cc0_scratch6) (Rect.unit (s := S1537) (k0_off1 i) S1.size (k0_off1_inb i)) numel1_S1 4294967295#32 (.ret PUnit.unit))
        (fun _ => iprop(∃ h, ⌜∀ s < i.val + 1, h s = none32⌝ ∗ hdPts (F := F) c h)) := by
    intro i _
    iintro ⟨%h, %hh, H⟩
    iapply (wp_getHead c bd h (k0_off1 i) (k0_off1_inb i)); isplitl [H]; · iexact H
    iintro H
    iapply (wp_pokeHead c bd h (k0_off1 i) (k0_off1_inb i)); isplitl [H]; · iexact H
    iintro H
    unfold W
    rw [wp_ret]; imodintro
    iexists _
    isplitr; swap; · iexact H
    ipureintro
    intro s hs
    rw [off1_zero]
    by_cases e : s = i.val
    · rw [e, Function.update_self]
    · rw [Function.update_of_ne e]; exact hh s (by omega)
  unfold clearHeads
  iintro ⟨H, Hk⟩
  iapply (Scf.wp_for_bind frame (wpE (defs₀ (F := F)) 𝒱₀ (c : Thread nD τ) bd) Set.univ _ _ _ k0_t1_ok ⟨⟩ _
    (fun n _ => iprop(∃ h, ⌜∀ s < n, h s = none32⌝ ∗ hdPts (F := F) c h)) hb) $$ [H]
  · iexists h
    isplitr; · ipureintro; intro s hs; omega
    iexact H
  iintro %u ⟨%h, %hh, H⟩
  iapply Hk $$ [] H
  ipureintro
  intro s hs
  exact hh s (by rw [show Scf.trips k0_t1_loop.lb k0_t1_loop.ub k0_t1_loop.st = 1537 from t1_trips]; exact hs)

theorem wp_clearChains (h : ℕ → BitVec 32) (k : TP F α) (Q : α → sProp 𝕄) :
    iprop(xhPts (F := F) c h ∗ (∀ h, ⌜∀ s < 193, h s = none32⌝ -∗ xhPts (F := F) c h -∗ W c bd k Q))
      ⊢ W c bd (Prog.bind clearChains fun _ => k) Q := by
  have hb : ∀ (i : Fin k0_t2_loop.trips) (u : PUnit), iprop(∃ h, ⌜∀ s < i.val, h s = none32⌝ ∗ xhPts (F := F) c h)
      ⊢ W c bd (peek (Memref.whole cc0_scratch7) (Rect.unit (s := S193) (k0_off2 i) S1.size (k0_off2_inb i)) numel1_S1 fun _ =>
          poke (Memref.whole cc0_scratch7) (Rect.unit (s := S193) (k0_off2 i) S1.size (k0_off2_inb i)) numel1_S1 4294967295#32 (.ret PUnit.unit))
        (fun _ => iprop(∃ h, ⌜∀ s < i.val + 1, h s = none32⌝ ∗ xhPts (F := F) c h)) := by
    intro i _
    iintro ⟨%h, %hh, H⟩
    iapply (wp_getChain c bd h (k0_off2 i) (k0_off2_inb i)); isplitl [H]; · iexact H
    iintro H
    iapply (wp_pokeChain c bd h (k0_off2 i) (k0_off2_inb i)); isplitl [H]; · iexact H
    iintro H
    unfold W
    rw [wp_ret]; imodintro
    iexists _
    isplitr; swap; · iexact H
    ipureintro
    intro s hs
    rw [off2_zero]
    by_cases e : s = i.val
    · rw [e, Function.update_self]
    · rw [Function.update_of_ne e]; exact hh s (by omega)
  unfold clearChains
  iintro ⟨H, Hk⟩
  iapply (Scf.wp_for_bind frame (wpE (defs₀ (F := F)) 𝒱₀ (c : Thread nD τ) bd) Set.univ _ _ _ k0_t2_ok ⟨⟩ _
    (fun n _ => iprop(∃ h, ⌜∀ s < n, h s = none32⌝ ∗ xhPts (F := F) c h)) hb) $$ [H]
  · iexists h
    isplitr; · ipureintro; intro s hs; omega
    iexact H
  iintro %u ⟨%h, %hh, H⟩
  iapply Hk $$ [] H
  ipureintro
  intro s hs
  exact hh s (by rw [show Scf.trips k0_t2_loop.lb k0_t2_loop.ub k0_t2_loop.st = 193 from t2_trips]; exact hs)

/-! ## The thread over the tokens -/

theorem off3_all : ∀ k : Fin 1536, k0_off3 ⟨k.val, by rw [t3_trips]; exact k.isLt⟩ 0 = (1535 - k.val) / 256
    ∧ k0_off3 ⟨k.val, by rw [t3_trips]; exact k.isLt⟩ 1 = (1535 - k.val) % 256 := by
  decide +kernel

theorem off3_eq (i : Fin k0_t3_loop.trips) : k0_off3 i 0 = (1535 - i.val) / 256 ∧ k0_off3 i 1 = (1535 - i.val) % 256 :=
  off3_all ⟨i.val, lt_of_lt_of_eq i.isLt t3_trips⟩

theorem off3_tix (i : Fin k0_t3_loop.trips) (h : ∀ a, (k0_off3 i) a + S1x1.size a ≤ S6x256.size a) (x : S1x1.Idx) :
    (Rect.unit (s := S6x256) (k0_off3 i) S1x1.size h).emb x = tix (1535 - i.val) := by
  obtain ⟨e0, e1⟩ := off3_eq i
  have x0 : (x 0).val = 0 := by have := (x 0).isLt; have e : S1x1.size 0 = 1 := rfl; omega
  have x1 : (x 1).val = 0 := by have := (x 1).isLt; have e : S1x1.size 1 = 1 := rfl; omega
  funext a
  apply Fin.ext
  rw [Rect.emb_apply]
  rcases a with ⟨_ | _ | n, hn⟩
  · show k0_off3 i 0 + 1 * (x 0).val = (1535 - i.val) / 256 % 6
    omega
  · show k0_off3 i 1 + 1 * (x 1).val = (1535 - i.val) % 256
    omega
  · exact absurd hn (by simp)

theorem wp_peekRow (V : S6x256.Idx → BitVec 32) (i : Fin k0_t3_loop.trips)
    (h : ∀ a, (k0_off3 i) a + S1x1.size a ≤ S6x256.size a) (k : BitVec 32 → TP F α) (Q : α → sProp 𝕄) :
    iprop(rwPts (F := F) c V ∗ (rwPts (F := F) c V -∗ W c bd (k (V (tix (1535 - i.val)))) Q))
      ⊢ W c bd (peek (Memref.whole cc0_scratch5) (Rect.unit (s := S6x256) (k0_off3 i) S1x1.size h) numel1_S1x1 k) Q := by
  unfold rwPts W
  iintro ⟨H, Hk⟩
  iapply (wp_smemLoadElt 𝒱₀ (c : Thread nD τ) bd Set.univ (m := Memref.whole cc0_scratch5) (r := Rect.unit (s := S6x256) (k0_off3 i) S1x1.size h) (Finset.subset_univ _)) $$ H; iintro H
  have e : (((Memref.whole cc0_scratch5).access (Rect.unit (s := S6x256) (k0_off3 i) S1x1.size h)).read (Elt F) V
      (Shape.Idx.first (numel1_S1x1.symm ▸ Nat.one_pos)) : BitVec 32) = V (tix (1535 - i.val)) := congrArg V (off3_tix i h _)
  rw [e]
  iapply Hk; iexact H

theorem wp_peekId (V : S6x256.Idx → BitVec 32) (i : Fin k0_t3_loop.trips)
    (h : ∀ a, (k0_off3 i) a + S1x1.size a ≤ S6x256.size a) (k : BitVec 32 → TP F α) (Q : α → sProp 𝕄) :
    iprop(idPts (F := F) c V ∗ (idPts (F := F) c V -∗ W c bd (k (V (tix (1535 - i.val)))) Q))
      ⊢ W c bd (peek (Memref.whole cc0_scratch4) (Rect.unit (s := S6x256) (k0_off3 i) S1x1.size h) numel1_S1x1 k) Q := by
  unfold idPts W
  iintro ⟨H, Hk⟩
  iapply (wp_smemLoadElt 𝒱₀ (c : Thread nD τ) bd Set.univ (m := Memref.whole cc0_scratch4) (r := Rect.unit (s := S6x256) (k0_off3 i) S1x1.size h) (Finset.subset_univ _)) $$ H; iintro H
  have e : (((Memref.whole cc0_scratch4).access (Rect.unit (s := S6x256) (k0_off3 i) S1x1.size h)).read (Elt F) V
      (Shape.Idx.first (numel1_S1x1.symm ▸ Nat.one_pos)) : BitVec 32) = V (tix (1535 - i.val)) := congrArg V (off3_tix i h _)
  rw [e]
  iapply Hk; iexact H

/-- One more than the largest row of the last `k` tokens. -/
def mx (slot : ℕ → ℕ) : ℕ → ℕ
  | 0 => 0
  | k + 1 => max (mx slot k) (slot (1535 - k) + 1)

theorem mx_le (slot : ℕ → ℕ) (hs : ∀ t, slot t < 1536) (k : ℕ) : mx slot k ≤ 1536 := by
  induction k with
  | zero => exact Nat.zero_le _
  | succ k ih => exact max_le ih (hs _)

theorem lt_mx (slot : ℕ → ℕ) (k t : ℕ) (ht : 1536 ≤ t + k) (ht' : t < 1536) : slot t < mx slot k := by
  induction k with
  | zero => omega
  | succ k ih =>
    show slot t < max (mx slot k) (slot (1535 - k) + 1)
    by_cases e : t = 1535 - k
    · rw [← e]; exact lt_of_lt_of_le (Nat.lt_succ_self _) (le_max_right _ _)
    · exact lt_of_lt_of_le (ih (by omega)) (le_max_left _ _)

theorem maxsi_toNat {x y : BitVec 32} (hx : x.toNat < 2 ^ 31) (hy : y.toNat < 2 ^ 31) : (Scalar.maxsi x y).toNat = max x.toNat y.toNat := by
  show (if y.slt x = true then x else y).toNat = _
  rw [show y.slt x = decide (y.toNat < x.toNat) by
    rw [BitVec.slt_eq_decide, toInt_small hx, toInt_small hy]; simp]
  by_cases h : y.toNat < x.toNat
  · rw [if_pos (by simpa using h)]; omega
  · rw [if_neg (by simpa using h)]; omega

/-- The thread's tables. -/
def thrRes (I V : S6x256.Idx → BitVec 32) (h xh nx : ℕ → BitVec 32) : sProp 𝕄 :=
  iprop(rwPts (F := F) c V ∗ idPts (F := F) c I ∗ hdPts (F := F) c h ∗ xhPts (F := F) c xh ∗ nxPts (F := F) c nx)

/-- The thread's tables after `k` tokens, the running maximum `acc`. -/
def thrInv (I V : S6x256.Idx → BitVec 32) (k : ℕ) (acc : BitVec 32) : sProp 𝕄 :=
  iprop(∃ h xh nx, ⌜Threaded (fun t => I (tix t) ≠ 0#32) (fun t => (V (tix t)).toNat) k h nx xh ∧ acc.toNat = mx (fun t => (V (tix t)).toNat) k⌝
    ∗ thrRes (F := F) c I V h xh nx)

theorem wp_step (I V : S6x256.Idx → BitVec 32) (hV : ∀ t, (V (tix t)).toNat < 1536) (i : Fin k0_t3_loop.trips) (acc : BitVec 32) :
    thrInv (F := F) c I V i.val acc ⊢ W c bd (threadStep (F := F) i acc) (thrInv (F := F) c I V (i.val + 1)) := by
  have hi : i.val < 1536 := lt_of_lt_of_eq i.isLt t3_trips
  unfold thrInv threadStep
  iintro ⟨%h, %xh, %nx, ⟨%T, %hacc⟩, H⟩
  generalize hv : V (tix (1535 - i.val)) = v
  generalize hid : I (tix (1535 - i.val)) = id
  have hv' : v.toNat < 1536 := by rw [← hv]; exact hV _
  have hrow : rowW v id ≤ 1536 := by unfold rowW; split <;> omega
  have h1 : k0_chk1 v id := off1_in (N := 1537) _ (by rw [off4_zero]; omega)
  have hdup : ∀ old, dupW id old → old = h (rowW v id) → old.toNat < 1536 := by
    intro old hd e
    have hne := ((dupW_iff _ _).mp hd).1
    have hm := ((dupW_iff _ _).mp hd).2
    rw [e, show rowW v id = v.toNat from if_neg hne, T.heads _ hv'] at hm ⊢
    have hl : ∀ t ∈ toks (fun t => I (tix t) ≠ 0#32) (fun t => (V (tix t)).toNat) i.val v.toNat, t < 1536 := fun t ht =>
      (mem_toks _ _ (by omega) ht).2.1
    revert hl hm
    generalize toks (fun t => I (tix t) ≠ 0#32) (fun t => (V (tix t)).toNat) i.val v.toNat = l
    intro hm hl
    cases l with
    | nil => exact absurd (by decide) hm
    | cons t l =>
      have := hl t List.mem_cons_self
      show (BitVec.ofNat 32 t).toNat < 1536
      rw [toNat_ofNat (by omega)]; exact this
  have hpush : pushW id (h (rowW v id)) ≤ 1536 := by
    unfold pushW
    split
    · next hd => exact le_of_lt (hdup _ hd rfl)
    · omega
  have hblk : blkW v id (h (rowW v id)) ≤ 192 := by unfold blkW; split <;> omega
  have h2 : k0_chk2 v id (h (rowW v id)) :=
    ⟨off1_in (N := 193) _ (by rw [off5_zero _ _ _ hv']; omega), off1_in (N := 1537) _ (by rw [off6_zero]; omega)⟩
  have T' := threaded_succ _ _ i.val hi h nx xh v id hv' (by show (V _).toNat = _; rw [hv]) (by show I _ ≠ _ ↔ _; rw [hid]) T
  unfold thrRes
  icases H with ⟨HR, HI, HH, HX, HN⟩
  iapply (wp_peekRow c bd V i); isplitl [HR]; · iexact HR
  rw [hv]
  iintro HR
  iapply (wp_peekId c bd I i); isplitl [HI]; · iexact HI
  rw [hid]
  iintro HI
  iapply (wp_assume 𝒱₀ (c : Thread nD τ) bd Set.univ h1)
  iapply (wp_getHead c bd h); isplitl [HH]; · iexact HH
  rw [off4_zero]
  iintro HH
  iapply (wp_assume 𝒱₀ (c : Thread nD τ) bd Set.univ h2)
  iapply (wp_getHead c bd h); isplitl [HH]; · iexact HH
  iintro HH
  iapply (wp_pokeHead c bd h); isplitl [HH]; · iexact HH
  rw [off4_zero]
  iintro HH
  iapply (wp_getChain c bd xh); isplitl [HX]; · iexact HX
  rw [off5_zero _ _ _ hv']
  iintro HX
  iapply (wp_getNext c bd nx); isplitl [HN]; · iexact HN
  iintro HN
  iapply (wp_pokeNext c bd nx); isplitl [HN]; · iexact HN
  rw [off6_zero]
  iintro HN
  iapply (wp_getChain c bd xh); isplitl [HX]; · iexact HX
  iintro HX
  iapply (wp_pokeChain c bd xh); isplitl [HX]; · iexact HX
  rw [off5_zero _ _ _ hv']
  iintro HX
  have ht : tokAt i = BitVec.ofNat 32 (1535 - i.val) := by
    apply BitVec.eq_of_toNat_eq
    unfold tokAt
    rw [iv_eq, subi_toNat (by rw [toNat_ofNat (by omega)]; show i.val ≤ 1535; omega), toNat_ofNat (by omega), toNat_ofNat (by omega), toNat_ofNat (by omega)]
  have hs1 : (Scalar.addi v 1#32).toNat = v.toNat + 1 := addi_toNat (by show v.toNat + 1 < _; omega)
  have hmx := mx_le (fun t => (V (tix t)).toNat) hV i.val
  rw [ht]
  unfold W
  rw [wp_ret]; imodintro
  iexists _, _, _
  isplitr; swap
  · isplitl [HR]; · iexact HR
    isplitl [HI]; · iexact HI
    isplitl [HH]; · iexact HH
    isplitl [HX]; · iexact HX
    iexact HN
  ipureintro
  refine ⟨T', ?_⟩
  rw [maxsi_toNat (by omega) (by omega), hacc, hs1, ← hv]
  rfl

theorem wp_thread (I V : S6x256.Idx → BitVec 32) (hV : ∀ t, (V (tix t)).toNat < 1536) (h xh nx : ℕ → BitVec 32)
    (hh : ∀ s < 1537, h s = none32) (hx : ∀ s < 193, xh s = none32) (k : BitVec 32 → TP F α) (Q : α → sProp 𝕄) :
    iprop(thrRes (F := F) c I V h xh nx
        ∗ (∀ (n : BitVec 32) (h xh nx : ℕ → BitVec 32), ⌜Threaded (fun t => I (tix t) ≠ 0#32) (fun t => (V (tix t)).toNat) 1536 h nx xh
              ∧ n.toNat = mx (fun t => (V (tix t)).toNat) 1536⌝
            -∗ thrRes (F := F) c I V h xh nx -∗ W c bd (k n) Q))
      ⊢ W c bd (Prog.bind (Scf.Loop.for k0_t3_loop k0_t3_ok 0#32 threadStep) k) Q := by
  iintro ⟨H, Hk⟩
  iapply (Scf.wp_for_bind frame (wpE (defs₀ (F := F)) 𝒱₀ (c : Thread nD τ) bd) Set.univ _ _ _ k0_t3_ok 0#32 threadStep
    (thrInv (F := F) c I V) (wp_step c bd I V hV)) $$ [H]
  · unfold thrInv
    iexists h, xh, nx
    isplitr; swap; · iexact H
    ipureintro
    exact ⟨threaded_zero _ _ h nx xh (fun s hs => hh s (by omega)) (fun s hs => hx s (by omega)), rfl⟩
  iintro %n H
  ihave H := (Entails.of_eq (congrArg (fun t => thrInv (F := F) c I V t n) (show Scf.trips k0_t3_loop.lb k0_t3_loop.ub k0_t3_loop.st = 1536 from t3_trips))) $$ H
  unfold thrInv
  icases H with ⟨%h', %xh', %nx', %hp, H⟩
  iapply Hk $$ [] H
  ipureintro
  exact hp

end Cert.Proof.Seg
-- ==== Proof.Seg.Run.lean ====
/-
  The kernel's body, from the buffers at anything to the result (`wp_body`).
-/
module

public import proofs.«01_k».proof.Proof.Seg.Tables
public import proofs.«01_k».proof.Proof.Seg.Thread
public import Idealize.ShloMosaic.Lib.Ring

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## The result -/

/-- The tokens of row `s`, in turn. -/
def toksOf (I V : S6x256.Idx → BitVec 32) (s : ℕ) : List ℕ := toks (fun t => I (tix t) ≠ 0#32) (fun t => (V (tix t)).toNat) 1536 s

/-- The blocks up to the last row any token goes to. -/
def liveB (V : S6x256.Idx → BitVec 32) : ℕ := (mx (fun t => (V (tix t)).toNat) 1536 + 7) / 8

def outF (f : S144x392x128.Idx → BitVec 32) (S : S6x256.Idx → F .f32) (I V : S6x256.Idx → BitVec 32) : S192x144x8x128.Idx → F .f32 := fun i =>
  if (pB i).val < liveB V then outV f S (toksOf I V (8 * (pB i).val + (pR i).val)) (pJ i) (pL i) else zer

/-- What the kernel leaves: a row's tokens scaled and added in turn, and zeros past the last row. -/
def outO (C : S384x18432.Idx → BitVec 32) (S : S6x256.Idx → F .f32) (I V : S6x256.Idx → BitVec 32) : S192x144x8x128.Idx → F .f32 :=
  outF (staged C fun _ => 0#32) S I V

theorem toksOf_lt {I V : S6x256.Idx → BitVec 32} {s t : ℕ} (h : t ∈ toksOf I V s) : t < 1536 := (mem_toks _ _ (Nat.le_refl _) h).2.1

theorem staged_row (C : S384x18432.Idx → BitVec 32) (f f' : S144x392x128.Idx → BitVec 32) (j : Fin 144) (r : Fin 392) (hr : r.val < 384) (l : Fin 128) :
    staged C f (cIdx j r l) = staged C f' (cIdx j r l) := by
  unfold staged
  rw [if_pos (show (sR (cIdx j r l)).val < 384 from hr), if_pos (show (sR (cIdx j r l)).val < 384 from hr)]

theorem tokV_staged (C : S384x18432.Idx → BitVec 32) (f f' : S144x392x128.Idx → BitVec 32) (S : S6x256.Idx → F .f32) {t : ℕ} (ht : t < 1536) :
    tokV (staged C f) S t = tokV (staged C f') S t := by
  funext j l
  unfold tokV
  rw [staged_row C f f' j _ (show t / 4 % 392 < 384 by omega) l]

theorem outV_staged (C : S384x18432.Idx → BitVec 32) (f f' : S144x392x128.Idx → BitVec 32) (S : S6x256.Idx → F .f32) {L : List ℕ}
    (hL : ∀ t ∈ L, t < 1536) (j : Fin 144) (l : Fin 128) : outV (staged C f) S L j l = outV (staged C f') S L j l := by
  have key : ∀ (T : List ℕ) (a : F .f32), (∀ t ∈ T, t < 1536) → T.foldl (fun acc t => FloatOps.addf acc (tokV (staged C f) S t j l)) a
      = T.foldl (fun acc t => FloatOps.addf acc (tokV (staged C f') S t j l)) a := by
    intro T
    induction T with
    | nil => intro a _; rfl
    | cons t T ih =>
      intro a h
      rw [List.foldl_cons, List.foldl_cons, tokV_staged C f f' S (h t List.mem_cons_self)]
      exact ih _ fun t ht => h t (List.mem_cons_of_mem _ ht)
  unfold outV
  rw [key _ _ fun t ht => hL t (List.mem_of_mem_tail ht)]
  cases L with
  | nil => exact congrArg (fun x => FloatOps.mulf (decW x (shN 0)) (Scalar.ofBits .f32 0x00000000#32)) (staged_row C f f' j _ (show 0 < 384 by omega) l)
  | cons t L => rw [show headV (staged C f) S (t :: L) = headV (staged C f') S (t :: L) from tokV_staged C f f' S (hL t List.mem_cons_self)]

theorem outF_staged (C : S384x18432.Idx → BitVec 32) (f f' : S144x392x128.Idx → BitVec 32) (S : S6x256.Idx → F .f32) (I V : S6x256.Idx → BitVec 32) :
    outF (staged C f) S I V = outF (staged C f') S I V := by
  funext i
  unfold outF
  split
  · exact outV_staged C f f' S (fun t ht => toksOf_lt ht) _ _
  · rfl

variable (c : Dev nD) (bd : Option ℕ)

/-! ## The ring, whole -/

def anySlots : sProp 𝕄 := iprop(∃ f : Buf (Elt F) ((c : Thread nD τ).loc cc0_scratch1), ((c : Thread nD τ).loc cc0_scratch1) ↦{fullShare} f)

def ringSems : sProp 𝕄 := bigSep (Finset.univ : Finset (Fin 24)) fun s => semVal ((c : Thread nD τ), .dma (semS s)) 0

omit [FloatOps F] in
theorem slots_disj (t t' : Fin 24) (hne : t ≠ t') : Disjoint (slotSet t) (slotSet t') := by
  rw [Finset.disjoint_left]
  intro i h h'
  rw [mem_slotSet] at h h'
  exact hne (h.symm.trans h')

omit [FloatOps F] in
theorem pieces_disj (t t' : Fin 192) (hne : t ≠ t') : Disjoint (pieceSet t) (pieceSet t') := by
  rw [Finset.disjoint_left]
  intro i h h'
  rw [mem_pieceSet] at h h'
  exact hne (h.symm.trans h')

theorem slot_free (f : S24x144x8x128.Idx → F .f32) (s : Fin 24) :
    (iprop((((c : Thread nD τ).loc cc0_scratch1) ↦[slotSet s]{fullShare} (f : Buf (Elt F) ((c : Thread nD τ).loc cc0_scratch1)))
      ∗ semVal ((c : Thread nD τ), .dma (semS s)) 0) : sProp 𝕄) ⊢ freeAt (F := F) c s := by
  unfold freeAt
  iintro ⟨H, HS⟩
  iexists (fun r j l => f (oIdx s j r l))
  isplitl [H]
  · unfold slotPts
    iapply (Entails.of_eq (pointsTo_congr fun i hi => ?_)) $$ H
    rw [mem_slotSet] at hi
    show f i = f (oIdx s (eJ i) (eR i) (eL i))
    rw [← hi, oIdx_eta]
  · iexact HS

theorem free_slot (s : Fin 24) : freeAt (F := F) c s
    ⊢ (iprop((∃ f : Buf (Elt F) ((c : Thread nD τ).loc cc0_scratch1), ((c : Thread nD τ).loc cc0_scratch1) ↦[slotSet s]{fullShare} f)
        ∗ semVal ((c : Thread nD τ), .dma (semS s)) 0) : sProp 𝕄) := by
  unfold freeAt slotPts
  iintro ⟨%G, H, HS⟩
  isplitl [H]
  · iexists _; iexact H
  · iexact HS

theorem slots_start : iprop(anySlots (F := F) c ∗ ringSems (F := F) c) ⊢ bigSep (Finset.univ : Finset (Fin 24)) (freeAt (F := F) c) := by
  have key : ∀ f : Buf (Elt F) ((c : Thread nD τ).loc cc0_scratch1),
      iprop(bigSep (Finset.univ : Finset (Fin 24)) (fun s => ((c : Thread nD τ).loc cc0_scratch1) ↦[slotSet s]{fullShare} f)
        ∗ bigSep (Finset.univ : Finset (Fin 24)) (fun s => semVal ((c : Thread nD τ), .dma (semS s)) 0))
        ⊢ bigSep (Finset.univ : Finset (Fin 24)) (freeAt (F := F) c) := fun f =>
    (Entails.of_eq (BI.bigSep_sep _ (fun s : Fin 24 => ((c : Thread nD τ).loc cc0_scratch1) ↦[slotSet s]{fullShare} f)
      (fun s => semVal ((c : Thread nD τ), .dma (semS s)) 0)).symm).trans (BI.bigSep_mono fun s _ => slot_free c f s)
  unfold anySlots ringSems
  iintro ⟨⟨%f, H⟩, HS⟩
  ihave H := (Entails.of_eq (pts_pieces (ℓ := (c : Thread nD τ).loc cc0_scratch1) f slotSet slots_disj
    (fun i : S24x144x8x128.Idx => ⟨eS i, mem_slotSet.mpr rfl⟩))) $$ H
  iapply (key f)
  isplitl [H]; · iexact H
  iexact HS

theorem slots_end : bigSep (Finset.univ : Finset (Fin 24)) (freeAt (F := F) c) ⊢ iprop(anySlots (F := F) c ∗ ringSems (F := F) c) := by
  classical
  have st := BI.bigSep_mono (s := (Finset.univ : Finset (Fin 24))) fun s _ => free_slot (F := F) c s
  refine st.trans ((Entails.of_eq (BI.bigSep_sep _ (fun s : Fin 24 => iprop(∃ f : Buf (Elt F) ((c : Thread nD τ).loc cc0_scratch1), ((c : Thread nD τ).loc cc0_scratch1) ↦[slotSet s]{fullShare} f))
      (fun s => semVal ((c : Thread nD τ), .dma (semS s)) 0))).trans (BI.sep_mono ?_ (Entails.refl _)))
  unfold anySlots
  have f₀ : F .f32 := zer
  exact (Ring.pointsTo_sub_blocks_join_exists slotSet slots_disj Finset.univ
    (Finset.eq_univ_iff_forall.mpr fun i : S24x144x8x128.Idx => Finset.mem_biUnion.mpr ⟨eS i, Finset.mem_univ _, mem_slotSet.mpr rfl⟩)
    (ℓ := (c : Thread nD τ).loc cc0_scratch1) (fun _ : S24x144x8x128.Idx => f₀))

/-- Any 24 slots in a row are all of them. -/
theorem slots_turn (v : ℕ) : bigSep (Finset.Ico v (v + 24)) (fun k => freeAt (F := F) c (slotN k)) = bigSep (Finset.univ : Finset (Fin 24)) (freeAt (F := F) c) := by
  classical
  have inj : Set.InjOn slotN (Finset.Ico v (v + 24) : Finset ℕ) := by
    intro a ha b hb h
    have h := congrArg Fin.val h
    rw [Finset.mem_coe, Finset.mem_Ico] at ha hb
    have h : a % 24 = b % 24 := h
    omega
  rw [← BI.bigSep_image_of_injOn inj]
  congr 1
  refine Finset.eq_univ_of_card _ ?_
  rw [Finset.card_image_of_injOn inj, Nat.card_Ico, Fintype.card_fin]
  omega

/-! ## The result, whole -/

def anyOut : sProp 𝕄 := iprop(∃ f : Buf (Elt F) ((c : Thread nD τ).loc main_v3), ((c : Thread nD τ).loc main_v3) ↦{fullShare} f)

def outPts (O : S192x144x8x128.Idx → F .f32) : sProp 𝕄 :=
  ((c : Thread nD τ).loc main_v3) ↦{fullShare} (O : Buf (Elt F) ((c : Thread nD τ).loc main_v3))

omit [FloatOps F] in
theorem out_split (f : S192x144x8x128.Idx → F .f32) : outPts c f = bigSep (Finset.range 192) (fun q => piecePts c (blkN q) f) := by
  rw [← fin_range]
  unfold outPts piecePts
  refine (pts_pieces (ℓ := (c : Thread nD τ).loc main_v3) f pieceSet pieces_disj
    (fun i : S192x144x8x128.Idx => ⟨pB i, mem_pieceSet.mpr rfl⟩)).trans (BI.bigSep_congr fun j _ => ?_)
  rw [show blkN j.val = j from Fin.ext (blkN_val j.isLt)]

omit [FloatOps F] in
theorem piece_any (f : S192x144x8x128.Idx → F .f32) (q : ℕ) : piecePts c (blkN q) f ⊢ anyPiece (F := F) c q := by
  unfold anyPiece; iintro H; iexists _; iexact H

omit [FloatOps F] in
theorem out_any : anyOut (F := F) c ⊢ bigSep (Finset.range 192) (anyPiece (F := F) c) := by
  have key : ∀ f : S192x144x8x128.Idx → F .f32, bigSep (Finset.range 192) (fun q => piecePts c (blkN q) f) ⊢ bigSep (Finset.range 192) (anyPiece (F := F) c) :=
    fun f => BI.bigSep_mono fun q _ => piece_any c f q
  unfold anyOut
  iintro ⟨%f, H⟩
  ihave H := (Entails.of_eq (show (((c : Thread nD τ).loc main_v3) ↦{fullShare} f : sProp 𝕄) = _ from out_split (F := F) c f)) $$ H
  iapply (key f) $$ H

/-- The ring before the first block. -/
theorem ring_start (O : S192x144x8x128.Idx → F .f32) :
    iprop(anySlots (F := F) c ∗ ringSems (F := F) c ∗ anyOut (F := F) c ∗ anyOwes (F := F) c) ⊢ ringRes c O 0 := by
  unfold ringRes
  iintro ⟨HA, HS, HO, HW⟩
  ihave H := (slots_start (F := F) c) $$ [HA HS]
  · isplitl [HA]; · iexact HA
    iexact HS
  ihave H := (Entails.of_eq (show bigSep (Finset.univ : Finset (Fin 24)) (freeAt (F := F) c)
      = iprop(bigSep (Finset.Ico 0 23) (mid c O) ∗ last c O 0) by
    rw [← slots_turn c 0, show 0 + 24 = 23 + 1 from rfl, ico_last (a := 0) (b := 23) (by omega)]
    have e : bigSep (Finset.Ico 0 23) (fun k => freeAt (F := F) c (slotN k)) = bigSep (Finset.Ico 0 23) (mid c O) :=
      BI.bigSep_congr fun k hk => by unfold mid; rw [if_pos (by rw [Finset.mem_Ico] at hk; omega)]
    rw [e]
    unfold last
    rw [if_pos rfl]
    exact BI.Entails.antisymm BI.sep_comm BI.sep_comm)) $$ H
  icases H with ⟨HM, HL⟩
  isplitl [HM]; · iexact HM
  isplitl [HL]; · iexact HL
  isplitl [HO]
  · iapply (out_any (F := F) c) $$ HO
  isplitr
  · rw [show Finset.range (0 - 24) = ∅ from rfl, BI.bigSep_empty]; iempintro
  iexact HW

end Cert.Proof.Seg
-- ==== Proof.Seg.Whole.lean ====
/-
  The kernel's body, from the buffers at anything to the result (`wp_body`).
-/
module

public import proofs.«01_k».proof.Proof.Seg.Run

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-- A table of words, by number. -/
def byNum1537 (f : S1537.Idx → BitVec 32) (n : ℕ) : BitVec 32 :=
  if hn : n < 1537 then f (fun a => match a with | ⟨0, _⟩ => (⟨n, hn⟩ : Fin 1537)) else 0#32

theorem byNum1537_eq (f : S1537.Idx → BitVec 32) (i : S1537.Idx) : byNum1537 f (i 0).val = f i := by
  have h : (i 0).val < 1537 := (i 0).isLt
  unfold byNum1537
  rw [dif_pos h]
  congr 1
  funext a
  rcases a with ⟨_ | n, hn⟩
  · rfl
  · exact absurd hn (show ¬ n + 1 < 1 by omega)

/-- A table of words, by number. -/
def byNum193 (f : S193.Idx → BitVec 32) (n : ℕ) : BitVec 32 :=
  if hn : n < 193 then f (fun a => match a with | ⟨0, _⟩ => (⟨n, hn⟩ : Fin 193)) else 0#32

theorem byNum193_eq (f : S193.Idx → BitVec 32) (i : S193.Idx) : byNum193 f (i 0).val = f i := by
  have h : (i 0).val < 193 := (i 0).isLt
  unfold byNum193
  rw [dif_pos h]
  congr 1
  funext a
  rcases a with ⟨_ | n, hn⟩
  · rfl
  · exact absurd hn (show ¬ n + 1 < 1 by omega)

variable (c : Dev nD) (bd : Option ℕ)

def anyCodes : sProp 𝕄 := iprop(∃ f : Buf (Elt F) ((c : Thread nD τ).loc cc0_scratch0), ((c : Thread nD τ).loc cc0_scratch0) ↦{fullShare} f)

def anyHeads : sProp 𝕄 := iprop(∃ f : Buf (Elt F) ((c : Thread nD τ).loc cc0_scratch6), ((c : Thread nD τ).loc cc0_scratch6) ↦{fullShare} f)

omit [FloatOps F] in
theorem heads_any (h : ℕ → BitVec 32) : hdPts (F := F) c h ⊢ anyHeads (F := F) c := by
  unfold anyHeads hdPts; iintro H; iexists _; iexact H

omit [FloatOps F] in
theorem any_heads : anyHeads (F := F) c ⊢ iprop(∃ h, hdPts (F := F) c h) := by
  unfold anyHeads hdPts
  iintro ⟨%f, H⟩
  iexists byNum1537 f
  iapply (Entails.of_eq (pointsTo_congr fun i _ => (byNum1537_eq f i).symm)) $$ H

def anyChains : sProp 𝕄 := iprop(∃ f : Buf (Elt F) ((c : Thread nD τ).loc cc0_scratch7), ((c : Thread nD τ).loc cc0_scratch7) ↦{fullShare} f)

omit [FloatOps F] in
theorem chains_any (h : ℕ → BitVec 32) : xhPts (F := F) c h ⊢ anyChains (F := F) c := by
  unfold anyChains xhPts; iintro H; iexists _; iexact H

omit [FloatOps F] in
theorem any_chains : anyChains (F := F) c ⊢ iprop(∃ h, xhPts (F := F) c h) := by
  unfold anyChains xhPts
  iintro ⟨%f, H⟩
  iexists byNum193 f
  iapply (Entails.of_eq (pointsTo_congr fun i _ => (byNum193_eq f i).symm)) $$ H

def anyLinks : sProp 𝕄 := iprop(∃ f : Buf (Elt F) ((c : Thread nD τ).loc cc0_scratch8), ((c : Thread nD τ).loc cc0_scratch8) ↦{fullShare} f)

omit [FloatOps F] in
theorem links_any (h : ℕ → BitVec 32) : nxPts (F := F) c h ⊢ anyLinks (F := F) c := by
  unfold anyLinks nxPts; iintro H; iexists _; iexact H

omit [FloatOps F] in
theorem any_links : anyLinks (F := F) c ⊢ iprop(∃ h, nxPts (F := F) c h) := by
  unfold anyLinks nxPts
  iintro ⟨%f, H⟩
  iexists byNum1537 f
  iapply (Entails.of_eq (pointsTo_congr fun i _ => (byNum1537_eq f i).symm)) $$ H

/-- The kernel's own buffers, at anything. -/
def ownBufs : sProp 𝕄 :=
  iprop(anyCodes (F := F) c ∗ anySlots (F := F) c ∗ anyZeros (F := F) c ∗ anyScales (F := F) c ∗ anyIds (F := F) c ∗ anyRows (F := F) c
    ∗ anyHeads (F := F) c ∗ anyChains (F := F) c ∗ anyLinks (F := F) c)

/-- Its semaphores, at zero. -/
def ownSems : sProp 𝕄 :=
  iprop(semVal ((c : Thread nD τ), .dma cc0_scratch9.sem) 0 ∗ semVal ((c : Thread nD τ), .dma cc0_scratch10.sem) 0
    ∗ semVal ((c : Thread nD τ), .dma cc0_scratch11.sem) 0 ∗ semVal ((c : Thread nD τ), .dma cc0_scratch12.sem) 0
    ∗ ringSems (F := F) c ∗ semVal ((c : Thread nD τ), .dma cc0_scratch14.sem) 0)

/-- What it reads. -/
def inBufs (C : S384x18432.Idx → BitVec 32) (S : S6x256.Idx → F .f32) (I V : S6x256.Idx → BitVec 32) : sProp 𝕄 :=
  iprop(wPts (F := F) c C ∗ srcScales (F := F) c S ∗ srcIds (F := F) c I ∗ srcRows (F := F) c V)

theorem batch_start (C : S384x18432.Idx → BitVec 32) (f : S144x392x128.Idx → BitVec 32) :
    (semVal ((c : Thread nD τ), .dma cc0_scratch9.sem) 0 : sProp 𝕄) ⊢ |={Set.univ}=> rBatch (F := F) c C f 0 0 := by
  unfold rBatch
  exact Transfers.batch_alloc' (EC (F := F)) (c : Thread nD τ) () readN (fun j : Fin 144 => rDel c C f j.val)

variable (C : S384x18432.Idx → BitVec 32) (S : S6x256.Idx → F .f32) (I V : S6x256.Idx → BitVec 32)

theorem outF_piece (f : S144x392x128.Idx → BitVec 32) {m : ℕ} (hm : m = liveB V) (hm' : m ≤ 192) :
    ∀ q < m, ∀ r j l, outF f S I V (pIdx (blkN q) j r l)
      = outV f S (toks (fun t => I (tix t) ≠ 0#32) (fun t => (V (tix t)).toNat) 1536 (8 * q + r.val)) j l := by
  intro q hq r j l
  have e : (pB (pIdx (blkN q) j r l)).val = q := blkN_val (by omega)
  unfold outF
  rw [e, if_pos (by omega)]
  rfl

theorem outF_rest (f : S144x392x128.Idx → BitVec 32) {m : ℕ} (hm : m = liveB V) :
    ∀ q, m ≤ q → q < 192 → ∀ i ∈ pieceSet (blkN q), outF f S I V i = zer := by
  intro q hq hq' i hi
  rw [mem_pieceSet] at hi
  unfold outF
  rw [hi, blkN_val hq', if_neg (by omega)]

/-- The blocks and what comes after them. -/
theorem wp_tail (hV : ∀ t, (V (tix t)).toNat < 1536) (hbd : ∀ u ∈ bd, (𝒱₀ : Variants).lt (2000 * 192 : ℕ) u) (f : S144x392x128.Idx → BitVec 32) (h xh nx : ℕ → BitVec 32)
    (n : BitVec 32) (T : Threaded (fun t => I (tix t) ≠ 0#32) (fun t => (V (tix t)).toNat) 1536 h nx xh)
    (en : n.toNat = mx (fun t => (V (tix t)).toNat) 1536) (hc : k0_chk14 n) (Q : PUnit → sProp 𝕄) :
    iprop(tabRes c f S V h xh nx ∗ ringRes c (outF f S I V) 0 ∗ zPts (F := F) c fullShare ∗ semVal ((c : Thread nD τ), .dma cc0_scratch14.sem) 0
        ∗ (tabRes c f S V h xh nx -∗ endRes c (outF f S I V) (liveN n) -∗ Q ⟨⟩))
      ⊢ W c bd (.op (.call (1 : (Λ₀ F).Label) (blockArg (liveOf n) 0#32)) fun (_ : BitVec 32) => finish n hc) Q := by
  have hn : n.toNat ≤ 1536 := by rw [en]; exact mx_le _ hV _
  have h0 : 0 < liveN n := by
    have := lt_mx (fun t => (V (tix t)).toNat) 1536 0 (by omega) (by omega)
    unfold liveN; omega
  have el : liveN n = liveB V := by unfold liveN liveB; rw [en]
  have hl := liveN_le hn
  have eo := liveOf_toNat hn
  unfold W
  iintro ⟨HT, HR, HZ, HS, Hk⟩
  iapply (wp_call 𝒱₀ (c : Thread nD τ) bd Set.univ (ℓ := (1 : (Λ₀ F).Label)) (2000 * 192 : ℕ) hbd)
  iapply (wp_blocks c f S V T (outF f S I V) (liveOf n) (by omega) (by rw [eo]; exact outF_piece S I V f el hl) (liveN n) 0#32 (2000 * 192) _
    (by rw [eo]; show 0 + liveN n = liveN n; omega) (by omega))
  isplitl [HT]; · iexact HT
  isplitl [HR]; · iexact HR
  iintro %r ⟨HT, HR⟩
  ihave HR := (Entails.of_eq (congrArg (ringRes c (outF f S I V)) eo)) $$ HR
  iapply (wp_finish c bd (outF f S I V) n hn hc h0 (outF_rest S I V f el) Q)
  isplitl [HR]; · iexact HR
  isplitl [HZ]; · iexact HZ
  isplitl [HS]; · iexact HS
  iapply Hk; iexact HT

theorem wp_body (hV : ∀ t, (V (tix t)).toNat < 1536) (hbd : ∀ u ∈ bd, (𝒱₀ : Variants).lt (2000 * 192 : ℕ) u) (Q : PUnit → sProp 𝕄) :
    iprop(ownBufs (F := F) c ∗ ownSems (F := F) c ∗ inBufs c C S I V ∗ anyOut (F := F) c ∗ anyOwes (F := F) c
        ∗ ((ownBufs (F := F) c ∗ ownSems (F := F) c ∗ inBufs c C S I V ∗ outPts c (outO C S I V) ∗ anyOwes (F := F) c) -∗ Q ⟨⟩))
      ⊢ W c bd body Q := by
  unfold ownBufs ownSems inBufs body startTables clearAll waitTables
  iintro ⟨⟨HCo, HSl, HZ, HSc, HId, HRw, HHd, HCh, HLk⟩, ⟨S9, S10, S11, S12, SR, S14⟩, ⟨HW, ISc, IId, IRw⟩, HOut, HO, Hk⟩
  -- the tables' copies
  iapply (wp_startRows c bd V _ Q)
  isplitl [IRw]; · iexact IRw
  isplitl [HRw]; · iexact HRw
  isplitl [S10]; · iexact S10
  iintro FRw
  iapply (wp_startIds c bd I _ Q)
  isplitl [IId]; · iexact IId
  isplitl [HId]; · iexact HId
  isplitl [S11]; · iexact S11
  iintro FId
  iapply (wp_startScales c bd S _ Q)
  isplitl [ISc]; · iexact ISc
  isplitl [HSc]; · iexact HSc
  isplitl [S12]; · iexact S12
  iintro FSc
  -- the rows' copies
  unfold anyCodes
  icases HCo with ⟨%f₀, HCo⟩
  ihave HCo := (Entails.of_eq (show (((c : Thread nD τ).loc cc0_scratch0) ↦{fullShare} f₀ : sProp 𝕄)
    = iprop(bigSep (Finset.range 144) (stagePts (F := F) c f₀) ∗ padPts (F := F) c f₀) from cPts_split (F := F) c f₀)) $$ HCo
  icases HCo with ⟨HSt, HPad⟩
  ihave HW := (Entails.of_eq (wPts_split (F := F) c C)) $$ HW
  iapply (fupd_wp frame (wpE (defs₀ (F := F)) 𝒱₀ (c : Thread nD τ) bd) Set.univ _ _)
  imod (batch_start (F := F) c C f₀) $$ S9 with HB
  imodintro
  iapply (wp_startReads c bd C f₀ 144 0 (Nat.le_refl 144) _ Q)
  isplitl [HW]
  · iapply (Entails.of_eq (show bigSep (Finset.range 144) (codePts (F := F) c C) = bigSep (Finset.Ico 0 (0 + 144)) (codePts (F := F) c C) by rw [Finset.range_eq_Ico])) $$ HW
  isplitl [HSt]
  · iapply (Entails.of_eq (show bigSep (Finset.range 144) (stagePts (F := F) c f₀) = bigSep (Finset.Ico 0 (0 + 144)) (stagePts (F := F) c f₀) by rw [Finset.range_eq_Ico])) $$ HSt
  isplitl [HB]; · iexact HB
  iintro HB
  -- zeros and cleared tables
  iapply (wp_zeroBuf c bd _ Q)
  isplitl [HZ]; · iexact HZ
  iintro HZ
  ihave HHd := (any_heads (F := F) c) $$ HHd
  icases HHd with ⟨%h₀, HHd⟩
  iapply (wp_clearHeads c bd h₀ _ Q)
  isplitl [HHd]; · iexact HHd
  iintro %h₁ %hh HHd
  ihave HCh := (any_chains (F := F) c) $$ HCh
  icases HCh with ⟨%x₀, HCh⟩
  iapply (wp_clearChains c bd x₀ _ Q)
  isplitl [HCh]; · iexact HCh
  iintro %x₁ %hx HCh
  -- the tables
  iapply (wp_waitRows c bd V _ Q)
  isplitl [FRw]; · iexact FRw
  isplitl [HO]; · iexact HO
  iintro ⟨HRw, IRw, S10, HO⟩
  iapply (wp_waitIds c bd I _ Q)
  isplitl [FId]; · iexact FId
  isplitl [HO]; · iexact HO
  iintro ⟨HId, IId, S11, HO⟩
  iapply (wp_waitScales c bd S _ Q)
  isplitl [FSc]; · iexact FSc
  isplitl [HO]; · iexact HO
  iintro ⟨HSc, ISc, S12, HO⟩
  -- the threading
  ihave HLk := (any_links (F := F) c) $$ HLk
  icases HLk with ⟨%n₀, HLk⟩
  iapply (wp_thread c bd I V hV h₁ x₁ n₀ hh hx _ Q)
  unfold thrRes
  isplitl [HRw HId HHd HCh HLk]
  · isplitl [HRw]; · iexact HRw
    isplitl [HId]; · iexact HId
    isplitl [HHd]; · iexact HHd
    isplitl [HCh]; · iexact HCh
    iexact HLk
  iintro %n %h %xh %nx %T ⟨HRw, HId, HHd, HCh, HLk⟩
  have hn : n.toNat ≤ 1536 := by rw [T.2]; exact mx_le _ hV _
  have h0 : 0 < liveN n := by
    have := lt_mx (fun t => (V (tix t)).toNat) 1536 0 (by omega) (by omega)
    have := T.2
    unfold liveN; omega
  have hc : k0_chk14 n := chk14_of hn h0
  iapply (show W c bd _ Q ⊢ W c bd (.op (.assume (k0_chk14 n) (k0_chk14.dec n)) _) Q from wp_assume 𝒱₀ (c : Thread nD τ) bd Set.univ hc)
  -- the rows
  iapply (wp_waitReads c bd C f₀ 144 0 (Nat.le_refl 144) _ Q)
  isplitl [HB]
  · iapply (show rBatch (F := F) c C f₀ (0 + 144) 0 ⊢ rWaits (F := F) c C f₀ 0 by
      unfold rWaits; rw [if_pos (by omega), Nat.zero_mul]) $$ HB
  isplitl [HO]; · iexact HO
  iintro ⟨HB, HO⟩
  ihave HB := (rDone (F := F) c C f₀) $$ [HB HPad]
  · isplitl [HB]; · iexact HB
    iexact HPad
  icases HB with ⟨HCo, HW, S9⟩
  ihave HR := (ring_start c (outF (staged C f₀) S I V)) $$ [HSl SR HOut HO]
  · isplitl [HSl]; · iexact HSl
    isplitl [SR]; · iexact SR
    isplitl [HOut]; · iexact HOut
    iexact HO
  -- the blocks
  iapply (wp_tail c bd S I V hV hbd (staged C f₀) h xh nx n T.1 T.2 hc Q)
  unfold tabRes
  isplitl [HCo HSc HRw HHd HCh HLk]
  · isplitl [HCo]; · iexact HCo
    isplitl [HSc]; · iexact HSc
    isplitl [HRw]; · iexact HRw
    isplitl [HHd]; · iexact HHd
    isplitl [HCh]; · iexact HCh
    iexact HLk
  isplitl [HR]; · iexact HR
  isplitl [HZ]; · iexact HZ
  isplitl [S14]; · iexact S14
  unfold endRes
  iintro ⟨HCo, HSc, HRw, HHd, HCh, HLk⟩ ⟨HD, HF, HZ, S14, HO⟩
  ihave HF := (Entails.of_eq (slots_turn (F := F) c (liveN n))) $$ HF
  ihave HF := (slots_end (F := F) c) $$ HF
  icases HF with ⟨HSl, SR⟩
  iapply Hk
  isplitl [HCo HSl HZ HSc HId HRw HHd HCh HLk]
  · isplitl [HCo]
    · unfold cPts; iexists _; iexact HCo
    isplitl [HSl]; · iexact HSl
    isplitl [HZ]
    · unfold anyZeros zPts; iexists _; iexact HZ
    isplitl [HSc]
    · unfold anyScales scPts; iexists _; iexact HSc
    isplitl [HId]
    · unfold anyIds idPts; iexists _; iexact HId
    isplitl [HRw]
    · unfold anyRows rwPts; iexists _; iexact HRw
    isplitl [HHd]
    · iapply (heads_any (F := F) c h) $$ HHd
    isplitl [HCh]
    · iapply (chains_any (F := F) c xh) $$ HCh
    iapply (links_any (F := F) c nx) $$ HLk
  isplitl [S9 S10 S11 S12 SR S14]
  · isplitl [S9]; · iexact S9
    isplitl [S10]; · iexact S10
    isplitl [S11]; · iexact S11
    isplitl [S12]; · iexact S12
    isplitl [SR]; · iexact SR
    iexact S14
  isplitl [HW ISc IId IRw]
  · isplitl [HW]; · iexact HW
    isplitl [ISc]; · iexact ISc
    isplitl [IId]; · iexact IId
    iexact IRw
  isplitl [HD]
  · iapply (Entails.of_eq (show bigSep (Finset.range 192) (donePiece c (outF (staged C f₀) S I V)) = outPts c (outO C S I V) by
      rw [outF_staged C f₀ (fun _ => 0#32) S I V, out_split]; rfl)) $$ HD
  iexact HO

end Cert.Proof.Seg
-- ==== Proof.Seg.Launch.lean ====
/-
  The launch: the whole program runs, its arguments end as they began, its semaphores end at zero, and its result is
  what the body leaves, transposed and reshaped (`run_main`, `frame`, `value`).
-/
module

public import proofs.«01_k».proof.Proof.Seg.Whole
public import proofs.«01_k».proof.Proof.Gen.KernelIdeal.Launch
public import proofs.«01_k».proof.Proof.Gen.KernelIdeal.Points
public import Idealize.ShloMosaic.Lib.Pipeline.FrameSuffixV

@[expose] public section

noncomputable section

namespace Cert.Proof.Seg

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ (Pipeline.UD sig nD τ) ℕ

abbrev spec0 := (cfg0 (F := F)).spec

/-- The kernel's own semaphores, in order. -/
abbrev osem : Fin 29 → SemLoc sig := fun j => SemLoc.dma j

theorem ownSemFacts0 : Pipeline.OwnSemFacts (spec0 (F := F)) osem :=
  ⟨by decide, by decide, fun _ w => w.elim0⟩

variable (c : Dev nD)

omit [FloatOps F] in
theorem ringSems_eq : ringSems (F := F) c = iprop(semVal ((c : Thread nD τ), .dma (semS 0)) 0 ∗ semVal ((c : Thread nD τ), .dma (semS 1)) 0 ∗ semVal ((c : Thread nD τ), .dma (semS 2)) 0 ∗ semVal ((c : Thread nD τ), .dma (semS 3)) 0 ∗ semVal ((c : Thread nD τ), .dma (semS 4)) 0 ∗ semVal ((c : Thread nD τ), .dma (semS 5)) 0 ∗ semVal ((c : Thread nD τ), .dma (semS 6)) 0 ∗ semVal ((c : Thread nD τ), .dma (semS 7)) 0 ∗ semVal ((c : Thread nD τ), .dma (semS 8)) 0 ∗ semVal ((c : Thread nD τ), .dma (semS 9)) 0 ∗ semVal ((c : Thread nD τ), .dma (semS 10)) 0 ∗ semVal ((c : Thread nD τ), .dma (semS 11)) 0 ∗ semVal ((c : Thread nD τ), .dma (semS 12)) 0 ∗ semVal ((c : Thread nD τ), .dma (semS 13)) 0 ∗ semVal ((c : Thread nD τ), .dma (semS 14)) 0 ∗ semVal ((c : Thread nD τ), .dma (semS 15)) 0 ∗ semVal ((c : Thread nD τ), .dma (semS 16)) 0 ∗ semVal ((c : Thread nD τ), .dma (semS 17)) 0 ∗ semVal ((c : Thread nD τ), .dma (semS 18)) 0 ∗ semVal ((c : Thread nD τ), .dma (semS 19)) 0 ∗ semVal ((c : Thread nD τ), .dma (semS 20)) 0 ∗ semVal ((c : Thread nD τ), .dma (semS 21)) 0 ∗ semVal ((c : Thread nD τ), .dma (semS 22)) 0 ∗ semVal ((c : Thread nD τ), .dma (semS 23)) 0) := by
  unfold ringSems
  exact BI.bigSep_univ_eq_bigSepL [0, 1, 2, 3, 4, 5, 6, 7, 8, 9, 10, 11, 12, 13, 14, 15, 16, 17, 18, 19, 20, 21, 22, 23] (by decide) (by decide) _

omit [FloatOps F] in
theorem allSems_eq : (Pipeline.ownSems0 (Ix := Unit) (Name := ℕ) (U := Pipeline.UD sig nD τ) (Lvl := ℕ) (Val := Elt F) (τ := τ) osem c : sProp 𝕄)
    = iprop(semVal ((c : Thread nD τ), .dma cc0_scratch9.sem) 0 ∗ semVal ((c : Thread nD τ), .dma cc0_scratch10.sem) 0 ∗ semVal ((c : Thread nD τ), .dma cc0_scratch11.sem) 0 ∗ semVal ((c : Thread nD τ), .dma cc0_scratch12.sem) 0 ∗ semVal ((c : Thread nD τ), .dma (semS 0)) 0 ∗ semVal ((c : Thread nD τ), .dma (semS 1)) 0 ∗ semVal ((c : Thread nD τ), .dma (semS 2)) 0 ∗ semVal ((c : Thread nD τ), .dma (semS 3)) 0 ∗ semVal ((c : Thread nD τ), .dma (semS 4)) 0 ∗ semVal ((c : Thread nD τ), .dma (semS 5)) 0 ∗ semVal ((c : Thread nD τ), .dma (semS 6)) 0 ∗ semVal ((c : Thread nD τ), .dma (semS 7)) 0 ∗ semVal ((c : Thread nD τ), .dma (semS 8)) 0 ∗ semVal ((c : Thread nD τ), .dma (semS 9)) 0 ∗ semVal ((c : Thread nD τ), .dma (semS 10)) 0 ∗ semVal ((c : Thread nD τ), .dma (semS 11)) 0 ∗ semVal ((c : Thread nD τ), .dma (semS 12)) 0 ∗ semVal ((c : Thread nD τ), .dma (semS 13)) 0 ∗ semVal ((c : Thread nD τ), .dma (semS 14)) 0 ∗ semVal ((c : Thread nD τ), .dma (semS 15)) 0 ∗ semVal ((c : Thread nD τ), .dma (semS 16)) 0 ∗ semVal ((c : Thread nD τ), .dma (semS 17)) 0 ∗ semVal ((c : Thread nD τ), .dma (semS 18)) 0 ∗ semVal ((c : Thread nD τ), .dma (semS 19)) 0 ∗ semVal ((c : Thread nD τ), .dma (semS 20)) 0 ∗ semVal ((c : Thread nD τ), .dma (semS 21)) 0 ∗ semVal ((c : Thread nD τ), .dma (semS 22)) 0 ∗ semVal ((c : Thread nD τ), .dma (semS 23)) 0 ∗ semVal ((c : Thread nD τ), .dma cc0_scratch14.sem) 0) := by
  rw [Pipeline.ownSems0_eq_of_list c osem [0, 1, 2, 3, 4, 5, 6, 7, 8, 9, 10, 11, 12, 13, 14, 15, 16, 17, 18, 19, 20, 21, 22, 23, 24, 25, 26, 27, 28] (by decide) (by decide)]; rfl

omit [FloatOps F] in
theorem sems_split : (Pipeline.ownSems0 (Ix := Unit) (Name := ℕ) (U := Pipeline.UD sig nD τ) (Lvl := ℕ) (Val := Elt F) (τ := τ) osem c : sProp 𝕄)
    ⊢ ownSems (F := F) c := by
  rw [allSems_eq]; unfold ownSems; rw [ringSems_eq]
  iintro ⟨H0, H1, H2, H3, H4, H5, H6, H7, H8, H9, H10, H11, H12, H13, H14, H15, H16, H17, H18, H19, H20, H21, H22, H23, H24, H25, H26, H27, H28⟩
  isplitl [H0]; · iexact H0
  isplitl [H1]; · iexact H1
  isplitl [H2]; · iexact H2
  isplitl [H3]; · iexact H3
  isplitl [H4 H5 H6 H7 H8 H9 H10 H11 H12 H13 H14 H15 H16 H17 H18 H19 H20 H21 H22 H23 H24 H25 H26 H27]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact H28

omit [FloatOps F] in
theorem sems_join : ownSems (F := F) c
    ⊢ (Pipeline.ownSems0 (Ix := Unit) (Name := ℕ) (U := Pipeline.UD sig nD τ) (Lvl := ℕ) (Val := Elt F) (τ := τ) osem c : sProp 𝕄) := by
  rw [allSems_eq]; unfold ownSems; rw [ringSems_eq]
  iintro ⟨H0, H1, H2, H3, ⟨H4, H5, H6, H7, H8, H9, H10, H11, H12, H13, H14, H15, H16, H17, H18, H19, H20, H21, H22, H23, H24, H25, H26, H27⟩, H28⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The buffers the kernel reads, and the one it writes. -/
abbrev H0 : Finset (Ref sig .tc) := {main_v2, main_arg1, main_arg2, main_arg3}
abbrev R0 : Finset (Ref sig .tc) := {main_v3}

theorem H0_sub : H0 ⊆ Pipeline.restRefs sig (spec0 (F := F)) := by
  intro b hb
  simp only [H0, Finset.mem_insert, Finset.mem_singleton] at hb
  rcases hb with rfl | rfl | rfl | rfl <;> exact Pipeline.mem_restRefs_of _ (by decide) (fun w => w.elim0)

theorem R0_sub : R0 ⊆ Pipeline.restRefs sig (spec0 (F := F)) \ H0 := by
  intro b hb
  simp only [R0, Finset.mem_singleton] at hb
  subst hb
  exact Finset.mem_sdiff.mpr ⟨Pipeline.mem_restRefs_of _ (by decide) (fun w => w.elim0), by decide⟩

theorem pts_H0 (V : (b : Ref sig .tc) → Buf (Elt F) ((c : Thread nD τ).loc b)) :
    (bigSep H0 (fun b => ((c.tc : Thread nD τ).loc b) ↦{fullShare} V b) : sProp 𝕄)
      = inBufs c (V main_v2) (V main_arg1) (V main_arg2) (V main_arg3) :=
  BI.bigSep_eq_bigSepL_of_eq [main_v2, main_arg1, main_arg2, main_arg3] (by decide) (by decide) _

theorem pts_R0 (V : (b : Ref sig .tc) → Buf (Elt F) ((c : Thread nD τ).loc b)) :
    (bigSep R0 (fun b => ((c.tc : Thread nD τ).loc b) ↦{fullShare} V b) : sProp 𝕄) = outPts c (V main_v3) :=
  BI.bigSep_eq_bigSepL_of_eq [main_v3] (by decide) (by decide) _

theorem rest_eq : (Pipeline.scopedRest (Ix := Unit) (Name := ℕ) (U := Pipeline.UD sig nD τ) (Lvl := ℕ) (Val := Elt F) (spec0 (F := F)) c : sProp 𝕄)
    = ownBufs (F := F) c := by
  rw [Gen.scopedRest0_eq]; rfl

/-- What the kernel holds at its start and at its end, the result at what `V` or `G` says. -/
theorem region_eq (V G : (c : Dev nD) → (b : Ref sig .tc) → Buf (Elt F) ((c : Thread nD τ).loc b)) :
    (Pipeline.ΦDRV osem (spec0 (F := F)) H0 R0 V G c : sProp 𝕄)
      = iprop(ownBufs (F := F) c ∗ Pipeline.ownSems0 (Ix := Unit) (Name := ℕ) (U := Pipeline.UD sig nD τ) (Lvl := ℕ) (Val := Elt F) (τ := τ) osem c
          ∗ inBufs c (V c main_v2) (V c main_arg1) (V c main_arg2) (V c main_arg3) ∗ outPts c (G c main_v3)) := by
  unfold Pipeline.ΦDRV
  rw [rest_eq, pts_H0, pts_R0]

variable (m : (ℓ : Loc nD τ sig) → Buf (Elt F) ℓ) (ρ : Dev nD → PrngReg)

/-- The buffers as the kernel finds them. -/
abbrev V0 (c : Dev nD) : Valuation τ sig (Elt F) := StableHlo.after (List.flatten [Gen.hostOps0]) (fun b => m (c, b))
abbrev VR (c : Dev nD) (b : Ref sig .tc) : Buf (Elt F) ((c : Thread nD τ).loc b) := V0 m c (Proc.devRef .tc b)

/-- The buffers as the kernel leaves them: the result at the blocks, the rest as found. -/
def GR (c : Dev nD) (b : Ref sig .tc) : Buf (Elt F) ((c : Thread nD τ).loc b) :=
  Function.update (VR m c) main_v3
    (show Buf (Elt F) ((c : Thread nD τ).loc main_v3) from outO (VR m c main_v2) (VR m c main_arg1) (VR m c main_arg2) (VR m c main_arg3)) b

theorem GR_v3 : GR m c main_v3 = outO (VR m c main_v2) (VR m c main_arg1) (VR m c main_arg2) (VR m c main_arg3) := by
  unfold GR; exact Function.update_self ..

/-- The kernel's state before and after its one step. -/
def dats (_ : Fin 1) (c : Dev nD) : Pipeline.Dat τ (Elt F) Unit ℕ (Pipeline.UD sig nD τ) ℕ (cfg0 (F := F)) c where
  A w := w.elim0
  after w _ := w.elim0
  Φ t := if t = 0 then Pipeline.ΦDRV osem (spec0 (F := F)) H0 R0 (VR m) (VR m) c else Pipeline.ΦDRV osem (spec0 (F := F)) H0 R0 (VR m) (GR m) c
  q _ := fullShare
  owed _ := 0

theorem Φ_first (t : Fin (cfg0 (F := F)).N) : (dats m 0 c).Φ t.castSucc = Pipeline.ΦDRV osem (spec0 (F := F)) H0 R0 (VR m) (VR m) c := by
  dsimp only [dats]
  exact if_pos (by rw [Gen.fin_N0 t]; rfl)
theorem Φ_next (t : Fin (cfg0 (F := F)).N) : (dats m 0 c).Φ t.succ = Pipeline.ΦDRV osem (spec0 (F := F)) H0 R0 (VR m) (GR m) c := by
  dsimp only [dats]
  exact if_neg (Fin.succ_ne_zero t)

def bodyPre (c : Dev nD) (t : Fin (cfg0 (F := F)).N) : sProp 𝕄 :=
  iprop((dats m 0 c).Φ t.castSucc ∗ (dats m 0 c).owesAt () t.castSucc)
def bodyPost (c : Dev nD) (t : Fin (cfg0 (F := F)).N) : sProp 𝕄 :=
  iprop((dats m 0 c).Φ t.succ ∗ (dats m 0 c).owesAt () t.succ)

/-- Every row number names a row of the result. -/
def RowsOk (m : (ℓ : Loc nD τ sig) → Buf (Elt F) ℓ) : Prop :=
  ∀ (c : Dev nD) (t : ℕ), (show BitVec 32 from m ((c : Thread nD τ).loc main_arg3) (tix t)).toNat < 1536

theorem V_arg (b : Ref sig .tc) (hb : b ≠ main_v0 ∧ b ≠ main_v1 ∧ b ≠ main_v2) : VR m c b = m ((c : Thread nD τ).loc b) :=
  StableHlo.after_of_forall_not_mem (b := Proc.devRef .tc b) _ _ (List.forall_iff_forall_mem.mp (by
    simp only [Gen.hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

theorem any_of_out (O : Buf (Elt F) ((c : Thread nD τ).loc main_v3)) : outPts c O ⊢ anyOut (F := F) c := by
  unfold outPts anyOut
  iintro H; iexists O; iexact H

theorem sound_body (hm : RowsOk m) (t : Fin (cfg0 (F := F)).N) :
    bodyPre m c t ⊢ wp frame (wpE (defs₀ (F := F)) 𝒱₀ c none) Set.univ (Gen.bodyAt0 t) (fun _ => bodyPost m c t) := by
  have hV : ∀ t, ((VR m c main_arg3 : S6x256.Idx → BitVec 32) (tix t)).toNat < 1536 := by
    intro t
    rw [V_arg c m main_arg3 (by decide)]
    exact hm c t
  rw [show Gen.bodyAt0 (F := F) t = body from printed_eq]
  unfold bodyPre bodyPost
  rw [Φ_first, Φ_next, region_eq, region_eq, GR_v3]
  unfold Pipeline.Dat.owesAt Pipeline.owesWithin
  rw [show (dats m 0 c).owed t.castSucc = 0 from rfl, show (dats m 0 c).owed t.succ = 0 from rfl]
  iintro ⟨⟨HB, HS, HI, HO⟩, ⟨%w, -, HW⟩⟩
  ihave HS := (sems_split (F := F) c) $$ HS
  iapply (wp_body c none (VR m c main_v2) (VR m c main_arg1) (VR m c main_arg2) (VR m c main_arg3) hV (fun u hu => by cases hu) (fun _ => _))
  isplitl [HB]; · iexact HB
  isplitl [HS]; · iexact HS
  isplitl [HI]; · iexact HI
  isplitl [HO]
  · iapply (any_of_out c (VR m c main_v3)) $$ HO
  isplitl [HW]
  · unfold anyOwes; iexists _; iexact HW
  iintro ⟨HB, HS, HI, HO, HW⟩
  ihave HS := (sems_join (F := F) c) $$ HS
  isplitl [HB HS HI HO]
  · isplitl [HB]; · iexact HB
    isplitl [HS]; · iexact HS
    isplitl [HI]; · iexact HI
    iexact HO
  ihave HW := (Entails.of_eq (show anyOwes (F := F) c = iprop(∃ V, owes (c : Thread nD τ) 0 V) from rfl)) $$ HW
  icases HW with ⟨%w', HW⟩
  iexists w'; isplitr
  · ipureintro; exact fun _ _ => Or.inl trivial
  iexact HW

theorem defs₀_row (t : Fin (cfg0 (F := F)).N) :
    defs₀ (F := F) .tc (cfg0 (F := F)).body ((cfg0 (F := F)).bodyArgs t ((cfg0 (F := F)).slots t)) = Gen.bodyAt0 t := by
  unfold defs₀; rw [Defs.onTc_tc]

theorem pre_emp (t : Fin (cfg0 (F := F)).N) : iprop((dats m 0 c).Φ t.castSucc ∗ (dats m 0 c).owesAt () t.castSucc ∗ emp) ⊢ bodyPre m c t := by
  unfold bodyPre
  iintro ⟨H1, H2, -⟩
  isplitl [H1]; · iexact H1
  iexact H2

theorem post_emp (t : Fin (cfg0 (F := F)).N) : bodyPost m c t ⊢ iprop((dats m 0 c).Φ t.succ ∗ (dats m 0 c).owesAt () t.succ ∗ emp) := by
  unfold bodyPost
  iintro ⟨H1, H2⟩
  isplitl [H1]; · iexact H1
  isplitl [H2]; · iexact H2
  iempintro

theorem body_obligation (hm : RowsOk m) : Pipeline.BodyObligation (dats m 0 c) (defs₀ (F := F)) 𝒱₀ () Set.univ := fun t => by
  rw [Finset.univ_eq_empty, bigSep_empty, bigSep_empty, defs₀_row]
  exact triple_restated (sound_body c m hm t) rfl (pre_emp c m t) fun _ => post_emp c m t

theorem hostOps0_fresh : (Gen.hostOps0 : List (HloOp τ sig (Elt F))).Forall fun op => op.fresh = ∅ := by
  simp only [List.Forall]; repeat' constructor

theorem hostOps1_fresh : (Gen.hostOps1 : List (HloOp τ sig (Elt F))).Forall fun op => op.fresh = ∅ := by
  simp only [List.Forall]; repeat' constructor

theorem hmain : Pipeline.HMainK (Ix := Unit) (Name := ℕ) (U := Pipeline.UD sig nD τ) (Lvl := ℕ) cfgs 0 defs₀ 𝒱₀ m (main (F := F)) (VR m)
      (fun _ => Pipeline.chain ([Gen.hostOps1].map StableHlo.seq)) :=
  Pipeline.hmain_around cfgs 0 defs₀ 𝒱₀ m main [Gen.hostOps0] [Gen.hostOps1] (by simp only [List.Forall]; exact Gen.hostOps0_sub)
    (by simp only [List.Forall]; exact hostOps0_fresh) Gen.main_chain

theorem sfx_sub : ∀ ops ∈ ([Gen.hostOps1] : List (List (HloOp τ sig (Elt F)))), ∀ op ∈ ops,
    op.bufs ⊆ Pipeline.tailRefs sig Pipeline.Prefetch.none (spec0 (F := F)) := by
  rw [Pipeline.tailRefs_none (spec0 (F := F)) Gen.launch0.win.arr_unscoped]
  intro ops hops op hop
  simp only [List.mem_cons, List.mem_nil_iff, or_false] at hops
  subst hops
  exact Pipeline.sub_ucRefs op ((List.forall_iff_forall_mem.mp Gen.hostOps1_sub) op hop)

theorem sfx_fresh : ∀ ops ∈ ([Gen.hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffers after the lines behind the kernel. -/
abbrev VE (c : Dev nD) : Valuation τ sig (Elt F) :=
  StableHlo.after (List.flatten [Gen.hostOps1])
    (Pipeline.withArrays (spec0 (F := F)) c (Pipeline.withR (V0 m c) R0 c (GR m c)) fun w => (dats m 0 c).arrAt w (cfg0 (F := F)).N)

set_option backward.isDefEq.respectTransparency.types false in
set_option maxHeartbeats 800000 in
/-- The run: every buffer of the program ends at what `VE` says, every semaphore at zero. -/
theorem run_main (hm : RowsOk m) : θ_run defs (onTc (τ := τ) (main (F := F))) ⟨m, fun _ => 0, ρ⟩
    (fun r => (∀ c : Dev nD, ∀ b ∈ Pipeline.restRefs sig (spec0 (F := F)), r.2.mem ((c : Thread nD τ).loc b) = VE m c (Proc.devRef .tc b))
      ∧ r.2.sem = fun _ => 0) :=
  Pipeline.θ_run_frame_dmaR_aroundV (Q' := _) cfgs (dats m) (0 : Fin 1) Gen.launch0 osem defs₀ 𝒱₀ ownSemFacts0 H0 R0 H0_sub R0_sub m ρ main
    (hbody := fun c => (body_obligation c m hm).loose) (hshare := fun c => (dats m 0 c).share_full fun _ => rfl)
    (howed := fun _ _ => rfl) (V₀ := V0 m) (opss := [Gen.hostOps1]) (hsub := sfx_sub) (hfresh := sfx_fresh) (hkeep := fun _ _ _ _ w => w.elim0)
    (G := GR m) (hmain := hmain m) (hA := fun _ w => w.elim0)
    (hin := fun c => by dsimp only [dats]; rw [if_pos rfl])
    (hout := fun c => Entails.of_eq (Φ_next c m Gen.t0_0))
    (hQ' := fun r h => ⟨fun c => (h.1 c).2, h.2⟩)

theorem VE_arg (b : Ref sig .tc) (hb : (b ≠ main_v0 ∧ b ≠ main_v1 ∧ b ≠ main_v2) ∧ b ∉ R0 ∧ b ≠ main_v4 ∧ b ≠ main_v5) :
    VE m c (Proc.devRef .tc b) = m ((c : Thread nD τ).loc b) := by
  unfold VE
  rw [StableHlo.after_of_forall_not_mem (b := Proc.devRef .tc b) _ _ (List.forall_iff_forall_mem.mp (by
    simp only [Gen.hostOps1, List.flatten_cons, List.flatten_nil, List.append_nil, List.cons_append,
      List.nil_append, List.Forall, StableHlo.unary_writes, StableHlo.reshape_writes, Finset.mem_singleton]
    exact ⟨StableHlo.devRef_ne_of_ne hb.2.2.1, StableHlo.devRef_ne_of_ne hb.2.2.2⟩)),
    Pipeline.withArrays_of_ne _ _ _ _ _ (fun w => w.elim0), Pipeline.withR_of_not_mem _ _ _ _ _ hb.2.1]
  exact V_arg c m b hb.1

/-- The run: the argument arrays end as they began, every semaphore at zero, the result at what `VE` says. -/
theorem run (hm : RowsOk m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = VE m c (Proc.devRef .tc main_v5))
      ∧ r.2.sem = fun _ => 0) :=
  (θ_run defs _ _).mono (fun r h => ⟨fun c => ⟨⟨
    (h.1 c main_arg0 (Pipeline.mem_restRefs_of _ (by decide) (fun w => w.elim0))).trans (VE_arg c m main_arg0 (by decide)),
    (h.1 c main_arg1 (Pipeline.mem_restRefs_of _ (by decide) (fun w => w.elim0))).trans (VE_arg c m main_arg1 (by decide)),
    (h.1 c main_arg2 (Pipeline.mem_restRefs_of _ (by decide) (fun w => w.elim0))).trans (VE_arg c m main_arg2 (by decide)),
    (h.1 c main_arg3 (Pipeline.mem_restRefs_of _ (by decide) (fun w => w.elim0))).trans (VE_arg c m main_arg3 (by decide))⟩,
    h.1 c main_v5 (Pipeline.mem_restRefs_of _ (by decide) (fun w => w.elim0))⟩, h.2⟩) (run_main m ρ hm)

end Cert.Proof.Seg

end
-- ==== Proof.Seg.Result.lean ====
/-
  The program's result and the codes as words, in terms of the launch memory.
-/
module

public import proofs.«01_k».proof.Proof.Seg.Launch

@[expose] public section

noncomputable section

namespace Cert.Proof.Seg

open Cert.KernelIdeal
open Idealize.ShloMosaic Idealize.ShloMosaic.TcCoe
open Idealize.SL Idealize.SL.Sem
open Facts₀ Facts

variable {F : FTy → Type} [FloatOps F]
variable (c : Dev nD) (m : (ℓ : Loc nD τ sig) → Buf (Elt F) ℓ)

theorem VE_v5 : VE m c (Proc.devRef .tc main_v5) = shapeCast S1536x18432
    (transpose S192x8x144x128 [0, 2, 1, 3] (outO (VR m c main_v2) (VR m c main_arg1) (VR m c main_arg2) (VR m c main_arg3))
      transposes_S192x144x8x128_S192x8x144x128_0_2_1_3) shapeCasts_S192x8x144x128_S1536x18432 := by
  unfold VE
  simp only [List.flatten_cons, List.flatten_nil, List.append_nil]
  rw [StableHlo.after_cons, StableHlo.after_cons, StableHlo.after_nil, StableHlo.reshape_result, StableHlo.unary_result,
    Pipeline.withArrays_of_ne _ _ _ _ _ (fun w => w.elim0), Pipeline.withR_of_mem _ _ _ _ _ (by decide), GR_v3]
  rfl

theorem V_v2 : VR m c main_v2 = Host.bitcastConvertWiden S384x18432 32
    (transpose S384x18432x4 [0, 2, 1] (shapeCast S384x4x18432 (m ((c : Thread nD τ).loc main_arg0)) shapeCasts_S6x256x18432_S384x4x18432)
      transposes_S384x4x18432_S384x18432x4_0_2_1) splits_S384x18432_w32_S384x18432x4_w8 := by
  show StableHlo.after (List.flatten [Gen.hostOps0]) (fun b => m (c, b)) (Proc.devRef .tc main_v2) = _
  simp only [List.flatten_cons, List.flatten_nil, List.append_nil]
  rw [StableHlo.after_cons, StableHlo.after_cons, StableHlo.after_cons, StableHlo.after_nil, StableHlo.unary_result, StableHlo.unary_result, StableHlo.reshape_result]
  rfl

end Cert.Proof.Seg

end
-- ==== Proof.Want.lean ====
/-
  The value both programs compute, over the extended reals: row `r` of the result is the sum, over the tokens whose
  row is `r` and whose id is not zero, of the token's bytes read as floats times its scale.
-/
module

public import Idealize.ShloMosaic.PureOps.Ideal
public import Idealize.ShloMosaic.Lib.IdealHost
public import Idealize.ShloMosaic.Lib.ValueIdxCore

@[expose] public section

noncomputable section

namespace Cert.Proof

open Idealize.ShloMosaic

/-- What token `t` adds to row `r`, from its byte, its scale, its id and its row. -/
def term (a : BitVec 8) (s : EReal) (i v : BitVec 32) (r : ℕ) : EReal :=
  if i ≠ 0#32 ∧ v.toNat = r then Ideal.ofBits .fp8e5m2 a * s else 0

/-- Row `r`, column `x` of the result. -/
def want (A : Fin 1536 → Fin 18432 → BitVec 8) (S : Fin 1536 → EReal) (I V : Fin 1536 → BitVec 32) (r : Fin 1536) (x : Fin 18432) : EReal :=
  ∑ t : Fin 1536, term (A t x) (S t) (I t) (V t) r.val

/-- Token `t`'s place in a table. -/
def tokIdx (t : Fin 1536) : (⟨2, ![6, 256]⟩ : Shape).Idx :=
  Shape.pair (d := ![6, 256]) (⟨t.val / 256 % 6, Nat.mod_lt _ (by omega)⟩ : Fin 6) (⟨t.val % 256, Nat.mod_lt _ (by omega)⟩ : Fin 256)

/-- Column `x` of token `t` in the codes. -/
def codeIdx (t : Fin 1536) (x : Fin 18432) : (⟨3, ![6, 256, 18432]⟩ : Shape).Idx := fun a => match a with
  | ⟨0, _⟩ => (⟨t.val / 256 % 6, Nat.mod_lt _ (by omega)⟩ : Fin 6)
  | ⟨1, _⟩ => (⟨t.val % 256, Nat.mod_lt _ (by omega)⟩ : Fin 256)
  | ⟨2, _⟩ => x

theorem flat_table (h : (⟨1, ![1536]⟩ : Shape).numel = (⟨2, ![6, 256]⟩ : Shape).numel) (k : (⟨1, ![1536]⟩ : Shape).Idx) :
    Shape.reshapeEquiv h k = tokIdx (k 0) := by
  refine Shape.reshapeEquiv_eq_of_rowMajor h ?_
  refine (Shape.rowMajor_val_two (d := ![6, 256]) (tokIdx (k 0))).trans ?_
  refine Eq.trans ?_ (Shape.rowMajor_val_one (d := ![1536]) k).symm
  have hk : (k 0).val < 1536 := (k 0).isLt
  show (k 0).val / 256 % 6 * 256 + (k 0).val % 256 = (k 0).val
  omega

theorem flat_codes (h : (⟨2, ![1536, 18432]⟩ : Shape).numel = (⟨3, ![6, 256, 18432]⟩ : Shape).numel) (k : (⟨2, ![1536, 18432]⟩ : Shape).Idx) :
    Shape.reshapeEquiv h k = codeIdx (k 0) (k 1) := by
  refine Shape.reshapeEquiv_eq_of_rowMajor h ?_
  refine (Shape.rowMajor_val_three (d := ![6, 256, 18432]) (codeIdx (k 0) (k 1))).trans ?_
  refine Eq.trans ?_ (Shape.rowMajor_val_two (d := ![1536, 18432]) k).symm
  have hk : (k 0).val < 1536 := (k 0).isLt
  show ((k 0).val / 256 % 6 * 256 + (k 0).val % 256) * 18432 + (k 1).val = (k 0).val * 18432 + (k 1).val
  omega

end Cert.Proof

end
-- ==== Proof.Seg.Sums.lean ====
/-
  The kernel's result over the extended reals, as a sum over all tokens.
-/
module

public import proofs.«01_k».proof.Proof.Seg.Result
public import proofs.«01_k».proof.Proof.Want
public import Idealize.ShloMosaic.Lib.BitcastConvert

@[expose] public section

noncomputable section

namespace Cert.Proof.Seg

open Cert.KernelIdeal
open Idealize.ShloMosaic Idealize.ShloMosaic.TcCoe
open Idealize.SL Idealize.SL.Sem
open Facts₀ Facts

/-! ## A row's value as a sum -/

theorem foldl_sum (g : ℕ → EReal) (L : List ℕ) : ∀ a : EReal, L.foldl (fun acc t => acc + g t) a = a + (L.map g).sum := by
  induction L with
  | nil => intro a; simp
  | cons t L ih => intro a; rw [List.foldl_cons, ih, List.map_cons, List.sum_cons, add_assoc]

theorem zer_eq : (zer : Ideal .f32) = 0 := Ideal.ofBits_zero_f32

theorem outV_sum (f : S144x392x128.Idx → BitVec 32) (S : S6x256.Idx → Ideal .f32) (L : List ℕ) (j : Fin 144) (l : Fin 128) :
    outV f S L j l = (L.map fun t => (tokV f S t j l : EReal)).sum := by
  cases L with
  | nil =>
    show ((decW (F := Ideal) (f (cIdx j ⟨0, by omega⟩ l)) (shN 0) : EReal) * (zer : Ideal .f32) : EReal) = 0
    rw [zer_eq, mul_zero]
  | cons t L =>
    show L.foldl (fun (acc : EReal) t => acc + (tokV f S t j l : EReal)) (tokV f S t j l : EReal) = _
    rw [foldl_sum, List.map_cons, List.sum_cons]

theorem toks_sum (live : ℕ → Prop) [DecidablePred live] (slot : ℕ → ℕ) (g : ℕ → EReal) (s : ℕ) : ∀ k : ℕ,
    ((toks live slot k s).map g).sum = ∑ i ∈ Finset.range k, if live (1535 - i) ∧ slot (1535 - i) = s then g (1535 - i) else 0 := by
  intro k
  induction k with
  | zero => rfl
  | succ k ih =>
    rw [Finset.sum_range_succ, ← ih]
    show ((if live (1535 - k) ∧ slot (1535 - k) = s then (1535 - k) :: toks live slot k s else toks live slot k s).map g).sum = _
    split
    · rw [List.map_cons, List.sum_cons, add_comm]
    · rw [add_zero]

theorem toks_sum_all (live : ℕ → Prop) [DecidablePred live] (slot : ℕ → ℕ) (g : ℕ → EReal) (s : ℕ) :
    ((toks live slot 1536 s).map g).sum = ∑ t : Fin 1536, if live t.val ∧ slot t.val = s then g t.val else 0 := by
  rw [toks_sum, ← Finset.sum_range (fun t => if live t ∧ slot t = s then g t else 0)]
  exact Finset.sum_range_reflect (fun t => if live t ∧ slot t = s then g t else 0) 1536

theorem outO_sum (C : S384x18432.Idx → BitVec 32) (S : S6x256.Idx → Ideal .f32) (I V : S6x256.Idx → BitVec 32) (i : S192x144x8x128.Idx) :
    (outO C S I V i : EReal) = ∑ t : Fin 1536, if I (tix t.val) ≠ 0#32 ∧ (V (tix t.val)).toNat = 8 * (pB i).val + (pR i).val
      then (tokV (staged C fun _ => 0#32) S t.val (pJ i) (pL i) : EReal) else 0 := by
  unfold outO outF
  split
  · rw [outV_sum]
    exact toks_sum_all (fun t => I (tix t) ≠ 0#32) (fun t => (V (tix t)).toNat) _ _
  · rename_i hb
    rw [zer_eq]
    refine (Finset.sum_eq_zero fun t _ => if_neg fun h => hb ?_).symm
    have := lt_mx (fun t => (V (tix t)).toNat) 1536 t.val (by omega) t.isLt
    unfold liveB
    have h2 := h.2
    omega

/-! ## The bytes of a word -/

theorem shN_toNat (t : ℕ) (ht : t < 1536) : (shN t).toNat = t % 4 * 8 := by
  have h3 : (BitVec.ofNat 32 t &&& 3#32).toNat = t % 4 := by
    rw [BitVec.toNat_and, BitVec.toNat_ofNat, Nat.mod_eq_of_lt (by omega : t < 2 ^ 32)]
    exact Nat.and_two_pow_sub_one_eq_mod t 2
  show ((BitVec.ofNat 32 t &&& 3#32) * 8#32).toNat = _
  rw [BitVec.toNat_mul, h3]
  show t % 4 * 8 % 2 ^ 32 = _
  omega

/-- Part `p` of a word of four bytes. -/
def qIdx (q : Fin 384) (p : Fin 4) (x : Fin 18432) : S384x4x18432.Idx := fun a => match a with
  | ⟨0, _⟩ => q | ⟨1, _⟩ => p | ⟨2, _⟩ => x

theorem flat_rows (h : S384x4x18432.numel = S6x256x18432.numel) (t : Fin 1536) (q : Fin 384) (p : Fin 4) (x : Fin 18432) (ht : 4 * q.val + p.val = t.val) :
    Shape.reshapeEquiv h (qIdx q p x) = codeIdx t x := by
  refine Shape.reshapeEquiv_eq_of_rowMajor h ?_
  refine (Shape.rowMajor_val_three (d := ![6, 256, 18432]) (codeIdx t x)).trans ?_
  refine Eq.trans ?_ (Shape.rowMajor_val_three (d := ![384, 4, 18432]) (qIdx q p x)).symm
  show (t.val / 256 % 6 * 256 + t.val % 256) * 18432 + x.val = (q.val * 4 + p.val) * 18432 + x.val
  have := t.isLt
  omega

theorem src_part (h : S384x4x18432.Transposes [0, 2, 1] S384x18432x4) (h' : S384x18432.SplitsWords 32 S384x18432x4 8) (q : Fin 384) (x : Fin 18432)
    (p : S384x18432x4.Coord h'.axis) (p' : Fin 4) (hp : p.val = p'.val) : h.src (h'.snoc (wIdx q x) p) = qIdx q p' x := by
  funext a
  apply Fin.ext
  rcases a with ⟨_ | _ | _ | n, hn⟩
  · rfl
  · exact hp
  · rfl
  · exact absurd hn (by simp)

theorem byte_of_word (A : S6x256x18432.Idx → BitVec 8) (h : S384x18432.SplitsWords 32 S384x18432x4 8) (t : Fin 1536) (q : Fin 384)
    (hq : q.val = t.val / 4) (x : Fin 18432) :
    (IntOp.shrui .vector (Host.bitcastConvertWiden S384x18432 32
      (transpose S384x18432x4 [0, 2, 1] (shapeCast S384x4x18432 A shapeCasts_S6x256x18432_S384x4x18432)
        transposes_S384x4x18432_S384x18432x4_0_2_1) h (wIdx q x)) (shN t.val)).setWidth 8 = A (codeIdx t x) := by
  have hs := shN_toNat t.val t.isLt
  have e : ∀ w : BitVec 32, IntOp.shrui .vector w (shN t.val) = w >>> (shN t.val) := fun w => if_pos (by omega)
  rw [e]
  apply BitVec.eq_of_getLsbD_eq
  intro b hb
  rw [BitVec.getLsbD_setWidth]
  simp only [hb, decide_true, Bool.true_and]
  rw [BitVec.ushiftRight_eq', BitVec.getLsbD_ushiftRight, hs, Host.bitcastConvertWiden_getLsbD _ _ _ _ _ _ (by omega)]
  have eb : (t.val % 4 * 8 + b) % 8 = b := by omega
  rw [eb]
  congr 1
  show A (Shape.reshapeEquiv _ (transposes_S384x4x18432_S384x18432x4_0_2_1.src (h.snoc (wIdx q x) _))) = _
  rw [src_part _ h q x _ ⟨t.val % 4, Nat.mod_lt _ (by omega)⟩ (show (t.val % 4 * 8 + b) / 8 = t.val % 4 by omega), flat_rows _ t q _ x (by show 4 * q.val + t.val % 4 = t.val; omega)]

/-! ## The result -/

theorem tokV_eq (A : S6x256x18432.Idx → BitVec 8) (S : S6x256.Idx → Ideal .f32) (t : Fin 1536) (j : Fin 144) (l : Fin 128) :
    (tokV (staged (Host.bitcastConvertWiden S384x18432 32
      (transpose S384x18432x4 [0, 2, 1] (shapeCast S384x4x18432 A shapeCasts_S6x256x18432_S384x4x18432)
        transposes_S384x4x18432_S384x18432x4_0_2_1) splits_S384x18432_w32_S384x18432x4_w8) fun _ => 0#32) S t.val j l : EReal)
      = Ideal.ofBits .fp8e5m2 (A (codeIdx t (colOf j l))) * S (tokIdx t) := by
  have ht := t.isLt
  have hr : t.val / 4 % 392 < 384 := by omega
  unfold tokV decW staged
  rw [if_pos (show (sR (cIdx j ⟨t.val / 4 % 392, _⟩ l)).val < 384 from hr)]
  have := byte_of_word A splits_S384x18432_w32_S384x18432x4_w8 t (rowIn ⟨t.val / 4 % 392, by omega⟩) (by show t.val / 4 % 392 % 384 = t.val / 4; omega) (colOf j l)
  exact congrArg (fun b => Ideal.ofBits .fp8e5m2 b * S (tokIdx t)) this

/-- An element of the result before the last two host lines. -/
theorem src_out (h : S192x144x8x128.Transposes [0, 2, 1, 3] S192x8x144x128) (h' : S1536x18432.numel = S192x8x144x128.numel) (k : S1536x18432.Idx) :
    h.src (Shape.reshapeEquiv h' k) = pIdx ⟨(k 0).val / 8, by have : (k 0).val < 1536 := (k 0).isLt; omega⟩
      ⟨(k 1).val / 128, by have : (k 1).val < 18432 := (k 1).isLt; omega⟩ ⟨(k 0).val % 8, Nat.mod_lt _ (by omega)⟩ ⟨(k 1).val % 128, Nat.mod_lt _ (by omega)⟩ := by
  have h0 : (k 0).val < 1536 := (k 0).isLt
  have h1 : (k 1).val < 18432 := (k 1).isLt
  have e : Shape.reshapeEquiv h' k = (fun a => match a with
      | ⟨0, _⟩ => (⟨(k 0).val / 8, by omega⟩ : Fin 192) | ⟨1, _⟩ => (⟨(k 0).val % 8, Nat.mod_lt _ (by omega)⟩ : Fin 8)
      | ⟨2, _⟩ => (⟨(k 1).val / 128, by omega⟩ : Fin 144) | ⟨3, _⟩ => (⟨(k 1).val % 128, Nat.mod_lt _ (by omega)⟩ : Fin 128) : S192x8x144x128.Idx) := by
    refine Shape.reshapeEquiv_eq_of_rowMajor h' ?_
    refine (Shape.rowMajor_val_four (d := ![192, 8, 144, 128]) _).trans ?_
    refine Eq.trans ?_ (Shape.rowMajor_val_two (d := ![1536, 18432]) k).symm
    show (((k 0).val / 8 * 8 + (k 0).val % 8) * 144 + (k 1).val / 128) * 128 + (k 1).val % 128 = (k 0).val * 18432 + (k 1).val
    omega
  rw [e]
  funext a
  rcases a with ⟨_ | _ | _ | _ | n, hn⟩ <;> first | rfl | exact absurd hn (by simp)

theorem VE_want (c : Dev nD) (m : (ℓ : Loc nD τ sig) → Buf (Elt Ideal) ℓ) (k : S1536x18432.Idx) :
    VE m c (Proc.devRef .tc main_v5) k = want (fun t x => m ((c : Thread nD τ).loc main_arg0) (codeIdx t x)) (fun t => m ((c : Thread nD τ).loc main_arg1) (tokIdx t))
      (fun t => m ((c : Thread nD τ).loc main_arg2) (tokIdx t)) (fun t => m ((c : Thread nD τ).loc main_arg3) (tokIdx t)) (k 0) (k 1) := by
  have h0 : (k 0).val < 1536 := (k 0).isLt
  have h1 : (k 1).val < 18432 := (k 1).isLt
  rw [VE_v5, V_v2, V_arg c m main_arg1 (by decide), V_arg c m main_arg2 (by decide), V_arg c m main_arg3 (by decide)]
  show (outO (F := Ideal) _ _ _ _ (transposes_S192x144x8x128_S192x8x144x128_0_2_1_3.src (Shape.reshapeEquiv _ k)) : EReal) = _
  rw [src_out, outO_sum]
  unfold want
  refine Finset.sum_congr rfl fun t _ => ?_
  rw [tokV_eq]
  unfold term
  have er : 8 * ((k 0).val / 8) + (k 0).val % 8 = (k 0).val := by omega
  have ec : colOf ⟨(k 1).val / 128, by omega⟩ ⟨(k 1).val % 128, Nat.mod_lt _ (by omega)⟩ = k 1 := Fin.ext (by
    show 128 * ((k 1).val / 128) + (k 1).val % 128 = (k 1).val; omega)
  show (if m ((c : Thread nD τ).loc main_arg2) (tokIdx t) ≠ 0#32 ∧ (m ((c : Thread nD τ).loc main_arg3) (tokIdx t)).toNat = 8 * ((k 0).val / 8) + (k 0).val % 8 then
    Ideal.ofBits .fp8e5m2 (m ((c : Thread nD τ).loc main_arg0) (codeIdx t (colOf ⟨(k 1).val / 128, _⟩ ⟨(k 1).val % 128, _⟩))) * m ((c : Thread nD τ).loc main_arg1) (tokIdx t)
    else 0) = _
  rw [er, ec]

end Cert.Proof.Seg

end
-- ==== Proof.Ref.lean ====
/-
  The reference's result over the extended reals, as a sum over all tokens.
-/
module

public import proofs.«01_k».proof.Proof.Gen.ReferenceIdeal.Frame
public import proofs.«01_k».proof.Proof.Want
public import Idealize.ShloMosaic.Lib.Pipeline.ValueKit.Geometry
public import Idealize.ShloMosaic.Lib.Routing.OpsPair

@[expose] public section

noncomputable section

namespace Cert.Proof.Ref

open Cert.ReferenceIdeal Cert.ReferenceIdeal.Gen
open Idealize.ShloMosaic Idealize.ShloMosaic.TcCoe
open Idealize.SL Idealize.SL.Sem

/-! ## The host lines -/

/-- The rows with those of id zero cleared, from the ids and the scaled rows. -/
def rowsOf (I : S6x256.Idx → BitVec 32) (R : S1536x18432.Idx → Ideal .f32) : FVec Ideal S1536x18432 .f32 :=
  select (broadcastInDim S1536x18432 ![0, 1] bcast_S1536x1_S1536x18432_0_1 (broadcastInDim S1536x1 ![0] bcast_S1536_S1536x1_0
      (cmpi .eq (shapeCast S1536 I shapeCasts_S6x256_S1536) (broadcastInDim S1536 ![] bcast_S_S1536 (constantI S_ 32 0#32)))))
    (broadcastInDim S1536x18432 ![] bcast_S_S1536x18432 (constant S_ .f32 0x00000000#32)) R

/-- The rows the tokens go to, as the scatter reads them. -/
def destOf (V : S6x256.Idx → BitVec 32) : IVec S1536x1 32 :=
  broadcastInDim S1536x1 ![0] bcast_S1536_S1536x1_0
    (select (cmpi .slt (shapeCast S1536 V shapeCasts_S6x256_S1536) (broadcastInDim S1536 ![] bcast_S_S1536 (constantI S_ 32 0#32)))
      (addi (shapeCast S1536 V shapeCasts_S6x256_S1536) (broadcastInDim S1536 ![] bcast_S_S1536 (constantI S_ 32 1536#32)))
      (shapeCast S1536 V shapeCasts_S6x256_S1536))

theorem tail_v17 (W : Valuation τ sig (Elt Ideal)) :
    StableHlo.after (List.flatten [hostOps1, hostOps1_1, hostOps1_2]) W (Proc.devRef .tc main_v17)
      = Host.scatterAdd scatter_S1536x18432_S1536x1_S1536x18432_1_0_0_1
          (broadcastInDim S1536x18432 ![] bcast_S_S1536x18432 (constant (F := Ideal) S_ .f32 0x00000000#32))
          (destOf (W (Proc.devRef .tc main_arg3))) (rowsOf (W (Proc.devRef .tc main_arg2)) (W (Proc.devRef .tc main_v3))) := by
  simp only [List.flatten_cons, List.flatten_nil, List.append_nil, List.cons_append, List.nil_append]
  after_results_simp
  rfl

/-! ## Where a row goes -/

theorem flat_apply {α : Type} (T : S6x256.Idx → α) (k : S1536.Idx) : shapeCast S1536 T shapeCasts_S6x256_S1536 k = T (tokIdx (k 0)) :=
  congrArg T (flat_table _ k)

theorem destOf_apply (V : S6x256.Idx → BitVec 32) (hV : ∀ t, (V (tokIdx t)).toNat < 1536) (k : S1536x1.Idx) : destOf V k = V (tokIdx (k 0)) := by
  have hk := hV (k 0)
  have hs : IntOp.cmpi .slt (V (tokIdx (k 0))) 0#32 = 0#1 := by
    show BitVec.ofBool ((V (tokIdx (k 0))).slt 0#32) = 0#1
    have : (V (tokIdx (k 0))).slt 0#32 = false := by
      rw [← Bool.not_eq_true, BitVec.slt_iff_toInt_lt, BitVec.toInt_eq_toNat_of_lt (by omega)]
      simp
    rw [this]; rfl
  show Scalar.select (IntOp.cmpi .slt (shapeCast S1536 V shapeCasts_S6x256_S1536 _) 0#32) _ (shapeCast S1536 V shapeCasts_S6x256_S1536 _) = _
  rw [flat_apply]
  exact (congrArg (fun b => Scalar.select b _ _) hs).trans rfl

theorem rowsOf_apply (I : S6x256.Idx → BitVec 32) (R : S1536x18432.Idx → Ideal .f32) (k : S1536x18432.Idx) :
    (rowsOf I R k : EReal) = if I (tokIdx (k 0)) = 0#32 then 0 else R k := by
  show (Scalar.select (IntOp.cmpi .eq (shapeCast S1536 I shapeCasts_S6x256_S1536 _) 0#32) (Ideal.ofBits .f32 0x00000000#32 : EReal) (R k)) = _
  rw [flat_apply, Ideal.ofBits_zero_f32]
  show (Scalar.select (IntOp.cmpi .eq (I (tokIdx (k 0))) 0#32) (0 : EReal) (R k)) = _
  by_cases h : I (tokIdx (k 0)) = 0#32
  · rw [if_pos h, h]; rfl
  · rw [if_neg h]
    have : IntOp.cmpi .eq (I (tokIdx (k 0))) 0#32 = 0#1 := by
      show BitVec.ofBool (I (tokIdx (k 0)) == 0#32) = 0#1
      rw [beq_eq_false_iff_ne.mpr h]; rfl
    rw [this]; rfl

theorem lands (idx : IVec S1536x1 32) (k i : S1536x18432.Idx) :
    scatter_S1536x18432_S1536x1_S1536x18432_1_0_0_1.resultIdx? k idx = some i
      ↔ (idx (Shape.pair (d := ![1536, 1]) (k 0) (0 : Fin 1))).toInt = ((i 0).val : Int) ∧ (k 1).val = (i 1).val := by
  rw [Routing.resultIdx?_eq_some]
  have s0 : scatter_S1536x18432_S1536x1_S1536x18432_1_0_0_1.start k idx 0 = (idx (Shape.pair (d := ![1536, 1]) (k 0) (0 : Fin 1))).toInt := by
    unfold ScatterDims.start
    rw [dif_pos (by decide)]
    congr 2
    funext b
    rcases b with ⟨_ | _ | n, hn⟩
    · rfl
    · exact Subsingleton.elim (α := Fin 1) _ _
    · exact absurd hn (by simp)
  have s1 : scatter_S1536x18432_S1536x1_S1536x18432_1_0_0_1.start k idx 1 = 0 := by
    unfold ScatterDims.start
    rw [dif_neg (by decide)]
  have w0 : scatter_S1536x18432_S1536x1_S1536x18432_1_0_0_1.window k 0 = 0 := by
    unfold ScatterDims.window
    rw [dif_neg (by decide)]
  have w1 : scatter_S1536x18432_S1536x1_S1536x18432_1_0_0_1.window k 1 = (k 1).val := by
    unfold ScatterDims.window
    rw [dif_pos (by decide)]
    rfl
  constructor
  · intro h
    have h0 := h 0
    have h1 := h 1
    rw [s0, w0] at h0
    rw [s1, w1] at h1
    exact ⟨by simpa using h0, by omega⟩
  · rintro ⟨h0, h1⟩ a
    rcases a with ⟨_ | _ | n, hn⟩
    · exact (congrArg₂ (fun (x : Int) (y : ℕ) => x + (y : Int)) s0 w0).trans (by simpa using h0)
    · exact (congrArg₂ (fun (x : Int) (y : ℕ) => x + (y : Int)) s1 w1).trans
        (by show (0 : Int) + ((k 1).val : Int) = ((i 1).val : Int); omega)
    · exact absurd hn (by simp)

/-! ## The scaled rows -/

/-- A token's bytes as floats times its scale. -/
def scaled (A : S6x256x18432.Idx → BitVec 8) (S : S6x256.Idx → Ideal .f32) : S1536x18432.Idx → Ideal .f32 := fun k =>
  (Ideal.ofBits .fp8e5m2 (A (codeIdx (k 0) (k 1))) * S (tokIdx (k 0)) : EReal)

variable (c : Dev nD) (m : (ℓ : Loc nD τ sig) → Buf (Elt Ideal) ℓ)

theorem V_v0 : V m c main_v0 = shapeCast S1536x18432 (m ((c : Thread nD τ).loc main_arg0)) shapeCasts_S6x256x18432_S1536x18432 := by
  unfold V V0
  simp only [List.flatten_cons, List.flatten_nil, List.append_nil, List.cons_append, List.nil_append]
  after_results_simp
  rfl

theorem V_v2 : V m c main_v2 = broadcastInDim S1536x1 ![0] bcast_S1536_S1536x1_0 (shapeCast S1536 (m ((c : Thread nD τ).loc main_arg1)) shapeCasts_S6x256_S1536) := by
  unfold V V0
  simp only [List.flatten_cons, List.flatten_nil, List.append_nil, List.cons_append, List.nil_append]
  after_results_simp
  rfl

theorem emb_0 (t : Fin cfg0.N) (y : S1536x18432.Idx) : ((cfg0.win 0).rect t).emb y = y :=
  funext fun a => Fin.ext (Pipeline.Window.rect_emb_val_of_index_zero (cfg0.win 0) t a rfl y)

theorem emb_1 (t : Fin cfg0.N) (y : S1536x1.Idx) : ((cfg0.win 1).rect t).emb y = y :=
  funext fun a => Fin.ext (Pipeline.Window.rect_emb_val_of_index_zero (cfg0.win 1) t a rfl y)

theorem iblk_0 (t : Fin cfg0.N) (y : S1536x18432.Idx) : iblk m c 0 t y = m ((c : Thread nD τ).loc main_arg0) (codeIdx (y 0) (y 1)) := by
  have h : iblk m c 0 t y = V m c main_v0 (((cfg0.win 0).rect t).emb y) := rfl
  rw [h, emb_0, V_v0]
  exact congrArg (m ((c : Thread nD τ).loc main_arg0)) (flat_codes _ y)

theorem iblk_1 (t : Fin cfg0.N) (y : S1536x1.Idx) : iblk m c 1 t y = m ((c : Thread nD τ).loc main_arg1) (tokIdx (y 0)) := by
  have h : iblk m c 1 t y = V m c main_v2 (((cfg0.win 1).rect t).emb y) := rfl
  rw [h, emb_1, V_v2]
  exact flat_apply _ _

theorem unit_emb (y : S1536x18432.Idx) : r0_0.emb y = y := by
  funext a
  apply Fin.ext
  rw [Rect.emb_apply]
  rcases a with ⟨_ | _ | n, hn⟩
  · show 0 + 1 * (y 0).val = (y 0).val; omega
  · show 0 + 1 * (y 1).val = (y 1).val; omega
  · exact absurd hn (by simp)

theorem unit_emb1 (y : S1536x1.Idx) : r0_1.emb y = y := by
  funext a
  apply Fin.ext
  rw [Rect.emb_apply]
  rcases a with ⟨_ | _ | n, hn⟩
  · show 0 + 1 * (y 0).val = (y 0).val; omega
  · show 0 + 1 * (y 1).val = (y 1).val; omega
  · exact absurd hn (by simp)

theorem out_apply (x0 : Vec Ideal S1536x18432 .i8) (x1 : Vec Ideal S1536x1 .f32) (y : S1536x18432.Idx) :
    (out0_2 x0 x1 y : EReal) = Ideal.ofBits .fp8e5m2 (x0 y) * x1 (Shape.pair (d := ![1536, 1]) (y 0) (0 : Fin 1)) := by
  unfold out0_2
  conv_lhs => rw [← unit_emb y]
  rw [View.canon_cons_emb]
  show (Ideal.ofBits .fp8e5m2 (x0 (r0_0.emb (Shape.reshapeEquiv _ y))) : EReal) * x1 (r0_1.emb (Shape.reshapeEquiv _ _)) = _
  rw [Shape.reshapeEquiv_self, Shape.reshapeEquiv_self, unit_emb, unit_emb1]
  congr 2
  funext a
  rcases a with ⟨_ | _ | n, hn⟩
  · rfl
  · rfl
  · exact absurd hn (by simp)

theorem region : (dats m 0 c).arrAt 2 cfg0.N = scaled (m ((c : Thread nD τ).loc main_arg0)) (m ((c : Thread nD τ).loc main_arg1)) := by
  have ha := after0_2 m c ⟨0, by decide⟩
  generalize dats m 0 c = d at ha ⊢
  funext i
  refine (d.arrAt_emb_eq_after_last 2 ⟨0, by decide⟩ (by decide +kernel) i).trans ?_
  rw [ha, cast_eq]
  refine (out_apply _ _ i).trans ?_
  rw [iblk_0, iblk_1]
  rfl

/-! ## The result -/

/-- The row of an element, -/
def kr (k : S1536x18432.Idx) : Fin 1536 := k 0
/-- and its column. -/
def kc (k : S1536x18432.Idx) : Fin 18432 := k 1

theorem sum_rows (g : S1536x18432.Idx → EReal) (v : Fin 1536 → ℕ) (r : ℕ) (x : Fin 18432) :
    (∑ k ∈ Finset.univ.filter (fun k : S1536x18432.Idx => v (kr k) = r ∧ (kc k).val = x.val), g k)
      = ∑ t : Fin 1536, if v t = r then g (Shape.pair (d := ![1536, 18432]) t x) else 0 := by
  rw [Finset.sum_filter]
  refine (Finset.sum_of_injOn (fun t : Fin 1536 => (Shape.pair (d := ![1536, 18432]) t x : S1536x18432.Idx)) ?_ ?_ ?_ ?_).symm
  · intro t _ t' _ h
    exact congrFun h 0
  · intro t _
    exact Finset.mem_coe.mpr (Finset.mem_univ _)
  · intro k _ hk
    refine if_neg fun h => hk ⟨kr k, Finset.mem_coe.mpr (Finset.mem_univ _), ?_⟩
    funext a
    rcases a with ⟨_ | _ | n, hn⟩
    · rfl
    · exact (Fin.ext h.2).symm
    · exact absurd hn (by simp)
  · intro t _
    by_cases h : v t = r
    · exact (if_pos h).trans (if_pos ⟨h, rfl⟩).symm
    · exact (if_neg h).trans (if_neg fun h' => h h'.1).symm

theorem pick (p q : Prop) [Decidable p] [Decidable q] (x : EReal) :
    (if q then (if p then 0 else x) else 0) = if ¬p ∧ q then x else 0 := by
  by_cases hp : p <;> by_cases hq : q <;> simp [hp, hq]

/-- The reference's result. -/
def VT : (c : Dev nD) → Buf (Elt Ideal) ((c : Thread nD τ).loc main_v17) :=
  fun c => Pipeline.afterTail₀ cfgs (dats m) 0 (V0 m) [hostOps1, hostOps1_1, hostOps1_2] c main_v17

theorem VT_eq : VT m c = Host.scatterAdd scatter_S1536x18432_S1536x1_S1536x18432_1_0_0_1
          (broadcastInDim S1536x18432 ![] bcast_S_S1536x18432 (constant (F := Ideal) S_ .f32 0x00000000#32))
          (destOf (m ((c : Thread nD τ).loc main_arg3))) (rowsOf (m ((c : Thread nD τ).loc main_arg2))
            (scaled (m ((c : Thread nD τ).loc main_arg0)) (m ((c : Thread nD τ).loc main_arg1)))) := by
  unfold VT Pipeline.afterTail₀
  have h3 : Pipeline.withArrays spec0 c (V0 m c) (fun w => (dats m 0 c).arrAt w cfg0.N) (Proc.devRef .tc main_v3) = (dats m 0 c).arrAt 2 cfg0.N :=
    Pipeline.withArrays_arr spec0 (by decide) c _ _ 2
  rw [tail_v17, Pipeline.withArrays_of_ne _ c (V0 m c) _ main_arg3 (by exact (by decide : ∀ w, Pipeline.arrRef spec0 w ≠ main_arg3)),
    Pipeline.withArrays_of_ne _ c (V0 m c) _ main_arg2 (by exact (by decide : ∀ w, Pipeline.arrRef spec0 w ≠ main_arg2))]
  rw [show V0 m c (Proc.devRef .tc main_arg3) = m ((c : Thread nD τ).loc main_arg3) from V_main_arg3 m c,
    show V0 m c (Proc.devRef .tc main_arg2) = m ((c : Thread nD τ).loc main_arg2) from V_main_arg2 m c]
  exact congrArg (fun R => Host.scatterAdd scatter_S1536x18432_S1536x1_S1536x18432_1_0_0_1
          (broadcastInDim S1536x18432 ![] bcast_S_S1536x18432 (constant (F := Ideal) S_ .f32 0x00000000#32))
          (destOf (m ((c : Thread nD τ).loc main_arg3))) (rowsOf (m ((c : Thread nD τ).loc main_arg2)) R)) (h3.trans (region c m))

theorem scatter_apply (idx : IVec S1536x1 32) (u : FVec Ideal S1536x18432 .f32) (i : S1536x18432.Idx) :
    (Host.scatterAdd scatter_S1536x18432_S1536x1_S1536x18432_1_0_0_1
      (broadcastInDim S1536x18432 ![] bcast_S_S1536x18432 (constant (F := Ideal) S_ .f32 0x00000000#32)) idx u i : EReal)
      = ∑ k ∈ Finset.univ.filter (fun k : S1536x18432.Idx => scatter_S1536x18432_S1536x1_S1536x18432_1_0_0_1.resultIdx? k idx = some i), (u k : EReal) := by
  show Ideal.hostScatterAdd scatter_S1536x18432_S1536x1_S1536x18432_1_0_0_1
      (broadcastInDim S1536x18432 ![] bcast_S_S1536x18432 (constant (F := Ideal) S_ .f32 0x00000000#32)) idx u i = _
  unfold Ideal.hostScatterAdd
  show (Ideal.ofBits .f32 0x00000000#32 : EReal) + _ = _
  rw [Ideal.ofBits_zero_f32, zero_add]

theorem VT_want (hm : ∀ t, (m ((c : Thread nD τ).loc main_arg3) (tokIdx t)).toNat < 1536) (i : S1536x18432.Idx) :
    VT m c i = want (fun t x => m ((c : Thread nD τ).loc main_arg0) (codeIdx t x)) (fun t => m ((c : Thread nD τ).loc main_arg1) (tokIdx t))
      (fun t => m ((c : Thread nD τ).loc main_arg2) (tokIdx t)) (fun t => m ((c : Thread nD τ).loc main_arg3) (tokIdx t)) (i 0) (i 1) := by
  rw [VT_eq]
  rw [scatter_apply]
  have hf : ∀ k : S1536x18432.Idx, scatter_S1536x18432_S1536x1_S1536x18432_1_0_0_1.resultIdx? k (destOf (m ((c : Thread nD τ).loc main_arg3))) = some i
      ↔ (m ((c : Thread nD τ).loc main_arg3) (tokIdx (kr k))).toNat = (i 0).val ∧ (kc k).val = (i 1).val := fun k => by
    have ht : (m ((c : Thread nD τ).loc main_arg3) (tokIdx (k 0))).toNat < 1536 := hm (k 0)
    rw [lands, destOf_apply _ hm]
    show (m ((c : Thread nD τ).loc main_arg3) (tokIdx (k 0))).toInt = ((i 0).val : Int) ∧ _ ↔ _
    rw [BitVec.toInt_eq_toNat_of_lt (by omega), Int.natCast_inj]
    exact Iff.rfl
  rw [Finset.filter_congr fun k _ => hf k]
  refine (sum_rows _ (fun t => (m ((c : Thread nD τ).loc main_arg3) (tokIdx t)).toNat) (i 0).val (i 1)).trans ?_
  unfold want
  refine Finset.sum_congr rfl fun t _ => ?_
  rw [rowsOf_apply]
  exact pick _ _ _

end Cert.Proof.Ref

end
-- ==== Proof.SegK.Prog.lean ====
/-
  The kernel's straight-line stretches written as recursions: one row of a block (its eighteen tiles of packed words
  read, unpacked, scaled and stored), one added row, the copies into the staging buffer and their waits. Each printed
  stretch is equal to the recursion by computation, so a proof about the recursion is a proof about the kernel.
-/
module

public import proofs.«01_k».proof.Kernel
public import Idealize.ShloMosaic.Lib.Pipeline.Sound
public import proofs.«01_k».proof.Proof.Gen.Kernel
public import proofs.«01_k».proof.Proof.Gen.Kernel.Skeleton

@[expose] public section

noncomputable section

namespace Cert.Proof.SegK

open Cert.Kernel
open Idealize.ShloMosaic Idealize.ShloMosaic.TcCoe
open Idealize.SL.Sem
open Facts₀ Facts

variable {F : FTy → Type} [FloatOps F]

/-! ## The buffers -/

/-- The packed rows in scratch memory, seen as one matrix of 128-word lines. -/
abbrev cV : Memref sig .tc .vmem S56448x128 .i32 :=
  (Memref.whole cc0_scratch0).reshape S56448x128 reshapes_S144x392x128_S56448x128.1
    reshapes_S144x392x128_S56448x128.2 (Memref.isWhole_whole _).contiguous

/-- The ring of output blocks, seen as one matrix of 128-element lines. -/
abbrev oV : Memref sig .tc .vmem S27648x128 .f32 :=
  (Memref.whole cc0_scratch1).reshape S27648x128 reshapes_S24x144x8x128_S27648x128.1
    reshapes_S24x144x8x128_S27648x128.2 (Memref.isWhole_whole _).contiguous

/-! ## The lines of a row -/

/-- First line of packed words that tile `c` of token `t` reads. -/
def cOff (t c : BitVec 32) : Fin 2 → ℕ :=
  ![(Scalar.indexCast (Scalar.addi (Scalar.shrsi t 2#32) c) : Index).toNat, 0]

/-- Every tile of token `t` lies inside the packed rows. -/
def CIn (t : BitVec 32) : Prop :=
  ∀ (r : Fin 18), ∀ a, S8x128.size a = 0 ∨
    (cOff t (BitVec.ofNat 32 (3136 * r.val))) a + (![392, 1] : Fin 2 → Nat) a * (S8x128.size a - 1) < S56448x128.size a

/-- The lines tile `r` of token `t` reads. -/
abbrev cR (t : BitVec 32) (h : CIn t) (r : Fin 18) : LoadRect S56448x128 :=
  ⟨cOff t (BitVec.ofNat 32 (3136 * r.val)), S8x128.size, ![392, 1], h r⟩

/-- First line of the ring that tile `c` of row `r` of slot `s` takes. -/
def oOff (s c r : BitVec 32) : Fin 2 → ℕ :=
  ![(Scalar.indexCast (Scalar.addi (Scalar.addi (Scalar.muli s 1152#32) c) r) : Index).toNat, 0]

/-- Every tile of row `r` of slot `s` lies inside the ring. -/
def OIn (s r : BitVec 32) : Prop :=
  ∀ (i : Fin 18), ∀ a, S8x128.size a = 0 ∨
    (oOff s (BitVec.ofNat 32 (64 * i.val)) r) a + (![8, 1] : Fin 2 → Nat) a * (S8x128.size a - 1) < S27648x128.size a

/-- The lines tile `i` of row `r` of slot `s` takes. -/
abbrev oR (s r : BitVec 32) (h : OIn s r) (i : Fin 18) : LoadRect S27648x128 :=
  ⟨oOff s (BitVec.ofNat 32 (64 * i.val)) r, S8x128.size, ![8, 1], h i⟩

/-! ## Unpacking -/

/-- Four tiles of packed words, the byte `sh` bits up of each read as a float. -/
def dec4 (w0 w1 w2 w3 : Vec F S8x128 .i32) (sh : BitVec 32) : FVec F S32x128 .f32 :=
  extf .f32 (bitcastToFloat .fp8e5m2 (trunci 8 (shrui
    (concatenate S32x128 0 [⟨S8x128, w0⟩, ⟨S8x128, w1⟩, ⟨S8x128, w2⟩, ⟨S8x128, w3⟩]
      concatenates_S8x128_S8x128_S8x128_S8x128_S32x128_d0 : IVec S32x128 32)
    (broadcast S32x128 sh)) natLt_8_32)) bitsLt_fp8e5m2_f32

/-- Two tiles of packed words, likewise. -/
def dec2 (w0 w1 : Vec F S8x128 .i32) (sh : BitVec 32) : FVec F S16x128 .f32 :=
  extf .f32 (bitcastToFloat .fp8e5m2 (trunci 8 (shrui
    (concatenate S16x128 0 [⟨S8x128, w0⟩, ⟨S8x128, w1⟩] concatenates_S8x128_S8x128_S16x128_d0 : IVec S16x128 32)
    (broadcast S16x128 sh)) natLt_8_32)) bitsLt_fp8e5m2_f32

/-- One tile of four, scaled. -/
def sl4 (i : Fin 4) (x : FVec F S32x128 .f32) (sc : F .f32) : FVec F S8x128 .f32 :=
  match i with
  | 0 => mulf (extractStridedSlice S8x128 ![0, 0] x slices_S32x128_o0_0_S8x128) (broadcast S8x128 sc)
  | 1 => mulf (extractStridedSlice S8x128 ![8, 0] x slices_S32x128_o8_0_S8x128) (broadcast S8x128 sc)
  | 2 => mulf (extractStridedSlice S8x128 ![16, 0] x slices_S32x128_o16_0_S8x128) (broadcast S8x128 sc)
  | 3 => mulf (extractStridedSlice S8x128 ![24, 0] x slices_S32x128_o24_0_S8x128) (broadcast S8x128 sc)

/-- One tile of two, scaled. -/
def sl2 (i : Fin 2) (x : FVec F S16x128 .f32) (sc : F .f32) : FVec F S8x128 .f32 :=
  match i with
  | 0 => mulf (extractStridedSlice S8x128 ![0, 0] x slices_S16x128_o0_0_S8x128) (broadcast S8x128 sc)
  | 1 => mulf (extractStridedSlice S8x128 ![8, 0] x slices_S16x128_o8_0_S8x128) (broadcast S8x128 sc)

/-! ## One row -/

/-- The kernel's programs. -/
abbrev TP (F : FTy → Type) [FloatOps F] (α : Type) := Prog (TpuEff nD τ sig (Elt F) (Λ₀ F) .tc) α

variable {α : Type}

/-- Store tile `i` of a row. -/
def putTile (s r : BitVec 32) (h : OIn s r) (i : Fin 18) (x : FVec F S8x128 .f32) (k : TP F α) : TP F α :=
  .op (.load oV (oR s r h i) (View.loadsAt_vmem h_S8x128)) fun _ =>
  .op (.store oV ⟨oR s r h i, spos_8_1⟩ (shapeCast S8x128 x shapeCasts_S8x128_S8x128) Finset.univ
    (View.stores_vmem_bits_univ h_S8x128 rfl) (.inl rfl)) fun _ => k

/-- Add to tile `i` of a row. -/
def addTile (s r : BitVec 32) (h : OIn s r) (i : Fin 18) (x : FVec F S8x128 .f32) (k : TP F α) : TP F α :=
  .op (.load oV (oR s r h i) (View.loadsAt_vmem h_S8x128)) fun (y : Vec F S8x128 .f32) =>
  .op (.load oV (oR s r h i) (View.loadsAt_vmem h_S8x128)) fun _ =>
  .op (.store oV ⟨oR s r h i, spos_8_1⟩ (shapeCast S8x128 (addf y x) shapeCasts_S8x128_S8x128) Finset.univ
    (View.stores_vmem_bits_univ h_S8x128 rfl) (.inl rfl)) fun _ => k

/-- Read tile `i` of a token. -/
def getTile (t : BitVec 32) (h : CIn t) (i : Fin 18) (k : Vec F S8x128 .i32 → TP F α) : TP F α :=
  .op (.load cV (cR t h i) (View.loadsAt_vmem h_S8x128)) fun w => k w

/-- What a row does with a tile: store it, or add it. -/
abbrev TileOp (F : FTy → Type) [FloatOps F] (α : Type) := Fin 18 → FVec F S8x128 .f32 → TP F α → TP F α

/-- Tiles `a`, `b`, `c`, `d` of a row: read, unpacked together, scaled, used. -/
def quad (t : BitVec 32) (h : CIn t) (sh : BitVec 32) (sc : F .f32) (op : TileOp F α) (a b c d : Fin 18) (k : TP F α) : TP F α :=
  getTile t h a fun w0 => getTile t h b fun w1 => getTile t h c fun w2 => getTile t h d fun w3 =>
  op a (sl4 0 (dec4 w0 w1 w2 w3 sh) sc) <| op b (sl4 1 (dec4 w0 w1 w2 w3 sh) sc) <|
  op c (sl4 2 (dec4 w0 w1 w2 w3 sh) sc) <| op d (sl4 3 (dec4 w0 w1 w2 w3 sh) sc) k

/-- Tiles `a` and `b` of a row, likewise. -/
def pair (t : BitVec 32) (h : CIn t) (sh : BitVec 32) (sc : F .f32) (op : TileOp F α) (a b : Fin 18) (k : TP F α) : TP F α :=
  getTile t h a fun w0 => getTile t h b fun w1 =>
  op a (sl2 0 (dec2 w0 w1 sh) sc) <| op b (sl2 1 (dec2 w0 w1 sh) sc) k

/-- A whole row: its eighteen tiles, four at a time. -/
def row (t : BitVec 32) (h : CIn t) (sh : BitVec 32) (sc : F .f32) (op : TileOp F α) (k : TP F α) : TP F α :=
  quad t h sh sc op 0 1 2 3 <| quad t h sh sc op 4 5 6 7 <| quad t h sh sc op 8 9 10 11 <|
  quad t h sh sc op 12 13 14 15 <| pair t h sh sc op 16 17 k

/-- How far up a word token `t`'s byte lies. -/
def shOf (t : BitVec 32) : BitVec 32 := Scalar.muli (Scalar.andi t 3#32) 8#32

/-- The place of token `t` in the scalar tables. -/
def sOff (t : BitVec 32) : Fin 2 → ℕ :=
  ![(Scalar.indexCast (Scalar.shrsi t 8#32) : Index).toNat, (Scalar.indexCast (Scalar.andi t 255#32) : Index).toNat]

/-- Read the scale of token `t`. -/
def getScale (t : BitVec 32) (h : ∀ a, (sOff t) a + S1x1.size a ≤ S6x256.size a) (k : F .f32 → TP F α) : TP F α :=
  smemLoadElt (Memref.whole cc0_scratch3) (Rect.unit (s := S6x256) (sOff t) S1x1.size h)
    (View.loads_smem_one rfl numel1_S1x1) (Shape.Idx.first (numel1_S1x1.symm ▸ Nat.one_pos)) fun (x : Elt F .f32) => k x

/-- Read the row number of token `t`. -/
def getRow (t : BitVec 32) (h : ∀ a, (sOff t) a + S1x1.size a ≤ S6x256.size a) (k : BitVec 32 → TP F α) : TP F α :=
  smemLoadElt (Memref.whole cc0_scratch5) (Rect.unit (s := S6x256) (sOff t) S1x1.size h)
    (View.loads_smem_one rfl numel1_S1x1) (Shape.Idx.first (numel1_S1x1.symm ▸ Nat.one_pos)) fun (x : Elt F .i32) => k x

/-! ## The walk over a block's further tokens -/

/-- The words the printed loop carries along unread. -/
structure Carried (b : BitVec 32) : Type where
  h3 : k0_chk3 b
  a4 : BitVec 32
  h4 : k0_chk4 a4
  a5 : BitVec 32
  h5 : k0_chk5 a5
  a6 : BitVec 32
  h6 : k0_chk6 a6
  a7 : BitVec 32
  h7 : k0_chk7 a7
  a8 : BitVec 32
  h8 : k0_chk8 a8
  a9 : BitVec 32
  h9 : k0_chk9 a9
  a10 : BitVec 32
  h10 : k0_chk10 a10
  a11 : BitVec 32
  h11 : k0_chk11 a11

/-- The argument of the walk's label: token `x` of block `b`. -/
def walkArg (b : BitVec 32) (w : Carried b) (x : BitVec 32) : Cc0While2 F :=
  ⟨b, w.h3, w.a4, w.h4, w.a5, w.h5, w.a6, w.h6, w.a7, w.h7, w.a8, w.h8, w.a9, w.h9, w.a10, w.h10, w.a11, w.h11,
    Memref.whole cc0_scratch5, Memref.isWhole_whole _, Memref.whole cc0_scratch3, Memref.isWhole_whole _,
    Memref.whole cc0_scratch0, Memref.isWhole_whole _, Scalar.remsi b 24#32, Memref.whole cc0_scratch1, Memref.isWhole_whole _,
    Memref.whole cc0_scratch8, Memref.isWhole_whole _, x⟩

/-- The lines token `t` reads, from what the walk checks. -/
theorem cIn_of_chk12 {t : BitVec 32} (h : k0_chk12 t) : CIn t := by
  intro r
  by_cases hr : r.val < 4
  · exact h.2.1 ⟨r.val, hr⟩
  · have h := h.2.2.1 ⟨r.val - 4, by omega⟩
    have e : 12544 + 3136 * (r.val - 4) = 3136 * r.val := by omega
    simp only [e] at h
    exact h

/-- One step of the walk. -/
def walkBody (b : BitVec 32) (w : Carried b) (t : BitVec 32) : TP F (BitVec 32) :=
  if Scalar.andi (Scalar.cmpi .sge t 0#32) (Scalar.cmpi .slt t 1536#32) = 1#1 then
    .op (.assume (k0_chk12 t) (k0_chk12.dec t)) fun h12 =>
    getRow t (k0_off43_inb t h12.down) fun v =>
    .op (.assume (k0_chk13 b v) (k0_chk13.dec b v)) fun h13 =>
    getScale t (k0_off43_inb t h12.down) fun sc =>
    row t (cIn_of_chk12 h12.down) (shOf t) sc (addTile (Scalar.remsi b 24#32) (Scalar.andi v 7#32) h13.down) <|
    smemLoadElt (Memref.whole cc0_scratch8) (Rect.unit (s := S1537) (k0_off47 t) S1.size (k0_off47_inb t h12.down))
      (View.loads_smem_one rfl numel1_S1) (Shape.Idx.first (numel1_S1.symm ▸ Nat.one_pos)) fun (x : Elt F .i32) =>
    .op (.call (2 : (Λ₀ F).Label) (walkArg b w x)) .ret
  else .ret t

/-- The body of the walk's label. -/
def while2Of (w : Cc0While2 F) : TP F (BitVec 32) :=
  cc0_while2 w.arg20 w.k0_hw3 w.v908 w.k0_hw4 w.v1223 w.k0_hw5 w.v1538 w.k0_hw6 w.v1853 w.k0_hw7 w.v2168 w.k0_hw8 w.v2483
    w.k0_hw9 w.v2798 w.k0_hw10 w.v3113 w.k0_hw11 w.arg10 w.harg10 w.arg8 w.harg8 w.arg5 w.harg5 w.v901 w.arg6 w.harg6
    w.arg13 w.harg13 w.arg21

/-- The printed walk is the step. -/
theorem while2_eq (b : BitVec 32) (w : Carried b) (t : BitVec 32) :
    while2Of (F := F) (walkArg b w t) = walkBody b w t := by
  rfl

/-! ## Copies -/

/-- A semaphore of the ring's. -/
abbrev SemIn (o : Fin 1 → ℕ) : Prop := ∀ a, o a + S1.size a ≤ S24.size a

/-- A block of the result. -/
abbrev PieceIn (o : Fin 4 → ℕ) : Prop := ∀ a, o a + S1x144x8x128.size a ≤ S192x144x8x128.size a

/-- A slot of the ring. -/
abbrev SlotIn (o : Fin 4 → ℕ) : Prop := ∀ a, o a + S1x144x8x128.size a ≤ S24x144x8x128.size a

/-- Semaphore `o` of the ring's. -/
abbrev outSem (o : Fin 1 → ℕ) (h : SemIn o) : DmaSem sig :=
  (((cc0_scratch13.slice (Rect.unit (s := S24) o S1.size h)).squeeze S_ squeezes_S1_S_) : DmaSems sig S_).sem

/-- Block `o` of the result. -/
abbrev outPiece (o : Fin 4 → ℕ) (h : PieceIn o) :
    Memref sig .tc .hbm S144x8x128 .f32 :=
  ((Memref.whole main_v3).slice (Rect.unit (s := S192x144x8x128) o S1x144x8x128.size h) (fun _ => rfl)).squeeze S144x8x128
    squeezes_S1x144x8x128_S144x8x128

/-- Slot `o` of the ring. -/
abbrev ringSlot (o : Fin 4 → ℕ) (h : SlotIn o) :
    Memref sig .tc .vmem S144x8x128 .f32 :=
  ((Memref.whole cc0_scratch1).slice (Rect.unit (s := S24x144x8x128) o S1x144x8x128.size h) (fun _ => rfl)).squeeze S144x8x128
    squeezes_S1x144x8x128_S144x8x128

/-- Start the copy of a slot to its block. -/
def startOut (o : Fin 1 → ℕ) (h : SemIn o) (p : Fin 4 → ℕ) (hp : PieceIn p) (q : Fin 4 → ℕ) (hq : SlotIn q) (k : TP F α) : TP F α :=
  Prog.bind (Prog.lift (.enqueueDma (ringSlot q hq) (.here (outPiece p hp)) (.dma (outSem o h)) ((View.wordExact_bits rfl).reshape _ _)
    ((View.wordExact_bits rfl).reshape _ _) ⟨Or.inl rfl, trivial⟩)) fun _ => k

/-- Wait for the copy of a slot. -/
def waitOut (o : Fin 1 → ℕ) (h : SemIn o) (p : Fin 4 → ℕ) (hp : PieceIn p) (q : Fin 4 → ℕ) (hq : SlotIn q) (k : TP F α) : TP F α :=
  Prog.bind (Prog.lift (.waitDma2 (outSem o h) (ringSlot q hq) (outPiece p hp) ((View.wordExact_bits rfl).reshape _ _)
    ((View.wordExact_bits rfl).reshape _ _))) fun _ => k

/-- Start the copy of zeros to a block. -/
def startZero (p : Fin 4 → ℕ) (hp : PieceIn p) (k : TP F α) : TP F α :=
  Prog.bind (Prog.lift (.enqueueDma (Memref.whole cc0_scratch2) (.here (outPiece p hp)) (.dma cc0_scratch14.sem)
    (Memref.isWhole_whole _).wordExact ((View.wordExact_bits rfl).reshape _ _) ⟨Or.inl rfl, trivial⟩)) fun _ => k

/-- Wait for a copy of zeros. -/
def waitZero (p : Fin 4 → ℕ) (hp : PieceIn p) (k : TP F α) : TP F α :=
  Prog.bind (Prog.lift (.waitDma2 cc0_scratch14.sem (Memref.whole cc0_scratch2) (outPiece p hp)
    (Memref.isWhole_whole _).wordExact ((View.wordExact_bits rfl).reshape _ _))) fun _ => k

/-! ## One block -/

/-- Where the first token of row `r` of block `b` is kept. -/
def hOff (b r : BitVec 32) : Fin 1 → ℕ := ![(Scalar.indexCast (Scalar.addi (Scalar.muli b 8#32) r) : Index).toNat]

/-- Row `r` of a block from its first token: none is a row of zeros. -/
def headRow (b r : BitVec 32) (hH : ∀ a, (hOff b r) a + S1.size a ≤ S1537.size a) (hO : OIn (Scalar.remsi b 24#32) r)
    (P : BitVec 32 → Prop) (d : ∀ v, Decidable (P v))
    (hS : ∀ v, P v → ∀ a, (sOff (Scalar.maxsi v 0#32)) a + S1x1.size a ≤ S6x256.size a)
    (hC : ∀ v, P v → CIn (Scalar.maxsi v 0#32)) (k : (v : BitVec 32) → P v → TP F α) : TP F α :=
  smemLoadElt (Memref.whole cc0_scratch6) (Rect.unit (s := S1537) (hOff b r) S1.size hH)
    (View.loads_smem_one rfl numel1_S1) (Shape.Idx.first (numel1_S1.symm ▸ Nat.one_pos)) fun (v : Elt F .i32) =>
  .op (.assume (P v) (d v)) fun hv =>
  getScale (Scalar.maxsi v 0#32) (hS v hv.down) fun sc =>
  row (Scalar.maxsi v 0#32) (hC v hv.down) (shOf (Scalar.maxsi v 0#32))
    (Scalar.select (Scalar.cmpi .slt v 0#32) (Scalar.ofBits .f32 0x00000000#32) sc)
    (putTile (Scalar.remsi b 24#32) r hO) (k v hv.down)

/-- The argument of the block loop's label. -/
def blockArg (n b : BitVec 32) : Cc0While1 F :=
  ⟨n, cc0_scratch13, Memref.whole main_v3, Memref.isWhole_whole _, Memref.whole cc0_scratch1, Memref.isWhole_whole _,
    Memref.whole cc0_scratch6, Memref.isWhole_whole _, Memref.whole cc0_scratch3, Memref.isWhole_whole _,
    Memref.whole cc0_scratch0, Memref.isWhole_whole _, Memref.whole cc0_scratch7, Memref.isWhole_whole _,
    Memref.whole cc0_scratch5, Memref.isWhole_whole _, Memref.whole cc0_scratch8, Memref.isWhole_whole _, b⟩

/-- The body of the block loop's label. -/
def while1Of (w : Cc0While1 F) : TP F (BitVec 32) :=
  cc0_while1 w.v441 w.arg18 w.arg4 w.harg4 w.arg6 w.harg6 w.arg11 w.harg11 w.arg8 w.harg8 w.arg5 w.harg5 w.arg12 w.harg12
    w.arg10 w.harg10 w.arg13 w.harg13 w.arg20

/-- The last rows of a block: the walk over its further tokens, the copy of the block before it, the next block. -/
def blockTail (n b : BitVec 32) (w : Carried b) : TP F (BitVec 32) :=
  smemLoadElt (Memref.whole cc0_scratch7) (Rect.unit (s := S193) (k0_off42 b) S1.size (k0_off42_inb b w.h3))
    (View.loads_smem_one rfl numel1_S1) (Shape.Idx.first (numel1_S1.symm ▸ Nat.one_pos)) fun (x : Elt F .i32) =>
  .op (.call (2 : (Λ₀ F).Label) (walkArg b w x)) fun (_ : BitVec 32) =>
  if h2 : k0_cond2 b = 1#1 then
    startOut (k0_off48 b) (k0_off48_inb b w.h3 h2) (k0_off49 b) (k0_off49_inb b w.h3 h2) (k0_off50 b) (k0_off50_inb b w.h3 h2)
      (.op (.call (1 : (Λ₀ F).Label) (blockArg n (Scalar.addi b 1#32))) .ret)
  else .op (.call (1 : (Λ₀ F).Label) (blockArg n (Scalar.addi b 1#32))) .ret

/-- The eight rows of a block, then the rest of it. -/
def blockRows (n b : BitVec 32) (h3 : k0_chk3 b) : TP F (BitVec 32) :=
  headRow b 0#32 (k0_off10_inb b h3) (k0_off13_inb b h3) k0_chk4 k0_chk4.dec (fun v h => h.1) (fun v h => h.2) fun a4 h4 =>
  headRow b 1#32 (k0_off14_inb b h3) (k0_off17_inb b h3) k0_chk5 k0_chk5.dec (fun v h => h.1) (fun v h => h.2) fun a5 h5 =>
  headRow b 2#32 (k0_off18_inb b h3) (k0_off21_inb b h3) k0_chk6 k0_chk6.dec (fun v h => h.1) (fun v h => h.2) fun a6 h6 =>
  headRow b 3#32 (k0_off22_inb b h3) (k0_off25_inb b h3) k0_chk7 k0_chk7.dec (fun v h => h.1) (fun v h => h.2) fun a7 h7 =>
  headRow b 4#32 (k0_off26_inb b h3) (k0_off29_inb b h3) k0_chk8 k0_chk8.dec (fun v h => h.1) (fun v h => h.2) fun a8 h8 =>
  headRow b 5#32 (k0_off30_inb b h3) (k0_off33_inb b h3) k0_chk9 k0_chk9.dec (fun v h => h.1) (fun v h => h.2) fun a9 h9 =>
  headRow b 6#32 (k0_off34_inb b h3) (k0_off37_inb b h3) k0_chk10 k0_chk10.dec (fun v h => h.1) (fun v h => h.2) fun a10 h10 =>
  headRow b 7#32 (k0_off38_inb b h3) (k0_off41_inb b h3) k0_chk11 k0_chk11.dec (fun v h => h.1) (fun v h => h.2) fun a11 h11 =>
  blockTail n b ⟨h3, a4, h4, a5, h5, a6, h6, a7, h7, a8, h8, a9, h9, a10, h10, a11, h11⟩

/-- One block. -/
def blockBody (n b : BitVec 32) : TP F (BitVec 32) :=
  if Scalar.cmpi .slt b n = 1#1 then
    .op (.assume (k0_chk3 b) (k0_chk3.dec b)) fun h3 =>
    if h1 : k0_cond1 b = 1#1 then
      waitOut (k0_off7 b) (k0_off7_inb b h3.down h1) (k0_off8 b) (k0_off8_inb b h3.down h1) (k0_off9 b)
        (k0_off9_inb b h3.down h1) (blockRows n b h3.down)
    else blockRows n b h3.down
  else .ret b

/-- The printed block loop is the step. -/
theorem while1_eq (n b : BitVec 32) : while1Of (F := F) (blockArg n b) = blockBody n b := by
  unfold while1Of blockArg cc0_while1 k0_part107 k0_part47 blockBody blockRows blockTail
  by_cases h0 : Scalar.cmpi .slt b n = 1#1
  · by_cases h1 : k0_cond1 b = 1#1 <;> by_cases h2 : k0_cond2 b = 1#1 <;>
      simp only [h0, h1, h2, ↓reduceDIte, ↓reduceIte] <;> rfl
  · simp only [if_neg h0, ↓reduceIte]; rfl

end Cert.Proof.SegK
-- ==== Proof.SegK.Words.lean ====
/-
  The kernel's integer arithmetic on small words, as natural numbers.
-/
module

public import proofs.«01_k».proof.Proof.SegK.Prog

@[expose] public section

namespace Cert.Proof.SegK

open Cert.Kernel
open Idealize.ShloMosaic Idealize.ShloMosaic.TcCoe

/-- The word of a small number has that number back. -/
theorem toNat_ofNat {n : ℕ} (h : n < 2 ^ 32) : (BitVec.ofNat 32 n).toNat = n := by
  simp only [BitVec.toNat_ofNat]; exact Nat.mod_eq_of_lt h

theorem ofNat_toNat (x : BitVec 32) : BitVec.ofNat 32 x.toNat = x := by simp

theorem toInt_small {x : BitVec 32} (h : x.toNat < 2 ^ 31) : x.toInt = x.toNat := by
  rw [BitVec.toInt_eq_toNat_cond]; split <;> omega

theorem msb_small {x : BitVec 32} (h : x.toNat < 2 ^ 31) : x.msb = false := by
  rw [BitVec.msb_eq_false_iff_two_mul_lt]; omega

theorem addi_toNat {x y : BitVec 32} (h : x.toNat + y.toNat < 2 ^ 32) : (Scalar.addi x y).toNat = x.toNat + y.toNat := by
  show (x + y).toNat = _
  rw [BitVec.toNat_add, Nat.mod_eq_of_lt h]

theorem subi_toNat {x y : BitVec 32} (h : y.toNat ≤ x.toNat) : (Scalar.subi x y).toNat = x.toNat - y.toNat := by
  show (x - y).toNat = _
  have := x.isLt
  rw [BitVec.toNat_sub_of_le (by rwa [BitVec.le_def])]

theorem muli_toNat {x y : BitVec 32} (h : x.toNat * y.toNat < 2 ^ 32) : (Scalar.muli x y).toNat = x.toNat * y.toNat := by
  show (x * y).toNat = _
  rw [BitVec.toNat_mul, Nat.mod_eq_of_lt h]

theorem shrsi_toNat {x : BitVec 32} (h : x.toNat < 2 ^ 31) (k : ℕ) (hk : k < 32) :
    (Scalar.shrsi x (BitVec.ofNat 32 k)).toNat = x.toNat / 2 ^ k := by
  have hk' : (BitVec.ofNat 32 k).toNat = k := toNat_ofNat (by omega)
  unfold Scalar.shrsi IntOp.shrsi
  rw [if_pos (by rw [hk']; exact hk)]
  show (x.sshiftRight (BitVec.ofNat 32 k).toNat).toNat = _
  rw [hk', BitVec.sshiftRight_eq_of_msb_false (msb_small h), BitVec.toNat_ushiftRight, Nat.shiftRight_eq_div_pow]

theorem andi_toNat (x : BitVec 32) (k : ℕ) (hk : k < 32) :
    (Scalar.andi x (BitVec.ofNat 32 (2 ^ k - 1))).toNat = x.toNat % 2 ^ k := by
  show (x &&& _).toNat = _
  have h2 : 2 ^ k < 2 ^ 32 := Nat.pow_lt_pow_right (by omega) hk
  rw [BitVec.toNat_and, toNat_ofNat (by omega), Nat.and_two_pow_sub_one_eq_mod]

theorem remsi_toNat {x : BitVec 32} (h : x.toNat < 2 ^ 31) (n : ℕ) (hn : 0 < n) (hn' : n < 2 ^ 31) :
    (Scalar.remsi x (BitVec.ofNat 32 n)).toNat = x.toNat % n := by
  have hk' : (BitVec.ofNat 32 n).toNat = n := toNat_ofNat (by omega)
  have hm : (BitVec.ofNat 32 n).msb = false := msb_small (by rw [hk']; exact hn')
  unfold Scalar.remsi IntOp.remsi
  rw [if_neg ?_]
  · rw [BitVec.srem_eq, msb_small h, hm]
    show (x % BitVec.ofNat 32 n).toNat = _
    rw [BitVec.toNat_umod, hk']
  · rintro (h0 | ⟨h0, _⟩)
    · rw [h0] at hk'; simp at hk'; omega
    · rw [h0] at h; revert h; decide

theorem cmpi_slt_small {x y : BitVec 32} (hx : x.toNat < 2 ^ 31) (hy : y.toNat < 2 ^ 31) :
    Scalar.cmpi .slt x y = 1#1 ↔ x.toNat < y.toNat := by
  show BitVec.ofBool (x.slt y) = 1#1 ↔ _
  rw [show x.slt y = decide (x.toNat < y.toNat) by
    rw [BitVec.slt, toInt_small hx, toInt_small hy]; simp]
  by_cases hh : x.toNat < y.toNat <;> simp [hh]

theorem cmpi_sge_small {x y : BitVec 32} (hx : x.toNat < 2 ^ 31) (hy : y.toNat < 2 ^ 31) :
    Scalar.cmpi .sge x y = 1#1 ↔ y.toNat ≤ x.toNat := by
  show BitVec.ofBool (y.sle x) = 1#1 ↔ _
  rw [show y.sle x = decide (y.toNat ≤ x.toNat) by
    rw [BitVec.sle, toInt_small hx, toInt_small hy]; simp]
  by_cases hh : y.toNat ≤ x.toNat <;> simp [hh]

end Cert.Proof.SegK
-- ==== Proof.SegK.Rows.lean ====
/-
  What a row of the kernel does to a slot of the ring. A slot is held as a function of its eight rows, 144 column tiles
  and 128 lanes; a row read from the packed words and stored, or added, changes that function on the row alone
  (`wp_row`).
-/
module

public import proofs.«01_k».proof.Proof.SegK.Words
public import Idealize.ShloMosaic.Lib.Pipeline.Value
public import Idealize.ShloMosaic.Lib.Transfers

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-- The labels' variants: natural numbers. -/
abbrev 𝒱₀ : Variants := Variants.nat

/-- A weakest precondition of the kernel's programs, at bound `bd`. -/
abbrev W (c : Dev nD) (bd : Option ℕ) (p : TP F α) (Q : α → sProp 𝕄) : sProp 𝕄 :=
  wp frame (wpE (defs₀ (F := F)) 𝒱₀ (c : Thread nD τ) bd) Set.univ p Q

/-! ## A byte of a word -/

/-- The byte of `w` that lies `sh` bits up, read as a float. -/
def decW (w sh : BitVec 32) : F .f32 :=
  FloatOps.extf .f32 bitsLt_fp8e5m2_f32 (FloatOps.ofBits .fp8e5m2 ((IntOp.shrui .vector w sh).setWidth 8))

theorem sl4_apply (i : Fin 4) (w : Fin 4 → Vec F S8x128 .i32) (sh : BitVec 32) (sc : F .f32) (k : S8x128.Idx) :
    sl4 i (dec4 (w 0) (w 1) (w 2) (w 3) sh) sc k = FloatOps.mulf (decW (w i k) sh) sc := by
  have key : ∀ j : S32x128.Idx, (j 0).val = 8 * i.val + (k 0).val → (j 1).val = (k 1).val →
      dec4 (w 0) (w 1) (w 2) (w 3) sh j = decW (w i k) sh := by
    intro j h0 h1
    have e : (concatenate S32x128 0 [⟨S8x128, w 0⟩, ⟨S8x128, w 1⟩, ⟨S8x128, w 2⟩, ⟨S8x128, w 3⟩]
      concatenates_S8x128_S8x128_S8x128_S8x128_S32x128_d0 : IVec S32x128 32) j = w i k := by
      refine concatenate_apply_piece (t := S32x128) _ _ _ _ i.val ?_ S8x128 (w i) ?_ rfl (8 * i.val) ?_ k ?_ ?_
      · exact i.isLt
      · fin_cases i <;> rfl
      · fin_cases i <;> rfl
      · intro b hb
        have hb' : b = 1 := by
          rcases b with ⟨_ | _ | n, hn⟩
          · exact absurd rfl hb
          · rfl
          · exact absurd hn (by simp)
        subst hb'; exact h1.symm
      · exact h0.symm
    unfold dec4 decW
    show FloatOps.extf .f32 _ (FloatOps.ofBits .fp8e5m2 ((IntOp.shrui .vector _ _).setWidth 8)) = _
    rw [e]; rfl
  fin_cases i <;>
  · refine congrArg (fun z => FloatOps.mulf z sc) (key _ ?_ ?_)
    · show _ + (k 0).val = _; rfl
    · show 0 + (k 1).val = _; omega

theorem sl2_apply (i : Fin 2) (w : Fin 2 → Vec F S8x128 .i32) (sh : BitVec 32) (sc : F .f32) (k : S8x128.Idx) :
    sl2 i (dec2 (w 0) (w 1) sh) sc k = FloatOps.mulf (decW (w i k) sh) sc := by
  have key : ∀ j : S16x128.Idx, (j 0).val = 8 * i.val + (k 0).val → (j 1).val = (k 1).val →
      dec2 (w 0) (w 1) sh j = decW (w i k) sh := by
    intro j h0 h1
    have e : (concatenate S16x128 0 [⟨S8x128, w 0⟩, ⟨S8x128, w 1⟩]
      concatenates_S8x128_S8x128_S16x128_d0 : IVec S16x128 32) j = w i k := by
      refine concatenate_apply_piece (t := S16x128) _ _ _ _ i.val ?_ S8x128 (w i) ?_ rfl (8 * i.val) ?_ k ?_ ?_
      · exact i.isLt
      · fin_cases i <;> rfl
      · fin_cases i <;> rfl
      · intro b hb
        have hb' : b = 1 := by
          rcases b with ⟨_ | _ | n, hn⟩
          · exact absurd rfl hb
          · rfl
          · exact absurd hn (by simp)
        subst hb'; exact h1.symm
      · exact h0.symm
    unfold dec2 decW
    show FloatOps.extf .f32 _ (FloatOps.ofBits .fp8e5m2 ((IntOp.shrui .vector _ _).setWidth 8)) = _
    rw [e]; rfl
  fin_cases i <;>
  · refine congrArg (fun z => FloatOps.mulf z sc) (key _ ?_ ?_)
    · show _ + (k 0).val = _; rfl
    · show 0 + (k 1).val = _; omega

/-! ## Where the tiles lie -/

/-- The line of an element of a tile, -/
def kR (k : S8x128.Idx) : Fin 8 := k 0
/-- and its lane. -/
def kL (k : S8x128.Idx) : Fin 128 := k 1

/-- The slot of an element of the ring, -/
def eS (e : S24x144x8x128.Idx) : Fin 24 := e 0
/-- its column tile, -/
def eJ (e : S24x144x8x128.Idx) : Fin 144 := e 1
/-- its row, -/
def eR (e : S24x144x8x128.Idx) : Fin 8 := e 2
/-- and its lane. -/
def eL (e : S24x144x8x128.Idx) : Fin 128 := e 3

/-- An element of the ring. -/
def oIdx (s : Fin 24) (j : Fin 144) (r : Fin 8) (l : Fin 128) : S24x144x8x128.Idx := fun a => match a with
  | ⟨0, _⟩ => s | ⟨1, _⟩ => j | ⟨2, _⟩ => r | ⟨3, _⟩ => l

/-- An element of the packed rows. -/
def cIdx (j : Fin 144) (r : Fin 392) (l : Fin 128) : S144x392x128.Idx := fun a => match a with
  | ⟨0, _⟩ => j | ⟨1, _⟩ => r | ⟨2, _⟩ => l

theorem oIdx_eta (i : S24x144x8x128.Idx) : oIdx (eS i) (eJ i) (eR i) (eL i) = i := by
  funext a
  rcases a with ⟨_ | _ | _ | _ | n, hn⟩ <;> first | rfl | exact absurd hn (by simp)

theorem cIdx_eta (i : S144x392x128.Idx) : cIdx (i 0) (i 1) (i 2) = i := by
  funext a
  rcases a with ⟨_ | _ | _ | n, hn⟩ <;> first | rfl | exact absurd hn (by simp)

/-- Tile `i` (of eighteen), line `k` of it. -/
def tileAt (i : Fin 18) (k : Fin 8) : Fin 144 := ⟨8 * i.val + k.val, by omega⟩

theorem oOff_zero (s : Fin 24) (r : Fin 8) (i : Fin 18) (sw rw : BitVec 32) (hs : sw.toNat = s) (hr : rw.toNat = r) :
    oOff sw (BitVec.ofNat 32 (64 * i.val)) rw 0 = 1152 * s.val + 64 * i.val + r.val := by
  have hc : (BitVec.ofNat 32 (64 * i.val)).toNat = 64 * i.val := toNat_ofNat (by omega)
  have h1 : (Scalar.muli sw 1152#32).toNat = 1152 * s.val := by
    rw [muli_toNat (by rw [hs]; show s.val * 1152 < _; omega), hs]; show s.val * 1152 = _; omega
  have h2 : (Scalar.addi (Scalar.muli sw 1152#32) (BitVec.ofNat 32 (64 * i.val))).toNat = 1152 * s.val + 64 * i.val := by
    rw [addi_toNat (by rw [h1, hc]; omega), h1, hc]
  show (Scalar.addi _ rw).toNat = _
  rw [addi_toNat (by rw [h2, hr]; omega), h2, hr]

theorem cOff_zero (t : BitVec 32) (ht : t.toNat < 1536) (i : Fin 18) :
    cOff t (BitVec.ofNat 32 (3136 * i.val)) 0 = t.toNat / 4 + 3136 * i.val := by
  have hc : (BitVec.ofNat 32 (3136 * i.val)).toNat = 3136 * i.val := toNat_ofNat (by omega)
  have h1 : (Scalar.shrsi t 2#32).toNat = t.toNat / 4 := shrsi_toNat (by omega) 2 (by omega)
  show (Scalar.addi _ _).toNat = _
  rw [addi_toNat (by rw [h1, hc]; omega), h1, hc]

/-- Element `k` of a tile of the ring, as the buffer's element. -/
theorem oV_emb (s : Fin 24) (r : Fin 8) (i : Fin 18) (sw rw : BitVec 32) (hs : sw.toNat = s) (hr : rw.toNat = r)
    (h : OIn sw rw) (k : S8x128.Idx) :
    (oV.access ⟨oR sw rw h i, spos_8_1⟩).emb k = oIdx s (tileAt i (kR k)) r (kL k) := by
  have h0 := oOff_zero s r i sw rw hs hr
  show Shape.reshapeEquiv _ ((⟨oR sw rw h i, spos_8_1⟩ : Rect S27648x128).emb k) = _
  refine Shape.reshapeEquiv_eq_of_rowMajor _ ?_
  refine (Shape.rowMajor_val_four (d := ![24, 144, 8, 128]) _).trans (Eq.trans ?_ (Shape.rowMajor_val_two (d := ![27648, 128]) _).symm)
  show ((s.val * 144 + (8 * i.val + (kR k).val)) * 8 + r.val) * 128 + (kL k).val
    = (oOff sw (BitVec.ofNat 32 (64 * i.val)) rw 0 + 8 * (kR k).val) * 128 + (0 + 1 * (kL k).val)
  rw [h0]; omega

/-- What a tile of the packed rows reads. -/
theorem cV_read (t : BitVec 32) (ht : t.toNat < 1536) (h : CIn t) (i : Fin 18) (f : S144x392x128.Idx → BitVec 32)
    (k : S8x128.Idx) :
    (cV.view.readAt (Elt F) (cR t h i) f : Vec F S8x128 .i32) k
      = f (cIdx (tileAt i (kR k)) ⟨t.toNat / 4, by omega⟩ (kL k)) := by
  have h0 := cOff_zero t ht i
  rw [View.readAt_apply]
  refine congrArg f (Shape.reshapeEquiv_eq_of_rowMajor _ ?_)
  refine (Shape.rowMajor_val_three (d := ![144, 392, 128]) _).trans (Eq.trans ?_ (Shape.rowMajor_val_two (d := ![56448, 128]) _).symm)
  show ((8 * i.val + (kR k).val) * 392 + t.toNat / 4) * 128 + (kL k).val
    = (cOff t (BitVec.ofNat 32 (3136 * i.val)) 0 + 392 * (kR k).val) * 128 + (0 + 1 * (kL k).val)
  rw [h0]; omega

/-! ## A slot -/

/-- The contents of a slot: row, column tile, lane. -/
abbrev Slot (F : FTy → Type) := Fin 8 → Fin 144 → Fin 128 → F .f32

/-- The elements of slot `s`. -/
def slotSet (s : Fin 24) : Finset S24x144x8x128.Idx := Finset.univ.filter fun i => eS i = s

theorem mem_slotSet {s : Fin 24} {i : S24x144x8x128.Idx} : i ∈ slotSet s ↔ eS i = s := by simp [slotSet]

/-- Slot `s` of the ring holds `G`. -/
def slotPts (c : Dev nD) (s : Fin 24) (G : Slot F) : sProp 𝕄 :=
  ((c : Thread nD τ).loc cc0_scratch1) ↦[slotSet s]{fullShare} (fun i : S24x144x8x128.Idx => G (eR i) (eJ i) (eL i))

/-- A slot with tile `i` of row `r` changed by `u`, which is told the old element and the tile's. -/
def updTile (u : F .f32 → F .f32 → F .f32) (r : Fin 8) (i : Fin 18) (x : S8x128.Idx → F .f32) (G : Slot F) : Slot F :=
  fun r' j l => if r' = r ∧ j.val / 8 = i.val then u (G r' j l) (x (Shape.pair (⟨j.val % 8, Nat.mod_lt _ (by omega)⟩ : Fin 8) l)) else G r' j l

theorem setOn_slot (s : Fin 24) (r : Fin 8) (i : Fin 18) (sw rw : BitVec 32) (hs : sw.toNat = s) (hr : rw.toNat = r)
    (h : OIn sw rw) (M : Finset S8x128.Idx) : (oV.access ⟨oR sw rw h i, spos_8_1⟩).setOn M ⊆ slotSet s := by
  intro x hx
  obtain ⟨k, _, rfl⟩ := Finset.mem_map.mp hx
  rw [oV_emb s r i sw rw hs hr]
  exact mem_slotSet.mpr rfl

theorem load_slot (s : Fin 24) (r : Fin 8) (i : Fin 18) (sw rw : BitVec 32) (hs : sw.toNat = s) (hr : rw.toNat = r)
    (h : OIn sw rw) : oV.view.setOn (oR sw rw h i).set ⊆ slotSet s := by
  have := setOn_slot s r i sw rw hs hr h Finset.univ
  rwa [View.setOn_univ, View.set_slice] at this

/-- The written slot. -/
theorem write_slot (s : Fin 24) (r : Fin 8) (i : Fin 18) (sw rw : BitVec 32) (hs : sw.toNat = s) (hr : rw.toNat = r)
    (h : OIn sw rw) (G : Slot F) (x : S8x128.Idx → F .f32) (u : F .f32 → F .f32 → F .f32)
    (w : S8x128.Idx → F .f32) (hw : ∀ k, w k = u (G r (tileAt i (kR k)) (kL k)) (x k)) :
    ∀ e ∈ slotSet s, (oV.access ⟨oR sw rw h i, spos_8_1⟩).write (Elt F)
        (fun e : S24x144x8x128.Idx => G (eR e) (eJ e) (eL e)) w Finset.univ e
      = (fun e : S24x144x8x128.Idx => updTile u r i x G (eR e) (eJ e) (eL e)) e := by
  intro e he
  have hs0 : eS e = s := mem_slotSet.mp he
  by_cases hh : eR e = r ∧ (eJ e).val / 8 = i.val
  · obtain ⟨h2, h1⟩ := hh
    have hk : e = (oV.access ⟨oR sw rw h i, spos_8_1⟩).emb
        (Shape.pair (⟨(eJ e).val % 8, Nat.mod_lt _ (by omega)⟩ : Fin 8) (eL e)) := by
      rw [oV_emb s r i sw rw hs hr, ← oIdx_eta e]
      have : (eJ e) = tileAt i ⟨(eJ e).val % 8, Nat.mod_lt _ (by omega)⟩ := by
        apply Fin.ext; show _ = 8 * i.val + (eJ e).val % 8; have := Nat.div_add_mod (eJ e).val 8; omega
      show oIdx _ _ _ _ = oIdx s (tileAt i ⟨(eJ e).val % 8, _⟩) r (eL e)
      rw [hs0, h2, ← this]
    conv_lhs => rw [hk]
    rw [View.write_emb_of_mem (h := Finset.mem_univ _)]
    show w _ = _
    rw [hw]
    show _ = updTile u r i x G (eR e) (eJ e) (eL e)
    unfold updTile
    rw [if_pos ⟨h2, h1⟩]
    have : (eJ e) = tileAt i ⟨(eJ e).val % 8, Nat.mod_lt _ (by omega)⟩ := by
      apply Fin.ext; show _ = 8 * i.val + (eJ e).val % 8; have := Nat.div_add_mod (eJ e).val 8; omega
    congr 1
    show G r (tileAt i ⟨(eJ e).val % 8, _⟩) (e 3) = G (eR e) (eJ e) (eL e)
    rw [← this, h2]; rfl
  · rw [View.write_of_not_mem]
    · show _ = updTile u r i x G (eR e) (eJ e) (eL e)
      unfold updTile
      rw [if_neg hh]
    · intro hx
      obtain ⟨k, _, rfl⟩ := Finset.mem_map.mp hx
      apply hh
      rw [oV_emb s r i sw rw hs hr]
      refine ⟨rfl, ?_⟩
      show (8 * i.val + (kR k).val) / 8 = i.val
      have := (kR k).isLt
      omega

variable (c : Dev nD) (bd : Option ℕ)

theorem write_slot_pts (s : Fin 24) (r : Fin 8) (i : Fin 18) (sw rw : BitVec 32) (hs : sw.toNat = s) (hr : rw.toNat = r)
    (h : OIn sw rw) (G : Slot F) (x : S8x128.Idx → F .f32) (u : F .f32 → F .f32 → F .f32)
    (w : S8x128.Idx → F .f32) (hw : ∀ k, w k = u (G r (tileAt i (kR k)) (kL k)) (x k)) :
    (((oV.access ⟨oR sw rw h i, spos_8_1⟩).loc (c : Thread nD τ) ↦[slotSet s]{fullShare}
      ((oV.access ⟨oR sw rw h i, spos_8_1⟩).write (Elt F) (fun e : S24x144x8x128.Idx => G (eR e) (eJ e) (eL e)) w Finset.univ)) : sProp 𝕄)
      ⊢ (((c : Thread nD τ).loc cc0_scratch1) ↦[slotSet s]{fullShare} (fun e : S24x144x8x128.Idx => updTile u r i x G (eR e) (eJ e) (eL e))) :=
  Entails.of_eq (pointsTo_congr (write_slot s r i sw rw hs hr h G x u w hw))

/-- What the row rule asks of a tile's operation: it changes the tile by `u`. -/
def OpOk (op : TileOp F α) (s : Fin 24) (r : Fin 8) (u : F .f32 → F .f32 → F .f32) : Prop :=
  ∀ (i : Fin 18) (x : FVec F S8x128 .f32) (G : Slot F) (k : TP F α) (Q : α → sProp 𝕄),
    iprop(slotPts c s G ∗ (slotPts c s (updTile u r i x G) -∗ W c bd k Q)) ⊢ W c bd (op i x k) Q

theorem putTile_ok (s : Fin 24) (r : Fin 8) (sw rw : BitVec 32) (hs : sw.toNat = s) (hr : rw.toNat = r) (h : OIn sw rw) :
    OpOk (F := F) (α := α) c bd (putTile sw rw h) s r (fun _ y => y) := by
  intro i x G k Q
  unfold putTile slotPts W
  iintro ⟨H, Hk⟩
  iapply (wp_load 𝒱₀ (c : Thread nD τ) bd Set.univ (m := oV) (load_slot s r i sw rw hs hr h)) $$ H; iintro H
  iapply (wp_store 𝒱₀ (c : Thread nD τ) bd Set.univ (m := oV) (setOn_slot s r i sw rw hs hr h _)) $$ H; iintro H
  iapply Hk
  iapply (write_slot_pts c s r i sw rw hs hr h G x (fun _ y => y) _ (fun k => by
    show x _ = x k; rw [Shape.reshapeEquiv_self])) $$ H

theorem addTile_ok (s : Fin 24) (r : Fin 8) (sw rw : BitVec 32) (hs : sw.toNat = s) (hr : rw.toNat = r) (h : OIn sw rw) :
    OpOk (F := F) (α := α) c bd (addTile sw rw h) s r FloatOps.addf := by
  intro i x G k Q
  unfold addTile slotPts W
  iintro ⟨H, Hk⟩
  iapply (wp_load 𝒱₀ (c : Thread nD τ) bd Set.univ (m := oV) (load_slot s r i sw rw hs hr h)) $$ H; iintro H
  iapply (wp_load 𝒱₀ (c : Thread nD τ) bd Set.univ (m := oV) (load_slot s r i sw rw hs hr h)) $$ H; iintro H
  iapply (wp_store 𝒱₀ (c : Thread nD τ) bd Set.univ (m := oV) (setOn_slot s r i sw rw hs hr h _)) $$ H; iintro H
  iapply Hk
  iapply (write_slot_pts c s r i sw rw hs hr h G x FloatOps.addf _ (fun k => by
    show FloatOps.addf _ (x _) = _
    rw [Shape.reshapeEquiv_self]
    congr 1
    show (fun e : S24x144x8x128.Idx => G (eR e) (eJ e) (eL e)) ((oV.access ⟨oR sw rw h i, spos_8_1⟩).emb _) = _
    rw [oV_emb s r i sw rw hs hr]; rfl)) $$ H

/-! ## A row -/

/-- A slot with the first `n` tiles of row `r` changed. -/
def rowUpto (u : F .f32 → F .f32 → F .f32) (r : Fin 8) (y : Fin 144 → Fin 128 → F .f32) (n : ℕ) (G : Slot F) : Slot F :=
  fun r' j l => if r' = r ∧ j.val / 8 < n then u (G r' j l) (y j l) else G r' j l

/-- A slot with row `r` changed. -/
def updRow (u : F .f32 → F .f32 → F .f32) (r : Fin 8) (y : Fin 144 → Fin 128 → F .f32) (G : Slot F) : Slot F :=
  fun r' j l => if r' = r then u (G r' j l) (y j l) else G r' j l

omit [FloatOps F] in
theorem rowUpto_zero (u : F .f32 → F .f32 → F .f32) (r : Fin 8) (y : Fin 144 → Fin 128 → F .f32) (G : Slot F) :
    rowUpto u r y 0 G = G := by
  funext r' j l; simp [rowUpto]

omit [FloatOps F] in
theorem rowUpto_end (u : F .f32 → F .f32 → F .f32) (r : Fin 8) (y : Fin 144 → Fin 128 → F .f32) (G : Slot F) :
    rowUpto u r y 18 G = updRow u r y G := by
  funext r' j l
  have : j.val / 8 < 18 := by omega
  simp [rowUpto, updRow, this]

omit [FloatOps F] in
theorem rowUpto_succ (u : F .f32 → F .f32 → F .f32) (r : Fin 8) (y : Fin 144 → Fin 128 → F .f32) (G : Slot F) (i : Fin 18)
    (x : S8x128.Idx → F .f32) (hx : ∀ k, x k = y (tileAt i (kR k)) (kL k)) :
    updTile u r i x (rowUpto u r y i.val G) = rowUpto u r y (i.val + 1) G := by
  funext r' j l
  unfold updTile rowUpto
  by_cases h1 : r' = r
  · by_cases h2 : j.val / 8 = i.val
    · rw [if_pos ⟨h1, h2⟩, if_neg (by omega), if_pos ⟨h1, by omega⟩, hx]
      congr 2
      apply Fin.ext
      show 8 * i.val + j.val % 8 = j.val
      omega
    · rw [if_neg (by tauto)]
      by_cases h3 : j.val / 8 < i.val
      · rw [if_pos ⟨h1, h3⟩, if_pos ⟨h1, by omega⟩]
      · rw [if_neg (by tauto), if_neg (by rintro ⟨_, h⟩; omega)]
  · rw [if_neg (by tauto), if_neg (by tauto), if_neg (by tauto)]

/-- The packed rows hold `f`. -/
def cPts (f : S144x392x128.Idx → BitVec 32) : sProp 𝕄 :=
  ((c : Thread nD τ).loc cc0_scratch0) ↦{fullShare} (f : Buf (Elt F) ((c : Thread nD τ).loc cc0_scratch0))

/-- Column tile `j`, lane `l` of token `t`, scaled. -/
def tokW (f : S144x392x128.Idx → BitVec 32) (t : ℕ) (sh : BitVec 32) (sc : F .f32) (ht : t < 1536) : Fin 144 → Fin 128 → F .f32 :=
  fun j l => FloatOps.mulf (decW (f (cIdx j ⟨t / 4, by omega⟩ l)) sh) sc

/-- Tile `i` of the packed words of token `t`. -/
def cTile (f : S144x392x128.Idx → BitVec 32) (t : ℕ) (ht : t < 1536) (i : Fin 18) : Vec F S8x128 .i32 :=
  fun x => f (cIdx (tileAt i (kR x)) ⟨t / 4, by omega⟩ (kL x))

section Row

variable (f : S144x392x128.Idx → BitVec 32) (t : BitVec 32) (ht : t.toNat < 1536) (h : CIn t) (sh : BitVec 32) (sc : F .f32)
  (op : TileOp F α) (s : Fin 24) (r : Fin 8) (u : F .f32 → F .f32 → F .f32) (G : Slot F)

include ht in
theorem wp_getTile (i : Fin 18) (k : Vec F S8x128 .i32 → TP F α) (Q : α → sProp 𝕄) :
    iprop(cPts (F := F) c f ∗ (cPts (F := F) c f -∗ W c bd (k (cTile f t.toNat ht i)) Q))
      ⊢ W c bd (getTile t h i k) Q := by
  unfold getTile cPts W
  iintro ⟨H, Hk⟩
  iapply (wp_load 𝒱₀ (c : Thread nD τ) bd Set.univ (m := cV) (Finset.subset_univ _)) $$ H; iintro H
  have e : (cV.view.readAt (Elt F) (cR t h i) f : Vec F S8x128 .i32)
      = cTile f t.toNat ht i := funext fun x => cV_read t ht h i f x
  rw [e]
  iapply Hk; iexact H

theorem wp_quad (hop : OpOk c bd op s r u) (a b c' d : Fin 18) (hb : b.val = a.val + 1) (hc : c'.val = a.val + 2) (hd : d.val = a.val + 3)
    (k : TP F α) (Q : α → sProp 𝕄) :
    iprop(cPts (F := F) c f ∗ slotPts c s (rowUpto u r (tokW f t.toNat sh sc ht) a.val G)
      ∗ (cPts (F := F) c f -∗ slotPts c s (rowUpto u r (tokW f t.toNat sh sc ht) (a.val + 4) G) -∗ W c bd k Q))
      ⊢ W c bd (quad t h sh sc op a b c' d k) Q := by
  unfold quad
  have st : ∀ (n : ℕ) (e : Fin 18) (x : FVec F S8x128 .f32), e.val = n →
      (∀ k, x k = FloatOps.mulf (decW (f (cIdx (tileAt e (kR k)) ⟨t.toNat / 4, by omega⟩ (kL k))) sh) sc) →
      updTile u r e x (rowUpto u r (tokW f t.toNat sh sc ht) n G)
        = rowUpto u r (tokW f t.toNat sh sc ht) (n + 1) G := by
    intro n e x he hx
    rw [← he]
    exact rowUpto_succ u r _ G e x hx
  have e0 := st a.val a (sl4 0 (dec4 (cTile f t.toNat ht a) (cTile f t.toNat ht b) (cTile f t.toNat ht c') (cTile f t.toNat ht d) sh) sc) rfl (fun k => sl4_apply 0 ![cTile (F := F) f t.toNat ht a, cTile f t.toNat ht b, cTile f t.toNat ht c', cTile f t.toNat ht d] sh sc k)
  have e1 := st (a.val + 1) b (sl4 1 (dec4 (cTile f t.toNat ht a) (cTile f t.toNat ht b) (cTile f t.toNat ht c') (cTile f t.toNat ht d) sh) sc) hb (fun k => sl4_apply 1 ![cTile (F := F) f t.toNat ht a, cTile f t.toNat ht b, cTile f t.toNat ht c', cTile f t.toNat ht d] sh sc k)
  have e2 := st (a.val + 1 + 1) c' (sl4 2 (dec4 (cTile f t.toNat ht a) (cTile f t.toNat ht b) (cTile f t.toNat ht c') (cTile f t.toNat ht d) sh) sc) hc (fun k => sl4_apply 2 ![cTile (F := F) f t.toNat ht a, cTile f t.toNat ht b, cTile f t.toNat ht c', cTile f t.toNat ht d] sh sc k)
  have e3 := st (a.val + 1 + 1 + 1) d (sl4 3 (dec4 (cTile f t.toNat ht a) (cTile f t.toNat ht b) (cTile f t.toNat ht c') (cTile f t.toNat ht d) sh) sc) hd (fun k => sl4_apply 3 ![cTile (F := F) f t.toNat ht a, cTile f t.toNat ht b, cTile f t.toNat ht c', cTile f t.toNat ht d] sh sc k)
  iintro ⟨HC, HS, Hk⟩
  iapply (wp_getTile c bd f t ht h a); isplitl [HC]; · iexact HC
  iintro HC
  iapply (wp_getTile c bd f t ht h b); isplitl [HC]; · iexact HC
  iintro HC
  iapply (wp_getTile c bd f t ht h c'); isplitl [HC]; · iexact HC
  iintro HC
  iapply (wp_getTile c bd f t ht h d); isplitl [HC]; · iexact HC
  iintro HC
  iapply (hop _ _ _ _ _); isplitl [HS]; · iexact HS
  rw [e0]
  iintro HS
  iapply (hop _ _ _ _ _); isplitl [HS]; · iexact HS
  rw [e1]
  iintro HS
  iapply (hop _ _ _ _ _); isplitl [HS]; · iexact HS
  rw [e2]
  iintro HS
  iapply (hop _ _ _ _ _); isplitl [HS]; · iexact HS
  rw [e3]
  iintro HS
  iapply Hk $$ HC HS

theorem wp_pair (hop : OpOk c bd op s r u) (a b : Fin 18) (hb : b.val = a.val + 1) (n : ℕ) (hn : n = a.val + 2) (k : TP F α) (Q : α → sProp 𝕄) :
    iprop(cPts (F := F) c f ∗ slotPts c s (rowUpto u r (tokW f t.toNat sh sc ht) a.val G)
      ∗ (cPts (F := F) c f -∗ slotPts c s (rowUpto u r (tokW f t.toNat sh sc ht) n G) -∗ W c bd k Q))
      ⊢ W c bd (pair t h sh sc op a b k) Q := by
  unfold pair
  subst hn
  have st : ∀ (n : ℕ) (e : Fin 18) (x : FVec F S8x128 .f32), e.val = n →
      (∀ k, x k = FloatOps.mulf (decW (f (cIdx (tileAt e (kR k)) ⟨t.toNat / 4, by omega⟩ (kL k))) sh) sc) →
      updTile u r e x (rowUpto u r (tokW f t.toNat sh sc ht) n G)
        = rowUpto u r (tokW f t.toNat sh sc ht) (n + 1) G := by
    intro n e x he hx
    rw [← he]
    exact rowUpto_succ u r _ G e x hx
  have e0 := st a.val a (sl2 0 (dec2 (cTile f t.toNat ht a) (cTile f t.toNat ht b) sh) sc) rfl (fun k => sl2_apply 0 ![cTile (F := F) f t.toNat ht a, cTile f t.toNat ht b] sh sc k)
  have e1 := st (a.val + 1) b (sl2 1 (dec2 (cTile f t.toNat ht a) (cTile f t.toNat ht b) sh) sc) hb (fun k => sl2_apply 1 ![cTile (F := F) f t.toNat ht a, cTile f t.toNat ht b] sh sc k)
  iintro ⟨HC, HS, Hk⟩
  iapply (wp_getTile c bd f t ht h a); isplitl [HC]; · iexact HC
  iintro HC
  iapply (wp_getTile c bd f t ht h b); isplitl [HC]; · iexact HC
  iintro HC
  iapply (hop _ _ _ _ _); isplitl [HS]; · iexact HS
  rw [e0]
  iintro HS
  iapply (hop _ _ _ _ _); isplitl [HS]; · iexact HS
  rw [e1]
  iintro HS
  iapply Hk $$ HC HS

/-- A whole row: the slot's row `r` is changed, nothing else. -/
theorem wp_row (hop : OpOk c bd op s r u) (k : TP F α) (Q : α → sProp 𝕄) :
    iprop(cPts (F := F) c f ∗ slotPts c s G
      ∗ (cPts (F := F) c f -∗ slotPts c s (updRow u r (tokW f t.toNat sh sc ht) G) -∗ W c bd k Q))
      ⊢ W c bd (row t h sh sc op k) Q := by
  unfold row
  rw [← rowUpto_end]
  iintro ⟨HC, HS, Hk⟩
  iapply (wp_quad c bd f t ht h sh sc op s r u G hop 0 1 2 3 rfl rfl rfl)
  isplitl [HC]; · iexact HC
  isplitl [HS]
  · rw [show (0 : Fin 18).val = 0 from rfl, rowUpto_zero]; iexact HS
  iintro HC HS
  iapply (wp_quad c bd f t ht h sh sc op s r u G hop 4 5 6 7 rfl rfl rfl)
  isplitl [HC]; · iexact HC
  isplitl [HS]; · iexact HS
  iintro HC HS
  iapply (wp_quad c bd f t ht h sh sc op s r u G hop 8 9 10 11 rfl rfl rfl)
  isplitl [HC]; · iexact HC
  isplitl [HS]; · iexact HS
  iintro HC HS
  iapply (wp_quad c bd f t ht h sh sc op s r u G hop 12 13 14 15 rfl rfl rfl)
  isplitl [HC]; · iexact HC
  isplitl [HS]; · iexact HS
  iintro HC HS
  iapply (wp_pair c bd f t ht h sh sc op s r u G hop 16 17 rfl 18 rfl)
  isplitl [HC]; · iexact HC
  isplitl [HS]; · iexact HS
  iintro HC HS
  iapply Hk $$ HC HS

end Row

end Cert.Proof.SegK
-- ==== Proof.SegK.Body.lean ====
/-
  The kernel's body as a sequence of named stretches: the copies in, the tables cleared, the thread over the tokens, the
  block loop, the copies of zeros and the last copy out, the waits. The printed body is equal to it.
-/
module

public import proofs.«01_k».proof.Proof.SegK.Prog

@[expose] public section

noncomputable section

namespace Cert.Proof.SegK

open Cert.Kernel
open Idealize.ShloMosaic Idealize.ShloMosaic.TcCoe
open Idealize.SL.Sem
open Facts₀ Facts

variable {F : FTy → Type} [FloatOps F] {α : Type}

/-! ## The copies into the staging buffer -/

/-- Where piece `j` of the staging buffer lies. -/
theorem dst_inb (j : Fin 144) : ∀ a, (![j.val, 0, 0] : Fin 3 → ℕ) a + S1x384x128.size a ≤ S144x392x128.size a := by
  intro a; fin_cases a
  · show j.val + 1 ≤ 144; omega
  · show 0 + 384 ≤ 392; omega
  · show 0 + 128 ≤ 128; omega

/-- Where piece `j` of the packed rows lies. -/
theorem src_inb (j : Fin 144) : ∀ a, (![0, 128 * j.val] : Fin 2 → ℕ) a + S384x128.size a ≤ S384x18432.size a := by
  intro a; fin_cases a
  · show 0 + 384 ≤ 384; omega
  · show 128 * j.val + 128 ≤ 18432; omega

/-- Piece `j` of the staging buffer. -/
abbrev stageM (j : Fin 144) : Memref sig .tc .vmem S384x128 .i32 :=
  ((Memref.whole cc0_scratch0).slice (Rect.unit (s := S144x392x128) ![j.val, 0, 0] S1x384x128.size (dst_inb j))
    (fun _ => rfl)).squeeze S384x128 squeezes_S1x384x128_S384x128

/-- Piece `j` of the packed rows. -/
abbrev codeM (j : Fin 144) : Memref sig .tc .hbm S384x128 .i32 :=
  (Memref.whole main_v2).slice (Rect.unit (s := S384x18432) ![0, 128 * j.val] S384x128.size (src_inb j)) (fun _ => rfl)

/-- Start the copies of `n` pieces from piece `j`. -/
def startReads : (j n : ℕ) → j + n ≤ 144 → TP F α → TP F α
  | _, 0, _, k => k
  | j, n + 1, h, k =>
    Prog.bind (Prog.lift (.enqueueDma (codeM ⟨j, by omega⟩) (.here (stageM ⟨j, by omega⟩)) (.dma cc0_scratch9.sem)
      (View.wordExact_bits rfl) ((View.wordExact_bits rfl).reshape _ _) ⟨Or.inl rfl, trivial⟩)) fun _ =>
    startReads (j + 1) n (by omega) k

/-- Wait for the copies of `n` pieces from piece `j`. -/
def waitReads : (j n : ℕ) → j + n ≤ 144 → TP F α → TP F α
  | _, 0, _, k => k
  | j, n + 1, h, k =>
    Prog.bind (Prog.lift (.waitDma2 cc0_scratch9.sem (codeM ⟨j, by omega⟩) (stageM ⟨j, by omega⟩)
      (View.wordExact_bits rfl) ((View.wordExact_bits rfl).reshape _ _))) fun _ =>
    waitReads (j + 1) n (by omega) k

theorem waitReads_bind {β : Type} (j n : ℕ) (h : j + n ≤ 144) (p : TP F α) (k : α → TP F β) :
    Prog.bind (waitReads j n h p) k = waitReads j n h (Prog.bind p k) := by
  induction n generalizing j with
  | zero => rfl
  | succ n ih => simp only [waitReads, Prog.lift, Prog.bind, ih]

/-! ## The tables -/

/-- Start the copies of the three tables. -/
def startTables (k : TP F α) : TP F α :=
  Prog.bind (Prog.lift (.enqueueDma (Memref.whole main_arg3) (.here (Memref.whole cc0_scratch5)) (.dma cc0_scratch10.sem)
    (Memref.isWhole_whole _).wordExact (Memref.isWhole_whole _).wordExact ⟨Or.inl rfl, trivial⟩)) fun _ =>
  Prog.bind (Prog.lift (.enqueueDma (Memref.whole main_arg2) (.here (Memref.whole cc0_scratch4)) (.dma cc0_scratch11.sem)
    (Memref.isWhole_whole _).wordExact (Memref.isWhole_whole _).wordExact ⟨Or.inl rfl, trivial⟩)) fun _ =>
  Prog.bind (Prog.lift (.enqueueDma (Memref.whole main_arg1) (.here (Memref.whole cc0_scratch3)) (.dma cc0_scratch12.sem)
    (Memref.isWhole_whole _).wordExact (Memref.isWhole_whole _).wordExact ⟨Or.inl rfl, trivial⟩)) fun _ => k

/-- Wait for the copies of the three tables. -/
def waitTables (k : TP F α) : TP F α :=
  Prog.bind (Prog.lift (.waitDma2 cc0_scratch10.sem (Memref.whole main_arg3) (Memref.whole cc0_scratch5)
    (Memref.isWhole_whole _).wordExact (Memref.isWhole_whole _).wordExact)) fun _ =>
  Prog.bind (Prog.lift (.waitDma2 cc0_scratch11.sem (Memref.whole main_arg2) (Memref.whole cc0_scratch4)
    (Memref.isWhole_whole _).wordExact (Memref.isWhole_whole _).wordExact)) fun _ =>
  Prog.bind (Prog.lift (.waitDma2 cc0_scratch12.sem (Memref.whole main_arg1) (Memref.whole cc0_scratch3)
    (Memref.isWhole_whole _).wordExact (Memref.isWhole_whole _).wordExact)) fun _ => k

/-- Read one word of a table and give it back unread: what the kernel does before each of its scalar stores. -/
abbrev peek {s : Shape} (m : Memref sig .tc .smem s .i32) (r : Rect s) (h : r.shape.numel = 1) (k : BitVec 32 → TP F α) : TP F α :=
  smemLoadElt m r (View.loads_smem_one rfl h) (Shape.Idx.first (h.symm ▸ Nat.one_pos)) fun (x : Elt F .i32) => k x

/-- Write one word of a table. -/
abbrev poke {s : Shape} (m : Memref sig .tc .smem s .i32) (r : Rect s) (h : r.shape.numel = 1) (v : BitVec 32) (k : TP F α) : TP F α :=
  .op (.store m r (fun _ => v) Finset.univ (View.stores_smem_one rfl h) (.inl rfl)) fun _ => k

/-- Zeros into the buffer of zeros. -/
def zeroBuf (k : TP F α) : TP F α :=
  .op (.load (Memref.whole cc0_scratch2) (Rect.unit (s := S144x8x128) ![0, 0, 0] S144x8x128.size
    inb_S144x8x128_S144x8x128_0_0_0).toLoadRect (View.loadsAt_vmem h_S144x8x128)) fun _ =>
  .op (.store (Memref.whole cc0_scratch2) (Rect.unit (s := S144x8x128) ![0, 0, 0] S144x8x128.size
    inb_S144x8x128_S144x8x128_0_0_0) (shapeCast S144x8x128 (broadcast S144x8x128 (Scalar.ofBits (F := F) .f32 0x00000000#32))
      shapeCasts_S144x8x128_S144x8x128) Finset.univ (View.stores_vmem_bits_univ h_S144x8x128 rfl) (.inl rfl)) fun _ => k

/-- The table of first tokens cleared. -/
def clearHeads : TP F PUnit :=
  Scf.Loop.for k0_t1_loop k0_t1_ok (⟨⟩ : PUnit) fun i _ =>
    peek (Memref.whole cc0_scratch6) (Rect.unit (s := S1537) (k0_off1 i) S1.size (k0_off1_inb i)) numel1_S1 fun _ =>
    poke (Memref.whole cc0_scratch6) (Rect.unit (s := S1537) (k0_off1 i) S1.size (k0_off1_inb i)) numel1_S1 4294967295#32
      (.ret ⟨⟩)

/-- The table of the blocks' further tokens cleared. -/
def clearChains : TP F PUnit :=
  Scf.Loop.for k0_t2_loop k0_t2_ok (⟨⟩ : PUnit) fun i _ =>
    peek (Memref.whole cc0_scratch7) (Rect.unit (s := S193) (k0_off2 i) S1.size (k0_off2_inb i)) numel1_S1 fun _ =>
    poke (Memref.whole cc0_scratch7) (Rect.unit (s := S193) (k0_off2 i) S1.size (k0_off2_inb i)) numel1_S1 4294967295#32
      (.ret ⟨⟩)

/-- Zeros into the buffer of zeros, and the two tables cleared. -/
def clearAll (k : TP F α) : TP F α :=
  zeroBuf <| Prog.bind clearHeads fun _ => Prog.bind clearChains fun _ => k

/-! ## The thread over the tokens -/

/-- The token step `i` of the thread is at. -/
def tokAt (i : Fin k0_t3_loop.trips) : BitVec 32 := Scalar.subi 1535#32 (Scf.iv 0#32 1#32 i)

/-- Whether a token is one of a row that already has one. -/
def isDup (id old : BitVec 32) : BitVec 1 := Scalar.andi (Scalar.cmpi .ne id 0#32) (Scalar.cmpi .sge old 0#32)

/-- One step of the thread. -/
def threadStep (i : Fin k0_t3_loop.trips) (acc : BitVec 32) : TP F (BitVec 32) :=
  peek (Memref.whole cc0_scratch5) (Rect.unit (s := S6x256) (k0_off3 i) S1x1.size (k0_off3_inb i)) numel1_S1x1 fun s =>
  peek (Memref.whole cc0_scratch4) (Rect.unit (s := S6x256) (k0_off3 i) S1x1.size (k0_off3_inb i)) numel1_S1x1 fun id =>
  .op (.assume (k0_chk1 s id) (k0_chk1.dec s id)) fun h1 =>
  peek (Memref.whole cc0_scratch6) (Rect.unit (s := S1537) (k0_off4 s id) S1.size (k0_off4_inb s id h1.down)) numel1_S1 fun old =>
  .op (.assume (k0_chk2 s id old) (k0_chk2.dec s id old)) fun h2 =>
  peek (Memref.whole cc0_scratch6) (Rect.unit (s := S1537) (k0_off4 s id) S1.size (k0_off4_inb s id h1.down)) numel1_S1 fun _ =>
  poke (Memref.whole cc0_scratch6) (Rect.unit (s := S1537) (k0_off4 s id) S1.size (k0_off4_inb s id h1.down)) numel1_S1 (tokAt i) <|
  peek (Memref.whole cc0_scratch7) (Rect.unit (s := S193) (k0_off5 s id old) S1.size (k0_off5_inb s id old h2.down)) numel1_S1 fun x =>
  peek (Memref.whole cc0_scratch8) (Rect.unit (s := S1537) (k0_off6 id old) S1.size (k0_off6_inb s id old h2.down)) numel1_S1 fun _ =>
  poke (Memref.whole cc0_scratch8) (Rect.unit (s := S1537) (k0_off6 id old) S1.size (k0_off6_inb s id old h2.down)) numel1_S1 x <|
  peek (Memref.whole cc0_scratch7) (Rect.unit (s := S193) (k0_off5 s id old) S1.size (k0_off5_inb s id old h2.down)) numel1_S1 fun _ =>
  poke (Memref.whole cc0_scratch7) (Rect.unit (s := S193) (k0_off5 s id old) S1.size (k0_off5_inb s id old h2.down)) numel1_S1
    (Scalar.select (isDup id old) old 1536#32) <|
  .ret (Scalar.maxsi acc (Scalar.addi s 1#32))

/-! ## After the blocks -/

/-- How many blocks have a row: what the kernel computes from one more than the last row. -/
def liveOf (n : BitVec 32) : BitVec 32 := Scalar.shrsi (Scalar.addi n 7#32) 3#32

/-- The waits at the end. -/
def waitAll (n : BitVec 32) (h : k0_chk14 n) (c₀ : BitVec 32) : TP F PUnit :=
  Prog.bind (Scf.Loop.for (k0_t6_loop n) (k0_t6_ok n h) c₀ fun i _ =>
    waitOut (k0_off56 n i) (k0_off56_inb n h i) (k0_off57 n i) (k0_off57_inb n h i) (k0_off58 n i) (k0_off58_inb n h i) (.ret 0#32))
    fun c =>
  Prog.bind (Scf.Loop.for (k0_t7_loop n) (k0_t7_ok n h) c fun i _ =>
    waitOut (k0_off59 n i) (k0_off59_inb n h i) (k0_off60 n i) (k0_off60_inb n h i) (k0_off61 n i) (k0_off61_inb n h i) (.ret 0#32))
    fun _ =>
  Prog.bind (Scf.Loop.for (k0_t8_loop n) (k0_t8_ok n h) 0#32 fun i _ =>
    waitZero (k0_off62 n i) (k0_off62_inb n h i) (.ret 0#32)) fun c =>
  Prog.bind (Scf.Loop.for (k0_t9_loop n) (k0_t9_ok n h) c fun i _ =>
    waitZero (k0_off63 n i) (k0_off63_inb n h i) (.ret 0#32)) fun _ => .ret ⟨⟩

/-- The copies of zeros, the copy of the last block, the waits. -/
def finish (n : BitVec 32) (h : k0_chk14 n) : TP F PUnit :=
  Prog.bind (Scf.Loop.for (k0_t4_loop n) (k0_t4_ok n h) 0#32 fun i _ =>
    startZero (k0_off51 n i) (k0_off51_inb n h i) (.ret 0#32)) fun c =>
  Prog.bind (Scf.Loop.for (k0_t5_loop n) (k0_t5_ok n h) c fun i _ =>
    startZero (k0_off52 n i) (k0_off52_inb n h i) (.ret 0#32)) fun _ =>
  if h3 : k0_cond3 n = 1#1 then
    startOut (k0_off53 n) (k0_off53_inb n h h3) (k0_off54 n) (k0_off54_inb n h h3) (k0_off55 n) (k0_off55_inb n h h3) (waitAll n h 0#32)
  else waitAll n h 0#32

/-- The kernel's body. -/
def body : TP F PUnit :=
  startTables <| startReads 0 144 (by omega) <| clearAll <| waitTables <|
  Prog.bind (Scf.Loop.for k0_t3_loop k0_t3_ok 0#32 threadStep) fun n =>
  .op (.assume (k0_chk14 n) (k0_chk14.dec n)) fun h =>
  waitReads 0 144 (by omega) <|
  .op (.call (1 : (Λ₀ F).Label) (blockArg (liveOf n) 0#32)) fun (_ : BitVec 32) => finish n h.down

/-- The printed body. -/
def printed : TP F PUnit :=
  cc0_segment_rows (Memref.whole main_v2) (Memref.isWhole_whole _) (Memref.whole main_arg1) (Memref.isWhole_whole _)
    (Memref.whole main_arg2) (Memref.isWhole_whole _) (Memref.whole main_arg3) (Memref.isWhole_whole _) (Memref.whole main_v3)
    (Memref.isWhole_whole _) (Memref.whole cc0_scratch0) (Memref.isWhole_whole _) (Memref.whole cc0_scratch1)
    (Memref.isWhole_whole _) (Memref.whole cc0_scratch2) (Memref.isWhole_whole _) (Memref.whole cc0_scratch3)
    (Memref.isWhole_whole _) (Memref.whole cc0_scratch4) (Memref.isWhole_whole _) (Memref.whole cc0_scratch5)
    (Memref.isWhole_whole _) (Memref.whole cc0_scratch6) (Memref.isWhole_whole _) (Memref.whole cc0_scratch7)
    (Memref.isWhole_whole _) (Memref.whole cc0_scratch8) (Memref.isWhole_whole _) cc0_scratch9 cc0_scratch10 cc0_scratch11
    cc0_scratch12 cc0_scratch13 cc0_scratch14

/-- What the printed body keeps between its last copy out and its waits. -/
abbrev Kept : Type := Σ' (n : BitVec 32) (_ : k0_chk14 n) (_ : BitVec 32) (_ : BitVec 32), BitVec 32

/-- The tables cleared, on their own. -/
def clear₀ : TP F PUnit :=
  Prog.bind clearHeads fun _ => Prog.bind clearChains fun _ => .ret ⟨⟩

/-- The thread and the first five waits, on their own. -/
def thread₀ : TP F (Σ' (n : BitVec 32) (_ : k0_chk14 n), BitVec 32) :=
  waitTables <|
  Prog.bind (Scf.Loop.for k0_t3_loop k0_t3_ok 0#32 threadStep) fun n =>
  .op (.assume (k0_chk14 n) (k0_chk14.dec n)) fun h => waitReads 0 5 (by omega) (.ret ⟨n, h.down, liveOf n⟩)

/-- From the tables cleared to the last copy out, on its own. -/
def middle₀ : TP F Kept :=
  Prog.bind clear₀ fun _ => Prog.bind thread₀ fun x =>
  waitReads 5 139 (by omega) <|
  .op (.call (1 : (Λ₀ F).Label) (blockArg x.2.2 0#32)) fun (_ : BitVec 32) =>
  Prog.bind (Scf.Loop.for (k0_t4_loop x.1) (k0_t4_ok x.1 x.2.1) 0#32 fun i _ =>
    startZero (k0_off51 x.1 i) (k0_off51_inb x.1 x.2.1 i) (.ret 0#32)) fun c =>
  Prog.bind (Scf.Loop.for (k0_t5_loop x.1) (k0_t5_ok x.1 x.2.1) c fun i _ =>
    startZero (k0_off52 x.1 i) (k0_off52_inb x.1 x.2.1 i) (.ret 0#32)) fun _ =>
  if h3 : k0_cond3 x.1 = 1#1 then
    startOut (k0_off53 x.1) (k0_off53_inb x.1 x.2.1 h3) (k0_off54 x.1) (k0_off54_inb x.1 x.2.1 h3) (k0_off55 x.1)
      (k0_off55_inb x.1 x.2.1 h3)
      (.ret ⟨x.1, x.2.1, x.2.2, Scalar.maxsi (Scalar.subi x.2.2 24#32) 0#32, 0#32⟩)
  else .ret ⟨x.1, x.2.1, x.2.2, Scalar.maxsi (Scalar.subi x.2.2 24#32) 0#32, 0#32⟩

/-- The body, nested as the printed one is. -/
def body₀ : TP F PUnit :=
  startTables <| startReads 0 144 (by omega) <| zeroBuf <|
  Prog.bind middle₀ fun x => waitAll x.1 x.2.1 x.2.2.2.2

theorem waitTables_bind {β : Type} (p : TP F α) (k : α → TP F β) :
    Prog.bind (waitTables p) k = waitTables (Prog.bind p k) := rfl

theorem op_bind {β γ : Type} (e : TpuEff nD τ sig (Elt F) (Λ₀ F) .tc γ) (p : γ → TP F α) (k : α → TP F β) :
    Prog.bind (.op e p) k = .op e fun x => Prog.bind (p x) k := rfl

theorem ret_bind {β : Type} (a : α) (k : α → TP F β) : Prog.bind (.ret a) k = k a := rfl

theorem assoc {β γ : Type} (p : TP F α) (f : α → TP F β) (k : β → TP F γ) :
    Prog.bind (Prog.bind p f) k = Prog.bind p fun a => Prog.bind (f a) k := Prog.bind_assoc p f k

theorem body₀_eq : body₀ (F := F) = body := by
  have hw : ∀ (k : TP F PUnit), waitReads 0 5 (by omega) (waitReads 5 139 (by omega) k) = waitReads 0 144 (by omega) k :=
    fun _ => rfl
  unfold body₀ middle₀ clear₀ thread₀ body clearAll
  simp only [assoc, waitTables_bind, op_bind, waitReads_bind, ret_bind, hw]
  refine congrArg (fun k => startTables (startReads 0 144 _ (zeroBuf k))) ?_
  refine congrArg (Prog.bind clearHeads) (funext fun _ => congrArg (Prog.bind clearChains) (funext fun _ =>
    congrArg (fun k => waitTables (Prog.bind _ k)) (funext fun n => congrArg (Prog.op _) (funext fun h =>
    congrArg (fun k => waitReads 0 144 _ (.op _ k)) (funext fun _ => ?_)))))
  unfold finish
  congr 1
  funext c
  congr 1
  funext _
  by_cases h3 : k0_cond3 n = 1#1
  · simp only [h3, ↓reduceDIte]; rfl
  · simp only [h3, ↓reduceDIte]; rfl

/-- The printed body is the sequence of its stretches. -/
theorem printed_eq : printed (F := F) = body := by
  have e : printed (F := F) = body₀ := rfl
  rw [e, body₀_eq]

end Cert.Proof.SegK
-- ==== Proof.SegK.Lists.lean ====
/-
  The lists the kernel threads through its scalar tables. After `k` tokens (from the last one down) the first table holds,
  for every row of the result, the smallest token so far that goes there, and for every block of eight rows a chain of
  words names the others (`Threaded`).
-/
module

public import proofs.«01_k».proof.Proof.SegK.Words
public import proofs.«01_k».proof.Proof.SegK.Body

@[expose] public section

namespace Cert.Proof.SegK

open Cert.Kernel
open Idealize.ShloMosaic Idealize.ShloMosaic.TcCoe

/-! ## The tokens of a row -/

section Toks

variable (live : ℕ → Prop) [DecidablePred live] (slot : ℕ → ℕ)

/-- The tokens of row `s` among the last `k`, ascending. -/
def toks : ℕ → ℕ → List ℕ
  | 0, _ => []
  | k + 1, s => if live (1535 - k) ∧ slot (1535 - k) = s then (1535 - k) :: toks k s else toks k s

theorem mem_toks {k s t : ℕ} (hk : k ≤ 1536) (h : t ∈ toks live slot k s) :
    1536 - k ≤ t ∧ t < 1536 ∧ live t ∧ slot t = s := by
  induction k with
  | zero => simp [toks] at h
  | succ k ih =>
    unfold toks at h
    split at h
    · rcases List.mem_cons.mp h with rfl | h
      · rename_i hc; exact ⟨by omega, by omega, hc.1, hc.2⟩
      · have := ih (by omega) h; exact ⟨by omega, this.2⟩
    · have := ih (by omega) h; exact ⟨by omega, this.2⟩

/-- The first token of a row is not among the others. -/
theorem head_not_mem_tail {k s t : ℕ} {l : List ℕ} (hk : k ≤ 1536) (h : toks live slot k s = t :: l) : t ∉ l := by
  induction k with
  | zero => simp [toks] at h
  | succ k ih =>
    unfold toks at h
    split at h
    · obtain ⟨rfl, rfl⟩ := List.cons.inj h
      intro hm
      have := (mem_toks live slot (by omega) hm).1
      omega
    · exact ih (by omega) h

end Toks

/-! ## Chains of words -/

/-- The word that ends a chain. -/
abbrev none32 : BitVec 32 := 4294967295#32

/-- The first token's word, or the word that ends a chain. -/
def headOf : List ℕ → BitVec 32
  | [] => none32
  | t :: _ => BitVec.ofNat 32 t

/-- From word `x`, the chain `nx` visits the tokens `l`. -/
def Chain (nx : ℕ → BitVec 32) : BitVec 32 → List ℕ → Prop
  | x, [] => x = none32
  | x, t :: l => x = BitVec.ofNat 32 t ∧ Chain nx (nx t) l

theorem Chain.congr {nx nx' : ℕ → BitVec 32} {x : BitVec 32} {l : List ℕ} (h : Chain nx x l) (e : ∀ t ∈ l, nx' t = nx t) :
    Chain nx' x l := by
  induction l generalizing x with
  | nil => exact h
  | cons t l ih =>
    refine ⟨h.1, ?_⟩
    rw [e t List.mem_cons_self]
    exact ih h.2 fun t ht => e t (List.mem_cons_of_mem _ ht)

/-- Words from tables: what the threading of one token reads and writes. -/
abbrev dupW (id old : BitVec 32) : Prop := isDup id old = 1#1

/-- The row a token's word is kept under. -/
def rowW (v id : BitVec 32) : ℕ := if id = 0#32 then 1536 else v.toNat

/-- The block whose chain is pushed. -/
def blkW (v id old : BitVec 32) : ℕ := if dupW id old then v.toNat / 8 else 192

/-- The token that is pushed. -/
def pushW (id old : BitVec 32) : ℕ := if dupW id old then old.toNat else 1536

theorem dupW_iff (id old : BitVec 32) : dupW id old ↔ id ≠ 0#32 ∧ ¬ old.msb := by
  unfold dupW isDup Scalar.andi IntOp.andi Scalar.cmpi IntOp.cmpi
  show BitVec.ofBool (id != 0#32) &&& BitVec.ofBool ((0#32).sle old) = 1#1 ↔ _
  have : (0#32).sle old = !old.msb := by
    rw [BitVec.sle, BitVec.msb_eq_toInt]
    by_cases hn : old.toInt < 0
    · simp [hn]
    · simp [hn]; omega
  rw [this]
  by_cases h1 : id = 0#32
  · subst h1; cases old.msb <;> simp
  · rw [show (id != 0#32) = true from bne_iff_ne.mpr h1]
    cases old.msb <;> simp [h1]

theorem off4_zero (v id : BitVec 32) : k0_off4 v id 0 = rowW v id := by
  show (Scalar.select (Scalar.cmpi .ne id 0#32) v 1536#32).toNat = _
  unfold Scalar.select rowW Scalar.cmpi IntOp.cmpi
  by_cases h : id = 0#32
  · subst h; rfl
  · rw [if_neg h, if_pos]
    exact congrArg BitVec.ofBool (bne_iff_ne.mpr h)

theorem off6_zero (id old : BitVec 32) : k0_off6 id old 0 = pushW id old := by
  show (Scalar.select (isDup id old) old 1536#32).toNat = _
  unfold Scalar.select pushW
  by_cases h : isDup id old = 1#1
  · rw [if_pos h]; exact congrArg BitVec.toNat (if_pos h)
  · rw [if_neg h]; exact congrArg BitVec.toNat (if_neg h)

theorem off5_zero (v id old : BitVec 32) (hv : v.toNat < 1536) : k0_off5 v id old 0 = blkW v id old := by
  show (Scalar.select (isDup id old) (Scalar.shrsi v 3#32) 192#32).toNat = _
  unfold Scalar.select blkW
  by_cases h : isDup id old = 1#1
  · rw [if_pos h]; exact (congrArg BitVec.toNat (if_pos h)).trans (shrsi_toNat (by omega) 3 (by omega))
  · rw [if_neg h]; exact congrArg BitVec.toNat (if_neg h)

/-! ## The invariant -/

/-- The tables after `k` tokens. -/
structure Threaded (live : ℕ → Prop) [DecidablePred live] (slot : ℕ → ℕ) (k : ℕ) (h nx xh : ℕ → BitVec 32) : Prop where
  heads : ∀ s < 1536, h s = headOf (toks live slot k s)
  chains : ∀ b < 192, ∃ X : List ℕ, Chain nx (xh b) X ∧ X.length ≤ k ∧ (∀ t ∈ X, t < 1536 ∧ slot t / 8 = b)
    ∧ ∀ s, s / 8 = b → X.filter (fun t => slot t = s) = (toks live slot k s).tail

theorem msb_ofNat {t : ℕ} (h : t < 1536) : (BitVec.ofNat 32 t).msb = false :=
  msb_small (by rw [toNat_ofNat (by omega)]; omega)

theorem threaded_zero (live : ℕ → Prop) [DecidablePred live] (slot : ℕ → ℕ) (h nx xh : ℕ → BitVec 32)
    (hh : ∀ s < 1536, h s = none32) (hx : ∀ b < 192, xh b = none32) : Threaded live slot 0 h nx xh :=
  ⟨fun s hs => by rw [hh s hs]; rfl,
    fun b hb => ⟨[], hx b hb, le_refl _, by simp, fun s _ => rfl⟩⟩

/-- One more token. -/
theorem threaded_succ (live : ℕ → Prop) [DecidablePred live] (slot : ℕ → ℕ) (k : ℕ) (hk : k < 1536) (h nx xh : ℕ → BitVec 32)
    (v id : BitVec 32) (hv : v.toNat < 1536) (hsl : slot (1535 - k) = v.toNat) (hlv : live (1535 - k) ↔ id ≠ 0#32)
    (T : Threaded live slot k h nx xh) :
    Threaded live slot (k + 1) (Function.update h (rowW v id) (BitVec.ofNat 32 (1535 - k)))
      (Function.update nx (pushW id (h (rowW v id))) (xh (blkW v id (h (rowW v id)))))
      (Function.update xh (blkW v id (h (rowW v id))) (Scalar.select (isDup id (h (rowW v id))) (h (rowW v id)) 1536#32)) := by
  have keep : ∀ s, ¬ (live (1535 - k) ∧ slot (1535 - k) = s) → toks live slot (k + 1) s = toks live slot k s := fun s hs => by
    rw [toks, if_neg hs]
  by_cases hid : id = 0#32
  · -- a padding token: only the spare entries change
    have hnl : ¬ live (1535 - k) := fun hl => (hlv.mp hl) hid
    have hr : rowW v id = 1536 := by rw [rowW, if_pos hid]
    have hd : ∀ o, ¬ dupW id o := fun o ho => ((dupW_iff _ _).mp ho).1 hid
    have hb : ∀ o, blkW v id o = 192 := fun o => by rw [blkW, if_neg (hd o)]
    have hp : ∀ o, pushW id o = 1536 := fun o => by rw [pushW, if_neg (hd o)]
    rw [hr, hb, hp]
    refine ⟨fun s hs => ?_, fun b hb => ?_⟩
    · rw [Function.update_of_ne (by omega), keep s (fun hh => hnl hh.1)]; exact T.heads s hs
    · obtain ⟨X, hX, hl, hm, hf⟩ := T.chains b hb
      refine ⟨X, ?_, by omega, hm, fun s hs => ?_⟩
      · rw [Function.update_of_ne (by omega)]
        exact hX.congr fun t ht => Function.update_of_ne (by have := (hm t ht).1; omega) _ _
      · rw [keep s (fun hh => hnl hh.1)]; exact hf s hs
  · have hl : live (1535 - k) := hlv.mpr hid
    have hr : rowW v id = v.toNat := by rw [rowW, if_neg hid]
    rw [hr]
    have hh := T.heads v.toNat hv
    have hnew : ∀ s, toks live slot (k + 1) s = if s = v.toNat then (1535 - k) :: toks live slot k s else toks live slot k s := by
      intro s
      rw [toks, hsl]
      by_cases hs : s = v.toNat
      · rw [if_pos ⟨hl, hs.symm⟩, if_pos hs]
      · rw [if_neg (fun hh => hs hh.2.symm), if_neg hs]
    have heads : ∀ s < 1536, Function.update h v.toNat (BitVec.ofNat 32 (1535 - k)) s = headOf (toks live slot (k + 1) s) := by
      intro s hs
      rw [hnew]
      by_cases e : s = v.toNat
      · subst e; rw [Function.update_self, if_pos rfl]; rfl
      · rw [Function.update_of_ne e, if_neg e]; exact T.heads s hs
    cases hL : toks live slot k v.toNat with
    | nil =>
      -- the row's first token: only the first table changes
      rw [hL] at hh
      have hd : ¬ dupW id (h v.toNat) := by rw [dupW_iff, hh]; rintro ⟨_, hm⟩; exact hm (by decide)
      have hb : blkW v id (h v.toNat) = 192 := by rw [blkW, if_neg hd]
      have hp : pushW id (h v.toNat) = 1536 := by rw [pushW, if_neg hd]
      rw [hb, hp]
      refine ⟨heads, fun b hb => ?_⟩
      obtain ⟨X, hX, hlen, hm, hf⟩ := T.chains b hb
      refine ⟨X, ?_, by omega, hm, fun s hs => ?_⟩
      · rw [Function.update_of_ne (by omega)]
        exact hX.congr fun t ht => Function.update_of_ne (by have := (hm t ht).1; omega) _ _
      · rw [hnew, hf s hs]
        by_cases e : s = v.toNat
        · subst e; rw [if_pos rfl, hL]; rfl
        · rw [if_neg e]
    | cons o l =>
      -- a further token: the one kept so far is pushed on its block's chain
      rw [hL] at hh
      have ho := mem_toks live slot (by omega) (hL ▸ List.mem_cons_self : o ∈ toks live slot k v.toNat)
      have hd : dupW id (h v.toNat) := by
        rw [dupW_iff, hh]; refine ⟨hid, ?_⟩
        show ¬ (BitVec.ofNat 32 o).msb
        rw [msb_ofNat ho.2.1]; exact Bool.false_ne_true
      have hsel : Scalar.select (isDup id (h v.toNat)) (h v.toNat) 1536#32 = BitVec.ofNat 32 o := by
        exact (if_pos hd).trans hh
      have hb : blkW v id (h v.toNat) = v.toNat / 8 := by rw [blkW, if_pos hd]
      have hp : pushW id (h v.toNat) = o := by
        rw [pushW, if_pos hd, hh]; exact toNat_ofNat (by omega)
      rw [hsel, hb, hp]
      -- the pushed token is on no chain
      have fresh : ∀ b < 192, ∀ X : List ℕ, (∀ s, s / 8 = b → X.filter (fun t => slot t = s) = (toks live slot k s).tail) →
          (∀ t ∈ X, t < 1536 ∧ slot t / 8 = b) → o ∉ X := by
        intro b _ X hf hm hoX
        have hbo := (hm o hoX).2
        have : o ∈ X.filter (fun t => slot t = v.toNat) := List.mem_filter.mpr ⟨hoX, by simpa using ho.2.2.2⟩
        rw [hf v.toNat (by rw [← ho.2.2.2]; exact hbo), hL] at this
        exact head_not_mem_tail live slot (by omega) hL this
      refine ⟨heads, fun b hb => ?_⟩
      obtain ⟨X, hX, hlen, hm, hf⟩ := T.chains b hb
      have hoX := fresh b hb X hf hm
      have hX' : Chain (Function.update nx o (xh (v.toNat / 8))) (xh b) X :=
        hX.congr fun t ht => Function.update_of_ne (fun e => hoX (by rw [← e]; exact ht)) _ _
      by_cases e : b = v.toNat / 8
      · subst e
        refine ⟨o :: X, ⟨by rw [Function.update_self], by rw [Function.update_self]; exact hX'⟩, by simp; omega, ?_, fun s hs => ?_⟩
        · intro t ht
          rcases List.mem_cons.mp ht with rfl | ht
          · exact ⟨ho.2.1, by rw [ho.2.2.2]⟩
          · exact hm t ht
        · rw [hnew]
          by_cases es : s = v.toNat
          · subst es
            rw [if_pos rfl, List.filter_cons_of_pos (by simpa using ho.2.2.2), hf _ hs, hL]; rfl
          · rw [if_neg es, List.filter_cons_of_neg (by simp; rw [ho.2.2.2]; exact fun hh => es hh.symm), hf s hs]
      · refine ⟨X, by rw [Function.update_of_ne e]; exact hX', by omega, hm, fun s hs => ?_⟩
        rw [hnew, if_neg (by rintro rfl; exact e hs.symm)]
        exact hf s hs

end Cert.Proof.SegK
-- ==== Proof.SegK.Walk.lean ====
/-
  The walk over a block's further tokens: from the chain's first word it adds every token of the chain to its row of the
  block's slot (`wp_walk`).
-/
module

public import proofs.«01_k».proof.Proof.SegK.Rows
public import proofs.«01_k».proof.Proof.SegK.Lists

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## The tables -/

/-- A token's place in the tables of scales, ids and rows. -/
def tix (t : ℕ) : S6x256.Idx := Shape.pair (d := ![6, 256]) (⟨t / 256 % 6, Nat.mod_lt _ (by omega)⟩ : Fin 6) (⟨t % 256, Nat.mod_lt _ (by omega)⟩ : Fin 256)

variable (c : Dev nD) (bd : Option ℕ)

/-- The scales. -/
def scPts (S : S6x256.Idx → F .f32) : sProp 𝕄 :=
  ((c : Thread nD τ).loc cc0_scratch3) ↦{fullShare} (S : Buf (Elt F) ((c : Thread nD τ).loc cc0_scratch3))

/-- The ids. -/
def idPts (I : S6x256.Idx → BitVec 32) : sProp 𝕄 :=
  ((c : Thread nD τ).loc cc0_scratch4) ↦{fullShare} (I : Buf (Elt F) ((c : Thread nD τ).loc cc0_scratch4))

/-- The rows. -/
def rwPts (V : S6x256.Idx → BitVec 32) : sProp 𝕄 :=
  ((c : Thread nD τ).loc cc0_scratch5) ↦{fullShare} (V : Buf (Elt F) ((c : Thread nD τ).loc cc0_scratch5))

/-- The first tokens of the rows. -/
def hdPts (h : ℕ → BitVec 32) : sProp 𝕄 :=
  ((c : Thread nD τ).loc cc0_scratch6) ↦{fullShare} ((fun i : S1537.Idx => h (i 0).val) : Buf (Elt F) ((c : Thread nD τ).loc cc0_scratch6))

/-- The chains' first words. -/
def xhPts (h : ℕ → BitVec 32) : sProp 𝕄 :=
  ((c : Thread nD τ).loc cc0_scratch7) ↦{fullShare} ((fun i : S193.Idx => h (i 0).val) : Buf (Elt F) ((c : Thread nD τ).loc cc0_scratch7))

/-- The chains' links. -/
def nxPts (h : ℕ → BitVec 32) : sProp 𝕄 :=
  ((c : Thread nD τ).loc cc0_scratch8) ↦{fullShare} ((fun i : S1537.Idx => h (i 0).val) : Buf (Elt F) ((c : Thread nD τ).loc cc0_scratch8))

theorem sOff_tix (t : BitVec 32) (ht : t.toNat < 1536) (h : ∀ a, (sOff t) a + S1x1.size a ≤ S6x256.size a) (x : S1x1.Idx) :
    (Rect.unit (s := S6x256) (sOff t) S1x1.size h).emb x = tix t.toNat := by
  have e0 : sOff t 0 = t.toNat / 256 := shrsi_toNat (by omega) 8 (by omega)
  have e1 : sOff t 1 = t.toNat % 256 := andi_toNat t 8 (by omega)
  have x0 : (x 0).val = 0 := by have := (x 0).isLt; have e : S1x1.size 0 = 1 := rfl; omega
  have x1 : (x 1).val = 0 := by have := (x 1).isLt; have e : S1x1.size 1 = 1 := rfl; omega
  funext a
  apply Fin.ext
  rw [Rect.emb_apply]
  rcases a with ⟨_ | _ | n, hn⟩
  · show sOff t 0 + 1 * (x 0).val = t.toNat / 256 % 6
    omega
  · show sOff t 1 + 1 * (x 1).val = t.toNat % 256
    omega
  · exact absurd hn (by simp)

theorem wp_getScale (S : S6x256.Idx → F .f32) (t : BitVec 32) (ht : t.toNat < 1536)
    (h : ∀ a, (sOff t) a + S1x1.size a ≤ S6x256.size a) (k : F .f32 → TP F α) (Q : α → sProp 𝕄) :
    iprop(scPts c S ∗ (scPts c S -∗ W c bd (k (S (tix t.toNat))) Q)) ⊢ W c bd (getScale t h k) Q := by
  unfold getScale scPts W
  iintro ⟨H, Hk⟩
  iapply (wp_smemLoadElt 𝒱₀ (c : Thread nD τ) bd Set.univ (m := Memref.whole cc0_scratch3) (r := Rect.unit (s := S6x256) (sOff t) S1x1.size h) (Finset.subset_univ _)) $$ H; iintro H
  have e : (((Memref.whole cc0_scratch3).access (Rect.unit (s := S6x256) (sOff t) S1x1.size h)).read (Elt F) S
      (Shape.Idx.first (numel1_S1x1.symm ▸ Nat.one_pos)) : F .f32) = S (tix t.toNat) := congrArg S (sOff_tix t ht h _)
  rw [e]
  iapply Hk; iexact H

theorem wp_getRow (V : S6x256.Idx → BitVec 32) (t : BitVec 32) (ht : t.toNat < 1536)
    (h : ∀ a, (sOff t) a + S1x1.size a ≤ S6x256.size a) (k : BitVec 32 → TP F α) (Q : α → sProp 𝕄) :
    iprop(rwPts (F := F) c V ∗ (rwPts (F := F) c V -∗ W c bd (k (V (tix t.toNat))) Q)) ⊢ W c bd (getRow t h k) Q := by
  unfold getRow rwPts W
  iintro ⟨H, Hk⟩
  iapply (wp_smemLoadElt 𝒱₀ (c : Thread nD τ) bd Set.univ (m := Memref.whole cc0_scratch5) (r := Rect.unit (s := S6x256) (sOff t) S1x1.size h) (Finset.subset_univ _)) $$ H; iintro H
  have e : (((Memref.whole cc0_scratch5).access (Rect.unit (s := S6x256) (sOff t) S1x1.size h)).read (Elt F) V
      (Shape.Idx.first (numel1_S1x1.symm ▸ Nat.one_pos)) : BitVec 32) = V (tix t.toNat) := congrArg V (sOff_tix t ht h _)
  rw [e]
  iapply Hk; iexact H

theorem first_zero (x : S1.Idx) : (x 0).val = 0 := by
  have := (x 0).isLt; have e : S1.size 0 = 1 := rfl; omega

theorem wp_getHead (h : ℕ → BitVec 32) (o : Fin 1 → ℕ) (ho : ∀ a, o a + S1.size a ≤ S1537.size a) (k : BitVec 32 → TP F α) (Q : α → sProp 𝕄) :
    iprop(hdPts (F := F) c h ∗ (hdPts (F := F) c h -∗ W c bd (k (h (o 0))) Q))
      ⊢ W c bd (smemLoadElt (Memref.whole cc0_scratch6) (Rect.unit (s := S1537) o S1.size ho)
        (View.loads_smem_one rfl numel1_S1) (Shape.Idx.first (numel1_S1.symm ▸ Nat.one_pos)) fun (x : Elt F .i32) => k x) Q := by
  unfold hdPts W
  iintro ⟨H, Hk⟩
  iapply (wp_smemLoadElt 𝒱₀ (c : Thread nD τ) bd Set.univ (m := Memref.whole cc0_scratch6) (r := Rect.unit (s := S1537) o S1.size ho) (Finset.subset_univ _)) $$ H; iintro H
  have e : (((Memref.whole cc0_scratch6).access (Rect.unit (s := S1537) o S1.size ho)).read (Elt F) (fun i : S1537.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

theorem wp_getChain (h : ℕ → BitVec 32) (o : Fin 1 → ℕ) (ho : ∀ a, o a + S1.size a ≤ S193.size a) (k : BitVec 32 → TP F α) (Q : α → sProp 𝕄) :
    iprop(xhPts (F := F) c h ∗ (xhPts (F := F) c h -∗ W c bd (k (h (o 0))) Q))
      ⊢ W c bd (smemLoadElt (Memref.whole cc0_scratch7) (Rect.unit (s := S193) o S1.size ho)
        (View.loads_smem_one rfl numel1_S1) (Shape.Idx.first (numel1_S1.symm ▸ Nat.one_pos)) fun (x : Elt F .i32) => k x) Q := by
  unfold xhPts W
  iintro ⟨H, Hk⟩
  iapply (wp_smemLoadElt 𝒱₀ (c : Thread nD τ) bd Set.univ (m := Memref.whole cc0_scratch7) (r := Rect.unit (s := S193) o S1.size ho) (Finset.subset_univ _)) $$ H; iintro H
  have e : (((Memref.whole cc0_scratch7).access (Rect.unit (s := S193) o S1.size ho)).read (Elt F) (fun i : S193.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

theorem wp_getNext (h : ℕ → BitVec 32) (o : Fin 1 → ℕ) (ho : ∀ a, o a + S1.size a ≤ S1537.size a) (k : BitVec 32 → TP F α) (Q : α → sProp 𝕄) :
    iprop(nxPts (F := F) c h ∗ (nxPts (F := F) c h -∗ W c bd (k (h (o 0))) Q))
      ⊢ W c bd (smemLoadElt (Memref.whole cc0_scratch8) (Rect.unit (s := S1537) o S1.size ho)
        (View.loads_smem_one rfl numel1_S1) (Shape.Idx.first (numel1_S1.symm ▸ Nat.one_pos)) fun (x : Elt F .i32) => k x) Q := by
  unfold nxPts W
  iintro ⟨H, Hk⟩
  iapply (wp_smemLoadElt 𝒱₀ (c : Thread nD τ) bd Set.univ (m := Memref.whole cc0_scratch8) (r := Rect.unit (s := S1537) o S1.size ho) (Finset.subset_univ _)) $$ H; iintro H
  have e : (((Memref.whole cc0_scratch8).access (Rect.unit (s := S1537) o S1.size ho)).read (Elt F) (fun i : S1537.Idx => h (i 0).val)
      (Shape.Idx.first (numel1_S1.symm ▸ Nat.one_pos)) : BitVec 32) = h (o 0) := by
    refine congrArg h ((Rect.emb_apply _ _ _).trans ?_)
    rw [first_zero]; rfl
  rw [e]
  iapply Hk; iexact H

/-! ## The checks -/

theorem cIn_of (t : BitVec 32) (ht : t.toNat < 1536) : CIn t := by
  intro r a
  right
  rcases a with ⟨_ | _ | n, hn⟩
  · show cOff t (BitVec.ofNat 32 (3136 * r.val)) 0 + 392 * (8 - 1) < 56448
    rw [cOff_zero t ht]; omega
  · show 0 + 1 * (128 - 1) < 128
    omega
  · exact absurd hn (by simp)

theorem oIn_of (s : Fin 24) (r : Fin 8) (sw rw : BitVec 32) (hs : sw.toNat = s) (hr : rw.toNat = r) : OIn sw rw := by
  intro i a
  right
  rcases a with ⟨_ | _ | n, hn⟩
  · show oOff sw (BitVec.ofNat 32 (64 * i.val)) rw 0 + 8 * (8 - 1) < 27648
    rw [oOff_zero s r i sw rw hs hr]; omega
  · show 0 + 1 * (128 - 1) < 128
    omega
  · exact absurd hn (by simp)

theorem sOff_in (t : BitVec 32) (ht : t.toNat < 1536) : ∀ a, (sOff t) a + S1x1.size a ≤ S6x256.size a := by
  have e0 : sOff t 0 = t.toNat / 256 := shrsi_toNat (by omega) 8 (by omega)
  have e1 : sOff t 1 = t.toNat % 256 := andi_toNat t 8 (by omega)
  intro a
  rcases a with ⟨_ | _ | n, hn⟩
  · show sOff t 0 + 1 ≤ 6
    omega
  · show sOff t 1 + 1 ≤ 256
    omega
  · exact absurd hn (by simp)

theorem off1_in {N : ℕ} (o : Fin 1 → ℕ) (h : o 0 < N) : ∀ a, o a + S1.size a ≤ (⟨1, ![N]⟩ : Shape).size a := by
  intro a
  rcases a with ⟨_ | n, hn⟩
  · show o 0 + 1 ≤ N
    omega
  · exact absurd hn (by simp)

theorem chk12_of (t : BitVec 32) (ht : t.toNat < 1536) : k0_chk12 t := by
  refine ⟨sOff_in t ht, fun r => cIn_of t ht ⟨r.val, by omega⟩, fun r => ?_, off1_in (N := 1537) _ (by show t.toNat < 1537; omega)⟩
  have h := cIn_of t ht ⟨r.val + 4, by omega⟩
  have e : 12544 + 3136 * r.val = 3136 * (r.val + 4) := by omega
  simp only [e]
  exact h

/-! ## The walk -/

/-- How far up its word a token's byte lies, from the token's number. -/
abbrev shN (t : ℕ) : BitVec 32 := shOf (BitVec.ofNat 32 t)

/-- Column tile `j`, lane `l` of token `t`, scaled. -/
def tokV (f : S144x392x128.Idx → BitVec 32) (S : S6x256.Idx → F .f32) (t : ℕ) : Fin 144 → Fin 128 → F .f32 :=
  fun j l => FloatOps.mulf (decW (f (cIdx j ⟨t / 4 % 392, Nat.mod_lt _ (by omega)⟩ l)) (shN t)) (S (tix t))

theorem tokW_eq (f : S144x392x128.Idx → BitVec 32) (S : S6x256.Idx → F .f32) (t : BitVec 32) (ht : t.toNat < 1536) :
    tokW f t.toNat (shOf t) (S (tix t.toNat)) ht = tokV f S t.toNat := by
  funext j l
  unfold tokW tokV shN
  rw [ofNat_toNat]
  congr 4
  apply Fin.ext
  show t.toNat / 4 = t.toNat / 4 % 392
  omega

/-- A row number's row of its block. -/
def rowOf (V : S6x256.Idx → BitVec 32) (t : ℕ) : Fin 8 := ⟨(V (tix t)).toNat % 8, Nat.mod_lt _ (by omega)⟩

/-- A slot after the tokens `X` are added to it. -/
def walked (f : S144x392x128.Idx → BitVec 32) (S : S6x256.Idx → F .f32) (V : S6x256.Idx → BitVec 32) (X : List ℕ) (G : Slot F) : Slot F :=
  X.foldl (fun G t => updRow FloatOps.addf (rowOf V t) (tokV f S t) G) G

/-- What the walk holds. -/
def walkRes (f : S144x392x128.Idx → BitVec 32) (S : S6x256.Idx → F .f32) (V : S6x256.Idx → BitVec 32) (nx : ℕ → BitVec 32)
    (s : Fin 24) (G : Slot F) : sProp 𝕄 :=
  iprop(cPts (F := F) c f ∗ scPts c S ∗ rwPts (F := F) c V ∗ nxPts (F := F) c nx ∗ slotPts c s G)

theorem wp_walk (f : S144x392x128.Idx → BitVec 32) (S : S6x256.Idx → F .f32) (V : S6x256.Idx → BitVec 32) (nx : ℕ → BitVec 32)
    (b : BitVec 32) (hb : b.toNat < 2 ^ 31) (s : Fin 24) (hs : s.val = b.toNat % 24) (w : Carried b) (X : List ℕ) :
    ∀ (v : ℕ) (x : BitVec 32) (G : Slot F) (Q : BitVec 32 → sProp 𝕄), Chain nx x X → (∀ t ∈ X, t < 1536) → X.length ≤ v →
      iprop(walkRes c f S V nx s G ∗ (∀ r, walkRes c f S V nx s (walked f S V X G) -∗ Q r))
        ⊢ W c (some v) (defs₀ (F := F) .tc (2 : (Λ₀ F).Label) (walkArg b w x)) Q := by
  have hsw : (Scalar.remsi b 24#32).toNat = s := by rw [hs]; exact remsi_toNat hb 24 (by omega) (by omega)
  induction X with
  | nil =>
    intro v x G Q hX _ _
    show _ ⊢ W c (some v) (while2Of (walkArg b w x)) Q
    rw [while2_eq]; unfold walkBody
    rw [show x = none32 from hX, if_neg (by decide)]
    unfold W
    iintro ⟨H, Hk⟩
    rw [wp_ret]; imodintro
    iapply Hk; iexact H
  | cons t X ih =>
    intro v x G Q hX hm hv
    obtain ⟨rfl, hX⟩ := hX
    have ht : t < 1536 := hm t List.mem_cons_self
    have hn : (BitVec.ofNat 32 t).toNat = t := toNat_ofNat (by omega)
    have ht' : (BitVec.ofNat 32 t).toNat < 1536 := by rw [hn]; exact ht
    have hc : Scalar.andi (Scalar.cmpi .sge (BitVec.ofNat 32 t) 0#32) (Scalar.cmpi .slt (BitVec.ofNat 32 t) 1536#32) = 1#1 := by
      rw [(cmpi_sge_small (by omega) (by decide)).mpr (Nat.zero_le _), (cmpi_slt_small (by omega) (by decide)).mpr ht']
      rfl
    show _ ⊢ W c (some v) (while2Of (walkArg b w (BitVec.ofNat 32 t))) Q
    rw [while2_eq]; unfold walkBody
    rw [if_pos hc]
    have hr : ∀ u : BitVec 32, (Scalar.andi u 7#32).toNat = (⟨u.toNat % 8, Nat.mod_lt _ (by omega)⟩ : Fin 8) := fun u => andi_toNat u 3 (by omega)
    unfold walkRes
    iintro ⟨⟨HC, HS, HR, HN, HG⟩, Hk⟩
    iapply (wp_assume 𝒱₀ (c : Thread nD τ) (some v) Set.univ (chk12_of _ ht'))
    iapply (wp_getRow c (some v) V _ ht'); isplitl [HR]; · iexact HR
    iintro HR
    iapply (wp_assume 𝒱₀ (c : Thread nD τ) (some v) Set.univ (oIn_of s _ _ _ hsw (hr _)))
    iapply (wp_getScale c (some v) S _ ht'); isplitl [HS]; · iexact HS
    iintro HS
    iapply (wp_row c (some v) f _ ht' _ _ _ _ s _ FloatOps.addf G (addTile_ok c (some v) s _ _ _ hsw (hr _) _))
    isplitl [HC]; · iexact HC
    isplitl [HG]; · iexact HG
    rw [tokW_eq]
    iintro HC HG
    iapply (wp_getNext c (some v) nx); isplitl [HN]; · iexact HN
    iintro HN
    have hoff : k0_off47 (BitVec.ofNat 32 t) 0 = t := hn
    rw [hoff, hn]
    iapply (wp_call 𝒱₀ (c : Thread nD τ) (some v) Set.univ (ℓ := (2 : (Λ₀ F).Label)) (v - 1)
      (fun u hu => by cases hu; show v - 1 < v; simp at hv; omega))
    iapply (ih (v - 1) (nx t) _ _ hX (fun t ht => hm t (List.mem_cons_of_mem _ ht)) (by simp at hv; omega))
    unfold walkRes
    isplitl [HC HS HR HN HG]
    · isplitl [HC]; · iexact HC
      isplitl [HS]; · iexact HS
      isplitl [HR]; · iexact HR
      isplitl [HN]; · iexact HN
      iexact HG
    iintro %r H
    rw [wp_ret]; imodintro
    iapply Hk; iexact H

end Cert.Proof.SegK
-- ==== Proof.SegK.Block.lean ====
/-
  One block of rows: the eight head rows fill a slot with the first token of each row (`wp_headRow`), the walk adds the
  further tokens, and the slot then holds the block's rows (`wp_fill`).
-/
module

public import proofs.«01_k».proof.Proof.SegK.Walk

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## What a row holds -/

/-- A row's first value: its first token's, or a byte of token 0 scaled by zero. -/
def headV (f : S144x392x128.Idx → BitVec 32) (S : S6x256.Idx → F .f32) : List ℕ → Fin 144 → Fin 128 → F .f32
  | [] => fun j l => FloatOps.mulf (decW (f (cIdx j ⟨0, by omega⟩ l)) (shN 0)) (Scalar.ofBits .f32 0x00000000#32)
  | t :: _ => tokV f S t

/-- A row's value: its first token's, the others added in turn. -/
def outV (f : S144x392x128.Idx → BitVec 32) (S : S6x256.Idx → F .f32) (L : List ℕ) (j : Fin 144) (l : Fin 128) : F .f32 :=
  L.tail.foldl (fun acc t => FloatOps.addf acc (tokV f S t j l)) (headV f S L j l)

theorem walked_apply (f : S144x392x128.Idx → BitVec 32) (S : S6x256.Idx → F .f32) (V : S6x256.Idx → BitVec 32) (X : List ℕ) :
    ∀ (G : Slot F) (r : Fin 8) (j : Fin 144) (l : Fin 128),
      walked f S V X G r j l = (X.filter (fun t => rowOf V t = r)).foldl (fun acc t => FloatOps.addf acc (tokV f S t j l)) (G r j l) := by
  induction X with
  | nil => intro G r j l; rfl
  | cons t X ih =>
    intro G r j l
    show walked f S V X (updRow FloatOps.addf (rowOf V t) (tokV f S t) G) r j l = _
    rw [ih]
    by_cases h : rowOf V t = r
    · rw [List.filter_cons_of_pos (by simpa using h)]
      subst h
      show List.foldl _ (updRow FloatOps.addf (rowOf V t) (tokV f S t) G (rowOf V t) j l) _ = _
      unfold updRow
      simp
    · rw [List.filter_cons_of_neg (by simpa using h)]
      unfold updRow
      rw [if_neg (fun e => h e.symm)]

variable (c : Dev nD) (bd : Option ℕ)

/-- What the head rows hold. -/
def headRes (f : S144x392x128.Idx → BitVec 32) (S : S6x256.Idx → F .f32) (h : ℕ → BitVec 32) (s : Fin 24) (G : Slot F) : sProp 𝕄 :=
  iprop(cPts (F := F) c f ∗ scPts c S ∗ hdPts (F := F) c h ∗ slotPts c s G)

/-- A row's first word, no smaller than zero. -/
theorem maxsi_headOf (l : List ℕ) (hl : ∀ t ∈ l, t < 1536) : (Scalar.maxsi (headOf l) 0#32) = BitVec.ofNat 32 (l.headD 0) := by
  cases l with
  | nil => decide
  | cons t l =>
    have ht := hl t List.mem_cons_self
    show (if (0#32).slt (BitVec.ofNat 32 t) = true then BitVec.ofNat 32 t else 0#32) = BitVec.ofNat 32 t
    by_cases h0 : t = 0
    · subst h0; rfl
    · rw [if_pos]
      rw [BitVec.slt_eq_decide]
      have : (BitVec.ofNat 32 t).toNat = t := toNat_ofNat (by omega)
      have h2 := toInt_small (x := BitVec.ofNat 32 t) (by omega)
      rw [h2, this]
      simp; omega

theorem headD_lt (l : List ℕ) (hl : ∀ t ∈ l, t < 1536) : l.headD 0 < 1536 := by
  cases l with
  | nil => decide
  | cons t l => exact hl t List.mem_cons_self

theorem head_chk (l : List ℕ) (hl : ∀ t ∈ l, t < 1536) :
    (∀ a, (sOff (Scalar.maxsi (headOf l) 0#32)) a + S1x1.size a ≤ S6x256.size a) ∧ CIn (Scalar.maxsi (headOf l) 0#32) := by
  have hlt := headD_lt l hl
  have hm := maxsi_headOf l hl
  have h0 : (BitVec.ofNat 32 (l.headD 0)).toNat = l.headD 0 := toNat_ofNat (by omega)
  rw [hm]
  exact ⟨sOff_in _ (by omega), cIn_of _ (by omega)⟩

theorem tokW_head (f : S144x392x128.Idx → BitVec 32) (S : S6x256.Idx → F .f32) (l : List ℕ) (hl : ∀ t ∈ l, t < 1536)
    (ht : (Scalar.maxsi (headOf l) 0#32).toNat < 1536) :
    tokW f (Scalar.maxsi (headOf l) 0#32).toNat (shOf (Scalar.maxsi (headOf l) 0#32))
      (Scalar.select (Scalar.cmpi .slt (headOf l) 0#32) (Scalar.ofBits .f32 0x00000000#32) (S (tix (Scalar.maxsi (headOf l) 0#32).toNat))) ht
      = headV f S l := by
  cases l with
  | nil => rfl
  | cons t l =>
    have ht' := hl t List.mem_cons_self
    have hm : Scalar.maxsi (headOf (t :: l)) 0#32 = BitVec.ofNat 32 t := maxsi_headOf (t :: l) hl
    have hn : (BitVec.ofNat 32 t).toNat = t := toNat_ofNat (by omega)
    have hc : Scalar.cmpi .slt (headOf (t :: l)) 0#32 ≠ 1#1 := by
      intro e
      have := (cmpi_slt_small (x := BitVec.ofNat 32 t) (y := 0#32) (by omega) (by decide)).mp e
      simp at this
    have e1 : Scalar.select (Scalar.cmpi .slt (headOf (t :: l)) 0#32) (Scalar.ofBits .f32 0x00000000#32)
        (S (tix (Scalar.maxsi (headOf (t :: l)) 0#32).toNat)) = S (tix (Scalar.maxsi (headOf (t :: l)) 0#32).toNat) := if_neg hc
    rw [e1]
    rw [tokW_eq]
    rw [hm, hn]
    rfl

theorem wp_headRow (f : S144x392x128.Idx → BitVec 32) (S : S6x256.Idx → F .f32) (h : ℕ → BitVec 32) (s : Fin 24) (r : Fin 8)
    (b w : BitVec 32) (hs : (Scalar.remsi b 24#32).toNat = s) (hw : w.toNat = r) (l : List ℕ) (hl : ∀ t ∈ l, t < 1536)
    (hh : h (hOff b w 0) = headOf l) (hH : ∀ a, (hOff b w) a + S1.size a ≤ S1537.size a) (hO : OIn (Scalar.remsi b 24#32) w)
    (P : BitVec 32 → Prop) (d : ∀ v, Decidable (P v))
    (hS : ∀ v, P v → ∀ a, (sOff (Scalar.maxsi v 0#32)) a + S1x1.size a ≤ S6x256.size a)
    (hC : ∀ v, P v → CIn (Scalar.maxsi v 0#32)) (hP : P (headOf l)) (G : Slot F) (k : (v : BitVec 32) → P v → TP F α) (Q : α → sProp 𝕄) :
    iprop(headRes c f S h s G ∗ (headRes c f S h s (updRow (fun _ y => y) r (headV f S l) G) -∗ W c bd (k (headOf l) hP) Q))
      ⊢ W c bd (headRow b w hH hO P d hS hC k) Q := by
  unfold headRow headRes
  have ht : (Scalar.maxsi (headOf l) 0#32).toNat < 1536 := by
    rw [maxsi_headOf l hl, toNat_ofNat (by have := headD_lt l hl; omega)]; exact headD_lt l hl
  iintro ⟨⟨HC, HS, HH, HG⟩, Hk⟩
  iapply (wp_getHead c bd h _ hH); isplitl [HH]; · iexact HH
  iintro HH
  rw [hh]
  iapply (wp_assume 𝒱₀ (c : Thread nD τ) bd Set.univ hP)
  iapply (wp_getScale c bd S _ ht); isplitl [HS]; · iexact HS
  iintro HS
  iapply (wp_row c bd f _ ht _ _ _ _ s _ (fun _ y => y) G (putTile_ok c bd s r _ _ hs hw _))
  isplitl [HC]; · iexact HC
  isplitl [HG]; · iexact HG
  rw [tokW_head f S l hl]
  iintro HC HG
  iapply Hk
  isplitl [HC]; · iexact HC
  isplitl [HS]; · iexact HS
  isplitl [HH]; · iexact HH
  iexact HG

/-! ## A block's words -/

variable {b : BitVec 32}

theorem hOff_zero (hb : b.toNat < 192) (w : BitVec 32) (hw : w.toNat < 8) : hOff b w 0 = 8 * b.toNat + w.toNat := by
  have e : (Scalar.muli b 8#32).toNat = b.toNat * 8 := muli_toNat (by show b.toNat * 8 < _; omega)
  show (Scalar.addi (Scalar.muli b 8#32) w).toNat = _
  rw [addi_toNat (by omega)]; omega

theorem ne_zero_iff (x : BitVec 1) : Scalar.cmpi .ne (Scalar.extui x : BitVec 32) 0#32 = 1#1 ↔ x = 1#1 := by
  revert x; decide

theorem cond1_iff (hb : b.toNat < 192) : k0_cond1 b = 1#1 ↔ 24 ≤ b.toNat :=
  (ne_zero_iff _).trans (cmpi_sge_small (x := b) (y := 24#32) (by omega) (by decide))

theorem cond2_iff (hb : b.toNat < 192) : k0_cond2 b = 1#1 ↔ 0 < b.toNat := by
  refine (ne_zero_iff _).trans ?_
  exact cmpi_slt_small (x := 0#32) (y := b) (by decide) (by omega)

theorem sem_in (o : Fin 1 → ℕ) (h : o 0 < 24) : SemIn o := off1_in (N := 24) o h

theorem piece_in (p : ℕ) (h : p < 192) : PieceIn ![p, 0, 0, 0] := by
  intro a
  fin_cases a
  · show p + 1 ≤ 192; omega
  · show 0 + 144 ≤ 144; omega
  · show 0 + 8 ≤ 8; omega
  · show 0 + 128 ≤ 128; omega

theorem slot_in (s : ℕ) (h : s < 24) : SlotIn ![s, 0, 0, 0] := by
  intro a
  fin_cases a
  · show s + 1 ≤ 24; omega
  · show 0 + 144 ≤ 144; omega
  · show 0 + 8 ≤ 8; omega
  · show 0 + 128 ≤ 128; omega

theorem off7_eq (hb : b.toNat < 192) (h : 24 ≤ b.toNat) : k0_off7 b = ![b.toNat % 24] := by
  have e : (Scalar.subi b 24#32).toNat = b.toNat - 24 := subi_toNat (by show 24 ≤ _; omega)
  show ![(Scalar.remsi (Scalar.subi b 24#32) 24#32).toNat] = _
  rw [remsi_toNat (by omega) 24 (by omega) (by omega), e]
  congr 1; omega
theorem off8_eq (hb : b.toNat < 192) (h : 24 ≤ b.toNat) : k0_off8 b = ![b.toNat - 24, 0, 0, 0] := by
  have e : (Scalar.subi b 24#32).toNat = b.toNat - 24 := subi_toNat (by show 24 ≤ _; omega)
  show ![(Scalar.subi b 24#32).toNat, 0, 0, 0] = _
  rw [e]
theorem off9_eq (hb : b.toNat < 192) (h : 24 ≤ b.toNat) : k0_off9 b = ![b.toNat % 24, 0, 0, 0] := by
  have e : (Scalar.subi b 24#32).toNat = b.toNat - 24 := subi_toNat (by show 24 ≤ _; omega)
  show ![(Scalar.remsi (Scalar.subi b 24#32) 24#32).toNat, 0, 0, 0] = _
  rw [remsi_toNat (by omega) 24 (by omega) (by omega), e]
  congr 1; omega
theorem off48_eq (hb : b.toNat < 192) (h : 0 < b.toNat) : k0_off48 b = ![(b.toNat - 1) % 24] := by
  have e : (Scalar.subi b 1#32).toNat = b.toNat - 1 := subi_toNat (by show 1 ≤ _; omega)
  show ![(Scalar.remsi (Scalar.subi b 1#32) 24#32).toNat] = _
  rw [remsi_toNat (by omega) 24 (by omega) (by omega), e]
theorem off49_eq (hb : b.toNat < 192) (h : 0 < b.toNat) : k0_off49 b = ![b.toNat - 1, 0, 0, 0] := by
  have e : (Scalar.subi b 1#32).toNat = b.toNat - 1 := subi_toNat (by show 1 ≤ _; omega)
  show ![(Scalar.subi b 1#32).toNat, 0, 0, 0] = _
  rw [e]
theorem off50_eq (hb : b.toNat < 192) (h : 0 < b.toNat) : k0_off50 b = ![(b.toNat - 1) % 24, 0, 0, 0] := by
  have e : (Scalar.subi b 1#32).toNat = b.toNat - 1 := subi_toNat (by show 1 ≤ _; omega)
  show ![(Scalar.remsi (Scalar.subi b 1#32) 24#32).toNat, 0, 0, 0] = _
  rw [remsi_toNat (by omega) 24 (by omega) (by omega), e]

/-- The block's checks hold. -/
theorem chk3_of (hb : b.toNat < 192) : k0_chk3 b := by
  have hr : (Scalar.remsi b 24#32).toNat = (⟨b.toNat % 24, Nat.mod_lt _ (by omega)⟩ : Fin 24) := remsi_toNat (by omega) 24 (by omega) (by omega)
  have hh : ∀ w : BitVec 32, w.toNat < 8 → ∀ a, (hOff b w) a + S1.size a ≤ S1537.size a := fun w hw =>
    off1_in (N := 1537) _ (by rw [hOff_zero hb w hw]; omega)
  have ho : ∀ w : BitVec 32, (hw : w.toNat < 8) → OIn (Scalar.remsi b 24#32) w := fun w hw =>
    oIn_of _ ⟨w.toNat, hw⟩ _ _ hr rfl
  refine ⟨fun h => ?_, fun h => ?_, fun h => ?_, hh 0#32 (by decide), ho 0#32 (by decide), hh 1#32 (by decide), ho 1#32 (by decide),
    hh 2#32 (by decide), ho 2#32 (by decide), hh 3#32 (by decide), ho 3#32 (by decide), hh 4#32 (by decide), ho 4#32 (by decide),
    hh 5#32 (by decide), ho 5#32 (by decide), hh 6#32 (by decide), ho 6#32 (by decide), hh 7#32 (by decide), ho 7#32 (by decide),
    off1_in (N := 193) _ (by show b.toNat < 193; omega), fun h => ?_, fun h => ?_, fun h => ?_⟩
  · rw [off7_eq hb ((cond1_iff hb).mp h)]; exact sem_in _ (Nat.mod_lt _ (by omega))
  · rw [off8_eq hb ((cond1_iff hb).mp h)]; exact piece_in _ (by omega)
  · rw [off9_eq hb ((cond1_iff hb).mp h)]; exact slot_in _ (Nat.mod_lt _ (by omega))
  · rw [off48_eq hb ((cond2_iff hb).mp h)]; exact sem_in _ (Nat.mod_lt _ (by omega))
  · rw [off49_eq hb ((cond2_iff hb).mp h)]; exact piece_in _ (by omega)
  · rw [off50_eq hb ((cond2_iff hb).mp h)]; exact slot_in _ (Nat.mod_lt _ (by omega))

/-! ## Filling a slot -/

/-- What filling a block's slot holds. -/
def fillRes (f : S144x392x128.Idx → BitVec 32) (S : S6x256.Idx → F .f32) (V : S6x256.Idx → BitVec 32) (h xh nx : ℕ → BitVec 32)
    (s : Fin 24) (G : Slot F) : sProp 𝕄 :=
  iprop(cPts (F := F) c f ∗ scPts c S ∗ rwPts (F := F) c V ∗ hdPts (F := F) c h ∗ xhPts (F := F) c xh ∗ nxPts (F := F) c nx ∗ slotPts c s G)

/-- What follows the walk: the copy of the block before, then the next block. -/
def nextOf (n b : BitVec 32) (h3 : k0_chk3 b) : TP F (BitVec 32) :=
  if h2 : k0_cond2 b = 1#1 then
    startOut (k0_off48 b) (k0_off48_inb b h3 h2) (k0_off49 b) (k0_off49_inb b h3 h2) (k0_off50 b) (k0_off50_inb b h3 h2)
      (.op (.call (1 : (Λ₀ F).Label) (blockArg n (Scalar.addi b 1#32))) .ret)
  else .op (.call (1 : (Λ₀ F).Label) (blockArg n (Scalar.addi b 1#32))) .ret

theorem put8 (H : Fin 8 → Fin 144 → Fin 128 → F .f32) (G : Slot F) :
    updRow (fun _ y => y) 7 (H 7) (updRow (fun _ y => y) 6 (H 6) (updRow (fun _ y => y) 5 (H 5) (updRow (fun _ y => y) 4 (H 4)
      (updRow (fun _ y => y) 3 (H 3) (updRow (fun _ y => y) 2 (H 2) (updRow (fun _ y => y) 1 (H 1) (updRow (fun _ y => y) 0 (H 0) G))))))) = H := by
  funext r j l
  unfold updRow
  fin_cases r <;> simp

omit [FloatOps F] in
theorem row_filter (V : S6x256.Idx → BitVec 32) (b : ℕ) (X : List ℕ) (hXm : ∀ t ∈ X, t < 1536 ∧ (V (tix t)).toNat / 8 = b) (r : Fin 8) :
    X.filter (fun t => rowOf V t = r) = X.filter (fun t => (V (tix t)).toNat = 8 * b + r.val) := by
  refine List.filter_congr fun t ht => ?_
  have h := (hXm t ht).2
  have : rowOf V t = r ↔ (V (tix t)).toNat = 8 * b + r.val := by
    rw [Fin.ext_iff]
    show (V (tix t)).toNat % 8 = r.val ↔ _
    omega
  simp only [this]

theorem walked_out (f : S144x392x128.Idx → BitVec 32) (S : S6x256.Idx → F .f32) (V : S6x256.Idx → BitVec 32)
    (live : ℕ → Prop) [DecidablePred live] (b : BitVec 32) (hb : b.toNat < 192) (X : List ℕ) (hXm : ∀ t ∈ X, t < 1536 ∧ (V (tix t)).toNat / 8 = b.toNat)
    (hXf : ∀ s, s / 8 = b.toNat → X.filter (fun t => (V (tix t)).toNat = s) = (toks live (fun t => (V (tix t)).toNat) 1536 s).tail) :
    walked f S V X (fun r => headV f S (toks live (fun t => (V (tix t)).toNat) 1536 (8 * b.toNat + r.val)))
      = fun r j l => outV f S (toks live (fun t => (V (tix t)).toNat) 1536 (8 * b.toNat + r.val)) j l := by
  funext r j l
  rw [walked_apply, row_filter V b.toNat X hXm r, hXf _ (by omega)]
  rfl

theorem wp_fill (f : S144x392x128.Idx → BitVec 32) (S : S6x256.Idx → F .f32) (V : S6x256.Idx → BitVec 32)
    {live : ℕ → Prop} [DecidablePred live] {h nx xh : ℕ → BitVec 32} (T : Threaded live (fun t => (V (tix t)).toNat) 1536 h nx xh)
    (n : BitVec 32) (hb : b.toNat < 192) (h3 : k0_chk3 b) (s : Fin 24) (hs : s.val = b.toNat % 24) (v : ℕ) (hv : 1536 < v) (G : Slot F)
    (Q : BitVec 32 → sProp 𝕄) :
    iprop(fillRes c f S V h xh nx s G
        ∗ (fillRes c f S V h xh nx s (fun r j l => outV f S (toks live (fun t => (V (tix t)).toNat) 1536 (8 * b.toNat + r.val)) j l)
            -∗ W c (some v) (nextOf n b h3) Q))
      ⊢ W c (some v) (blockRows n b h3) Q := by
  have hr : (Scalar.remsi b 24#32).toNat = s := by rw [hs]; exact remsi_toNat (by omega) 24 (by omega) (by omega)
  have hl : ∀ u, ∀ t ∈ toks live (fun t => (V (tix t)).toNat) 1536 u, t < 1536 := fun u t ht => (mem_toks _ _ (le_refl _) ht).2.1
  have hh : ∀ w : BitVec 32, w.toNat < 8 → h (hOff b w 0) = headOf (toks live (fun t => (V (tix t)).toNat) 1536 (8 * b.toNat + w.toNat)) := fun w hw => by
    rw [hOff_zero hb w hw]; exact T.heads _ (by omega)
  obtain ⟨X, hX, hXl, hXm, hXf⟩ := T.chains b.toNat hb
  unfold blockRows fillRes
  iintro ⟨⟨HC, HS, HR, HH, HX, HN, HG⟩, Hk⟩
  ihave H : headRes c f S h s G $$ [HC HS HH HG]
  · unfold headRes
    isplitl [HC]; · iexact HC
    isplitl [HS]; · iexact HS
    isplitl [HH]; · iexact HH
    iexact HG
  iapply (wp_headRow c (some v) f S h s 0 b 0#32 hr rfl _ (hl (8 * b.toNat + 0)) (hh 0#32 (by decide)) _ _ _ _ _ _ (head_chk _ (hl (8 * b.toNat + 0))))
  isplitl [H]; · iexact H
  iintro H
  iapply (wp_headRow c (some v) f S h s 1 b 1#32 hr rfl _ (hl (8 * b.toNat + 1)) (hh 1#32 (by decide)) _ _ _ _ _ _ (head_chk _ (hl (8 * b.toNat + 1))))
  isplitl [H]; · iexact H
  iintro H
  iapply (wp_headRow c (some v) f S h s 2 b 2#32 hr rfl _ (hl (8 * b.toNat + 2)) (hh 2#32 (by decide)) _ _ _ _ _ _ (head_chk _ (hl (8 * b.toNat + 2))))
  isplitl [H]; · iexact H
  iintro H
  iapply (wp_headRow c (some v) f S h s 3 b 3#32 hr rfl _ (hl (8 * b.toNat + 3)) (hh 3#32 (by decide)) _ _ _ _ _ _ (head_chk _ (hl (8 * b.toNat + 3))))
  isplitl [H]; · iexact H
  iintro H
  iapply (wp_headRow c (some v) f S h s 4 b 4#32 hr rfl _ (hl (8 * b.toNat + 4)) (hh 4#32 (by decide)) _ _ _ _ _ _ (head_chk _ (hl (8 * b.toNat + 4))))
  isplitl [H]; · iexact H
  iintro H
  iapply (wp_headRow c (some v) f S h s 5 b 5#32 hr rfl _ (hl (8 * b.toNat + 5)) (hh 5#32 (by decide)) _ _ _ _ _ _ (head_chk _ (hl (8 * b.toNat + 5))))
  isplitl [H]; · iexact H
  iintro H
  iapply (wp_headRow c (some v) f S h s 6 b 6#32 hr rfl _ (hl (8 * b.toNat + 6)) (hh 6#32 (by decide)) _ _ _ _ _ _ (head_chk _ (hl (8 * b.toNat + 6))))
  isplitl [H]; · iexact H
  iintro H
  iapply (wp_headRow c (some v) f S h s 7 b 7#32 hr rfl _ (hl (8 * b.toNat + 7)) (hh 7#32 (by decide)) _ _ _ _ _ _ (head_chk _ (hl (8 * b.toNat + 7))))
  isplitl [H]; · iexact H
  iintro H
  ihave H := (Entails.of_eq (congrArg (headRes c f S h s) (put8 (fun r => headV f S (toks live (fun t => (V (tix t)).toNat) 1536 (8 * b.toNat + r.val))) G))) $$ H
  unfold headRes
  icases H with ⟨HC, HS, HH, HG⟩
  unfold blockTail
  iapply (wp_getChain c (some v) xh); isplitl [HX]; · iexact HX
  iintro HX
  iapply (wp_call 𝒱₀ (c : Thread nD τ) (some v) Set.univ (ℓ := (2 : (Λ₀ F).Label)) 1536 (fun u hu => by cases hu; exact hv))
  iapply (wp_walk c f S V nx b (by omega) s hs _ X 1536 _ _ _ hX (fun t ht => (hXm t ht).1) hXl)
  unfold walkRes
  isplitl [HC HS HR HN HG]
  · isplitl [HC]; · iexact HC
    isplitl [HS]; · iexact HS
    isplitl [HR]; · iexact HR
    isplitl [HN]; · iexact HN
    iexact HG
  iintro %r ⟨HC, HS, HR, HN, HG⟩
  ihave HG := (Entails.of_eq (congrArg (slotPts c s) (walked_out f S V live b hb X hXm hXf))) $$ HG
  iapply Hk
  isplitl [HC]; · iexact HC
  isplitl [HS]; · iexact HS
  isplitl [HR]; · iexact HR
  isplitl [HH]; · iexact HH
  isplitl [HX]; · iexact HX
  isplitl [HN]; · iexact HN
  iexact HG

end Cert.Proof.SegK
-- ==== Proof.SegK.Copies.lean ====
/-
  The copies of the ring: a slot is copied to its block of the result (`wp_startOut`), and a wait for the copy hands both
  back (`wp_waitOut`).
-/
module

public import proofs.«01_k».proof.Proof.SegK.Block
public import Idealize.ShloMosaic.Lib.Batch

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## Blocks of the result -/

/-- The block of an element of the result, -/
def pB (e : S192x144x8x128.Idx) : Fin 192 := e 0
/-- its column tile, -/
def pJ (e : S192x144x8x128.Idx) : Fin 144 := e 1
/-- its row, -/
def pR (e : S192x144x8x128.Idx) : Fin 8 := e 2
/-- and its lane. -/
def pL (e : S192x144x8x128.Idx) : Fin 128 := e 3

/-- An element of the result. -/
def pIdx (b : Fin 192) (j : Fin 144) (r : Fin 8) (l : Fin 128) : S192x144x8x128.Idx := fun a => match a with
  | ⟨0, _⟩ => b | ⟨1, _⟩ => j | ⟨2, _⟩ => r | ⟨3, _⟩ => l

theorem pIdx_eta (i : S192x144x8x128.Idx) : pIdx (pB i) (pJ i) (pR i) (pL i) = i := by
  funext a
  rcases a with ⟨_ | _ | _ | _ | n, hn⟩ <;> first | rfl | exact absurd hn (by simp)

/-- The elements of block `q`. -/
def pieceSet (q : Fin 192) : Finset S192x144x8x128.Idx := Finset.univ.filter fun i => pB i = q

theorem mem_pieceSet {q : Fin 192} {i : S192x144x8x128.Idx} : i ∈ pieceSet q ↔ pB i = q := by simp [pieceSet]

/-- Block `q` of the result holds `f`. -/
def piecePts (c : Dev nD) (q : Fin 192) (f : S192x144x8x128.Idx → F .f32) : sProp 𝕄 :=
  ((c : Thread nD τ).loc main_v3) ↦[pieceSet q]{fullShare} (f : Buf (Elt F) ((c : Thread nD τ).loc main_v3))

/-- A tile's column tile, row and lane. -/
def mJ (k : S144x8x128.Idx) : Fin 144 := k 0
def mR (k : S144x8x128.Idx) : Fin 8 := k 1
def mL (k : S144x8x128.Idx) : Fin 128 := k 2

/-- A tile from a column tile, a row and a lane. -/
def mIdx (j : Fin 144) (r : Fin 8) (l : Fin 128) : S144x8x128.Idx := fun a => match a with
  | ⟨0, _⟩ => j | ⟨1, _⟩ => r | ⟨2, _⟩ => l

/-- A tile's place in a piece of one block. -/
def uIdx (k : S144x8x128.Idx) : S1x144x8x128.Idx := fun a => match a with
  | ⟨0, _⟩ => (0 : Fin 1) | ⟨1, _⟩ => mJ k | ⟨2, _⟩ => mR k | ⟨3, _⟩ => mL k

theorem unsqueeze_eq (h : S144x8x128.numel = S1x144x8x128.numel) (k : S144x8x128.Idx) : Shape.reshapeEquiv h k = uIdx k := by
  refine Shape.reshapeEquiv_eq_of_rowMajor h ?_
  refine (Shape.rowMajor_val_four (d := ![1, 144, 8, 128]) (uIdx k)).trans ?_
  refine Eq.trans ?_ (Shape.rowMajor_val_three (d := ![144, 8, 128]) k).symm
  show ((0 * 144 + (mJ k).val) * 8 + (mR k).val) * 128 + (mL k).val = ((mJ k).val * 8 + (mR k).val) * 128 + (mL k).val
  omega

theorem outPiece_emb (q : Fin 192) (p : Fin 4 → ℕ) (hp : PieceIn p) (e : p = ![q.val, 0, 0, 0]) (k : S144x8x128.Idx) :
    (outPiece p hp).view.emb k = pIdx q (mJ k) (mR k) (mL k) := by
  subst e
  show (Rect.unit (s := S192x144x8x128) ![q.val, 0, 0, 0] S1x144x8x128.size hp).emb (Shape.reshapeEquiv _ k) = _
  rw [unsqueeze_eq]
  funext a
  apply Fin.ext
  rw [Rect.emb_apply]
  rcases a with ⟨_ | _ | _ | _ | n, hn⟩
  · show q.val + 1 * 0 = q.val; omega
  · show 0 + 1 * (mJ k).val = (mJ k).val; omega
  · show 0 + 1 * (mR k).val = (mR k).val; omega
  · show 0 + 1 * (mL k).val = (mL k).val; omega
  · exact absurd hn (by simp)

theorem ringSlot_emb (s : Fin 24) (p : Fin 4 → ℕ) (hp : SlotIn p) (e : p = ![s.val, 0, 0, 0]) (k : S144x8x128.Idx) :
    (ringSlot p hp).view.emb k = oIdx s (mJ k) (mR k) (mL k) := by
  subst e
  show (Rect.unit (s := S24x144x8x128) ![s.val, 0, 0, 0] S1x144x8x128.size hp).emb (Shape.reshapeEquiv _ k) = _
  rw [unsqueeze_eq]
  funext a
  apply Fin.ext
  rw [Rect.emb_apply]
  rcases a with ⟨_ | _ | _ | _ | n, hn⟩
  · show s.val + 1 * 0 = s.val; omega
  · show 0 + 1 * (mJ k).val = (mJ k).val; omega
  · show 0 + 1 * (mR k).val = (mR k).val; omega
  · show 0 + 1 * (mL k).val = (mL k).val; omega
  · exact absurd hn (by simp)

theorem outPiece_set (q : Fin 192) (p : Fin 4 → ℕ) (hp : PieceIn p) (e : p = ![q.val, 0, 0, 0]) :
    (outPiece p hp).view.set = pieceSet q := by
  ext i
  rw [mem_pieceSet]
  constructor
  · intro h
    obtain ⟨k, _, rfl⟩ := Finset.mem_map.mp h
    rw [outPiece_emb q p hp e]; rfl
  · intro h
    refine Finset.mem_map.mpr ⟨mIdx (pJ i) (pR i) (pL i), Finset.mem_univ _, ?_⟩
    rw [outPiece_emb q p hp e, ← h]
    exact pIdx_eta i

theorem ringSlot_set (s : Fin 24) (p : Fin 4 → ℕ) (hp : SlotIn p) (e : p = ![s.val, 0, 0, 0]) :
    (ringSlot p hp).view.set = slotSet s := by
  ext i
  rw [mem_slotSet]
  constructor
  · intro h
    obtain ⟨k, _, rfl⟩ := Finset.mem_map.mp h
    rw [ringSlot_emb s p hp e]; rfl
  · intro h
    refine Finset.mem_map.mpr ⟨mIdx (eJ i) (eR i) (eL i), Finset.mem_univ _, ?_⟩
    rw [ringSlot_emb s p hp e, ← h]
    exact oIdx_eta i

/-- What a copy of a tile counts for. -/
abbrev outN : ℕ := (outPiece ![0, 0, 0, 0] (piece_in 0 (by omega))).view.dmaCredit

theorem outN_pos : 0 < outN := by decide

/-- Semaphore `s` of the ring's. -/
def semS (s : Fin 24) : DmaSem sig := outSem ![s.val] (sem_in _ s.isLt)

theorem outSem_eq (s : Fin 24) (o : Fin 1 → ℕ) (h : SemIn o) (e : o = ![s.val]) : outSem o h = semS s := by
  subst e; rfl

variable (c : Dev nD) (bd : Option ℕ)

/-- The counters of the copies in flight. -/
abbrev EC : UEmb Counters 𝕄 := countersEmb (U := Pipeline.UD sig nD τ)

/-- The copy of slot `s` to block `q` is under way. -/
def flying (O : S192x144x8x128.Idx → F .f32) (q : Fin 192) (s : Fin 24) : sProp 𝕄 :=
  Transfers.Flight (EC (F := F)) (c : Thread nD τ) (.dma (semS s)) () outN
    iprop(piecePts c q O ∗ slotPts c s (fun r j l => O (pIdx q j r l)))

omit [FloatOps F] in
theorem write_piece (O : S192x144x8x128.Idx → F .f32) (q : Fin 192) (s : Fin 24) (p : Fin 4 → ℕ) (hp : PieceIn p) (ep : p = ![q.val, 0, 0, 0])
    (p' : Fin 4 → ℕ) (hp' : SlotIn p') (ep' : p' = ![s.val, 0, 0, 0]) (f : S192x144x8x128.Idx → F .f32) :
    ∀ i ∈ pieceSet q, (outPiece p hp).view.write (Elt F) f
      ((ringSlot p' hp').view.read (Elt F) (fun i : S24x144x8x128.Idx => (O (pIdx q (eJ i) (eR i) (eL i)) : Elt F .f32))) Finset.univ i = O i := by
  intro i hi
  rw [mem_pieceSet] at hi
  have hi' : i = (outPiece p hp).view.emb (mIdx (pJ i) (pR i) (pL i)) := by
    rw [outPiece_emb q p hp ep, ← hi]; exact (pIdx_eta i).symm
  conv_lhs => rw [hi']
  rw [View.write_emb_of_mem (h := Finset.mem_univ _)]
  show O _ = O i
  have : (ringSlot p' hp').view.emb (mIdx (pJ i) (pR i) (pL i)) = oIdx s (pJ i) (pR i) (pL i) := ringSlot_emb s p' hp' ep' _
  rw [this]
  congr 1
  rw [← hi]
  exact pIdx_eta i

theorem wp_startOut (O : S192x144x8x128.Idx → F .f32) (q : Fin 192) (s : Fin 24) (o : Fin 1 → ℕ) (h : SemIn o) (p : Fin 4 → ℕ) (hp : PieceIn p)
    (p' : Fin 4 → ℕ) (hp' : SlotIn p') (eo : o = ![s.val]) (ep : p = ![q.val, 0, 0, 0]) (ep' : p' = ![s.val, 0, 0, 0])
    (f : S192x144x8x128.Idx → F .f32) (k : TP F α) (Q : α → sProp 𝕄) :
    iprop(slotPts c s (fun r j l => O (pIdx q j r l)) ∗ piecePts c q f ∗ semVal ((c : Thread nD τ), .dma (semS s)) 0
        ∗ (flying c O q s -∗ W c bd k Q))
      ⊢ W c bd (startOut o h p hp p' hp' k) Q := by
  unfold slotPts piecePts flying W
  rw [← outPiece_set q p hp ep, ← ringSlot_set s p' hp' ep', ← outSem_eq s o h eo]
  iintro ⟨HS, HP, HV, Hk⟩
  iapply (Transfers.wp_dmaLocal (EC (F := F)) 𝒱₀ (c : Thread nD τ) bd (src := ringSlot p' hp') (dst := outPiece p hp) () outN rfl outN_pos (Finset.Subset.refl _)) $$ [HS HP HV]
  · isplitl [HS]; · iexact HS
    isplitl [HP]; · iexact HP
    iexact HV
  iintro HF
  iapply Hk
  refine Transfers.Flight_mono _ _ ?_
  unfold piecePts slotPts
  rw [← outPiece_set q p hp ep, ← ringSlot_set s p' hp' ep']
  refine BI.sep_mono (Entails.of_eq (pointsTo_congr ?_)) (Entails.refl _)
  rw [outPiece_set q p hp ep]
  exact write_piece O q s p hp ep p' hp' ep' f

theorem wp_waitOut (O : S192x144x8x128.Idx → F .f32) (q : Fin 192) (s : Fin 24) (o : Fin 1 → ℕ) (h : SemIn o) (p : Fin 4 → ℕ) (hp : PieceIn p)
    (p' : Fin 4 → ℕ) (hp' : SlotIn p') (eo : o = ![s.val]) (k : TP F α) (Q : α → sProp 𝕄) :
    iprop(flying c O q s ∗ (∃ V, owes (c : Thread nD τ) 0 V)
        ∗ ((piecePts c q O ∗ slotPts c s (fun r j l => O (pIdx q j r l)) ∗ semVal ((c : Thread nD τ), .dma (semS s)) 0 ∗ (∃ V, owes (c : Thread nD τ) 0 V)) -∗ W c bd k Q))
      ⊢ W c bd (waitOut o h p hp p' hp' k) Q := by
  unfold flying W
  rw [← outSem_eq s o h eo]
  iintro ⟨HF, ⟨%V, HV⟩, Hk⟩
  iapply (Transfers.wp_waitLocal (EC (F := F)) 𝒱₀ (c : Thread nD τ) bd () rfl) $$ [HF HV]
  · isplitl [HF]; · iexact HF
    iexact HV
  iintro ⟨⟨HP, HS⟩, HV, HO⟩
  iapply Hk
  isplitl [HP]; · iexact HP
  isplitl [HS]; · iexact HS
  isplitl [HV]; · iexact HV
  iexists _; iexact HO

end Cert.Proof.SegK
-- ==== Proof.SegK.Ring.lean ====
/-
  The block loop: each block waits for the copy out of its slot, fills the slot, and starts the copy of the block before
  (`wp_blocks`).
-/
module

public import proofs.«01_k».proof.Proof.SegK.Copies

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

omit [FloatOps F] in
theorem ico_head {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext i; simp only [Finset.mem_Ico, Finset.mem_insert]; omega
  rw [e]; exact bigSep_insert (by simp)

omit [FloatOps F] in
theorem ico_last {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext i; simp only [Finset.mem_Ico, Finset.mem_insert]; omega
  rw [e]; exact bigSep_insert (by simp)

omit [FloatOps F] in
theorem range_last (b : ℕ) (Φ : ℕ → sProp 𝕄) :
    bigSep (Finset.range (b + 1)) Φ = iprop(Φ b ∗ bigSep (Finset.range b) Φ) := by
  rw [Finset.range_add_one]; exact bigSep_insert (by simp)

/-- The slot of block `k`. -/
def slotN (k : ℕ) : Fin 24 := ⟨k % 24, Nat.mod_lt _ (by omega)⟩

/-- Block `q`. -/
def blkN (q : ℕ) : Fin 192 := ⟨q % 192, Nat.mod_lt _ (by omega)⟩

theorem blkN_val {q : ℕ} (h : q < 192) : (blkN q).val = q := Nat.mod_eq_of_lt h

variable (c : Dev nD)

/-- A slot nothing uses. -/
def freeAt (s : Fin 24) : sProp 𝕄 := iprop(∃ G, slotPts (F := F) c s G ∗ semVal ((c : Thread nD τ), .dma (semS s)) 0)

/-- A slot that holds its block, not yet copied. -/
def held (O : S192x144x8x128.Idx → F .f32) (q : ℕ) : sProp 𝕄 :=
  iprop(slotPts c (slotN q) (fun r j l => O (pIdx (blkN q) j r l)) ∗ semVal ((c : Thread nD τ), .dma (semS (slotN q))) 0)

/-- The slots before block `k - 24 + 24` comes round: unused, or being copied. -/
def mid (O : S192x144x8x128.Idx → F .f32) (k : ℕ) : sProp 𝕄 :=
  if k < 24 then freeAt c (slotN k) else flying c O (blkN (k - 24)) (slotN k)

/-- The slot of the block before `b`. -/
def last (O : S192x144x8x128.Idx → F .f32) (b : ℕ) : sProp 𝕄 :=
  if b = 0 then freeAt c (slotN 23) else held c O (b - 1)

/-- A block of the result at anything. -/
def anyPiece (q : ℕ) : sProp 𝕄 := iprop(∃ f, piecePts (F := F) c (blkN q) f)

/-- A block of the result as it is to be. -/
def donePiece (O : S192x144x8x128.Idx → F .f32) (q : ℕ) : sProp 𝕄 := piecePts c (blkN q) O

/-- Some waits recorded. -/
def anyOwes : sProp 𝕄 := iprop(∃ V, owes (c : Thread nD τ) 0 V)

/-- The ring before block `b`. -/
def ringRes (O : S192x144x8x128.Idx → F .f32) (b : ℕ) : sProp 𝕄 :=
  iprop(bigSep (Finset.Ico b (b + 23)) (mid c O) ∗ last c O b ∗ bigSep (Finset.Ico (b - 1) 192) (anyPiece (F := F) c)
    ∗ bigSep (Finset.range (b - 24)) (donePiece c O) ∗ anyOwes (F := F) c)

/-- The ring with block `b`'s slot taken out. -/
def ringRest (O : S192x144x8x128.Idx → F .f32) (b : ℕ) : sProp 𝕄 :=
  iprop(bigSep (Finset.Ico (b + 1) (b + 23)) (mid c O) ∗ last c O b ∗ bigSep (Finset.Ico (b - 1) 192) (anyPiece (F := F) c)
    ∗ bigSep (Finset.range (b + 1 - 24)) (donePiece c O) ∗ anyOwes (F := F) c)

/-- The tables the blocks read. -/
def tabRes (f : S144x392x128.Idx → BitVec 32) (S : S6x256.Idx → F .f32) (V : S6x256.Idx → BitVec 32) (h xh nx : ℕ → BitVec 32) : sProp 𝕄 :=
  iprop(cPts (F := F) c f ∗ scPts c S ∗ rwPts (F := F) c V ∗ hdPts (F := F) c h ∗ xhPts (F := F) c xh ∗ nxPts (F := F) c nx)

omit [FloatOps F] in
theorem mid_fly (O : S192x144x8x128.Idx → F .f32) {b : ℕ} (hb : 0 < b) :
    flying c O (blkN (b - 1)) (slotN (b - 1)) = mid c O (b + 23) := by
  unfold mid
  rw [if_neg (by omega : ¬ b + 23 < 24), show b + 23 - 24 = b - 1 by omega,
    show slotN (b + 23) = slotN (b - 1) from Fin.ext (by show (b + 23) % 24 = (b - 1) % 24; omega)]

omit [FloatOps F] in
theorem last_mid (O : S192x144x8x128.Idx → F .f32) {b : ℕ} (hb : b = 0) : last c O b = mid c O (b + 23) := by
  subst hb
  unfold mid last
  rw [if_pos rfl, if_pos (by omega)]

section

variable (f : S144x392x128.Idx → BitVec 32) (S : S6x256.Idx → F .f32) (V : S6x256.Idx → BitVec 32)
  {live : ℕ → Prop} [DecidablePred live] {h nx xh : ℕ → BitVec 32} (T : Threaded live (fun t => (V (tix t)).toNat) 1536 h nx xh)
  (O : S192x144x8x128.Idx → F .f32)

include T in
theorem wp_block_mid (n b : BitVec 32) (hb : b.toNat < 192) (h3 : k0_chk3 b)
    (hO : ∀ r j l, O (pIdx (blkN b.toNat) j r l) = outV f S (toks live (fun t => (V (tix t)).toNat) 1536 (8 * b.toNat + r.val)) j l)
    (v : ℕ) (hv : 1536 < v) (G : Slot F) (Q : BitVec 32 → sProp 𝕄) :
    iprop(tabRes c f S V h xh nx ∗ ringRest c O b.toNat ∗ slotPts c (slotN b.toNat) G ∗ semVal ((c : Thread nD τ), .dma (semS (slotN b.toNat))) 0
        ∗ ((tabRes c f S V h xh nx ∗ ringRes c O (b.toNat + 1))
            -∗ W c (some v) (.op (.call (1 : (Λ₀ F).Label) (blockArg n (Scalar.addi b 1#32))) .ret) Q))
      ⊢ W c (some v) (blockRows n b h3) Q := by
  have hG : (fun (r : Fin 8) j l => outV f S (toks live (fun t => (V (tix t)).toNat) 1536 (8 * b.toNat + r.val)) j l)
      = fun r j l => O (pIdx (blkN b.toNat) j r l) := by
    funext r j l; exact (hO r j l).symm
  iintro ⟨HT, HR, HG, HV, Hk⟩
  iapply (wp_fill c f S V T n hb h3 (slotN b.toNat) rfl v hv G)
  rw [hG]
  unfold tabRes fillRes
  icases HT with ⟨HC, HS, HW, HH, HX, HN⟩
  isplitl [HC HS HW HH HX HN HG]
  · isplitl [HC]; · iexact HC
    isplitl [HS]; · iexact HS
    isplitl [HW]; · iexact HW
    isplitl [HH]; · iexact HH
    isplitl [HX]; · iexact HX
    isplitl [HN]; · iexact HN
    iexact HG
  iintro ⟨HC, HS, HW, HH, HX, HN, HG⟩
  unfold ringRest nextOf
  icases HR with ⟨HM, HL, HP, HD, HO⟩
  by_cases h2 : k0_cond2 b = 1#1
  · have hb0 := (cond2_iff hb).mp h2
    rw [dif_pos h2]
    ihave HL := (Entails.of_eq (show last c O b.toNat = held c O (b.toNat - 1) from if_neg (by omega))) $$ HL
    ihave HP := (Entails.of_eq ((ico_head (a := b.toNat - 1) (b := 192) (by omega) (anyPiece (F := F) c)).trans
      (by rw [show b.toNat - 1 + 1 = b.toNat by omega]))) $$ HP
    unfold held
    icases HL with ⟨HL, HLV⟩
    icases HP with ⟨HP, HPs⟩
    ihave HP := (show anyPiece c (b.toNat - 1) ⊢ iprop(∃ f, piecePts (F := F) c (blkN (b.toNat - 1)) f) from Entails.refl _) $$ HP
    icases HP with ⟨%g, HP⟩
    iapply (wp_startOut c (some v) O (blkN (b.toNat - 1)) (slotN (b.toNat - 1)) _ _ _ _ _ _ (off48_eq hb hb0)
      (by rw [off49_eq hb hb0, blkN_val (by omega)]) (off50_eq hb hb0) g)
    isplitl [HL]; · iexact HL
    isplitl [HP]; · iexact HP
    isplitl [HLV]; · iexact HLV
    iintro HF
    iapply Hk
    isplitl [HC HS HW HH HX HN]
    · isplitl [HC]; · iexact HC
      isplitl [HS]; · iexact HS
      isplitl [HW]; · iexact HW
      isplitl [HH]; · iexact HH
      isplitl [HX]; · iexact HX
      iexact HN
    unfold ringRes
    rw [show b.toNat + 1 + 23 = (b.toNat + 23) + 1 by omega, ico_last (a := b.toNat + 1) (b := b.toNat + 23) (by omega)]
    isplitl [HF HM]
    · isplitl [HF]
      · iapply (Entails.of_eq (mid_fly c O (by omega : 0 < b.toNat))) $$ HF
      · iexact HM
    isplitl [HG HV]
    · unfold last held
      rw [if_neg (by omega : ¬ b.toNat + 1 = 0), Nat.add_sub_cancel]
      isplitl [HG]; · iexact HG
      iexact HV
    rw [Nat.add_sub_cancel]
    isplitl [HPs]; · iexact HPs
    isplitl [HD]; · iexact HD
    iexact HO
  · have hb0 : b.toNat = 0 := by
      by_contra h0; exact h2 ((cond2_iff hb).mpr (by omega))
    rw [dif_neg h2]
    iapply Hk
    isplitl [HC HS HW HH HX HN]
    · isplitl [HC]; · iexact HC
      isplitl [HS]; · iexact HS
      isplitl [HW]; · iexact HW
      isplitl [HH]; · iexact HH
      isplitl [HX]; · iexact HX
      iexact HN
    unfold ringRes
    rw [show b.toNat + 1 + 23 = (b.toNat + 23) + 1 by omega, ico_last (a := b.toNat + 1) (b := b.toNat + 23) (by omega)]
    isplitl [HL HM]
    · isplitl [HL]
      · iapply (Entails.of_eq (last_mid c O hb0)) $$ HL
      · iexact HM
    isplitl [HG HV]
    · unfold last held
      rw [if_neg (by omega : ¬ b.toNat + 1 = 0), Nat.add_sub_cancel]
      isplitl [HG]; · iexact HG
      iexact HV
    rw [Nat.add_sub_cancel, show b.toNat - 1 = b.toNat by omega]
    isplitl [HP]; · iexact HP
    isplitl [HD]; · iexact HD
    iexact HO

include T in
theorem wp_blocks (n : BitVec 32) (hn : n.toNat ≤ 192)
    (hO : ∀ q < n.toNat, ∀ r j l, O (pIdx (blkN q) j r l) = outV f S (toks live (fun t => (V (tix t)).toNat) 1536 (8 * q + r.val)) j l)
    (m : ℕ) : ∀ (b : BitVec 32) (v : ℕ) (Q : BitVec 32 → sProp 𝕄), b.toNat + m = n.toNat → 2000 * m ≤ v →
      iprop(tabRes c f S V h xh nx ∗ ringRes c O b.toNat ∗ (∀ r, (tabRes c f S V h xh nx ∗ ringRes c O n.toNat) -∗ Q r))
        ⊢ W c (some v) (defs₀ (F := F) .tc (1 : (Λ₀ F).Label) (blockArg n b)) Q := by
  induction m with
  | zero =>
    intro b v Q hbn _
    show _ ⊢ W c (some v) (while1Of (blockArg n b)) Q
    have e : b.toNat = n.toNat := by omega
    rw [while1_eq]; unfold blockBody
    rw [if_neg (fun hc => by have := (cmpi_slt_small (by omega) (by omega)).mp hc; omega)]
    unfold W
    rw [e]
    iintro ⟨HT, HR, Hk⟩
    rw [wp_ret]; imodintro
    iapply Hk
    isplitl [HT]; · iexact HT
    iexact HR
  | succ m ih =>
    intro b v Q hbn hv
    have hb : b.toNat < 192 := by omega
    have h3 := chk3_of hb
    have e1 : (Scalar.addi b 1#32).toNat = b.toNat + 1 := addi_toNat (by show b.toNat + 1 < _; omega)
    show _ ⊢ W c (some v) (while1Of (blockArg n b)) Q
    rw [while1_eq]; unfold blockBody
    rw [if_pos ((cmpi_slt_small (by omega) (by omega)).mpr (by omega))]
    have next : iprop((∀ r, (tabRes c f S V h xh nx ∗ ringRes c O n.toNat) -∗ Q r) ∗ (tabRes c f S V h xh nx ∗ ringRes c O (b.toNat + 1)))
        ⊢ W c (some v) (.op (.call (1 : (Λ₀ F).Label) (blockArg n (Scalar.addi b 1#32))) .ret) Q := by
      iintro ⟨Hk, HT, HR⟩
      iapply (wp_call 𝒱₀ (c : Thread nD τ) (some v) Set.univ (ℓ := (1 : (Λ₀ F).Label)) (v - 1)
        (fun u hu => by cases hu; show v - 1 < v; omega))
      iapply (ih (Scalar.addi b 1#32) (v - 1) _ (by omega) (by omega))
      rw [e1]
      isplitl [HT]; · iexact HT
      isplitl [HR]; · iexact HR
      iintro %r H
      rw [wp_ret]; imodintro
      iapply Hk; iexact H
    iintro ⟨HT, HR, Hk⟩
    iapply (wp_assume 𝒱₀ (c : Thread nD τ) (some v) Set.univ h3)
    unfold ringRes
    rw [ico_head (a := b.toNat) (b := b.toNat + 23) (by omega)]
    icases HR with ⟨⟨HM0, HM⟩, HL, HP, HD, HO⟩
    by_cases h1 : k0_cond1 b = 1#1
    · have hb0 := (cond1_iff hb).mp h1
      rw [dif_pos h1]
      ihave HM0 := (Entails.of_eq (show mid c O b.toNat = flying c O (blkN (b.toNat - 24)) (slotN b.toNat) from if_neg (by omega))) $$ HM0
      iapply (wp_waitOut c (some v) O (blkN (b.toNat - 24)) (slotN b.toNat) _ _ _ _ _ _ (off7_eq hb hb0))
      unfold anyOwes
      isplitl [HM0]; · iexact HM0
      isplitl [HO]; · iexact HO
      iintro ⟨HP0, HG, HV, HO⟩
      iapply (wp_block_mid c f S V T O n b hb h3 (hO b.toNat (by omega)) v (by omega) _)
      isplitl [HT]; · iexact HT
      isplitl [HM HL HP HD HO HP0]
      · unfold ringRest anyOwes
        rw [show b.toNat + 1 - 24 = (b.toNat - 24) + 1 by omega, range_last]
        isplitl [HM]; · iexact HM
        isplitl [HL]; · iexact HL
        isplitl [HP]; · iexact HP
        isplitl [HP0 HD]
        · isplitl [HP0]
          · iapply (show piecePts c (blkN (b.toNat - 24)) O ⊢ donePiece c O (b.toNat - 24) from Entails.refl _) $$ HP0
          iexact HD
        iexact HO
      isplitl [HG]; · iexact HG
      isplitl [HV]; · iexact HV
      iintro H
      iapply next
      isplitl [Hk]; · iexact Hk
      iexact H
    · have hb0 : b.toNat < 24 := by
        by_contra h0; exact h1 ((cond1_iff hb).mpr (by omega))
      rw [dif_neg h1]
      ihave HM0 := (Entails.of_eq (show mid c O b.toNat = freeAt c (slotN b.toNat) from if_pos hb0)) $$ HM0
      unfold freeAt
      icases HM0 with ⟨%G, HG, HV⟩
      iapply (wp_block_mid c f S V T O n b hb h3 (hO b.toNat (by omega)) v (by omega) G)
      isplitl [HT]; · iexact HT
      isplitl [HM HL HP HD HO]
      · unfold ringRest
        rw [show b.toNat + 1 - 24 = b.toNat - 24 by omega]
        isplitl [HM]; · iexact HM
        isplitl [HL]; · iexact HL
        isplitl [HP]; · iexact HP
        isplitl [HD]; · iexact HD
        iexact HO
      isplitl [HG]; · iexact HG
      isplitl [HV]; · iexact HV
      iintro H
      iapply next
      isplitl [Hk]; · iexact Hk
      iexact H

end

end Cert.Proof.SegK
-- ==== Proof.SegK.Nums.lean ====
/-
  The counts and places after the block loop (`chk14_of`).
-/
module

public import proofs.«01_k».proof.Proof.SegK.Block

@[expose] public section

noncomputable section

namespace Cert.Proof.SegK

open Cert.Kernel
open Idealize.ShloMosaic Idealize.ShloMosaic.TcCoe

/-- How many blocks have a row. -/
def liveN (n : BitVec 32) : ℕ := (n.toNat + 7) / 8

theorem liveN_le {n : BitVec 32} (h : n.toNat ≤ 1536) : liveN n ≤ 192 := by unfold liveN; omega

theorem liveOf_toNat {n : BitVec 32} (h : n.toNat ≤ 1536) : (liveOf n).toNat = liveN n := by
  unfold liveOf liveN
  have e : (Scalar.addi n 7#32).toNat = n.toNat + 7 := addi_toNat (by show n.toNat + 7 < _; omega)
  rw [shrsi_toNat (by omega) 3 (by omega), e, show (2 : ℕ) ^ 3 = 8 from rfl]

theorem liveOf_eq {n : BitVec 32} (h : n.toNat ≤ 1536) : liveOf n = BitVec.ofNat 32 (liveN n) := by
  rw [← liveOf_toNat h, ofNat_toNat]

/-- A loop from `a` to `b` by ones. -/
structure Rng (L : Scf.Loop 32) (a b : ℕ) : Prop where
  lb : L.lb = BitVec.ofNat 32 a
  ub : L.ub = BitVec.ofNat 32 b
  st : L.st = 1#32
  le : a ≤ b
  top : b ≤ 192

theorem Rng.trips {L : Scf.Loop 32} {a b : ℕ} (h : Rng L a b) : L.trips = b - a := by
  have := h.le; have := h.top
  show Scf.trips L.lb L.ub L.st = _
  unfold Scf.trips
  rw [h.lb, h.ub, h.st, toInt_small (by rw [toNat_ofNat (by omega)]; omega), toInt_small (by rw [toNat_ofNat (by omega)]; omega),
    toNat_ofNat (by omega), toNat_ofNat (by omega)]
  show (((b : ℤ) - (a : ℤ) + 1 - 1) / 1).toNat = _
  rw [Int.ediv_one]; omega

theorem Rng.ok {L : Scf.Loop 32} {a b : ℕ} (h : Rng L a b) : L.OK := by
  have := h.le; have := h.top
  have ht : Scf.trips L.lb L.ub L.st = b - a := h.trips
  show Scf.OK L.lb L.ub L.st
  unfold Scf.OK
  have h1 : (1#32 : BitVec 32).toInt = 1 := by decide
  rw [ht, h.lb, h.st, h1, toInt_small (x := BitVec.ofNat 32 a) (by rw [toNat_ofNat (by omega)]; omega), toNat_ofNat (by omega)]
  refine ⟨by decide, ?_⟩
  omega

theorem iv_from (a k : ℕ) : Scf.iv (BitVec.ofNat 32 a) 1#32 k = BitVec.ofNat 32 (a + k) := by
  unfold Scf.iv
  rw [BitVec.mul_one, BitVec.ofNat_add]

theorem num1 : ∀ q : Fin 193, Scalar.addi (BitVec.ofNat 32 q.val) (Scalar.muli (Scalar.divsi (Scalar.subi 192#32 (BitVec.ofNat 32 q.val)) 1#32) 1#32) = 192#32 := by
  decide +kernel
theorem num2 : ∀ q : Fin 193, Scalar.addi (BitVec.ofNat 32 q.val) (Scalar.subi 192#32 (BitVec.ofNat 32 q.val)) = 192#32 := by
  decide +kernel
theorem num3 : ∀ q : Fin 193, Scalar.maxsi (Scalar.subi (BitVec.ofNat 32 q.val) 24#32) 0#32 = BitVec.ofNat 32 (q.val - 24) := by
  decide +kernel
theorem num4 : ∀ q : Fin 193, Scalar.addi (BitVec.ofNat 32 (q.val - 24)) (Scalar.muli (Scalar.divsi (Scalar.subi (BitVec.ofNat 32 q.val) (BitVec.ofNat 32 (q.val - 24))) 1#32) 1#32) = BitVec.ofNat 32 q.val := by
  decide +kernel
theorem num6 : ∀ q : Fin 193, (Scalar.remsi (BitVec.ofNat 32 q.val) 24#32).toNat = q.val % 24 := by
  decide +kernel
theorem num7 : ∀ q : Fin 193, 0 < q.val → Scalar.subi (BitVec.ofNat 32 q.val) 1#32 = BitVec.ofNat 32 (q.val - 1) := by
  decide +kernel
theorem num8 : ∀ q : Fin 193, 0 < q.val →  Scalar.cmpi .ne (Scalar.extui (Scalar.cmpi .sgt (BitVec.ofNat 32 q.val) 0#32) : BitVec 32) 0#32 = 1#1 := by
  decide +kernel
theorem num5 : ∀ q : Fin 193, Scalar.addi (BitVec.ofNat 32 (q.val - 24)) (Scalar.subi (BitVec.ofNat 32 q.val) (BitVec.ofNat 32 (q.val - 24))) = BitVec.ofNat 32 q.val := by
  decide +kernel

theorem top_all : ∀ q : Fin 193, Scalar.addi (BitVec.ofNat 32 q) (Scalar.muli (Scalar.divsi (Scalar.subi 192#32 (BitVec.ofNat 32 q)) 1#32) 1#32) = 192#32
    ∧ Scalar.addi (BitVec.ofNat 32 q) (Scalar.subi 192#32 (BitVec.ofNat 32 q)) = 192#32
    ∧ Scalar.maxsi (Scalar.subi (BitVec.ofNat 32 q) 24#32) 0#32 = BitVec.ofNat 32 (q - 24)
    ∧ Scalar.addi (BitVec.ofNat 32 (q - 24)) (Scalar.muli (Scalar.divsi (Scalar.subi (BitVec.ofNat 32 q) (BitVec.ofNat 32 (q - 24))) 1#32) 1#32) = BitVec.ofNat 32 q
    ∧ Scalar.addi (BitVec.ofNat 32 (q - 24)) (Scalar.subi (BitVec.ofNat 32 q) (BitVec.ofNat 32 (q - 24))) = BitVec.ofNat 32 q
    ∧ (Scalar.remsi (BitVec.ofNat 32 q) 24#32).toNat = q % 24
    ∧ (0 < q.val → Scalar.subi (BitVec.ofNat 32 q) 1#32 = BitVec.ofNat 32 (q - 1)
        ∧ Scalar.cmpi .ne (Scalar.extui (Scalar.cmpi .sgt (BitVec.ofNat 32 q) 0#32) : BitVec 32) 0#32 = 1#1) := by
  exact fun q => ⟨num1 q, num2 q, num3 q, num4 q, num5 q, num6 q, fun h => ⟨num7 q h, num8 q h⟩⟩

section

variable {n : BitVec 32} (h : n.toNat ≤ 1536)

include h

theorem t4_rng : Rng (k0_t4_loop n) (liveN n) 192 := by
  have e := liveOf_eq h
  have a := top_all ⟨liveN n, by have := liveN_le h; omega⟩
  refine ⟨e, ?_, rfl, liveN_le h, le_refl _⟩
  show Scalar.addi (liveOf n) (Scalar.muli (Scalar.divsi (Scalar.subi 192#32 (liveOf n)) 1#32) 1#32) = _
  rw [e]; exact a.1

theorem t5_rng : Rng (k0_t5_loop n) 192 192 := by
  have e := liveOf_eq h
  have a := top_all ⟨liveN n, by have := liveN_le h; omega⟩
  refine ⟨?_, ?_, rfl, le_refl _, le_refl _⟩
  · show Scalar.addi (liveOf n) (Scalar.muli (Scalar.divsi (Scalar.subi 192#32 (liveOf n)) 1#32) 1#32) = _
    rw [e]; exact a.1
  · show Scalar.addi (liveOf n) (Scalar.subi 192#32 (liveOf n)) = _
    rw [e]; exact a.2.1

theorem t8_rng : Rng (k0_t8_loop n) (liveN n) 192 := t4_rng h

theorem t9_rng : Rng (k0_t9_loop n) 192 192 := t5_rng h

theorem low_eq : Scalar.maxsi (Scalar.subi (liveOf n) 24#32) 0#32 = BitVec.ofNat 32 (liveN n - 24) := by
  rw [liveOf_eq h]
  exact (top_all ⟨liveN n, by have := liveN_le h; omega⟩).2.2.1

theorem t6_rng : Rng (k0_t6_loop n) (liveN n - 24) (liveN n) := by
  have a := top_all ⟨liveN n, by have := liveN_le h; omega⟩
  refine ⟨low_eq h, ?_, rfl, Nat.sub_le _ _, liveN_le h⟩
  show Scalar.addi (Scalar.maxsi (Scalar.subi (liveOf n) 24#32) 0#32) (Scalar.muli (Scalar.divsi (Scalar.subi (liveOf n)
    (Scalar.maxsi (Scalar.subi (liveOf n) 24#32) 0#32)) 1#32) 1#32) = _
  rw [low_eq h, liveOf_eq h]; exact a.2.2.2.1

theorem t7_rng : Rng (k0_t7_loop n) (liveN n) (liveN n) := by
  have a := top_all ⟨liveN n, by have := liveN_le h; omega⟩
  refine ⟨?_, ?_, rfl, le_refl _, liveN_le h⟩
  · show Scalar.addi (Scalar.maxsi (Scalar.subi (liveOf n) 24#32) 0#32) (Scalar.muli (Scalar.divsi (Scalar.subi (liveOf n)
      (Scalar.maxsi (Scalar.subi (liveOf n) 24#32) 0#32)) 1#32) 1#32) = _
    rw [low_eq h, liveOf_eq h]; exact a.2.2.2.1
  · show Scalar.addi (Scalar.maxsi (Scalar.subi (liveOf n) 24#32) 0#32) (Scalar.subi (liveOf n)
      (Scalar.maxsi (Scalar.subi (liveOf n) 24#32) 0#32)) = _
    rw [low_eq h, liveOf_eq h]; exact a.2.2.2.2.1

theorem off51_eq (i : Fin (k0_t4_loop n).trips) : k0_off51 n i = ![liveN n + i.val, 0, 0, 0] := by
  have hi := lt_of_lt_of_eq i.isLt (t4_rng h).trips
  show (![(Scf.iv (liveOf n) 1#32 i.val).toNat, 0, 0, 0] : Fin 4 → ℕ) = _
  rw [liveOf_eq h, iv_from, toNat_ofNat (by omega)]

theorem off62_eq (i : Fin (k0_t8_loop n).trips) : k0_off62 n i = ![liveN n + i.val, 0, 0, 0] := off51_eq h i

theorem off56_eq (i : Fin (k0_t6_loop n).trips) : k0_off56 n i = ![(liveN n - 24 + i.val) % 24] := by
  have hi := lt_of_lt_of_eq i.isLt (t6_rng h).trips
  have := liveN_le h
  show (![(Scalar.remsi (Scf.iv (Scalar.maxsi (Scalar.subi (liveOf n) 24#32) 0#32) 1#32 i.val) 24#32).toNat] : Fin 1 → ℕ) = _
  rw [low_eq h, iv_from]
  exact congrArg (fun x => (![x] : Fin 1 → ℕ)) (top_all ⟨liveN n - 24 + i.val, by omega⟩).2.2.2.2.2.1

theorem off57_eq (i : Fin (k0_t6_loop n).trips) : k0_off57 n i = ![liveN n - 24 + i.val, 0, 0, 0] := by
  have hi := lt_of_lt_of_eq i.isLt (t6_rng h).trips
  have := liveN_le h
  show (![(Scf.iv (Scalar.maxsi (Scalar.subi (liveOf n) 24#32) 0#32) 1#32 i.val).toNat, 0, 0, 0] : Fin 4 → ℕ) = _
  rw [low_eq h, iv_from, toNat_ofNat (by omega)]

theorem off58_eq (i : Fin (k0_t6_loop n).trips) : k0_off58 n i = ![(liveN n - 24 + i.val) % 24, 0, 0, 0] := by
  have hi := lt_of_lt_of_eq i.isLt (t6_rng h).trips
  have := liveN_le h
  show (![(Scalar.remsi (Scf.iv (Scalar.maxsi (Scalar.subi (liveOf n) 24#32) 0#32) 1#32 i.val) 24#32).toNat, 0, 0, 0] : Fin 4 → ℕ) = _
  rw [low_eq h, iv_from]
  exact congrArg (fun x => (![x, 0, 0, 0] : Fin 4 → ℕ)) (top_all ⟨liveN n - 24 + i.val, by omega⟩).2.2.2.2.2.1

theorem off53_eq (h0 : 0 < liveN n) : k0_off53 n = ![(liveN n - 1) % 24] := by
  have := liveN_le h
  show (![(Scalar.remsi (Scalar.subi (liveOf n) 1#32) 24#32).toNat] : Fin 1 → ℕ) = _
  rw [liveOf_eq h, ((top_all ⟨liveN n, by omega⟩).2.2.2.2.2.2 h0).1]
  exact congrArg (fun x => (![x] : Fin 1 → ℕ)) (top_all ⟨liveN n - 1, by omega⟩).2.2.2.2.2.1

theorem off54_eq (h0 : 0 < liveN n) : k0_off54 n = ![liveN n - 1, 0, 0, 0] := by
  have := liveN_le h
  show (![(Scalar.subi (liveOf n) 1#32).toNat, 0, 0, 0] : Fin 4 → ℕ) = _
  rw [liveOf_eq h, ((top_all ⟨liveN n, by omega⟩).2.2.2.2.2.2 h0).1]
  exact congrArg (fun x => (![x, 0, 0, 0] : Fin 4 → ℕ)) (toNat_ofNat (by show liveN n - 1 < _; omega))

theorem off55_eq (h0 : 0 < liveN n) : k0_off55 n = ![(liveN n - 1) % 24, 0, 0, 0] := by
  have := liveN_le h
  show (![(Scalar.remsi (Scalar.subi (liveOf n) 1#32) 24#32).toNat, 0, 0, 0] : Fin 4 → ℕ) = _
  rw [liveOf_eq h, ((top_all ⟨liveN n, by omega⟩).2.2.2.2.2.2 h0).1]
  exact congrArg (fun x => (![x, 0, 0, 0] : Fin 4 → ℕ)) (top_all ⟨liveN n - 1, by omega⟩).2.2.2.2.2.1

theorem cond3_of (h0 : 0 < liveN n) : k0_cond3 n = 1#1 := by
  have := liveN_le h
  show Scalar.cmpi .ne (Scalar.extui (Scalar.cmpi .sgt (liveOf n) 0#32) : BitVec 32) 0#32 = 1#1
  rw [liveOf_eq h]
  exact ((top_all ⟨liveN n, by omega⟩).2.2.2.2.2.2 h0).2

theorem chk14_of (h0 : 0 < liveN n) : k0_chk14 n := by
  have hl := liveN_le h
  have no : ∀ {L : Scf.Loop 32} {a : ℕ} (_ : Rng L a a), L.trips = 0 := fun r => by rw [r.trips]; omega
  refine ⟨(t4_rng h).ok, fun i => ?_, (t5_rng h).ok, fun i => ?_, fun _ => ?_, fun _ => ?_, fun _ => ?_, (t6_rng h).ok, fun i => ?_, fun i => ?_, fun i => ?_,
    (t7_rng h).ok, fun i => ?_, fun i => ?_, fun i => ?_, (t8_rng h).ok, fun i => ?_, (t9_rng h).ok, fun i => ?_⟩
  · have hi := lt_of_lt_of_eq i.isLt (t4_rng h).trips
    rw [off51_eq h]; exact piece_in _ (by omega)
  · exact absurd (lt_of_lt_of_eq i.isLt (no (t5_rng h))) (Nat.not_lt_zero _)
  · rw [off53_eq h h0]; exact sem_in _ (Nat.mod_lt _ (by omega))
  · rw [off54_eq h h0]; exact piece_in _ (by omega)
  · rw [off55_eq h h0]; exact slot_in _ (Nat.mod_lt _ (by omega))
  · rw [off56_eq h]; exact sem_in _ (Nat.mod_lt _ (by omega))
  · have hi := lt_of_lt_of_eq i.isLt (t6_rng h).trips
    rw [off57_eq h]; exact piece_in _ (by omega)
  · rw [off58_eq h]; exact slot_in _ (Nat.mod_lt _ (by omega))
  · exact absurd (lt_of_lt_of_eq i.isLt (no (t7_rng h))) (Nat.not_lt_zero _)
  · exact absurd (lt_of_lt_of_eq i.isLt (no (t7_rng h))) (Nat.not_lt_zero _)
  · exact absurd (lt_of_lt_of_eq i.isLt (no (t7_rng h))) (Nat.not_lt_zero _)
  · have hi := lt_of_lt_of_eq i.isLt (t8_rng h).trips
    rw [off62_eq h]; exact piece_in _ (by omega)
  · exact absurd (lt_of_lt_of_eq i.isLt (no (t9_rng h))) (Nat.not_lt_zero _)

end

end Cert.Proof.SegK
-- ==== Proof.SegK.Zero.lean ====
/-
  After the block loop: zeros into the blocks without rows, the last block's copy out, the waits (`wp_finish`).
-/
module

public import proofs.«01_k».proof.Proof.SegK.Ring
public import proofs.«01_k».proof.Proof.SegK.Nums

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-- Zero. -/
def zer : F .f32 := Scalar.ofBits .f32 0x00000000#32

/-- The buffer of zeros, at a share. -/
def zPts (q : PosShare TreeShare) : sProp 𝕄 :=
  ((c : Thread nD τ).loc cc0_scratch2) ↦[Finset.univ]{q} ((fun _ => zer (F := F)) : Buf (Elt F) ((c : Thread nD τ).loc cc0_scratch2))

/-- What copy `j` of zeros delivers, the first going to block `v`. -/
def zDel (O : S192x144x8x128.Idx → F .f32) (v j : ℕ) : sProp 𝕄 :=
  iprop(donePiece c O (v + j) ∗ zPts (F := F) c (Transfers.shareTokN fullShare j))

/-- The copies of zeros: `k` of `m` started, `u` units waited for. -/
def zBatch (O : S192x144x8x128.Idx → F .f32) (v m k u : ℕ) : sProp 𝕄 :=
  Transfers.Batch (EC (F := F)) (c : Thread nD τ) (.dma cc0_scratch14.sem) () outN (fun j : Fin m => zDel c O v j.val) k u

instance zDel_storable (O : S192x144x8x128.Idx → F .f32) (v j : ℕ) : Storable (upEmb : UEmb _ 𝕄) (zDel (F := F) c O v j) := by
  unfold zDel donePiece piecePts zPts; infer_instance

theorem zPts_src (q : PosShare TreeShare) : zPts (F := F) c q
    = ((Memref.whole cc0_scratch2).view.loc (c : Thread nD τ) ↦[(Memref.whole cc0_scratch2).view.set]{q}
        ((fun _ => zer (F := F)) : Buf (Elt F) ((Memref.whole cc0_scratch2).view.loc (c : Thread nD τ)))) := by
  unfold zPts
  rw [show (Memref.whole cc0_scratch2).view.set = Finset.univ from View.set_whole _]

theorem wp_startZero (O : S192x144x8x128.Idx → F .f32) (v m j : ℕ) (hj : j < m) (hO : ∀ i ∈ pieceSet (blkN (v + j)), O i = zer)
    (hv : v + j < 192) (p : Fin 4 → ℕ) (hp : PieceIn p) (ep : p = ![v + j, 0, 0, 0]) (k : TP F α) (Q : α → sProp 𝕄) :
    iprop(zPts (F := F) c (Transfers.shareTokN fullShare j) ∗ anyPiece (F := F) c (v + j) ∗ zBatch c O v m j 0
        ∗ (zBatch c O v m (j + 1) 0 -∗ W c bd k Q))
      ⊢ W c bd (startZero p hp k) Q := by
  have ep' : p = ![(blkN (v + j)).val, 0, 0, 0] := by rw [blkN_val hv]; exact ep
  unfold anyPiece piecePts zBatch W
  iintro ⟨HZ, ⟨%f, HP⟩, HB, Hk⟩
  ihave HZ := (Entails.of_eq (zPts_src (F := F) c (Transfers.shareTokN fullShare j))) $$ HZ
  iapply (Transfers.wp_dmaBatch (EC (F := F)) 𝒱₀ (c : Thread nD τ) bd (src := Memref.whole cc0_scratch2) (dst := outPiece p hp)
    (D := fun j : Fin m => zDel c O v j.val) (j := j) (u := 0) (q := Transfers.shareTokN fullShare j) (Sd := pieceSet (blkN (v + j))) (fd := f)
    (fs := fun _ => zer (F := F)) () outN rfl (by rw [outPiece_set _ p hp ep']) hj (Nat.zero_le _) ?_) $$ [HZ HP HB]
  · unfold zDel donePiece piecePts
    refine BI.sep_mono (Entails.of_eq (pointsTo_congr ?_)) (Entails.of_eq (zPts_src (F := F) c (Transfers.shareTokN fullShare j)).symm)
    intro i hi
    rw [hO i hi]
    rw [mem_pieceSet] at hi
    have hi' : i = (outPiece p hp).view.emb (mIdx (pJ i) (pR i) (pL i)) := by
      rw [outPiece_emb _ p hp ep', ← hi]; exact (pIdx_eta i).symm
    conv_lhs => rw [hi']
    rw [View.write_emb_of_mem (h := Finset.mem_univ _)]
    rfl
  · isplitl [HZ]; · iexact HZ
    isplitl [HP]; · iexact HP
    iexact HB
  iintro HB
  iapply Hk; iexact HB

/-- The waits for the zeros, `k` done. -/
def zWaits (O : S192x144x8x128.Idx → F .f32) (v m k : ℕ) : sProp 𝕄 :=
  if k < m then zBatch c O v m m (k * outN)
  else iprop(bigSep Finset.univ (fun j : Fin m => zDel c O v j.val) ∗ semVal ((c : Thread nD τ), .dma cc0_scratch14.sem) 0)

theorem wp_waitZero (O : S192x144x8x128.Idx → F .f32) (v m j : ℕ) (hj : j < m) (p : Fin 4 → ℕ) (hp : PieceIn p) (k : TP F α) (Q : α → sProp 𝕄) :
    iprop(zWaits c O v m j ∗ anyOwes (F := F) c ∗ ((zWaits c O v m (j + 1) ∗ anyOwes (F := F) c) -∗ W c bd k Q))
      ⊢ W c bd (waitZero p hp k) Q := by
  unfold zWaits
  rw [if_pos hj]
  have hN := outN_pos
  by_cases hl : j + 1 < m
  · rw [if_pos hl]
    unfold zBatch anyOwes W
    iintro ⟨HB, ⟨%V, HV⟩, Hk⟩
    iapply (Transfers.wp_waitBatch (EC (F := F)) 𝒱₀ (c : Thread nD τ) bd (srcw := Memref.whole cc0_scratch2) (dstw := outPiece p hp) () (N := outN) rfl (u := j * outN)
      (by rw [← Nat.succ_mul, Nat.mul_comm]; exact Nat.mul_lt_mul_of_pos_left hl hN)) $$ [HB HV]
    · isplitl [HB]; · iexact HB
      iexact HV
    iintro ⟨HB, HV⟩
    iapply Hk
    isplitl [HB]
    · iapply (Entails.of_eq (by rw [Nat.succ_mul])) $$ HB
    iexists _; iexact HV
  · rw [if_neg hl]
    unfold zBatch anyOwes W
    iintro ⟨HB, ⟨%V, HV⟩, Hk⟩
    iapply (Transfers.wp_waitBatchLast (EC (F := F)) 𝒱₀ (c : Thread nD τ) bd (srcw := Memref.whole cc0_scratch2) (dstw := outPiece p hp) () (N := outN) rfl hN (u := j * outN)
      (by rw [← Nat.succ_mul, Nat.mul_comm, show j.succ = m by omega])) $$ [HB HV]
    · isplitl [HB]; · iexact HB
      iexact HV
    iintro ⟨HB, HS, HV⟩
    iapply Hk
    isplitl [HB HS]
    · isplitl [HB]; · iexact HB
      iexact HS
    iexists _; iexact HV

omit [FloatOps F] in
theorem range_ico (v m : ℕ) (Φ : ℕ → sProp 𝕄) : bigSep (Finset.range m) (fun j => Φ (v + j)) = bigSep (Finset.Ico v (v + m)) Φ := by
  induction m with
  | zero => rw [Nat.add_zero, Finset.Ico_self]; rfl
  | succ m ih => rw [range_last, ih, ← Nat.add_assoc, ico_last (Nat.le_add_right _ _)]

theorem zDone (O : S192x144x8x128.Idx → F .f32) (v m : ℕ) :
    bigSep Finset.univ (fun j : Fin m => zDel c O v j.val)
      = iprop(bigSep (Finset.Ico v (v + m)) (donePiece c O) ∗ bigSep (Finset.range m) (fun j => zPts (F := F) c (Transfers.shareTokN fullShare j))) := by
  rw [show bigSep Finset.univ (fun j : Fin m => zDel c O v j.val) = bigSep (Finset.range m) (fun j => zDel c O v j) by
    rw [← Nat.Iio_eq_range, ← Fin.map_valEmbedding_univ, BI.bigSep_map]; rfl]
  unfold zDel
  rw [← range_ico v m (donePiece c O)]
  exact BI.bigSep_sep _ (fun j => donePiece (F := F) c O (v + j)) (fun j => zPts (F := F) c (Transfers.shareTokN fullShare j))

theorem zPts_split (m : ℕ) : zPts (F := F) c fullShare
    = iprop(zPts (F := F) c (Transfers.shareDrop fullShare m) ∗ bigSep (Finset.range m) (fun j => zPts (F := F) c (Transfers.shareTokN fullShare j))) :=
  BI.Entails.antisymm (Transfers.pointsTo_toks_range fullShare m).1 (Transfers.pointsTo_toks_range fullShare m).2

/-- All that is left once every copy has been waited for. -/
def endRes (O : S192x144x8x128.Idx → F .f32) (v : ℕ) : sProp 𝕄 :=
  iprop(bigSep (Finset.range 192) (donePiece c O) ∗ bigSep (Finset.Ico v (v + 24)) (fun k => freeAt (F := F) c (slotN k))
    ∗ zPts (F := F) c fullShare ∗ semVal ((c : Thread nD τ), .dma cc0_scratch14.sem) 0 ∗ anyOwes (F := F) c)

/-- The ring once its first `k` waits after the loop are done. -/
def drain (O : S192x144x8x128.Idx → F .f32) (v k : ℕ) : sProp 𝕄 :=
  iprop(bigSep (Finset.Ico (v - 24 + 24 + k) (v + 24)) (mid c O) ∗ bigSep (Finset.Ico v (v - 24 + 24 + k)) (fun k => freeAt (F := F) c (slotN k))
    ∗ bigSep (Finset.range (v - 24 + k)) (donePiece c O) ∗ anyOwes (F := F) c)

theorem drain_start (O : S192x144x8x128.Idx → F .f32) (v : ℕ) :
    iprop(bigSep (Finset.Ico v (v + 24)) (mid c O) ∗ bigSep (Finset.range (v - 24)) (donePiece c O) ∗ anyOwes (F := F) c) ⊢ drain (F := F) c O v 0 := by
  unfold drain
  have e : Finset.Ico v (v + 24) = Finset.Ico (v - 24 + 24 + 0) (v + 24) ∪ Finset.Ico v (v - 24 + 24 + 0) := by
    ext i; simp only [Finset.mem_union, Finset.mem_Ico]; omega
  have d : Disjoint (Finset.Ico (v - 24 + 24 + 0) (v + 24)) (Finset.Ico v (v - 24 + 24 + 0)) := by
    rw [Finset.disjoint_left]; intro i; simp only [Finset.mem_Ico]; omega
  rw [show bigSep (Finset.Ico v (v + 24)) (mid c O)
    = iprop(bigSep (Finset.Ico (v - 24 + 24 + 0) (v + 24)) (mid (F := F) c O) ∗ bigSep (Finset.Ico v (v - 24 + 24 + 0)) (mid (F := F) c O)) by
      rw [e]; exact BI.bigSep_union d]
  iintro ⟨⟨HA, HB⟩, HC, HD⟩
  isplitl [HA]; · iexact HA
  isplitl [HB]
  · iapply (Entails.of_eq (BI.bigSep_congr fun i hi => ?_)) $$ HB
    rw [Finset.mem_Ico] at hi
    unfold mid
    rw [if_pos (by omega)]
  isplitl [HC]; · iexact HC
  iexact HD

section

variable (O : S192x144x8x128.Idx → F .f32) (n : BitVec 32) (hn : n.toNat ≤ 1536) (h : k0_chk14 n)

include hn in
theorem wp_drain (c₀ : BitVec 32) (k : BitVec 32 → TP F α) (Q : α → sProp 𝕄) :
    iprop(drain (F := F) c O (liveN n) 0
        ∗ (∀ r, (bigSep (Finset.range (liveN n)) (donePiece c O) ∗ bigSep (Finset.Ico (liveN n) (liveN n + 24)) (fun k => freeAt (F := F) c (slotN k)) ∗ anyOwes (F := F) c)
            -∗ W c bd (k r) Q))
      ⊢ W c bd (Prog.bind (Scf.Loop.for (k0_t6_loop n) (k0_t6_ok n h) c₀ fun i _ =>
          waitOut (k0_off56 n i) (k0_off56_inb n h i) (k0_off57 n i) (k0_off57_inb n h i) (k0_off58 n i) (k0_off58_inb n h i) (.ret 0#32)) k) Q := by
  have hl := liveN_le hn
  have hb : ∀ (i : Fin (k0_t6_loop n).trips) (r : BitVec 32), drain (F := F) c O (liveN n) i.val
      ⊢ W c bd (waitOut (k0_off56 n i) (k0_off56_inb n h i) (k0_off57 n i) (k0_off57_inb n h i) (k0_off58 n i) (k0_off58_inb n h i) (.ret 0#32))
        (fun _ => drain (F := F) c O (liveN n) (i.val + 1)) := by
    intro i _
    have hi := lt_of_lt_of_eq i.isLt (t6_rng hn).trips
    have hs : (slotN (liveN n - 24 + i.val)).val = (liveN n - 24 + i.val) % 24 := rfl
    unfold drain
    rw [ico_head (show liveN n - 24 + 24 + i.val < liveN n + 24 by omega), ← Nat.add_assoc (liveN n - 24 + 24) i.val 1,
      ico_last (show liveN n ≤ liveN n - 24 + 24 + i.val by omega), ← Nat.add_assoc (liveN n - 24) i.val 1, range_last]
    have hm : mid (F := F) c O (liveN n - 24 + 24 + i.val) = flying c O (blkN (liveN n - 24 + i.val)) (slotN (liveN n - 24 + i.val)) := by
      unfold mid
      rw [if_neg (by omega), show liveN n - 24 + 24 + i.val - 24 = liveN n - 24 + i.val by omega,
        show slotN (liveN n - 24 + 24 + i.val) = slotN (liveN n - 24 + i.val) from Fin.ext (by show (_ + 24 + _) % 24 = _ % 24; omega)]
    rw [hm, show slotN (liveN n - 24 + 24 + i.val) = slotN (liveN n - 24 + i.val) from Fin.ext (by show (_ + 24 + _) % 24 = _ % 24; omega)]
    unfold anyOwes
    iintro ⟨⟨HF, HM⟩, HE, HD, HO⟩
    iapply (wp_waitOut c bd O (blkN (liveN n - 24 + i.val)) (slotN (liveN n - 24 + i.val)) _ _ _ _ _ _ (by rw [hs]; exact off56_eq hn i))
    isplitl [HF]; · iexact HF
    isplitl [HO]; · iexact HO
    iintro ⟨HP, HS, HV, HO⟩
    unfold W
    rw [wp_ret]; imodintro
    isplitl [HM]; · iexact HM
    isplitl [HE HS HV]
    · isplitl [HS HV]
      · unfold freeAt
        iexists _
        isplitl [HS]; · iexact HS
        iexact HV
      iexact HE
    isplitl [HD HP]
    · isplitl [HP]
      · unfold donePiece; iexact HP
      iexact HD
    iexact HO
  iintro ⟨H, Hk⟩
  iapply (Scf.wp_for_bind frame (wpE (defs₀ (F := F)) 𝒱₀ (c : Thread nD τ) bd) Set.univ _ _ _ (k0_t6_ok n h) c₀ _
    (fun k _ => drain (F := F) c O (liveN n) k) hb) $$ H
  iintro %r H
  ihave H := (show drain (F := F) c O (liveN n) (Scf.trips (k0_t6_loop n).lb (k0_t6_loop n).ub (k0_t6_loop n).st)
      ⊢ iprop(bigSep (Finset.range (liveN n)) (donePiece c O) ∗ bigSep (Finset.Ico (liveN n) (liveN n + 24)) (fun k => freeAt (F := F) c (slotN k)) ∗ anyOwes (F := F) c) by
    rw [show Scf.trips (k0_t6_loop n).lb (k0_t6_loop n).ub (k0_t6_loop n).st = liveN n - (liveN n - 24) from (t6_rng hn).trips]
    unfold drain
    rw [show liveN n - 24 + 24 + (liveN n - (liveN n - 24)) = liveN n + 24 by omega, show liveN n - 24 + (liveN n - (liveN n - 24)) = liveN n by omega]
    iintro ⟨-, HA, HB, HC⟩
    isplitl [HB]; · iexact HB
    isplitl [HA]; · iexact HA
    iexact HC) $$ H
  iapply Hk $$ H

/-- A loop of no steps. -/
theorem wp_none {L : Scf.Loop 32} (hL : L.trips = 0) (hok : L.OK) (c₀ : BitVec 32) (b : Fin L.trips → BitVec 32 → TP F (BitVec 32))
    (k : BitVec 32 → TP F α) (Q : α → sProp 𝕄) : W c bd (k c₀) Q ⊢ W c bd (Prog.bind (Scf.Loop.for L hok c₀ b) k) Q := by
  iintro H
  iapply (Scf.wp_for_bind frame (wpE (defs₀ (F := F)) 𝒱₀ (c : Thread nD τ) bd) Set.univ _ _ _ hok c₀ b
    (fun _ r => iprop(⌜r = c₀⌝)) (fun i _ => absurd (lt_of_lt_of_eq i.isLt hL) (Nat.not_lt_zero _))) $$ []
  · ipureintro; rfl
  iintro %r %e
  subst e
  iexact H

include hn in
theorem wp_waitZeros (c₀ : BitVec 32) (k : BitVec 32 → TP F α) (Q : α → sProp 𝕄) :
    iprop(zWaits c O (liveN n) (192 - liveN n) 0 ∗ anyOwes (F := F) c
        ∗ (∀ r, (zWaits c O (liveN n) (192 - liveN n) (192 - liveN n) ∗ anyOwes (F := F) c) -∗ W c bd (k r) Q))
      ⊢ W c bd (Prog.bind (Scf.Loop.for (k0_t8_loop n) (k0_t8_ok n h) c₀ fun i _ => waitZero (k0_off62 n i) (k0_off62_inb n h i) (.ret 0#32)) k) Q := by
  have hb : ∀ (i : Fin (k0_t8_loop n).trips) (r : BitVec 32), iprop(zWaits c O (liveN n) (192 - liveN n) i.val ∗ anyOwes (F := F) c)
      ⊢ W c bd (waitZero (k0_off62 n i) (k0_off62_inb n h i) (.ret 0#32))
        (fun _ => iprop(zWaits c O (liveN n) (192 - liveN n) (i.val + 1) ∗ anyOwes (F := F) c)) := by
    intro i _
    have hi := lt_of_lt_of_eq i.isLt (t8_rng hn).trips
    iintro ⟨HZ, HO⟩
    iapply (wp_waitZero c bd O (liveN n) (192 - liveN n) i.val hi)
    isplitl [HZ]; · iexact HZ
    isplitl [HO]; · iexact HO
    iintro H
    unfold W
    rw [wp_ret]; imodintro
    iexact H
  iintro ⟨HZ, HO, Hk⟩
  iapply (Scf.wp_for_bind frame (wpE (defs₀ (F := F)) 𝒱₀ (c : Thread nD τ) bd) Set.univ _ _ _ (k0_t8_ok n h) c₀ _
    (fun k _ => iprop(zWaits c O (liveN n) (192 - liveN n) k ∗ anyOwes (F := F) c)) hb) $$ [HZ HO]
  · isplitl [HZ]; · iexact HZ
    iexact HO
  iintro %r H
  ihave H := (Entails.of_eq (congrArg (fun t => iprop(zWaits c O (liveN n) (192 - liveN n) t ∗ anyOwes (F := F) c))
    (show Scf.trips (k0_t8_loop n).lb (k0_t8_loop n).ub (k0_t8_loop n).st = 192 - liveN n from (t8_rng hn).trips))) $$ H
  iapply Hk $$ H

/-- The copies of zeros, `k` of them started. -/
def zStarts (v m k : ℕ) : sProp 𝕄 :=
  if m = 0 then semVal ((c : Thread nD τ), .dma cc0_scratch14.sem) 0 else zBatch c O v m k 0

theorem zStarts_alloc (v m : ℕ) : (semVal ((c : Thread nD τ), .dma cc0_scratch14.sem) 0 : sProp 𝕄) ⊢ |={Set.univ}=> zStarts (F := F) c O v m 0 := by
  unfold zStarts
  by_cases e : m = 0
  · rw [if_pos e]
    iintro H
    imodintro
    iexact H
  · rw [if_neg e]
    unfold zBatch
    exact Transfers.batch_alloc' (EC (F := F)) (c : Thread nD τ) () outN (fun j : Fin m => zDel c O v j.val)

theorem zStarts_waits (v m : ℕ) : zStarts (F := F) c O v m m ⊢ zWaits c O v m 0 := by
  unfold zStarts zWaits
  by_cases e : m = 0
  · subst e
    rw [if_pos rfl, if_neg (by omega), Finset.univ_eq_empty, BI.bigSep_empty]
    iintro H
    isplitr; · iempintro
    iexact H
  · rw [if_neg e, if_pos (by omega), Nat.zero_mul]

include hn in
theorem wp_startZeros (hO : ∀ q, liveN n ≤ q → q < 192 → ∀ i ∈ pieceSet (blkN q), O i = zer)
    (c₀ : BitVec 32) (k : BitVec 32 → TP F α) (Q : α → sProp 𝕄) :
    iprop(zStarts (F := F) c O (liveN n) (192 - liveN n) 0 ∗ bigSep (Finset.Ico (liveN n) 192) (anyPiece (F := F) c)
        ∗ bigSep (Finset.range (192 - liveN n)) (fun j => zPts (F := F) c (Transfers.shareTokN fullShare j))
        ∗ (∀ r, zStarts (F := F) c O (liveN n) (192 - liveN n) (192 - liveN n) -∗ W c bd (k r) Q))
      ⊢ W c bd (Prog.bind (Scf.Loop.for (k0_t4_loop n) (k0_t4_ok n h) c₀ fun i _ => startZero (k0_off51 n i) (k0_off51_inb n h i) (.ret 0#32)) k) Q := by
  have hl := liveN_le hn
  have hb : ∀ (i : Fin (k0_t4_loop n).trips) (r : BitVec 32), iprop(zStarts (F := F) c O (liveN n) (192 - liveN n) i.val
          ∗ bigSep (Finset.Ico (liveN n + i.val) 192) (anyPiece (F := F) c)
          ∗ bigSep (Finset.Ico i.val (192 - liveN n)) (fun j => zPts (F := F) c (Transfers.shareTokN fullShare j)))
      ⊢ W c bd (startZero (k0_off51 n i) (k0_off51_inb n h i) (.ret 0#32))
        (fun _ => iprop(zStarts (F := F) c O (liveN n) (192 - liveN n) (i.val + 1)
          ∗ bigSep (Finset.Ico (liveN n + (i.val + 1)) 192) (anyPiece (F := F) c)
          ∗ bigSep (Finset.Ico (i.val + 1) (192 - liveN n)) (fun j => zPts (F := F) c (Transfers.shareTokN fullShare j)))) := by
    intro i _
    have hi := lt_of_lt_of_eq i.isLt (t4_rng hn).trips
    rw [ico_head (show liveN n + i.val < 192 by omega), ico_head hi]
    unfold zStarts
    rw [if_neg (by omega), if_neg (by omega)]
    iintro ⟨HB, ⟨HP, HA⟩, HZ, HR⟩
    iapply (wp_startZero c bd O (liveN n) (192 - liveN n) i.val hi (hO _ (by omega) (by omega)) (by omega) _ _ (off51_eq hn i))
    isplitl [HZ]; · iexact HZ
    isplitl [HP]; · iexact HP
    isplitl [HB]; · iexact HB
    iintro HB
    unfold W
    rw [wp_ret]; imodintro
    isplitl [HB]; · iexact HB
    isplitl [HA]; · iexact HA
    iexact HR
  iintro ⟨HB, HA, HZ, Hk⟩
  iapply (Scf.wp_for_bind frame (wpE (defs₀ (F := F)) 𝒱₀ (c : Thread nD τ) bd) Set.univ _ _ _ (k0_t4_ok n h) c₀ _
    (fun k _ => iprop(zStarts (F := F) c O (liveN n) (192 - liveN n) k
          ∗ bigSep (Finset.Ico (liveN n + k) 192) (anyPiece (F := F) c)
          ∗ bigSep (Finset.Ico k (192 - liveN n)) (fun j => zPts (F := F) c (Transfers.shareTokN fullShare j)))) hb) $$ [HB HA HZ]
  · isplitl [HB]; · iexact HB
    isplitl [HA]; · iexact HA
    iapply (Entails.of_eq (by rw [Finset.range_eq_Ico])) $$ HZ
  iintro %r ⟨H, -, -⟩
  ihave H := (Entails.of_eq (congrArg (fun t => zStarts (F := F) c O (liveN n) (192 - liveN n) t)
    (show Scf.trips (k0_t4_loop n).lb (k0_t4_loop n).ub (k0_t4_loop n).st = 192 - liveN n from (t4_rng hn).trips))) $$ H
  iapply Hk $$ H

include hn in
theorem wp_finish (h0 : 0 < liveN n) (hO : ∀ q, liveN n ≤ q → q < 192 → ∀ i ∈ pieceSet (blkN q), O i = zer) (Q : PUnit → sProp 𝕄) :
    iprop(ringRes c O (liveN n) ∗ zPts (F := F) c fullShare ∗ semVal ((c : Thread nD τ), .dma cc0_scratch14.sem) 0
        ∗ (endRes (F := F) c O (liveN n) -∗ Q ⟨⟩))
      ⊢ W c bd (finish n h) Q := by
  have hl := liveN_le hn
  have no : ∀ {L : Scf.Loop 32} {a : ℕ} (_ : Rng L a a), L.trips = 0 := fun r => by rw [r.trips]; omega
  unfold finish
  iintro ⟨HR, HZ, HS, Hk⟩
  ihave HZ := (Entails.of_eq (zPts_split (F := F) c (192 - liveN n))) $$ HZ
  icases HZ with ⟨HZd, HZ⟩
  unfold ringRes
  icases HR with ⟨HM, HL, HA, HD, HO⟩
  ihave HA := (Entails.of_eq (show bigSep (Finset.Ico (liveN n - 1) 192) (anyPiece (F := F) c)
    = iprop(anyPiece (F := F) c (liveN n - 1) ∗ bigSep (Finset.Ico (liveN n) 192) (anyPiece (F := F) c)) by
      rw [ico_head (show liveN n - 1 < 192 by omega), show liveN n - 1 + 1 = liveN n by omega])) $$ HA
  icases HA with ⟨HP, HA⟩
  ihave HL := (Entails.of_eq (show last c O (liveN n) = held c O (liveN n - 1) by unfold last; rw [if_neg (by omega)])) $$ HL
  unfold held
  icases HL with ⟨HL, HV⟩
  unfold anyPiece
  icases HP with ⟨%g, HP⟩
  iapply (fupd_wp frame (wpE (defs₀ (F := F)) 𝒱₀ (c : Thread nD τ) bd) Set.univ _ _)
  imod (zStarts_alloc (F := F) c O (liveN n) (192 - liveN n)) $$ HS with HS
  imodintro
  iapply (wp_startZeros c bd O n hn h hO 0#32)
  isplitl [HS]; · iexact HS
  isplitl [HA]; · unfold anyPiece; iexact HA
  isplitl [HZ]; · iexact HZ
  iintro %r HS
  iapply (wp_none c bd (no (t5_rng hn)))
  rw [dif_pos (cond3_of hn h0)]
  iapply (wp_startOut c bd O (blkN (liveN n - 1)) (slotN (liveN n - 1)) _ _ _ _ _ _ (off53_eq hn h0)
    (by rw [blkN_val (by omega)]; exact off54_eq hn h0) (off55_eq hn h0) g)
  isplitl [HL]; · iexact HL
  isplitl [HP]; · iexact HP
  isplitl [HV]; · iexact HV
  iintro HF
  ihave HF := (Entails.of_eq (mid_fly c O h0)) $$ HF
  unfold waitAll
  iapply (wp_drain c bd O n hn h)
  isplitl [HF HM HD HO]
  · iapply (drain_start (F := F) c O (liveN n))
    isplitl [HF HM]
    · iapply (Entails.of_eq (ico_last (show liveN n ≤ liveN n + 23 by omega) (mid c O)).symm)
      isplitl [HF]; · iexact HF
      iexact HM
    isplitl [HD]; · iexact HD
    iexact HO
  iintro %r ⟨HD, HE, HO⟩
  iapply (wp_none c bd (no (t7_rng hn)))
  ihave HS := (zStarts_waits (F := F) c O (liveN n) (192 - liveN n)) $$ HS
  iapply (wp_waitZeros c bd O n hn h)
  isplitl [HS]; · iexact HS
  isplitl [HO]; · iexact HO
  iintro %r ⟨HS, HO⟩
  iapply (wp_none c bd (no (t9_rng hn)))
  ihave HS := (Entails.of_eq (show zWaits c O (liveN n) (192 - liveN n) (192 - liveN n)
    = iprop((bigSep (Finset.Ico (liveN n) (liveN n + (192 - liveN n))) (donePiece c O) ∗ bigSep (Finset.range (192 - liveN n)) (fun j => zPts (F := F) c (Transfers.shareTokN fullShare j)))
        ∗ semVal ((c : Thread nD τ), .dma cc0_scratch14.sem) 0) by unfold zWaits; rw [if_neg (by omega), zDone])) $$ HS
  icases HS with ⟨⟨HB, HZ⟩, HS⟩
  unfold W
  rw [wp_ret]; imodintro
  iapply Hk
  unfold endRes
  isplitl [HD HB]
  · have e : Finset.range 192 = Finset.range (liveN n) ∪ Finset.Ico (liveN n) (liveN n + (192 - liveN n)) := by
      ext i; simp only [Finset.mem_union, Finset.mem_Ico, Finset.mem_range]; omega
    have d : Disjoint (Finset.range (liveN n)) (Finset.Ico (liveN n) (liveN n + (192 - liveN n))) := by
      rw [Finset.disjoint_left]; intro i; simp only [Finset.mem_Ico, Finset.mem_range]; omega
    iapply (Entails.of_eq (show iprop(bigSep (Finset.range (liveN n)) (donePiece c O) ∗ bigSep (Finset.Ico (liveN n) (liveN n + (192 - liveN n))) (donePiece c O))
      = bigSep (Finset.range 192) (donePiece c O) by rw [e]; exact (BI.bigSep_union d).symm))
    isplitl [HD]; · iexact HD
    iexact HB
  isplitl [HE]; · iexact HE
  isplitl [HZd HZ]
  · iapply (Entails.of_eq (zPts_split (F := F) c (192 - liveN n)).symm)
    isplitl [HZd]; · iexact HZd
    iexact HZ
  isplitl [HS]; · iexact HS
  iexact HO

end

end Cert.Proof.SegK
-- ==== Proof.SegK.Reads.lean ====
/-
  The copies in: the packed rows, in 144 pieces on one semaphore, and the three tables (`wp_startReads`, `wp_waitReads`,
  `wp_startTables`, `wp_waitTables`); the buffer of zeros (`wp_zeroBuf`).
-/
module

public import proofs.«01_k».proof.Proof.SegK.Zero
public import proofs.«01_k».proof.Proof.SegK.Walk

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## Places -/

/-- The row and the lane of a piece's element. -/
def rR (k : S384x128.Idx) : Fin 384 := k 0
def rL (k : S384x128.Idx) : Fin 128 := k 1

def rIdx (r : Fin 384) (l : Fin 128) : S384x128.Idx := fun a => match a with
  | ⟨0, _⟩ => r | ⟨1, _⟩ => l

/-- An element of the packed rows, as they come. -/
def wIdx (r : Fin 384) (x : Fin 18432) : S384x18432.Idx := fun a => match a with
  | ⟨0, _⟩ => r | ⟨1, _⟩ => x

def wR (i : S384x18432.Idx) : Fin 384 := i 0
def wX (i : S384x18432.Idx) : Fin 18432 := i 1

theorem wIdx_eta (i : S384x18432.Idx) : wIdx (wR i) (wX i) = i := by
  funext a
  rcases a with ⟨_ | _ | n, hn⟩ <;> first | rfl | exact absurd hn (by simp)

/-- Its place in the staging buffer, and the other way round. -/
def sJ (e : S144x392x128.Idx) : Fin 144 := e 0
def sR (e : S144x392x128.Idx) : Fin 392 := e 1
def sL (e : S144x392x128.Idx) : Fin 128 := e 2

def colOf (j : Fin 144) (l : Fin 128) : Fin 18432 := ⟨128 * j.val + l.val, by omega⟩

def rowIn (r : Fin 392) : Fin 384 := ⟨r.val % 384, Nat.mod_lt _ (by omega)⟩

def uR (k : S384x128.Idx) : S1x384x128.Idx := fun a => match a with
  | ⟨0, _⟩ => (0 : Fin 1) | ⟨1, _⟩ => rR k | ⟨2, _⟩ => rL k

theorem unsqueezeR_eq (h : S384x128.numel = S1x384x128.numel) (k : S384x128.Idx) : Shape.reshapeEquiv h k = uR k := by
  refine Shape.reshapeEquiv_eq_of_rowMajor h ?_
  refine (Shape.rowMajor_val_three (d := ![1, 384, 128]) (uR k)).trans ?_
  refine Eq.trans ?_ (Shape.rowMajor_val_two (d := ![384, 128]) k).symm
  show (0 * 384 + (rR k).val) * 128 + (rL k).val = (rR k).val * 128 + (rL k).val
  omega

theorem stageM_emb (j : Fin 144) (k : S384x128.Idx) :
    (stageM j).view.emb k = cIdx j ⟨(rR k).val, by have := (rR k).isLt; omega⟩ (rL k) := by
  show (Rect.unit (s := S144x392x128) ![j.val, 0, 0] S1x384x128.size (dst_inb j)).emb (Shape.reshapeEquiv _ k) = _
  rw [unsqueezeR_eq]
  funext a
  apply Fin.ext
  rw [Rect.emb_apply]
  rcases a with ⟨_ | _ | _ | n, hn⟩
  · show j.val + 1 * 0 = j.val; omega
  · show 0 + 1 * (rR k).val = (rR k).val; omega
  · show 0 + 1 * (rL k).val = (rL k).val; omega
  · exact absurd hn (by simp)

theorem codeM_emb (j : Fin 144) (k : S384x128.Idx) : (codeM j).view.emb k = wIdx (rR k) (colOf j (rL k)) := by
  show (Rect.unit (s := S384x18432) ![0, 128 * j.val] S384x128.size (src_inb j)).emb k = _
  funext a
  apply Fin.ext
  rw [Rect.emb_apply]
  rcases a with ⟨_ | _ | n, hn⟩
  · show 0 + 1 * (rR k).val = (rR k).val; omega
  · show 128 * j.val + 1 * (rL k).val = 128 * j.val + (rL k).val; omega
  · exact absurd hn (by simp)

/-- The elements of piece `j`, staged and as they come. -/
def stageSet (j : Fin 144) : Finset S144x392x128.Idx := Finset.univ.filter fun e => sJ e = j ∧ (sR e).val < 384
def codeSet (j : Fin 144) : Finset S384x18432.Idx := Finset.univ.filter fun i => (wX i).val / 128 = j.val

theorem mem_stageSet {j : Fin 144} {e : S144x392x128.Idx} : e ∈ stageSet j ↔ sJ e = j ∧ (sR e).val < 384 := by simp [stageSet]
theorem mem_codeSet {j : Fin 144} {i : S384x18432.Idx} : i ∈ codeSet j ↔ (wX i).val / 128 = j.val := by simp [codeSet]

theorem stage_emb {j : Fin 144} {e : S144x392x128.Idx} (h : e ∈ stageSet j) : e = (stageM j).view.emb (rIdx (rowIn (sR e)) (sL e)) := by
  rw [mem_stageSet] at h
  rw [stageM_emb, ← h.1]
  refine (cIdx_eta e).symm.trans ?_
  show cIdx (sJ e) (sR e) (sL e) = cIdx (sJ e) _ (sL e)
  congr 1
  apply Fin.ext
  show (sR e).val = (sR e).val % 384
  rw [Nat.mod_eq_of_lt h.2]

theorem stageM_set (j : Fin 144) : (stageM j).view.set = stageSet j := by
  ext e
  constructor
  · intro h
    obtain ⟨k, _, rfl⟩ := Finset.mem_map.mp h
    rw [stageM_emb, mem_stageSet]
    exact ⟨rfl, (rR k).isLt⟩
  · intro h
    exact Finset.mem_map.mpr ⟨_, Finset.mem_univ _, (stage_emb h).symm⟩

theorem codeM_set (j : Fin 144) : (codeM j).view.set = codeSet j := by
  ext i
  rw [mem_codeSet]
  constructor
  · intro h
    obtain ⟨k, _, rfl⟩ := Finset.mem_map.mp h
    rw [codeM_emb]
    show (128 * j.val + (rL k).val) / 128 = j.val
    have := (rL k).isLt
    omega
  · intro h
    refine Finset.mem_map.mpr ⟨rIdx (wR i) ⟨(wX i).val % 128, Nat.mod_lt _ (by omega)⟩, Finset.mem_univ _, ?_⟩
    rw [codeM_emb]
    refine Eq.trans ?_ (wIdx_eta i)
    show wIdx (wR i) _ = wIdx (wR i) (wX i)
    congr 1
    apply Fin.ext
    show 128 * j.val + (wX i).val % 128 = (wX i).val
    omega

/-- The staging buffer once all is in: the rows past the last hold what they held. -/
def staged (C : S384x18432.Idx → BitVec 32) (f : S144x392x128.Idx → BitVec 32) : S144x392x128.Idx → BitVec 32 := fun e =>
  if (sR e).val < 384 then C (wIdx (rowIn (sR e)) (colOf (sJ e) (sL e))) else f e

variable (c : Dev nD) (bd : Option ℕ)

/-- Piece `j`. -/
def jN (j : ℕ) : Fin 144 := ⟨j % 144, Nat.mod_lt _ (by omega)⟩

theorem jN_val {j : ℕ} (h : j < 144) : jN j = ⟨j, h⟩ := Fin.ext (Nat.mod_eq_of_lt h)

def stagePts (f : S144x392x128.Idx → BitVec 32) (j : ℕ) : sProp 𝕄 :=
  ((c : Thread nD τ).loc cc0_scratch0) ↦[stageSet (jN j)]{fullShare} (f : Buf (Elt F) ((c : Thread nD τ).loc cc0_scratch0))

def codePts (C : S384x18432.Idx → BitVec 32) (j : ℕ) : sProp 𝕄 :=
  ((c : Thread nD τ).loc main_v2) ↦[codeSet (jN j)]{fullShare} (C : Buf (Elt F) ((c : Thread nD τ).loc main_v2))

/-- What the copy of piece `j` delivers. -/
def rDel (C : S384x18432.Idx → BitVec 32) (f : S144x392x128.Idx → BitVec 32) (j : ℕ) : sProp 𝕄 :=
  iprop(stagePts (F := F) c (staged C f) j ∗ codePts (F := F) c C j)

instance rDel_storable (C : S384x18432.Idx → BitVec 32) (f : S144x392x128.Idx → BitVec 32) (j : ℕ) :
    Storable (upEmb : UEmb _ 𝕄) (rDel (F := F) c C f j) := by
  unfold rDel stagePts codePts; infer_instance

/-- What the copy of a piece counts for. -/
abbrev readN : ℕ := (stageM ⟨0, by omega⟩).view.dmaCredit

theorem readN_pos : 0 < readN := by decide

def rBatch (C : S384x18432.Idx → BitVec 32) (f : S144x392x128.Idx → BitVec 32) (k u : ℕ) : sProp 𝕄 :=
  Transfers.Batch (EC (F := F)) (c : Thread nD τ) (.dma cc0_scratch9.sem) () readN (fun j : Fin 144 => rDel c C f j.val) k u

theorem write_stage (C : S384x18432.Idx → BitVec 32) (f : S144x392x128.Idx → BitVec 32) (j : Fin 144) :
    ∀ e ∈ stageSet j, (stageM j).view.write (Elt F) f ((codeM j).view.read (Elt F) C) Finset.univ e = staged C f e := by
  intro e he
  conv_lhs => rw [stage_emb he]
  rw [View.write_emb_of_mem (h := Finset.mem_univ _)]
  rw [mem_stageSet] at he
  show C ((codeM j).view.emb (rIdx (rowIn (sR e)) (sL e))) = staged C f e
  rw [codeM_emb]
  unfold staged
  rw [if_pos he.2, he.1]
  rfl

theorem rDel_of (C : S384x18432.Idx → BitVec 32) (f : S144x392x128.Idx → BitVec 32) (j : Fin 144) :
    iprop(((stageM j).view.loc (c : Thread nD τ) ↦[(stageM j).view.set]{fullShare}
        (((stageM j).view.write (Elt F) f ((codeM j).view.read (Elt F) C) Finset.univ : S144x392x128.Idx → BitVec 32) : Buf (Elt F) ((stageM j).view.loc (c : Thread nD τ))))
        ∗ ((codeM j).view.loc (c : Thread nD τ) ↦[(codeM j).view.set]{fullShare} (C : Buf (Elt F) ((codeM j).view.loc (c : Thread nD τ)))))
      ⊢ rDel (F := F) c C f j.val := by
  unfold rDel stagePts codePts
  rw [show jN j.val = j from jN_val j.isLt, stageM_set, codeM_set]
  exact BI.sep_mono (Entails.of_eq (pointsTo_congr (write_stage (F := F) C f j))) (Entails.refl _)

theorem wp_startReads (C : S384x18432.Idx → BitVec 32) (f : S144x392x128.Idx → BitVec 32) (n : ℕ) :
    ∀ (j : ℕ) (h : j + n ≤ 144) (k : TP F α) (Q : α → sProp 𝕄),
      iprop(bigSep (Finset.Ico j (j + n)) (codePts (F := F) c C) ∗ bigSep (Finset.Ico j (j + n)) (stagePts (F := F) c f) ∗ rBatch (F := F) c C f j 0
          ∗ (rBatch (F := F) c C f (j + n) 0 -∗ W c bd k Q))
        ⊢ W c bd (startReads j n h k) Q := by
  induction n with
  | zero =>
    intro j h k Q
    iintro ⟨-, -, HB, Hk⟩
    iapply Hk; iexact HB
  | succ n ih =>
    intro j h k Q
    have hlt : j < 144 := by omega
    have hj : jN j = ⟨j, hlt⟩ := jN_val hlt
    rw [show j + (n + 1) = j + 1 + n by omega, ico_head (show j < j + 1 + n by omega), ico_head (show j < j + 1 + n by omega)]
    unfold startReads
    iintro ⟨⟨HC, HCs⟩, ⟨HS, HSs⟩, HB, Hk⟩
    ihave HC := (Entails.of_eq (show codePts (F := F) c C j
      = ((codeM ⟨j, hlt⟩).view.loc (c : Thread nD τ) ↦[(codeM ⟨j, hlt⟩).view.set]{fullShare} (C : Buf (Elt F) ((codeM ⟨j, hlt⟩).view.loc (c : Thread nD τ)))) by
        rw [codeM_set]; unfold codePts; rw [hj])) $$ HC
    ihave HS := (Entails.of_eq (show stagePts (F := F) c f j
      = ((stageM ⟨j, hlt⟩).view.loc (c : Thread nD τ) ↦[(stageM ⟨j, hlt⟩).view.set]{fullShare} (f : Buf (Elt F) ((stageM ⟨j, hlt⟩).view.loc (c : Thread nD τ)))) by
        rw [stageM_set]; unfold stagePts; rw [hj])) $$ HS
    unfold rBatch W
    iapply (Transfers.wp_dmaBatch (EC (F := F)) 𝒱₀ (c : Thread nD τ) bd (src := codeM ⟨j, hlt⟩) (dst := stageM ⟨j, hlt⟩)
      (D := fun j : Fin 144 => rDel c C f j.val) (j := j) (u := 0) (q := fullShare) (Sd := (stageM ⟨j, hlt⟩).view.set) (fd := f)
      (fs := C) () readN rfl (Finset.Subset.refl _) hlt (Nat.zero_le _) ?_) $$ [HC HS HB]
    · exact rDel_of (F := F) c C f ⟨j, hlt⟩
    · isplitl [HC]; · iexact HC
      isplitl [HS]; · iexact HS
      iexact HB
    iintro HB
    iapply (ih (j + 1) (by omega) k Q)
    isplitl [HCs]; · iexact HCs
    isplitl [HSs]; · iexact HSs
    unfold rBatch W
    isplitl [HB]; · iexact HB
    iexact Hk

/-- The waits for the pieces, `k` done. -/
def rWaits (C : S384x18432.Idx → BitVec 32) (f : S144x392x128.Idx → BitVec 32) (k : ℕ) : sProp 𝕄 :=
  if k < 144 then rBatch c C f 144 (k * readN)
  else iprop(bigSep Finset.univ (fun j : Fin 144 => rDel (F := F) c C f j.val) ∗ semVal ((c : Thread nD τ), .dma cc0_scratch9.sem) 0)

theorem wp_waitRead (C : S384x18432.Idx → BitVec 32) (f : S144x392x128.Idx → BitVec 32) (j : ℕ) (hj : j < 144) (k : TP F α) (Q : α → sProp 𝕄) :
    iprop(rWaits (F := F) c C f j ∗ anyOwes (F := F) c ∗ ((rWaits (F := F) c C f (j + 1) ∗ anyOwes (F := F) c) -∗ W c bd k Q))
      ⊢ W c bd (Prog.bind (Prog.lift (.waitDma2 cc0_scratch9.sem (codeM ⟨j, hj⟩) (stageM ⟨j, hj⟩)
          (View.wordExact_bits rfl) ((View.wordExact_bits rfl).reshape _ _))) fun _ => k) Q := by
  unfold rWaits
  rw [if_pos hj]
  have hN := readN_pos
  by_cases hl : j + 1 < 144
  · rw [if_pos hl]
    unfold rBatch anyOwes W
    iintro ⟨HB, ⟨%V, HV⟩, Hk⟩
    iapply (Transfers.wp_waitBatch (EC (F := F)) 𝒱₀ (c : Thread nD τ) bd (srcw := codeM ⟨j, hj⟩) (dstw := stageM ⟨j, hj⟩) () (N := readN) rfl (u := j * readN)
      (by rw [← Nat.succ_mul, Nat.mul_comm]; exact Nat.mul_lt_mul_of_pos_left hl hN)) $$ [HB HV]
    · isplitl [HB]; · iexact HB
      iexact HV
    iintro ⟨HB, HV⟩
    iapply Hk
    isplitl [HB]
    · iapply (Entails.of_eq (by rw [Nat.succ_mul])) $$ HB
    iexists _; iexact HV
  · rw [if_neg hl]
    unfold rBatch anyOwes W
    iintro ⟨HB, ⟨%V, HV⟩, Hk⟩
    iapply (Transfers.wp_waitBatchLast (EC (F := F)) 𝒱₀ (c : Thread nD τ) bd (srcw := codeM ⟨j, hj⟩) (dstw := stageM ⟨j, hj⟩) () (N := readN) rfl hN (u := j * readN)
      (by rw [← Nat.succ_mul, Nat.mul_comm, show j.succ = 144 by omega])) $$ [HB HV]
    · isplitl [HB]; · iexact HB
      iexact HV
    iintro ⟨HB, HS, HV⟩
    iapply Hk
    isplitl [HB HS]
    · isplitl [HB]; · iexact HB
      iexact HS
    iexists _; iexact HV

theorem wp_waitReads (C : S384x18432.Idx → BitVec 32) (f : S144x392x128.Idx → BitVec 32) (n : ℕ) :
    ∀ (j : ℕ) (h : j + n ≤ 144) (k : TP F α) (Q : α → sProp 𝕄),
      iprop(rWaits (F := F) c C f j ∗ anyOwes (F := F) c ∗ ((rWaits (F := F) c C f (j + n) ∗ anyOwes (F := F) c) -∗ W c bd k Q))
        ⊢ W c bd (waitReads j n h k) Q := by
  induction n with
  | zero =>
    intro j h k Q
    iintro ⟨HB, HO, Hk⟩
    iapply Hk
    isplitl [HB]; · iexact HB
    iexact HO
  | succ n ih =>
    intro j h k Q
    have h1 : j + 1 + n ≤ 144 := by omega
    rw [show j + (n + 1) = j + 1 + n by omega]
    iintro ⟨HB, HO, Hk⟩
    iapply (wp_waitRead c bd C f j (by omega) (waitReads (j + 1) n h1 k) Q)
    isplitl [HB]; · iexact HB
    isplitl [HO]; · iexact HO
    iintro ⟨HB, HO⟩
    iapply (ih (j + 1) h1 k Q)
    isplitl [HB]; · iexact HB
    isplitl [HO]; · iexact HO
    iexact Hk

omit [FloatOps F] in
/-- A buffer is its pieces. -/
theorem pts_pieces {ℓ : Loc nD τ sig} (f : Buf (Elt F) ℓ) {T : Type} [Fintype T] (K : T → Finset (Idx ℓ))
    (h : ∀ t t', t ≠ t' → Disjoint (K t) (K t')) (hc : ∀ i, ∃ t, i ∈ K t) :
    (ℓ ↦{fullShare} f : sProp 𝕄) = bigSep Finset.univ fun t => ℓ ↦[K t]{fullShare} f := by
  classical
  rw [← pointsTo_biUnion Finset.univ K fun t _ t' _ => h t t',
    Finset.eq_univ_iff_forall.mpr fun i => Finset.mem_biUnion.mpr ((hc i).imp fun t ht => ⟨Finset.mem_univ t, ht⟩)]

omit [FloatOps F] in
/-- A buffer is its pieces and the rest. -/
theorem pts_pieces_rest {ℓ : Loc nD τ sig} (f : Buf (Elt F) ℓ) {T : Type} [Fintype T] (K : T → Finset (Idx ℓ)) (P : Finset (Idx ℓ))
    (h : ∀ t t', t ≠ t' → Disjoint (K t) (K t')) (hP : ∀ i, i ∈ P ↔ ∀ t, i ∉ K t) :
    (ℓ ↦{fullShare} f : sProp 𝕄) = iprop(bigSep Finset.univ (fun t => ℓ ↦[K t]{fullShare} f) ∗ ℓ ↦[P]{fullShare} f) := by
  classical
  have d : Disjoint (Finset.univ.biUnion K) P := by
    rw [Finset.disjoint_left]
    intro i hi hi'
    obtain ⟨t, _, ht⟩ := Finset.mem_biUnion.mp hi
    exact (hP i).mp hi' t ht
  have e : Finset.univ.biUnion K ∪ P = Finset.univ := by
    rw [Finset.eq_univ_iff_forall]
    intro i
    rw [Finset.mem_union, Finset.mem_biUnion]
    by_cases hi : ∃ t, i ∈ K t
    · exact Or.inl (hi.imp fun t ht => ⟨Finset.mem_univ t, ht⟩)
    · exact Or.inr ((hP i).mpr (not_exists.mp hi))
  rw [← pointsTo_biUnion Finset.univ K fun t _ t' _ => h t t', ← e]
  exact BI.Entails.antisymm (pointsTo_union d).1 (pointsTo_union d).2

/-- All the packed rows, as they come. -/
def wPts (C : S384x18432.Idx → BitVec 32) : sProp 𝕄 :=
  ((c : Thread nD τ).loc main_v2) ↦{fullShare} (C : Buf (Elt F) ((c : Thread nD τ).loc main_v2))

omit [FloatOps F] in
theorem fin_range (n : ℕ) (Φ : ℕ → sProp 𝕄) : bigSep Finset.univ (fun j : Fin n => Φ j.val) = bigSep (Finset.range n) Φ := by
  rw [← Nat.Iio_eq_range, ← Fin.map_valEmbedding_univ, BI.bigSep_map]; rfl

omit [FloatOps F] in
theorem wPts_split (C : S384x18432.Idx → BitVec 32) : wPts (F := F) c C = bigSep (Finset.range 144) (codePts (F := F) c C) := by
  rw [← fin_range]
  have hc : ∀ i : S384x18432.Idx, ∃ t, i ∈ codeSet t := fun i =>
    ⟨⟨(wX i).val / 128, by have := (wX i).isLt; omega⟩, mem_codeSet.mpr rfl⟩
  unfold wPts codePts
  refine (pts_pieces (ℓ := (c : Thread nD τ).loc main_v2) C codeSet (fun t t' hne => ?_) hc).trans (BI.bigSep_congr fun j _ => ?_)
  · rw [Finset.disjoint_left]
    intro i h h'
    rw [mem_codeSet] at h h'
    exact hne (Fin.ext (h.symm.trans h'))
  · rw [show jN j.val = j from jN_val j.isLt]

/-- The elements of the staging buffer no piece covers. -/
def padSet : Finset S144x392x128.Idx := Finset.univ.filter fun e => ¬ (sR e).val < 384

def padPts (f : S144x392x128.Idx → BitVec 32) : sProp 𝕄 :=
  ((c : Thread nD τ).loc cc0_scratch0) ↦[padSet]{fullShare} (f : Buf (Elt F) ((c : Thread nD τ).loc cc0_scratch0))

omit [FloatOps F] in
theorem cPts_split (f : S144x392x128.Idx → BitVec 32) : cPts (F := F) c f
    = iprop(bigSep (Finset.range 144) (stagePts (F := F) c f) ∗ padPts (F := F) c f) := by
  rw [← fin_range]
  have hP : ∀ e : S144x392x128.Idx, e ∈ padSet ↔ ∀ t, e ∉ stageSet t := fun e =>
    ⟨fun h t ht => (Finset.mem_filter.mp h).2 (mem_stageSet.mp ht).2,
      fun h => Finset.mem_filter.mpr ⟨Finset.mem_univ _, fun hr => h (sJ e) (mem_stageSet.mpr ⟨rfl, hr⟩)⟩⟩
  unfold cPts padPts
  refine (pts_pieces_rest (ℓ := (c : Thread nD τ).loc cc0_scratch0) f stageSet padSet (fun t t' hne => ?_) hP).trans ?_
  · rw [Finset.disjoint_left]
    intro i h h'
    rw [mem_stageSet] at h h'
    exact hne (h.1.symm.trans h'.1)
  · refine congrArg (fun X : sProp 𝕄 => iprop(X ∗ ((c : Thread nD τ).loc cc0_scratch0) ↦[padSet]{fullShare} (f : Buf (Elt F) ((c : Thread nD τ).loc cc0_scratch0))))
      (BI.bigSep_congr fun j _ => ?_)
    unfold stagePts; rw [show jN j.val = j from jN_val j.isLt]

theorem rDone (C : S384x18432.Idx → BitVec 32) (f : S144x392x128.Idx → BitVec 32) :
    iprop(rWaits (F := F) c C f 144 ∗ padPts (F := F) c f)
      ⊢ iprop(cPts (F := F) c (staged C f) ∗ wPts (F := F) c C ∗ semVal ((c : Thread nD τ), .dma cc0_scratch9.sem) 0) := by
  unfold rWaits
  rw [if_neg (by omega), fin_range 144 (rDel (F := F) c C f), cPts_split, wPts_split,
    show padPts (F := F) c (staged C f) = padPts (F := F) c f from pointsTo_congr fun e he => if_neg (Finset.mem_filter.mp he).2]
  unfold rDel
  iintro ⟨⟨H, HS⟩, HP⟩
  ihave H := (Entails.of_eq (show bigSep (Finset.range 144) (fun j => iprop(stagePts (F := F) c (staged C f) j ∗ codePts (F := F) c C j))
    = iprop(bigSep (Finset.range 144) (stagePts (F := F) c (staged C f)) ∗ bigSep (Finset.range 144) (codePts (F := F) c C)) from
      BI.bigSep_sep _ (stagePts (F := F) c (staged C f)) (codePts (F := F) c C))) $$ H
  icases H with ⟨HA, HB⟩
  isplitl [HA HP]
  · isplitl [HA]; · iexact HA
    iexact HP
  isplitl [HB]; · iexact HB
  iexact HS

end Cert.Proof.SegK
-- ==== Proof.SegK.Tables.lean ====
/-
  The copies of the three tables (`wp_startTables`, `wp_waitTables`) and the buffer of zeros (`wp_zeroBuf`).
-/
module

public import proofs.«01_k».proof.Proof.SegK.Reads

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-! ## The tables -/

/-- The table as it comes, and what its copy delivers. -/
def srcRows (V : S6x256.Idx → BitVec 32) : sProp 𝕄 := ((c : Thread nD τ).loc main_arg3) ↦{fullShare} (V : Buf (Elt F) ((c : Thread nD τ).loc main_arg3))

def anyRows : sProp 𝕄 := iprop(∃ f : Buf (Elt F) ((c : Thread nD τ).loc cc0_scratch5), ((c : Thread nD τ).loc cc0_scratch5) ↦{fullShare} f)

def gotRows (V : S6x256.Idx → BitVec 32) : sProp 𝕄 := iprop(rwPts (F := F) c V ∗ srcRows (F := F) c V)

/-- What its copy counts for. -/
abbrev amtRows : ℕ := (Memref.whole cc0_scratch5 : Memref sig .tc .smem S6x256 _).view.dmaCredit

theorem amtRows_pos : 0 < amtRows := by decide

def flyRows (V : S6x256.Idx → BitVec 32) : sProp 𝕄 :=
  Transfers.Flight (EC (F := F)) (c : Thread nD τ) (.dma cc0_scratch10.sem) () amtRows (gotRows (F := F) c V)

theorem wp_startRows (V : S6x256.Idx → BitVec 32) (k : TP F α) (Q : α → sProp 𝕄) :
    iprop(srcRows (F := F) c V ∗ anyRows (F := F) c ∗ semVal ((c : Thread nD τ), .dma cc0_scratch10.sem) 0 ∗ (flyRows (F := F) c V -∗ W c bd k Q))
      ⊢ W c bd (Prog.bind (Prog.lift (.enqueueDma (Memref.whole main_arg3) (.here (Memref.whole cc0_scratch5)) (.dma cc0_scratch10.sem)
          (Memref.isWhole_whole _).wordExact (Memref.isWhole_whole _).wordExact ⟨Or.inl rfl, trivial⟩)) fun _ => k) Q := by
  have es : (Memref.whole main_arg3 : Memref sig .tc .hbm S6x256 _).view.set = Finset.univ := View.set_whole _
  have ed : (Memref.whole cc0_scratch5 : Memref sig .tc .smem S6x256 _).view.set = Finset.univ := View.set_whole _
  unfold srcRows anyRows flyRows W
  iintro ⟨HS, ⟨%f, HD⟩, HV, Hk⟩
  ihave HS := (Entails.of_eq (show (((c : Thread nD τ).loc main_arg3) ↦{fullShare} (V : Buf (Elt F) ((c : Thread nD τ).loc main_arg3)) : sProp 𝕄)
    = (((Memref.whole main_arg3 : Memref sig .tc .hbm S6x256 _).view.loc (c : Thread nD τ))
        ↦[(Memref.whole main_arg3 : Memref sig .tc .hbm S6x256 _).view.set]{fullShare} (V : Buf (Elt F) ((c : Thread nD τ).loc main_arg3))) by rw [es])) $$ HS
  iapply (Transfers.wp_dmaLocal (EC (F := F)) 𝒱₀ (c : Thread nD τ) bd (src := Memref.whole main_arg3) (dst := Memref.whole cc0_scratch5)
    () amtRows rfl amtRows_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotRows srcRows rwPts
  rw [es]
  refine BI.sep_mono (Entails.of_eq (pointsTo_congr fun i _ => ?_)) (Entails.refl _)
  exact congrFun (View.write_whole_univ (Val := Elt F) cc0_scratch5 f V) i

theorem wp_waitRows (V : S6x256.Idx → BitVec 32) (k : TP F α) (Q : α → sProp 𝕄) :
    iprop(flyRows (F := F) c V ∗ anyOwes (F := F) c
        ∗ ((rwPts (F := F) c V ∗ srcRows (F := F) c V ∗ semVal ((c : Thread nD τ), .dma cc0_scratch10.sem) 0 ∗ anyOwes (F := F) c) -∗ W c bd k Q))
      ⊢ W c bd (Prog.bind (Prog.lift (.waitDma2 cc0_scratch10.sem (Memref.whole main_arg3) (Memref.whole cc0_scratch5)
          (Memref.isWhole_whole _).wordExact (Memref.isWhole_whole _).wordExact)) fun _ => k) Q := by
  unfold flyRows anyOwes W
  iintro ⟨HF, ⟨%V', HV⟩, Hk⟩
  iapply (Transfers.wp_waitLocal (EC (F := F)) 𝒱₀ (c : Thread nD τ) bd (srcw := Memref.whole main_arg3) (dstw := Memref.whole cc0_scratch5) () rfl) $$ [HF HV]
  · isplitl [HF]; · iexact HF
    iexact HV
  unfold gotRows
  iintro ⟨⟨HA, HB⟩, HV, HO⟩
  iapply Hk
  isplitl [HA]; · iexact HA
  isplitl [HB]; · iexact HB
  isplitl [HV]; · iexact HV
  iexists _; iexact HO

/-- The table as it comes, and what its copy delivers. -/
def srcIds (I : S6x256.Idx → BitVec 32) : sProp 𝕄 := ((c : Thread nD τ).loc main_arg2) ↦{fullShare} (I : Buf (Elt F) ((c : Thread nD τ).loc main_arg2))

def anyIds : sProp 𝕄 := iprop(∃ f : Buf (Elt F) ((c : Thread nD τ).loc cc0_scratch4), ((c : Thread nD τ).loc cc0_scratch4) ↦{fullShare} f)

def gotIds (I : S6x256.Idx → BitVec 32) : sProp 𝕄 := iprop(idPts (F := F) c I ∗ srcIds (F := F) c I)

/-- What its copy counts for. -/
abbrev amtIds : ℕ := (Memref.whole cc0_scratch4 : Memref sig .tc .smem S6x256 _).view.dmaCredit

theorem amtIds_pos : 0 < amtIds := by decide

def flyIds (I : S6x256.Idx → BitVec 32) : sProp 𝕄 :=
  Transfers.Flight (EC (F := F)) (c : Thread nD τ) (.dma cc0_scratch11.sem) () amtIds (gotIds (F := F) c I)

theorem wp_startIds (I : S6x256.Idx → BitVec 32) (k : TP F α) (Q : α → sProp 𝕄) :
    iprop(srcIds (F := F) c I ∗ anyIds (F := F) c ∗ semVal ((c : Thread nD τ), .dma cc0_scratch11.sem) 0 ∗ (flyIds (F := F) c I -∗ W c bd k Q))
      ⊢ W c bd (Prog.bind (Prog.lift (.enqueueDma (Memref.whole main_arg2) (.here (Memref.whole cc0_scratch4)) (.dma cc0_scratch11.sem)
          (Memref.isWhole_whole _).wordExact (Memref.isWhole_whole _).wordExact ⟨Or.inl rfl, trivial⟩)) fun _ => k) Q := by
  have es : (Memref.whole main_arg2 : Memref sig .tc .hbm S6x256 _).view.set = Finset.univ := View.set_whole _
  have ed : (Memref.whole cc0_scratch4 : Memref sig .tc .smem S6x256 _).view.set = Finset.univ := View.set_whole _
  unfold srcIds anyIds flyIds W
  iintro ⟨HS, ⟨%f, HD⟩, HV, Hk⟩
  ihave HS := (Entails.of_eq (show (((c : Thread nD τ).loc main_arg2) ↦{fullShare} (I : Buf (Elt F) ((c : Thread nD τ).loc main_arg2)) : sProp 𝕄)
    = (((Memref.whole main_arg2 : Memref sig .tc .hbm S6x256 _).view.loc (c : Thread nD τ))
        ↦[(Memref.whole main_arg2 : Memref sig .tc .hbm S6x256 _).view.set]{fullShare} (I : Buf (Elt F) ((c : Thread nD τ).loc main_arg2))) by rw [es])) $$ HS
  iapply (Transfers.wp_dmaLocal (EC (F := F)) 𝒱₀ (c : Thread nD τ) bd (src := Memref.whole main_arg2) (dst := Memref.whole cc0_scratch4)
    () amtIds rfl amtIds_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotIds srcIds idPts
  rw [es]
  refine BI.sep_mono (Entails.of_eq (pointsTo_congr fun i _ => ?_)) (Entails.refl _)
  exact congrFun (View.write_whole_univ (Val := Elt F) cc0_scratch4 f I) i

theorem wp_waitIds (I : S6x256.Idx → BitVec 32) (k : TP F α) (Q : α → sProp 𝕄) :
    iprop(flyIds (F := F) c I ∗ anyOwes (F := F) c
        ∗ ((idPts (F := F) c I ∗ srcIds (F := F) c I ∗ semVal ((c : Thread nD τ), .dma cc0_scratch11.sem) 0 ∗ anyOwes (F := F) c) -∗ W c bd k Q))
      ⊢ W c bd (Prog.bind (Prog.lift (.waitDma2 cc0_scratch11.sem (Memref.whole main_arg2) (Memref.whole cc0_scratch4)
          (Memref.isWhole_whole _).wordExact (Memref.isWhole_whole _).wordExact)) fun _ => k) Q := by
  unfold flyIds anyOwes W
  iintro ⟨HF, ⟨%V', HV⟩, Hk⟩
  iapply (Transfers.wp_waitLocal (EC (F := F)) 𝒱₀ (c : Thread nD τ) bd (srcw := Memref.whole main_arg2) (dstw := Memref.whole cc0_scratch4) () rfl) $$ [HF HV]
  · isplitl [HF]; · iexact HF
    iexact HV
  unfold gotIds
  iintro ⟨⟨HA, HB⟩, HV, HO⟩
  iapply Hk
  isplitl [HA]; · iexact HA
  isplitl [HB]; · iexact HB
  isplitl [HV]; · iexact HV
  iexists _; iexact HO

/-- The table as it comes, and what its copy delivers. -/
def srcScales (S : S6x256.Idx → F .f32) : sProp 𝕄 := ((c : Thread nD τ).loc main_arg1) ↦{fullShare} (S : Buf (Elt F) ((c : Thread nD τ).loc main_arg1))

def anyScales : sProp 𝕄 := iprop(∃ f : Buf (Elt F) ((c : Thread nD τ).loc cc0_scratch3), ((c : Thread nD τ).loc cc0_scratch3) ↦{fullShare} f)

def gotScales (S : S6x256.Idx → F .f32) : sProp 𝕄 := iprop(scPts (F := F) c S ∗ srcScales (F := F) c S)

/-- What its copy counts for. -/
abbrev amtScales : ℕ := (Memref.whole cc0_scratch3 : Memref sig .tc .smem S6x256 _).view.dmaCredit

theorem amtScales_pos : 0 < amtScales := by decide

def flyScales (S : S6x256.Idx → F .f32) : sProp 𝕄 :=
  Transfers.Flight (EC (F := F)) (c : Thread nD τ) (.dma cc0_scratch12.sem) () amtScales (gotScales (F := F) c S)

theorem wp_startScales (S : S6x256.Idx → F .f32) (k : TP F α) (Q : α → sProp 𝕄) :
    iprop(srcScales (F := F) c S ∗ anyScales (F := F) c ∗ semVal ((c : Thread nD τ), .dma cc0_scratch12.sem) 0 ∗ (flyScales (F := F) c S -∗ W c bd k Q))
      ⊢ W c bd (Prog.bind (Prog.lift (.enqueueDma (Memref.whole main_arg1) (.here (Memref.whole cc0_scratch3)) (.dma cc0_scratch12.sem)
          (Memref.isWhole_whole _).wordExact (Memref.isWhole_whole _).wordExact ⟨Or.inl rfl, trivial⟩)) fun _ => k) Q := by
  have es : (Memref.whole main_arg1 : Memref sig .tc .hbm S6x256 _).view.set = Finset.univ := View.set_whole _
  have ed : (Memref.whole cc0_scratch3 : Memref sig .tc .smem S6x256 _).view.set = Finset.univ := View.set_whole _
  unfold srcScales anyScales flyScales W
  iintro ⟨HS, ⟨%f, HD⟩, HV, Hk⟩
  ihave HS := (Entails.of_eq (show (((c : Thread nD τ).loc main_arg1) ↦{fullShare} (S : Buf (Elt F) ((c : Thread nD τ).loc main_arg1)) : sProp 𝕄)
    = (((Memref.whole main_arg1 : Memref sig .tc .hbm S6x256 _).view.loc (c : Thread nD τ))
        ↦[(Memref.whole main_arg1 : Memref sig .tc .hbm S6x256 _).view.set]{fullShare} (S : Buf (Elt F) ((c : Thread nD τ).loc main_arg1))) by rw [es])) $$ HS
  iapply (Transfers.wp_dmaLocal (EC (F := F)) 𝒱₀ (c : Thread nD τ) bd (src := Memref.whole main_arg1) (dst := Memref.whole cc0_scratch3)
    () amtScales rfl amtScales_pos (Sd := Finset.univ) (Finset.subset_univ _)) $$ [HS HD HV]
  · isplitl [HS]; · iexact HS
    isplitl [HD]; · iexact HD
    iexact HV
  iintro HF
  iapply Hk
  refine Transfers.Flight_mono _ _ ?_
  unfold gotScales srcScales scPts
  rw [es]
  refine BI.sep_mono (Entails.of_eq (pointsTo_congr fun i _ => ?_)) (Entails.refl _)
  exact congrFun (View.write_whole_univ (Val := Elt F) cc0_scratch3 f S) i

theorem wp_waitScales (S : S6x256.Idx → F .f32) (k : TP F α) (Q : α → sProp 𝕄) :
    iprop(flyScales (F := F) c S ∗ anyOwes (F := F) c
        ∗ ((scPts (F := F) c S ∗ srcScales (F := F) c S ∗ semVal ((c : Thread nD τ), .dma cc0_scratch12.sem) 0 ∗ anyOwes (F := F) c) -∗ W c bd k Q))
      ⊢ W c bd (Prog.bind (Prog.lift (.waitDma2 cc0_scratch12.sem (Memref.whole main_arg1) (Memref.whole cc0_scratch3)
          (Memref.isWhole_whole _).wordExact (Memref.isWhole_whole _).wordExact)) fun _ => k) Q := by
  unfold flyScales anyOwes W
  iintro ⟨HF, ⟨%V', HV⟩, Hk⟩
  iapply (Transfers.wp_waitLocal (EC (F := F)) 𝒱₀ (c : Thread nD τ) bd (srcw := Memref.whole main_arg1) (dstw := Memref.whole cc0_scratch3) () rfl) $$ [HF HV]
  · isplitl [HF]; · iexact HF
    iexact HV
  unfold gotScales
  iintro ⟨⟨HA, HB⟩, HV, HO⟩
  iapply Hk
  isplitl [HA]; · iexact HA
  isplitl [HB]; · iexact HB
  isplitl [HV]; · iexact HV
  iexists _; iexact HO

/-! ## The buffer of zeros -/

def anyZeros : sProp 𝕄 := iprop(∃ f : Buf (Elt F) ((c : Thread nD τ).loc cc0_scratch2), ((c : Thread nD τ).loc cc0_scratch2) ↦{fullShare} f)

theorem wp_zeroBuf (k : TP F α) (Q : α → sProp 𝕄) :
    iprop(anyZeros (F := F) c ∗ (zPts (F := F) c fullShare -∗ W c bd k Q)) ⊢ W c bd (zeroBuf k) Q := by
  unfold zeroBuf anyZeros W
  iintro ⟨⟨%f, H⟩, Hk⟩
  iapply (wp_load 𝒱₀ (c : Thread nD τ) bd Set.univ (m := Memref.whole cc0_scratch2) (Finset.subset_univ _)) $$ H; iintro H
  iapply (wp_store 𝒱₀ (c : Thread nD τ) bd Set.univ (m := Memref.whole cc0_scratch2)
    (r := Rect.unit (s := S144x8x128) ![0, 0, 0] S144x8x128.size inb_S144x8x128_S144x8x128_0_0_0) (Finset.subset_univ _)) $$ H; iintro H
  iapply Hk
  unfold zPts
  iapply (Entails.of_eq (pointsTo_congr fun i _ => ?_)) $$ H
  have e : i = ((Memref.whole cc0_scratch2).access (Rect.unit (s := S144x8x128) ![0, 0, 0] S144x8x128.size inb_S144x8x128_S144x8x128_0_0_0)).emb i := by
    funext a
    apply Fin.ext
    refine Eq.trans ?_ (Rect.emb_apply _ _ _).symm
    rcases a with ⟨_ | _ | _ | n, hn⟩
    · show (i 0).val = 0 + 1 * (i 0).val; omega
    · show (i 1).val = 0 + 1 * (i 1).val; omega
    · show (i 2).val = 0 + 1 * (i 2).val; omega
    · exact absurd hn (show ¬ n + 3 < 3 by omega)
  conv_lhs => rw [e]
  rw [View.write_emb_of_mem (h := Finset.mem_univ _)]
  rfl

end Cert.Proof.SegK
-- ==== Proof.SegK.Thread.lean ====
/-
  The tables: they are cleared (`wp_clearHeads`, `wp_clearChains`) and threaded over the tokens, last to first
  (`wp_thread`).
-/
module

public import proofs.«01_k».proof.Proof.SegK.Walk

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

variable (c : Dev nD) (bd : Option ℕ)

/-! ## Scalar stores -/

theorem unit1_emb {N : ℕ} (o : Fin 1 → ℕ) (ho : ∀ a, o a + S1.size a ≤ (⟨1, ![N]⟩ : Shape).size a) (x : S1.Idx) :
    ((Rect.unit (s := ⟨1, ![N]⟩) o S1.size ho).emb x 0).val = o 0 := by
  refine (Rect.emb_apply _ _ _).trans ?_
  have := first_zero x
  show o 0 + 1 * (x 0).val = o 0
  omega

theorem upd_of_eq (h : ℕ → BitVec 32) (a v : BitVec 32) (n k : ℕ) (hk : n = k → v = a) (hk' : n ≠ k → v = h k) : v = Function.update h n a k := by
  by_cases e : n = k
  · subst e; rw [Function.update_self]; exact hk rfl
  · rw [Function.update_of_ne (fun e' => e e'.symm)]; exact hk' e

theorem wp_pokeHead (h : ℕ → BitVec 32) (o : Fin 1 → ℕ) (ho : ∀ a, o a + S1.size a ≤ S1537.size a) (a : BitVec 32) (k : TP F α) (Q : α → sProp 𝕄) :
    iprop(hdPts (F := F) c h ∗ (hdPts (F := F) c (Function.update h (o 0) a) -∗ W c bd k Q))
      ⊢ W c bd (poke (Memref.whole cc0_scratch6) (Rect.unit (s := S1537) o S1.size ho) numel1_S1 a k) Q := by
  unfold hdPts W
  iintro ⟨H, Hk⟩
  iapply (wp_store 𝒱₀ (c : Thread nD τ) bd Set.univ (m := Memref.whole cc0_scratch6) (r := Rect.unit (s := S1537) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch6).access (Rect.unit (s := S1537) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

theorem wp_pokeChain (h : ℕ → BitVec 32) (o : Fin 1 → ℕ) (ho : ∀ a, o a + S1.size a ≤ S193.size a) (a : BitVec 32) (k : TP F α) (Q : α → sProp 𝕄) :
    iprop(xhPts (F := F) c h ∗ (xhPts (F := F) c (Function.update h (o 0) a) -∗ W c bd k Q))
      ⊢ W c bd (poke (Memref.whole cc0_scratch7) (Rect.unit (s := S193) o S1.size ho) numel1_S1 a k) Q := by
  unfold xhPts W
  iintro ⟨H, Hk⟩
  iapply (wp_store 𝒱₀ (c : Thread nD τ) bd Set.univ (m := Memref.whole cc0_scratch7) (r := Rect.unit (s := S193) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch7).access (Rect.unit (s := S193) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

theorem wp_pokeNext (h : ℕ → BitVec 32) (o : Fin 1 → ℕ) (ho : ∀ a, o a + S1.size a ≤ S1537.size a) (a : BitVec 32) (k : TP F α) (Q : α → sProp 𝕄) :
    iprop(nxPts (F := F) c h ∗ (nxPts (F := F) c (Function.update h (o 0) a) -∗ W c bd k Q))
      ⊢ W c bd (poke (Memref.whole cc0_scratch8) (Rect.unit (s := S1537) o S1.size ho) numel1_S1 a k) Q := by
  unfold nxPts W
  iintro ⟨H, Hk⟩
  iapply (wp_store 𝒱₀ (c : Thread nD τ) bd Set.univ (m := Memref.whole cc0_scratch8) (r := Rect.unit (s := S1537) o S1.size ho) (Finset.subset_univ _)) $$ H; iintro H
  iapply Hk
  refine Entails.of_eq (pointsTo_congr fun i _ => ?_)
  refine upd_of_eq h a _ (o 0) (i 0).val (fun e => ?_) fun e => ?_
  · have hi : i = ((Memref.whole cc0_scratch8).access (Rect.unit (s := S1537) o S1.size ho)).emb (Shape.Idx.first (numel1_S1.symm ▸ Nat.one_pos)) := by
      funext x; apply Fin.ext
      rcases x with ⟨_ | n, hn⟩
      · exact e.symm.trans (unit1_emb o ho _).symm
      · exact absurd hn (Nat.not_lt.mpr (Nat.le_add_left 1 n))
    conv_lhs => rw [hi]
    rw [View.write_emb_of_mem (h := Finset.mem_univ _)]
    rfl
  · rw [View.write_of_not_mem]
    intro hm
    obtain ⟨x, _, rfl⟩ := Finset.mem_map.mp hm
    exact e (unit1_emb o ho x).symm

/-! ## The tables cleared -/

theorem iv_eq (k : ℕ) : Scf.iv 0#32 1#32 k = BitVec.ofNat 32 k := by simp [Scf.iv]

theorem t1_trips : k0_t1_loop.trips = 1537 := by decide
theorem t2_trips : k0_t2_loop.trips = 193 := by decide
theorem t3_trips : k0_t3_loop.trips = 1536 := by decide

theorem off1_zero (i : Fin k0_t1_loop.trips) : k0_off1 i 0 = i.val := by
  have := lt_of_lt_of_eq i.isLt t1_trips
  show (Scf.iv 0#32 1#32 i.val).toNat = _
  rw [iv_eq, toNat_ofNat (by omega)]
theorem off2_zero (i : Fin k0_t2_loop.trips) : k0_off2 i 0 = i.val := by
  have := lt_of_lt_of_eq i.isLt t2_trips
  show (Scf.iv 0#32 1#32 i.val).toNat = _
  rw [iv_eq, toNat_ofNat (by omega)]

theorem wp_clearHeads (h : ℕ → BitVec 32) (k : TP F α) (Q : α → sProp 𝕄) :
    iprop(hdPts (F := F) c h ∗ (∀ h, ⌜∀ s < 1537, h s = none32⌝ -∗ hdPts (F := F) c h -∗ W c bd k Q))
      ⊢ W c bd (Prog.bind clearHeads fun _ => k) Q := by
  have hb : ∀ (i : Fin k0_t1_loop.trips) (u : PUnit), iprop(∃ h, ⌜∀ s < i.val, h s = none32⌝ ∗ hdPts (F := F) c h)
      ⊢ W c bd (peek (Memref.whole cc0_scratch6) (Rect.unit (s := S1537) (k0_off1 i) S1.size (k0_off1_inb i)) numel1_S1 fun _ =>
          poke (Memref.whole cc0_scratch6) (Rect.unit (s := S1537) (k0_off1 i) S1.size (k0_off1_inb i)) numel1_S1 4294967295#32 (.ret PUnit.unit))
        (fun _ => iprop(∃ h, ⌜∀ s < i.val + 1, h s = none32⌝ ∗ hdPts (F := F) c h)) := by
    intro i _
    iintro ⟨%h, %hh, H⟩
    iapply (wp_getHead c bd h (k0_off1 i) (k0_off1_inb i)); isplitl [H]; · iexact H
    iintro H
    iapply (wp_pokeHead c bd h (k0_off1 i) (k0_off1_inb i)); isplitl [H]; · iexact H
    iintro H
    unfold W
    rw [wp_ret]; imodintro
    iexists _
    isplitr; swap; · iexact H
    ipureintro
    intro s hs
    rw [off1_zero]
    by_cases e : s = i.val
    · rw [e, Function.update_self]
    · rw [Function.update_of_ne e]; exact hh s (by omega)
  unfold clearHeads
  iintro ⟨H, Hk⟩
  iapply (Scf.wp_for_bind frame (wpE (defs₀ (F := F)) 𝒱₀ (c : Thread nD τ) bd) Set.univ _ _ _ k0_t1_ok ⟨⟩ _
    (fun n _ => iprop(∃ h, ⌜∀ s < n, h s = none32⌝ ∗ hdPts (F := F) c h)) hb) $$ [H]
  · iexists h
    isplitr; · ipureintro; intro s hs; omega
    iexact H
  iintro %u ⟨%h, %hh, H⟩
  iapply Hk $$ [] H
  ipureintro
  intro s hs
  exact hh s (by rw [show Scf.trips k0_t1_loop.lb k0_t1_loop.ub k0_t1_loop.st = 1537 from t1_trips]; exact hs)

theorem wp_clearChains (h : ℕ → BitVec 32) (k : TP F α) (Q : α → sProp 𝕄) :
    iprop(xhPts (F := F) c h ∗ (∀ h, ⌜∀ s < 193, h s = none32⌝ -∗ xhPts (F := F) c h -∗ W c bd k Q))
      ⊢ W c bd (Prog.bind clearChains fun _ => k) Q := by
  have hb : ∀ (i : Fin k0_t2_loop.trips) (u : PUnit), iprop(∃ h, ⌜∀ s < i.val, h s = none32⌝ ∗ xhPts (F := F) c h)
      ⊢ W c bd (peek (Memref.whole cc0_scratch7) (Rect.unit (s := S193) (k0_off2 i) S1.size (k0_off2_inb i)) numel1_S1 fun _ =>
          poke (Memref.whole cc0_scratch7) (Rect.unit (s := S193) (k0_off2 i) S1.size (k0_off2_inb i)) numel1_S1 4294967295#32 (.ret PUnit.unit))
        (fun _ => iprop(∃ h, ⌜∀ s < i.val + 1, h s = none32⌝ ∗ xhPts (F := F) c h)) := by
    intro i _
    iintro ⟨%h, %hh, H⟩
    iapply (wp_getChain c bd h (k0_off2 i) (k0_off2_inb i)); isplitl [H]; · iexact H
    iintro H
    iapply (wp_pokeChain c bd h (k0_off2 i) (k0_off2_inb i)); isplitl [H]; · iexact H
    iintro H
    unfold W
    rw [wp_ret]; imodintro
    iexists _
    isplitr; swap; · iexact H
    ipureintro
    intro s hs
    rw [off2_zero]
    by_cases e : s = i.val
    · rw [e, Function.update_self]
    · rw [Function.update_of_ne e]; exact hh s (by omega)
  unfold clearChains
  iintro ⟨H, Hk⟩
  iapply (Scf.wp_for_bind frame (wpE (defs₀ (F := F)) 𝒱₀ (c : Thread nD τ) bd) Set.univ _ _ _ k0_t2_ok ⟨⟩ _
    (fun n _ => iprop(∃ h, ⌜∀ s < n, h s = none32⌝ ∗ xhPts (F := F) c h)) hb) $$ [H]
  · iexists h
    isplitr; · ipureintro; intro s hs; omega
    iexact H
  iintro %u ⟨%h, %hh, H⟩
  iapply Hk $$ [] H
  ipureintro
  intro s hs
  exact hh s (by rw [show Scf.trips k0_t2_loop.lb k0_t2_loop.ub k0_t2_loop.st = 193 from t2_trips]; exact hs)

/-! ## The thread over the tokens -/

theorem off3_all : ∀ k : Fin 1536, k0_off3 ⟨k.val, by rw [t3_trips]; exact k.isLt⟩ 0 = (1535 - k.val) / 256
    ∧ k0_off3 ⟨k.val, by rw [t3_trips]; exact k.isLt⟩ 1 = (1535 - k.val) % 256 := by
  decide +kernel

theorem off3_eq (i : Fin k0_t3_loop.trips) : k0_off3 i 0 = (1535 - i.val) / 256 ∧ k0_off3 i 1 = (1535 - i.val) % 256 :=
  off3_all ⟨i.val, lt_of_lt_of_eq i.isLt t3_trips⟩

theorem off3_tix (i : Fin k0_t3_loop.trips) (h : ∀ a, (k0_off3 i) a + S1x1.size a ≤ S6x256.size a) (x : S1x1.Idx) :
    (Rect.unit (s := S6x256) (k0_off3 i) S1x1.size h).emb x = tix (1535 - i.val) := by
  obtain ⟨e0, e1⟩ := off3_eq i
  have x0 : (x 0).val = 0 := by have := (x 0).isLt; have e : S1x1.size 0 = 1 := rfl; omega
  have x1 : (x 1).val = 0 := by have := (x 1).isLt; have e : S1x1.size 1 = 1 := rfl; omega
  funext a
  apply Fin.ext
  rw [Rect.emb_apply]
  rcases a with ⟨_ | _ | n, hn⟩
  · show k0_off3 i 0 + 1 * (x 0).val = (1535 - i.val) / 256 % 6
    omega
  · show k0_off3 i 1 + 1 * (x 1).val = (1535 - i.val) % 256
    omega
  · exact absurd hn (by simp)

theorem wp_peekRow (V : S6x256.Idx → BitVec 32) (i : Fin k0_t3_loop.trips)
    (h : ∀ a, (k0_off3 i) a + S1x1.size a ≤ S6x256.size a) (k : BitVec 32 → TP F α) (Q : α → sProp 𝕄) :
    iprop(rwPts (F := F) c V ∗ (rwPts (F := F) c V -∗ W c bd (k (V (tix (1535 - i.val)))) Q))
      ⊢ W c bd (peek (Memref.whole cc0_scratch5) (Rect.unit (s := S6x256) (k0_off3 i) S1x1.size h) numel1_S1x1 k) Q := by
  unfold rwPts W
  iintro ⟨H, Hk⟩
  iapply (wp_smemLoadElt 𝒱₀ (c : Thread nD τ) bd Set.univ (m := Memref.whole cc0_scratch5) (r := Rect.unit (s := S6x256) (k0_off3 i) S1x1.size h) (Finset.subset_univ _)) $$ H; iintro H
  have e : (((Memref.whole cc0_scratch5).access (Rect.unit (s := S6x256) (k0_off3 i) S1x1.size h)).read (Elt F) V
      (Shape.Idx.first (numel1_S1x1.symm ▸ Nat.one_pos)) : BitVec 32) = V (tix (1535 - i.val)) := congrArg V (off3_tix i h _)
  rw [e]
  iapply Hk; iexact H

theorem wp_peekId (V : S6x256.Idx → BitVec 32) (i : Fin k0_t3_loop.trips)
    (h : ∀ a, (k0_off3 i) a + S1x1.size a ≤ S6x256.size a) (k : BitVec 32 → TP F α) (Q : α → sProp 𝕄) :
    iprop(idPts (F := F) c V ∗ (idPts (F := F) c V -∗ W c bd (k (V (tix (1535 - i.val)))) Q))
      ⊢ W c bd (peek (Memref.whole cc0_scratch4) (Rect.unit (s := S6x256) (k0_off3 i) S1x1.size h) numel1_S1x1 k) Q := by
  unfold idPts W
  iintro ⟨H, Hk⟩
  iapply (wp_smemLoadElt 𝒱₀ (c : Thread nD τ) bd Set.univ (m := Memref.whole cc0_scratch4) (r := Rect.unit (s := S6x256) (k0_off3 i) S1x1.size h) (Finset.subset_univ _)) $$ H; iintro H
  have e : (((Memref.whole cc0_scratch4).access (Rect.unit (s := S6x256) (k0_off3 i) S1x1.size h)).read (Elt F) V
      (Shape.Idx.first (numel1_S1x1.symm ▸ Nat.one_pos)) : BitVec 32) = V (tix (1535 - i.val)) := congrArg V (off3_tix i h _)
  rw [e]
  iapply Hk; iexact H

/-- One more than the largest row of the last `k` tokens. -/
def mx (slot : ℕ → ℕ) : ℕ → ℕ
  | 0 => 0
  | k + 1 => max (mx slot k) (slot (1535 - k) + 1)

theorem mx_le (slot : ℕ → ℕ) (hs : ∀ t, slot t < 1536) (k : ℕ) : mx slot k ≤ 1536 := by
  induction k with
  | zero => exact Nat.zero_le _
  | succ k ih => exact max_le ih (hs _)

theorem lt_mx (slot : ℕ → ℕ) (k t : ℕ) (ht : 1536 ≤ t + k) (ht' : t < 1536) : slot t < mx slot k := by
  induction k with
  | zero => omega
  | succ k ih =>
    show slot t < max (mx slot k) (slot (1535 - k) + 1)
    by_cases e : t = 1535 - k
    · rw [← e]; exact lt_of_lt_of_le (Nat.lt_succ_self _) (le_max_right _ _)
    · exact lt_of_lt_of_le (ih (by omega)) (le_max_left _ _)

theorem maxsi_toNat {x y : BitVec 32} (hx : x.toNat < 2 ^ 31) (hy : y.toNat < 2 ^ 31) : (Scalar.maxsi x y).toNat = max x.toNat y.toNat := by
  show (if y.slt x = true then x else y).toNat = _
  rw [show y.slt x = decide (y.toNat < x.toNat) by
    rw [BitVec.slt_eq_decide, toInt_small hx, toInt_small hy]; simp]
  by_cases h : y.toNat < x.toNat
  · rw [if_pos (by simpa using h)]; omega
  · rw [if_neg (by simpa using h)]; omega

/-- The thread's tables. -/
def thrRes (I V : S6x256.Idx → BitVec 32) (h xh nx : ℕ → BitVec 32) : sProp 𝕄 :=
  iprop(rwPts (F := F) c V ∗ idPts (F := F) c I ∗ hdPts (F := F) c h ∗ xhPts (F := F) c xh ∗ nxPts (F := F) c nx)

/-- The thread's tables after `k` tokens, the running maximum `acc`. -/
def thrInv (I V : S6x256.Idx → BitVec 32) (k : ℕ) (acc : BitVec 32) : sProp 𝕄 :=
  iprop(∃ h xh nx, ⌜Threaded (fun t => I (tix t) ≠ 0#32) (fun t => (V (tix t)).toNat) k h nx xh ∧ acc.toNat = mx (fun t => (V (tix t)).toNat) k⌝
    ∗ thrRes (F := F) c I V h xh nx)

theorem wp_step (I V : S6x256.Idx → BitVec 32) (hV : ∀ t, (V (tix t)).toNat < 1536) (i : Fin k0_t3_loop.trips) (acc : BitVec 32) :
    thrInv (F := F) c I V i.val acc ⊢ W c bd (threadStep (F := F) i acc) (thrInv (F := F) c I V (i.val + 1)) := by
  have hi : i.val < 1536 := lt_of_lt_of_eq i.isLt t3_trips
  unfold thrInv threadStep
  iintro ⟨%h, %xh, %nx, ⟨%T, %hacc⟩, H⟩
  generalize hv : V (tix (1535 - i.val)) = v
  generalize hid : I (tix (1535 - i.val)) = id
  have hv' : v.toNat < 1536 := by rw [← hv]; exact hV _
  have hrow : rowW v id ≤ 1536 := by unfold rowW; split <;> omega
  have h1 : k0_chk1 v id := off1_in (N := 1537) _ (by rw [off4_zero]; omega)
  have hdup : ∀ old, dupW id old → old = h (rowW v id) → old.toNat < 1536 := by
    intro old hd e
    have hne := ((dupW_iff _ _).mp hd).1
    have hm := ((dupW_iff _ _).mp hd).2
    rw [e, show rowW v id = v.toNat from if_neg hne, T.heads _ hv'] at hm ⊢
    have hl : ∀ t ∈ toks (fun t => I (tix t) ≠ 0#32) (fun t => (V (tix t)).toNat) i.val v.toNat, t < 1536 := fun t ht =>
      (mem_toks _ _ (by omega) ht).2.1
    revert hl hm
    generalize toks (fun t => I (tix t) ≠ 0#32) (fun t => (V (tix t)).toNat) i.val v.toNat = l
    intro hm hl
    cases l with
    | nil => exact absurd (by decide) hm
    | cons t l =>
      have := hl t List.mem_cons_self
      show (BitVec.ofNat 32 t).toNat < 1536
      rw [toNat_ofNat (by omega)]; exact this
  have hpush : pushW id (h (rowW v id)) ≤ 1536 := by
    unfold pushW
    split
    · next hd => exact le_of_lt (hdup _ hd rfl)
    · omega
  have hblk : blkW v id (h (rowW v id)) ≤ 192 := by unfold blkW; split <;> omega
  have h2 : k0_chk2 v id (h (rowW v id)) :=
    ⟨off1_in (N := 193) _ (by rw [off5_zero _ _ _ hv']; omega), off1_in (N := 1537) _ (by rw [off6_zero]; omega)⟩
  have T' := threaded_succ _ _ i.val hi h nx xh v id hv' (by show (V _).toNat = _; rw [hv]) (by show I _ ≠ _ ↔ _; rw [hid]) T
  unfold thrRes
  icases H with ⟨HR, HI, HH, HX, HN⟩
  iapply (wp_peekRow c bd V i); isplitl [HR]; · iexact HR
  rw [hv]
  iintro HR
  iapply (wp_peekId c bd I i); isplitl [HI]; · iexact HI
  rw [hid]
  iintro HI
  iapply (wp_assume 𝒱₀ (c : Thread nD τ) bd Set.univ h1)
  iapply (wp_getHead c bd h); isplitl [HH]; · iexact HH
  rw [off4_zero]
  iintro HH
  iapply (wp_assume 𝒱₀ (c : Thread nD τ) bd Set.univ h2)
  iapply (wp_getHead c bd h); isplitl [HH]; · iexact HH
  iintro HH
  iapply (wp_pokeHead c bd h); isplitl [HH]; · iexact HH
  rw [off4_zero]
  iintro HH
  iapply (wp_getChain c bd xh); isplitl [HX]; · iexact HX
  rw [off5_zero _ _ _ hv']
  iintro HX
  iapply (wp_getNext c bd nx); isplitl [HN]; · iexact HN
  iintro HN
  iapply (wp_pokeNext c bd nx); isplitl [HN]; · iexact HN
  rw [off6_zero]
  iintro HN
  iapply (wp_getChain c bd xh); isplitl [HX]; · iexact HX
  iintro HX
  iapply (wp_pokeChain c bd xh); isplitl [HX]; · iexact HX
  rw [off5_zero _ _ _ hv']
  iintro HX
  have ht : tokAt i = BitVec.ofNat 32 (1535 - i.val) := by
    apply BitVec.eq_of_toNat_eq
    unfold tokAt
    rw [iv_eq, subi_toNat (by rw [toNat_ofNat (by omega)]; show i.val ≤ 1535; omega), toNat_ofNat (by omega), toNat_ofNat (by omega), toNat_ofNat (by omega)]
  have hs1 : (Scalar.addi v 1#32).toNat = v.toNat + 1 := addi_toNat (by show v.toNat + 1 < _; omega)
  have hmx := mx_le (fun t => (V (tix t)).toNat) hV i.val
  rw [ht]
  unfold W
  rw [wp_ret]; imodintro
  iexists _, _, _
  isplitr; swap
  · isplitl [HR]; · iexact HR
    isplitl [HI]; · iexact HI
    isplitl [HH]; · iexact HH
    isplitl [HX]; · iexact HX
    iexact HN
  ipureintro
  refine ⟨T', ?_⟩
  rw [maxsi_toNat (by omega) (by omega), hacc, hs1, ← hv]
  rfl

theorem wp_thread (I V : S6x256.Idx → BitVec 32) (hV : ∀ t, (V (tix t)).toNat < 1536) (h xh nx : ℕ → BitVec 32)
    (hh : ∀ s < 1537, h s = none32) (hx : ∀ s < 193, xh s = none32) (k : BitVec 32 → TP F α) (Q : α → sProp 𝕄) :
    iprop(thrRes (F := F) c I V h xh nx
        ∗ (∀ (n : BitVec 32) (h xh nx : ℕ → BitVec 32), ⌜Threaded (fun t => I (tix t) ≠ 0#32) (fun t => (V (tix t)).toNat) 1536 h nx xh
              ∧ n.toNat = mx (fun t => (V (tix t)).toNat) 1536⌝
            -∗ thrRes (F := F) c I V h xh nx -∗ W c bd (k n) Q))
      ⊢ W c bd (Prog.bind (Scf.Loop.for k0_t3_loop k0_t3_ok 0#32 threadStep) k) Q := by
  iintro ⟨H, Hk⟩
  iapply (Scf.wp_for_bind frame (wpE (defs₀ (F := F)) 𝒱₀ (c : Thread nD τ) bd) Set.univ _ _ _ k0_t3_ok 0#32 threadStep
    (thrInv (F := F) c I V) (wp_step c bd I V hV)) $$ [H]
  · unfold thrInv
    iexists h, xh, nx
    isplitr; swap; · iexact H
    ipureintro
    exact ⟨threaded_zero _ _ h nx xh (fun s hs => hh s (by omega)) (fun s hs => hx s (by omega)), rfl⟩
  iintro %n H
  ihave H := (Entails.of_eq (congrArg (fun t => thrInv (F := F) c I V t n) (show Scf.trips k0_t3_loop.lb k0_t3_loop.ub k0_t3_loop.st = 1536 from t3_trips))) $$ H
  unfold thrInv
  icases H with ⟨%h', %xh', %nx', %hp, H⟩
  iapply Hk $$ [] H
  ipureintro
  exact hp

end Cert.Proof.SegK
-- ==== Proof.SegK.Run.lean ====
/-
  The kernel's body, from the buffers at anything to the result (`wp_body`).
-/
module

public import proofs.«01_k».proof.Proof.SegK.Tables
public import proofs.«01_k».proof.Proof.SegK.Thread
public import Idealize.ShloMosaic.Lib.Ring

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-! ## The result -/

/-- The tokens of row `s`, in turn. -/
def toksOf (I V : S6x256.Idx → BitVec 32) (s : ℕ) : List ℕ := toks (fun t => I (tix t) ≠ 0#32) (fun t => (V (tix t)).toNat) 1536 s

/-- The blocks up to the last row any token goes to. -/
def liveB (V : S6x256.Idx → BitVec 32) : ℕ := (mx (fun t => (V (tix t)).toNat) 1536 + 7) / 8

def outF (f : S144x392x128.Idx → BitVec 32) (S : S6x256.Idx → F .f32) (I V : S6x256.Idx → BitVec 32) : S192x144x8x128.Idx → F .f32 := fun i =>
  if (pB i).val < liveB V then outV f S (toksOf I V (8 * (pB i).val + (pR i).val)) (pJ i) (pL i) else zer

/-- What the kernel leaves: a row's tokens scaled and added in turn, and zeros past the last row. -/
def outO (C : S384x18432.Idx → BitVec 32) (S : S6x256.Idx → F .f32) (I V : S6x256.Idx → BitVec 32) : S192x144x8x128.Idx → F .f32 :=
  outF (staged C fun _ => 0#32) S I V

theorem toksOf_lt {I V : S6x256.Idx → BitVec 32} {s t : ℕ} (h : t ∈ toksOf I V s) : t < 1536 := (mem_toks _ _ (Nat.le_refl _) h).2.1

theorem staged_row (C : S384x18432.Idx → BitVec 32) (f f' : S144x392x128.Idx → BitVec 32) (j : Fin 144) (r : Fin 392) (hr : r.val < 384) (l : Fin 128) :
    staged C f (cIdx j r l) = staged C f' (cIdx j r l) := by
  unfold staged
  rw [if_pos (show (sR (cIdx j r l)).val < 384 from hr), if_pos (show (sR (cIdx j r l)).val < 384 from hr)]

theorem tokV_staged (C : S384x18432.Idx → BitVec 32) (f f' : S144x392x128.Idx → BitVec 32) (S : S6x256.Idx → F .f32) {t : ℕ} (ht : t < 1536) :
    tokV (staged C f) S t = tokV (staged C f') S t := by
  funext j l
  unfold tokV
  rw [staged_row C f f' j _ (show t / 4 % 392 < 384 by omega) l]

theorem outV_staged (C : S384x18432.Idx → BitVec 32) (f f' : S144x392x128.Idx → BitVec 32) (S : S6x256.Idx → F .f32) {L : List ℕ}
    (hL : ∀ t ∈ L, t < 1536) (j : Fin 144) (l : Fin 128) : outV (staged C f) S L j l = outV (staged C f') S L j l := by
  have key : ∀ (T : List ℕ) (a : F .f32), (∀ t ∈ T, t < 1536) → T.foldl (fun acc t => FloatOps.addf acc (tokV (staged C f) S t j l)) a
      = T.foldl (fun acc t => FloatOps.addf acc (tokV (staged C f') S t j l)) a := by
    intro T
    induction T with
    | nil => intro a _; rfl
    | cons t T ih =>
      intro a h
      rw [List.foldl_cons, List.foldl_cons, tokV_staged C f f' S (h t List.mem_cons_self)]
      exact ih _ fun t ht => h t (List.mem_cons_of_mem _ ht)
  unfold outV
  rw [key _ _ fun t ht => hL t (List.mem_of_mem_tail ht)]
  cases L with
  | nil => exact congrArg (fun x => FloatOps.mulf (decW x (shN 0)) (Scalar.ofBits .f32 0x00000000#32)) (staged_row C f f' j _ (show 0 < 384 by omega) l)
  | cons t L => rw [show headV (staged C f) S (t :: L) = headV (staged C f') S (t :: L) from tokV_staged C f f' S (hL t List.mem_cons_self)]

theorem outF_staged (C : S384x18432.Idx → BitVec 32) (f f' : S144x392x128.Idx → BitVec 32) (S : S6x256.Idx → F .f32) (I V : S6x256.Idx → BitVec 32) :
    outF (staged C f) S I V = outF (staged C f') S I V := by
  funext i
  unfold outF
  split
  · exact outV_staged C f f' S (fun t ht => toksOf_lt ht) _ _
  · rfl

variable (c : Dev nD) (bd : Option ℕ)

/-! ## The ring, whole -/

def anySlots : sProp 𝕄 := iprop(∃ f : Buf (Elt F) ((c : Thread nD τ).loc cc0_scratch1), ((c : Thread nD τ).loc cc0_scratch1) ↦{fullShare} f)

def ringSems : sProp 𝕄 := bigSep (Finset.univ : Finset (Fin 24)) fun s => semVal ((c : Thread nD τ), .dma (semS s)) 0

omit [FloatOps F] in
theorem slots_disj (t t' : Fin 24) (hne : t ≠ t') : Disjoint (slotSet t) (slotSet t') := by
  rw [Finset.disjoint_left]
  intro i h h'
  rw [mem_slotSet] at h h'
  exact hne (h.symm.trans h')

omit [FloatOps F] in
theorem pieces_disj (t t' : Fin 192) (hne : t ≠ t') : Disjoint (pieceSet t) (pieceSet t') := by
  rw [Finset.disjoint_left]
  intro i h h'
  rw [mem_pieceSet] at h h'
  exact hne (h.symm.trans h')

theorem slot_free (f : S24x144x8x128.Idx → F .f32) (s : Fin 24) :
    (iprop((((c : Thread nD τ).loc cc0_scratch1) ↦[slotSet s]{fullShare} (f : Buf (Elt F) ((c : Thread nD τ).loc cc0_scratch1)))
      ∗ semVal ((c : Thread nD τ), .dma (semS s)) 0) : sProp 𝕄) ⊢ freeAt (F := F) c s := by
  unfold freeAt
  iintro ⟨H, HS⟩
  iexists (fun r j l => f (oIdx s j r l))
  isplitl [H]
  · unfold slotPts
    iapply (Entails.of_eq (pointsTo_congr fun i hi => ?_)) $$ H
    rw [mem_slotSet] at hi
    show f i = f (oIdx s (eJ i) (eR i) (eL i))
    rw [← hi, oIdx_eta]
  · iexact HS

theorem free_slot (s : Fin 24) : freeAt (F := F) c s
    ⊢ (iprop((∃ f : Buf (Elt F) ((c : Thread nD τ).loc cc0_scratch1), ((c : Thread nD τ).loc cc0_scratch1) ↦[slotSet s]{fullShare} f)
        ∗ semVal ((c : Thread nD τ), .dma (semS s)) 0) : sProp 𝕄) := by
  unfold freeAt slotPts
  iintro ⟨%G, H, HS⟩
  isplitl [H]
  · iexists _; iexact H
  · iexact HS

theorem slots_start : iprop(anySlots (F := F) c ∗ ringSems (F := F) c) ⊢ bigSep (Finset.univ : Finset (Fin 24)) (freeAt (F := F) c) := by
  have key : ∀ f : Buf (Elt F) ((c : Thread nD τ).loc cc0_scratch1),
      iprop(bigSep (Finset.univ : Finset (Fin 24)) (fun s => ((c : Thread nD τ).loc cc0_scratch1) ↦[slotSet s]{fullShare} f)
        ∗ bigSep (Finset.univ : Finset (Fin 24)) (fun s => semVal ((c : Thread nD τ), .dma (semS s)) 0))
        ⊢ bigSep (Finset.univ : Finset (Fin 24)) (freeAt (F := F) c) := fun f =>
    (Entails.of_eq (BI.bigSep_sep _ (fun s : Fin 24 => ((c : Thread nD τ).loc cc0_scratch1) ↦[slotSet s]{fullShare} f)
      (fun s => semVal ((c : Thread nD τ), .dma (semS s)) 0)).symm).trans (BI.bigSep_mono fun s _ => slot_free c f s)
  unfold anySlots ringSems
  iintro ⟨⟨%f, H⟩, HS⟩
  ihave H := (Entails.of_eq (pts_pieces (ℓ := (c : Thread nD τ).loc cc0_scratch1) f slotSet slots_disj
    (fun i : S24x144x8x128.Idx => ⟨eS i, mem_slotSet.mpr rfl⟩))) $$ H
  iapply (key f)
  isplitl [H]; · iexact H
  iexact HS

theorem slots_end : bigSep (Finset.univ : Finset (Fin 24)) (freeAt (F := F) c) ⊢ iprop(anySlots (F := F) c ∗ ringSems (F := F) c) := by
  classical
  have st := BI.bigSep_mono (s := (Finset.univ : Finset (Fin 24))) fun s _ => free_slot (F := F) c s
  refine st.trans ((Entails.of_eq (BI.bigSep_sep _ (fun s : Fin 24 => iprop(∃ f : Buf (Elt F) ((c : Thread nD τ).loc cc0_scratch1), ((c : Thread nD τ).loc cc0_scratch1) ↦[slotSet s]{fullShare} f))
      (fun s => semVal ((c : Thread nD τ), .dma (semS s)) 0))).trans (BI.sep_mono ?_ (Entails.refl _)))
  unfold anySlots
  have f₀ : F .f32 := zer
  exact (Ring.pointsTo_sub_blocks_join_exists slotSet slots_disj Finset.univ
    (Finset.eq_univ_iff_forall.mpr fun i : S24x144x8x128.Idx => Finset.mem_biUnion.mpr ⟨eS i, Finset.mem_univ _, mem_slotSet.mpr rfl⟩)
    (ℓ := (c : Thread nD τ).loc cc0_scratch1) (fun _ : S24x144x8x128.Idx => f₀))

/-- Any 24 slots in a row are all of them. -/
theorem slots_turn (v : ℕ) : bigSep (Finset.Ico v (v + 24)) (fun k => freeAt (F := F) c (slotN k)) = bigSep (Finset.univ : Finset (Fin 24)) (freeAt (F := F) c) := by
  classical
  have inj : Set.InjOn slotN (Finset.Ico v (v + 24) : Finset ℕ) := by
    intro a ha b hb h
    have h := congrArg Fin.val h
    rw [Finset.mem_coe, Finset.mem_Ico] at ha hb
    have h : a % 24 = b % 24 := h
    omega
  rw [← BI.bigSep_image_of_injOn inj]
  congr 1
  refine Finset.eq_univ_of_card _ ?_
  rw [Finset.card_image_of_injOn inj, Nat.card_Ico, Fintype.card_fin]
  omega

/-! ## The result, whole -/

def anyOut : sProp 𝕄 := iprop(∃ f : Buf (Elt F) ((c : Thread nD τ).loc main_v3), ((c : Thread nD τ).loc main_v3) ↦{fullShare} f)

def outPts (O : S192x144x8x128.Idx → F .f32) : sProp 𝕄 :=
  ((c : Thread nD τ).loc main_v3) ↦{fullShare} (O : Buf (Elt F) ((c : Thread nD τ).loc main_v3))

omit [FloatOps F] in
theorem out_split (f : S192x144x8x128.Idx → F .f32) : outPts c f = bigSep (Finset.range 192) (fun q => piecePts c (blkN q) f) := by
  rw [← fin_range]
  unfold outPts piecePts
  refine (pts_pieces (ℓ := (c : Thread nD τ).loc main_v3) f pieceSet pieces_disj
    (fun i : S192x144x8x128.Idx => ⟨pB i, mem_pieceSet.mpr rfl⟩)).trans (BI.bigSep_congr fun j _ => ?_)
  rw [show blkN j.val = j from Fin.ext (blkN_val j.isLt)]

omit [FloatOps F] in
theorem piece_any (f : S192x144x8x128.Idx → F .f32) (q : ℕ) : piecePts c (blkN q) f ⊢ anyPiece (F := F) c q := by
  unfold anyPiece; iintro H; iexists _; iexact H

omit [FloatOps F] in
theorem out_any : anyOut (F := F) c ⊢ bigSep (Finset.range 192) (anyPiece (F := F) c) := by
  have key : ∀ f : S192x144x8x128.Idx → F .f32, bigSep (Finset.range 192) (fun q => piecePts c (blkN q) f) ⊢ bigSep (Finset.range 192) (anyPiece (F := F) c) :=
    fun f => BI.bigSep_mono fun q _ => piece_any c f q
  unfold anyOut
  iintro ⟨%f, H⟩
  ihave H := (Entails.of_eq (show (((c : Thread nD τ).loc main_v3) ↦{fullShare} f : sProp 𝕄) = _ from out_split (F := F) c f)) $$ H
  iapply (key f) $$ H

/-- The ring before the first block. -/
theorem ring_start (O : S192x144x8x128.Idx → F .f32) :
    iprop(anySlots (F := F) c ∗ ringSems (F := F) c ∗ anyOut (F := F) c ∗ anyOwes (F := F) c) ⊢ ringRes c O 0 := by
  unfold ringRes
  iintro ⟨HA, HS, HO, HW⟩
  ihave H := (slots_start (F := F) c) $$ [HA HS]
  · isplitl [HA]; · iexact HA
    iexact HS
  ihave H := (Entails.of_eq (show bigSep (Finset.univ : Finset (Fin 24)) (freeAt (F := F) c)
      = iprop(bigSep (Finset.Ico 0 23) (mid c O) ∗ last c O 0) by
    rw [← slots_turn c 0, show 0 + 24 = 23 + 1 from rfl, ico_last (a := 0) (b := 23) (by omega)]
    have e : bigSep (Finset.Ico 0 23) (fun k => freeAt (F := F) c (slotN k)) = bigSep (Finset.Ico 0 23) (mid c O) :=
      BI.bigSep_congr fun k hk => by unfold mid; rw [if_pos (by rw [Finset.mem_Ico] at hk; omega)]
    rw [e]
    unfold last
    rw [if_pos rfl]
    exact BI.Entails.antisymm BI.sep_comm BI.sep_comm)) $$ H
  icases H with ⟨HM, HL⟩
  isplitl [HM]; · iexact HM
  isplitl [HL]; · iexact HL
  isplitl [HO]
  · iapply (out_any (F := F) c) $$ HO
  isplitr
  · rw [show Finset.range (0 - 24) = ∅ from rfl, BI.bigSep_empty]; iempintro
  iexact HW

end Cert.Proof.SegK
-- ==== Proof.SegK.Whole.lean ====
/-
  The kernel's body, from the buffers at anything to the result (`wp_body`).
-/
module

public import proofs.«01_k».proof.Proof.SegK.Run

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {α : Type}

local notation "𝕄" => MT nD τ sig Unit (Elt F) ℕ (Pipeline.UD sig nD τ) ℕ

/-- A table of words, by number. -/
def byNum1537 (f : S1537.Idx → BitVec 32) (n : ℕ) : BitVec 32 :=
  if hn : n < 1537 then f (fun a => match a with | ⟨0, _⟩ => (⟨n, hn⟩ : Fin 1537)) else 0#32

theorem byNum1537_eq (f : S1537.Idx → BitVec 32) (i : S1537.Idx) : byNum1537 f (i 0).val = f i := by
  have h : (i 0).val < 1537 := (i 0).isLt
  unfold byNum1537
  rw [dif_pos h]
  congr 1
  funext a
  rcases a with ⟨_ | n, hn⟩
  · rfl
  · exact absurd hn (show ¬ n + 1 < 1 by omega)

/-- A table of words, by number. -/
def byNum193 (f : S193.Idx → BitVec 32) (n : ℕ) : BitVec 32 :=
  if hn : n < 193 then f (fun a => match a with | ⟨0, _⟩ => (⟨n, hn⟩ : Fin 193)) else 0#32

theorem byNum193_eq (f : S193.Idx → BitVec 32) (i : S193.Idx) : byNum193 f (i 0).val = f i := by
  have h : (i 0).val < 193 := (i 0).isLt
  unfold byNum193
  rw [dif_pos h]
  congr 1
  funext a
  rcases a with ⟨_ | n, hn⟩
  · rfl
  · exact absurd hn (show ¬ n + 1 < 1 by omega)

variable (c : Dev nD) (bd : Option ℕ)

def anyCodes : sProp 𝕄 := iprop(∃ f : Buf (Elt F) ((c : Thread nD τ).loc cc0_scratch0), ((c : Thread nD τ).loc cc0_scratch0) ↦{fullShare} f)

def anyHeads : sProp 𝕄 := iprop(∃ f : Buf (Elt F) ((c : Thread nD τ).loc cc0_scratch6), ((c : Thread nD τ).loc cc0_scratch6) ↦{fullShare} f)

omit [FloatOps F] in
theorem heads_any (h : ℕ → BitVec 32) : hdPts (F := F) c h ⊢ anyHeads (F := F) c := by
  unfold anyHeads hdPts; iintro H; iexists _; iexact H

omit [FloatOps F] in
theorem any_heads : anyHeads (F := F) c ⊢ iprop(∃ h, hdPts (F := F) c h) := by
  unfold anyHeads hdPts
  iintro ⟨%f, H⟩
  iexists byNum1537 f
  iapply (Entails.of_eq (pointsTo_congr fun i _ => (byNum1537_eq f i).symm)) $$ H

def anyChains : sProp 𝕄 := iprop(∃ f : Buf (Elt F) ((c : Thread nD τ).loc cc0_scratch7), ((c : Thread nD τ).loc cc0_scratch7) ↦{fullShare} f)

omit [FloatOps F] in
theorem chains_any (h : ℕ → BitVec 32) : xhPts (F := F) c h ⊢ anyChains (F := F) c := by
  unfold anyChains xhPts; iintro H; iexists _; iexact H

omit [FloatOps F] in
theorem any_chains : anyChains (F := F) c ⊢ iprop(∃ h, xhPts (F := F) c h) := by
  unfold anyChains xhPts
  iintro ⟨%f, H⟩
  iexists byNum193 f
  iapply (Entails.of_eq (pointsTo_congr fun i _ => (byNum193_eq f i).symm)) $$ H

def anyLinks : sProp 𝕄 := iprop(∃ f : Buf (Elt F) ((c : Thread nD τ).loc cc0_scratch8), ((c : Thread nD τ).loc cc0_scratch8) ↦{fullShare} f)

omit [FloatOps F] in
theorem links_any (h : ℕ → BitVec 32) : nxPts (F := F) c h ⊢ anyLinks (F := F) c := by
  unfold anyLinks nxPts; iintro H; iexists _; iexact H

omit [FloatOps F] in
theorem any_links : anyLinks (F := F) c ⊢ iprop(∃ h, nxPts (F := F) c h) := by
  unfold anyLinks nxPts
  iintro ⟨%f, H⟩
  iexists byNum1537 f
  iapply (Entails.of_eq (pointsTo_congr fun i _ => (byNum1537_eq f i).symm)) $$ H

/-- The kernel's own buffers, at anything. -/
def ownBufs : sProp 𝕄 :=
  iprop(anyCodes (F := F) c ∗ anySlots (F := F) c ∗ anyZeros (F := F) c ∗ anyScales (F := F) c ∗ anyIds (F := F) c ∗ anyRows (F := F) c
    ∗ anyHeads (F := F) c ∗ anyChains (F := F) c ∗ anyLinks (F := F) c)

/-- Its semaphores, at zero. -/
def ownSems : sProp 𝕄 :=
  iprop(semVal ((c : Thread nD τ), .dma cc0_scratch9.sem) 0 ∗ semVal ((c : Thread nD τ), .dma cc0_scratch10.sem) 0
    ∗ semVal ((c : Thread nD τ), .dma cc0_scratch11.sem) 0 ∗ semVal ((c : Thread nD τ), .dma cc0_scratch12.sem) 0
    ∗ ringSems (F := F) c ∗ semVal ((c : Thread nD τ), .dma cc0_scratch14.sem) 0)

/-- What it reads. -/
def inBufs (C : S384x18432.Idx → BitVec 32) (S : S6x256.Idx → F .f32) (I V : S6x256.Idx → BitVec 32) : sProp 𝕄 :=
  iprop(wPts (F := F) c C ∗ srcScales (F := F) c S ∗ srcIds (F := F) c I ∗ srcRows (F := F) c V)

theorem batch_start (C : S384x18432.Idx → BitVec 32) (f : S144x392x128.Idx → BitVec 32) :
    (semVal ((c : Thread nD τ), .dma cc0_scratch9.sem) 0 : sProp 𝕄) ⊢ |={Set.univ}=> rBatch (F := F) c C f 0 0 := by
  unfold rBatch
  exact Transfers.batch_alloc' (EC (F := F)) (c : Thread nD τ) () readN (fun j : Fin 144 => rDel c C f j.val)

variable (C : S384x18432.Idx → BitVec 32) (S : S6x256.Idx → F .f32) (I V : S6x256.Idx → BitVec 32)

theorem outF_piece (f : S144x392x128.Idx → BitVec 32) {m : ℕ} (hm : m = liveB V) (hm' : m ≤ 192) :
    ∀ q < m, ∀ r j l, outF f S I V (pIdx (blkN q) j r l)
      = outV f S (toks (fun t => I (tix t) ≠ 0#32) (fun t => (V (tix t)).toNat) 1536 (8 * q + r.val)) j l := by
  intro q hq r j l
  have e : (pB (pIdx (blkN q) j r l)).val = q := blkN_val (by omega)
  unfold outF
  rw [e, if_pos (by omega)]
  rfl

theorem outF_rest (f : S144x392x128.Idx → BitVec 32) {m : ℕ} (hm : m = liveB V) :
    ∀ q, m ≤ q → q < 192 → ∀ i ∈ pieceSet (blkN q), outF f S I V i = zer := by
  intro q hq hq' i hi
  rw [mem_pieceSet] at hi
  unfold outF
  rw [hi, blkN_val hq', if_neg (by omega)]

/-- The blocks and what comes after them. -/
theorem wp_tail (hV : ∀ t, (V (tix t)).toNat < 1536) (hbd : ∀ u ∈ bd, (𝒱₀ : Variants).lt (2000 * 192 : ℕ) u) (f : S144x392x128.Idx → BitVec 32) (h xh nx : ℕ → BitVec 32)
    (n : BitVec 32) (T : Threaded (fun t => I (tix t) ≠ 0#32) (fun t => (V (tix t)).toNat) 1536 h nx xh)
    (en : n.toNat = mx (fun t => (V (tix t)).toNat) 1536) (hc : k0_chk14 n) (Q : PUnit → sProp 𝕄) :
    iprop(tabRes c f S V h xh nx ∗ ringRes c (outF f S I V) 0 ∗ zPts (F := F) c fullShare ∗ semVal ((c : Thread nD τ), .dma cc0_scratch14.sem) 0
        ∗ (tabRes c f S V h xh nx -∗ endRes c (outF f S I V) (liveN n) -∗ Q ⟨⟩))
      ⊢ W c bd (.op (.call (1 : (Λ₀ F).Label) (blockArg (liveOf n) 0#32)) fun (_ : BitVec 32) => finish n hc) Q := by
  have hn : n.toNat ≤ 1536 := by rw [en]; exact mx_le _ hV _
  have h0 : 0 < liveN n := by
    have := lt_mx (fun t => (V (tix t)).toNat) 1536 0 (by omega) (by omega)
    unfold liveN; omega
  have el : liveN n = liveB V := by unfold liveN liveB; rw [en]
  have hl := liveN_le hn
  have eo := liveOf_toNat hn
  unfold W
  iintro ⟨HT, HR, HZ, HS, Hk⟩
  iapply (wp_call 𝒱₀ (c : Thread nD τ) bd Set.univ (ℓ := (1 : (Λ₀ F).Label)) (2000 * 192 : ℕ) hbd)
  iapply (wp_blocks c f S V T (outF f S I V) (liveOf n) (by omega) (by rw [eo]; exact outF_piece S I V f el hl) (liveN n) 0#32 (2000 * 192) _
    (by rw [eo]; show 0 + liveN n = liveN n; omega) (by omega))
  isplitl [HT]; · iexact HT
  isplitl [HR]; · iexact HR
  iintro %r ⟨HT, HR⟩
  ihave HR := (Entails.of_eq (congrArg (ringRes c (outF f S I V)) eo)) $$ HR
  iapply (wp_finish c bd (outF f S I V) n hn hc h0 (outF_rest S I V f el) Q)
  isplitl [HR]; · iexact HR
  isplitl [HZ]; · iexact HZ
  isplitl [HS]; · iexact HS
  iapply Hk; iexact HT

theorem wp_body (hV : ∀ t, (V (tix t)).toNat < 1536) (hbd : ∀ u ∈ bd, (𝒱₀ : Variants).lt (2000 * 192 : ℕ) u) (Q : PUnit → sProp 𝕄) :
    iprop(ownBufs (F := F) c ∗ ownSems (F := F) c ∗ inBufs c C S I V ∗ anyOut (F := F) c ∗ anyOwes (F := F) c
        ∗ ((ownBufs (F := F) c ∗ ownSems (F := F) c ∗ inBufs c C S I V ∗ outPts c (outO C S I V) ∗ anyOwes (F := F) c) -∗ Q ⟨⟩))
      ⊢ W c bd body Q := by
  unfold ownBufs ownSems inBufs body startTables clearAll waitTables
  iintro ⟨⟨HCo, HSl, HZ, HSc, HId, HRw, HHd, HCh, HLk⟩, ⟨S9, S10, S11, S12, SR, S14⟩, ⟨HW, ISc, IId, IRw⟩, HOut, HO, Hk⟩
  -- the tables' copies
  iapply (wp_startRows c bd V _ Q)
  isplitl [IRw]; · iexact IRw
  isplitl [HRw]; · iexact HRw
  isplitl [S10]; · iexact S10
  iintro FRw
  iapply (wp_startIds c bd I _ Q)
  isplitl [IId]; · iexact IId
  isplitl [HId]; · iexact HId
  isplitl [S11]; · iexact S11
  iintro FId
  iapply (wp_startScales c bd S _ Q)
  isplitl [ISc]; · iexact ISc
  isplitl [HSc]; · iexact HSc
  isplitl [S12]; · iexact S12
  iintro FSc
  -- the rows' copies
  unfold anyCodes
  icases HCo with ⟨%f₀, HCo⟩
  ihave HCo := (Entails.of_eq (show (((c : Thread nD τ).loc cc0_scratch0) ↦{fullShare} f₀ : sProp 𝕄)
    = iprop(bigSep (Finset.range 144) (stagePts (F := F) c f₀) ∗ padPts (F := F) c f₀) from cPts_split (F := F) c f₀)) $$ HCo
  icases HCo with ⟨HSt, HPad⟩
  ihave HW := (Entails.of_eq (wPts_split (F := F) c C)) $$ HW
  iapply (fupd_wp frame (wpE (defs₀ (F := F)) 𝒱₀ (c : Thread nD τ) bd) Set.univ _ _)
  imod (batch_start (F := F) c C f₀) $$ S9 with HB
  imodintro
  iapply (wp_startReads c bd C f₀ 144 0 (Nat.le_refl 144) _ Q)
  isplitl [HW]
  · iapply (Entails.of_eq (show bigSep (Finset.range 144) (codePts (F := F) c C) = bigSep (Finset.Ico 0 (0 + 144)) (codePts (F := F) c C) by rw [Finset.range_eq_Ico])) $$ HW
  isplitl [HSt]
  · iapply (Entails.of_eq (show bigSep (Finset.range 144) (stagePts (F := F) c f₀) = bigSep (Finset.Ico 0 (0 + 144)) (stagePts (F := F) c f₀) by rw [Finset.range_eq_Ico])) $$ HSt
  isplitl [HB]; · iexact HB
  iintro HB
  -- zeros and cleared tables
  iapply (wp_zeroBuf c bd _ Q)
  isplitl [HZ]; · iexact HZ
  iintro HZ
  ihave HHd := (any_heads (F := F) c) $$ HHd
  icases HHd with ⟨%h₀, HHd⟩
  iapply (wp_clearHeads c bd h₀ _ Q)
  isplitl [HHd]; · iexact HHd
  iintro %h₁ %hh HHd
  ihave HCh := (any_chains (F := F) c) $$ HCh
  icases HCh with ⟨%x₀, HCh⟩
  iapply (wp_clearChains c bd x₀ _ Q)
  isplitl [HCh]; · iexact HCh
  iintro %x₁ %hx HCh
  -- the tables
  iapply (wp_waitRows c bd V _ Q)
  isplitl [FRw]; · iexact FRw
  isplitl [HO]; · iexact HO
  iintro ⟨HRw, IRw, S10, HO⟩
  iapply (wp_waitIds c bd I _ Q)
  isplitl [FId]; · iexact FId
  isplitl [HO]; · iexact HO
  iintro ⟨HId, IId, S11, HO⟩
  iapply (wp_waitScales c bd S _ Q)
  isplitl [FSc]; · iexact FSc
  isplitl [HO]; · iexact HO
  iintro ⟨HSc, ISc, S12, HO⟩
  -- the threading
  ihave HLk := (any_links (F := F) c) $$ HLk
  icases HLk with ⟨%n₀, HLk⟩
  iapply (wp_thread c bd I V hV h₁ x₁ n₀ hh hx _ Q)
  unfold thrRes
  isplitl [HRw HId HHd HCh HLk]
  · isplitl [HRw]; · iexact HRw
    isplitl [HId]; · iexact HId
    isplitl [HHd]; · iexact HHd
    isplitl [HCh]; · iexact HCh
    iexact HLk
  iintro %n %h %xh %nx %T ⟨HRw, HId, HHd, HCh, HLk⟩
  have hn : n.toNat ≤ 1536 := by rw [T.2]; exact mx_le _ hV _
  have h0 : 0 < liveN n := by
    have := lt_mx (fun t => (V (tix t)).toNat) 1536 0 (by omega) (by omega)
    have := T.2
    unfold liveN; omega
  have hc : k0_chk14 n := chk14_of hn h0
  iapply (show W c bd _ Q ⊢ W c bd (.op (.assume (k0_chk14 n) (k0_chk14.dec n)) _) Q from wp_assume 𝒱₀ (c : Thread nD τ) bd Set.univ hc)
  -- the rows
  iapply (wp_waitReads c bd C f₀ 144 0 (Nat.le_refl 144) _ Q)
  isplitl [HB]
  · iapply (show rBatch (F := F) c C f₀ (0 + 144) 0 ⊢ rWaits (F := F) c C f₀ 0 by
      unfold rWaits; rw [if_pos (by omega), Nat.zero_mul]) $$ HB
  isplitl [HO]; · iexact HO
  iintro ⟨HB, HO⟩
  ihave HB := (rDone (F := F) c C f₀) $$ [HB HPad]
  · isplitl [HB]; · iexact HB
    iexact HPad
  icases HB with ⟨HCo, HW, S9⟩
  ihave HR := (ring_start c (outF (staged C f₀) S I V)) $$ [HSl SR HOut HO]
  · isplitl [HSl]; · iexact HSl
    isplitl [SR]; · iexact SR
    isplitl [HOut]; · iexact HOut
    iexact HO
  -- the blocks
  iapply (wp_tail c bd S I V hV hbd (staged C f₀) h xh nx n T.1 T.2 hc Q)
  unfold tabRes
  isplitl [HCo HSc HRw HHd HCh HLk]
  · isplitl [HCo]; · iexact HCo
    isplitl [HSc]; · iexact HSc
    isplitl [HRw]; · iexact HRw
    isplitl [HHd]; · iexact HHd
    isplitl [HCh]; · iexact HCh
    iexact HLk
  isplitl [HR]; · iexact HR
  isplitl [HZ]; · iexact HZ
  isplitl [S14]; · iexact S14
  unfold endRes
  iintro ⟨HCo, HSc, HRw, HHd, HCh, HLk⟩ ⟨HD, HF, HZ, S14, HO⟩
  ihave HF := (Entails.of_eq (slots_turn (F := F) c (liveN n))) $$ HF
  ihave HF := (slots_end (F := F) c) $$ HF
  icases HF with ⟨HSl, SR⟩
  iapply Hk
  isplitl [HCo HSl HZ HSc HId HRw HHd HCh HLk]
  · isplitl [HCo]
    · unfold cPts; iexists _; iexact HCo
    isplitl [HSl]; · iexact HSl
    isplitl [HZ]
    · unfold anyZeros zPts; iexists _; iexact HZ
    isplitl [HSc]
    · unfold anyScales scPts; iexists _; iexact HSc
    isplitl [HId]
    · unfold anyIds idPts; iexists _; iexact HId
    isplitl [HRw]
    · unfold anyRows rwPts; iexists _; iexact HRw
    isplitl [HHd]
    · iapply (heads_any (F := F) c h) $$ HHd
    isplitl [HCh]
    · iapply (chains_any (F := F) c xh) $$ HCh
    iapply (links_any (F := F) c nx) $$ HLk
  isplitl [S9 S10 S11 S12 SR S14]
  · isplitl [S9]; · iexact S9
    isplitl [S10]; · iexact S10
    isplitl [S11]; · iexact S11
    isplitl [S12]; · iexact S12
    isplitl [SR]; · iexact SR
    iexact S14
  isplitl [HW ISc IId IRw]
  · isplitl [HW]; · iexact HW
    isplitl [ISc]; · iexact ISc
    isplitl [IId]; · iexact IId
    iexact IRw
  isplitl [HD]
  · iapply (Entails.of_eq (show bigSep (Finset.range 192) (donePiece c (outF (staged C f₀) S I V)) = outPts c (outO C S I V) by
      rw [outF_staged C f₀ (fun _ => 0#32) S I V, out_split]; rfl)) $$ HD
  iexact HO

end Cert.Proof.SegK
-- ==== Proof.SegK.Launch.lean ====
/-
  The launch: the whole program runs, its arguments end as they began, its semaphores end at zero, and its result is
  what the body leaves, transposed and reshaped (`run_main`, `frame`, `value`).
-/
module

public import proofs.«01_k».proof.Proof.SegK.Whole
public import proofs.«01_k».proof.Proof.Gen.Kernel.Launch
public import proofs.«01_k».proof.Proof.Gen.Kernel.Points
public import Idealize.ShloMosaic.Lib.Pipeline.FrameSuffixV

@[expose] public section

noncomputable section

namespace Cert.Proof.SegK

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ (Pipeline.UD sig nD τ) ℕ

abbrev spec0 := (cfg0 (F := F)).spec

/-- The kernel's own semaphores, in order. -/
abbrev osem : Fin 29 → SemLoc sig := fun j => SemLoc.dma j

theorem ownSemFacts0 : Pipeline.OwnSemFacts (spec0 (F := F)) osem :=
  ⟨by decide, by decide, fun _ w => w.elim0⟩

variable (c : Dev nD)

omit [FloatOps F] in
theorem ringSems_eq : ringSems (F := F) c = iprop(semVal ((c : Thread nD τ), .dma (semS 0)) 0 ∗ semVal ((c : Thread nD τ), .dma (semS 1)) 0 ∗ semVal ((c : Thread nD τ), .dma (semS 2)) 0 ∗ semVal ((c : Thread nD τ), .dma (semS 3)) 0 ∗ semVal ((c : Thread nD τ), .dma (semS 4)) 0 ∗ semVal ((c : Thread nD τ), .dma (semS 5)) 0 ∗ semVal ((c : Thread nD τ), .dma (semS 6)) 0 ∗ semVal ((c : Thread nD τ), .dma (semS 7)) 0 ∗ semVal ((c : Thread nD τ), .dma (semS 8)) 0 ∗ semVal ((c : Thread nD τ), .dma (semS 9)) 0 ∗ semVal ((c : Thread nD τ), .dma (semS 10)) 0 ∗ semVal ((c : Thread nD τ), .dma (semS 11)) 0 ∗ semVal ((c : Thread nD τ), .dma (semS 12)) 0 ∗ semVal ((c : Thread nD τ), .dma (semS 13)) 0 ∗ semVal ((c : Thread nD τ), .dma (semS 14)) 0 ∗ semVal ((c : Thread nD τ), .dma (semS 15)) 0 ∗ semVal ((c : Thread nD τ), .dma (semS 16)) 0 ∗ semVal ((c : Thread nD τ), .dma (semS 17)) 0 ∗ semVal ((c : Thread nD τ), .dma (semS 18)) 0 ∗ semVal ((c : Thread nD τ), .dma (semS 19)) 0 ∗ semVal ((c : Thread nD τ), .dma (semS 20)) 0 ∗ semVal ((c : Thread nD τ), .dma (semS 21)) 0 ∗ semVal ((c : Thread nD τ), .dma (semS 22)) 0 ∗ semVal ((c : Thread nD τ), .dma (semS 23)) 0) := by
  unfold ringSems
  exact BI.bigSep_univ_eq_bigSepL [0, 1, 2, 3, 4, 5, 6, 7, 8, 9, 10, 11, 12, 13, 14, 15, 16, 17, 18, 19, 20, 21, 22, 23] (by decide) (by decide) _

omit [FloatOps F] in
theorem allSems_eq : (Pipeline.ownSems0 (Ix := Unit) (Name := ℕ) (U := Pipeline.UD sig nD τ) (Lvl := ℕ) (Val := Elt F) (τ := τ) osem c : sProp 𝕄)
    = iprop(semVal ((c : Thread nD τ), .dma cc0_scratch9.sem) 0 ∗ semVal ((c : Thread nD τ), .dma cc0_scratch10.sem) 0 ∗ semVal ((c : Thread nD τ), .dma cc0_scratch11.sem) 0 ∗ semVal ((c : Thread nD τ), .dma cc0_scratch12.sem) 0 ∗ semVal ((c : Thread nD τ), .dma (semS 0)) 0 ∗ semVal ((c : Thread nD τ), .dma (semS 1)) 0 ∗ semVal ((c : Thread nD τ), .dma (semS 2)) 0 ∗ semVal ((c : Thread nD τ), .dma (semS 3)) 0 ∗ semVal ((c : Thread nD τ), .dma (semS 4)) 0 ∗ semVal ((c : Thread nD τ), .dma (semS 5)) 0 ∗ semVal ((c : Thread nD τ), .dma (semS 6)) 0 ∗ semVal ((c : Thread nD τ), .dma (semS 7)) 0 ∗ semVal ((c : Thread nD τ), .dma (semS 8)) 0 ∗ semVal ((c : Thread nD τ), .dma (semS 9)) 0 ∗ semVal ((c : Thread nD τ), .dma (semS 10)) 0 ∗ semVal ((c : Thread nD τ), .dma (semS 11)) 0 ∗ semVal ((c : Thread nD τ), .dma (semS 12)) 0 ∗ semVal ((c : Thread nD τ), .dma (semS 13)) 0 ∗ semVal ((c : Thread nD τ), .dma (semS 14)) 0 ∗ semVal ((c : Thread nD τ), .dma (semS 15)) 0 ∗ semVal ((c : Thread nD τ), .dma (semS 16)) 0 ∗ semVal ((c : Thread nD τ), .dma (semS 17)) 0 ∗ semVal ((c : Thread nD τ), .dma (semS 18)) 0 ∗ semVal ((c : Thread nD τ), .dma (semS 19)) 0 ∗ semVal ((c : Thread nD τ), .dma (semS 20)) 0 ∗ semVal ((c : Thread nD τ), .dma (semS 21)) 0 ∗ semVal ((c : Thread nD τ), .dma (semS 22)) 0 ∗ semVal ((c : Thread nD τ), .dma (semS 23)) 0 ∗ semVal ((c : Thread nD τ), .dma cc0_scratch14.sem) 0) := by
  rw [Pipeline.ownSems0_eq_of_list c osem [0, 1, 2, 3, 4, 5, 6, 7, 8, 9, 10, 11, 12, 13, 14, 15, 16, 17, 18, 19, 20, 21, 22, 23, 24, 25, 26, 27, 28] (by decide) (by decide)]; rfl

omit [FloatOps F] in
theorem sems_split : (Pipeline.ownSems0 (Ix := Unit) (Name := ℕ) (U := Pipeline.UD sig nD τ) (Lvl := ℕ) (Val := Elt F) (τ := τ) osem c : sProp 𝕄)
    ⊢ ownSems (F := F) c := by
  rw [allSems_eq]; unfold ownSems; rw [ringSems_eq]
  iintro ⟨H0, H1, H2, H3, H4, H5, H6, H7, H8, H9, H10, H11, H12, H13, H14, H15, H16, H17, H18, H19, H20, H21, H22, H23, H24, H25, H26, H27, H28⟩
  isplitl [H0]; · iexact H0
  isplitl [H1]; · iexact H1
  isplitl [H2]; · iexact H2
  isplitl [H3]; · iexact H3
  isplitl [H4 H5 H6 H7 H8 H9 H10 H11 H12 H13 H14 H15 H16 H17 H18 H19 H20 H21 H22 H23 H24 H25 H26 H27]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact H28

omit [FloatOps F] in
theorem sems_join : ownSems (F := F) c
    ⊢ (Pipeline.ownSems0 (Ix := Unit) (Name := ℕ) (U := Pipeline.UD sig nD τ) (Lvl := ℕ) (Val := Elt F) (τ := τ) osem c : sProp 𝕄) := by
  rw [allSems_eq]; unfold ownSems; rw [ringSems_eq]
  iintro ⟨H0, H1, H2, H3, ⟨H4, H5, H6, H7, H8, H9, H10, H11, H12, H13, H14, H15, H16, H17, H18, H19, H20, H21, H22, H23, H24, H25, H26, H27⟩, H28⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The buffers the kernel reads, and the one it writes. -/
abbrev H0 : Finset (Ref sig .tc) := {main_v2, main_arg1, main_arg2, main_arg3}
abbrev R0 : Finset (Ref sig .tc) := {main_v3}

theorem H0_sub : H0 ⊆ Pipeline.restRefs sig (spec0 (F := F)) := by
  intro b hb
  simp only [H0, Finset.mem_insert, Finset.mem_singleton] at hb
  rcases hb with rfl | rfl | rfl | rfl <;> exact Pipeline.mem_restRefs_of _ (by decide) (fun w => w.elim0)

theorem R0_sub : R0 ⊆ Pipeline.restRefs sig (spec0 (F := F)) \ H0 := by
  intro b hb
  simp only [R0, Finset.mem_singleton] at hb
  subst hb
  exact Finset.mem_sdiff.mpr ⟨Pipeline.mem_restRefs_of _ (by decide) (fun w => w.elim0), by decide⟩

theorem pts_H0 (V : (b : Ref sig .tc) → Buf (Elt F) ((c : Thread nD τ).loc b)) :
    (bigSep H0 (fun b => ((c.tc : Thread nD τ).loc b) ↦{fullShare} V b) : sProp 𝕄)
      = inBufs c (V main_v2) (V main_arg1) (V main_arg2) (V main_arg3) :=
  BI.bigSep_eq_bigSepL_of_eq [main_v2, main_arg1, main_arg2, main_arg3] (by decide) (by decide) _

theorem pts_R0 (V : (b : Ref sig .tc) → Buf (Elt F) ((c : Thread nD τ).loc b)) :
    (bigSep R0 (fun b => ((c.tc : Thread nD τ).loc b) ↦{fullShare} V b) : sProp 𝕄) = outPts c (V main_v3) :=
  BI.bigSep_eq_bigSepL_of_eq [main_v3] (by decide) (by decide) _

theorem rest_eq : (Pipeline.scopedRest (Ix := Unit) (Name := ℕ) (U := Pipeline.UD sig nD τ) (Lvl := ℕ) (Val := Elt F) (spec0 (F := F)) c : sProp 𝕄)
    = ownBufs (F := F) c := by
  rw [Gen.scopedRest0_eq]; rfl

/-- What the kernel holds at its start and at its end, the result at what `V` or `G` says. -/
theorem region_eq (V G : (c : Dev nD) → (b : Ref sig .tc) → Buf (Elt F) ((c : Thread nD τ).loc b)) :
    (Pipeline.ΦDRV osem (spec0 (F := F)) H0 R0 V G c : sProp 𝕄)
      = iprop(ownBufs (F := F) c ∗ Pipeline.ownSems0 (Ix := Unit) (Name := ℕ) (U := Pipeline.UD sig nD τ) (Lvl := ℕ) (Val := Elt F) (τ := τ) osem c
          ∗ inBufs c (V c main_v2) (V c main_arg1) (V c main_arg2) (V c main_arg3) ∗ outPts c (G c main_v3)) := by
  unfold Pipeline.ΦDRV
  rw [rest_eq, pts_H0, pts_R0]

variable (m : (ℓ : Loc nD τ sig) → Buf (Elt F) ℓ) (ρ : Dev nD → PrngReg)

/-- The buffers as the kernel finds them. -/
abbrev V0 (c : Dev nD) : Valuation τ sig (Elt F) := StableHlo.after (List.flatten [Gen.hostOps0]) (fun b => m (c, b))
abbrev VR (c : Dev nD) (b : Ref sig .tc) : Buf (Elt F) ((c : Thread nD τ).loc b) := V0 m c (Proc.devRef .tc b)

/-- The buffers as the kernel leaves them: the result at the blocks, the rest as found. -/
def GR (c : Dev nD) (b : Ref sig .tc) : Buf (Elt F) ((c : Thread nD τ).loc b) :=
  Function.update (VR m c) main_v3
    (show Buf (Elt F) ((c : Thread nD τ).loc main_v3) from outO (VR m c main_v2) (VR m c main_arg1) (VR m c main_arg2) (VR m c main_arg3)) b

theorem GR_v3 : GR m c main_v3 = outO (VR m c main_v2) (VR m c main_arg1) (VR m c main_arg2) (VR m c main_arg3) := by
  unfold GR; exact Function.update_self ..

/-- The kernel's state before and after its one step. -/
def dats (_ : Fin 1) (c : Dev nD) : Pipeline.Dat τ (Elt F) Unit ℕ (Pipeline.UD sig nD τ) ℕ (cfg0 (F := F)) c where
  A w := w.elim0
  after w _ := w.elim0
  Φ t := if t = 0 then Pipeline.ΦDRV osem (spec0 (F := F)) H0 R0 (VR m) (VR m) c else Pipeline.ΦDRV osem (spec0 (F := F)) H0 R0 (VR m) (GR m) c
  q _ := fullShare
  owed _ := 0

theorem Φ_first (t : Fin (cfg0 (F := F)).N) : (dats m 0 c).Φ t.castSucc = Pipeline.ΦDRV osem (spec0 (F := F)) H0 R0 (VR m) (VR m) c := by
  dsimp only [dats]
  exact if_pos (by rw [Gen.fin_N0 t]; rfl)
theorem Φ_next (t : Fin (cfg0 (F := F)).N) : (dats m 0 c).Φ t.succ = Pipeline.ΦDRV osem (spec0 (F := F)) H0 R0 (VR m) (GR m) c := by
  dsimp only [dats]
  exact if_neg (Fin.succ_ne_zero t)

def bodyPre (c : Dev nD) (t : Fin (cfg0 (F := F)).N) : sProp 𝕄 :=
  iprop((dats m 0 c).Φ t.castSucc ∗ (dats m 0 c).owesAt () t.castSucc)
def bodyPost (c : Dev nD) (t : Fin (cfg0 (F := F)).N) : sProp 𝕄 :=
  iprop((dats m 0 c).Φ t.succ ∗ (dats m 0 c).owesAt () t.succ)

/-- Every row number names a row of the result. -/
def RowsOk (m : (ℓ : Loc nD τ sig) → Buf (Elt F) ℓ) : Prop :=
  ∀ (c : Dev nD) (t : ℕ), (show BitVec 32 from m ((c : Thread nD τ).loc main_arg3) (tix t)).toNat < 1536

theorem V_arg (b : Ref sig .tc) (hb : b ≠ main_v0 ∧ b ≠ main_v1 ∧ b ≠ main_v2) : VR m c b = m ((c : Thread nD τ).loc b) :=
  StableHlo.after_of_forall_not_mem (b := Proc.devRef .tc b) _ _ (List.forall_iff_forall_mem.mp (by
    simp only [Gen.hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

theorem any_of_out (O : Buf (Elt F) ((c : Thread nD τ).loc main_v3)) : outPts c O ⊢ anyOut (F := F) c := by
  unfold outPts anyOut
  iintro H; iexists O; iexact H

theorem sound_body (hm : RowsOk m) (t : Fin (cfg0 (F := F)).N) :
    bodyPre m c t ⊢ wp frame (wpE (defs₀ (F := F)) 𝒱₀ c none) Set.univ (Gen.bodyAt0 t) (fun _ => bodyPost m c t) := by
  have hV : ∀ t, ((VR m c main_arg3 : S6x256.Idx → BitVec 32) (tix t)).toNat < 1536 := by
    intro t
    rw [V_arg c m main_arg3 (by decide)]
    exact hm c t
  rw [show Gen.bodyAt0 (F := F) t = body from printed_eq]
  unfold bodyPre bodyPost
  rw [Φ_first, Φ_next, region_eq, region_eq, GR_v3]
  unfold Pipeline.Dat.owesAt Pipeline.owesWithin
  rw [show (dats m 0 c).owed t.castSucc = 0 from rfl, show (dats m 0 c).owed t.succ = 0 from rfl]
  iintro ⟨⟨HB, HS, HI, HO⟩, ⟨%w, -, HW⟩⟩
  ihave HS := (sems_split (F := F) c) $$ HS
  iapply (wp_body c none (VR m c main_v2) (VR m c main_arg1) (VR m c main_arg2) (VR m c main_arg3) hV (fun u hu => by cases hu) (fun _ => _))
  isplitl [HB]; · iexact HB
  isplitl [HS]; · iexact HS
  isplitl [HI]; · iexact HI
  isplitl [HO]
  · iapply (any_of_out c (VR m c main_v3)) $$ HO
  isplitl [HW]
  · unfold anyOwes; iexists _; iexact HW
  iintro ⟨HB, HS, HI, HO, HW⟩
  ihave HS := (sems_join (F := F) c) $$ HS
  isplitl [HB HS HI HO]
  · isplitl [HB]; · iexact HB
    isplitl [HS]; · iexact HS
    isplitl [HI]; · iexact HI
    iexact HO
  ihave HW := (Entails.of_eq (show anyOwes (F := F) c = iprop(∃ V, owes (c : Thread nD τ) 0 V) from rfl)) $$ HW
  icases HW with ⟨%w', HW⟩
  iexists w'; isplitr
  · ipureintro; exact fun _ _ => Or.inl trivial
  iexact HW

theorem defs₀_row (t : Fin (cfg0 (F := F)).N) :
    defs₀ (F := F) .tc (cfg0 (F := F)).body ((cfg0 (F := F)).bodyArgs t ((cfg0 (F := F)).slots t)) = Gen.bodyAt0 t := by
  unfold defs₀; rw [Defs.onTc_tc]

theorem pre_emp (t : Fin (cfg0 (F := F)).N) : iprop((dats m 0 c).Φ t.castSucc ∗ (dats m 0 c).owesAt () t.castSucc ∗ emp) ⊢ bodyPre m c t := by
  unfold bodyPre
  iintro ⟨H1, H2, -⟩
  isplitl [H1]; · iexact H1
  iexact H2

theorem post_emp (t : Fin (cfg0 (F := F)).N) : bodyPost m c t ⊢ iprop((dats m 0 c).Φ t.succ ∗ (dats m 0 c).owesAt () t.succ ∗ emp) := by
  unfold bodyPost
  iintro ⟨H1, H2⟩
  isplitl [H1]; · iexact H1
  isplitl [H2]; · iexact H2
  iempintro

theorem body_obligation (hm : RowsOk m) : Pipeline.BodyObligation (dats m 0 c) (defs₀ (F := F)) 𝒱₀ () Set.univ := fun t => by
  rw [Finset.univ_eq_empty, bigSep_empty, bigSep_empty, defs₀_row]
  exact triple_restated (sound_body c m hm t) rfl (pre_emp c m t) fun _ => post_emp c m t

theorem hostOps0_fresh : (Gen.hostOps0 : List (HloOp τ sig (Elt F))).Forall fun op => op.fresh = ∅ := by
  simp only [List.Forall]; repeat' constructor

theorem hostOps1_fresh : (Gen.hostOps1 : List (HloOp τ sig (Elt F))).Forall fun op => op.fresh = ∅ := by
  simp only [List.Forall]; repeat' constructor

theorem hmain : Pipeline.HMainK (Ix := Unit) (Name := ℕ) (U := Pipeline.UD sig nD τ) (Lvl := ℕ) cfgs 0 defs₀ 𝒱₀ m (main (F := F)) (VR m)
      (fun _ => Pipeline.chain ([Gen.hostOps1].map StableHlo.seq)) :=
  Pipeline.hmain_around cfgs 0 defs₀ 𝒱₀ m main [Gen.hostOps0] [Gen.hostOps1] (by simp only [List.Forall]; exact Gen.hostOps0_sub)
    (by simp only [List.Forall]; exact hostOps0_fresh) Gen.main_chain

theorem sfx_sub : ∀ ops ∈ ([Gen.hostOps1] : List (List (HloOp τ sig (Elt F)))), ∀ op ∈ ops,
    op.bufs ⊆ Pipeline.tailRefs sig Pipeline.Prefetch.none (spec0 (F := F)) := by
  rw [Pipeline.tailRefs_none (spec0 (F := F)) Gen.launch0.win.arr_unscoped]
  intro ops hops op hop
  simp only [List.mem_cons, List.mem_nil_iff, or_false] at hops
  subst hops
  exact Pipeline.sub_ucRefs op ((List.forall_iff_forall_mem.mp Gen.hostOps1_sub) op hop)

theorem sfx_fresh : ∀ ops ∈ ([Gen.hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffers after the lines behind the kernel. -/
abbrev VE (c : Dev nD) : Valuation τ sig (Elt F) :=
  StableHlo.after (List.flatten [Gen.hostOps1])
    (Pipeline.withArrays (spec0 (F := F)) c (Pipeline.withR (V0 m c) R0 c (GR m c)) fun w => (dats m 0 c).arrAt w (cfg0 (F := F)).N)

set_option backward.isDefEq.respectTransparency.types false in
set_option maxHeartbeats 800000 in
/-- The run: every buffer of the program ends at what `VE` says, every semaphore at zero. -/
theorem run_main (hm : RowsOk m) : θ_run defs (onTc (τ := τ) (main (F := F))) ⟨m, fun _ => 0, ρ⟩
    (fun r => (∀ c : Dev nD, ∀ b ∈ Pipeline.restRefs sig (spec0 (F := F)), r.2.mem ((c : Thread nD τ).loc b) = VE m c (Proc.devRef .tc b))
      ∧ r.2.sem = fun _ => 0) :=
  Pipeline.θ_run_frame_dmaR_aroundV (Q' := _) cfgs (dats m) (0 : Fin 1) Gen.launch0 osem defs₀ 𝒱₀ ownSemFacts0 H0 R0 H0_sub R0_sub m ρ main
    (hbody := fun c => (body_obligation c m hm).loose) (hshare := fun c => (dats m 0 c).share_full fun _ => rfl)
    (howed := fun _ _ => rfl) (V₀ := V0 m) (opss := [Gen.hostOps1]) (hsub := sfx_sub) (hfresh := sfx_fresh) (hkeep := fun _ _ _ _ w => w.elim0)
    (G := GR m) (hmain := hmain m) (hA := fun _ w => w.elim0)
    (hin := fun c => by dsimp only [dats]; rw [if_pos rfl])
    (hout := fun c => Entails.of_eq (Φ_next c m Gen.t0_0))
    (hQ' := fun r h => ⟨fun c => (h.1 c).2, h.2⟩)

theorem VE_arg (b : Ref sig .tc) (hb : (b ≠ main_v0 ∧ b ≠ main_v1 ∧ b ≠ main_v2) ∧ b ∉ R0 ∧ b ≠ main_v4 ∧ b ≠ main_v5) :
    VE m c (Proc.devRef .tc b) = m ((c : Thread nD τ).loc b) := by
  unfold VE
  rw [StableHlo.after_of_forall_not_mem (b := Proc.devRef .tc b) _ _ (List.forall_iff_forall_mem.mp (by
    simp only [Gen.hostOps1, List.flatten_cons, List.flatten_nil, List.append_nil, List.cons_append,
      List.nil_append, List.Forall, StableHlo.unary_writes, StableHlo.reshape_writes, Finset.mem_singleton]
    exact ⟨StableHlo.devRef_ne_of_ne hb.2.2.1, StableHlo.devRef_ne_of_ne hb.2.2.2⟩)),
    Pipeline.withArrays_of_ne _ _ _ _ _ (fun w => w.elim0), Pipeline.withR_of_not_mem _ _ _ _ _ hb.2.1]
  exact V_arg c m b hb.1

/-- The run: the argument arrays end as they began, every semaphore at zero, the result at what `VE` says. -/
theorem run (hm : RowsOk m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = VE m c (Proc.devRef .tc main_v5))
      ∧ r.2.sem = fun _ => 0) :=
  (θ_run defs _ _).mono (fun r h => ⟨fun c => ⟨⟨
    (h.1 c main_arg0 (Pipeline.mem_restRefs_of _ (by decide) (fun w => w.elim0))).trans (VE_arg c m main_arg0 (by decide)),
    (h.1 c main_arg1 (Pipeline.mem_restRefs_of _ (by decide) (fun w => w.elim0))).trans (VE_arg c m main_arg1 (by decide)),
    (h.1 c main_arg2 (Pipeline.mem_restRefs_of _ (by decide) (fun w => w.elim0))).trans (VE_arg c m main_arg2 (by decide)),
    (h.1 c main_arg3 (Pipeline.mem_restRefs_of _ (by decide) (fun w => w.elim0))).trans (VE_arg c m main_arg3 (by decide))⟩,
    h.1 c main_v5 (Pipeline.mem_restRefs_of _ (by decide) (fun w => w.elim0))⟩, h.2⟩) (run_main m ρ hm)

end Cert.Proof.SegK

end
-- ==== Proof.lean ====
/-
  The proof of this certificate's claims. The kernel's run is proved in Proof/Seg (for the program read at any floats,
  used at the ideal ones) and, for the program as printed, in Proof/SegK.
-/
module

public import proofs.«01_k».proof.Defs
public import proofs.«01_k».proof.Proof.Gen.ReferenceIdeal.Frame
public import proofs.«01_k».proof.Proof.RowsInRange
public import proofs.«01_k».proof.Proof.Seg.Launch
public import proofs.«01_k».proof.Proof.Seg.Sums
public import proofs.«01_k».proof.Proof.Ref
public import proofs.«01_k».proof.Proof.SegK.Launch

@[expose] public section

noncomputable section

namespace Cert.Proof

open Idealize.ShloMosaic Idealize.SL.Sem

theorem kernel_rows (m : (ℓ : Loc Cert.Kernel.nD Cert.Kernel.τ Cert.Kernel.sig) → Buf (Elt Bits) ℓ) (h : Cert.Pre_Kernel m) : SegK.RowsOk m :=
  fun c t => rows_lt _ _ _ _ (h c) (SegK.tix t)

theorem ideal_rows (m : (ℓ : Loc Cert.KernelIdeal.nD Cert.KernelIdeal.τ Cert.KernelIdeal.sig) → Buf (Elt Ideal) ℓ) (h : Cert.Pre_KernelIdeal m) : Seg.RowsOk m :=
  fun c t => rows_lt _ _ _ _ (h c) (Seg.tix t)

theorem frame_kernel : Cert.quiescent_Kernel := fun m g h =>
  (θ_run Cert.Kernel.defs _ _).mono (fun _ r => ⟨fun c => (r.1 c).1, r.2⟩) (SegK.run m g (kernel_rows m h))

theorem frame_ideal : Cert.quiescent_KernelIdeal := fun m g h =>
  (θ_run Cert.KernelIdeal.defs _ _).mono (fun _ r => ⟨fun c => (r.1 c).1, r.2⟩) (Seg.run m g (ideal_rows m h))

theorem want_congr {A A' : Fin 1536 → Fin 18432 → BitVec 8} {S S' : Fin 1536 → EReal} {I I' V V' : Fin 1536 → BitVec 32} (hA : ∀ t x, A t x = A' t x)
    (hS : ∀ t, S t = S' t) (hI : ∀ t, I t = I' t) (hV : ∀ t, V t = V' t) (r : Fin 1536) (x : Fin 18432) : want A S I V r x = want A' S' I' V' r x := by
  rw [show A = A' from funext fun t => funext (hA t), funext hS, funext hI, funext hV]

/-- Both programs leave the same scattered sums: the kernel by `Seg.VE_want`, the reference by `Ref.VT_want`. -/
theorem values : Cert.algebraic_KernelIdeal_ReferenceIdeal := by
  intro m g m' g' hpre hargs
  have hm : Seg.RowsOk m := ideal_rows m hpre
  have hv : ∀ c : Dev Cert.KernelIdeal.nD, Ref.VT m' c = Seg.VE m c (Proc.devRef .tc Cert.KernelIdeal.main_v5) := by
    intro c
    obtain ⟨h0, h1, h2, h3⟩ := hargs c
    funext i
    have hr : ∀ t, (m' ((c.tc : Thread Cert.ReferenceIdeal.nD Cert.ReferenceIdeal.τ).loc Cert.ReferenceIdeal.main_arg3) (tokIdx t)).toNat < 1536 := by
      intro t
      exact (congrArg BitVec.toNat (congrFun h3 (tokIdx t))).trans_lt (hm c t.val)
    refine (Ref.VT_want c m' hr i).trans (Eq.trans ?_ (Seg.VE_want c m i).symm)
    exact want_congr (fun t x => congrFun h0 (codeIdx t x)) (fun t => congrFun h1 (tokIdx t)) (fun t => congrFun h2 (tokIdx t))
      (fun t => congrFun h3 (tokIdx t)) (i 0) (i 1)
  refine ⟨fun c => Seg.VE m c (Proc.devRef .tc Cert.KernelIdeal.main_v5), ?_, ?_⟩
  · exact (θ_run Cert.KernelIdeal.defs _ _).mono (fun _ r c => ⟨(r.1 c).2, (r.1 c).1⟩) (Seg.run m g hm)
  · exact (θ_run Cert.ReferenceIdeal.defs _ _).mono
      (fun _ r c => ⟨((r.2 c).2 Cert.ReferenceIdeal.main_v17 (Pipeline.mem_restRefs_of Cert.ReferenceIdeal.main_v17 (by decide) (by decide))).trans (hv c), r.1 c⟩)
      (θ_run_and (Cert.ReferenceIdeal.Gen.unchanged m' g') (Cert.ReferenceIdeal.Gen.run_main m' g'))

theorem claim : Cert.Claim := ⟨Cert.Kernel.Gen.facts, Cert.KernelIdeal.Gen.facts, Cert.ReferenceIdeal.Gen.facts, rowsInRangeFacts,
  frame_kernel, frame_ideal, fun m g _ => Cert.ReferenceIdeal.Gen.frame m g, fun m g _ => Cert.ReferenceIdeal.Gen.frame m g, trivial, values⟩

end Cert.Proof

end
